-- ==== Defs.lean ====
def Pre_Kernel (m : (ℓ : Loc Cert.Kernel.nD Cert.Kernel.τ Cert.Kernel.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaIdeal_finite [hPre_finite : Cert.Pre_finite.Facts] (m : (ℓ : Loc Cert.GlaIdeal.nD Cert.GlaIdeal.τ Cert.GlaIdeal.sig) → Buf (Elt Ideal) ℓ) : Prop :=
  ∀ c : Dev Cert.GlaIdeal.nD,
    (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2.2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2.2.2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2.2.2.2.1 = (fun _ => 1#1)
    ∧ (Cert.Pre_finite.fn (F := Ideal) (m ((c.tc : Thread Cert.GlaIdeal.nD Cert.GlaIdeal.τ).loc Cert.GlaIdeal.main_arg0)) (m ((c.tc : Thread Cert.GlaIdeal.nD Cert.GlaIdeal.τ).loc Cert.GlaIdeal.main_arg1)) (m ((c.tc : Thread Cert.GlaIdeal.nD Cert.GlaIdeal.τ).loc Cert.GlaIdeal.main_arg2)) (m ((c.tc : Thread Cert.GlaIdeal.nD Cert.GlaIdeal.τ).loc Cert.GlaIdeal.main_arg3)) (m ((c.tc : Thread Cert.GlaIdeal.nD Cert.GlaIdeal.τ).loc Cert.GlaIdeal.main_arg4)) (m ((c.tc : Thread Cert.GlaIdeal.nD Cert.GlaIdeal.τ).loc Cert.GlaIdeal.main_arg5)) (m ((c.tc : Thread Cert.GlaIdeal.nD Cert.GlaIdeal.τ).loc Cert.GlaIdeal.main_arg6)) (m ((c.tc : Thread Cert.GlaIdeal.nD Cert.GlaIdeal.τ).loc Cert.GlaIdeal.main_arg7))).2.2.2.2.2 = (fun _ => 1#1)

def Pre_GlaReferenceIdeal (m : (ℓ : Loc Cert.GlaReferenceIdeal.nD Cert.GlaReferenceIdeal.τ Cert.GlaReferenceIdeal.sig) → Buf (Elt Ideal) ℓ) : Prop :=
  True

def Pre_GlaReferenceIdeal_finite [hPre_finite : Cert.Pre_finite.Facts] (m : (ℓ : Loc Cert.GlaReferenceIdeal.nD Cert.GlaReferenceIdeal.τ Cert.GlaReferenceIdeal.sig) → Buf (Elt Ideal) ℓ) : Prop :=
  ∀ c : Dev Cert.GlaReferenceIdeal.nD,
    (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).1 = (fun _ => 1#1)
    ∧ (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).2.1 = (fun _ => 1#1)
    ∧ (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).2.2.1 = (fun _ => 1#1)
    ∧ (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).2.2.2.1 = (fun _ => 1#1)
    ∧ (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).2.2.2.2.1 = (fun _ => 1#1)
    ∧ (Cert.Pre_finite.fn (F := Ideal) (m ((c.tc : Thread Cert.GlaReferenceIdeal.nD Cert.GlaReferenceIdeal.τ).loc Cert.GlaReferenceIdeal.main_arg0)) (m ((c.tc : Thread Cert.GlaReferenceIdeal.nD Cert.GlaReferenceIdeal.τ).loc Cert.GlaReferenceIdeal.main_arg1)) (m ((c.tc : Thread Cert.GlaReferenceIdeal.nD Cert.GlaReferenceIdeal.τ).loc Cert.GlaReferenceIdeal.main_arg2)) (m ((c.tc : Thread Cert.GlaReferenceIdeal.nD Cert.GlaReferenceIdeal.τ).loc Cert.GlaReferenceIdeal.main_arg3)) (m ((c.tc : Thread Cert.GlaReferenceIdeal.nD Cert.GlaReferenceIdeal.τ).loc Cert.GlaReferenceIdeal.main_arg4)) (m ((c.tc : Thread Cert.GlaReferenceIdeal.nD Cert.GlaReferenceIdeal.τ).loc Cert.GlaReferenceIdeal.main_arg5)) (m ((c.tc : Thread Cert.GlaReferenceIdeal.nD Cert.GlaReferenceIdeal.τ).loc Cert.GlaReferenceIdeal.main_arg6)) (m ((c.tc : Thread Cert.GlaReferenceIdeal.nD Cert.GlaReferenceIdeal.τ).loc Cert.GlaReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaIdeal_pre_finite [hGlaIdeal : Cert.GlaIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal_finite m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaReferenceIdeal [hGlaReferenceIdeal : Cert.GlaReferenceIdeal.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7))
      ∧ r.2.sem = fun _ => 0)

def quiescent_GlaReferenceIdeal_pre_finite [hGlaReferenceIdeal : Cert.GlaReferenceIdeal.Facts] [hPre_finite : Cert.Pre_finite.Facts] : Prop :=
  ∀ (m : (ℓ : Loc Cert.GlaReferenceIdeal.nD Cert.GlaReferenceIdeal.τ Cert.GlaReferenceIdeal.sig) → Buf (Elt Ideal) ℓ) (g : Dev Cert.GlaReferenceIdeal.nD → PrngReg), Pre_GlaReferenceIdeal_finite m →
    θ_run (Cert.GlaReferenceIdeal.defs (F := Ideal)) (onTc (τ := Cert.GlaReferenceIdeal.τ) (Cert.GlaReferenceIdeal.main (F := Ideal))) ⟨m, fun _ => 0, g⟩ (fun r => (∀ c : Dev Cert.GlaReferenceIdeal.nD,
      r.2.mem ((c.tc : Thread Cert.GlaReferenceIdeal.nD Cert.GlaReferenceIdeal.τ).loc Cert.GlaReferenceIdeal.main_arg0) = m ((c.tc : Thread Cert.GlaReferenceIdeal.nD Cert.GlaReferenceIdeal.τ).loc Cert.GlaReferenceIdeal.main_arg0)
      ∧ r.2.mem ((c.tc : Thread Cert.GlaReferenceIdeal.nD Cert.GlaReferenceIdeal.τ).loc Cert.GlaReferenceIdeal.main_arg1) = m ((c.tc : Thread Cert.GlaReferenceIdeal.nD Cert.GlaReferenceIdeal.τ).loc Cert.GlaReferenceIdeal.main_arg1)
      ∧ r.2.mem ((c.tc : Thread Cert.GlaReferenceIdeal.nD Cert.GlaReferenceIdeal.τ).loc Cert.GlaReferenceIdeal.main_arg2) = m ((c.tc : Thread Cert.GlaReferenceIdeal.nD Cert.GlaReferenceIdeal.τ).loc Cert.GlaReferenceIdeal.main_arg2)
      ∧ r.2.mem ((c.tc : Thread Cert.GlaReferenceIdeal.nD Cert.GlaReferenceIdeal.τ).loc Cert.GlaReferenceIdeal.main_arg3) = m ((c.tc : Thread Cert.GlaReferenceIdeal.nD Cert.GlaReferenceIdeal.τ).loc Cert.GlaReferenceIdeal.main_arg3)
      ∧ r.2.mem ((c.tc : Thread Cert.GlaReferenceIdeal.nD Cert.GlaReferenceIdeal.τ).loc Cert.GlaReferenceIdeal.main_arg4) = m ((c.tc : Thread Cert.GlaReferenceIdeal.nD Cert.GlaReferenceIdeal.τ).loc Cert.GlaReferenceIdeal.main_arg4)
      ∧ r.2.mem ((c.tc : Thread Cert.GlaReferenceIdeal.nD Cert.GlaReferenceIdeal.τ).loc Cert.GlaReferenceIdeal.main_arg5) = m ((c.tc : Thread Cert.GlaReferenceIdeal.nD Cert.GlaReferenceIdeal.τ).loc Cert.GlaReferenceIdeal.main_arg5)
      ∧ r.2.mem ((c.tc : Thread Cert.GlaReferenceIdeal.nD Cert.GlaReferenceIdeal.τ).loc Cert.GlaReferenceIdeal.main_arg6) = m ((c.tc : Thread Cert.GlaReferenceIdeal.nD Cert.GlaReferenceIdeal.τ).loc Cert.GlaReferenceIdeal.main_arg6)
      ∧ r.2.mem ((c.tc : Thread Cert.GlaReferenceIdeal.nD Cert.GlaReferenceIdeal.τ).loc Cert.GlaReferenceIdeal.main_arg7) = m ((c.tc : Thread Cert.GlaReferenceIdeal.nD Cert.GlaReferenceIdeal.τ).loc Cert.GlaReferenceIdeal.main_arg7))
      ∧ r.2.sem = fun _ => 0)

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v36_0)) (v1 : (c : Dev Cert.InProjIdeal.nD) → Buf (Elt Ideal) ((c.tc : Thread Cert.InProjIdeal.nD Cert.InProjIdeal.τ).loc Cert.InProjIdeal.main_v36_1)) (v2 : (c : Dev Cert.InProjIdeal.nD) → Buf (Elt Ideal) ((c.tc : Thread Cert.InProjIdeal.nD Cert.InProjIdeal.τ).loc Cert.InProjIdeal.main_v36_2)) (v3 : (c : Dev Cert.InProjIdeal.nD) → Buf (Elt Ideal) ((c.tc : Thread Cert.InProjIdeal.nD Cert.InProjIdeal.τ).loc Cert.InProjIdeal.main_v36_3)) (v4 : (c : Dev Cert.InProjIdeal.nD) → Buf (Elt Ideal) ((c.tc : Thread Cert.InProjIdeal.nD Cert.InProjIdeal.τ).loc Cert.InProjIdeal.main_v36_4)) (v5 : (c : Dev Cert.InProjIdeal.nD) → Buf (Elt Ideal) ((c.tc : Thread Cert.InProjIdeal.nD Cert.InProjIdeal.τ).loc Cert.InProjIdeal.main_v36_5)) (v6 : (c : Dev Cert.InProjIdeal.nD) → Buf (Elt Ideal) ((c.tc : Thread Cert.InProjIdeal.nD Cert.InProjIdeal.τ).loc Cert.InProjIdeal.main_v36_6)) (v7 : (c : Dev Cert.InProjIdeal.nD) → Buf (Elt Ideal) ((c.tc : Thread Cert.InProjIdeal.nD Cert.InProjIdeal.τ).loc Cert.InProjIdeal.main_v36_7)) (v8 : (c : Dev Cert.InProjIdeal.nD) → Buf (Elt Ideal) ((c.tc : Thread Cert.InProjIdeal.nD Cert.InProjIdeal.τ).loc Cert.InProjIdeal.main_v36_8)) (v9 : (c : Dev Cert.InProjIdeal.nD) → Buf (Elt Ideal) ((c.tc : Thread Cert.InProjIdeal.nD Cert.InProjIdeal.τ).loc Cert.InProjIdeal.main_v36_9)) (v10 : (c : Dev Cert.InProjIdeal.nD) → Buf (Elt Ideal) ((c.tc : Thread Cert.InProjIdeal.nD Cert.InProjIdeal.τ).loc Cert.InProjIdeal.main_v36_10)) (v11 : (c : Dev Cert.InProjIdeal.nD) → Buf (Elt Ideal) ((c.tc : Thread Cert.InProjIdeal.nD Cert.InProjIdeal.τ).loc Cert.InProjIdeal.main_v36_11)) (v12 : (c : Dev Cert.InProjIdeal.nD) → Buf (Elt Ideal) ((c.tc : Thread Cert.InProjIdeal.nD Cert.InProjIdeal.τ).loc Cert.InProjIdeal.main_v36_12)) (v13 : (c : Dev Cert.InProjIdeal.nD) → Buf (Elt Ideal) ((c.tc : Thread Cert.InProjIdeal.nD Cert.InProjIdeal.τ).loc Cert.InProjIdeal.main_v36_13)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v36_0) = v0 c
          ∧ r.2.mem ((c.tc : Thread Cert.InProjIdeal.nD Cert.InProjIdeal.τ).loc Cert.InProjIdeal.main_v36_1) = v1 c
          ∧ r.2.mem ((c.tc : Thread Cert.InProjIdeal.nD Cert.InProjIdeal.τ).loc Cert.InProjIdeal.main_v36_2) = v2 c
          ∧ r.2.mem ((c.tc : Thread Cert.InProjIdeal.nD Cert.InProjIdeal.τ).loc Cert.InProjIdeal.main_v36_3) = v3 c
          ∧ r.2.mem ((c.tc : Thread Cert.InProjIdeal.nD Cert.InProjIdeal.τ).loc Cert.InProjIdeal.main_v36_4) = v4 c
          ∧ r.2.mem ((c.tc : Thread Cert.InProjIdeal.nD Cert.InProjIdeal.τ).loc Cert.InProjIdeal.main_v36_5) = v5 c
          ∧ r.2.mem ((c.tc : Thread Cert.InProjIdeal.nD Cert.InProjIdeal.τ).loc Cert.InProjIdeal.main_v36_6) = v6 c
          ∧ r.2.mem ((c.tc : Thread Cert.InProjIdeal.nD Cert.InProjIdeal.τ).loc Cert.InProjIdeal.main_v36_7) = v7 c
          ∧ r.2.mem ((c.tc : Thread Cert.InProjIdeal.nD Cert.InProjIdeal.τ).loc Cert.InProjIdeal.main_v36_8) = v8 c
          ∧ r.2.mem ((c.tc : Thread Cert.InProjIdeal.nD Cert.InProjIdeal.τ).loc Cert.InProjIdeal.main_v36_9) = v9 c
          ∧ r.2.mem ((c.tc : Thread Cert.InProjIdeal.nD Cert.InProjIdeal.τ).loc Cert.InProjIdeal.main_v36_10) = v10 c
          ∧ r.2.mem ((c.tc : Thread Cert.InProjIdeal.nD Cert.InProjIdeal.τ).loc Cert.InProjIdeal.main_v36_11) = v11 c
          ∧ r.2.mem ((c.tc : Thread Cert.InProjIdeal.nD Cert.InProjIdeal.τ).loc Cert.InProjIdeal.main_v36_12) = v12 c
          ∧ r.2.mem ((c.tc : Thread Cert.InProjIdeal.nD Cert.InProjIdeal.τ).loc Cert.InProjIdeal.main_v36_13) = v13 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v34) = v0 c
          ∧ r.2.mem ((c.tc : Thread Cert.InProjReferenceIdeal.nD Cert.InProjReferenceIdeal.τ).loc Cert.InProjReferenceIdeal.main_v35) = v1 c
          ∧ r.2.mem ((c.tc : Thread Cert.InProjReferenceIdeal.nD Cert.InProjReferenceIdeal.τ).loc Cert.InProjReferenceIdeal.main_v36) = v2 c
          ∧ r.2.mem ((c.tc : Thread Cert.InProjReferenceIdeal.nD Cert.InProjReferenceIdeal.τ).loc Cert.InProjReferenceIdeal.main_v37) = v3 c
          ∧ r.2.mem ((c.tc : Thread Cert.InProjReferenceIdeal.nD Cert.InProjReferenceIdeal.τ).loc Cert.InProjReferenceIdeal.main_v38) = v4 c
          ∧ r.2.mem ((c.tc : Thread Cert.InProjReferenceIdeal.nD Cert.InProjReferenceIdeal.τ).loc Cert.InProjReferenceIdeal.main_v33) = v5 c
          ∧ r.2.mem ((c.tc : Thread Cert.InProjReferenceIdeal.nD Cert.InProjReferenceIdeal.τ).loc Cert.InProjReferenceIdeal.main_v29) = v6 c
          ∧ r.2.mem ((c.tc : Thread Cert.InProjReferenceIdeal.nD Cert.InProjReferenceIdeal.τ).loc Cert.InProjReferenceIdeal.main_v21) = v7 c
          ∧ r.2.mem ((c.tc : Thread Cert.InProjReferenceIdeal.nD Cert.InProjReferenceIdeal.τ).loc Cert.InProjReferenceIdeal.main_v22) = v8 c
          ∧ r.2.mem ((c.tc : Thread Cert.InProjReferenceIdeal.nD Cert.InProjReferenceIdeal.τ).loc Cert.InProjReferenceIdeal.main_v23) = v9 c
          ∧ r.2.mem ((c.tc : Thread Cert.InProjReferenceIdeal.nD Cert.InProjReferenceIdeal.τ).loc Cert.InProjReferenceIdeal.main_v39) = v10 c
          ∧ r.2.mem ((c.tc : Thread Cert.InProjReferenceIdeal.nD Cert.InProjReferenceIdeal.τ).loc Cert.InProjReferenceIdeal.main_v26) = v11 c
          ∧ r.2.mem ((c.tc : Thread Cert.InProjReferenceIdeal.nD Cert.InProjReferenceIdeal.τ).loc Cert.InProjReferenceIdeal.main_v27) = v12 c
          ∧ r.2.mem ((c.tc : Thread Cert.InProjReferenceIdeal.nD Cert.InProjReferenceIdeal.τ).loc Cert.InProjReferenceIdeal.main_v28) = v13 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v10)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v71) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def preserves_Gla_GlaIdeal : Prop :=
  IdealRules.named_const.Statement Cert.GlaIdeal.κ "log2e_over_tau" .f32 0x3DB8AA3B#32 (((16 * (Real.log 2))⁻¹ : ℝ) : EReal)

def algebraic_GlaIdeal_GlaReferenceIdeal_pre_finite [hGlaIdeal : Cert.GlaIdeal.Facts] [hGlaReferenceIdeal : Cert.GlaReferenceIdeal.Facts] [hPre_finite : Cert.Pre_finite.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaReferenceIdeal.nD Cert.GlaReferenceIdeal.τ Cert.GlaReferenceIdeal.sig) → Buf (Elt Ideal) ℓ) (g' : Dev Cert.GlaReferenceIdeal.nD → PrngReg), Pre_GlaIdeal_finite m →
    (∀ c : Dev Cert.GlaIdeal.nD,
      m' ((c.tc : Thread Cert.GlaReferenceIdeal.nD Cert.GlaReferenceIdeal.τ).loc Cert.GlaReferenceIdeal.main_arg0) = m ((c.tc : Thread Cert.GlaIdeal.nD Cert.GlaIdeal.τ).loc Cert.GlaIdeal.main_arg0)
      ∧ m' ((c.tc : Thread Cert.GlaReferenceIdeal.nD Cert.GlaReferenceIdeal.τ).loc Cert.GlaReferenceIdeal.main_arg1) = m ((c.tc : Thread Cert.GlaIdeal.nD Cert.GlaIdeal.τ).loc Cert.GlaIdeal.main_arg1)
      ∧ m' ((c.tc : Thread Cert.GlaReferenceIdeal.nD Cert.GlaReferenceIdeal.τ).loc Cert.GlaReferenceIdeal.main_arg2) = m ((c.tc : Thread Cert.GlaIdeal.nD Cert.GlaIdeal.τ).loc Cert.GlaIdeal.main_arg2)
      ∧ m' ((c.tc : Thread Cert.GlaReferenceIdeal.nD Cert.GlaReferenceIdeal.τ).loc Cert.GlaReferenceIdeal.main_arg3) = m ((c.tc : Thread Cert.GlaIdeal.nD Cert.GlaIdeal.τ).loc Cert.GlaIdeal.main_arg3)
      ∧ m' ((c.tc : Thread Cert.GlaReferenceIdeal.nD Cert.GlaReferenceIdeal.τ).loc Cert.GlaReferenceIdeal.main_arg4) = m ((c.tc : Thread Cert.GlaIdeal.nD Cert.GlaIdeal.τ).loc Cert.GlaIdeal.main_arg4)
      ∧ m' ((c.tc : Thread Cert.GlaReferenceIdeal.nD Cert.GlaReferenceIdeal.τ).loc Cert.GlaReferenceIdeal.main_arg5) = m ((c.tc : Thread Cert.GlaIdeal.nD Cert.GlaIdeal.τ).loc Cert.GlaIdeal.main_arg5)
      ∧ m' ((c.tc : Thread Cert.GlaReferenceIdeal.nD Cert.GlaReferenceIdeal.τ).loc Cert.GlaReferenceIdeal.main_arg6) = m ((c.tc : Thread Cert.GlaIdeal.nD Cert.GlaIdeal.τ).loc Cert.GlaIdeal.main_arg6)
      ∧ m' ((c.tc : Thread Cert.GlaReferenceIdeal.nD Cert.GlaReferenceIdeal.τ).loc Cert.GlaReferenceIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v5)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v5) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaReferenceIdeal.defs (F := Ideal)) (onTc (τ := Cert.GlaReferenceIdeal.τ) (Cert.GlaReferenceIdeal.main (F := Ideal))) ⟨m', fun _ => 0, g'⟩ (fun r => ∀ c : Dev Cert.GlaReferenceIdeal.nD,
          r.2.mem ((c.tc : Thread Cert.GlaReferenceIdeal.nD Cert.GlaReferenceIdeal.τ).loc Cert.GlaReferenceIdeal.main_v55) = v0 c
          ∧ r.2.mem ((c.tc : Thread Cert.GlaReferenceIdeal.nD Cert.GlaReferenceIdeal.τ).loc Cert.GlaReferenceIdeal.main_arg0) = m' ((c.tc : Thread Cert.GlaReferenceIdeal.nD Cert.GlaReferenceIdeal.τ).loc Cert.GlaReferenceIdeal.main_arg0)
          ∧ r.2.mem ((c.tc : Thread Cert.GlaReferenceIdeal.nD Cert.GlaReferenceIdeal.τ).loc Cert.GlaReferenceIdeal.main_arg1) = m' ((c.tc : Thread Cert.GlaReferenceIdeal.nD Cert.GlaReferenceIdeal.τ).loc Cert.GlaReferenceIdeal.main_arg1)
          ∧ r.2.mem ((c.tc : Thread Cert.GlaReferenceIdeal.nD Cert.GlaReferenceIdeal.τ).loc Cert.GlaReferenceIdeal.main_arg2) = m' ((c.tc : Thread Cert.GlaReferenceIdeal.nD Cert.GlaReferenceIdeal.τ).loc Cert.GlaReferenceIdeal.main_arg2)
          ∧ r.2.mem ((c.tc : Thread Cert.GlaReferenceIdeal.nD Cert.GlaReferenceIdeal.τ).loc Cert.GlaReferenceIdeal.main_arg3) = m' ((c.tc : Thread Cert.GlaReferenceIdeal.nD Cert.GlaReferenceIdeal.τ).loc Cert.GlaReferenceIdeal.main_arg3)
          ∧ r.2.mem ((c.tc : Thread Cert.GlaReferenceIdeal.nD Cert.GlaReferenceIdeal.τ).loc Cert.GlaReferenceIdeal.main_arg4) = m' ((c.tc : Thread Cert.GlaReferenceIdeal.nD Cert.GlaReferenceIdeal.τ).loc Cert.GlaReferenceIdeal.main_arg4)
          ∧ r.2.mem ((c.tc : Thread Cert.GlaReferenceIdeal.nD Cert.GlaReferenceIdeal.τ).loc Cert.GlaReferenceIdeal.main_arg5) = m' ((c.tc : Thread Cert.GlaReferenceIdeal.nD Cert.GlaReferenceIdeal.τ).loc Cert.GlaReferenceIdeal.main_arg5)
          ∧ r.2.mem ((c.tc : Thread Cert.GlaReferenceIdeal.nD Cert.GlaReferenceIdeal.τ).loc Cert.GlaReferenceIdeal.main_arg6) = m' ((c.tc : Thread Cert.GlaReferenceIdeal.nD Cert.GlaReferenceIdeal.τ).loc Cert.GlaReferenceIdeal.main_arg6)
          ∧ r.2.mem ((c.tc : Thread Cert.GlaReferenceIdeal.nD Cert.GlaReferenceIdeal.τ).loc Cert.GlaReferenceIdeal.main_arg7) = m' ((c.tc : Thread Cert.GlaReferenceIdeal.nD Cert.GlaReferenceIdeal.τ).loc Cert.GlaReferenceIdeal.main_arg7))

def Claim : Prop :=
  ∃ (hKernel : Cert.Kernel.Facts) (hInProj : Cert.InProj.Facts) (hInProjIdeal : Cert.InProjIdeal.Facts) (hInProjReferenceIdeal : Cert.InProjReferenceIdeal.Facts) (hMerge : Cert.Merge.Facts) (hMergeIdeal : Cert.MergeIdeal.Facts) (hMergeReferenceIdeal : Cert.MergeReferenceIdeal.Facts) (hGla : Cert.Gla.Facts) (hGlaIdeal : Cert.GlaIdeal.Facts) (hGlaReferenceIdeal : Cert.GlaReferenceIdeal.Facts) (hPre_finite : Cert.Pre_finite.Facts),
    quiescent_Kernel (hKernel := hKernel)
    ∧ quiescent_InProj (hInProj := hInProj)
    ∧ quiescent_InProjIdeal (hInProjIdeal := hInProjIdeal)
    ∧ quiescent_InProjReferenceIdeal (hInProjReferenceIdeal := hInProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Gla (hGla := hGla)
    ∧ quiescent_GlaIdeal (hGlaIdeal := hGlaIdeal)
    ∧ quiescent_GlaIdeal_pre_finite (hGlaIdeal := hGlaIdeal) (hPre_finite := hPre_finite)
    ∧ quiescent_GlaReferenceIdeal (hGlaReferenceIdeal := hGlaReferenceIdeal)
    ∧ quiescent_GlaReferenceIdeal_pre_finite (hGlaReferenceIdeal := hGlaReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_Merge_MergeIdeal
    ∧ algebraic_MergeIdeal_MergeReferenceIdeal (hMergeIdeal := hMergeIdeal) (hMergeReferenceIdeal := hMergeReferenceIdeal)
    ∧ preserves_Gla_GlaIdeal
    ∧ algebraic_GlaIdeal_GlaReferenceIdeal_pre_finite (hGlaIdeal := hGlaIdeal) (hGlaReferenceIdeal := hGlaReferenceIdeal) (hPre_finite := hPre_finite)
-- ==== Pre_finite.lean ====
abbrev S65536x512 : Shape := ⟨2, ![65536, 512]⟩
abbrev S65536x1024 : Shape := ⟨2, ![65536, 1024]⟩
abbrev S65536x128 : Shape := ⟨2, ![65536, 128]⟩
abbrev S16x512 : Shape := ⟨2, ![16, 512]⟩
abbrev S512 : Shape := ⟨1, ![512]⟩
abbrev S256 : Shape := ⟨1, ![256]⟩
abbrev S65536x16 : Shape := ⟨2, ![65536, 16]⟩
abbrev S_ : Shape := ⟨0, ![]⟩

class Facts : Prop where
  slices_S65536x128_S65536x16_0_0 : S65536x128.Slices ![0, 0] S65536x16
  bcast_S_S65536x512 : S_.BroadcastsInDim S65536x512 (![] : Fin 0 → Fin S65536x512.rank)
  bcast_S_S65536x1024 : S_.BroadcastsInDim S65536x1024 (![] : Fin 0 → Fin S65536x1024.rank)
  bcast_S_S65536x16 : S_.BroadcastsInDim S65536x16 (![] : Fin 0 → Fin S65536x16.rank)
  bcast_S_S16x512 : S_.BroadcastsInDim S16x512 (![] : Fin 0 → Fin S16x512.rank)
  bcast_S_S512 : S_.BroadcastsInDim S512 (![] : Fin 0 → Fin S512.rank)

variable [Facts]

def fn_part1 {F : FTy → Type} [FloatOps F] (main_v3 : IVec S65536x512 1) (main_v6 : IVec S65536x512 1) (main_v9 : IVec S65536x1024 1) (main_v12 : IVec S65536x16 1) (main_v15 : IVec S16x512 1) (main_v16 : FVec F S512 .f32) (main_v17 : FVec F S512 .f32) : IVec S65536x512 1 × IVec S65536x512 1 × IVec S65536x1024 1 × IVec S65536x16 1 × IVec S16x512 1 × IVec S512 1 :=
  let main_v18 : IVec S512 1 := cmpf .olt main_v16 main_v17
  (main_v3, main_v6, main_v9, main_v12, main_v15, main_v18)

def fn {F : FTy → Type} [FloatOps F] (main_arg0 : FVec F S65536x512 .f32) (main_arg1 : FVec F S65536x512 .f32) (main_arg2 : FVec F S65536x1024 .bf16) (main_arg3 : FVec F S65536x1024 .f32) (main_arg4 : FVec F S65536x128 .f32) (main_arg5 : FVec F S16x512 .f32) (main_arg6 : FVec F S512 .f32) (main_arg7 : FVec F S256 .f32) : IVec S65536x512 1 × IVec S65536x512 1 × IVec S65536x1024 1 × IVec S65536x16 1 × IVec S16x512 1 × IVec S512 1 :=
  let main_v0 : FVec F S65536x16 .f32 := (extractStridedSlice S65536x16 ![0, 0] · slices_S65536x128_S65536x16_0_0) main_arg4
  let main_v1 : FVec F S65536x512 .f32 := Host.absf main_arg0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_v7 : FVec F S65536x1024 .bf16 := Host.absf main_arg2
  let main_cst_1 : FVec F S_ .bf16 := constant S_ .bf16 0x7F80#16
  let main_v8 : FVec F S65536x1024 .bf16 := broadcastInDim S65536x1024 ![] bcast_S_S65536x1024 main_cst_1
  let main_v9 : IVec S65536x1024 1 := cmpf .olt main_v7 main_v8
  let main_v10 : FVec F S65536x16 .f32 := Host.absf main_v0
  let main_cst_2 : FVec F S_ .f32 := constant S_ .f32 0x7F800000#32
  let main_v11 : FVec F S65536x16 .f32 := broadcastInDim S65536x16 ![] bcast_S_S65536x16 main_cst_2
  let main_v12 : IVec S65536x16 1 := cmpf .olt main_v10 main_v11
  let main_v13 : FVec F S16x512 .f32 := Host.absf main_arg5
  let main_cst_3 : FVec F S_ .f32 := constant S_ .f32 0x7F800000#32
  let main_v14 : FVec F S16x512 .f32 := broadcastInDim S16x512 ![] bcast_S_S16x512 main_cst_3
  let main_v15 : IVec S16x512 1 := cmpf .olt main_v13 main_v14
  let main_v16 : FVec F S512 .f32 := Host.absf main_arg6
  let main_cst_4 : FVec F S_ .f32 := constant S_ .f32 0x7F800000#32
  let main_v17 : FVec F S512 .f32 := broadcastInDim S512 ![] bcast_S_S512 main_cst_4
  fn_part1 (F := F) main_v3 main_v6 main_v9 main_v12 main_v15 main_v16 main_v17
-- ==== Kernel.lean ====
abbrev S512x65536 : Shape := ⟨2, ![512, 65536]⟩
abbrev S8x65536 : Shape := ⟨2, ![8, 65536]⟩
abbrev S65536x512 : Shape := ⟨2, ![65536, 512]⟩
abbrev S65536x64 : Shape := ⟨2, ![65536, 64]⟩
abbrev S64x65536 : Shape := ⟨2, ![64, 65536]⟩
abbrev S512x256 : Shape := ⟨2, ![512, 256]⟩
abbrev S8x256 : Shape := ⟨2, ![8, 256]⟩
abbrev S256x512 : Shape := ⟨2, ![256, 512]⟩
abbrev S8192x64 : Shape := ⟨2, ![8192, 64]⟩
abbrev S64x8192 : Shape := ⟨2, ![64, 8192]⟩
abbrev S64x2048 : Shape := ⟨2, ![64, 2048]⟩
abbrev S128x2048 : Shape := ⟨2, ![128, 2048]⟩
abbrev S8192x128 : Shape := ⟨2, ![8192, 128]⟩
abbrev S1x1 : Shape := ⟨2, ![1, 1]⟩
abbrev S16x80x512 : Shape := ⟨3, ![16, 80, 512]⟩
abbrev S16x512x256 : Shape := ⟨3, ![16, 512, 256]⟩
abbrev S32x32x8x256 : Shape := ⟨4, ![32, 32, 8, 256]⟩
abbrev S32x8x256 : Shape := ⟨3, ![32, 8, 256]⟩
abbrev S16x256 : Shape := ⟨2, ![16, 256]⟩
abbrev S8x80x256 : Shape := ⟨3, ![8, 80, 256]⟩
abbrev S512x2048 : Shape := ⟨2, ![512, 2048]⟩
abbrev S64x512 : Shape := ⟨2, ![64, 512]⟩
abbrev S1x64x512 : Shape := ⟨3, ![1, 64, 512]⟩
abbrev S16x512 : Shape := ⟨2, ![16, 512]⟩
abbrev S1x16x512 : Shape := ⟨3, ![1, 16, 512]⟩
abbrev S48x2048 : Shape := ⟨2, ![48, 2048]⟩
abbrev S8192 : Shape := ⟨1, ![8192]⟩
abbrev S8192x1 : Shape := ⟨2, ![8192, 1]⟩
abbrev S1 : Shape := ⟨1, ![1]⟩
abbrev S8x64x256 : Shape := ⟨3, ![8, 64, 256]⟩
abbrev S64x256 : Shape := ⟨2, ![64, 256]⟩
abbrev S1x256 : Shape := ⟨2, ![1, 256]⟩
abbrev S512x64 : Shape := ⟨2, ![512, 64]⟩
abbrev S1x512x256 : Shape := ⟨3, ![1, 512, 256]⟩
abbrev S1x1x8x256 : Shape := ⟨4, ![1, 1, 8, 256]⟩
abbrev S256x64 : Shape := ⟨2, ![256, 64]⟩
abbrev S256x2048 : Shape := ⟨2, ![256, 2048]⟩
abbrev S256x256 : Shape := ⟨2, ![256, 256]⟩
abbrev S1x256x256 : Shape := ⟨3, ![1, 256, 256]⟩
abbrev S1x8x256 : Shape := ⟨3, ![1, 8, 256]⟩
abbrev S256 : Shape := ⟨1, ![256]⟩
abbrev S1x1x256 : Shape := ⟨3, ![1, 1, 256]⟩
abbrev S1x1x1 : Shape := ⟨3, ![1, 1, 1]⟩
abbrev S16 : Shape := ⟨1, ![16]⟩
abbrev S16x1 : Shape := ⟨2, ![16, 1]⟩
abbrev S1x16x1 : Shape := ⟨3, ![1, 16, 1]⟩
abbrev S512x512 : Shape := ⟨2, ![512, 512]⟩
abbrev S512x128 : Shape := ⟨2, ![512, 128]⟩
abbrev S1x80x512 : Shape := ⟨3, ![1, 80, 512]⟩
abbrev S80x512 : Shape := ⟨2, ![80, 512]⟩
abbrev S80x2048 : Shape := ⟨2, ![80, 2048]⟩
abbrev S1x80x256 : Shape := ⟨3, ![1, 80, 256]⟩
abbrev S80x256 : Shape := ⟨2, ![80, 256]⟩
abbrev S256x128 : Shape := ⟨2, ![256, 128]⟩
abbrev S16x32x256 : Shape := ⟨3, ![16, 32, 256]⟩
abbrev S32x256 : Shape := ⟨2, ![32, 256]⟩

abbrev nBuf : Space → Nat
  | .hbm => 8
  | .vmem => 30
  | .smem => 0
  | _ => 0

abbrev bufTy : (tb : Table) → Fin (tcTables nBuf tb) → BufTy
  | .hbm, ⟨0, _⟩ => ⟨S512x65536, .bf16⟩
  | .hbm, ⟨1, _⟩ => ⟨S8x65536, .f32⟩
  | .hbm, ⟨2, _⟩ => ⟨S512x65536, .bf16⟩
  | .hbm, ⟨3, _⟩ => ⟨S65536x512, .f32⟩
  | .hbm, ⟨4, _⟩ => ⟨S65536x64, .bf16⟩
  | .hbm, ⟨5, _⟩ => ⟨S65536x64, .bf16⟩
  | .hbm, ⟨6, _⟩ => ⟨S64x65536, .bf16⟩
  | .hbm, ⟨7, _⟩ => ⟨S65536x512, .bf16⟩
  | .local _ .vmem, ⟨0, _⟩ => ⟨S512x256, .bf16⟩
  | .local _ .vmem, ⟨1, _⟩ => ⟨S512x256, .bf16⟩
  | .local _ .vmem, ⟨2, _⟩ => ⟨S8x256, .f32⟩
  | .local _ .vmem, ⟨3, _⟩ => ⟨S8x256, .f32⟩
  | .local _ .vmem, ⟨4, _⟩ => ⟨S512x256, .bf16⟩
  | .local _ .vmem, ⟨5, _⟩ => ⟨S512x256, .bf16⟩
  | .local _ .vmem, ⟨6, _⟩ => ⟨S256x512, .f32⟩
  | .local _ .vmem, ⟨7, _⟩ => ⟨S256x512, .f32⟩
  | .local _ .vmem, ⟨8, _⟩ => ⟨S8192x64, .bf16⟩
  | .local _ .vmem, ⟨9, _⟩ => ⟨S8192x64, .bf16⟩
  | .local _ .vmem, ⟨10, _⟩ => ⟨S8192x64, .bf16⟩
  | .local _ .vmem, ⟨11, _⟩ => ⟨S8192x64, .bf16⟩
  | .local _ .vmem, ⟨12, _⟩ => ⟨S64x8192, .bf16⟩
  | .local _ .vmem, ⟨13, _⟩ => ⟨S64x8192, .bf16⟩
  | .local _ .vmem, ⟨14, _⟩ => ⟨S256x512, .bf16⟩
  | .local _ .vmem, ⟨15, _⟩ => ⟨S256x512, .bf16⟩
  | .local _ .vmem, ⟨16, _⟩ => ⟨S64x2048, .bf16⟩
  | .local _ .vmem, ⟨17, _⟩ => ⟨S128x2048, .bf16⟩
  | .local _ .vmem, ⟨18, _⟩ => ⟨S8192x128, .bf16⟩
  | .local _ .vmem, ⟨19, _⟩ => ⟨S1x1, .f32⟩
  | .local _ .vmem, ⟨20, _⟩ => ⟨S16x80x512, .bf16⟩
  | .local _ .vmem, ⟨21, _⟩ => ⟨S16x512x256, .f32⟩
  | .local _ .vmem, ⟨22, _⟩ => ⟨S32x32x8x256, .i32⟩
  | .local _ .vmem, ⟨23, _⟩ => ⟨S32x8x256, .i32⟩
  | .local _ .vmem, ⟨24, _⟩ => ⟨S8x256, .i32⟩
  | .local _ .vmem, ⟨25, _⟩ => ⟨S16x256, .i32⟩
  | .local _ .vmem, ⟨26, _⟩ => ⟨S8x256, .f32⟩
  | .local _ .vmem, ⟨27, _⟩ => ⟨S8x256, .f32⟩
  | .local _ .vmem, ⟨28, _⟩ => ⟨S8x80x256, .f32⟩
  | .local _ .vmem, ⟨29, _⟩ => ⟨S512x2048, .bf16⟩
  | _, _ => ⟨S512x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![8, 32], ![false, false]⟩

@[reducible] def k0_t1_loop (i : grid0.Coords) : Scf.Loop 32 :=
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_85 : BitVec 32 := 1#32
  ⟨c0_i32_83, v197, c1_i32_85⟩
def k0_mult1 (i : grid0.Coords) (k0_t1 : Fin (k0_t1_loop i).trips) : BitVec 32 :=
  let c0_i32_83 : BitVec 32 := 0#32
  let c1_i32_85 : BitVec 32 := 1#32
  let arg24 : BitVec 32 := Scf.iv c0_i32_83 c1_i32_85 k0_t1
  let c512_i32_420 : BitVec 32 := 512#32
  let v691 : BitVec 32 := Scalar.muli arg24 c512_i32_420
  v691
def k0_off1 (i : grid0.Coords) (k0_t1 : Fin (k0_t1_loop i).trips) : Fin 2 → Nat :=
  let c0_i32_83 : BitVec 32 := 0#32
  let c1_i32_85 : BitVec 32 := 1#32
  let arg24 : BitVec 32 := Scf.iv c0_i32_83 c1_i32_85 k0_t1
  let c512_i32_420 : BitVec 32 := 512#32
  let v691 : BitVec 32 := Scalar.muli arg24 c512_i32_420
  let v692 : BitVec 32 := v691
  let v693 : Index := Scalar.indexCast v692
  let c0_421 : Index := 0#32
  ![v693.toNat, 0]
def k0_off2 (i : grid0.Coords) (k0_t1 : Fin (k0_t1_loop i).trips) : Fin 3 → Nat :=
  let c0_i32_83 : BitVec 32 := 0#32
  let c1_i32_85 : BitVec 32 := 1#32
  let arg24 : BitVec 32 := Scf.iv c0_i32_83 c1_i32_85 k0_t1
  let v754 : Index := Scalar.indexCast arg24
  let c0_434 : Index := 0#32
  let c0_435 : Index := 0#32
  ![v754.toNat, 0, 0]
def k0_off3 (i : grid0.Coords) (k0_t1 : Fin (k0_t1_loop i).trips) (c0_i32_674 : BitVec 32) : Fin 4 → Nat :=
  let c0_675 : Index := 0#32
  let c0_i32_83 : BitVec 32 := 0#32
  let c1_i32_85 : BitVec 32 := 1#32
  let arg24 : BitVec 32 := Scf.iv c0_i32_83 c1_i32_85 k0_t1
  let c2_i32_673 : BitVec 32 := 2#32
  let v1516 : BitVec 32 := Scalar.muli arg24 c2_i32_673
  let v1517 : BitVec 32 := Scalar.addi v1516 c0_i32_674
  let v1518 : Index := Scalar.indexCast v1517
  let c0_676 : Index := 0#32
  let c0_677 : Index := 0#32
  ![0, v1518.toNat, 0, 0]
def k0_off4 (i : grid0.Coords) (k0_t1 : Fin (k0_t1_loop i).trips) (c0_i32_679 : BitVec 32) : Fin 4 → Nat :=
  let c1_680 : Index := 1#32
  let c0_i32_83 : BitVec 32 := 0#32
  let c1_i32_85 : BitVec 32 := 1#32
  let arg24 : BitVec 32 := Scf.iv c0_i32_83 c1_i32_85 k0_t1
  let c2_i32_678 : BitVec 32 := 2#32
  let v1522 : BitVec 32 := Scalar.muli arg24 c2_i32_678
  let v1523 : BitVec 32 := Scalar.addi v1522 c0_i32_679
  let v1524 : Index := Scalar.indexCast v1523
  let c0_681 : Index := 0#32
  let c0_682 : Index := 0#32
  ![1, v1524.toNat, 0, 0]
def k0_off5 (i : grid0.Coords) (k0_t1 : Fin (k0_t1_loop i).trips) (c0_i32_684 : BitVec 32) : Fin 4 → Nat :=
  let c2_685 : Index := 2#32
  let c0_i32_83 : BitVec 32 := 0#32
  let c1_i32_85 : BitVec 32 := 1#32
  let arg24 : BitVec 32 := Scf.iv c0_i32_83 c1_i32_85 k0_t1
  let c2_i32_683 : BitVec 32 := 2#32
  let v1528 : BitVec 32 := Scalar.muli arg24 c2_i32_683
  let v1529 : BitVec 32 := Scalar.addi v1528 c0_i32_684
  let v1530 : Index := Scalar.indexCast v1529
  let c0_686 : Index := 0#32
  let c0_687 : Index := 0#32
  ![2, v1530.toNat, 0, 0]
def k0_off6 (i : grid0.Coords) (k0_t1 : Fin (k0_t1_loop i).trips) (c0_i32_689 : BitVec 32) : Fin 4 → Nat :=
  let c3_690 : Index := 3#32
  let c0_i32_83 : BitVec 32 := 0#32
  let c1_i32_85 : BitVec 32 := 1#32
  let arg24 : BitVec 32 := Scf.iv c0_i32_83 c1_i32_85 k0_t1
  let c2_i32_688 : BitVec 32 := 2#32
  let v1534 : BitVec 32 := Scalar.muli arg24 c2_i32_688
  let v1535 : BitVec 32 := Scalar.addi v1534 c0_i32_689
  let v1536 : Index := Scalar.indexCast v1535
  let c0_691 : Index := 0#32
  let c0_692 : Index := 0#32
  ![3, v1536.toNat, 0, 0]
def k0_off7 (i : grid0.Coords) (k0_t1 : Fin (k0_t1_loop i).trips) (c0_i32_694 : BitVec 32) : Fin 4 → Nat :=
  let c4_695 : Index := 4#32
  let c0_i32_83 : BitVec 32 := 0#32
  let c1_i32_85 : BitVec 32 := 1#32
  let arg24 : BitVec 32 := Scf.iv c0_i32_83 c1_i32_85 k0_t1
  let c2_i32_693 : BitVec 32 := 2#32
  let v1540 : BitVec 32 := Scalar.muli arg24 c2_i32_693
  let v1541 : BitVec 32 := Scalar.addi v1540 c0_i32_694
  let v1542 : Index := Scalar.indexCast v1541
  let c0_696 : Index := 0#32
  let c0_697 : Index := 0#32
  ![4, v1542.toNat, 0, 0]
def k0_off8 (i : grid0.Coords) (k0_t1 : Fin (k0_t1_loop i).trips) (c0_i32_699 : BitVec 32) : Fin 4 → Nat :=
  let c5_700 : Index := 5#32
  let c0_i32_83 : BitVec 32 := 0#32
  let c1_i32_85 : BitVec 32 := 1#32
  let arg24 : BitVec 32 := Scf.iv c0_i32_83 c1_i32_85 k0_t1
  let c2_i32_698 : BitVec 32 := 2#32
  let v1546 : BitVec 32 := Scalar.muli arg24 c2_i32_698
  let v1547 : BitVec 32 := Scalar.addi v1546 c0_i32_699
  let v1548 : Index := Scalar.indexCast v1547
  let c0_701 : Index := 0#32
  let c0_702 : Index := 0#32
  ![5, v1548.toNat, 0, 0]
def k0_off9 (i : grid0.Coords) (k0_t1 : Fin (k0_t1_loop i).trips) (c0_i32_704 : BitVec 32) : Fin 4 → Nat :=
  let c6_705 : Index := 6#32
  let c0_i32_83 : BitVec 32 := 0#32
  let c1_i32_85 : BitVec 32 := 1#32
  let arg24 : BitVec 32 := Scf.iv c0_i32_83 c1_i32_85 k0_t1
  let c2_i32_703 : BitVec 32 := 2#32
  let v1552 : BitVec 32 := Scalar.muli arg24 c2_i32_703
  let v1553 : BitVec 32 := Scalar.addi v1552 c0_i32_704
  let v1554 : Index := Scalar.indexCast v1553
  let c0_706 : Index := 0#32
  let c0_707 : Index := 0#32
  ![6, v1554.toNat, 0, 0]
def k0_off10 (i : grid0.Coords) (k0_t1 : Fin (k0_t1_loop i).trips) (c0_i32_709 : BitVec 32) : Fin 4 → Nat :=
  let c7_710 : Index := 7#32
  let c0_i32_83 : BitVec 32 := 0#32
  let c1_i32_85 : BitVec 32 := 1#32
  let arg24 : BitVec 32 := Scf.iv c0_i32_83 c1_i32_85 k0_t1
  let c2_i32_708 : BitVec 32 := 2#32
  let v1558 : BitVec 32 := Scalar.muli arg24 c2_i32_708
  let v1559 : BitVec 32 := Scalar.addi v1558 c0_i32_709
  let v1560 : Index := Scalar.indexCast v1559
  let c0_711 : Index := 0#32
  let c0_712 : Index := 0#32
  ![7, v1560.toNat, 0, 0]
def k0_off11 (i : grid0.Coords) (k0_t1 : Fin (k0_t1_loop i).trips) (c0_i32_714 : BitVec 32) : Fin 4 → Nat :=
  let c8_715 : Index := 8#32
  let c0_i32_83 : BitVec 32 := 0#32
  let c1_i32_85 : BitVec 32 := 1#32
  let arg24 : BitVec 32 := Scf.iv c0_i32_83 c1_i32_85 k0_t1
  let c2_i32_713 : BitVec 32 := 2#32
  let v1564 : BitVec 32 := Scalar.muli arg24 c2_i32_713
  let v1565 : BitVec 32 := Scalar.addi v1564 c0_i32_714
  let v1566 : Index := Scalar.indexCast v1565
  let c0_716 : Index := 0#32
  let c0_717 : Index := 0#32
  ![8, v1566.toNat, 0, 0]
def k0_off12 (i : grid0.Coords) (k0_t1 : Fin (k0_t1_loop i).trips) (c0_i32_719 : BitVec 32) : Fin 4 → Nat :=
  let c9_720 : Index := 9#32
  let c0_i32_83 : BitVec 32 := 0#32
  let c1_i32_85 : BitVec 32 := 1#32
  let arg24 : BitVec 32 := Scf.iv c0_i32_83 c1_i32_85 k0_t1
  let c2_i32_718 : BitVec 32 := 2#32
  let v1570 : BitVec 32 := Scalar.muli arg24 c2_i32_718
  let v1571 : BitVec 32 := Scalar.addi v1570 c0_i32_719
  let v1572 : Index := Scalar.indexCast v1571
  let c0_721 : Index := 0#32
  let c0_722 : Index := 0#32
  ![9, v1572.toNat, 0, 0]
def k0_off13 (i : grid0.Coords) (k0_t1 : Fin (k0_t1_loop i).trips) (c0_i32_724 : BitVec 32) : Fin 4 → Nat :=
  let c10_725 : Index := 10#32
  let c0_i32_83 : BitVec 32 := 0#32
  let c1_i32_85 : BitVec 32 := 1#32
  let arg24 : BitVec 32 := Scf.iv c0_i32_83 c1_i32_85 k0_t1
  let c2_i32_723 : BitVec 32 := 2#32
  let v1576 : BitVec 32 := Scalar.muli arg24 c2_i32_723
  let v1577 : BitVec 32 := Scalar.addi v1576 c0_i32_724
  let v1578 : Index := Scalar.indexCast v1577
  let c0_726 : Index := 0#32
  let c0_727 : Index := 0#32
  ![10, v1578.toNat, 0, 0]
def k0_off14 (i : grid0.Coords) (k0_t1 : Fin (k0_t1_loop i).trips) (c0_i32_729 : BitVec 32) : Fin 4 → Nat :=
  let c11_730 : Index := 11#32
  let c0_i32_83 : BitVec 32 := 0#32
  let c1_i32_85 : BitVec 32 := 1#32
  let arg24 : BitVec 32 := Scf.iv c0_i32_83 c1_i32_85 k0_t1
  let c2_i32_728 : BitVec 32 := 2#32
  let v1582 : BitVec 32 := Scalar.muli arg24 c2_i32_728
  let v1583 : BitVec 32 := Scalar.addi v1582 c0_i32_729
  let v1584 : Index := Scalar.indexCast v1583
  let c0_731 : Index := 0#32
  let c0_732 : Index := 0#32
  ![11, v1584.toNat, 0, 0]
def k0_off15 (i : grid0.Coords) (k0_t1 : Fin (k0_t1_loop i).trips) (c0_i32_734 : BitVec 32) : Fin 4 → Nat :=
  let c12_735 : Index := 12#32
  let c0_i32_83 : BitVec 32 := 0#32
  let c1_i32_85 : BitVec 32 := 1#32
  let arg24 : BitVec 32 := Scf.iv c0_i32_83 c1_i32_85 k0_t1
  let c2_i32_733 : BitVec 32 := 2#32
  let v1588 : BitVec 32 := Scalar.muli arg24 c2_i32_733
  let v1589 : BitVec 32 := Scalar.addi v1588 c0_i32_734
  let v1590 : Index := Scalar.indexCast v1589
  let c0_736 : Index := 0#32
  let c0_737 : Index := 0#32
  ![12, v1590.toNat, 0, 0]
def k0_off16 (i : grid0.Coords) (k0_t1 : Fin (k0_t1_loop i).trips) (c0_i32_739 : BitVec 32) : Fin 4 → Nat :=
  let c13_740 : Index := 13#32
  let c0_i32_83 : BitVec 32 := 0#32
  let c1_i32_85 : BitVec 32 := 1#32
  let arg24 : BitVec 32 := Scf.iv c0_i32_83 c1_i32_85 k0_t1
  let c2_i32_738 : BitVec 32 := 2#32
  let v1594 : BitVec 32 := Scalar.muli arg24 c2_i32_738
  let v1595 : BitVec 32 := Scalar.addi v1594 c0_i32_739
  let v1596 : Index := Scalar.indexCast v1595
  let c0_741 : Index := 0#32
  let c0_742 : Index := 0#32
  ![13, v1596.toNat, 0, 0]
def k0_off17 (i : grid0.Coords) (k0_t1 : Fin (k0_t1_loop i).trips) (c0_i32_744 : BitVec 32) : Fin 4 → Nat :=
  let c14_745 : Index := 14#32
  let c0_i32_83 : BitVec 32 := 0#32
  let c1_i32_85 : BitVec 32 := 1#32
  let arg24 : BitVec 32 := Scf.iv c0_i32_83 c1_i32_85 k0_t1
  let c2_i32_743 : BitVec 32 := 2#32
  let v1600 : BitVec 32 := Scalar.muli arg24 c2_i32_743
  let v1601 : BitVec 32 := Scalar.addi v1600 c0_i32_744
  let v1602 : Index := Scalar.indexCast v1601
  let c0_746 : Index := 0#32
  let c0_747 : Index := 0#32
  ![14, v1602.toNat, 0, 0]
def k0_off18 (i : grid0.Coords) (k0_t1 : Fin (k0_t1_loop i).trips) (c0_i32_749 : BitVec 32) : Fin 4 → Nat :=
  let c15_750 : Index := 15#32
  let c0_i32_83 : BitVec 32 := 0#32
  let c1_i32_85 : BitVec 32 := 1#32
  let arg24 : BitVec 32 := Scf.iv c0_i32_83 c1_i32_85 k0_t1
  let c2_i32_748 : BitVec 32 := 2#32
  let v1606 : BitVec 32 := Scalar.muli arg24 c2_i32_748
  let v1607 : BitVec 32 := Scalar.addi v1606 c0_i32_749
  let v1608 : Index := Scalar.indexCast v1607
  let c0_751 : Index := 0#32
  let c0_752 : Index := 0#32
  ![15, v1608.toNat, 0, 0]
def k0_off19 (i : grid0.Coords) (k0_t1 : Fin (k0_t1_loop i).trips) (c0_i32_754 : BitVec 32) : Fin 4 → Nat :=
  let c16_755 : Index := 16#32
  let c0_i32_83 : BitVec 32 := 0#32
  let c1_i32_85 : BitVec 32 := 1#32
  let arg24 : BitVec 32 := Scf.iv c0_i32_83 c1_i32_85 k0_t1
  let c2_i32_753 : BitVec 32 := 2#32
  let v1612 : BitVec 32 := Scalar.muli arg24 c2_i32_753
  let v1613 : BitVec 32 := Scalar.addi v1612 c0_i32_754
  let v1614 : Index := Scalar.indexCast v1613
  let c0_756 : Index := 0#32
  let c0_757 : Index := 0#32
  ![16, v1614.toNat, 0, 0]
def k0_off20 (i : grid0.Coords) (k0_t1 : Fin (k0_t1_loop i).trips) (c0_i32_759 : BitVec 32) : Fin 4 → Nat :=
  let c17_760 : Index := 17#32
  let c0_i32_83 : BitVec 32 := 0#32
  let c1_i32_85 : BitVec 32 := 1#32
  let arg24 : BitVec 32 := Scf.iv c0_i32_83 c1_i32_85 k0_t1
  let c2_i32_758 : BitVec 32 := 2#32
  let v1618 : BitVec 32 := Scalar.muli arg24 c2_i32_758
  let v1619 : BitVec 32 := Scalar.addi v1618 c0_i32_759
  let v1620 : Index := Scalar.indexCast v1619
  let c0_761 : Index := 0#32
  let c0_762 : Index := 0#32
  ![17, v1620.toNat, 0, 0]
def k0_off21 (i : grid0.Coords) (k0_t1 : Fin (k0_t1_loop i).trips) (c0_i32_764 : BitVec 32) : Fin 4 → Nat :=
  let c18_765 : Index := 18#32
  let c0_i32_83 : BitVec 32 := 0#32
  let c1_i32_85 : BitVec 32 := 1#32
  let arg24 : BitVec 32 := Scf.iv c0_i32_83 c1_i32_85 k0_t1
  let c2_i32_763 : BitVec 32 := 2#32
  let v1624 : BitVec 32 := Scalar.muli arg24 c2_i32_763
  let v1625 : BitVec 32 := Scalar.addi v1624 c0_i32_764
  let v1626 : Index := Scalar.indexCast v1625
  let c0_766 : Index := 0#32
  let c0_767 : Index := 0#32
  ![18, v1626.toNat, 0, 0]
def k0_off22 (i : grid0.Coords) (k0_t1 : Fin (k0_t1_loop i).trips) (c0_i32_769 : BitVec 32) : Fin 4 → Nat :=
  let c19_770 : Index := 19#32
  let c0_i32_83 : BitVec 32 := 0#32
  let c1_i32_85 : BitVec 32 := 1#32
  let arg24 : BitVec 32 := Scf.iv c0_i32_83 c1_i32_85 k0_t1
  let c2_i32_768 : BitVec 32 := 2#32
  let v1630 : BitVec 32 := Scalar.muli arg24 c2_i32_768
  let v1631 : BitVec 32 := Scalar.addi v1630 c0_i32_769
  let v1632 : Index := Scalar.indexCast v1631
  let c0_771 : Index := 0#32
  let c0_772 : Index := 0#32
  ![19, v1632.toNat, 0, 0]
def k0_off23 (i : grid0.Coords) (k0_t1 : Fin (k0_t1_loop i).trips) (c0_i32_774 : BitVec 32) : Fin 4 → Nat :=
  let c20_775 : Index := 20#32
  let c0_i32_83 : BitVec 32 := 0#32
  let c1_i32_85 : BitVec 32 := 1#32
  let arg24 : BitVec 32 := Scf.iv c0_i32_83 c1_i32_85 k0_t1
  let c2_i32_773 : BitVec 32 := 2#32
  let v1636 : BitVec 32 := Scalar.muli arg24 c2_i32_773
  let v1637 : BitVec 32 := Scalar.addi v1636 c0_i32_774
  let v1638 : Index := Scalar.indexCast v1637
  let c0_776 : Index := 0#32
  let c0_777 : Index := 0#32
  ![20, v1638.toNat, 0, 0]
def k0_off24 (i : grid0.Coords) (k0_t1 : Fin (k0_t1_loop i).trips) (c0_i32_779 : BitVec 32) : Fin 4 → Nat :=
  let c21_780 : Index := 21#32
  let c0_i32_83 : BitVec 32 := 0#32
  let c1_i32_85 : BitVec 32 := 1#32
  let arg24 : BitVec 32 := Scf.iv c0_i32_83 c1_i32_85 k0_t1
  let c2_i32_778 : BitVec 32 := 2#32
  let v1642 : BitVec 32 := Scalar.muli arg24 c2_i32_778
  let v1643 : BitVec 32 := Scalar.addi v1642 c0_i32_779
  let v1644 : Index := Scalar.indexCast v1643
  let c0_781 : Index := 0#32
  let c0_782 : Index := 0#32
  ![21, v1644.toNat, 0, 0]
def k0_off25 (i : grid0.Coords) (k0_t1 : Fin (k0_t1_loop i).trips) (c0_i32_784 : BitVec 32) : Fin 4 → Nat :=
  let c22_785 : Index := 22#32
  let c0_i32_83 : BitVec 32 := 0#32
  let c1_i32_85 : BitVec 32 := 1#32
  let arg24 : BitVec 32 := Scf.iv c0_i32_83 c1_i32_85 k0_t1
  let c2_i32_783 : BitVec 32 := 2#32
  let v1648 : BitVec 32 := Scalar.muli arg24 c2_i32_783
  let v1649 : BitVec 32 := Scalar.addi v1648 c0_i32_784
  let v1650 : Index := Scalar.indexCast v1649
  let c0_786 : Index := 0#32
  let c0_787 : Index := 0#32
  ![22, v1650.toNat, 0, 0]
def k0_off26 (i : grid0.Coords) (k0_t1 : Fin (k0_t1_loop i).trips) (c0_i32_789 : BitVec 32) : Fin 4 → Nat :=
  let c23_790 : Index := 23#32
  let c0_i32_83 : BitVec 32 := 0#32
  let c1_i32_85 : BitVec 32 := 1#32
  let arg24 : BitVec 32 := Scf.iv c0_i32_83 c1_i32_85 k0_t1
  let c2_i32_788 : BitVec 32 := 2#32
  let v1654 : BitVec 32 := Scalar.muli arg24 c2_i32_788
  let v1655 : BitVec 32 := Scalar.addi v1654 c0_i32_789
  let v1656 : Index := Scalar.indexCast v1655
  let c0_791 : Index := 0#32
  let c0_792 : Index := 0#32
  ![23, v1656.toNat, 0, 0]
def k0_off27 (i : grid0.Coords) (k0_t1 : Fin (k0_t1_loop i).trips) (c0_i32_794 : BitVec 32) : Fin 4 → Nat :=
  let c24_795 : Index := 24#32
  let c0_i32_83 : BitVec 32 := 0#32
  let c1_i32_85 : BitVec 32 := 1#32
  let arg24 : BitVec 32 := Scf.iv c0_i32_83 c1_i32_85 k0_t1
  let c2_i32_793 : BitVec 32 := 2#32
  let v1660 : BitVec 32 := Scalar.muli arg24 c2_i32_793
  let v1661 : BitVec 32 := Scalar.addi v1660 c0_i32_794
  let v1662 : Index := Scalar.indexCast v1661
  let c0_796 : Index := 0#32
  let c0_797 : Index := 0#32
  ![24, v1662.toNat, 0, 0]
def k0_off28 (i : grid0.Coords) (k0_t1 : Fin (k0_t1_loop i).trips) (c0_i32_799 : BitVec 32) : Fin 4 → Nat :=
  let c25_800 : Index := 25#32
  let c0_i32_83 : BitVec 32 := 0#32
  let c1_i32_85 : BitVec 32 := 1#32
  let arg24 : BitVec 32 := Scf.iv c0_i32_83 c1_i32_85 k0_t1
  let c2_i32_798 : BitVec 32 := 2#32
  let v1666 : BitVec 32 := Scalar.muli arg24 c2_i32_798
  let v1667 : BitVec 32 := Scalar.addi v1666 c0_i32_799
  let v1668 : Index := Scalar.indexCast v1667
  let c0_801 : Index := 0#32
  let c0_802 : Index := 0#32
  ![25, v1668.toNat, 0, 0]
def k0_off29 (i : grid0.Coords) (k0_t1 : Fin (k0_t1_loop i).trips) (c0_i32_804 : BitVec 32) : Fin 4 → Nat :=
  let c26_805 : Index := 26#32
  let c0_i32_83 : BitVec 32 := 0#32
  let c1_i32_85 : BitVec 32 := 1#32
  let arg24 : BitVec 32 := Scf.iv c0_i32_83 c1_i32_85 k0_t1
  let c2_i32_803 : BitVec 32 := 2#32
  let v1672 : BitVec 32 := Scalar.muli arg24 c2_i32_803
  let v1673 : BitVec 32 := Scalar.addi v1672 c0_i32_804
  let v1674 : Index := Scalar.indexCast v1673
  let c0_806 : Index := 0#32
  let c0_807 : Index := 0#32
  ![26, v1674.toNat, 0, 0]
def k0_off30 (i : grid0.Coords) (k0_t1 : Fin (k0_t1_loop i).trips) (c0_i32_809 : BitVec 32) : Fin 4 → Nat :=
  let c27_810 : Index := 27#32
  let c0_i32_83 : BitVec 32 := 0#32
  let c1_i32_85 : BitVec 32 := 1#32
  let arg24 : BitVec 32 := Scf.iv c0_i32_83 c1_i32_85 k0_t1
  let c2_i32_808 : BitVec 32 := 2#32
  let v1678 : BitVec 32 := Scalar.muli arg24 c2_i32_808
  let v1679 : BitVec 32 := Scalar.addi v1678 c0_i32_809
  let v1680 : Index := Scalar.indexCast v1679
  let c0_811 : Index := 0#32
  let c0_812 : Index := 0#32
  ![27, v1680.toNat, 0, 0]
def k0_off31 (i : grid0.Coords) (k0_t1 : Fin (k0_t1_loop i).trips) (c0_i32_814 : BitVec 32) : Fin 4 → Nat :=
  let c28_815 : Index := 28#32
  let c0_i32_83 : BitVec 32 := 0#32
  let c1_i32_85 : BitVec 32 := 1#32
  let arg24 : BitVec 32 := Scf.iv c0_i32_83 c1_i32_85 k0_t1
  let c2_i32_813 : BitVec 32 := 2#32
  let v1684 : BitVec 32 := Scalar.muli arg24 c2_i32_813
  let v1685 : BitVec 32 := Scalar.addi v1684 c0_i32_814
  let v1686 : Index := Scalar.indexCast v1685
  let c0_816 : Index := 0#32
  let c0_817 : Index := 0#32
  ![28, v1686.toNat, 0, 0]
def k0_off32 (i : grid0.Coords) (k0_t1 : Fin (k0_t1_loop i).trips) (c0_i32_819 : BitVec 32) : Fin 4 → Nat :=
  let c29_820 : Index := 29#32
  let c0_i32_83 : BitVec 32 := 0#32
  let c1_i32_85 : BitVec 32 := 1#32
  let arg24 : BitVec 32 := Scf.iv c0_i32_83 c1_i32_85 k0_t1
  let c2_i32_818 : BitVec 32 := 2#32
  let v1690 : BitVec 32 := Scalar.muli arg24 c2_i32_818
  let v1691 : BitVec 32 := Scalar.addi v1690 c0_i32_819
  let v1692 : Index := Scalar.indexCast v1691
  let c0_821 : Index := 0#32
  let c0_822 : Index := 0#32
  ![29, v1692.toNat, 0, 0]
def k0_off33 (i : grid0.Coords) (k0_t1 : Fin (k0_t1_loop i).trips) (c0_i32_824 : BitVec 32) : Fin 4 → Nat :=
  let c30_825 : Index := 30#32
  let c0_i32_83 : BitVec 32 := 0#32
  let c1_i32_85 : BitVec 32 := 1#32
  let arg24 : BitVec 32 := Scf.iv c0_i32_83 c1_i32_85 k0_t1
  let c2_i32_823 : BitVec 32 := 2#32
  let v1696 : BitVec 32 := Scalar.muli arg24 c2_i32_823
  let v1697 : BitVec 32 := Scalar.addi v1696 c0_i32_824
  let v1698 : Index := Scalar.indexCast v1697
  let c0_826 : Index := 0#32
  let c0_827 : Index := 0#32
  ![30, v1698.toNat, 0, 0]
def k0_off34 (i : grid0.Coords) (k0_t1 : Fin (k0_t1_loop i).trips) (c0_i32_829 : BitVec 32) : Fin 4 → Nat :=
  let c31_830 : Index := 31#32
  let c0_i32_83 : BitVec 32 := 0#32
  let c1_i32_85 : BitVec 32 := 1#32
  let arg24 : BitVec 32 := Scf.iv c0_i32_83 c1_i32_85 k0_t1
  let c2_i32_828 : BitVec 32 := 2#32
  let v1702 : BitVec 32 := Scalar.muli arg24 c2_i32_828
  let v1703 : BitVec 32 := Scalar.addi v1702 c0_i32_829
  let v1704 : Index := Scalar.indexCast v1703
  let c0_831 : Index := 0#32
  let c0_832 : Index := 0#32
  ![31, v1704.toNat, 0, 0]
@[reducible] def k0_t2_loop (i : grid0.Coords) : Scf.Loop 32 :=
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let v194 : BitVec 32 := Scalar.addi c0_i32_83 v193
  let c1_i32_86 : BitVec 32 := 1#32
  ⟨v197, v194, c1_i32_86⟩
def k0_mult2 (i : grid0.Coords) (k0_t2 : Fin (k0_t2_loop i).trips) : BitVec 32 :=
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c512_i32_420 : BitVec 32 := 512#32
  let v691 : BitVec 32 := Scalar.muli arg24 c512_i32_420
  v691
def k0_off35 (i : grid0.Coords) (k0_t2 : Fin (k0_t2_loop i).trips) : Fin 2 → Nat :=
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c512_i32_420 : BitVec 32 := 512#32
  let v691 : BitVec 32 := Scalar.muli arg24 c512_i32_420
  let v692 : BitVec 32 := v691
  let v693 : Index := Scalar.indexCast v692
  let c0_421 : Index := 0#32
  ![v693.toNat, 0]
def k0_off36 (i : grid0.Coords) (k0_t2 : Fin (k0_t2_loop i).trips) : Fin 3 → Nat :=
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let v754 : Index := Scalar.indexCast arg24
  let c0_434 : Index := 0#32
  let c0_435 : Index := 0#32
  ![v754.toNat, 0, 0]
def k0_off37 (i : grid0.Coords) (k0_t2 : Fin (k0_t2_loop i).trips) (c0_i32_674 : BitVec 32) : Fin 4 → Nat :=
  let c0_675 : Index := 0#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_673 : BitVec 32 := 2#32
  let v1516 : BitVec 32 := Scalar.muli arg24 c2_i32_673
  let v1517 : BitVec 32 := Scalar.addi v1516 c0_i32_674
  let v1518 : Index := Scalar.indexCast v1517
  let c0_676 : Index := 0#32
  let c0_677 : Index := 0#32
  ![0, v1518.toNat, 0, 0]
def k0_off38 (i : grid0.Coords) (k0_t2 : Fin (k0_t2_loop i).trips) (c0_i32_679 : BitVec 32) : Fin 4 → Nat :=
  let c1_680 : Index := 1#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_678 : BitVec 32 := 2#32
  let v1522 : BitVec 32 := Scalar.muli arg24 c2_i32_678
  let v1523 : BitVec 32 := Scalar.addi v1522 c0_i32_679
  let v1524 : Index := Scalar.indexCast v1523
  let c0_681 : Index := 0#32
  let c0_682 : Index := 0#32
  ![1, v1524.toNat, 0, 0]
def k0_off39 (i : grid0.Coords) (k0_t2 : Fin (k0_t2_loop i).trips) (c0_i32_684 : BitVec 32) : Fin 4 → Nat :=
  let c2_685 : Index := 2#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_683 : BitVec 32 := 2#32
  let v1528 : BitVec 32 := Scalar.muli arg24 c2_i32_683
  let v1529 : BitVec 32 := Scalar.addi v1528 c0_i32_684
  let v1530 : Index := Scalar.indexCast v1529
  let c0_686 : Index := 0#32
  let c0_687 : Index := 0#32
  ![2, v1530.toNat, 0, 0]
def k0_off40 (i : grid0.Coords) (k0_t2 : Fin (k0_t2_loop i).trips) (c0_i32_689 : BitVec 32) : Fin 4 → Nat :=
  let c3_690 : Index := 3#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_688 : BitVec 32 := 2#32
  let v1534 : BitVec 32 := Scalar.muli arg24 c2_i32_688
  let v1535 : BitVec 32 := Scalar.addi v1534 c0_i32_689
  let v1536 : Index := Scalar.indexCast v1535
  let c0_691 : Index := 0#32
  let c0_692 : Index := 0#32
  ![3, v1536.toNat, 0, 0]
def k0_off41 (i : grid0.Coords) (k0_t2 : Fin (k0_t2_loop i).trips) (c0_i32_694 : BitVec 32) : Fin 4 → Nat :=
  let c4_695 : Index := 4#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_693 : BitVec 32 := 2#32
  let v1540 : BitVec 32 := Scalar.muli arg24 c2_i32_693
  let v1541 : BitVec 32 := Scalar.addi v1540 c0_i32_694
  let v1542 : Index := Scalar.indexCast v1541
  let c0_696 : Index := 0#32
  let c0_697 : Index := 0#32
  ![4, v1542.toNat, 0, 0]
def k0_off42 (i : grid0.Coords) (k0_t2 : Fin (k0_t2_loop i).trips) (c0_i32_699 : BitVec 32) : Fin 4 → Nat :=
  let c5_700 : Index := 5#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_698 : BitVec 32 := 2#32
  let v1546 : BitVec 32 := Scalar.muli arg24 c2_i32_698
  let v1547 : BitVec 32 := Scalar.addi v1546 c0_i32_699
  let v1548 : Index := Scalar.indexCast v1547
  let c0_701 : Index := 0#32
  let c0_702 : Index := 0#32
  ![5, v1548.toNat, 0, 0]
def k0_off43 (i : grid0.Coords) (k0_t2 : Fin (k0_t2_loop i).trips) (c0_i32_704 : BitVec 32) : Fin 4 → Nat :=
  let c6_705 : Index := 6#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_703 : BitVec 32 := 2#32
  let v1552 : BitVec 32 := Scalar.muli arg24 c2_i32_703
  let v1553 : BitVec 32 := Scalar.addi v1552 c0_i32_704
  let v1554 : Index := Scalar.indexCast v1553
  let c0_706 : Index := 0#32
  let c0_707 : Index := 0#32
  ![6, v1554.toNat, 0, 0]
def k0_off44 (i : grid0.Coords) (k0_t2 : Fin (k0_t2_loop i).trips) (c0_i32_709 : BitVec 32) : Fin 4 → Nat :=
  let c7_710 : Index := 7#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_708 : BitVec 32 := 2#32
  let v1558 : BitVec 32 := Scalar.muli arg24 c2_i32_708
  let v1559 : BitVec 32 := Scalar.addi v1558 c0_i32_709
  let v1560 : Index := Scalar.indexCast v1559
  let c0_711 : Index := 0#32
  let c0_712 : Index := 0#32
  ![7, v1560.toNat, 0, 0]
def k0_off45 (i : grid0.Coords) (k0_t2 : Fin (k0_t2_loop i).trips) (c0_i32_714 : BitVec 32) : Fin 4 → Nat :=
  let c8_715 : Index := 8#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_713 : BitVec 32 := 2#32
  let v1564 : BitVec 32 := Scalar.muli arg24 c2_i32_713
  let v1565 : BitVec 32 := Scalar.addi v1564 c0_i32_714
  let v1566 : Index := Scalar.indexCast v1565
  let c0_716 : Index := 0#32
  let c0_717 : Index := 0#32
  ![8, v1566.toNat, 0, 0]
def k0_off46 (i : grid0.Coords) (k0_t2 : Fin (k0_t2_loop i).trips) (c0_i32_719 : BitVec 32) : Fin 4 → Nat :=
  let c9_720 : Index := 9#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_718 : BitVec 32 := 2#32
  let v1570 : BitVec 32 := Scalar.muli arg24 c2_i32_718
  let v1571 : BitVec 32 := Scalar.addi v1570 c0_i32_719
  let v1572 : Index := Scalar.indexCast v1571
  let c0_721 : Index := 0#32
  let c0_722 : Index := 0#32
  ![9, v1572.toNat, 0, 0]
def k0_off47 (i : grid0.Coords) (k0_t2 : Fin (k0_t2_loop i).trips) (c0_i32_724 : BitVec 32) : Fin 4 → Nat :=
  let c10_725 : Index := 10#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_723 : BitVec 32 := 2#32
  let v1576 : BitVec 32 := Scalar.muli arg24 c2_i32_723
  let v1577 : BitVec 32 := Scalar.addi v1576 c0_i32_724
  let v1578 : Index := Scalar.indexCast v1577
  let c0_726 : Index := 0#32
  let c0_727 : Index := 0#32
  ![10, v1578.toNat, 0, 0]
def k0_off48 (i : grid0.Coords) (k0_t2 : Fin (k0_t2_loop i).trips) (c0_i32_729 : BitVec 32) : Fin 4 → Nat :=
  let c11_730 : Index := 11#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_728 : BitVec 32 := 2#32
  let v1582 : BitVec 32 := Scalar.muli arg24 c2_i32_728
  let v1583 : BitVec 32 := Scalar.addi v1582 c0_i32_729
  let v1584 : Index := Scalar.indexCast v1583
  let c0_731 : Index := 0#32
  let c0_732 : Index := 0#32
  ![11, v1584.toNat, 0, 0]
def k0_off49 (i : grid0.Coords) (k0_t2 : Fin (k0_t2_loop i).trips) (c0_i32_734 : BitVec 32) : Fin 4 → Nat :=
  let c12_735 : Index := 12#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_733 : BitVec 32 := 2#32
  let v1588 : BitVec 32 := Scalar.muli arg24 c2_i32_733
  let v1589 : BitVec 32 := Scalar.addi v1588 c0_i32_734
  let v1590 : Index := Scalar.indexCast v1589
  let c0_736 : Index := 0#32
  let c0_737 : Index := 0#32
  ![12, v1590.toNat, 0, 0]
def k0_off50 (i : grid0.Coords) (k0_t2 : Fin (k0_t2_loop i).trips) (c0_i32_739 : BitVec 32) : Fin 4 → Nat :=
  let c13_740 : Index := 13#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_738 : BitVec 32 := 2#32
  let v1594 : BitVec 32 := Scalar.muli arg24 c2_i32_738
  let v1595 : BitVec 32 := Scalar.addi v1594 c0_i32_739
  let v1596 : Index := Scalar.indexCast v1595
  let c0_741 : Index := 0#32
  let c0_742 : Index := 0#32
  ![13, v1596.toNat, 0, 0]
def k0_off51 (i : grid0.Coords) (k0_t2 : Fin (k0_t2_loop i).trips) (c0_i32_744 : BitVec 32) : Fin 4 → Nat :=
  let c14_745 : Index := 14#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_743 : BitVec 32 := 2#32
  let v1600 : BitVec 32 := Scalar.muli arg24 c2_i32_743
  let v1601 : BitVec 32 := Scalar.addi v1600 c0_i32_744
  let v1602 : Index := Scalar.indexCast v1601
  let c0_746 : Index := 0#32
  let c0_747 : Index := 0#32
  ![14, v1602.toNat, 0, 0]
def k0_off52 (i : grid0.Coords) (k0_t2 : Fin (k0_t2_loop i).trips) (c0_i32_749 : BitVec 32) : Fin 4 → Nat :=
  let c15_750 : Index := 15#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_748 : BitVec 32 := 2#32
  let v1606 : BitVec 32 := Scalar.muli arg24 c2_i32_748
  let v1607 : BitVec 32 := Scalar.addi v1606 c0_i32_749
  let v1608 : Index := Scalar.indexCast v1607
  let c0_751 : Index := 0#32
  let c0_752 : Index := 0#32
  ![15, v1608.toNat, 0, 0]
def k0_off53 (i : grid0.Coords) (k0_t2 : Fin (k0_t2_loop i).trips) (c0_i32_754 : BitVec 32) : Fin 4 → Nat :=
  let c16_755 : Index := 16#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_753 : BitVec 32 := 2#32
  let v1612 : BitVec 32 := Scalar.muli arg24 c2_i32_753
  let v1613 : BitVec 32 := Scalar.addi v1612 c0_i32_754
  let v1614 : Index := Scalar.indexCast v1613
  let c0_756 : Index := 0#32
  let c0_757 : Index := 0#32
  ![16, v1614.toNat, 0, 0]
def k0_off54 (i : grid0.Coords) (k0_t2 : Fin (k0_t2_loop i).trips) (c0_i32_759 : BitVec 32) : Fin 4 → Nat :=
  let c17_760 : Index := 17#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_758 : BitVec 32 := 2#32
  let v1618 : BitVec 32 := Scalar.muli arg24 c2_i32_758
  let v1619 : BitVec 32 := Scalar.addi v1618 c0_i32_759
  let v1620 : Index := Scalar.indexCast v1619
  let c0_761 : Index := 0#32
  let c0_762 : Index := 0#32
  ![17, v1620.toNat, 0, 0]
def k0_off55 (i : grid0.Coords) (k0_t2 : Fin (k0_t2_loop i).trips) (c0_i32_764 : BitVec 32) : Fin 4 → Nat :=
  let c18_765 : Index := 18#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_763 : BitVec 32 := 2#32
  let v1624 : BitVec 32 := Scalar.muli arg24 c2_i32_763
  let v1625 : BitVec 32 := Scalar.addi v1624 c0_i32_764
  let v1626 : Index := Scalar.indexCast v1625
  let c0_766 : Index := 0#32
  let c0_767 : Index := 0#32
  ![18, v1626.toNat, 0, 0]
def k0_off56 (i : grid0.Coords) (k0_t2 : Fin (k0_t2_loop i).trips) (c0_i32_769 : BitVec 32) : Fin 4 → Nat :=
  let c19_770 : Index := 19#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_768 : BitVec 32 := 2#32
  let v1630 : BitVec 32 := Scalar.muli arg24 c2_i32_768
  let v1631 : BitVec 32 := Scalar.addi v1630 c0_i32_769
  let v1632 : Index := Scalar.indexCast v1631
  let c0_771 : Index := 0#32
  let c0_772 : Index := 0#32
  ![19, v1632.toNat, 0, 0]
def k0_off57 (i : grid0.Coords) (k0_t2 : Fin (k0_t2_loop i).trips) (c0_i32_774 : BitVec 32) : Fin 4 → Nat :=
  let c20_775 : Index := 20#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_773 : BitVec 32 := 2#32
  let v1636 : BitVec 32 := Scalar.muli arg24 c2_i32_773
  let v1637 : BitVec 32 := Scalar.addi v1636 c0_i32_774
  let v1638 : Index := Scalar.indexCast v1637
  let c0_776 : Index := 0#32
  let c0_777 : Index := 0#32
  ![20, v1638.toNat, 0, 0]
def k0_off58 (i : grid0.Coords) (k0_t2 : Fin (k0_t2_loop i).trips) (c0_i32_779 : BitVec 32) : Fin 4 → Nat :=
  let c21_780 : Index := 21#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_778 : BitVec 32 := 2#32
  let v1642 : BitVec 32 := Scalar.muli arg24 c2_i32_778
  let v1643 : BitVec 32 := Scalar.addi v1642 c0_i32_779
  let v1644 : Index := Scalar.indexCast v1643
  let c0_781 : Index := 0#32
  let c0_782 : Index := 0#32
  ![21, v1644.toNat, 0, 0]
def k0_off59 (i : grid0.Coords) (k0_t2 : Fin (k0_t2_loop i).trips) (c0_i32_784 : BitVec 32) : Fin 4 → Nat :=
  let c22_785 : Index := 22#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_783 : BitVec 32 := 2#32
  let v1648 : BitVec 32 := Scalar.muli arg24 c2_i32_783
  let v1649 : BitVec 32 := Scalar.addi v1648 c0_i32_784
  let v1650 : Index := Scalar.indexCast v1649
  let c0_786 : Index := 0#32
  let c0_787 : Index := 0#32
  ![22, v1650.toNat, 0, 0]
def k0_off60 (i : grid0.Coords) (k0_t2 : Fin (k0_t2_loop i).trips) (c0_i32_789 : BitVec 32) : Fin 4 → Nat :=
  let c23_790 : Index := 23#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_788 : BitVec 32 := 2#32
  let v1654 : BitVec 32 := Scalar.muli arg24 c2_i32_788
  let v1655 : BitVec 32 := Scalar.addi v1654 c0_i32_789
  let v1656 : Index := Scalar.indexCast v1655
  let c0_791 : Index := 0#32
  let c0_792 : Index := 0#32
  ![23, v1656.toNat, 0, 0]
def k0_off61 (i : grid0.Coords) (k0_t2 : Fin (k0_t2_loop i).trips) (c0_i32_794 : BitVec 32) : Fin 4 → Nat :=
  let c24_795 : Index := 24#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_793 : BitVec 32 := 2#32
  let v1660 : BitVec 32 := Scalar.muli arg24 c2_i32_793
  let v1661 : BitVec 32 := Scalar.addi v1660 c0_i32_794
  let v1662 : Index := Scalar.indexCast v1661
  let c0_796 : Index := 0#32
  let c0_797 : Index := 0#32
  ![24, v1662.toNat, 0, 0]
def k0_off62 (i : grid0.Coords) (k0_t2 : Fin (k0_t2_loop i).trips) (c0_i32_799 : BitVec 32) : Fin 4 → Nat :=
  let c25_800 : Index := 25#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_798 : BitVec 32 := 2#32
  let v1666 : BitVec 32 := Scalar.muli arg24 c2_i32_798
  let v1667 : BitVec 32 := Scalar.addi v1666 c0_i32_799
  let v1668 : Index := Scalar.indexCast v1667
  let c0_801 : Index := 0#32
  let c0_802 : Index := 0#32
  ![25, v1668.toNat, 0, 0]
def k0_off63 (i : grid0.Coords) (k0_t2 : Fin (k0_t2_loop i).trips) (c0_i32_804 : BitVec 32) : Fin 4 → Nat :=
  let c26_805 : Index := 26#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_803 : BitVec 32 := 2#32
  let v1672 : BitVec 32 := Scalar.muli arg24 c2_i32_803
  let v1673 : BitVec 32 := Scalar.addi v1672 c0_i32_804
  let v1674 : Index := Scalar.indexCast v1673
  let c0_806 : Index := 0#32
  let c0_807 : Index := 0#32
  ![26, v1674.toNat, 0, 0]
def k0_off64 (i : grid0.Coords) (k0_t2 : Fin (k0_t2_loop i).trips) (c0_i32_809 : BitVec 32) : Fin 4 → Nat :=
  let c27_810 : Index := 27#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_808 : BitVec 32 := 2#32
  let v1678 : BitVec 32 := Scalar.muli arg24 c2_i32_808
  let v1679 : BitVec 32 := Scalar.addi v1678 c0_i32_809
  let v1680 : Index := Scalar.indexCast v1679
  let c0_811 : Index := 0#32
  let c0_812 : Index := 0#32
  ![27, v1680.toNat, 0, 0]
def k0_off65 (i : grid0.Coords) (k0_t2 : Fin (k0_t2_loop i).trips) (c0_i32_814 : BitVec 32) : Fin 4 → Nat :=
  let c28_815 : Index := 28#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_813 : BitVec 32 := 2#32
  let v1684 : BitVec 32 := Scalar.muli arg24 c2_i32_813
  let v1685 : BitVec 32 := Scalar.addi v1684 c0_i32_814
  let v1686 : Index := Scalar.indexCast v1685
  let c0_816 : Index := 0#32
  let c0_817 : Index := 0#32
  ![28, v1686.toNat, 0, 0]
def k0_off66 (i : grid0.Coords) (k0_t2 : Fin (k0_t2_loop i).trips) (c0_i32_819 : BitVec 32) : Fin 4 → Nat :=
  let c29_820 : Index := 29#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_818 : BitVec 32 := 2#32
  let v1690 : BitVec 32 := Scalar.muli arg24 c2_i32_818
  let v1691 : BitVec 32 := Scalar.addi v1690 c0_i32_819
  let v1692 : Index := Scalar.indexCast v1691
  let c0_821 : Index := 0#32
  let c0_822 : Index := 0#32
  ![29, v1692.toNat, 0, 0]
def k0_off67 (i : grid0.Coords) (k0_t2 : Fin (k0_t2_loop i).trips) (c0_i32_824 : BitVec 32) : Fin 4 → Nat :=
  let c30_825 : Index := 30#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_823 : BitVec 32 := 2#32
  let v1696 : BitVec 32 := Scalar.muli arg24 c2_i32_823
  let v1697 : BitVec 32 := Scalar.addi v1696 c0_i32_824
  let v1698 : Index := Scalar.indexCast v1697
  let c0_826 : Index := 0#32
  let c0_827 : Index := 0#32
  ![30, v1698.toNat, 0, 0]
def k0_off68 (i : grid0.Coords) (k0_t2 : Fin (k0_t2_loop i).trips) (c0_i32_829 : BitVec 32) : Fin 4 → Nat :=
  let c31_830 : Index := 31#32
  let c0_i32_83 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v193 : BitVec 32 := Scalar.subi v188 c0_i32_83
  let c1_i32_84 : BitVec 32 := 1#32
  let v195 : BitVec 32 := Scalar.divsi v193 c1_i32_84
  let v196 : BitVec 32 := Scalar.muli v195 c1_i32_84
  let v197 : BitVec 32 := Scalar.addi c0_i32_83 v196
  let c1_i32_86 : BitVec 32 := 1#32
  let arg24 : BitVec 32 := Scf.iv v197 c1_i32_86 k0_t2
  let c2_i32_828 : BitVec 32 := 2#32
  let v1702 : BitVec 32 := Scalar.muli arg24 c2_i32_828
  let v1703 : BitVec 32 := Scalar.addi v1702 c0_i32_829
  let v1704 : Index := Scalar.indexCast v1703
  let c0_831 : Index := 0#32
  let c0_832 : Index := 0#32
  ![31, v1704.toNat, 0, 0]
def k0_cond2 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_87 : BitVec 32 := 512#32
  let v198 : BitVec 32 := Scalar.muli v188 c512_i32_87
  let v199 : BitVec 32 := Scalar.subi v171 v198
  let c256_i32_88 : BitVec 32 := 256#32
  let v200 : BitVec 32 := Scalar.addi v199 c256_i32_88
  let c256_i32_89 : BitVec 32 := 256#32
  let v201 : BitVec 1 := Scalar.cmpi .eq v200 c256_i32_89
  let v202 : BitVec 32 := Scalar.extui v201
  let c0_i32_90 : BitVec 32 := 0#32
  let v203 : BitVec 1 := Scalar.cmpi .ne v202 c0_i32_90
  v203

def k0_mult3 (i : grid0.Coords) : BitVec 32 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  v691
def k0_off69 (i : grid0.Coords) : Fin 2 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  let v692 : BitVec 32 := v691
  let v693 : Index := Scalar.indexCast v692
  let c0_421 : Index := 0#32
  ![v693.toNat, 0]
def k0_off70 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v764 : Index := Scalar.indexCast v188
  let c0_436 : Index := 0#32
  let c0_437 : Index := 0#32
  ![v764.toNat, 0, 0]
def k0_off71 (i : grid0.Coords) (c0_i32_676 : BitVec 32) : Fin 4 → Nat :=
  let c0_677 : Index := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_675 : BitVec 32 := 2#32
  let v1526 : BitVec 32 := Scalar.muli v188 c2_i32_675
  let v1527 : BitVec 32 := Scalar.addi v1526 c0_i32_676
  let v1528 : Index := Scalar.indexCast v1527
  let c0_678 : Index := 0#32
  let c0_679 : Index := 0#32
  ![0, v1528.toNat, 0, 0]
def k0_off72 (i : grid0.Coords) (c0_i32_681 : BitVec 32) : Fin 4 → Nat :=
  let c1_682 : Index := 1#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_680 : BitVec 32 := 2#32
  let v1532 : BitVec 32 := Scalar.muli v188 c2_i32_680
  let v1533 : BitVec 32 := Scalar.addi v1532 c0_i32_681
  let v1534 : Index := Scalar.indexCast v1533
  let c0_683 : Index := 0#32
  let c0_684 : Index := 0#32
  ![1, v1534.toNat, 0, 0]
def k0_off73 (i : grid0.Coords) (c0_i32_686 : BitVec 32) : Fin 4 → Nat :=
  let c2_687 : Index := 2#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_685 : BitVec 32 := 2#32
  let v1538 : BitVec 32 := Scalar.muli v188 c2_i32_685
  let v1539 : BitVec 32 := Scalar.addi v1538 c0_i32_686
  let v1540 : Index := Scalar.indexCast v1539
  let c0_688 : Index := 0#32
  let c0_689 : Index := 0#32
  ![2, v1540.toNat, 0, 0]
def k0_off74 (i : grid0.Coords) (c0_i32_691 : BitVec 32) : Fin 4 → Nat :=
  let c3_692 : Index := 3#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_690 : BitVec 32 := 2#32
  let v1544 : BitVec 32 := Scalar.muli v188 c2_i32_690
  let v1545 : BitVec 32 := Scalar.addi v1544 c0_i32_691
  let v1546 : Index := Scalar.indexCast v1545
  let c0_693 : Index := 0#32
  let c0_694 : Index := 0#32
  ![3, v1546.toNat, 0, 0]
def k0_off75 (i : grid0.Coords) (c0_i32_696 : BitVec 32) : Fin 4 → Nat :=
  let c4_697 : Index := 4#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_695 : BitVec 32 := 2#32
  let v1550 : BitVec 32 := Scalar.muli v188 c2_i32_695
  let v1551 : BitVec 32 := Scalar.addi v1550 c0_i32_696
  let v1552 : Index := Scalar.indexCast v1551
  let c0_698 : Index := 0#32
  let c0_699 : Index := 0#32
  ![4, v1552.toNat, 0, 0]
def k0_off76 (i : grid0.Coords) (c0_i32_701 : BitVec 32) : Fin 4 → Nat :=
  let c5_702 : Index := 5#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_700 : BitVec 32 := 2#32
  let v1556 : BitVec 32 := Scalar.muli v188 c2_i32_700
  let v1557 : BitVec 32 := Scalar.addi v1556 c0_i32_701
  let v1558 : Index := Scalar.indexCast v1557
  let c0_703 : Index := 0#32
  let c0_704 : Index := 0#32
  ![5, v1558.toNat, 0, 0]
def k0_off77 (i : grid0.Coords) (c0_i32_706 : BitVec 32) : Fin 4 → Nat :=
  let c6_707 : Index := 6#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_705 : BitVec 32 := 2#32
  let v1562 : BitVec 32 := Scalar.muli v188 c2_i32_705
  let v1563 : BitVec 32 := Scalar.addi v1562 c0_i32_706
  let v1564 : Index := Scalar.indexCast v1563
  let c0_708 : Index := 0#32
  let c0_709 : Index := 0#32
  ![6, v1564.toNat, 0, 0]
def k0_off78 (i : grid0.Coords) (c0_i32_711 : BitVec 32) : Fin 4 → Nat :=
  let c7_712 : Index := 7#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_710 : BitVec 32 := 2#32
  let v1568 : BitVec 32 := Scalar.muli v188 c2_i32_710
  let v1569 : BitVec 32 := Scalar.addi v1568 c0_i32_711
  let v1570 : Index := Scalar.indexCast v1569
  let c0_713 : Index := 0#32
  let c0_714 : Index := 0#32
  ![7, v1570.toNat, 0, 0]
def k0_off79 (i : grid0.Coords) (c0_i32_716 : BitVec 32) : Fin 4 → Nat :=
  let c8_717 : Index := 8#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_715 : BitVec 32 := 2#32
  let v1574 : BitVec 32 := Scalar.muli v188 c2_i32_715
  let v1575 : BitVec 32 := Scalar.addi v1574 c0_i32_716
  let v1576 : Index := Scalar.indexCast v1575
  let c0_718 : Index := 0#32
  let c0_719 : Index := 0#32
  ![8, v1576.toNat, 0, 0]
def k0_off80 (i : grid0.Coords) (c0_i32_721 : BitVec 32) : Fin 4 → Nat :=
  let c9_722 : Index := 9#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_720 : BitVec 32 := 2#32
  let v1580 : BitVec 32 := Scalar.muli v188 c2_i32_720
  let v1581 : BitVec 32 := Scalar.addi v1580 c0_i32_721
  let v1582 : Index := Scalar.indexCast v1581
  let c0_723 : Index := 0#32
  let c0_724 : Index := 0#32
  ![9, v1582.toNat, 0, 0]
def k0_off81 (i : grid0.Coords) (c0_i32_726 : BitVec 32) : Fin 4 → Nat :=
  let c10_727 : Index := 10#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_725 : BitVec 32 := 2#32
  let v1586 : BitVec 32 := Scalar.muli v188 c2_i32_725
  let v1587 : BitVec 32 := Scalar.addi v1586 c0_i32_726
  let v1588 : Index := Scalar.indexCast v1587
  let c0_728 : Index := 0#32
  let c0_729 : Index := 0#32
  ![10, v1588.toNat, 0, 0]
def k0_off82 (i : grid0.Coords) (c0_i32_731 : BitVec 32) : Fin 4 → Nat :=
  let c11_732 : Index := 11#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_730 : BitVec 32 := 2#32
  let v1592 : BitVec 32 := Scalar.muli v188 c2_i32_730
  let v1593 : BitVec 32 := Scalar.addi v1592 c0_i32_731
  let v1594 : Index := Scalar.indexCast v1593
  let c0_733 : Index := 0#32
  let c0_734 : Index := 0#32
  ![11, v1594.toNat, 0, 0]
def k0_off83 (i : grid0.Coords) (c0_i32_736 : BitVec 32) : Fin 4 → Nat :=
  let c12_737 : Index := 12#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_735 : BitVec 32 := 2#32
  let v1598 : BitVec 32 := Scalar.muli v188 c2_i32_735
  let v1599 : BitVec 32 := Scalar.addi v1598 c0_i32_736
  let v1600 : Index := Scalar.indexCast v1599
  let c0_738 : Index := 0#32
  let c0_739 : Index := 0#32
  ![12, v1600.toNat, 0, 0]
def k0_off84 (i : grid0.Coords) (c0_i32_741 : BitVec 32) : Fin 4 → Nat :=
  let c13_742 : Index := 13#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_740 : BitVec 32 := 2#32
  let v1604 : BitVec 32 := Scalar.muli v188 c2_i32_740
  let v1605 : BitVec 32 := Scalar.addi v1604 c0_i32_741
  let v1606 : Index := Scalar.indexCast v1605
  let c0_743 : Index := 0#32
  let c0_744 : Index := 0#32
  ![13, v1606.toNat, 0, 0]
def k0_off85 (i : grid0.Coords) (c0_i32_746 : BitVec 32) : Fin 4 → Nat :=
  let c14_747 : Index := 14#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_745 : BitVec 32 := 2#32
  let v1610 : BitVec 32 := Scalar.muli v188 c2_i32_745
  let v1611 : BitVec 32 := Scalar.addi v1610 c0_i32_746
  let v1612 : Index := Scalar.indexCast v1611
  let c0_748 : Index := 0#32
  let c0_749 : Index := 0#32
  ![14, v1612.toNat, 0, 0]
def k0_off86 (i : grid0.Coords) (c0_i32_751 : BitVec 32) : Fin 4 → Nat :=
  let c15_752 : Index := 15#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_750 : BitVec 32 := 2#32
  let v1616 : BitVec 32 := Scalar.muli v188 c2_i32_750
  let v1617 : BitVec 32 := Scalar.addi v1616 c0_i32_751
  let v1618 : Index := Scalar.indexCast v1617
  let c0_753 : Index := 0#32
  let c0_754 : Index := 0#32
  ![15, v1618.toNat, 0, 0]
def k0_off87 (i : grid0.Coords) (c0_i32_756 : BitVec 32) : Fin 4 → Nat :=
  let c16_757 : Index := 16#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_755 : BitVec 32 := 2#32
  let v1622 : BitVec 32 := Scalar.muli v188 c2_i32_755
  let v1623 : BitVec 32 := Scalar.addi v1622 c0_i32_756
  let v1624 : Index := Scalar.indexCast v1623
  let c0_758 : Index := 0#32
  let c0_759 : Index := 0#32
  ![16, v1624.toNat, 0, 0]
def k0_off88 (i : grid0.Coords) (c0_i32_761 : BitVec 32) : Fin 4 → Nat :=
  let c17_762 : Index := 17#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_760 : BitVec 32 := 2#32
  let v1628 : BitVec 32 := Scalar.muli v188 c2_i32_760
  let v1629 : BitVec 32 := Scalar.addi v1628 c0_i32_761
  let v1630 : Index := Scalar.indexCast v1629
  let c0_763 : Index := 0#32
  let c0_764 : Index := 0#32
  ![17, v1630.toNat, 0, 0]
def k0_off89 (i : grid0.Coords) (c0_i32_766 : BitVec 32) : Fin 4 → Nat :=
  let c18_767 : Index := 18#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_765 : BitVec 32 := 2#32
  let v1634 : BitVec 32 := Scalar.muli v188 c2_i32_765
  let v1635 : BitVec 32 := Scalar.addi v1634 c0_i32_766
  let v1636 : Index := Scalar.indexCast v1635
  let c0_768 : Index := 0#32
  let c0_769 : Index := 0#32
  ![18, v1636.toNat, 0, 0]
def k0_off90 (i : grid0.Coords) (c0_i32_771 : BitVec 32) : Fin 4 → Nat :=
  let c19_772 : Index := 19#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_770 : BitVec 32 := 2#32
  let v1640 : BitVec 32 := Scalar.muli v188 c2_i32_770
  let v1641 : BitVec 32 := Scalar.addi v1640 c0_i32_771
  let v1642 : Index := Scalar.indexCast v1641
  let c0_773 : Index := 0#32
  let c0_774 : Index := 0#32
  ![19, v1642.toNat, 0, 0]
def k0_off91 (i : grid0.Coords) (c0_i32_776 : BitVec 32) : Fin 4 → Nat :=
  let c20_777 : Index := 20#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_775 : BitVec 32 := 2#32
  let v1646 : BitVec 32 := Scalar.muli v188 c2_i32_775
  let v1647 : BitVec 32 := Scalar.addi v1646 c0_i32_776
  let v1648 : Index := Scalar.indexCast v1647
  let c0_778 : Index := 0#32
  let c0_779 : Index := 0#32
  ![20, v1648.toNat, 0, 0]
def k0_off92 (i : grid0.Coords) (c0_i32_781 : BitVec 32) : Fin 4 → Nat :=
  let c21_782 : Index := 21#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_780 : BitVec 32 := 2#32
  let v1652 : BitVec 32 := Scalar.muli v188 c2_i32_780
  let v1653 : BitVec 32 := Scalar.addi v1652 c0_i32_781
  let v1654 : Index := Scalar.indexCast v1653
  let c0_783 : Index := 0#32
  let c0_784 : Index := 0#32
  ![21, v1654.toNat, 0, 0]
def k0_off93 (i : grid0.Coords) (c0_i32_786 : BitVec 32) : Fin 4 → Nat :=
  let c22_787 : Index := 22#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_785 : BitVec 32 := 2#32
  let v1658 : BitVec 32 := Scalar.muli v188 c2_i32_785
  let v1659 : BitVec 32 := Scalar.addi v1658 c0_i32_786
  let v1660 : Index := Scalar.indexCast v1659
  let c0_788 : Index := 0#32
  let c0_789 : Index := 0#32
  ![22, v1660.toNat, 0, 0]
def k0_off94 (i : grid0.Coords) (c0_i32_791 : BitVec 32) : Fin 4 → Nat :=
  let c23_792 : Index := 23#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_790 : BitVec 32 := 2#32
  let v1664 : BitVec 32 := Scalar.muli v188 c2_i32_790
  let v1665 : BitVec 32 := Scalar.addi v1664 c0_i32_791
  let v1666 : Index := Scalar.indexCast v1665
  let c0_793 : Index := 0#32
  let c0_794 : Index := 0#32
  ![23, v1666.toNat, 0, 0]
def k0_off95 (i : grid0.Coords) (c0_i32_796 : BitVec 32) : Fin 4 → Nat :=
  let c24_797 : Index := 24#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_795 : BitVec 32 := 2#32
  let v1670 : BitVec 32 := Scalar.muli v188 c2_i32_795
  let v1671 : BitVec 32 := Scalar.addi v1670 c0_i32_796
  let v1672 : Index := Scalar.indexCast v1671
  let c0_798 : Index := 0#32
  let c0_799 : Index := 0#32
  ![24, v1672.toNat, 0, 0]
def k0_off96 (i : grid0.Coords) (c0_i32_801 : BitVec 32) : Fin 4 → Nat :=
  let c25_802 : Index := 25#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_800 : BitVec 32 := 2#32
  let v1676 : BitVec 32 := Scalar.muli v188 c2_i32_800
  let v1677 : BitVec 32 := Scalar.addi v1676 c0_i32_801
  let v1678 : Index := Scalar.indexCast v1677
  let c0_803 : Index := 0#32
  let c0_804 : Index := 0#32
  ![25, v1678.toNat, 0, 0]
def k0_off97 (i : grid0.Coords) (c0_i32_806 : BitVec 32) : Fin 4 → Nat :=
  let c26_807 : Index := 26#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_805 : BitVec 32 := 2#32
  let v1682 : BitVec 32 := Scalar.muli v188 c2_i32_805
  let v1683 : BitVec 32 := Scalar.addi v1682 c0_i32_806
  let v1684 : Index := Scalar.indexCast v1683
  let c0_808 : Index := 0#32
  let c0_809 : Index := 0#32
  ![26, v1684.toNat, 0, 0]
def k0_off98 (i : grid0.Coords) (c0_i32_811 : BitVec 32) : Fin 4 → Nat :=
  let c27_812 : Index := 27#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_810 : BitVec 32 := 2#32
  let v1688 : BitVec 32 := Scalar.muli v188 c2_i32_810
  let v1689 : BitVec 32 := Scalar.addi v1688 c0_i32_811
  let v1690 : Index := Scalar.indexCast v1689
  let c0_813 : Index := 0#32
  let c0_814 : Index := 0#32
  ![27, v1690.toNat, 0, 0]
def k0_off99 (i : grid0.Coords) (c0_i32_816 : BitVec 32) : Fin 4 → Nat :=
  let c28_817 : Index := 28#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_815 : BitVec 32 := 2#32
  let v1694 : BitVec 32 := Scalar.muli v188 c2_i32_815
  let v1695 : BitVec 32 := Scalar.addi v1694 c0_i32_816
  let v1696 : Index := Scalar.indexCast v1695
  let c0_818 : Index := 0#32
  let c0_819 : Index := 0#32
  ![28, v1696.toNat, 0, 0]
def k0_off100 (i : grid0.Coords) (c0_i32_821 : BitVec 32) : Fin 4 → Nat :=
  let c29_822 : Index := 29#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_820 : BitVec 32 := 2#32
  let v1700 : BitVec 32 := Scalar.muli v188 c2_i32_820
  let v1701 : BitVec 32 := Scalar.addi v1700 c0_i32_821
  let v1702 : Index := Scalar.indexCast v1701
  let c0_823 : Index := 0#32
  let c0_824 : Index := 0#32
  ![29, v1702.toNat, 0, 0]
def k0_off101 (i : grid0.Coords) (c0_i32_826 : BitVec 32) : Fin 4 → Nat :=
  let c30_827 : Index := 30#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_825 : BitVec 32 := 2#32
  let v1706 : BitVec 32 := Scalar.muli v188 c2_i32_825
  let v1707 : BitVec 32 := Scalar.addi v1706 c0_i32_826
  let v1708 : Index := Scalar.indexCast v1707
  let c0_828 : Index := 0#32
  let c0_829 : Index := 0#32
  ![30, v1708.toNat, 0, 0]
def k0_off102 (i : grid0.Coords) (c0_i32_831 : BitVec 32) : Fin 4 → Nat :=
  let c31_832 : Index := 31#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_830 : BitVec 32 := 2#32
  let v1712 : BitVec 32 := Scalar.muli v188 c2_i32_830
  let v1713 : BitVec 32 := Scalar.addi v1712 c0_i32_831
  let v1714 : Index := Scalar.indexCast v1713
  let c0_833 : Index := 0#32
  let c0_834 : Index := 0#32
  ![31, v1714.toNat, 0, 0]
def k0_off103 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v1719 : Index := Scalar.indexCast v188
  let c256_836 : Index := 256#32
  let c0_837 : Index := 0#32
  ![v1719.toNat, 256, 0]
def k0_cond3 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_87 : BitVec 32 := 512#32
  let v198 : BitVec 32 := Scalar.muli v188 c512_i32_87
  let v199 : BitVec 32 := Scalar.subi v171 v198
  let c256_i32_88 : BitVec 32 := 256#32
  let v200 : BitVec 32 := Scalar.addi v199 c256_i32_88
  let c512_i32_91 : BitVec 32 := 512#32
  let v204 : BitVec 1 := Scalar.cmpi .eq v200 c512_i32_91
  let v205 : BitVec 32 := Scalar.extui v204
  let c0_i32_92 : BitVec 32 := 0#32
  let v206 : BitVec 1 := Scalar.cmpi .ne v205 c0_i32_92
  v206

def k0_mult4 (i : grid0.Coords) : BitVec 32 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  v691
def k0_off104 (i : grid0.Coords) : Fin 2 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  let v692 : BitVec 32 := v691
  let v693 : Index := Scalar.indexCast v692
  let c0_421 : Index := 0#32
  ![v693.toNat, 0]
def k0_off105 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v764 : Index := Scalar.indexCast v188
  let c0_436 : Index := 0#32
  let c0_437 : Index := 0#32
  ![v764.toNat, 0, 0]
def k0_off106 (i : grid0.Coords) (c0_i32_676 : BitVec 32) : Fin 4 → Nat :=
  let c0_677 : Index := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_675 : BitVec 32 := 2#32
  let v1526 : BitVec 32 := Scalar.muli v188 c2_i32_675
  let v1527 : BitVec 32 := Scalar.addi v1526 c0_i32_676
  let v1528 : Index := Scalar.indexCast v1527
  let c0_678 : Index := 0#32
  let c0_679 : Index := 0#32
  ![0, v1528.toNat, 0, 0]
def k0_off107 (i : grid0.Coords) (c0_i32_681 : BitVec 32) : Fin 4 → Nat :=
  let c1_682 : Index := 1#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_680 : BitVec 32 := 2#32
  let v1532 : BitVec 32 := Scalar.muli v188 c2_i32_680
  let v1533 : BitVec 32 := Scalar.addi v1532 c0_i32_681
  let v1534 : Index := Scalar.indexCast v1533
  let c0_683 : Index := 0#32
  let c0_684 : Index := 0#32
  ![1, v1534.toNat, 0, 0]
def k0_off108 (i : grid0.Coords) (c0_i32_686 : BitVec 32) : Fin 4 → Nat :=
  let c2_687 : Index := 2#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_685 : BitVec 32 := 2#32
  let v1538 : BitVec 32 := Scalar.muli v188 c2_i32_685
  let v1539 : BitVec 32 := Scalar.addi v1538 c0_i32_686
  let v1540 : Index := Scalar.indexCast v1539
  let c0_688 : Index := 0#32
  let c0_689 : Index := 0#32
  ![2, v1540.toNat, 0, 0]
def k0_off109 (i : grid0.Coords) (c0_i32_691 : BitVec 32) : Fin 4 → Nat :=
  let c3_692 : Index := 3#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_690 : BitVec 32 := 2#32
  let v1544 : BitVec 32 := Scalar.muli v188 c2_i32_690
  let v1545 : BitVec 32 := Scalar.addi v1544 c0_i32_691
  let v1546 : Index := Scalar.indexCast v1545
  let c0_693 : Index := 0#32
  let c0_694 : Index := 0#32
  ![3, v1546.toNat, 0, 0]
def k0_off110 (i : grid0.Coords) (c0_i32_696 : BitVec 32) : Fin 4 → Nat :=
  let c4_697 : Index := 4#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_695 : BitVec 32 := 2#32
  let v1550 : BitVec 32 := Scalar.muli v188 c2_i32_695
  let v1551 : BitVec 32 := Scalar.addi v1550 c0_i32_696
  let v1552 : Index := Scalar.indexCast v1551
  let c0_698 : Index := 0#32
  let c0_699 : Index := 0#32
  ![4, v1552.toNat, 0, 0]
def k0_off111 (i : grid0.Coords) (c0_i32_701 : BitVec 32) : Fin 4 → Nat :=
  let c5_702 : Index := 5#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_700 : BitVec 32 := 2#32
  let v1556 : BitVec 32 := Scalar.muli v188 c2_i32_700
  let v1557 : BitVec 32 := Scalar.addi v1556 c0_i32_701
  let v1558 : Index := Scalar.indexCast v1557
  let c0_703 : Index := 0#32
  let c0_704 : Index := 0#32
  ![5, v1558.toNat, 0, 0]
def k0_off112 (i : grid0.Coords) (c0_i32_706 : BitVec 32) : Fin 4 → Nat :=
  let c6_707 : Index := 6#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_705 : BitVec 32 := 2#32
  let v1562 : BitVec 32 := Scalar.muli v188 c2_i32_705
  let v1563 : BitVec 32 := Scalar.addi v1562 c0_i32_706
  let v1564 : Index := Scalar.indexCast v1563
  let c0_708 : Index := 0#32
  let c0_709 : Index := 0#32
  ![6, v1564.toNat, 0, 0]
def k0_off113 (i : grid0.Coords) (c0_i32_711 : BitVec 32) : Fin 4 → Nat :=
  let c7_712 : Index := 7#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_710 : BitVec 32 := 2#32
  let v1568 : BitVec 32 := Scalar.muli v188 c2_i32_710
  let v1569 : BitVec 32 := Scalar.addi v1568 c0_i32_711
  let v1570 : Index := Scalar.indexCast v1569
  let c0_713 : Index := 0#32
  let c0_714 : Index := 0#32
  ![7, v1570.toNat, 0, 0]
def k0_off114 (i : grid0.Coords) (c0_i32_716 : BitVec 32) : Fin 4 → Nat :=
  let c8_717 : Index := 8#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_715 : BitVec 32 := 2#32
  let v1574 : BitVec 32 := Scalar.muli v188 c2_i32_715
  let v1575 : BitVec 32 := Scalar.addi v1574 c0_i32_716
  let v1576 : Index := Scalar.indexCast v1575
  let c0_718 : Index := 0#32
  let c0_719 : Index := 0#32
  ![8, v1576.toNat, 0, 0]
def k0_off115 (i : grid0.Coords) (c0_i32_721 : BitVec 32) : Fin 4 → Nat :=
  let c9_722 : Index := 9#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_720 : BitVec 32 := 2#32
  let v1580 : BitVec 32 := Scalar.muli v188 c2_i32_720
  let v1581 : BitVec 32 := Scalar.addi v1580 c0_i32_721
  let v1582 : Index := Scalar.indexCast v1581
  let c0_723 : Index := 0#32
  let c0_724 : Index := 0#32
  ![9, v1582.toNat, 0, 0]
def k0_off116 (i : grid0.Coords) (c0_i32_726 : BitVec 32) : Fin 4 → Nat :=
  let c10_727 : Index := 10#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_725 : BitVec 32 := 2#32
  let v1586 : BitVec 32 := Scalar.muli v188 c2_i32_725
  let v1587 : BitVec 32 := Scalar.addi v1586 c0_i32_726
  let v1588 : Index := Scalar.indexCast v1587
  let c0_728 : Index := 0#32
  let c0_729 : Index := 0#32
  ![10, v1588.toNat, 0, 0]
def k0_off117 (i : grid0.Coords) (c0_i32_731 : BitVec 32) : Fin 4 → Nat :=
  let c11_732 : Index := 11#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_730 : BitVec 32 := 2#32
  let v1592 : BitVec 32 := Scalar.muli v188 c2_i32_730
  let v1593 : BitVec 32 := Scalar.addi v1592 c0_i32_731
  let v1594 : Index := Scalar.indexCast v1593
  let c0_733 : Index := 0#32
  let c0_734 : Index := 0#32
  ![11, v1594.toNat, 0, 0]
def k0_off118 (i : grid0.Coords) (c0_i32_736 : BitVec 32) : Fin 4 → Nat :=
  let c12_737 : Index := 12#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_735 : BitVec 32 := 2#32
  let v1598 : BitVec 32 := Scalar.muli v188 c2_i32_735
  let v1599 : BitVec 32 := Scalar.addi v1598 c0_i32_736
  let v1600 : Index := Scalar.indexCast v1599
  let c0_738 : Index := 0#32
  let c0_739 : Index := 0#32
  ![12, v1600.toNat, 0, 0]
def k0_off119 (i : grid0.Coords) (c0_i32_741 : BitVec 32) : Fin 4 → Nat :=
  let c13_742 : Index := 13#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_740 : BitVec 32 := 2#32
  let v1604 : BitVec 32 := Scalar.muli v188 c2_i32_740
  let v1605 : BitVec 32 := Scalar.addi v1604 c0_i32_741
  let v1606 : Index := Scalar.indexCast v1605
  let c0_743 : Index := 0#32
  let c0_744 : Index := 0#32
  ![13, v1606.toNat, 0, 0]
def k0_off120 (i : grid0.Coords) (c0_i32_746 : BitVec 32) : Fin 4 → Nat :=
  let c14_747 : Index := 14#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_745 : BitVec 32 := 2#32
  let v1610 : BitVec 32 := Scalar.muli v188 c2_i32_745
  let v1611 : BitVec 32 := Scalar.addi v1610 c0_i32_746
  let v1612 : Index := Scalar.indexCast v1611
  let c0_748 : Index := 0#32
  let c0_749 : Index := 0#32
  ![14, v1612.toNat, 0, 0]
def k0_off121 (i : grid0.Coords) (c0_i32_751 : BitVec 32) : Fin 4 → Nat :=
  let c15_752 : Index := 15#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_750 : BitVec 32 := 2#32
  let v1616 : BitVec 32 := Scalar.muli v188 c2_i32_750
  let v1617 : BitVec 32 := Scalar.addi v1616 c0_i32_751
  let v1618 : Index := Scalar.indexCast v1617
  let c0_753 : Index := 0#32
  let c0_754 : Index := 0#32
  ![15, v1618.toNat, 0, 0]
def k0_off122 (i : grid0.Coords) (c0_i32_756 : BitVec 32) : Fin 4 → Nat :=
  let c16_757 : Index := 16#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_755 : BitVec 32 := 2#32
  let v1622 : BitVec 32 := Scalar.muli v188 c2_i32_755
  let v1623 : BitVec 32 := Scalar.addi v1622 c0_i32_756
  let v1624 : Index := Scalar.indexCast v1623
  let c0_758 : Index := 0#32
  let c0_759 : Index := 0#32
  ![16, v1624.toNat, 0, 0]
def k0_off123 (i : grid0.Coords) (c0_i32_761 : BitVec 32) : Fin 4 → Nat :=
  let c17_762 : Index := 17#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_760 : BitVec 32 := 2#32
  let v1628 : BitVec 32 := Scalar.muli v188 c2_i32_760
  let v1629 : BitVec 32 := Scalar.addi v1628 c0_i32_761
  let v1630 : Index := Scalar.indexCast v1629
  let c0_763 : Index := 0#32
  let c0_764 : Index := 0#32
  ![17, v1630.toNat, 0, 0]
def k0_off124 (i : grid0.Coords) (c0_i32_766 : BitVec 32) : Fin 4 → Nat :=
  let c18_767 : Index := 18#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_765 : BitVec 32 := 2#32
  let v1634 : BitVec 32 := Scalar.muli v188 c2_i32_765
  let v1635 : BitVec 32 := Scalar.addi v1634 c0_i32_766
  let v1636 : Index := Scalar.indexCast v1635
  let c0_768 : Index := 0#32
  let c0_769 : Index := 0#32
  ![18, v1636.toNat, 0, 0]
def k0_off125 (i : grid0.Coords) (c0_i32_771 : BitVec 32) : Fin 4 → Nat :=
  let c19_772 : Index := 19#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_770 : BitVec 32 := 2#32
  let v1640 : BitVec 32 := Scalar.muli v188 c2_i32_770
  let v1641 : BitVec 32 := Scalar.addi v1640 c0_i32_771
  let v1642 : Index := Scalar.indexCast v1641
  let c0_773 : Index := 0#32
  let c0_774 : Index := 0#32
  ![19, v1642.toNat, 0, 0]
def k0_off126 (i : grid0.Coords) (c0_i32_776 : BitVec 32) : Fin 4 → Nat :=
  let c20_777 : Index := 20#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_775 : BitVec 32 := 2#32
  let v1646 : BitVec 32 := Scalar.muli v188 c2_i32_775
  let v1647 : BitVec 32 := Scalar.addi v1646 c0_i32_776
  let v1648 : Index := Scalar.indexCast v1647
  let c0_778 : Index := 0#32
  let c0_779 : Index := 0#32
  ![20, v1648.toNat, 0, 0]
def k0_off127 (i : grid0.Coords) (c0_i32_781 : BitVec 32) : Fin 4 → Nat :=
  let c21_782 : Index := 21#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_780 : BitVec 32 := 2#32
  let v1652 : BitVec 32 := Scalar.muli v188 c2_i32_780
  let v1653 : BitVec 32 := Scalar.addi v1652 c0_i32_781
  let v1654 : Index := Scalar.indexCast v1653
  let c0_783 : Index := 0#32
  let c0_784 : Index := 0#32
  ![21, v1654.toNat, 0, 0]
def k0_off128 (i : grid0.Coords) (c0_i32_786 : BitVec 32) : Fin 4 → Nat :=
  let c22_787 : Index := 22#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_785 : BitVec 32 := 2#32
  let v1658 : BitVec 32 := Scalar.muli v188 c2_i32_785
  let v1659 : BitVec 32 := Scalar.addi v1658 c0_i32_786
  let v1660 : Index := Scalar.indexCast v1659
  let c0_788 : Index := 0#32
  let c0_789 : Index := 0#32
  ![22, v1660.toNat, 0, 0]
def k0_off129 (i : grid0.Coords) (c0_i32_791 : BitVec 32) : Fin 4 → Nat :=
  let c23_792 : Index := 23#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_790 : BitVec 32 := 2#32
  let v1664 : BitVec 32 := Scalar.muli v188 c2_i32_790
  let v1665 : BitVec 32 := Scalar.addi v1664 c0_i32_791
  let v1666 : Index := Scalar.indexCast v1665
  let c0_793 : Index := 0#32
  let c0_794 : Index := 0#32
  ![23, v1666.toNat, 0, 0]
def k0_off130 (i : grid0.Coords) (c0_i32_796 : BitVec 32) : Fin 4 → Nat :=
  let c24_797 : Index := 24#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_795 : BitVec 32 := 2#32
  let v1670 : BitVec 32 := Scalar.muli v188 c2_i32_795
  let v1671 : BitVec 32 := Scalar.addi v1670 c0_i32_796
  let v1672 : Index := Scalar.indexCast v1671
  let c0_798 : Index := 0#32
  let c0_799 : Index := 0#32
  ![24, v1672.toNat, 0, 0]
def k0_off131 (i : grid0.Coords) (c0_i32_801 : BitVec 32) : Fin 4 → Nat :=
  let c25_802 : Index := 25#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_800 : BitVec 32 := 2#32
  let v1676 : BitVec 32 := Scalar.muli v188 c2_i32_800
  let v1677 : BitVec 32 := Scalar.addi v1676 c0_i32_801
  let v1678 : Index := Scalar.indexCast v1677
  let c0_803 : Index := 0#32
  let c0_804 : Index := 0#32
  ![25, v1678.toNat, 0, 0]
def k0_off132 (i : grid0.Coords) (c0_i32_806 : BitVec 32) : Fin 4 → Nat :=
  let c26_807 : Index := 26#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_805 : BitVec 32 := 2#32
  let v1682 : BitVec 32 := Scalar.muli v188 c2_i32_805
  let v1683 : BitVec 32 := Scalar.addi v1682 c0_i32_806
  let v1684 : Index := Scalar.indexCast v1683
  let c0_808 : Index := 0#32
  let c0_809 : Index := 0#32
  ![26, v1684.toNat, 0, 0]
def k0_off133 (i : grid0.Coords) (c0_i32_811 : BitVec 32) : Fin 4 → Nat :=
  let c27_812 : Index := 27#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_810 : BitVec 32 := 2#32
  let v1688 : BitVec 32 := Scalar.muli v188 c2_i32_810
  let v1689 : BitVec 32 := Scalar.addi v1688 c0_i32_811
  let v1690 : Index := Scalar.indexCast v1689
  let c0_813 : Index := 0#32
  let c0_814 : Index := 0#32
  ![27, v1690.toNat, 0, 0]
def k0_off134 (i : grid0.Coords) (c0_i32_816 : BitVec 32) : Fin 4 → Nat :=
  let c28_817 : Index := 28#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_815 : BitVec 32 := 2#32
  let v1694 : BitVec 32 := Scalar.muli v188 c2_i32_815
  let v1695 : BitVec 32 := Scalar.addi v1694 c0_i32_816
  let v1696 : Index := Scalar.indexCast v1695
  let c0_818 : Index := 0#32
  let c0_819 : Index := 0#32
  ![28, v1696.toNat, 0, 0]
def k0_off135 (i : grid0.Coords) (c0_i32_821 : BitVec 32) : Fin 4 → Nat :=
  let c29_822 : Index := 29#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_820 : BitVec 32 := 2#32
  let v1700 : BitVec 32 := Scalar.muli v188 c2_i32_820
  let v1701 : BitVec 32 := Scalar.addi v1700 c0_i32_821
  let v1702 : Index := Scalar.indexCast v1701
  let c0_823 : Index := 0#32
  let c0_824 : Index := 0#32
  ![29, v1702.toNat, 0, 0]
def k0_off136 (i : grid0.Coords) (c0_i32_826 : BitVec 32) : Fin 4 → Nat :=
  let c30_827 : Index := 30#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_825 : BitVec 32 := 2#32
  let v1706 : BitVec 32 := Scalar.muli v188 c2_i32_825
  let v1707 : BitVec 32 := Scalar.addi v1706 c0_i32_826
  let v1708 : Index := Scalar.indexCast v1707
  let c0_828 : Index := 0#32
  let c0_829 : Index := 0#32
  ![30, v1708.toNat, 0, 0]
def k0_off137 (i : grid0.Coords) (c0_i32_831 : BitVec 32) : Fin 4 → Nat :=
  let c31_832 : Index := 31#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c2_i32_830 : BitVec 32 := 2#32
  let v1712 : BitVec 32 := Scalar.muli v188 c2_i32_830
  let v1713 : BitVec 32 := Scalar.addi v1712 c0_i32_831
  let v1714 : Index := Scalar.indexCast v1713
  let c0_833 : Index := 0#32
  let c0_834 : Index := 0#32
  ![31, v1714.toNat, 0, 0]
def k0_cond4 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let c2_i32 : BitVec 32 := 2#32
  let v207 : BitVec 32 := Scalar.muli v189 c2_i32
  let c0_i32_226 : BitVec 32 := 0#32
  let v402 : BitVec 1 := Scalar.cmpi .sgt v207 c0_i32_226
  let c8_i32_227 : BitVec 32 := 8#32
  let v403 : BitVec 1 := Scalar.cmpi .sle v207 c8_i32_227
  let v404 : BitVec 1 := Scalar.andi v402 v403
  let v405 : BitVec 32 := Scalar.extui v404
  let c0_i32_228 : BitVec 32 := 0#32
  let v406 : BitVec 1 := Scalar.cmpi .ne v405 c0_i32_228
  v406

@[reducible] def k0_t3_loop : Scf.Loop 32 :=
  let c0_i32_420 : BitVec 32 := 0#32
  let c32_i32_421 : BitVec 32 := 32#32
  let v691 : BitVec 32 := Scalar.addi c0_i32_420 c32_i32_421
  let c1_i32_422 : BitVec 32 := 1#32
  ⟨c0_i32_420, v691, c1_i32_422⟩
def k0_off138 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v705 : Index := Scalar.indexCast arg24
  let c0_435 : Index := 0#32
  let c0_436 : Index := 0#32
  let c0_437 : Index := 0#32
  ![v705.toNat, 0, 0, 0]
def k0_off139 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v713 : Index := Scalar.indexCast arg24
  let c1_441 : Index := 1#32
  let c0_442 : Index := 0#32
  let c0_443 : Index := 0#32
  ![v713.toNat, 1, 0, 0]
def k0_off140 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v721 : Index := Scalar.indexCast arg24
  let c2_447 : Index := 2#32
  let c0_448 : Index := 0#32
  let c0_449 : Index := 0#32
  ![v721.toNat, 2, 0, 0]
def k0_off141 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v729 : Index := Scalar.indexCast arg24
  let c3_453 : Index := 3#32
  let c0_454 : Index := 0#32
  let c0_455 : Index := 0#32
  ![v729.toNat, 3, 0, 0]
def k0_off142 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v737 : Index := Scalar.indexCast arg24
  let c4_459 : Index := 4#32
  let c0_460 : Index := 0#32
  let c0_461 : Index := 0#32
  ![v737.toNat, 4, 0, 0]
def k0_off143 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v745 : Index := Scalar.indexCast arg24
  let c5_465 : Index := 5#32
  let c0_466 : Index := 0#32
  let c0_467 : Index := 0#32
  ![v745.toNat, 5, 0, 0]
def k0_off144 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v753 : Index := Scalar.indexCast arg24
  let c6_471 : Index := 6#32
  let c0_472 : Index := 0#32
  let c0_473 : Index := 0#32
  ![v753.toNat, 6, 0, 0]
def k0_off145 (k0_t3 : Fin k0_t3_loop.trips) : Fin 4 → Nat :=
  let c0_i32_420 : BitVec 32 := 0#32
  let c1_i32_422 : BitVec 32 := 1#32
  let arg24 : BitVec 32 := Scf.iv c0_i32_420 c1_i32_422 k0_t3
  let v761 : Index := Scalar.indexCast arg24
  let c7_477 : Index := 7#32
  let c0_478 : Index := 0#32
  let c0_479 : Index := 0#32
  ![v761.toNat, 7, 0, 0]
def k0_cond5 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let c2_i32 : BitVec 32 := 2#32
  let v207 : BitVec 32 := Scalar.muli v189 c2_i32
  let c8_i32_229 : BitVec 32 := 8#32
  let v407 : BitVec 1 := Scalar.cmpi .sgt v207 c8_i32_229
  let c16_i32_230 : BitVec 32 := 16#32
  let v408 : BitVec 1 := Scalar.cmpi .sle v207 c16_i32_230
  let v409 : BitVec 1 := Scalar.andi v407 v408
  let v410 : BitVec 32 := Scalar.extui v409
  let c0_i32_231 : BitVec 32 := 0#32
  let v411 : BitVec 1 := Scalar.cmpi .ne v410 c0_i32_231
  v411

@[reducible] def k0_t4_loop : Scf.Loop 32 :=
  let c0_i32_420 : BitVec 32 := 0#32
  let c32_i32_421 : BitVec 32 := 32#32
  let v691 : BitVec 32 := Scalar.addi c0_i32_420 c32_i32_421
  let c1_i32_422 : BitVec 32 := 1#32
  ⟨c0_i32_420, v691, c1_i32_422⟩
def k0_off146 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v705 : Index := Scalar.indexCast arg24
  let c0_435 : Index := 0#32
  let c0_436 : Index := 0#32
  let c0_437 : Index := 0#32
  ![v705.toNat, 0, 0, 0]
def k0_off147 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v713 : Index := Scalar.indexCast arg24
  let c1_441 : Index := 1#32
  let c0_442 : Index := 0#32
  let c0_443 : Index := 0#32
  ![v713.toNat, 1, 0, 0]
def k0_off148 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v721 : Index := Scalar.indexCast arg24
  let c2_447 : Index := 2#32
  let c0_448 : Index := 0#32
  let c0_449 : Index := 0#32
  ![v721.toNat, 2, 0, 0]
def k0_off149 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v729 : Index := Scalar.indexCast arg24
  let c3_453 : Index := 3#32
  let c0_454 : Index := 0#32
  let c0_455 : Index := 0#32
  ![v729.toNat, 3, 0, 0]
def k0_off150 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v737 : Index := Scalar.indexCast arg24
  let c4_459 : Index := 4#32
  let c0_460 : Index := 0#32
  let c0_461 : Index := 0#32
  ![v737.toNat, 4, 0, 0]
def k0_off151 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v745 : Index := Scalar.indexCast arg24
  let c5_465 : Index := 5#32
  let c0_466 : Index := 0#32
  let c0_467 : Index := 0#32
  ![v745.toNat, 5, 0, 0]
def k0_off152 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v753 : Index := Scalar.indexCast arg24
  let c6_471 : Index := 6#32
  let c0_472 : Index := 0#32
  let c0_473 : Index := 0#32
  ![v753.toNat, 6, 0, 0]
def k0_off153 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v761 : Index := Scalar.indexCast arg24
  let c7_477 : Index := 7#32
  let c0_478 : Index := 0#32
  let c0_479 : Index := 0#32
  ![v761.toNat, 7, 0, 0]
def k0_off154 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v769 : Index := Scalar.indexCast arg24
  let c8_483 : Index := 8#32
  let c0_484 : Index := 0#32
  let c0_485 : Index := 0#32
  ![v769.toNat, 8, 0, 0]
def k0_off155 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v777 : Index := Scalar.indexCast arg24
  let c9_489 : Index := 9#32
  let c0_490 : Index := 0#32
  let c0_491 : Index := 0#32
  ![v777.toNat, 9, 0, 0]
def k0_off156 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v785 : Index := Scalar.indexCast arg24
  let c10_495 : Index := 10#32
  let c0_496 : Index := 0#32
  let c0_497 : Index := 0#32
  ![v785.toNat, 10, 0, 0]
def k0_off157 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v793 : Index := Scalar.indexCast arg24
  let c11_501 : Index := 11#32
  let c0_502 : Index := 0#32
  let c0_503 : Index := 0#32
  ![v793.toNat, 11, 0, 0]
def k0_off158 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v801 : Index := Scalar.indexCast arg24
  let c12_507 : Index := 12#32
  let c0_508 : Index := 0#32
  let c0_509 : Index := 0#32
  ![v801.toNat, 12, 0, 0]
def k0_off159 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v809 : Index := Scalar.indexCast arg24
  let c13_513 : Index := 13#32
  let c0_514 : Index := 0#32
  let c0_515 : Index := 0#32
  ![v809.toNat, 13, 0, 0]
def k0_off160 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v817 : Index := Scalar.indexCast arg24
  let c14_519 : Index := 14#32
  let c0_520 : Index := 0#32
  let c0_521 : Index := 0#32
  ![v817.toNat, 14, 0, 0]
def k0_off161 (k0_t4 : Fin k0_t4_loop.trips) : Fin 4 → Nat :=
  let c0_i32_420 : BitVec 32 := 0#32
  let c1_i32_422 : BitVec 32 := 1#32
  let arg24 : BitVec 32 := Scf.iv c0_i32_420 c1_i32_422 k0_t4
  let v825 : Index := Scalar.indexCast arg24
  let c15_525 : Index := 15#32
  let c0_526 : Index := 0#32
  let c0_527 : Index := 0#32
  ![v825.toNat, 15, 0, 0]
def k0_cond6 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let c2_i32 : BitVec 32 := 2#32
  let v207 : BitVec 32 := Scalar.muli v189 c2_i32
  let c16_i32_232 : BitVec 32 := 16#32
  let v412 : BitVec 1 := Scalar.cmpi .sgt v207 c16_i32_232
  let c24_i32_233 : BitVec 32 := 24#32
  let v413 : BitVec 1 := Scalar.cmpi .sle v207 c24_i32_233
  let v414 : BitVec 1 := Scalar.andi v412 v413
  let v415 : BitVec 32 := Scalar.extui v414
  let c0_i32_234 : BitVec 32 := 0#32
  let v416 : BitVec 1 := Scalar.cmpi .ne v415 c0_i32_234
  v416

@[reducible] def k0_t5_loop : Scf.Loop 32 :=
  let c0_i32_420 : BitVec 32 := 0#32
  let c32_i32_421 : BitVec 32 := 32#32
  let v691 : BitVec 32 := Scalar.addi c0_i32_420 c32_i32_421
  let c1_i32_422 : BitVec 32 := 1#32
  ⟨c0_i32_420, v691, c1_i32_422⟩
def k0_off162 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v705 : Index := Scalar.indexCast arg24
  let c0_435 : Index := 0#32
  let c0_436 : Index := 0#32
  let c0_437 : Index := 0#32
  ![v705.toNat, 0, 0, 0]
def k0_off163 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v713 : Index := Scalar.indexCast arg24
  let c1_441 : Index := 1#32
  let c0_442 : Index := 0#32
  let c0_443 : Index := 0#32
  ![v713.toNat, 1, 0, 0]
def k0_off164 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v721 : Index := Scalar.indexCast arg24
  let c2_447 : Index := 2#32
  let c0_448 : Index := 0#32
  let c0_449 : Index := 0#32
  ![v721.toNat, 2, 0, 0]
def k0_off165 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v729 : Index := Scalar.indexCast arg24
  let c3_453 : Index := 3#32
  let c0_454 : Index := 0#32
  let c0_455 : Index := 0#32
  ![v729.toNat, 3, 0, 0]
def k0_off166 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v737 : Index := Scalar.indexCast arg24
  let c4_459 : Index := 4#32
  let c0_460 : Index := 0#32
  let c0_461 : Index := 0#32
  ![v737.toNat, 4, 0, 0]
def k0_off167 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v745 : Index := Scalar.indexCast arg24
  let c5_465 : Index := 5#32
  let c0_466 : Index := 0#32
  let c0_467 : Index := 0#32
  ![v745.toNat, 5, 0, 0]
def k0_off168 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v753 : Index := Scalar.indexCast arg24
  let c6_471 : Index := 6#32
  let c0_472 : Index := 0#32
  let c0_473 : Index := 0#32
  ![v753.toNat, 6, 0, 0]
def k0_off169 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v761 : Index := Scalar.indexCast arg24
  let c7_477 : Index := 7#32
  let c0_478 : Index := 0#32
  let c0_479 : Index := 0#32
  ![v761.toNat, 7, 0, 0]
def k0_off170 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v769 : Index := Scalar.indexCast arg24
  let c8_483 : Index := 8#32
  let c0_484 : Index := 0#32
  let c0_485 : Index := 0#32
  ![v769.toNat, 8, 0, 0]
def k0_off171 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v777 : Index := Scalar.indexCast arg24
  let c9_489 : Index := 9#32
  let c0_490 : Index := 0#32
  let c0_491 : Index := 0#32
  ![v777.toNat, 9, 0, 0]
def k0_off172 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v785 : Index := Scalar.indexCast arg24
  let c10_495 : Index := 10#32
  let c0_496 : Index := 0#32
  let c0_497 : Index := 0#32
  ![v785.toNat, 10, 0, 0]
def k0_off173 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v793 : Index := Scalar.indexCast arg24
  let c11_501 : Index := 11#32
  let c0_502 : Index := 0#32
  let c0_503 : Index := 0#32
  ![v793.toNat, 11, 0, 0]
def k0_off174 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v801 : Index := Scalar.indexCast arg24
  let c12_507 : Index := 12#32
  let c0_508 : Index := 0#32
  let c0_509 : Index := 0#32
  ![v801.toNat, 12, 0, 0]
def k0_off175 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v809 : Index := Scalar.indexCast arg24
  let c13_513 : Index := 13#32
  let c0_514 : Index := 0#32
  let c0_515 : Index := 0#32
  ![v809.toNat, 13, 0, 0]
def k0_off176 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v817 : Index := Scalar.indexCast arg24
  let c14_519 : Index := 14#32
  let c0_520 : Index := 0#32
  let c0_521 : Index := 0#32
  ![v817.toNat, 14, 0, 0]
def k0_off177 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v825 : Index := Scalar.indexCast arg24
  let c15_525 : Index := 15#32
  let c0_526 : Index := 0#32
  let c0_527 : Index := 0#32
  ![v825.toNat, 15, 0, 0]
def k0_off178 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v833 : Index := Scalar.indexCast arg24
  let c16_531 : Index := 16#32
  let c0_532 : Index := 0#32
  let c0_533 : Index := 0#32
  ![v833.toNat, 16, 0, 0]
def k0_off179 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v841 : Index := Scalar.indexCast arg24
  let c17_537 : Index := 17#32
  let c0_538 : Index := 0#32
  let c0_539 : Index := 0#32
  ![v841.toNat, 17, 0, 0]
def k0_off180 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v849 : Index := Scalar.indexCast arg24
  let c18_543 : Index := 18#32
  let c0_544 : Index := 0#32
  let c0_545 : Index := 0#32
  ![v849.toNat, 18, 0, 0]
def k0_off181 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v857 : Index := Scalar.indexCast arg24
  let c19_549 : Index := 19#32
  let c0_550 : Index := 0#32
  let c0_551 : Index := 0#32
  ![v857.toNat, 19, 0, 0]
def k0_off182 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v865 : Index := Scalar.indexCast arg24
  let c20_555 : Index := 20#32
  let c0_556 : Index := 0#32
  let c0_557 : Index := 0#32
  ![v865.toNat, 20, 0, 0]
def k0_off183 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v873 : Index := Scalar.indexCast arg24
  let c21_561 : Index := 21#32
  let c0_562 : Index := 0#32
  let c0_563 : Index := 0#32
  ![v873.toNat, 21, 0, 0]
def k0_off184 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v881 : Index := Scalar.indexCast arg24
  let c22_567 : Index := 22#32
  let c0_568 : Index := 0#32
  let c0_569 : Index := 0#32
  ![v881.toNat, 22, 0, 0]
def k0_off185 (k0_t5 : Fin k0_t5_loop.trips) : Fin 4 → Nat :=
  let c0_i32_420 : BitVec 32 := 0#32
  let c1_i32_422 : BitVec 32 := 1#32
  let arg24 : BitVec 32 := Scf.iv c0_i32_420 c1_i32_422 k0_t5
  let v889 : Index := Scalar.indexCast arg24
  let c23_573 : Index := 23#32
  let c0_574 : Index := 0#32
  let c0_575 : Index := 0#32
  ![v889.toNat, 23, 0, 0]
def k0_cond7 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let c2_i32 : BitVec 32 := 2#32
  let v207 : BitVec 32 := Scalar.muli v189 c2_i32
  let c24_i32_235 : BitVec 32 := 24#32
  let v417 : BitVec 1 := Scalar.cmpi .sgt v207 c24_i32_235
  let c32_i32 : BitVec 32 := 32#32
  let v418 : BitVec 1 := Scalar.cmpi .sle v207 c32_i32
  let v419 : BitVec 1 := Scalar.andi v417 v418
  let v420 : BitVec 32 := Scalar.extui v419
  let c0_i32_236 : BitVec 32 := 0#32
  let v421 : BitVec 1 := Scalar.cmpi .ne v420 c0_i32_236
  v421

@[reducible] def k0_t6_loop : Scf.Loop 32 :=
  let c0_i32_420 : BitVec 32 := 0#32
  let c32_i32_421 : BitVec 32 := 32#32
  let v691 : BitVec 32 := Scalar.addi c0_i32_420 c32_i32_421
  let c1_i32_422 : BitVec 32 := 1#32
  ⟨c0_i32_420, v691, c1_i32_422⟩
def k0_off186 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v705 : Index := Scalar.indexCast arg24
  let c0_435 : Index := 0#32
  let c0_436 : Index := 0#32
  let c0_437 : Index := 0#32
  ![v705.toNat, 0, 0, 0]
def k0_off187 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v713 : Index := Scalar.indexCast arg24
  let c1_441 : Index := 1#32
  let c0_442 : Index := 0#32
  let c0_443 : Index := 0#32
  ![v713.toNat, 1, 0, 0]
def k0_off188 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v721 : Index := Scalar.indexCast arg24
  let c2_447 : Index := 2#32
  let c0_448 : Index := 0#32
  let c0_449 : Index := 0#32
  ![v721.toNat, 2, 0, 0]
def k0_off189 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v729 : Index := Scalar.indexCast arg24
  let c3_453 : Index := 3#32
  let c0_454 : Index := 0#32
  let c0_455 : Index := 0#32
  ![v729.toNat, 3, 0, 0]
def k0_off190 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v737 : Index := Scalar.indexCast arg24
  let c4_459 : Index := 4#32
  let c0_460 : Index := 0#32
  let c0_461 : Index := 0#32
  ![v737.toNat, 4, 0, 0]
def k0_off191 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v745 : Index := Scalar.indexCast arg24
  let c5_465 : Index := 5#32
  let c0_466 : Index := 0#32
  let c0_467 : Index := 0#32
  ![v745.toNat, 5, 0, 0]
def k0_off192 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v753 : Index := Scalar.indexCast arg24
  let c6_471 : Index := 6#32
  let c0_472 : Index := 0#32
  let c0_473 : Index := 0#32
  ![v753.toNat, 6, 0, 0]
def k0_off193 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v761 : Index := Scalar.indexCast arg24
  let c7_477 : Index := 7#32
  let c0_478 : Index := 0#32
  let c0_479 : Index := 0#32
  ![v761.toNat, 7, 0, 0]
def k0_off194 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v769 : Index := Scalar.indexCast arg24
  let c8_483 : Index := 8#32
  let c0_484 : Index := 0#32
  let c0_485 : Index := 0#32
  ![v769.toNat, 8, 0, 0]
def k0_off195 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v777 : Index := Scalar.indexCast arg24
  let c9_489 : Index := 9#32
  let c0_490 : Index := 0#32
  let c0_491 : Index := 0#32
  ![v777.toNat, 9, 0, 0]
def k0_off196 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v785 : Index := Scalar.indexCast arg24
  let c10_495 : Index := 10#32
  let c0_496 : Index := 0#32
  let c0_497 : Index := 0#32
  ![v785.toNat, 10, 0, 0]
def k0_off197 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v793 : Index := Scalar.indexCast arg24
  let c11_501 : Index := 11#32
  let c0_502 : Index := 0#32
  let c0_503 : Index := 0#32
  ![v793.toNat, 11, 0, 0]
def k0_off198 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v801 : Index := Scalar.indexCast arg24
  let c12_507 : Index := 12#32
  let c0_508 : Index := 0#32
  let c0_509 : Index := 0#32
  ![v801.toNat, 12, 0, 0]
def k0_off199 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v809 : Index := Scalar.indexCast arg24
  let c13_513 : Index := 13#32
  let c0_514 : Index := 0#32
  let c0_515 : Index := 0#32
  ![v809.toNat, 13, 0, 0]
def k0_off200 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v817 : Index := Scalar.indexCast arg24
  let c14_519 : Index := 14#32
  let c0_520 : Index := 0#32
  let c0_521 : Index := 0#32
  ![v817.toNat, 14, 0, 0]
def k0_off201 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v825 : Index := Scalar.indexCast arg24
  let c15_525 : Index := 15#32
  let c0_526 : Index := 0#32
  let c0_527 : Index := 0#32
  ![v825.toNat, 15, 0, 0]
def k0_off202 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v833 : Index := Scalar.indexCast arg24
  let c16_531 : Index := 16#32
  let c0_532 : Index := 0#32
  let c0_533 : Index := 0#32
  ![v833.toNat, 16, 0, 0]
def k0_off203 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v841 : Index := Scalar.indexCast arg24
  let c17_537 : Index := 17#32
  let c0_538 : Index := 0#32
  let c0_539 : Index := 0#32
  ![v841.toNat, 17, 0, 0]
def k0_off204 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v849 : Index := Scalar.indexCast arg24
  let c18_543 : Index := 18#32
  let c0_544 : Index := 0#32
  let c0_545 : Index := 0#32
  ![v849.toNat, 18, 0, 0]
def k0_off205 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v857 : Index := Scalar.indexCast arg24
  let c19_549 : Index := 19#32
  let c0_550 : Index := 0#32
  let c0_551 : Index := 0#32
  ![v857.toNat, 19, 0, 0]
def k0_off206 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v865 : Index := Scalar.indexCast arg24
  let c20_555 : Index := 20#32
  let c0_556 : Index := 0#32
  let c0_557 : Index := 0#32
  ![v865.toNat, 20, 0, 0]
def k0_off207 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v873 : Index := Scalar.indexCast arg24
  let c21_561 : Index := 21#32
  let c0_562 : Index := 0#32
  let c0_563 : Index := 0#32
  ![v873.toNat, 21, 0, 0]
def k0_off208 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v881 : Index := Scalar.indexCast arg24
  let c22_567 : Index := 22#32
  let c0_568 : Index := 0#32
  let c0_569 : Index := 0#32
  ![v881.toNat, 22, 0, 0]
def k0_off209 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v889 : Index := Scalar.indexCast arg24
  let c23_573 : Index := 23#32
  let c0_574 : Index := 0#32
  let c0_575 : Index := 0#32
  ![v889.toNat, 23, 0, 0]
def k0_off210 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v897 : Index := Scalar.indexCast arg24
  let c24_579 : Index := 24#32
  let c0_580 : Index := 0#32
  let c0_581 : Index := 0#32
  ![v897.toNat, 24, 0, 0]
def k0_off211 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v905 : Index := Scalar.indexCast arg24
  let c25_585 : Index := 25#32
  let c0_586 : Index := 0#32
  let c0_587 : Index := 0#32
  ![v905.toNat, 25, 0, 0]
def k0_off212 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v913 : Index := Scalar.indexCast arg24
  let c26_591 : Index := 26#32
  let c0_592 : Index := 0#32
  let c0_593 : Index := 0#32
  ![v913.toNat, 26, 0, 0]
def k0_off213 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v921 : Index := Scalar.indexCast arg24
  let c27_597 : Index := 27#32
  let c0_598 : Index := 0#32
  let c0_599 : Index := 0#32
  ![v921.toNat, 27, 0, 0]
def k0_off214 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v929 : Index := Scalar.indexCast arg24
  let c28_603 : Index := 28#32
  let c0_604 : Index := 0#32
  let c0_605 : Index := 0#32
  ![v929.toNat, 28, 0, 0]
def k0_off215 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v937 : Index := Scalar.indexCast arg24
  let c29_609 : Index := 29#32
  let c0_610 : Index := 0#32
  let c0_611 : Index := 0#32
  ![v937.toNat, 29, 0, 0]
def k0_off216 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v945 : Index := Scalar.indexCast arg24
  let c30_615 : Index := 30#32
  let c0_616 : Index := 0#32
  let c0_617 : Index := 0#32
  ![v945.toNat, 30, 0, 0]
def k0_off217 (k0_t6 : Fin k0_t6_loop.trips) : Fin 4 → Nat :=
  let c0_i32_420 : BitVec 32 := 0#32
  let c1_i32_422 : BitVec 32 := 1#32
  let arg24 : BitVec 32 := Scf.iv c0_i32_420 c1_i32_422 k0_t6
  let v953 : Index := Scalar.indexCast arg24
  let c31_621 : Index := 31#32
  let c0_622 : Index := 0#32
  let c0_623 : Index := 0#32
  ![v953.toNat, 31, 0, 0]
@[reducible] def k0_t7_loop (i : grid0.Coords) : Scf.Loop 32 :=
  let c0_i32_592 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v1005 : BitVec 32 := Scalar.subi v189 c0_i32_592
  let c1_i32_593 : BitVec 32 := 1#32
  let v1007 : BitVec 32 := Scalar.divsi v1005 c1_i32_593
  let v1008 : BitVec 32 := Scalar.muli v1007 c1_i32_593
  let v1009 : BitVec 32 := Scalar.addi c0_i32_592 v1008
  let c1_i32_594 : BitVec 32 := 1#32
  ⟨c0_i32_592, v1009, c1_i32_594⟩
def k0_off218 (i : grid0.Coords) (k0_t7 : Fin (k0_t7_loop i).trips) : Fin 3 → Nat :=
  let c0_i32_592 : BitVec 32 := 0#32
  let c1_i32_594 : BitVec 32 := 1#32
  let arg24 : BitVec 32 := Scf.iv c0_i32_592 c1_i32_594 k0_t7
  let v1021 : Index := Scalar.indexCast arg24
  let c0_600 : Index := 0#32
  let c0_601 : Index := 0#32
  ![v1021.toNat, 0, 0]
def k0_off219 (i : grid0.Coords) (k0_t7 : Fin (k0_t7_loop i).trips) : Fin 2 → Nat :=
  let c0_i32_592 : BitVec 32 := 0#32
  let c1_i32_594 : BitVec 32 := 1#32
  let arg24 : BitVec 32 := Scf.iv c0_i32_592 c1_i32_594 k0_t7
  let v1017 : Index := Scalar.indexCast arg24
  let c0_599 : Index := 0#32
  ![v1017.toNat, 0]
@[reducible] def k0_t8_loop (i : grid0.Coords) : Scf.Loop 32 :=
  let c0_i32_592 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v1005 : BitVec 32 := Scalar.subi v189 c0_i32_592
  let c1_i32_593 : BitVec 32 := 1#32
  let v1007 : BitVec 32 := Scalar.divsi v1005 c1_i32_593
  let v1008 : BitVec 32 := Scalar.muli v1007 c1_i32_593
  let v1009 : BitVec 32 := Scalar.addi c0_i32_592 v1008
  let v1006 : BitVec 32 := Scalar.addi c0_i32_592 v1005
  let c1_i32_595 : BitVec 32 := 1#32
  ⟨v1009, v1006, c1_i32_595⟩
def k0_off220 (i : grid0.Coords) (k0_t8 : Fin (k0_t8_loop i).trips) : Fin 3 → Nat :=
  let c0_i32_592 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v1005 : BitVec 32 := Scalar.subi v189 c0_i32_592
  let c1_i32_593 : BitVec 32 := 1#32
  let v1007 : BitVec 32 := Scalar.divsi v1005 c1_i32_593
  let v1008 : BitVec 32 := Scalar.muli v1007 c1_i32_593
  let v1009 : BitVec 32 := Scalar.addi c0_i32_592 v1008
  let c1_i32_595 : BitVec 32 := 1#32
  let arg24 : BitVec 32 := Scf.iv v1009 c1_i32_595 k0_t8
  let v1021 : Index := Scalar.indexCast arg24
  let c0_600 : Index := 0#32
  let c0_601 : Index := 0#32
  ![v1021.toNat, 0, 0]
def k0_off221 (i : grid0.Coords) (k0_t8 : Fin (k0_t8_loop i).trips) : Fin 2 → Nat :=
  let c0_i32_592 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v1005 : BitVec 32 := Scalar.subi v189 c0_i32_592
  let c1_i32_593 : BitVec 32 := 1#32
  let v1007 : BitVec 32 := Scalar.divsi v1005 c1_i32_593
  let v1008 : BitVec 32 := Scalar.muli v1007 c1_i32_593
  let v1009 : BitVec 32 := Scalar.addi c0_i32_592 v1008
  let c1_i32_595 : BitVec 32 := 1#32
  let arg24 : BitVec 32 := Scf.iv v1009 c1_i32_595 k0_t8
  let v1017 : Index := Scalar.indexCast arg24
  let c0_599 : Index := 0#32
  ![v1017.toNat, 0]
@[reducible] def k0_t9_loop (i : grid0.Coords) : Scf.Loop 32 :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let c1_i32_356 : BitVec 32 := 1#32
  ⟨c0_i32_354, v591, c1_i32_356⟩
def k0_mult5 (i : grid0.Coords) (k0_t9 : Fin (k0_t9_loop i).trips) : BitVec 32 :=
  let c0_i32_354 : BitVec 32 := 0#32
  let c1_i32_356 : BitVec 32 := 1#32
  let arg24 : BitVec 32 := Scf.iv c0_i32_354 c1_i32_356 k0_t9
  let c512_i32_420 : BitVec 32 := 512#32
  let v691 : BitVec 32 := Scalar.muli arg24 c512_i32_420
  v691
def k0_off222 (i : grid0.Coords) (k0_t9 : Fin (k0_t9_loop i).trips) : Fin 2 → Nat :=
  let c0_i32_354 : BitVec 32 := 0#32
  let c1_i32_356 : BitVec 32 := 1#32
  let arg24 : BitVec 32 := Scf.iv c0_i32_354 c1_i32_356 k0_t9
  let c512_i32_420 : BitVec 32 := 512#32
  let v691 : BitVec 32 := Scalar.muli arg24 c512_i32_420
  let v692 : BitVec 32 := v691
  let v693 : Index := Scalar.indexCast v692
  let c0_421 : Index := 0#32
  ![v693.toNat, 0]
def k0_off223 (i : grid0.Coords) (k0_t9 : Fin (k0_t9_loop i).trips) : Fin 3 → Nat :=
  let c0_i32_354 : BitVec 32 := 0#32
  let c1_i32_356 : BitVec 32 := 1#32
  let arg24 : BitVec 32 := Scf.iv c0_i32_354 c1_i32_356 k0_t9
  let v697 : Index := Scalar.indexCast arg24
  let c0_425 : Index := 0#32
  let c0_426 : Index := 0#32
  ![v697.toNat, 0, 0]
def k0_off224 (i : grid0.Coords) (k0_t9 : Fin (k0_t9_loop i).trips) : Fin 3 → Nat :=
  let c0_i32_354 : BitVec 32 := 0#32
  let c1_i32_356 : BitVec 32 := 1#32
  let arg24 : BitVec 32 := Scf.iv c0_i32_354 c1_i32_356 k0_t9
  let v761 : Index := Scalar.indexCast arg24
  let c0_445 : Index := 0#32
  let c0_446 : Index := 0#32
  ![v761.toNat, 0, 0]
@[reducible] def k0_t10_loop (i : grid0.Coords) : Scf.Loop 32 :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let v588 : BitVec 32 := Scalar.addi c0_i32_354 v587
  let c1_i32_357 : BitVec 32 := 1#32
  ⟨v591, v588, c1_i32_357⟩
def k0_mult6 (i : grid0.Coords) (k0_t10 : Fin (k0_t10_loop i).trips) : BitVec 32 :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let c1_i32_357 : BitVec 32 := 1#32
  let arg24 : BitVec 32 := Scf.iv v591 c1_i32_357 k0_t10
  let c512_i32_420 : BitVec 32 := 512#32
  let v691 : BitVec 32 := Scalar.muli arg24 c512_i32_420
  v691
def k0_off225 (i : grid0.Coords) (k0_t10 : Fin (k0_t10_loop i).trips) : Fin 2 → Nat :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let c1_i32_357 : BitVec 32 := 1#32
  let arg24 : BitVec 32 := Scf.iv v591 c1_i32_357 k0_t10
  let c512_i32_420 : BitVec 32 := 512#32
  let v691 : BitVec 32 := Scalar.muli arg24 c512_i32_420
  let v692 : BitVec 32 := v691
  let v693 : Index := Scalar.indexCast v692
  let c0_421 : Index := 0#32
  ![v693.toNat, 0]
def k0_off226 (i : grid0.Coords) (k0_t10 : Fin (k0_t10_loop i).trips) : Fin 3 → Nat :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let c1_i32_357 : BitVec 32 := 1#32
  let arg24 : BitVec 32 := Scf.iv v591 c1_i32_357 k0_t10
  let v697 : Index := Scalar.indexCast arg24
  let c0_425 : Index := 0#32
  let c0_426 : Index := 0#32
  ![v697.toNat, 0, 0]
def k0_off227 (i : grid0.Coords) (k0_t10 : Fin (k0_t10_loop i).trips) : Fin 3 → Nat :=
  let c0_i32_354 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v587 : BitVec 32 := Scalar.subi v188 c0_i32_354
  let c1_i32_355 : BitVec 32 := 1#32
  let v589 : BitVec 32 := Scalar.divsi v587 c1_i32_355
  let v590 : BitVec 32 := Scalar.muli v589 c1_i32_355
  let v591 : BitVec 32 := Scalar.addi c0_i32_354 v590
  let c1_i32_357 : BitVec 32 := 1#32
  let arg24 : BitVec 32 := Scf.iv v591 c1_i32_357 k0_t10
  let v761 : Index := Scalar.indexCast arg24
  let c0_445 : Index := 0#32
  let c0_446 : Index := 0#32
  ![v761.toNat, 0, 0]
def k0_cond11 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_87 : BitVec 32 := 512#32
  let v198 : BitVec 32 := Scalar.muli v188 c512_i32_87
  let v199 : BitVec 32 := Scalar.subi v171 v198
  let c256_i32_88 : BitVec 32 := 256#32
  let v200 : BitVec 32 := Scalar.addi v199 c256_i32_88
  let c256_i32_358 : BitVec 32 := 256#32
  let v592 : BitVec 1 := Scalar.cmpi .eq v200 c256_i32_358
  let v593 : BitVec 32 := Scalar.extui v592
  let c0_i32_359 : BitVec 32 := 0#32
  let v594 : BitVec 1 := Scalar.cmpi .ne v593 c0_i32_359
  v594

def k0_mult7 (i : grid0.Coords) : BitVec 32 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  v691
def k0_off228 (i : grid0.Coords) : Fin 2 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  let v692 : BitVec 32 := v691
  let v693 : Index := Scalar.indexCast v692
  let c0_421 : Index := 0#32
  ![v693.toNat, 0]
def k0_off229 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v697 : Index := Scalar.indexCast v188
  let c0_425 : Index := 0#32
  let c0_426 : Index := 0#32
  ![v697.toNat, 0, 0]
def k0_off230 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v761 : Index := Scalar.indexCast v188
  let c0_445 : Index := 0#32
  let c0_446 : Index := 0#32
  ![v761.toNat, 0, 0]
def k0_cond12 (i : grid0.Coords) : BitVec 1 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_87 : BitVec 32 := 512#32
  let v198 : BitVec 32 := Scalar.muli v188 c512_i32_87
  let v199 : BitVec 32 := Scalar.subi v171 v198
  let c256_i32_88 : BitVec 32 := 256#32
  let v200 : BitVec 32 := Scalar.addi v199 c256_i32_88
  let c512_i32_360 : BitVec 32 := 512#32
  let v595 : BitVec 1 := Scalar.cmpi .eq v200 c512_i32_360
  let v596 : BitVec 32 := Scalar.extui v595
  let c0_i32_361 : BitVec 32 := 0#32
  let v597 : BitVec 1 := Scalar.cmpi .ne v596 c0_i32_361
  v597

def k0_mult8 (i : grid0.Coords) : BitVec 32 :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  v691
def k0_off231 (i : grid0.Coords) : Fin 2 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c512_i32_420 : BitVec 32 := 512#32
  let v691 : BitVec 32 := Scalar.muli v188 c512_i32_420
  let v692 : BitVec 32 := v691
  let v693 : Index := Scalar.indexCast v692
  let c0_421 : Index := 0#32
  ![v693.toNat, 0]
def k0_off232 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v697 : Index := Scalar.indexCast v188
  let c0_425 : Index := 0#32
  let c0_426 : Index := 0#32
  ![v697.toNat, 0, 0]
def k0_off233 (i : grid0.Coords) : Fin 3 → Nat :=
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let v761 : Index := Scalar.indexCast v188
  let c0_445 : Index := 0#32
  let c0_446 : Index := 0#32
  ![v761.toNat, 0, 0]
@[reducible] def k0_t11_loop (i : grid0.Coords) : Scf.Loop 32 :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let c1_i32_430 : BitVec 32 := 1#32
  ⟨c0_i32_428, v703, c1_i32_430⟩
def k0_mult9 (i : grid0.Coords) (k0_t11 : Fin (k0_t11_loop i).trips) : BitVec 32 :=
  let c0_i32_428 : BitVec 32 := 0#32
  let c1_i32_430 : BitVec 32 := 1#32
  let arg24 : BitVec 32 := Scf.iv c0_i32_428 c1_i32_430 k0_t11
  let c512_i32_432 : BitVec 32 := 512#32
  let v704 : BitVec 32 := Scalar.muli arg24 c512_i32_432
  v704
def k0_off234 (i : grid0.Coords) (k0_t11 : Fin (k0_t11_loop i).trips) : Fin 2 → Nat :=
  let c0_i32_428 : BitVec 32 := 0#32
  let c1_i32_430 : BitVec 32 := 1#32
  let arg24 : BitVec 32 := Scf.iv c0_i32_428 c1_i32_430 k0_t11
  let c512_i32_432 : BitVec 32 := 512#32
  let v704 : BitVec 32 := Scalar.muli arg24 c512_i32_432
  let v705 : BitVec 32 := v704
  let v706 : Index := Scalar.indexCast v705
  let c0_433 : Index := 0#32
  ![v706.toNat, 0]
def k0_off235 (i : grid0.Coords) (k0_t11 : Fin (k0_t11_loop i).trips) : Fin 3 → Nat :=
  let c0_i32_428 : BitVec 32 := 0#32
  let c1_i32_430 : BitVec 32 := 1#32
  let arg24 : BitVec 32 := Scf.iv c0_i32_428 c1_i32_430 k0_t11
  let v710 : Index := Scalar.indexCast arg24
  let c0_437 : Index := 0#32
  let c0_438 : Index := 0#32
  ![v710.toNat, 0, 0]
def k0_off236 (i : grid0.Coords) (k0_t11 : Fin (k0_t11_loop i).trips) : Fin 3 → Nat :=
  let c0_i32_428 : BitVec 32 := 0#32
  let c1_i32_430 : BitVec 32 := 1#32
  let arg24 : BitVec 32 := Scf.iv c0_i32_428 c1_i32_430 k0_t11
  let v902 : Index := Scalar.indexCast arg24
  let c0_521 : Index := 0#32
  let c0_522 : Index := 0#32
  ![v902.toNat, 0, 0]
@[reducible] def k0_t12_loop (i : grid0.Coords) : Scf.Loop 32 :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let v700 : BitVec 32 := Scalar.addi c0_i32_428 v699
  let c1_i32_431 : BitVec 32 := 1#32
  ⟨v703, v700, c1_i32_431⟩
def k0_mult10 (i : grid0.Coords) (k0_t12 : Fin (k0_t12_loop i).trips) : BitVec 32 :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let c1_i32_431 : BitVec 32 := 1#32
  let arg24 : BitVec 32 := Scf.iv v703 c1_i32_431 k0_t12
  let c512_i32_432 : BitVec 32 := 512#32
  let v704 : BitVec 32 := Scalar.muli arg24 c512_i32_432
  v704
def k0_off237 (i : grid0.Coords) (k0_t12 : Fin (k0_t12_loop i).trips) : Fin 2 → Nat :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let c1_i32_431 : BitVec 32 := 1#32
  let arg24 : BitVec 32 := Scf.iv v703 c1_i32_431 k0_t12
  let c512_i32_432 : BitVec 32 := 512#32
  let v704 : BitVec 32 := Scalar.muli arg24 c512_i32_432
  let v705 : BitVec 32 := v704
  let v706 : Index := Scalar.indexCast v705
  let c0_433 : Index := 0#32
  ![v706.toNat, 0]
def k0_off238 (i : grid0.Coords) (k0_t12 : Fin (k0_t12_loop i).trips) : Fin 3 → Nat :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let c1_i32_431 : BitVec 32 := 1#32
  let arg24 : BitVec 32 := Scf.iv v703 c1_i32_431 k0_t12
  let v710 : Index := Scalar.indexCast arg24
  let c0_437 : Index := 0#32
  let c0_438 : Index := 0#32
  ![v710.toNat, 0, 0]
def k0_off239 (i : grid0.Coords) (k0_t12 : Fin (k0_t12_loop i).trips) : Fin 3 → Nat :=
  let c0_i32_428 : BitVec 32 := 0#32
  let arg1 : BitVec 32 := BitVec.ofNat 32 (i 1).val
  let c256_i32 : BitVec 32 := 256#32
  let v171 : BitVec 32 := Scalar.muli arg1 c256_i32
  let c0_i32_73 : BitVec 32 := 0#32
  let v173 : BitVec 1 := Scalar.cmpi .sgt v171 c0_i32_73
  let v174 : BitVec 32 := Scalar.extui v173
  let c0_i32_74 : BitVec 32 := 0#32
  let v175 : BitVec 1 := Scalar.cmpi .slt v171 c0_i32_74
  let v176 : BitVec 32 := Scalar.extui v175
  let v177 : BitVec 32 := Scalar.subi v174 v176
  let c512_i32 : BitVec 32 := 512#32
  let c0_i32_75 : BitVec 32 := 0#32
  let v178 : BitVec 1 := Scalar.cmpi .sgt c512_i32 c0_i32_75
  let v179 : BitVec 32 := Scalar.extui v178
  let c0_i32_76 : BitVec 32 := 0#32
  let v180 : BitVec 1 := Scalar.cmpi .slt c512_i32 c0_i32_76
  let v181 : BitVec 32 := Scalar.extui v180
  let v182 : BitVec 32 := Scalar.subi v179 v181
  let v183 : BitVec 1 := Scalar.cmpi .ne v177 v182
  let v184 : BitVec 32 := Scalar.remsi v171 c512_i32
  let c0_i32_77 : BitVec 32 := 0#32
  let v185 : BitVec 1 := Scalar.cmpi .ne v184 c0_i32_77
  let v186 : BitVec 1 := Scalar.andi v183 v185
  let v172 : BitVec 32 := Scalar.divsi v171 c512_i32
  let c1_i32 : BitVec 32 := 1#32
  let v187 : BitVec 32 := Scalar.subi v172 c1_i32
  let v188 : BitVec 32 := Scalar.select v186 v187 v172
  let c1_i32_78 : BitVec 32 := 1#32
  let v189 : BitVec 32 := Scalar.addi v188 c1_i32_78
  let v699 : BitVec 32 := Scalar.subi v189 c0_i32_428
  let c1_i32_429 : BitVec 32 := 1#32
  let v701 : BitVec 32 := Scalar.divsi v699 c1_i32_429
  let v702 : BitVec 32 := Scalar.muli v701 c1_i32_429
  let v703 : BitVec 32 := Scalar.addi c0_i32_428 v702
  let c1_i32_431 : BitVec 32 := 1#32
  let arg24 : BitVec 32 := Scf.iv v703 c1_i32_431 k0_t12
  let v902 : Index := Scalar.indexCast arg24
  let c0_521 : Index := 0#32
  let c0_522 : Index := 0#32
  ![v902.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProj.lean ====
abbrev S8x8192x1024 : Shape := ⟨3, ![8, 8192, 1024]⟩
abbrev S1024 : Shape := ⟨1, ![1024]⟩
abbrev S1024x6872 : Shape := ⟨2, ![1024, 6872]⟩
abbrev S1024x512 : Shape := ⟨2, ![1024, 512]⟩
abbrev S1024x64 : Shape := ⟨2, ![1024, 64]⟩
abbrev S1024x8 : Shape := ⟨2, ![1024, 8]⟩
abbrev S1024x1024 : Shape := ⟨2, ![1024, 1024]⟩
abbrev S1024x16 : Shape := ⟨2, ![1024, 16]⟩
abbrev S_ : Shape := ⟨0, ![]⟩
abbrev S1024x112 : Shape := ⟨2, ![1024, 112]⟩
abbrev S1024x128 : Shape := ⟨2, ![1024, 128]⟩
abbrev S512x1024 : Shape := ⟨2, ![512, 1024]⟩
abbrev S64x1024 : Shape := ⟨2, ![64, 1024]⟩
abbrev S8x1024 : Shape := ⟨2, ![8, 1024]⟩
abbrev S65536x1024 : Shape := ⟨2, ![65536, 1024]⟩
abbrev S1x1024 : Shape := ⟨2, ![1, 1024]⟩
abbrev S512x65536 : Shape := ⟨2, ![512, 65536]⟩
abbrev S65536x64 : Shape := ⟨2, ![65536, 64]⟩
abbrev S64x65536 : Shape := ⟨2, ![64, 65536]⟩
abbrev S8x65536 : Shape := ⟨2, ![8, 65536]⟩
abbrev S65536x128 : Shape := ⟨2, ![65536, 128]⟩
abbrev S65536x512 : Shape := ⟨2, ![65536, 512]⟩
abbrev S256x1024 : Shape := ⟨2, ![256, 1024]⟩
abbrev S512x256 : Shape := ⟨2, ![512, 256]⟩
abbrev S256x64 : Shape := ⟨2, ![256, 64]⟩
abbrev S64x256 : Shape := ⟨2, ![64, 256]⟩
abbrev S8x256 : Shape := ⟨2, ![8, 256]⟩
abbrev S256x128 : Shape := ⟨2, ![256, 128]⟩
abbrev S256x512 : Shape := ⟨2, ![256, 512]⟩
abbrev S256 : Shape := ⟨1, ![256]⟩
abbrev S256x1 : Shape := ⟨2, ![256, 1]⟩

abbrev nBuf : Space → Nat
  | .hbm => 54
  | .vmem => 45
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6872, .f32⟩
  | .hbm, ⟨3, _⟩ => ⟨S1024x512, .f32⟩
  | .hbm, ⟨4, _⟩ => ⟨S1024x64, .f32⟩
  | .hbm, ⟨5, _⟩ => ⟨S1024x64, .f32⟩
  | .hbm, ⟨6, _⟩ => ⟨S1024x512, .f32⟩
  | .hbm, ⟨7, _⟩ => ⟨S1024x64, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x112, .f32⟩
  | .hbm, ⟨19, _⟩ => ⟨S1024x128, .f32⟩
  | .hbm, ⟨20, _⟩ => ⟨S512x1024, .f32⟩
  | .hbm, ⟨21, _⟩ => ⟨S64x1024, .f32⟩
  | .hbm, ⟨22, _⟩ => ⟨S512x1024, .f32⟩
  | .hbm, ⟨23, _⟩ => ⟨S8x1024, .f32⟩
  | .hbm, ⟨24, _⟩ => ⟨S512x1024, .bf16⟩
  | .hbm, ⟨25, _⟩ => ⟨S1024x64, .bf16⟩
  | .hbm, ⟨26, _⟩ => ⟨S64x1024, .bf16⟩
  | .hbm, ⟨27, _⟩ => ⟨S512x1024, .bf16⟩
  | .hbm, ⟨28, _⟩ => ⟨S1024x64, .bf16⟩
  | .hbm, ⟨29, _⟩ => ⟨S8x1024, .bf16⟩
  | .hbm, ⟨30, _⟩ => ⟨S1024x128, .bf16⟩
  | .hbm, ⟨31, _⟩ => ⟨S1024x512, .bf16⟩
  | .hbm, ⟨32, _⟩ => ⟨S1024x512, .bf16⟩
  | .hbm, ⟨33, _⟩ => ⟨S1024x512, .bf16⟩
  | .hbm, ⟨34, _⟩ => ⟨S1024x1024, .bf16⟩
  | .hbm, ⟨35, _⟩ => ⟨S1024x1024, .bf16⟩
  | .hbm, ⟨36, _⟩ => ⟨S1024x1024, .bf16⟩
  | .hbm, ⟨37, _⟩ => ⟨S1024x1024, .bf16⟩
  | .hbm, ⟨38, _⟩ => ⟨S65536x1024, .f32⟩
  | .hbm, ⟨39, _⟩ => ⟨S1x1024, .f32⟩
  | .hbm, ⟨40, _⟩ => ⟨S512x65536, .bf16⟩
  | .hbm, ⟨41, _⟩ => ⟨S65536x64, .bf16⟩
  | .hbm, ⟨42, _⟩ => ⟨S64x65536, .bf16⟩
  | .hbm, ⟨43, _⟩ => ⟨S512x65536, .bf16⟩
  | .hbm, ⟨44, _⟩ => ⟨S65536x64, .bf16⟩
  | .hbm, ⟨45, _⟩ => ⟨S8x65536, .f32⟩
  | .hbm, ⟨46, _⟩ => ⟨S65536x128, .f32⟩
  | .hbm, ⟨47, _⟩ => ⟨S65536x512, .f32⟩
  | .hbm, ⟨48, _⟩ => ⟨S65536x512, .f32⟩
  | .hbm, ⟨49, _⟩ => ⟨S65536x512, .f32⟩
  | .hbm, ⟨50, _⟩ => ⟨S65536x1024, .bf16⟩
  | .hbm, ⟨51, _⟩ => ⟨S65536x1024, .f32⟩
  | .hbm, ⟨52, _⟩ => ⟨S65536x1024, .f32⟩
  | .hbm, ⟨53, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S1024x64, .bf16⟩
  | .local _ .vmem, ⟨5, _⟩ => ⟨S64x1024, .bf16⟩
  | .local _ .vmem, ⟨6, _⟩ => ⟨S512x1024, .bf16⟩
  | .local _ .vmem, ⟨7, _⟩ => ⟨S1024x64, .bf16⟩
  | .local _ .vmem, ⟨8, _⟩ => ⟨S8x1024, .bf16⟩
  | .local _ .vmem, ⟨9, _⟩ => ⟨S1024x128, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x256, .bf16⟩
  | .local _ .vmem, ⟨18, _⟩ => ⟨S512x256, .bf16⟩
  | .local _ .vmem, ⟨19, _⟩ => ⟨S256x64, .bf16⟩
  | .local _ .vmem, ⟨20, _⟩ => ⟨S256x64, .bf16⟩
  | .local _ .vmem, ⟨21, _⟩ => ⟨S64x256, .bf16⟩
  | .local _ .vmem, ⟨22, _⟩ => ⟨S64x256, .bf16⟩
  | .local _ .vmem, ⟨23, _⟩ => ⟨S512x256, .bf16⟩
  | .local _ .vmem, ⟨24, _⟩ => ⟨S512x256, .bf16⟩
  | .local _ .vmem, ⟨25, _⟩ => ⟨S256x64, .bf16⟩
  | .local _ .vmem, ⟨26, _⟩ => ⟨S256x64, .bf16⟩
  | .local _ .vmem, ⟨27, _⟩ => ⟨S8x256, .f32⟩
  | .local _ .vmem, ⟨28, _⟩ => ⟨S8x256, .f32⟩
  | .local _ .vmem, ⟨29, _⟩ => ⟨S256x128, .f32⟩
  | .local _ .vmem, ⟨30, _⟩ => ⟨S256x128, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x1024, .bf16⟩
  | .local _ .vmem, ⟨38, _⟩ => ⟨S256x1024, .bf16⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36_0 : Ref sig .tc := ⟨.hbm, 40, rfl⟩
abbrev main_v36_1 : Ref sig .tc := ⟨.hbm, 41, rfl⟩
abbrev main_v36_2 : Ref sig .tc := ⟨.hbm, 42, rfl⟩
abbrev main_v36_3 : Ref sig .tc := ⟨.hbm, 43, rfl⟩
abbrev main_v36_4 : Ref sig .tc := ⟨.hbm, 44, rfl⟩
abbrev main_v36_5 : Ref sig .tc := ⟨.hbm, 45, rfl⟩
abbrev main_v36_6 : Ref sig .tc := ⟨.hbm, 46, rfl⟩
abbrev main_v36_7 : Ref sig .tc := ⟨.hbm, 47, rfl⟩
abbrev main_v36_8 : Ref sig .tc := ⟨.hbm, 48, rfl⟩
abbrev main_v36_9 : Ref sig .tc := ⟨.hbm, 49, rfl⟩
abbrev main_v36_10 : Ref sig .tc := ⟨.hbm, 50, rfl⟩
abbrev main_v36_11 : Ref sig .tc := ⟨.hbm, 51, rfl⟩
abbrev main_v36_12 : Ref sig .tc := ⟨.hbm, 52, rfl⟩
abbrev main_v36_13 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42
abbrev cc0_sem29_0 : DmaSem sig := 43
abbrev cc0_sem29_1 : DmaSem sig := 44

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]
-- ==== InProjReferenceIdeal.lean ====
abbrev S8x8192x1024 : Shape := ⟨3, ![8, 8192, 1024]⟩
abbrev S1024 : Shape := ⟨1, ![1024]⟩
abbrev S1024x6872 : Shape := ⟨2, ![1024, 6872]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6872 : Shape := ⟨2, ![65536, 6872]⟩
abbrev S65536x512 : Shape := ⟨2, ![65536, 512]⟩
abbrev S65536x64 : Shape := ⟨2, ![65536, 64]⟩
abbrev S65536x8 : Shape := ⟨2, ![65536, 8]⟩
abbrev S65536x16 : Shape := ⟨2, ![65536, 16]⟩
abbrev S65536x128 : Shape := ⟨2, ![65536, 128]⟩
abbrev S512x65536 : Shape := ⟨2, ![512, 65536]⟩
abbrev S64x65536 : Shape := ⟨2, ![64, 65536]⟩
abbrev S8x65536 : Shape := ⟨2, ![8, 65536]⟩

abbrev nBuf : Space → Nat
  | .hbm => 48
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x6872, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x6872, .f32⟩
  | .hbm, ⟨21, _⟩ => ⟨S65536x512, .f32⟩
  | .hbm, ⟨22, _⟩ => ⟨S65536x64, .f32⟩
  | .hbm, ⟨23, _⟩ => ⟨S65536x64, .f32⟩
  | .hbm, ⟨24, _⟩ => ⟨S65536x512, .f32⟩
  | .hbm, ⟨25, _⟩ => ⟨S65536x64, .f32⟩
  | .hbm, ⟨26, _⟩ => ⟨S65536x8, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x1024, .f32⟩
  | .hbm, ⟨31, _⟩ => ⟨S65536x16, .f32⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S_, .i32⟩
  | .hbm, ⟨36, _⟩ => ⟨S_, .f32⟩
  | .hbm, ⟨37, _⟩ => ⟨S65536x128, .f32⟩
  | .hbm, ⟨38, _⟩ => ⟨S512x65536, .f32⟩
  | .hbm, ⟨39, _⟩ => ⟨S64x65536, .f32⟩
  | .hbm, ⟨40, _⟩ => ⟨S512x65536, .f32⟩
  | .hbm, ⟨41, _⟩ => ⟨S8x65536, .f32⟩
  | .hbm, ⟨42, _⟩ => ⟨S512x65536, .bf16⟩
  | .hbm, ⟨43, _⟩ => ⟨S65536x64, .bf16⟩
  | .hbm, ⟨44, _⟩ => ⟨S64x65536, .bf16⟩
  | .hbm, ⟨45, _⟩ => ⟨S512x65536, .bf16⟩
  | .hbm, ⟨46, _⟩ => ⟨S65536x64, .bf16⟩
  | .hbm, ⟨47, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_call0_v0 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x256 : Shape := ⟨3, ![8, 8192, 256]⟩
abbrev S65536x512 : Shape := ⟨2, ![65536, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S65536x256 : Shape := ⟨2, ![65536, 256]⟩
abbrev S1x1024 : Shape := ⟨2, ![1, 1024]⟩
abbrev S512x256 : Shape := ⟨2, ![512, 256]⟩
abbrev S512x512 : Shape := ⟨2, ![512, 512]⟩
abbrev S256x512 : Shape := ⟨2, ![256, 512]⟩
abbrev S256 : Shape := ⟨1, ![256]⟩
abbrev S256x1 : Shape := ⟨2, ![256, 1]⟩
abbrev S256x256 : Shape := ⟨2, ![256, 256]⟩

abbrev nBuf : Space → Nat
  | .hbm => 25
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S65536x512, .bf16⟩
  | .hbm, ⟨3, _⟩ => ⟨S65536x1024, .bf16⟩
  | .hbm, ⟨4, _⟩ => ⟨S65536x1024, .f32⟩
  | .hbm, ⟨5, _⟩ => ⟨S65536x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S65536x1024, .f32⟩
  | .hbm, ⟨15, _⟩ => ⟨S65536x256, .f32⟩
  | .hbm, ⟨16, _⟩ => ⟨S512x1024, .bf16⟩
  | .hbm, ⟨17, _⟩ => ⟨S1024x1024, .bf16⟩
  | .hbm, ⟨18, _⟩ => ⟨S1024x1024, .bf16⟩
  | .hbm, ⟨19, _⟩ => ⟨S256x1024, .bf16⟩
  | .hbm, ⟨20, _⟩ => ⟨S1024x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S256x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S8x8192x1024 : Shape := ⟨3, ![8, 8192, 1024]⟩
abbrev S8x8192x256 : Shape := ⟨3, ![8, 8192, 256]⟩
abbrev S65536x512 : Shape := ⟨2, ![65536, 512]⟩
abbrev S65536x1024 : Shape := ⟨2, ![65536, 1024]⟩
abbrev S512x1024 : Shape := ⟨2, ![512, 1024]⟩
abbrev S1024x1024 : Shape := ⟨2, ![1024, 1024]⟩
abbrev S1024 : Shape := ⟨1, ![1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x256 : Shape := ⟨2, ![65536, 256]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x256, .f32⟩
  | .hbm, ⟨2, _⟩ => ⟨S65536x512, .bf16⟩
  | .hbm, ⟨3, _⟩ => ⟨S65536x1024, .bf16⟩
  | .hbm, ⟨4, _⟩ => ⟨S65536x1024, .f32⟩
  | .hbm, ⟨5, _⟩ => ⟨S65536x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S65536x1024, .f32⟩
  | .hbm, ⟨15, _⟩ => ⟨S65536x512, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x256, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536, .f32⟩
  | .hbm, ⟨61, _⟩ => ⟨S65536x1, .f32⟩
  | .hbm, ⟨62, _⟩ => ⟨S_, .f32⟩
  | .hbm, ⟨63, _⟩ => ⟨S65536x1, .f32⟩
  | .hbm, ⟨64, _⟩ => ⟨S65536x1, .f32⟩
  | .hbm, ⟨65, _⟩ => ⟨S_, .f32⟩
  | .hbm, ⟨66, _⟩ => ⟨S65536x1, .f32⟩
  | .hbm, ⟨67, _⟩ => ⟨S65536x1, .f32⟩
  | .hbm, ⟨68, _⟩ => ⟨S65536x1, .f32⟩
  | .hbm, ⟨69, _⟩ => ⟨S65536x1024, .f32⟩
  | .hbm, ⟨70, _⟩ => ⟨S65536x1024, .f32⟩
  | .hbm, ⟨71, _⟩ => ⟨S1x1024, .f32⟩
  | .hbm, ⟨72, _⟩ => ⟨S65536x1024, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S_, .f32⟩
  | .hbm, ⟨78, _⟩ => ⟨S65536x1024, .f32⟩
  | .hbm, ⟨79, _⟩ => ⟨S65536x1024, .f32⟩
  | .hbm, ⟨80, _⟩ => ⟨S_, .f32⟩
  | .hbm, ⟨81, _⟩ => ⟨S65536x1024, .f32⟩
  | .hbm, ⟨82, _⟩ => ⟨S65536x1024, .f32⟩
  | .hbm, ⟨83, _⟩ => ⟨S65536x1024, .f32⟩
  | .hbm, ⟨84, _⟩ => ⟨S65536x1024, .f32⟩
  | .hbm, ⟨85, _⟩ => ⟨S_, .f32⟩
  | .hbm, ⟨86, _⟩ => ⟨S65536, .f32⟩
  | .hbm, ⟨87, _⟩ => ⟨S65536x1, .f32⟩
  | .hbm, ⟨88, _⟩ => ⟨S_, .f32⟩
  | .hbm, ⟨89, _⟩ => ⟨S65536x1, .f32⟩
  | .hbm, ⟨90, _⟩ => ⟨S65536x1, .f32⟩
  | .hbm, ⟨91, _⟩ => ⟨S_, .f32⟩
  | .hbm, ⟨92, _⟩ => ⟨S65536x1, .f32⟩
  | .hbm, ⟨93, _⟩ => ⟨S65536x1, .f32⟩
  | .hbm, ⟨94, _⟩ => ⟨S65536x1, .f32⟩
  | .hbm, ⟨95, _⟩ => ⟨S65536x1024, .f32⟩
  | .hbm, ⟨96, _⟩ => ⟨S65536x1024, .f32⟩
  | .hbm, ⟨97, _⟩ => ⟨S1x1024, .f32⟩
  | .hbm, ⟨98, _⟩ => ⟨S65536x1024, .f32⟩
  | .hbm, ⟨99, _⟩ => ⟨S65536x1024, .f32⟩
  | .hbm, ⟨100, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Gla.lean ====
abbrev S65536x512 : Shape := ⟨2, ![65536, 512]⟩
abbrev S65536x1024 : Shape := ⟨2, ![65536, 1024]⟩
abbrev S65536x128 : Shape := ⟨2, ![65536, 128]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1 : Shape := ⟨1, ![1]⟩
abbrev S1x512 : Shape := ⟨2, ![1, 512]⟩
abbrev S1x256 : Shape := ⟨2, ![1, 256]⟩
abbrev S128x1024 : Shape := ⟨2, ![128, 1024]⟩
abbrev S128x128 : Shape := ⟨2, ![128, 128]⟩
abbrev S4x128x256 : Shape := ⟨3, ![4, 128, 256]⟩
abbrev S128x256 : Shape := ⟨2, ![128, 256]⟩
abbrev S1x128 : Shape := ⟨2, ![1, 128]⟩
abbrev S1x128x256 : Shape := ⟨3, ![1, 128, 256]⟩
abbrev S16x128 : Shape := ⟨2, ![16, 128]⟩
abbrev S128x1 : Shape := ⟨2, ![128, 1]⟩
abbrev S8x16x128 : Shape := ⟨3, ![8, 16, 128]⟩
abbrev S8x1x128 : Shape := ⟨3, ![8, 1, 128]⟩
abbrev S16x8x128 : Shape := ⟨3, ![16, 8, 128]⟩
abbrev S16x1x128 : Shape := ⟨3, ![16, 1, 128]⟩
abbrev S128 : Shape := ⟨1, ![128]⟩

abbrev nBuf : Space → Nat
  | .hbm => 16
  | .vmem => 16
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x1024, .bf16⟩
  | .hbm, ⟨3, _⟩ => ⟨S65536x1024, .f32⟩
  | .hbm, ⟨4, _⟩ => ⟨S65536x128, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S_, .f32⟩
  | .hbm, ⟨9, _⟩ => ⟨S128x512, .f32⟩
  | .hbm, ⟨10, _⟩ => ⟨S_, .i32⟩
  | .hbm, ⟨11, _⟩ => ⟨S1, .i32⟩
  | .hbm, ⟨12, _⟩ => ⟨S128x512, .f32⟩
  | .hbm, ⟨13, _⟩ => ⟨S1x512, .f32⟩
  | .hbm, ⟨14, _⟩ => ⟨S1x256, .f32⟩
  | .hbm, ⟨15, _⟩ => ⟨S65536x1024, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S1x512, .f32⟩
  | .local _ .vmem, ⟨12, _⟩ => ⟨S1x256, .f32⟩
  | .local _ .vmem, ⟨13, _⟩ => ⟨S128x1024, .bf16⟩
  | .local _ .vmem, ⟨14, _⟩ => ⟨S128x1024, .bf16⟩
  | .local _ .vmem, ⟨15, _⟩ => ⟨S4x128x256, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaIdeal.lean ====
variable {F : FTy → Type} [FloatOps F] [Named F]
def κ : String → Option EReal := fun
  | "log2e_over_tau" => some (((16 * (Real.log 2))⁻¹ : ℝ) : EReal)
  | _ => none
-- ==== GlaReferenceIdeal.lean ====
abbrev S65536x512 : Shape := ⟨2, ![65536, 512]⟩
abbrev S65536x1024 : Shape := ⟨2, ![65536, 1024]⟩
abbrev S65536x128 : Shape := ⟨2, ![65536, 128]⟩
abbrev S16x512 : Shape := ⟨2, ![16, 512]⟩
abbrev S512 : Shape := ⟨1, ![512]⟩
abbrev S256 : Shape := ⟨1, ![256]⟩
abbrev S65536x16 : Shape := ⟨2, ![65536, 16]⟩
abbrev S1x512 : Shape := ⟨2, ![1, 512]⟩
abbrev S_ : Shape := ⟨0, ![]⟩
abbrev S8x8192x4x128 : Shape := ⟨4, ![8, 8192, 4, 128]⟩
abbrev S8x4x8192x128 : Shape := ⟨4, ![8, 4, 8192, 128]⟩
abbrev S8x8192x4x256 : Shape := ⟨4, ![8, 8192, 4, 256]⟩
abbrev S8x4x8192x256 : Shape := ⟨4, ![8, 4, 8192, 256]⟩
abbrev S8192x8192 : Shape := ⟨2, ![8192, 8192]⟩
abbrev S8x4x8192x1x128 : Shape := ⟨5, ![8, 4, 8192, 1, 128]⟩
abbrev S8x4x1x8192x128 : Shape := ⟨5, ![8, 4, 1, 8192, 128]⟩
abbrev S8x4x8192x8192x128 : Shape := ⟨5, ![8, 4, 8192, 8192, 128]⟩
abbrev S1x1x8192x8192x1 : Shape := ⟨5, ![1, 1, 8192, 8192, 1]⟩
abbrev S8x4x8192x8192 : Shape := ⟨4, ![8, 4, 8192, 8192]⟩
abbrev S8x8192x4 : Shape := ⟨3, ![8, 8192, 4]⟩
abbrev S8x8192x4x1 : Shape := ⟨4, ![8, 8192, 4, 1]⟩
abbrev S1x1x1x256 : Shape := ⟨4, ![1, 1, 1, 256]⟩

abbrev nBuf : Space → Nat
  | .hbm => 108
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x1024, .bf16⟩
  | .hbm, ⟨3, _⟩ => ⟨S65536x1024, .f32⟩
  | .hbm, ⟨4, _⟩ => ⟨S65536x128, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S65536x16, .f32⟩
  | .hbm, ⟨9, _⟩ => ⟨S65536x512, .f32⟩
  | .hbm, ⟨10, _⟩ => ⟨S1x512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .i1⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S_, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S8x8192x4x128, .f32⟩
  | .hbm, ⟨36, _⟩ => ⟨S8x4x8192x128, .f32⟩
  | .hbm, ⟨37, _⟩ => ⟨S8x8192x4x128, .f32⟩
  | .hbm, ⟨38, _⟩ => ⟨S8x4x8192x128, .f32⟩
  | .hbm, ⟨39, _⟩ => ⟨S65536x1024, .f32⟩
  | .hbm, ⟨40, _⟩ => ⟨S8x8192x4x256, .f32⟩
  | .hbm, ⟨41, _⟩ => ⟨S8x4x8192x256, .f32⟩
  | .hbm, ⟨42, _⟩ => ⟨S8x8192x4x128, .f32⟩
  | .hbm, ⟨43, _⟩ => ⟨S8x4x8192x128, .f32⟩
  | .hbm, ⟨44, _⟩ => ⟨S_, .f32⟩
  | .hbm, ⟨45, _⟩ => ⟨S_, .f32⟩
  | .hbm, ⟨46, _⟩ => ⟨S8x4x8192x128, .f32⟩
  | .hbm, ⟨47, _⟩ => ⟨S_, .i1⟩
  | .hbm, ⟨48, _⟩ => ⟨S8192x8192, .i1⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S_, .i1⟩
  | .hbm, ⟨56, _⟩ => ⟨S8192x8192, .i1⟩
  | .hbm, ⟨57, _⟩ => ⟨S8192x8192, .i1⟩
  | .hbm, ⟨58, _⟩ => ⟨S8x4x8192x1x128, .f32⟩
  | .hbm, ⟨59, _⟩ => ⟨S8x4x1x8192x128, .f32⟩
  | .hbm, ⟨60, _⟩ => ⟨S8x4x8192x8192x128, .f32⟩
  | .hbm, ⟨61, _⟩ => ⟨S8x4x8192x8192x128, .f32⟩
  | .hbm, ⟨62, _⟩ => ⟨S8x4x8192x8192x128, .f32⟩
  | .hbm, ⟨63, _⟩ => ⟨S1x1x8192x8192x1, .i1⟩
  | .hbm, ⟨64, _⟩ => ⟨S_, .f32⟩
  | .hbm, ⟨65, _⟩ => ⟨S_, .f32⟩
  | .hbm, ⟨66, _⟩ => ⟨S8x4x8192x8192x128, .i1⟩
  | .hbm, ⟨67, _⟩ => ⟨S8x4x8192x8192x128, .f32⟩
  | .hbm, ⟨68, _⟩ => ⟨S8x4x8192x8192x128, .f32⟩
  | .hbm, ⟨69, _⟩ => ⟨S8x4x8192x8192x128, .f32⟩
  | .hbm, ⟨70, _⟩ => ⟨S8x4x8192x1x128, .f32⟩
  | .hbm, ⟨71, _⟩ => ⟨S8x4x1x8192x128, .f32⟩
  | .hbm, ⟨72, _⟩ => ⟨S8x4x8192x8192x128, .f32⟩
  | .hbm, ⟨73, _⟩ => ⟨S8x4x8192x8192x128, .f32⟩
  | .hbm, ⟨74, _⟩ => ⟨S8x4x8192x8192x128, .f32⟩
  | .hbm, ⟨75, _⟩ => ⟨S8x4x8192x8192x128, .f32⟩
  | .hbm, ⟨76, _⟩ => ⟨S_, .f32⟩
  | .hbm, ⟨77, _⟩ => ⟨S8x4x8192x8192, .f32⟩
  | .hbm, ⟨78, _⟩ => ⟨S8x4x8192x256, .f32⟩
  | .hbm, ⟨79, _⟩ => ⟨S8x8192x4x256, .f32⟩
  | .hbm, ⟨80, _⟩ => ⟨S8x8192x4x256, .f32⟩
  | .hbm, ⟨81, _⟩ => ⟨S_, .f32⟩
  | .hbm, ⟨82, _⟩ => ⟨S8x8192x4, .f32⟩
  | .hbm, ⟨83, _⟩ => ⟨S8x8192x4x1, .f32⟩
  | .hbm, ⟨84, _⟩ => ⟨S_, .f32⟩
  | .hbm, ⟨85, _⟩ => ⟨S8x8192x4x1, .f32⟩
  | .hbm, ⟨86, _⟩ => ⟨S8x8192x4x1, .f32⟩
  | .hbm, ⟨87, _⟩ => ⟨S_, .f32⟩
  | .hbm, ⟨88, _⟩ => ⟨S8x8192x4x1, .f32⟩
  | .hbm, ⟨89, _⟩ => ⟨S8x8192x4x1, .f32⟩
  | .hbm, ⟨90, _⟩ => ⟨S8x8192x4x1, .f32⟩
  | .hbm, ⟨91, _⟩ => ⟨S8x8192x4x256, .f32⟩
  | .hbm, ⟨92, _⟩ => ⟨S8x8192x4x256, .f32⟩
  | .hbm, ⟨93, _⟩ => ⟨S1x1x1x256, .f32⟩
  | .hbm, ⟨94, _⟩ => ⟨S8x8192x4x256, .f32⟩
  | .hbm, ⟨95, _⟩ => ⟨S8x8192x4x256, .f32⟩
  | .hbm, ⟨96, _⟩ => ⟨S65536x1024, .f32⟩
  | .hbm, ⟨97, _⟩ => ⟨S65536x1024, .f32⟩
  | .hbm, ⟨98, _⟩ => ⟨S65536x1024, .f32⟩
  | .hbm, ⟨99, _⟩ => ⟨S_, .f32⟩
  | .hbm, ⟨100, _⟩ => ⟨S65536x1024, .f32⟩
  | .hbm, ⟨101, _⟩ => ⟨S65536x1024, .f32⟩
  | .hbm, ⟨102, _⟩ => ⟨S_, .f32⟩
  | .hbm, ⟨103, _⟩ => ⟨S65536x1024, .f32⟩
  | .hbm, ⟨104, _⟩ => ⟨S65536x1024, .f32⟩
  | .hbm, ⟨105, _⟩ => ⟨S65536x1024, .f32⟩
  | .hbm, ⟨106, _⟩ => ⟨S65536x1024, .f32⟩
  | .hbm, ⟨107, _⟩ => ⟨S65536x1024, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call1_call0_cst : Ref sig .tc := ⟨.hbm, 44, rfl⟩
abbrev main_call1_call0_v0 : Ref sig .tc := ⟨.hbm, 45, rfl⟩
abbrev main_v19 : Ref sig .tc := ⟨.hbm, 46, rfl⟩
abbrev main_c : Ref sig .tc := ⟨.hbm, 47, rfl⟩
abbrev main_v20 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_c_0 : Ref sig .tc := ⟨.hbm, 55, rfl⟩
abbrev main_call2_v5 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_1 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_2 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_3 : Ref sig .tc := ⟨.hbm, 81, rfl⟩
abbrev main_v40 : Ref sig .tc := ⟨.hbm, 82, rfl⟩
abbrev main_v41 : Ref sig .tc := ⟨.hbm, 83, rfl⟩
abbrev main_cst_4 : Ref sig .tc := ⟨.hbm, 84, rfl⟩
abbrev main_v42 : Ref sig .tc := ⟨.hbm, 85, rfl⟩
abbrev main_v43 : Ref sig .tc := ⟨.hbm, 86, rfl⟩
abbrev main_cst_5 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩

abbrev nD : Nat := 1
abbrev τ : Topo := Topo.v7x

variable {F : FTy → Type} [FloatOps F]
-- ==== Proof.Dsa.Safe.lean ====
/-
  A body that only loads from and stores into buffers it holds, tests values and counts loops, runs from any assertion
  that holds those buffers at SOME contents back to the same assertion, whatever the values are. `Safe c P p` says this
  of a program `p`; one lemma per construct follows, so that a long body is gone through statement by statement without
  a name for anything it computes.
-/
module

public import Idealize.ShloMosaic.Lib.Exec
public import Idealize.ShloMosaic.Lib.Scf
public import Idealize.ShloMosaic.Lib.Pipeline.Kit

@[expose] public section

noncomputable section

namespace Cert.Proof.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ : Labels}

/-- The assertions of a pipelined launch's proof. -/
abbrev Own (nD : Nat) (τ : Topo) (sig : RefSig) (Val : EltTy → Type) : Type := sProp (MT nD τ sig Unit Val ℕ (UR sig nD τ) ℕ)

/-- The assertion `P` holds the whole of memref `m` on thread `c` at some contents, and whatever else it holds is kept
    apart from it. -/
def Has (c : Dev nD) (P : Own nD τ sig Val) {sh : Shape} {e : EltTy} (m : Memref sig .tc .vmem sh e) : Prop :=
  ∃ R : Own nD τ sig Val, P ⊣⊢ iprop(R ∗ ∃ f : Buf Val (m.view.loc (c : Thread nD τ)), m.view.loc (c : Thread nD τ) ↦[m.view.set]{fullShare} f)

/-- `p` runs from `P` back to `P`, whatever it returns. -/
def Safe (defs : Defs nD τ sig Val Λ) (𝒱 : Variants) (E : Set ℕ) (c : Dev nD) (P : Own nD τ sig Val) {α : Type}
    (p : Prog (TpuEff nD τ sig Val Λ .tc) α) : Prop :=
  P ⊢ wp frame (wpE defs 𝒱 (c : Thread nD τ) none) E p (fun _ => P)

variable {defs : Defs nD τ sig Val Λ} {𝒱 : Variants} {E : Set ℕ} {c : Dev nD} {P : Own nD τ sig Val} {α β : Type}

/-- A program that returns at once. -/
theorem Safe.pure (a : α) : Safe defs 𝒱 E c P (Pure.pure a : Prog (TpuEff nD τ sig Val Λ .tc) α) := by
  unfold Safe
  exact le_wp_ret frame (wpE defs 𝒱 (c : Thread nD τ) none) E a (fun _ => P)

/-- One program after another. -/
theorem Safe.bind {p : Prog (TpuEff nD τ sig Val Λ .tc) β} {k : β → Prog (TpuEff nD τ sig Val Λ .tc) α}
    (h : Safe defs 𝒱 E c P p) (hk : ∀ b, Safe defs 𝒱 E c P (k b)) : Safe defs 𝒱 E c P (p >>= k) := by
  unfold Safe at *
  rw [wp_bind]
  refine h.trans ?_
  exact wp_mono _ _ _ (fun b => hk b)

/-- A load from a buffer held. -/
theorem Safe.load {sh : Shape} {e : EltTy} {m : Memref sig .tc .vmem sh e} {r : LoadRect sh} {hl : m.view.LoadsAt r} (H : Has c P m) :
    Safe defs 𝒱 E c P (Prog.lift (.load m r hl) : Prog (TpuEff nD τ sig Val Λ .tc) (r.shape.Idx → Val e)) := by
  unfold Safe
  obtain ⟨R, hR⟩ := H
  refine hR.1.trans ?_
  iintro ⟨HR, %f, Hm⟩
  iapply (wp_load (m := m) (r := r) (hl := hl) (S := m.view.set) (q := fullShare) (f := f) 𝒱 (c : Thread nD τ) none E (m.view.setOn_subset_set _)) $$ Hm
  iintro Hm
  iapply (le_wp_ret _ _ _ _ _)
  iapply hR.2
  isplitl [HR]
  · iexact HR
  · iexists f
    iexact Hm

/-- A store into a buffer held. -/
theorem Safe.store {sh : Shape} {e : EltTy} {m : Memref sig .tc .vmem sh e} {r : Rect sh} {w : r.shape.Idx → Val e} {Mk : Finset r.shape.Idx}
    {hx : (m.access r).Stores Mk} {hm : Mk = Finset.univ ∨ ∀ a, r.stride a = 1} (H : Has c P m) :
    Safe defs 𝒱 E c P (Prog.lift (.store m r w Mk hx hm) : Prog (TpuEff nD τ sig Val Λ .tc) PUnit) := by
  unfold Safe
  obtain ⟨R, hR⟩ := H
  refine hR.1.trans ?_
  iintro ⟨HR, %f, Hm⟩
  iapply (wp_store (m := m) (r := r) (w := w) (Mk := Mk) (hx := hx) (hm := hm) (S := m.view.set) (f := f) 𝒱 (c : Thread nD τ) none E
    (((m.access r).setOn_subset_set Mk).trans (m.view.set_slice_subset r))) $$ Hm
  iintro Hm
  iapply (le_wp_ret _ _ _ _ _)
  iapply hR.2
  isplitl [HR]
  · iexact HR
  · iexists ((m.access r).write Val f w Mk)
    iexact Hm

/-- A test whose two sides run. -/
theorem Safe.ite {b : Prop} [Decidable b] {p q : Prog (TpuEff nD τ sig Val Λ .tc) α} (hp : Safe defs 𝒱 E c P p) (hq : Safe defs 𝒱 E c P q) :
    Safe defs 𝒱 E c P (if b then p else q) := by
  split <;> assumption

/-- The same where the sides read the test's outcome. -/
theorem Safe.dite {b : Prop} [Decidable b] {p : b → Prog (TpuEff nD τ sig Val Λ .tc) α} {q : ¬ b → Prog (TpuEff nD τ sig Val Λ .tc) α}
    (hp : ∀ h, Safe defs 𝒱 E c P (p h)) (hq : ∀ h, Safe defs 𝒱 E c P (q h)) :
    Safe defs 𝒱 E c P (if h : b then p h else q h) := by
  split
  · exact hp _
  · exact hq _

/-- A counted loop whose every trip runs. -/
theorem Safe.for {w : Nat} {σ : Type} {lb ub st : BitVec w} {hok : Scf.OK lb ub st} {init : σ}
    {body : Fin (Scf.trips lb ub st) → σ → Prog (TpuEff nD τ sig Val Λ .tc) σ} (h : ∀ k a, Safe defs 𝒱 E c P (body k a)) :
    Safe defs 𝒱 E c P (Scf.for lb ub st hok init body) := by
  unfold Safe at *
  refine BIBase.Entails.trans ?_ (Scf.wp_for frame (wpE defs 𝒱 (c : Thread nD τ) none) E lb ub st hok init body (fun _ _ => P) (fun k a => h k a))
  iintro HP
  isplitl [HP]
  · iexact HP
  · iintro %a HP
    iexact HP

end Cert.Proof.Dsa

end
-- ==== Proof.Dsa.Held.lean ====
/-
  The buffers the attention call's body works on, held together.
-/
module

public import proofs.«01_k».proof.Kernel
public import proofs.«01_k».proof.Proof.Dsa.Safe

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}

/-- The assertion holds the windows' memrefs and the scratch buffers of the attention call's body, each whole. -/
structure Held (c : Dev nD) (P : Own nD τ sig (Elt F))
    (arg2 : Memref sig .tc .vmem S512x256 .bf16)
    (arg3 : Memref sig .tc .vmem S8x256 .f32)
    (arg4 : Memref sig .tc .vmem S512x256 .bf16)
    (arg5 : Memref sig .tc .vmem S256x512 .f32)
    (arg6 : Memref sig .tc .vmem S8192x64 .bf16)
    (arg7 : Memref sig .tc .vmem S8192x64 .bf16)
    (arg8 : Memref sig .tc .vmem S64x8192 .bf16)
    (arg9 : Memref sig .tc .vmem S256x512 .bf16)
    (arg10 : Memref sig .tc .vmem S64x2048 .bf16)
    (arg11 : Memref sig .tc .vmem S128x2048 .bf16)
    (arg12 : Memref sig .tc .vmem S8192x128 .bf16)
    (arg13 : Memref sig .tc .vmem S1x1 .f32)
    (arg14 : Memref sig .tc .vmem S16x80x512 .bf16)
    (arg15 : Memref sig .tc .vmem S16x512x256 .f32)
    (arg16 : Memref sig .tc .vmem S32x32x8x256 .i32)
    (arg17 : Memref sig .tc .vmem S32x8x256 .i32)
    (arg18 : Memref sig .tc .vmem S8x256 .i32)
    (arg19 : Memref sig .tc .vmem S16x256 .i32)
    (arg20 : Memref sig .tc .vmem S8x256 .f32)
    (arg21 : Memref sig .tc .vmem S8x256 .f32)
    (arg22 : Memref sig .tc .vmem S8x80x256 .f32)
    (arg23 : Memref sig .tc .vmem S512x2048 .bf16)
    : Prop where
  a2 : Has c P arg2
  a3 : Has c P arg3
  a4 : Has c P arg4
  a5 : Has c P arg5
  a6 : Has c P arg6
  a7 : Has c P arg7
  a8 : Has c P arg8
  a9 : Has c P arg9
  a10 : Has c P arg10
  a11 : Has c P arg11
  a12 : Has c P arg12
  a13 : Has c P arg13
  a14 : Has c P arg14
  a15 : Has c P arg15
  a16 : Has c P arg16
  a17 : Has c P arg17
  a18 : Has c P arg18
  a19 : Has c P arg19
  a20 : Has c P arg20
  a21 : Has c P arg21
  a22 : Has c P arg22
  a23 : Has c P arg23

end Cert.Proof.Dsa

end
-- ==== Proof.Dsa.Parts1.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part1 (H : Held c P arg2 arg3 arg4 arg5 arg6 arg7 arg8 arg9 arg10 arg11 arg12 arg13 arg14 arg15 arg16 arg17 arg18 arg19 arg20 arg21 arg22 arg23) :
    Safe defs 𝒱 E c P (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  unfold k0_part1
  repeat (with_reducible first
    | refine Safe.bind ?_ (fun _ => ?_)
    | exact Safe.load H.a8
    | exact Safe.load H.a14
    | exact Safe.store H.a14
    | exact Safe.pure _)

theorem part2 (H : Held c P arg2 arg3 arg4 arg5 arg6 arg7 arg8 arg9 arg10 arg11 arg12 arg13 arg14 arg15 arg16 arg17 arg18 arg19 arg20 arg21 arg22 arg23) (v715 : Vec F S64x512 .bf16) :
    Safe defs 𝒱 E c P (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v715) := by
  unfold k0_part2
  repeat (with_reducible first
    | refine Safe.bind ?_ (fun _ => ?_)
    | exact Safe.load H.a8
    | exact Safe.load H.a14
    | exact Safe.store H.a14
    | exact Safe.pure _)

theorem part3 (H : Held c P arg2 arg3 arg4 arg5 arg6 arg7 arg8 arg9 arg10 arg11 arg12 arg13 arg14 arg15 arg16 arg17 arg18 arg19 arg20 arg21 arg22 arg23) (v739 : Vec F S64x512 .bf16) :
    Safe defs 𝒱 E c P (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v739) := by
  unfold k0_part3
  repeat (with_reducible first
    | refine Safe.bind ?_ (fun _ => ?_)
    | exact Safe.load H.a8
    | exact Safe.load H.a14
    | exact Safe.store H.a14
    | exact Safe.pure _)

theorem part4 (H : Held c P arg2 arg3 arg4 arg5 arg6 arg7 arg8 arg9 arg10 arg11 arg12 arg13 arg14 arg15 arg16 arg17 arg18 arg19 arg20 arg21 arg22 arg23) (v766 : FVec F S1x64x512 .bf16) :
    Safe defs 𝒱 E c P (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v766) := by
  unfold k0_part4
  repeat (with_reducible first
    | refine Safe.bind ?_ (fun _ => ?_)
    | exact Safe.load H.a8
    | exact Safe.load H.a14
    | exact Safe.store H.a14
    | exact Safe.pure _)

theorem part5 (H : Held c P arg2 arg3 arg4 arg5 arg6 arg7 arg8 arg9 arg10 arg11 arg12 arg13 arg14 arg15 arg16 arg17 arg18 arg19 arg20 arg21 arg22 arg23) (v791 : FVec F S16x512 .bf16) :
    Safe defs 𝒱 E c P (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v791) := by
  unfold k0_part5
  repeat (with_reducible first
    | refine Safe.bind ?_ (fun _ => ?_)
    | exact Safe.load H.a8
    | exact Safe.load H.a14
    | exact Safe.store H.a14
    | exact Safe.pure _)

theorem part6 (H : Held c P arg2 arg3 arg4 arg5 arg6 arg7 arg8 arg9 arg10 arg11 arg12 arg13 arg14 arg15 arg16 arg17 arg18 arg19 arg20 arg21 arg22 arg23) (v815 : FVec F S16x512 .bf16) :
    Safe defs 𝒱 E c P (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v815) := by
  unfold k0_part6
  repeat (with_reducible first
    | refine Safe.bind ?_ (fun _ => ?_)
    | exact Safe.load H.a7
    | exact Safe.load H.a11
    | exact Safe.load H.a12
    | exact Safe.load H.a14
    | exact Safe.load H.a16
    | exact Safe.store H.a11
    | exact Safe.store H.a12
    | exact Safe.store H.a14
    | exact Safe.store H.a16
    | exact Safe.pure _)

theorem part7 (H : Held c P arg2 arg3 arg4 arg5 arg6 arg7 arg8 arg9 arg10 arg11 arg12 arg13 arg14 arg15 arg16 arg17 arg18 arg19 arg20 arg21 arg22 arg23) (v192 : FVec F S8x256 .f32) (c0_i32_83 : BitVec 32) (c1_i32_85 : BitVec 32) (k0_t1 : Fin (k0_t1_loop i).trips) :
    Safe defs 𝒱 E c P (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 c0_i32_83 c1_i32_85 k0_t1) := by
  unfold k0_part7
  repeat (with_reducible first
    | refine Safe.bind ?_ (fun _ => ?_)
    | exact Safe.load H.a6
    | exact Safe.load H.a10
    | exact Safe.pure _)

theorem part8 (H : Held c P arg2 arg3 arg4 arg5 arg6 arg7 arg8 arg9 arg10 arg11 arg12 arg13 arg14 arg15 arg16 arg17 arg18 arg19 arg20 arg21 arg22 arg23) (v192 : FVec F S8x256 .f32) (k0_t1 : Fin (k0_t1_loop i).trips) (arg24 : BitVec 32) (v696 : FVec F S512x2048 .f32) (v732 : FVec F S512x256 .f32) (v736 : FVec F S512x256 .f32) (v737 : FVec F S512x256 .f32) :
    Safe defs 𝒱 E c P (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 k0_t1 arg24 v696 v732 v736 v737) := by
  unfold k0_part8
  repeat (with_reducible first
    | refine Safe.bind ?_ (fun _ => ?_)
    | exact Safe.load H.a15
    | exact Safe.store H.a15
    | exact Safe.pure _)

theorem part9 (H : Held c P arg2 arg3 arg4 arg5 arg6 arg7 arg8 arg9 arg10 arg11 arg12 arg13 arg14 arg15 arg16 arg17 arg18 arg19 arg20 arg21 arg22 arg23) (v763 : IVec S512x256 32) (v764 : IVec S8x256 32) (v765 : IVec S8x256 32) (v766 : IVec S8x256 32) (v767 : IVec S8x256 32) (v768 : IVec S8x256 32) (v780 : IVec S8x256 32) (v781 : IVec S8x256 32) (v782 : IVec S8x256 32) (v783 : IVec S8x256 32) (v784 : IVec S8x256 32) :
    Safe defs 𝒱 E c P (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v763 v764 v765 v766 v767 v768 v780 v781 v782 v783 v784) := by
  unfold k0_part9
  repeat (with_reducible first
    | refine Safe.bind ?_ (fun _ => ?_)
    | exact Safe.pure _)

theorem part10 (H : Held c P arg2 arg3 arg4 arg5 arg6 arg7 arg8 arg9 arg10 arg11 arg12 arg13 arg14 arg15 arg16 arg17 arg18 arg19 arg20 arg21 arg22 arg23) (v768 : IVec S8x256 32) (v769 : IVec S8x256 32) (v770 : IVec S8x256 32) (v771 : IVec S8x256 32) (v772 : IVec S8x256 32) (v773 : IVec S8x256 32) (v784 : IVec S8x256 32) (v785 : IVec S8x256 32) (v786 : IVec S8x256 32) (v787 : IVec S8x256 32) (v788 : IVec S8x256 32) (v789 : IVec S8x256 32) (v836 : IVec S8x256 32) :
    Safe defs 𝒱 E c P (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v768 v769 v770 v771 v772 v773 v784 v785 v786 v787 v788 v789 v836) := by
  unfold k0_part10
  repeat (with_reducible first
    | refine Safe.bind ?_ (fun _ => ?_)
    | exact Safe.pure _)

theorem part11 (H : Held c P arg2 arg3 arg4 arg5 arg6 arg7 arg8 arg9 arg10 arg11 arg12 arg13 arg14 arg15 arg16 arg17 arg18 arg19 arg20 arg21 arg22 arg23) (v773 : IVec S8x256 32) (v774 : IVec S8x256 32) (v775 : IVec S8x256 32) (v776 : IVec S8x256 32) (v777 : IVec S8x256 32) (v778 : IVec S8x256 32) (v789 : IVec S8x256 32) (v790 : IVec S8x256 32) (v791 : IVec S8x256 32) (v792 : IVec S8x256 32) (v793 : IVec S8x256 32) (v794 : IVec S8x256 32) (v881 : IVec S8x256 32) :
    Safe defs 𝒱 E c P (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v773 v774 v775 v776 v777 v778 v789 v790 v791 v792 v793 v794 v881) := by
  unfold k0_part11
  repeat (with_reducible first
    | refine Safe.bind ?_ (fun _ => ?_)
    | exact Safe.pure _)

theorem part12 (H : Held c P arg2 arg3 arg4 arg5 arg6 arg7 arg8 arg9 arg10 arg11 arg12 arg13 arg14 arg15 arg16 arg17 arg18 arg19 arg20 arg21 arg22 arg23) (v778 : IVec S8x256 32) (v779 : IVec S8x256 32) (v794 : IVec S8x256 32) (v795 : IVec S8x256 32) (v801 : IVec S8x256 32) (v810 : IVec S8x256 32) (v819 : IVec S8x256 32) (v828 : IVec S8x256 32) (v873 : IVec S8x256 32) (v882 : IVec S8x256 32) (v891 : IVec S8x256 32) (v900 : IVec S8x256 32) (v926 : IVec S8x256 32) :
    Safe defs 𝒱 E c P (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v778 v779 v794 v795 v801 v810 v819 v828 v873 v882 v891 v900 v926) := by
  unfold k0_part12
  repeat (with_reducible first
    | refine Safe.bind ?_ (fun _ => ?_)
    | exact Safe.pure _)

theorem part13 (H : Held c P arg2 arg3 arg4 arg5 arg6 arg7 arg8 arg9 arg10 arg11 arg12 arg13 arg14 arg15 arg16 arg17 arg18 arg19 arg20 arg21 arg22 arg23) (v804 : IVec S8x256 32) (v828 : IVec S8x256 32) (v837 : IVec S8x256 32) (v846 : IVec S8x256 32) (v855 : IVec S8x256 32) (v864 : IVec S8x256 32) (v876 : IVec S8x256 32) (v900 : IVec S8x256 32) (v909 : IVec S8x256 32) (v918 : IVec S8x256 32) (v927 : IVec S8x256 32) (v936 : IVec S8x256 32) (v971 : IVec S8x256 32) :
    Safe defs 𝒱 E c P (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v804 v828 v837 v846 v855 v864 v876 v900 v909 v918 v927 v936 v971) := by
  unfold k0_part13
  repeat (with_reducible first
    | refine Safe.bind ?_ (fun _ => ?_)
    | exact Safe.pure _)

theorem part14 (H : Held c P arg2 arg3 arg4 arg5 arg6 arg7 arg8 arg9 arg10 arg11 arg12 arg13 arg14 arg15 arg16 arg17 arg18 arg19 arg20 arg21 arg22 arg23) (v804 : IVec S8x256 32) (v813 : IVec S8x256 32) (v822 : IVec S8x256 32) (v831 : IVec S8x256 32) (v840 : IVec S8x256 32) (v849 : IVec S8x256 32) (v876 : IVec S8x256 32) (v885 : IVec S8x256 32) (v894 : IVec S8x256 32) (v903 : IVec S8x256 32) (v912 : IVec S8x256 32) (v921 : IVec S8x256 32) (v1016 : IVec S8x256 32) :
    Safe defs 𝒱 E c P (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v804 v813 v822 v831 v840 v849 v876 v885 v894 v903 v912 v921 v1016) := by
  unfold k0_part14
  repeat (with_reducible first
    | refine Safe.bind ?_ (fun _ => ?_)
    | exact Safe.pure _)

theorem part15 (H : Held c P arg2 arg3 arg4 arg5 arg6 arg7 arg8 arg9 arg10 arg11 arg12 arg13 arg14 arg15 arg16 arg17 arg18 arg19 arg20 arg21 arg22 arg23) (v849 : IVec S8x256 32) (v858 : IVec S8x256 32) (v867 : IVec S8x256 32) (v921 : IVec S8x256 32) (v930 : IVec S8x256 32) (v939 : IVec S8x256 32) (v945 : IVec S8x256 32) (v954 : IVec S8x256 32) (v963 : IVec S8x256 32) (v981 : IVec S8x256 32) (v990 : IVec S8x256 32) (v999 : IVec S8x256 32) (v1061 : IVec S8x256 32) :
    Safe defs 𝒱 E c P (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v849 v858 v867 v921 v930 v939 v945 v954 v963 v981 v990 v999 v1061) := by
  unfold k0_part15
  repeat (with_reducible first
    | refine Safe.bind ?_ (fun _ => ?_)
    | exact Safe.pure _)

theorem part16 (H : Held c P arg2 arg3 arg4 arg5 arg6 arg7 arg8 arg9 arg10 arg11 arg12 arg13 arg14 arg15 arg16 arg17 arg18 arg19 arg20 arg21 arg22 arg23) (v948 : IVec S8x256 32) (v957 : IVec S8x256 32) (v963 : IVec S8x256 32) (v966 : IVec S8x256 32) (v972 : IVec S8x256 32) (v975 : IVec S8x256 32) (v984 : IVec S8x256 32) (v993 : IVec S8x256 32) (v999 : IVec S8x256 32) (v1002 : IVec S8x256 32) (v1008 : IVec S8x256 32) (v1011 : IVec S8x256 32) (v1106 : IVec S8x256 32) :
    Safe defs 𝒱 E c P (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v948 v957 v963 v966 v972 v975 v984 v993 v999 v1002 v1008 v1011 v1106) := by
  unfold k0_part16
  repeat (with_reducible first
    | refine Safe.bind ?_ (fun _ => ?_)
    | exact Safe.pure _)

theorem part17 (H : Held c P arg2 arg3 arg4 arg5 arg6 arg7 arg8 arg9 arg10 arg11 arg12 arg13 arg14 arg15 arg16 arg17 arg18 arg19 arg20 arg21 arg22 arg23) (v975 : IVec S8x256 32) (v1011 : IVec S8x256 32) (v1017 : IVec S8x256 32) (v1020 : IVec S8x256 32) (v1026 : IVec S8x256 32) (v1035 : IVec S8x256 32) (v1044 : IVec S8x256 32) (v1053 : IVec S8x256 32) (v1056 : IVec S8x256 32) (v1062 : IVec S8x256 32) (v1071 : IVec S8x256 32) (v1080 : IVec S8x256 32) (v1151 : IVec S8x256 32) :
    Safe defs 𝒱 E c P (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v975 v1011 v1017 v1020 v1026 v1035 v1044 v1053 v1056 v1062 v1071 v1080 v1151) := by
  unfold k0_part17
  repeat (with_reducible first
    | refine Safe.bind ?_ (fun _ => ?_)
    | exact Safe.pure _)

theorem part18 (H : Held c P arg2 arg3 arg4 arg5 arg6 arg7 arg8 arg9 arg10 arg11 arg12 arg13 arg14 arg15 arg16 arg17 arg18 arg19 arg20 arg21 arg22 arg23) (v1020 : IVec S8x256 32) (v1029 : IVec S8x256 32) (v1038 : IVec S8x256 32) (v1047 : IVec S8x256 32) (v1056 : IVec S8x256 32) (v1065 : IVec S8x256 32) (v1074 : IVec S8x256 32) (v1083 : IVec S8x256 32) (v1089 : IVec S8x256 32) (v1098 : IVec S8x256 32) (v1107 : IVec S8x256 32) (v1116 : IVec S8x256 32) (v1196 : IVec S8x256 32) :
    Safe defs 𝒱 E c P (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1020 v1029 v1038 v1047 v1056 v1065 v1074 v1083 v1089 v1098 v1107 v1116 v1196) := by
  unfold k0_part18
  repeat (with_reducible first
    | refine Safe.bind ?_ (fun _ => ?_)
    | exact Safe.pure _)

theorem part19 (H : Held c P arg2 arg3 arg4 arg5 arg6 arg7 arg8 arg9 arg10 arg11 arg12 arg13 arg14 arg15 arg16 arg17 arg18 arg19 arg20 arg21 arg22 arg23) (v1092 : IVec S8x256 32) (v1098 : IVec S8x256 32) (v1101 : IVec S8x256 32) (v1110 : IVec S8x256 32) (v1116 : IVec S8x256 32) (v1119 : IVec S8x256 32) (v1125 : IVec S8x256 32) (v1128 : IVec S8x256 32) (v1134 : IVec S8x256 32) (v1143 : IVec S8x256 32) (v1146 : IVec S8x256 32) (v1152 : IVec S8x256 32) (v1241 : IVec S8x256 32) :
    Safe defs 𝒱 E c P (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1092 v1098 v1101 v1110 v1116 v1119 v1125 v1128 v1134 v1143 v1146 v1152 v1241) := by
  unfold k0_part19
  repeat (with_reducible first
    | refine Safe.bind ?_ (fun _ => ?_)
    | exact Safe.pure _)

theorem part20 (H : Held c P arg2 arg3 arg4 arg5 arg6 arg7 arg8 arg9 arg10 arg11 arg12 arg13 arg14 arg15 arg16 arg17 arg18 arg19 arg20 arg21 arg22 arg23) (v1128 : IVec S8x256 32) (v1137 : IVec S8x256 32) (v1146 : IVec S8x256 32) (v1155 : IVec S8x256 32) (v1161 : IVec S8x256 32) (v1164 : IVec S8x256 32) (v1170 : IVec S8x256 32) (v1173 : IVec S8x256 32) (v1179 : IVec S8x256 32) (v1182 : IVec S8x256 32) (v1188 : IVec S8x256 32) (v1191 : IVec S8x256 32) (v1286 : IVec S8x256 32) :
    Safe defs 𝒱 E c P (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1128 v1137 v1146 v1155 v1161 v1164 v1170 v1173 v1179 v1182 v1188 v1191 v1286) := by
  unfold k0_part20
  repeat (with_reducible first
    | refine Safe.bind ?_ (fun _ => ?_)
    | exact Safe.pure _)

theorem part21 (H : Held c P arg2 arg3 arg4 arg5 arg6 arg7 arg8 arg9 arg10 arg11 arg12 arg13 arg14 arg15 arg16 arg17 arg18 arg19 arg20 arg21 arg22 arg23) (v1173 : IVec S8x256 32) (v1191 : IVec S8x256 32) (v1197 : IVec S8x256 32) (v1200 : IVec S8x256 32) (v1206 : IVec S8x256 32) (v1209 : IVec S8x256 32) (v1215 : IVec S8x256 32) (v1218 : IVec S8x256 32) (v1224 : IVec S8x256 32) (v1227 : IVec S8x256 32) (v1233 : IVec S8x256 32) (v1242 : IVec S8x256 32) (v1331 : IVec S8x256 32) :
    Safe defs 𝒱 E c P (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1173 v1191 v1197 v1200 v1206 v1209 v1215 v1218 v1224 v1227 v1233 v1242 v1331) := by
  unfold k0_part21
  repeat (with_reducible first
    | refine Safe.bind ?_ (fun _ => ?_)
    | exact Safe.pure _)

theorem part22 (H : Held c P arg2 arg3 arg4 arg5 arg6 arg7 arg8 arg9 arg10 arg11 arg12 arg13 arg14 arg15 arg16 arg17 arg18 arg19 arg20 arg21 arg22 arg23) (v1233 : IVec S8x256 32) (v1236 : IVec S8x256 32) (v1242 : IVec S8x256 32) (v1245 : IVec S8x256 32) (v1251 : IVec S8x256 32) (v1254 : IVec S8x256 32) (v1260 : IVec S8x256 32) (v1263 : IVec S8x256 32) (v1269 : IVec S8x256 32) (v1272 : IVec S8x256 32) (v1278 : IVec S8x256 32) (v1281 : IVec S8x256 32) (v1376 : IVec S8x256 32) :
    Safe defs 𝒱 E c P (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1233 v1236 v1242 v1245 v1251 v1254 v1260 v1263 v1269 v1272 v1278 v1281 v1376) := by
  unfold k0_part22
  repeat (with_reducible first
    | refine Safe.bind ?_ (fun _ => ?_)
    | exact Safe.pure _)

theorem part23 (H : Held c P arg2 arg3 arg4 arg5 arg6 arg7 arg8 arg9 arg10 arg11 arg12 arg13 arg14 arg15 arg16 arg17 arg18 arg19 arg20 arg21 arg22 arg23) (v1272 : IVec S8x256 32) (v1281 : IVec S8x256 32) (v1287 : IVec S8x256 32) (v1290 : IVec S8x256 32) (v1296 : IVec S8x256 32) (v1299 : IVec S8x256 32) (v1305 : IVec S8x256 32) (v1308 : IVec S8x256 32) (v1314 : IVec S8x256 32) (v1317 : IVec S8x256 32) (v1323 : IVec S8x256 32) (v1332 : IVec S8x256 32) (v1421 : IVec S8x256 32) :
    Safe defs 𝒱 E c P (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1272 v1281 v1287 v1290 v1296 v1299 v1305 v1308 v1314 v1317 v1323 v1332 v1421) := by
  unfold k0_part23
  repeat (with_reducible first
    | refine Safe.bind ?_ (fun _ => ?_)
    | exact Safe.pure _)

theorem part24 (H : Held c P arg2 arg3 arg4 arg5 arg6 arg7 arg8 arg9 arg10 arg11 arg12 arg13 arg14 arg15 arg16 arg17 arg18 arg19 arg20 arg21 arg22 arg23) (v1323 : IVec S8x256 32) (v1326 : IVec S8x256 32) (v1332 : IVec S8x256 32) (v1335 : IVec S8x256 32) (v1341 : IVec S8x256 32) (v1344 : IVec S8x256 32) (v1350 : IVec S8x256 32) (v1353 : IVec S8x256 32) (v1359 : IVec S8x256 32) (v1362 : IVec S8x256 32) (v1368 : IVec S8x256 32) (v1371 : IVec S8x256 32) (v1466 : IVec S8x256 32) :
    Safe defs 𝒱 E c P (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1323 v1326 v1332 v1335 v1341 v1344 v1350 v1353 v1359 v1362 v1368 v1371 v1466) := by
  unfold k0_part24
  repeat (with_reducible first
    | refine Safe.bind ?_ (fun _ => ?_)
    | exact Safe.pure _)

theorem part25 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1362 : IVec S8x256 32) (v1371 : IVec S8x256 32) (v1377 : IVec S8x256 32) (v1380 : IVec S8x256 32) (v1386 : IVec S8x256 32) (v1389 : IVec S8x256 32) (v1511 : IVec S8x256 32) :
    Safe defs 𝒱 E c P (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1362 v1371 v1377 v1380 v1386 v1389 v1511) := by
  unfold k0_part25
  repeat (with_reducible first
    | refine Safe.bind ?_ (fun _ => ?_)
    | exact Safe.load H.a16
    | exact Safe.store H.a16
    | exact Safe.pure _)

theorem part26 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1395 : IVec S8x256 32) (v1398 : IVec S8x256 32) (v1404 : IVec S8x256 32) (v1407 : IVec S8x256 32) (v1413 : IVec S8x256 32) :
    Safe defs 𝒱 E c P (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1395 v1398 v1404 v1407 v1413) := by
  unfold k0_part26
  repeat (with_reducible first
    | refine Safe.bind ?_ (fun _ => ?_)
    | exact Safe.load H.a16
    | exact Safe.store H.a16
    | exact Safe.pure _)

theorem part27 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1416 : IVec S8x256 32) (v1422 : IVec S8x256 32) (v1425 : IVec S8x256 32) (v1431 : IVec S8x256 32) (v1434 : IVec S8x256 32) :
    Safe defs 𝒱 E c P (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1416 v1422 v1425 v1431 v1434) := by
  unfold k0_part27
  repeat (with_reducible first
    | refine Safe.bind ?_ (fun _ => ?_)
    | exact Safe.load H.a16
    | exact Safe.store H.a16
    | exact Safe.pure _)

theorem part28 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1440 : IVec S8x256 32) (v1443 : IVec S8x256 32) (v1449 : IVec S8x256 32) (v1452 : IVec S8x256 32) (v1458 : IVec S8x256 32) :
    Safe defs 𝒱 E c P (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1440 v1443 v1449 v1452 v1458) := by
  unfold k0_part28
  repeat (with_reducible first
    | refine Safe.bind ?_ (fun _ => ?_)
    | exact Safe.load H.a16
    | exact Safe.store H.a16
    | exact Safe.pure _)

theorem part29 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1461 : IVec S8x256 32) (v1467 : IVec S8x256 32) (v1470 : IVec S8x256 32) (v1476 : IVec S8x256 32) (v1479 : IVec S8x256 32) :
    Safe defs 𝒱 E c P (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1461 v1467 v1470 v1476 v1479) := by
  unfold k0_part29
  repeat (with_reducible first
    | refine Safe.bind ?_ (fun _ => ?_)
    | exact Safe.load H.a16
    | exact Safe.store H.a16
    | exact Safe.pure _)

theorem part30 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v1485 : IVec S8x256 32) (v1488 : IVec S8x256 32) (v1494 : IVec S8x256 32) (v1497 : IVec S8x256 32) (v1503 : IVec S8x256 32) :
    Safe defs 𝒱 E c P (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v1485 v1488 v1494 v1497 v1503) := by
  unfold k0_part30
  repeat (with_reducible first
    | refine Safe.bind ?_ (fun _ => ?_)
    | exact Safe.load H.a16
    | exact Safe.store H.a16
    | exact Safe.pure _)

theorem part31 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v763 : IVec S512x256 32) (v1506 : IVec S8x256 32) (v1512 : IVec S8x256 32) (v1515 : IVec S8x256 32) :
    Safe defs 𝒱 E c P (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v763 v1506 v1512 v1515) := by
  unfold k0_part31
  repeat (with_reducible first
    | refine Safe.bind ?_ (fun _ => ?_)
    | exact Safe.load H.a16
    | exact Safe.store H.a16
    | exact Safe.pure _)

theorem part32 (H : Held c P arg2 arg3 arg4 arg5 arg6 arg7 arg8 arg9 arg10 arg11 arg12 arg13 arg14 arg15 arg16 arg17 arg18 arg19 arg20 arg21 arg22 arg23) (v763 : IVec S512x256 32) (v1708 : IVec S8x256 32) (v1709 : IVec S8x256 32) (v1710 : IVec S8x256 32) (v1711 : IVec S8x256 32) (v1712 : IVec S8x256 32) (v1724 : IVec S8x256 32) (v1725 : IVec S8x256 32) (v1726 : IVec S8x256 32) (v1727 : IVec S8x256 32) (v1728 : IVec S8x256 32) :
    Safe defs 𝒱 E c P (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v763 v1708 v1709 v1710 v1711 v1712 v1724 v1725 v1726 v1727 v1728) := by
  unfold k0_part32
  repeat (with_reducible first
    | refine Safe.bind ?_ (fun _ => ?_)
    | exact Safe.pure _)

theorem part33 (H : Held c P arg2 arg3 arg4 arg5 arg6 arg7 arg8 arg9 arg10 arg11 arg12 arg13 arg14 arg15 arg16 arg17 arg18 arg19 arg20 arg21 arg22 arg23) (v1713 : IVec S8x256 32) (v1714 : IVec S8x256 32) (v1715 : IVec S8x256 32) (v1716 : IVec S8x256 32) (v1717 : IVec S8x256 32) (v1728 : IVec S8x256 32) (v1729 : IVec S8x256 32) (v1730 : IVec S8x256 32) (v1731 : IVec S8x256 32) (v1732 : IVec S8x256 32) (v1733 : IVec S8x256 32) (v1783 : IVec S8x256 32) :
    Safe defs 𝒱 E c P (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1713 v1714 v1715 v1716 v1717 v1728 v1729 v1730 v1731 v1732 v1733 v1783) := by
  unfold k0_part33
  repeat (with_reducible first
    | refine Safe.bind ?_ (fun _ => ?_)
    | exact Safe.pure _)

theorem part34 (H : Held c P arg2 arg3 arg4 arg5 arg6 arg7 arg8 arg9 arg10 arg11 arg12 arg13 arg14 arg15 arg16 arg17 arg18 arg19 arg20 arg21 arg22 arg23) (v1718 : IVec S8x256 32) (v1719 : IVec S8x256 32) (v1720 : IVec S8x256 32) (v1721 : IVec S8x256 32) (v1722 : IVec S8x256 32) (v1733 : IVec S8x256 32) (v1734 : IVec S8x256 32) (v1735 : IVec S8x256 32) (v1736 : IVec S8x256 32) (v1737 : IVec S8x256 32) (v1738 : IVec S8x256 32) (v1828 : IVec S8x256 32) :
    Safe defs 𝒱 E c P (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1718 v1719 v1720 v1721 v1722 v1733 v1734 v1735 v1736 v1737 v1738 v1828) := by
  unfold k0_part34
  repeat (with_reducible first
    | refine Safe.bind ?_ (fun _ => ?_)
    | exact Safe.pure _)

theorem part35 (H : Held c P arg2 arg3 arg4 arg5 arg6 arg7 arg8 arg9 arg10 arg11 arg12 arg13 arg14 arg15 arg16 arg17 arg18 arg19 arg20 arg21 arg22 arg23) (v1723 : IVec S8x256 32) (v1738 : IVec S8x256 32) (v1739 : IVec S8x256 32) (v1745 : IVec S8x256 32) (v1754 : IVec S8x256 32) (v1763 : IVec S8x256 32) (v1772 : IVec S8x256 32) (v1817 : IVec S8x256 32) (v1826 : IVec S8x256 32) (v1835 : IVec S8x256 32) (v1844 : IVec S8x256 32) (v1873 : IVec S8x256 32) :
    Safe defs 𝒱 E c P (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1723 v1738 v1739 v1745 v1754 v1763 v1772 v1817 v1826 v1835 v1844 v1873) := by
  unfold k0_part35
  repeat (with_reducible first
    | refine Safe.bind ?_ (fun _ => ?_)
    | exact Safe.pure _)

end Cert.Proof.Dsa

end
-- ==== Proof.Dsa.Parts2.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part36 (H : Held c P arg2 arg3 arg4 arg5 arg6 arg7 arg8 arg9 arg10 arg11 arg12 arg13 arg14 arg15 arg16 arg17 arg18 arg19 arg20 arg21 arg22 arg23) (v1748 : IVec S8x256 32) (v1781 : IVec S8x256 32) (v1790 : IVec S8x256 32) (v1799 : IVec S8x256 32) (v1808 : IVec S8x256 32) (v1820 : IVec S8x256 32) (v1844 : IVec S8x256 32) (v1853 : IVec S8x256 32) (v1862 : IVec S8x256 32) (v1871 : IVec S8x256 32) (v1880 : IVec S8x256 32) (v1918 : IVec S8x256 32) :
    Safe defs 𝒱 E c P (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1748 v1781 v1790 v1799 v1808 v1820 v1844 v1853 v1862 v1871 v1880 v1918) := by
  unfold k0_part36
  repeat (with_reducible first
    | refine Safe.bind ?_ (fun _ => ?_)
    | exact Safe.pure _)

theorem part37 (H : Held c P arg2 arg3 arg4 arg5 arg6 arg7 arg8 arg9 arg10 arg11 arg12 arg13 arg14 arg15 arg16 arg17 arg18 arg19 arg20 arg21 arg22 arg23) (v1757 : IVec S8x256 32) (v1766 : IVec S8x256 32) (v1775 : IVec S8x256 32) (v1784 : IVec S8x256 32) (v1793 : IVec S8x256 32) (v1820 : IVec S8x256 32) (v1829 : IVec S8x256 32) (v1838 : IVec S8x256 32) (v1847 : IVec S8x256 32) (v1856 : IVec S8x256 32) (v1865 : IVec S8x256 32) (v1963 : IVec S8x256 32) :
    Safe defs 𝒱 E c P (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1757 v1766 v1775 v1784 v1793 v1820 v1829 v1838 v1847 v1856 v1865 v1963) := by
  unfold k0_part37
  repeat (with_reducible first
    | refine Safe.bind ?_ (fun _ => ?_)
    | exact Safe.pure _)

theorem part38 (H : Held c P arg2 arg3 arg4 arg5 arg6 arg7 arg8 arg9 arg10 arg11 arg12 arg13 arg14 arg15 arg16 arg17 arg18 arg19 arg20 arg21 arg22 arg23) (v1802 : IVec S8x256 32) (v1811 : IVec S8x256 32) (v1865 : IVec S8x256 32) (v1874 : IVec S8x256 32) (v1883 : IVec S8x256 32) (v1889 : IVec S8x256 32) (v1898 : IVec S8x256 32) (v1907 : IVec S8x256 32) (v1925 : IVec S8x256 32) (v1934 : IVec S8x256 32) (v1943 : IVec S8x256 32) (v2008 : IVec S8x256 32) :
    Safe defs 𝒱 E c P (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1802 v1811 v1865 v1874 v1883 v1889 v1898 v1907 v1925 v1934 v1943 v2008) := by
  unfold k0_part38
  repeat (with_reducible first
    | refine Safe.bind ?_ (fun _ => ?_)
    | exact Safe.pure _)

theorem part39 (H : Held c P arg2 arg3 arg4 arg5 arg6 arg7 arg8 arg9 arg10 arg11 arg12 arg13 arg14 arg15 arg16 arg17 arg18 arg19 arg20 arg21 arg22 arg23) (v1892 : IVec S8x256 32) (v1901 : IVec S8x256 32) (v1910 : IVec S8x256 32) (v1916 : IVec S8x256 32) (v1919 : IVec S8x256 32) (v1928 : IVec S8x256 32) (v1937 : IVec S8x256 32) (v1943 : IVec S8x256 32) (v1946 : IVec S8x256 32) (v1952 : IVec S8x256 32) (v1955 : IVec S8x256 32) (v2053 : IVec S8x256 32) :
    Safe defs 𝒱 E c P (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1892 v1901 v1910 v1916 v1919 v1928 v1937 v1943 v1946 v1952 v1955 v2053) := by
  unfold k0_part39
  repeat (with_reducible first
    | refine Safe.bind ?_ (fun _ => ?_)
    | exact Safe.pure _)

theorem part40 (H : Held c P arg2 arg3 arg4 arg5 arg6 arg7 arg8 arg9 arg10 arg11 arg12 arg13 arg14 arg15 arg16 arg17 arg18 arg19 arg20 arg21 arg22 arg23) (v1955 : IVec S8x256 32) (v1961 : IVec S8x256 32) (v1964 : IVec S8x256 32) (v1970 : IVec S8x256 32) (v1979 : IVec S8x256 32) (v1988 : IVec S8x256 32) (v1997 : IVec S8x256 32) (v2000 : IVec S8x256 32) (v2006 : IVec S8x256 32) (v2015 : IVec S8x256 32) (v2024 : IVec S8x256 32) (v2098 : IVec S8x256 32) :
    Safe defs 𝒱 E c P (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1955 v1961 v1964 v1970 v1979 v1988 v1997 v2000 v2006 v2015 v2024 v2098) := by
  unfold k0_part40
  repeat (with_reducible first
    | refine Safe.bind ?_ (fun _ => ?_)
    | exact Safe.pure _)

theorem part41 (H : Held c P arg2 arg3 arg4 arg5 arg6 arg7 arg8 arg9 arg10 arg11 arg12 arg13 arg14 arg15 arg16 arg17 arg18 arg19 arg20 arg21 arg22 arg23) (v1973 : IVec S8x256 32) (v1982 : IVec S8x256 32) (v1991 : IVec S8x256 32) (v2000 : IVec S8x256 32) (v2009 : IVec S8x256 32) (v2018 : IVec S8x256 32) (v2027 : IVec S8x256 32) (v2033 : IVec S8x256 32) (v2042 : IVec S8x256 32) (v2051 : IVec S8x256 32) (v2060 : IVec S8x256 32) (v2143 : IVec S8x256 32) :
    Safe defs 𝒱 E c P (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1973 v1982 v1991 v2000 v2009 v2018 v2027 v2033 v2042 v2051 v2060 v2143) := by
  unfold k0_part41
  repeat (with_reducible first
    | refine Safe.bind ?_ (fun _ => ?_)
    | exact Safe.pure _)

theorem part42 (H : Held c P arg2 arg3 arg4 arg5 arg6 arg7 arg8 arg9 arg10 arg11 arg12 arg13 arg14 arg15 arg16 arg17 arg18 arg19 arg20 arg21 arg22 arg23) (v2036 : IVec S8x256 32) (v2045 : IVec S8x256 32) (v2054 : IVec S8x256 32) (v2060 : IVec S8x256 32) (v2063 : IVec S8x256 32) (v2069 : IVec S8x256 32) (v2072 : IVec S8x256 32) (v2078 : IVec S8x256 32) (v2087 : IVec S8x256 32) (v2090 : IVec S8x256 32) (v2096 : IVec S8x256 32) (v2188 : IVec S8x256 32) :
    Safe defs 𝒱 E c P (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2036 v2045 v2054 v2060 v2063 v2069 v2072 v2078 v2087 v2090 v2096 v2188) := by
  unfold k0_part42
  repeat (with_reducible first
    | refine Safe.bind ?_ (fun _ => ?_)
    | exact Safe.pure _)

theorem part43 (H : Held c P arg2 arg3 arg4 arg5 arg6 arg7 arg8 arg9 arg10 arg11 arg12 arg13 arg14 arg15 arg16 arg17 arg18 arg19 arg20 arg21 arg22 arg23) (v2081 : IVec S8x256 32) (v2090 : IVec S8x256 32) (v2099 : IVec S8x256 32) (v2105 : IVec S8x256 32) (v2108 : IVec S8x256 32) (v2114 : IVec S8x256 32) (v2117 : IVec S8x256 32) (v2123 : IVec S8x256 32) (v2126 : IVec S8x256 32) (v2132 : IVec S8x256 32) (v2135 : IVec S8x256 32) (v2233 : IVec S8x256 32) :
    Safe defs 𝒱 E c P (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2081 v2090 v2099 v2105 v2108 v2114 v2117 v2123 v2126 v2132 v2135 v2233) := by
  unfold k0_part43
  repeat (with_reducible first
    | refine Safe.bind ?_ (fun _ => ?_)
    | exact Safe.pure _)

theorem part44 (H : Held c P arg2 arg3 arg4 arg5 arg6 arg7 arg8 arg9 arg10 arg11 arg12 arg13 arg14 arg15 arg16 arg17 arg18 arg19 arg20 arg21 arg22 arg23) (v2135 : IVec S8x256 32) (v2141 : IVec S8x256 32) (v2144 : IVec S8x256 32) (v2150 : IVec S8x256 32) (v2153 : IVec S8x256 32) (v2159 : IVec S8x256 32) (v2162 : IVec S8x256 32) (v2168 : IVec S8x256 32) (v2171 : IVec S8x256 32) (v2177 : IVec S8x256 32) (v2186 : IVec S8x256 32) (v2278 : IVec S8x256 32) :
    Safe defs 𝒱 E c P (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2135 v2141 v2144 v2150 v2153 v2159 v2162 v2168 v2171 v2177 v2186 v2278) := by
  unfold k0_part44
  repeat (with_reducible first
    | refine Safe.bind ?_ (fun _ => ?_)
    | exact Safe.pure _)

theorem part45 (H : Held c P arg2 arg3 arg4 arg5 arg6 arg7 arg8 arg9 arg10 arg11 arg12 arg13 arg14 arg15 arg16 arg17 arg18 arg19 arg20 arg21 arg22 arg23) (v2180 : IVec S8x256 32) (v2186 : IVec S8x256 32) (v2189 : IVec S8x256 32) (v2195 : IVec S8x256 32) (v2198 : IVec S8x256 32) (v2204 : IVec S8x256 32) (v2207 : IVec S8x256 32) (v2213 : IVec S8x256 32) (v2216 : IVec S8x256 32) (v2222 : IVec S8x256 32) (v2225 : IVec S8x256 32) (v2323 : IVec S8x256 32) :
    Safe defs 𝒱 E c P (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2180 v2186 v2189 v2195 v2198 v2204 v2207 v2213 v2216 v2222 v2225 v2323) := by
  unfold k0_part45
  repeat (with_reducible first
    | refine Safe.bind ?_ (fun _ => ?_)
    | exact Safe.pure _)

theorem part46 (H : Held c P arg2 arg3 arg4 arg5 arg6 arg7 arg8 arg9 arg10 arg11 arg12 arg13 arg14 arg15 arg16 arg17 arg18 arg19 arg20 arg21 arg22 arg23) (v2225 : IVec S8x256 32) (v2231 : IVec S8x256 32) (v2234 : IVec S8x256 32) (v2240 : IVec S8x256 32) (v2243 : IVec S8x256 32) (v2249 : IVec S8x256 32) (v2252 : IVec S8x256 32) (v2258 : IVec S8x256 32) (v2261 : IVec S8x256 32) (v2267 : IVec S8x256 32) (v2276 : IVec S8x256 32) (v2368 : IVec S8x256 32) :
    Safe defs 𝒱 E c P (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2225 v2231 v2234 v2240 v2243 v2249 v2252 v2258 v2261 v2267 v2276 v2368) := by
  unfold k0_part46
  repeat (with_reducible first
    | refine Safe.bind ?_ (fun _ => ?_)
    | exact Safe.pure _)

theorem part47 (H : Held c P arg2 arg3 arg4 arg5 arg6 arg7 arg8 arg9 arg10 arg11 arg12 arg13 arg14 arg15 arg16 arg17 arg18 arg19 arg20 arg21 arg22 arg23) (v2270 : IVec S8x256 32) (v2276 : IVec S8x256 32) (v2279 : IVec S8x256 32) (v2285 : IVec S8x256 32) (v2288 : IVec S8x256 32) (v2294 : IVec S8x256 32) (v2297 : IVec S8x256 32) (v2303 : IVec S8x256 32) (v2306 : IVec S8x256 32) (v2312 : IVec S8x256 32) (v2315 : IVec S8x256 32) (v2413 : IVec S8x256 32) :
    Safe defs 𝒱 E c P (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2270 v2276 v2279 v2285 v2288 v2294 v2297 v2303 v2306 v2312 v2315 v2413) := by
  unfold k0_part47
  repeat (with_reducible first
    | refine Safe.bind ?_ (fun _ => ?_)
    | exact Safe.pure _)

theorem part48 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2315 : IVec S8x256 32) (v2321 : IVec S8x256 32) (v2324 : IVec S8x256 32) (v2330 : IVec S8x256 32) (v2333 : IVec S8x256 32) (v2339 : IVec S8x256 32) (v2458 : IVec S8x256 32) :
    Safe defs 𝒱 E c P (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2315 v2321 v2324 v2330 v2333 v2339 v2458) := by
  unfold k0_part48
  repeat (with_reducible first
    | refine Safe.bind ?_ (fun _ => ?_)
    | exact Safe.load H.a16
    | exact Safe.store H.a16
    | exact Safe.pure _)

theorem part49 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2342 : IVec S8x256 32) (v2348 : IVec S8x256 32) (v2351 : IVec S8x256 32) (v2357 : IVec S8x256 32) (v2360 : IVec S8x256 32) (v2489 : IVec S1x1x8x256 32) :
    Safe defs 𝒱 E c P (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2342 v2348 v2351 v2357 v2360 v2489) := by
  unfold k0_part49
  repeat (with_reducible first
    | refine Safe.bind ?_ (fun _ => ?_)
    | exact Safe.load H.a16
    | exact Safe.store H.a16
    | exact Safe.pure _)

theorem part50 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2366 : IVec S8x256 32) (v2369 : IVec S8x256 32) (v2375 : IVec S8x256 32) (v2378 : IVec S8x256 32) (v2384 : IVec S8x256 32) (v2519 : IVec S1x1x8x256 32) :
    Safe defs 𝒱 E c P (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2366 v2369 v2375 v2378 v2384 v2519) := by
  unfold k0_part50
  repeat (with_reducible first
    | refine Safe.bind ?_ (fun _ => ?_)
    | exact Safe.load H.a16
    | exact Safe.store H.a16
    | exact Safe.pure _)

theorem part51 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2387 : IVec S8x256 32) (v2393 : IVec S8x256 32) (v2396 : IVec S8x256 32) (v2402 : IVec S8x256 32) (v2405 : IVec S8x256 32) (v2549 : IVec S1x1x8x256 32) :
    Safe defs 𝒱 E c P (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2387 v2393 v2396 v2402 v2405 v2549) := by
  unfold k0_part51
  repeat (with_reducible first
    | refine Safe.bind ?_ (fun _ => ?_)
    | exact Safe.load H.a16
    | exact Safe.store H.a16
    | exact Safe.pure _)

theorem part52 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2411 : IVec S8x256 32) (v2414 : IVec S8x256 32) (v2420 : IVec S8x256 32) (v2423 : IVec S8x256 32) (v2429 : IVec S8x256 32) (v2579 : IVec S1x1x8x256 32) :
    Safe defs 𝒱 E c P (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2411 v2414 v2420 v2423 v2429 v2579) := by
  unfold k0_part52
  repeat (with_reducible first
    | refine Safe.bind ?_ (fun _ => ?_)
    | exact Safe.load H.a16
    | exact Safe.store H.a16
    | exact Safe.pure _)

theorem part53 (H : Held c P arg2 arg3 arg4 arg5 arg6 arg7 arg8 arg9 arg10 arg11 arg12 arg13 arg14 arg15 arg16 arg17 arg18 arg19 arg20 arg21 arg22 arg23) (k0_t1 : Fin (k0_t1_loop i).trips) (arg24 : BitVec 32) (v2432 : IVec S8x256 32) (v2438 : IVec S8x256 32) (v2441 : IVec S8x256 32) (v2447 : IVec S8x256 32) (v2450 : IVec S8x256 32) (v2609 : IVec S1x1x8x256 32) :
    Safe defs 𝒱 E c P (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t1 arg24 v2432 v2438 v2441 v2447 v2450 v2609) := by
  unfold k0_part53
  repeat (with_reducible first
    | refine Safe.bind ?_ (fun _ => ?_)
    | exact Safe.load H.a16
    | exact Safe.store H.a16
    | exact Safe.pure _)

theorem part55 (H : Held c P arg2 arg3 arg4 arg5 arg6 arg7 arg8 arg9 arg10 arg11 arg12 arg13 arg14 arg15 arg16 arg17 arg18 arg19 arg20 arg21 arg22 arg23) (v192 : FVec F S8x256 .f32) (v197 : BitVec 32) (c1_i32_86 : BitVec 32) (k0_t2 : Fin (k0_t2_loop i).trips) :
    Safe defs 𝒱 E c P (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 v197 c1_i32_86 k0_t2) := by
  unfold k0_part55
  repeat (with_reducible first
    | refine Safe.bind ?_ (fun _ => ?_)
    | exact Safe.load H.a6
    | exact Safe.load H.a10
    | exact Safe.pure _)

theorem part56 (H : Held c P arg2 arg3 arg4 arg5 arg6 arg7 arg8 arg9 arg10 arg11 arg12 arg13 arg14 arg15 arg16 arg17 arg18 arg19 arg20 arg21 arg22 arg23) (v192 : FVec F S8x256 .f32) (k0_t2 : Fin (k0_t2_loop i).trips) (arg24 : BitVec 32) (v696 : FVec F S512x2048 .f32) (v732 : FVec F S512x256 .f32) (v736 : FVec F S512x256 .f32) (v737 : FVec F S512x256 .f32) :
    Safe defs 𝒱 E c P (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 k0_t2 arg24 v696 v732 v736 v737) := by
  unfold k0_part56
  repeat (with_reducible first
    | refine Safe.bind ?_ (fun _ => ?_)
    | exact Safe.load H.a15
    | exact Safe.store H.a15
    | exact Safe.pure _)

theorem part57 (H : Held c P arg2 arg3 arg4 arg5 arg6 arg7 arg8 arg9 arg10 arg11 arg12 arg13 arg14 arg15 arg16 arg17 arg18 arg19 arg20 arg21 arg22 arg23) (v763 : IVec S512x256 32) (v764 : IVec S8x256 32) (v765 : IVec S8x256 32) (v766 : IVec S8x256 32) (v767 : IVec S8x256 32) (v768 : IVec S8x256 32) (v780 : IVec S8x256 32) (v781 : IVec S8x256 32) (v782 : IVec S8x256 32) (v783 : IVec S8x256 32) (v784 : IVec S8x256 32) :
    Safe defs 𝒱 E c P (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v763 v764 v765 v766 v767 v768 v780 v781 v782 v783 v784) := by
  unfold k0_part57
  repeat (with_reducible first
    | refine Safe.bind ?_ (fun _ => ?_)
    | exact Safe.pure _)

theorem part58 (H : Held c P arg2 arg3 arg4 arg5 arg6 arg7 arg8 arg9 arg10 arg11 arg12 arg13 arg14 arg15 arg16 arg17 arg18 arg19 arg20 arg21 arg22 arg23) (v768 : IVec S8x256 32) (v769 : IVec S8x256 32) (v770 : IVec S8x256 32) (v771 : IVec S8x256 32) (v772 : IVec S8x256 32) (v773 : IVec S8x256 32) (v784 : IVec S8x256 32) (v785 : IVec S8x256 32) (v786 : IVec S8x256 32) (v787 : IVec S8x256 32) (v788 : IVec S8x256 32) (v789 : IVec S8x256 32) (v836 : IVec S8x256 32) :
    Safe defs 𝒱 E c P (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v768 v769 v770 v771 v772 v773 v784 v785 v786 v787 v788 v789 v836) := by
  unfold k0_part58
  repeat (with_reducible first
    | refine Safe.bind ?_ (fun _ => ?_)
    | exact Safe.pure _)

theorem part59 (H : Held c P arg2 arg3 arg4 arg5 arg6 arg7 arg8 arg9 arg10 arg11 arg12 arg13 arg14 arg15 arg16 arg17 arg18 arg19 arg20 arg21 arg22 arg23) (v773 : IVec S8x256 32) (v774 : IVec S8x256 32) (v775 : IVec S8x256 32) (v776 : IVec S8x256 32) (v777 : IVec S8x256 32) (v778 : IVec S8x256 32) (v789 : IVec S8x256 32) (v790 : IVec S8x256 32) (v791 : IVec S8x256 32) (v792 : IVec S8x256 32) (v793 : IVec S8x256 32) (v794 : IVec S8x256 32) (v881 : IVec S8x256 32) :
    Safe defs 𝒱 E c P (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v773 v774 v775 v776 v777 v778 v789 v790 v791 v792 v793 v794 v881) := by
  unfold k0_part59
  repeat (with_reducible first
    | refine Safe.bind ?_ (fun _ => ?_)
    | exact Safe.pure _)

theorem part60 (H : Held c P arg2 arg3 arg4 arg5 arg6 arg7 arg8 arg9 arg10 arg11 arg12 arg13 arg14 arg15 arg16 arg17 arg18 arg19 arg20 arg21 arg22 arg23) (v778 : IVec S8x256 32) (v779 : IVec S8x256 32) (v794 : IVec S8x256 32) (v795 : IVec S8x256 32) (v801 : IVec S8x256 32) (v810 : IVec S8x256 32) (v819 : IVec S8x256 32) (v828 : IVec S8x256 32) (v873 : IVec S8x256 32) (v882 : IVec S8x256 32) (v891 : IVec S8x256 32) (v900 : IVec S8x256 32) (v926 : IVec S8x256 32) :
    Safe defs 𝒱 E c P (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v778 v779 v794 v795 v801 v810 v819 v828 v873 v882 v891 v900 v926) := by
  unfold k0_part60
  repeat (with_reducible first
    | refine Safe.bind ?_ (fun _ => ?_)
    | exact Safe.pure _)

theorem part61 (H : Held c P arg2 arg3 arg4 arg5 arg6 arg7 arg8 arg9 arg10 arg11 arg12 arg13 arg14 arg15 arg16 arg17 arg18 arg19 arg20 arg21 arg22 arg23) (v804 : IVec S8x256 32) (v828 : IVec S8x256 32) (v837 : IVec S8x256 32) (v846 : IVec S8x256 32) (v855 : IVec S8x256 32) (v864 : IVec S8x256 32) (v876 : IVec S8x256 32) (v900 : IVec S8x256 32) (v909 : IVec S8x256 32) (v918 : IVec S8x256 32) (v927 : IVec S8x256 32) (v936 : IVec S8x256 32) (v971 : IVec S8x256 32) :
    Safe defs 𝒱 E c P (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v804 v828 v837 v846 v855 v864 v876 v900 v909 v918 v927 v936 v971) := by
  unfold k0_part61
  repeat (with_reducible first
    | refine Safe.bind ?_ (fun _ => ?_)
    | exact Safe.pure _)

theorem part62 (H : Held c P arg2 arg3 arg4 arg5 arg6 arg7 arg8 arg9 arg10 arg11 arg12 arg13 arg14 arg15 arg16 arg17 arg18 arg19 arg20 arg21 arg22 arg23) (v804 : IVec S8x256 32) (v813 : IVec S8x256 32) (v822 : IVec S8x256 32) (v831 : IVec S8x256 32) (v840 : IVec S8x256 32) (v849 : IVec S8x256 32) (v876 : IVec S8x256 32) (v885 : IVec S8x256 32) (v894 : IVec S8x256 32) (v903 : IVec S8x256 32) (v912 : IVec S8x256 32) (v921 : IVec S8x256 32) (v1016 : IVec S8x256 32) :
    Safe defs 𝒱 E c P (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v804 v813 v822 v831 v840 v849 v876 v885 v894 v903 v912 v921 v1016) := by
  unfold k0_part62
  repeat (with_reducible first
    | refine Safe.bind ?_ (fun _ => ?_)
    | exact Safe.pure _)

theorem part63 (H : Held c P arg2 arg3 arg4 arg5 arg6 arg7 arg8 arg9 arg10 arg11 arg12 arg13 arg14 arg15 arg16 arg17 arg18 arg19 arg20 arg21 arg22 arg23) (v849 : IVec S8x256 32) (v858 : IVec S8x256 32) (v867 : IVec S8x256 32) (v921 : IVec S8x256 32) (v930 : IVec S8x256 32) (v939 : IVec S8x256 32) (v945 : IVec S8x256 32) (v954 : IVec S8x256 32) (v963 : IVec S8x256 32) (v981 : IVec S8x256 32) (v990 : IVec S8x256 32) (v999 : IVec S8x256 32) (v1061 : IVec S8x256 32) :
    Safe defs 𝒱 E c P (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v849 v858 v867 v921 v930 v939 v945 v954 v963 v981 v990 v999 v1061) := by
  unfold k0_part63
  repeat (with_reducible first
    | refine Safe.bind ?_ (fun _ => ?_)
    | exact Safe.pure _)

theorem part64 (H : Held c P arg2 arg3 arg4 arg5 arg6 arg7 arg8 arg9 arg10 arg11 arg12 arg13 arg14 arg15 arg16 arg17 arg18 arg19 arg20 arg21 arg22 arg23) (v948 : IVec S8x256 32) (v957 : IVec S8x256 32) (v963 : IVec S8x256 32) (v966 : IVec S8x256 32) (v972 : IVec S8x256 32) (v975 : IVec S8x256 32) (v984 : IVec S8x256 32) (v993 : IVec S8x256 32) (v999 : IVec S8x256 32) (v1002 : IVec S8x256 32) (v1008 : IVec S8x256 32) (v1011 : IVec S8x256 32) (v1106 : IVec S8x256 32) :
    Safe defs 𝒱 E c P (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v948 v957 v963 v966 v972 v975 v984 v993 v999 v1002 v1008 v1011 v1106) := by
  unfold k0_part64
  repeat (with_reducible first
    | refine Safe.bind ?_ (fun _ => ?_)
    | exact Safe.pure _)

theorem part65 (H : Held c P arg2 arg3 arg4 arg5 arg6 arg7 arg8 arg9 arg10 arg11 arg12 arg13 arg14 arg15 arg16 arg17 arg18 arg19 arg20 arg21 arg22 arg23) (v975 : IVec S8x256 32) (v1011 : IVec S8x256 32) (v1017 : IVec S8x256 32) (v1020 : IVec S8x256 32) (v1026 : IVec S8x256 32) (v1035 : IVec S8x256 32) (v1044 : IVec S8x256 32) (v1053 : IVec S8x256 32) (v1056 : IVec S8x256 32) (v1062 : IVec S8x256 32) (v1071 : IVec S8x256 32) (v1080 : IVec S8x256 32) (v1151 : IVec S8x256 32) :
    Safe defs 𝒱 E c P (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v975 v1011 v1017 v1020 v1026 v1035 v1044 v1053 v1056 v1062 v1071 v1080 v1151) := by
  unfold k0_part65
  repeat (with_reducible first
    | refine Safe.bind ?_ (fun _ => ?_)
    | exact Safe.pure _)

theorem part66 (H : Held c P arg2 arg3 arg4 arg5 arg6 arg7 arg8 arg9 arg10 arg11 arg12 arg13 arg14 arg15 arg16 arg17 arg18 arg19 arg20 arg21 arg22 arg23) (v1020 : IVec S8x256 32) (v1029 : IVec S8x256 32) (v1038 : IVec S8x256 32) (v1047 : IVec S8x256 32) (v1056 : IVec S8x256 32) (v1065 : IVec S8x256 32) (v1074 : IVec S8x256 32) (v1083 : IVec S8x256 32) (v1089 : IVec S8x256 32) (v1098 : IVec S8x256 32) (v1107 : IVec S8x256 32) (v1116 : IVec S8x256 32) (v1196 : IVec S8x256 32) :
    Safe defs 𝒱 E c P (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1020 v1029 v1038 v1047 v1056 v1065 v1074 v1083 v1089 v1098 v1107 v1116 v1196) := by
  unfold k0_part66
  repeat (with_reducible first
    | refine Safe.bind ?_ (fun _ => ?_)
    | exact Safe.pure _)

theorem part67 (H : Held c P arg2 arg3 arg4 arg5 arg6 arg7 arg8 arg9 arg10 arg11 arg12 arg13 arg14 arg15 arg16 arg17 arg18 arg19 arg20 arg21 arg22 arg23) (v1092 : IVec S8x256 32) (v1098 : IVec S8x256 32) (v1101 : IVec S8x256 32) (v1110 : IVec S8x256 32) (v1116 : IVec S8x256 32) (v1119 : IVec S8x256 32) (v1125 : IVec S8x256 32) (v1128 : IVec S8x256 32) (v1134 : IVec S8x256 32) (v1143 : IVec S8x256 32) (v1146 : IVec S8x256 32) (v1152 : IVec S8x256 32) (v1241 : IVec S8x256 32) :
    Safe defs 𝒱 E c P (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1092 v1098 v1101 v1110 v1116 v1119 v1125 v1128 v1134 v1143 v1146 v1152 v1241) := by
  unfold k0_part67
  repeat (with_reducible first
    | refine Safe.bind ?_ (fun _ => ?_)
    | exact Safe.pure _)

theorem part68 (H : Held c P arg2 arg3 arg4 arg5 arg6 arg7 arg8 arg9 arg10 arg11 arg12 arg13 arg14 arg15 arg16 arg17 arg18 arg19 arg20 arg21 arg22 arg23) (v1128 : IVec S8x256 32) (v1137 : IVec S8x256 32) (v1146 : IVec S8x256 32) (v1155 : IVec S8x256 32) (v1161 : IVec S8x256 32) (v1164 : IVec S8x256 32) (v1170 : IVec S8x256 32) (v1173 : IVec S8x256 32) (v1179 : IVec S8x256 32) (v1182 : IVec S8x256 32) (v1188 : IVec S8x256 32) (v1191 : IVec S8x256 32) (v1286 : IVec S8x256 32) :
    Safe defs 𝒱 E c P (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1128 v1137 v1146 v1155 v1161 v1164 v1170 v1173 v1179 v1182 v1188 v1191 v1286) := by
  unfold k0_part68
  repeat (with_reducible first
    | refine Safe.bind ?_ (fun _ => ?_)
    | exact Safe.pure _)

theorem part69 (H : Held c P arg2 arg3 arg4 arg5 arg6 arg7 arg8 arg9 arg10 arg11 arg12 arg13 arg14 arg15 arg16 arg17 arg18 arg19 arg20 arg21 arg22 arg23) (v1173 : IVec S8x256 32) (v1191 : IVec S8x256 32) (v1197 : IVec S8x256 32) (v1200 : IVec S8x256 32) (v1206 : IVec S8x256 32) (v1209 : IVec S8x256 32) (v1215 : IVec S8x256 32) (v1218 : IVec S8x256 32) (v1224 : IVec S8x256 32) (v1227 : IVec S8x256 32) (v1233 : IVec S8x256 32) (v1242 : IVec S8x256 32) (v1331 : IVec S8x256 32) :
    Safe defs 𝒱 E c P (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1173 v1191 v1197 v1200 v1206 v1209 v1215 v1218 v1224 v1227 v1233 v1242 v1331) := by
  unfold k0_part69
  repeat (with_reducible first
    | refine Safe.bind ?_ (fun _ => ?_)
    | exact Safe.pure _)

theorem part70 (H : Held c P arg2 arg3 arg4 arg5 arg6 arg7 arg8 arg9 arg10 arg11 arg12 arg13 arg14 arg15 arg16 arg17 arg18 arg19 arg20 arg21 arg22 arg23) (v1233 : IVec S8x256 32) (v1236 : IVec S8x256 32) (v1242 : IVec S8x256 32) (v1245 : IVec S8x256 32) (v1251 : IVec S8x256 32) (v1254 : IVec S8x256 32) (v1260 : IVec S8x256 32) (v1263 : IVec S8x256 32) (v1269 : IVec S8x256 32) (v1272 : IVec S8x256 32) (v1278 : IVec S8x256 32) (v1281 : IVec S8x256 32) (v1376 : IVec S8x256 32) :
    Safe defs 𝒱 E c P (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1233 v1236 v1242 v1245 v1251 v1254 v1260 v1263 v1269 v1272 v1278 v1281 v1376) := by
  unfold k0_part70
  repeat (with_reducible first
    | refine Safe.bind ?_ (fun _ => ?_)
    | exact Safe.pure _)

theorem part71 (H : Held c P arg2 arg3 arg4 arg5 arg6 arg7 arg8 arg9 arg10 arg11 arg12 arg13 arg14 arg15 arg16 arg17 arg18 arg19 arg20 arg21 arg22 arg23) (v1272 : IVec S8x256 32) (v1281 : IVec S8x256 32) (v1287 : IVec S8x256 32) (v1290 : IVec S8x256 32) (v1296 : IVec S8x256 32) (v1299 : IVec S8x256 32) (v1305 : IVec S8x256 32) (v1308 : IVec S8x256 32) (v1314 : IVec S8x256 32) (v1317 : IVec S8x256 32) (v1323 : IVec S8x256 32) (v1332 : IVec S8x256 32) (v1421 : IVec S8x256 32) :
    Safe defs 𝒱 E c P (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1272 v1281 v1287 v1290 v1296 v1299 v1305 v1308 v1314 v1317 v1323 v1332 v1421) := by
  unfold k0_part71
  repeat (with_reducible first
    | refine Safe.bind ?_ (fun _ => ?_)
    | exact Safe.pure _)

theorem part72 (H : Held c P arg2 arg3 arg4 arg5 arg6 arg7 arg8 arg9 arg10 arg11 arg12 arg13 arg14 arg15 arg16 arg17 arg18 arg19 arg20 arg21 arg22 arg23) (v1323 : IVec S8x256 32) (v1326 : IVec S8x256 32) (v1332 : IVec S8x256 32) (v1335 : IVec S8x256 32) (v1341 : IVec S8x256 32) (v1344 : IVec S8x256 32) (v1350 : IVec S8x256 32) (v1353 : IVec S8x256 32) (v1359 : IVec S8x256 32) (v1362 : IVec S8x256 32) (v1368 : IVec S8x256 32) (v1371 : IVec S8x256 32) (v1466 : IVec S8x256 32) :
    Safe defs 𝒱 E c P (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1323 v1326 v1332 v1335 v1341 v1344 v1350 v1353 v1359 v1362 v1368 v1371 v1466) := by
  unfold k0_part72
  repeat (with_reducible first
    | refine Safe.bind ?_ (fun _ => ?_)
    | exact Safe.pure _)

theorem part73 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1362 : IVec S8x256 32) (v1371 : IVec S8x256 32) (v1377 : IVec S8x256 32) (v1380 : IVec S8x256 32) (v1386 : IVec S8x256 32) (v1389 : IVec S8x256 32) (v1511 : IVec S8x256 32) :
    Safe defs 𝒱 E c P (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1362 v1371 v1377 v1380 v1386 v1389 v1511) := by
  unfold k0_part73
  repeat (with_reducible first
    | refine Safe.bind ?_ (fun _ => ?_)
    | exact Safe.load H.a16
    | exact Safe.store H.a16
    | exact Safe.pure _)

theorem part74 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1395 : IVec S8x256 32) (v1398 : IVec S8x256 32) (v1404 : IVec S8x256 32) (v1407 : IVec S8x256 32) (v1413 : IVec S8x256 32) :
    Safe defs 𝒱 E c P (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1395 v1398 v1404 v1407 v1413) := by
  unfold k0_part74
  repeat (with_reducible first
    | refine Safe.bind ?_ (fun _ => ?_)
    | exact Safe.load H.a16
    | exact Safe.store H.a16
    | exact Safe.pure _)

end Cert.Proof.Dsa

end
-- ==== Proof.Dsa.Parts3.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part75 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1416 : IVec S8x256 32) (v1422 : IVec S8x256 32) (v1425 : IVec S8x256 32) (v1431 : IVec S8x256 32) (v1434 : IVec S8x256 32) :
    Safe defs 𝒱 E c P (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1416 v1422 v1425 v1431 v1434) := by
  unfold k0_part75
  repeat (with_reducible first
    | refine Safe.bind ?_ (fun _ => ?_)
    | exact Safe.load H.a16
    | exact Safe.store H.a16
    | exact Safe.pure _)

theorem part76 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1440 : IVec S8x256 32) (v1443 : IVec S8x256 32) (v1449 : IVec S8x256 32) (v1452 : IVec S8x256 32) (v1458 : IVec S8x256 32) :
    Safe defs 𝒱 E c P (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1440 v1443 v1449 v1452 v1458) := by
  unfold k0_part76
  repeat (with_reducible first
    | refine Safe.bind ?_ (fun _ => ?_)
    | exact Safe.load H.a16
    | exact Safe.store H.a16
    | exact Safe.pure _)

theorem part77 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1461 : IVec S8x256 32) (v1467 : IVec S8x256 32) (v1470 : IVec S8x256 32) (v1476 : IVec S8x256 32) (v1479 : IVec S8x256 32) :
    Safe defs 𝒱 E c P (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1461 v1467 v1470 v1476 v1479) := by
  unfold k0_part77
  repeat (with_reducible first
    | refine Safe.bind ?_ (fun _ => ?_)
    | exact Safe.load H.a16
    | exact Safe.store H.a16
    | exact Safe.pure _)

theorem part78 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v1485 : IVec S8x256 32) (v1488 : IVec S8x256 32) (v1494 : IVec S8x256 32) (v1497 : IVec S8x256 32) (v1503 : IVec S8x256 32) :
    Safe defs 𝒱 E c P (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v1485 v1488 v1494 v1497 v1503) := by
  unfold k0_part78
  repeat (with_reducible first
    | refine Safe.bind ?_ (fun _ => ?_)
    | exact Safe.load H.a16
    | exact Safe.store H.a16
    | exact Safe.pure _)

theorem part79 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v763 : IVec S512x256 32) (v1506 : IVec S8x256 32) (v1512 : IVec S8x256 32) (v1515 : IVec S8x256 32) :
    Safe defs 𝒱 E c P (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v763 v1506 v1512 v1515) := by
  unfold k0_part79
  repeat (with_reducible first
    | refine Safe.bind ?_ (fun _ => ?_)
    | exact Safe.load H.a16
    | exact Safe.store H.a16
    | exact Safe.pure _)

theorem part80 (H : Held c P arg2 arg3 arg4 arg5 arg6 arg7 arg8 arg9 arg10 arg11 arg12 arg13 arg14 arg15 arg16 arg17 arg18 arg19 arg20 arg21 arg22 arg23) (v763 : IVec S512x256 32) (v1708 : IVec S8x256 32) (v1709 : IVec S8x256 32) (v1710 : IVec S8x256 32) (v1711 : IVec S8x256 32) (v1712 : IVec S8x256 32) (v1724 : IVec S8x256 32) (v1725 : IVec S8x256 32) (v1726 : IVec S8x256 32) (v1727 : IVec S8x256 32) (v1728 : IVec S8x256 32) :
    Safe defs 𝒱 E c P (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v763 v1708 v1709 v1710 v1711 v1712 v1724 v1725 v1726 v1727 v1728) := by
  unfold k0_part80
  repeat (with_reducible first
    | refine Safe.bind ?_ (fun _ => ?_)
    | exact Safe.pure _)

theorem part81 (H : Held c P arg2 arg3 arg4 arg5 arg6 arg7 arg8 arg9 arg10 arg11 arg12 arg13 arg14 arg15 arg16 arg17 arg18 arg19 arg20 arg21 arg22 arg23) (v1713 : IVec S8x256 32) (v1714 : IVec S8x256 32) (v1715 : IVec S8x256 32) (v1716 : IVec S8x256 32) (v1717 : IVec S8x256 32) (v1728 : IVec S8x256 32) (v1729 : IVec S8x256 32) (v1730 : IVec S8x256 32) (v1731 : IVec S8x256 32) (v1732 : IVec S8x256 32) (v1733 : IVec S8x256 32) (v1783 : IVec S8x256 32) :
    Safe defs 𝒱 E c P (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1713 v1714 v1715 v1716 v1717 v1728 v1729 v1730 v1731 v1732 v1733 v1783) := by
  unfold k0_part81
  repeat (with_reducible first
    | refine Safe.bind ?_ (fun _ => ?_)
    | exact Safe.pure _)

theorem part82 (H : Held c P arg2 arg3 arg4 arg5 arg6 arg7 arg8 arg9 arg10 arg11 arg12 arg13 arg14 arg15 arg16 arg17 arg18 arg19 arg20 arg21 arg22 arg23) (v1718 : IVec S8x256 32) (v1719 : IVec S8x256 32) (v1720 : IVec S8x256 32) (v1721 : IVec S8x256 32) (v1722 : IVec S8x256 32) (v1733 : IVec S8x256 32) (v1734 : IVec S8x256 32) (v1735 : IVec S8x256 32) (v1736 : IVec S8x256 32) (v1737 : IVec S8x256 32) (v1738 : IVec S8x256 32) (v1828 : IVec S8x256 32) :
    Safe defs 𝒱 E c P (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1718 v1719 v1720 v1721 v1722 v1733 v1734 v1735 v1736 v1737 v1738 v1828) := by
  unfold k0_part82
  repeat (with_reducible first
    | refine Safe.bind ?_ (fun _ => ?_)
    | exact Safe.pure _)

theorem part83 (H : Held c P arg2 arg3 arg4 arg5 arg6 arg7 arg8 arg9 arg10 arg11 arg12 arg13 arg14 arg15 arg16 arg17 arg18 arg19 arg20 arg21 arg22 arg23) (v1723 : IVec S8x256 32) (v1738 : IVec S8x256 32) (v1739 : IVec S8x256 32) (v1745 : IVec S8x256 32) (v1754 : IVec S8x256 32) (v1763 : IVec S8x256 32) (v1772 : IVec S8x256 32) (v1817 : IVec S8x256 32) (v1826 : IVec S8x256 32) (v1835 : IVec S8x256 32) (v1844 : IVec S8x256 32) (v1873 : IVec S8x256 32) :
    Safe defs 𝒱 E c P (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1723 v1738 v1739 v1745 v1754 v1763 v1772 v1817 v1826 v1835 v1844 v1873) := by
  unfold k0_part83
  repeat (with_reducible first
    | refine Safe.bind ?_ (fun _ => ?_)
    | exact Safe.pure _)

theorem part84 (H : Held c P arg2 arg3 arg4 arg5 arg6 arg7 arg8 arg9 arg10 arg11 arg12 arg13 arg14 arg15 arg16 arg17 arg18 arg19 arg20 arg21 arg22 arg23) (v1748 : IVec S8x256 32) (v1781 : IVec S8x256 32) (v1790 : IVec S8x256 32) (v1799 : IVec S8x256 32) (v1808 : IVec S8x256 32) (v1820 : IVec S8x256 32) (v1844 : IVec S8x256 32) (v1853 : IVec S8x256 32) (v1862 : IVec S8x256 32) (v1871 : IVec S8x256 32) (v1880 : IVec S8x256 32) (v1918 : IVec S8x256 32) :
    Safe defs 𝒱 E c P (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1748 v1781 v1790 v1799 v1808 v1820 v1844 v1853 v1862 v1871 v1880 v1918) := by
  unfold k0_part84
  repeat (with_reducible first
    | refine Safe.bind ?_ (fun _ => ?_)
    | exact Safe.pure _)

theorem part85 (H : Held c P arg2 arg3 arg4 arg5 arg6 arg7 arg8 arg9 arg10 arg11 arg12 arg13 arg14 arg15 arg16 arg17 arg18 arg19 arg20 arg21 arg22 arg23) (v1757 : IVec S8x256 32) (v1766 : IVec S8x256 32) (v1775 : IVec S8x256 32) (v1784 : IVec S8x256 32) (v1793 : IVec S8x256 32) (v1820 : IVec S8x256 32) (v1829 : IVec S8x256 32) (v1838 : IVec S8x256 32) (v1847 : IVec S8x256 32) (v1856 : IVec S8x256 32) (v1865 : IVec S8x256 32) (v1963 : IVec S8x256 32) :
    Safe defs 𝒱 E c P (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1757 v1766 v1775 v1784 v1793 v1820 v1829 v1838 v1847 v1856 v1865 v1963) := by
  unfold k0_part85
  repeat (with_reducible first
    | refine Safe.bind ?_ (fun _ => ?_)
    | exact Safe.pure _)

theorem part86 (H : Held c P arg2 arg3 arg4 arg5 arg6 arg7 arg8 arg9 arg10 arg11 arg12 arg13 arg14 arg15 arg16 arg17 arg18 arg19 arg20 arg21 arg22 arg23) (v1802 : IVec S8x256 32) (v1811 : IVec S8x256 32) (v1865 : IVec S8x256 32) (v1874 : IVec S8x256 32) (v1883 : IVec S8x256 32) (v1889 : IVec S8x256 32) (v1898 : IVec S8x256 32) (v1907 : IVec S8x256 32) (v1925 : IVec S8x256 32) (v1934 : IVec S8x256 32) (v1943 : IVec S8x256 32) (v2008 : IVec S8x256 32) :
    Safe defs 𝒱 E c P (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1802 v1811 v1865 v1874 v1883 v1889 v1898 v1907 v1925 v1934 v1943 v2008) := by
  unfold k0_part86
  repeat (with_reducible first
    | refine Safe.bind ?_ (fun _ => ?_)
    | exact Safe.pure _)

theorem part87 (H : Held c P arg2 arg3 arg4 arg5 arg6 arg7 arg8 arg9 arg10 arg11 arg12 arg13 arg14 arg15 arg16 arg17 arg18 arg19 arg20 arg21 arg22 arg23) (v1892 : IVec S8x256 32) (v1901 : IVec S8x256 32) (v1910 : IVec S8x256 32) (v1916 : IVec S8x256 32) (v1919 : IVec S8x256 32) (v1928 : IVec S8x256 32) (v1937 : IVec S8x256 32) (v1943 : IVec S8x256 32) (v1946 : IVec S8x256 32) (v1952 : IVec S8x256 32) (v1955 : IVec S8x256 32) (v2053 : IVec S8x256 32) :
    Safe defs 𝒱 E c P (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1892 v1901 v1910 v1916 v1919 v1928 v1937 v1943 v1946 v1952 v1955 v2053) := by
  unfold k0_part87
  repeat (with_reducible first
    | refine Safe.bind ?_ (fun _ => ?_)
    | exact Safe.pure _)

theorem part88 (H : Held c P arg2 arg3 arg4 arg5 arg6 arg7 arg8 arg9 arg10 arg11 arg12 arg13 arg14 arg15 arg16 arg17 arg18 arg19 arg20 arg21 arg22 arg23) (v1955 : IVec S8x256 32) (v1961 : IVec S8x256 32) (v1964 : IVec S8x256 32) (v1970 : IVec S8x256 32) (v1979 : IVec S8x256 32) (v1988 : IVec S8x256 32) (v1997 : IVec S8x256 32) (v2000 : IVec S8x256 32) (v2006 : IVec S8x256 32) (v2015 : IVec S8x256 32) (v2024 : IVec S8x256 32) (v2098 : IVec S8x256 32) :
    Safe defs 𝒱 E c P (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1955 v1961 v1964 v1970 v1979 v1988 v1997 v2000 v2006 v2015 v2024 v2098) := by
  unfold k0_part88
  repeat (with_reducible first
    | refine Safe.bind ?_ (fun _ => ?_)
    | exact Safe.pure _)

theorem part89 (H : Held c P arg2 arg3 arg4 arg5 arg6 arg7 arg8 arg9 arg10 arg11 arg12 arg13 arg14 arg15 arg16 arg17 arg18 arg19 arg20 arg21 arg22 arg23) (v1973 : IVec S8x256 32) (v1982 : IVec S8x256 32) (v1991 : IVec S8x256 32) (v2000 : IVec S8x256 32) (v2009 : IVec S8x256 32) (v2018 : IVec S8x256 32) (v2027 : IVec S8x256 32) (v2033 : IVec S8x256 32) (v2042 : IVec S8x256 32) (v2051 : IVec S8x256 32) (v2060 : IVec S8x256 32) (v2143 : IVec S8x256 32) :
    Safe defs 𝒱 E c P (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1973 v1982 v1991 v2000 v2009 v2018 v2027 v2033 v2042 v2051 v2060 v2143) := by
  unfold k0_part89
  repeat (with_reducible first
    | refine Safe.bind ?_ (fun _ => ?_)
    | exact Safe.pure _)

theorem part90 (H : Held c P arg2 arg3 arg4 arg5 arg6 arg7 arg8 arg9 arg10 arg11 arg12 arg13 arg14 arg15 arg16 arg17 arg18 arg19 arg20 arg21 arg22 arg23) (v2036 : IVec S8x256 32) (v2045 : IVec S8x256 32) (v2054 : IVec S8x256 32) (v2060 : IVec S8x256 32) (v2063 : IVec S8x256 32) (v2069 : IVec S8x256 32) (v2072 : IVec S8x256 32) (v2078 : IVec S8x256 32) (v2087 : IVec S8x256 32) (v2090 : IVec S8x256 32) (v2096 : IVec S8x256 32) (v2188 : IVec S8x256 32) :
    Safe defs 𝒱 E c P (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2036 v2045 v2054 v2060 v2063 v2069 v2072 v2078 v2087 v2090 v2096 v2188) := by
  unfold k0_part90
  repeat (with_reducible first
    | refine Safe.bind ?_ (fun _ => ?_)
    | exact Safe.pure _)

theorem part91 (H : Held c P arg2 arg3 arg4 arg5 arg6 arg7 arg8 arg9 arg10 arg11 arg12 arg13 arg14 arg15 arg16 arg17 arg18 arg19 arg20 arg21 arg22 arg23) (v2081 : IVec S8x256 32) (v2090 : IVec S8x256 32) (v2099 : IVec S8x256 32) (v2105 : IVec S8x256 32) (v2108 : IVec S8x256 32) (v2114 : IVec S8x256 32) (v2117 : IVec S8x256 32) (v2123 : IVec S8x256 32) (v2126 : IVec S8x256 32) (v2132 : IVec S8x256 32) (v2135 : IVec S8x256 32) (v2233 : IVec S8x256 32) :
    Safe defs 𝒱 E c P (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2081 v2090 v2099 v2105 v2108 v2114 v2117 v2123 v2126 v2132 v2135 v2233) := by
  unfold k0_part91
  repeat (with_reducible first
    | refine Safe.bind ?_ (fun _ => ?_)
    | exact Safe.pure _)

theorem part92 (H : Held c P arg2 arg3 arg4 arg5 arg6 arg7 arg8 arg9 arg10 arg11 arg12 arg13 arg14 arg15 arg16 arg17 arg18 arg19 arg20 arg21 arg22 arg23) (v2135 : IVec S8x256 32) (v2141 : IVec S8x256 32) (v2144 : IVec S8x256 32) (v2150 : IVec S8x256 32) (v2153 : IVec S8x256 32) (v2159 : IVec S8x256 32) (v2162 : IVec S8x256 32) (v2168 : IVec S8x256 32) (v2171 : IVec S8x256 32) (v2177 : IVec S8x256 32) (v2186 : IVec S8x256 32) (v2278 : IVec S8x256 32) :
    Safe defs 𝒱 E c P (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2135 v2141 v2144 v2150 v2153 v2159 v2162 v2168 v2171 v2177 v2186 v2278) := by
  unfold k0_part92
  repeat (with_reducible first
    | refine Safe.bind ?_ (fun _ => ?_)
    | exact Safe.pure _)

theorem part93 (H : Held c P arg2 arg3 arg4 arg5 arg6 arg7 arg8 arg9 arg10 arg11 arg12 arg13 arg14 arg15 arg16 arg17 arg18 arg19 arg20 arg21 arg22 arg23) (v2180 : IVec S8x256 32) (v2186 : IVec S8x256 32) (v2189 : IVec S8x256 32) (v2195 : IVec S8x256 32) (v2198 : IVec S8x256 32) (v2204 : IVec S8x256 32) (v2207 : IVec S8x256 32) (v2213 : IVec S8x256 32) (v2216 : IVec S8x256 32) (v2222 : IVec S8x256 32) (v2225 : IVec S8x256 32) (v2323 : IVec S8x256 32) :
    Safe defs 𝒱 E c P (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2180 v2186 v2189 v2195 v2198 v2204 v2207 v2213 v2216 v2222 v2225 v2323) := by
  unfold k0_part93
  repeat (with_reducible first
    | refine Safe.bind ?_ (fun _ => ?_)
    | exact Safe.pure _)

theorem part94 (H : Held c P arg2 arg3 arg4 arg5 arg6 arg7 arg8 arg9 arg10 arg11 arg12 arg13 arg14 arg15 arg16 arg17 arg18 arg19 arg20 arg21 arg22 arg23) (v2225 : IVec S8x256 32) (v2231 : IVec S8x256 32) (v2234 : IVec S8x256 32) (v2240 : IVec S8x256 32) (v2243 : IVec S8x256 32) (v2249 : IVec S8x256 32) (v2252 : IVec S8x256 32) (v2258 : IVec S8x256 32) (v2261 : IVec S8x256 32) (v2267 : IVec S8x256 32) (v2276 : IVec S8x256 32) (v2368 : IVec S8x256 32) :
    Safe defs 𝒱 E c P (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2225 v2231 v2234 v2240 v2243 v2249 v2252 v2258 v2261 v2267 v2276 v2368) := by
  unfold k0_part94
  repeat (with_reducible first
    | refine Safe.bind ?_ (fun _ => ?_)
    | exact Safe.pure _)

theorem part95 (H : Held c P arg2 arg3 arg4 arg5 arg6 arg7 arg8 arg9 arg10 arg11 arg12 arg13 arg14 arg15 arg16 arg17 arg18 arg19 arg20 arg21 arg22 arg23) (v2270 : IVec S8x256 32) (v2276 : IVec S8x256 32) (v2279 : IVec S8x256 32) (v2285 : IVec S8x256 32) (v2288 : IVec S8x256 32) (v2294 : IVec S8x256 32) (v2297 : IVec S8x256 32) (v2303 : IVec S8x256 32) (v2306 : IVec S8x256 32) (v2312 : IVec S8x256 32) (v2315 : IVec S8x256 32) (v2413 : IVec S8x256 32) :
    Safe defs 𝒱 E c P (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2270 v2276 v2279 v2285 v2288 v2294 v2297 v2303 v2306 v2312 v2315 v2413) := by
  unfold k0_part95
  repeat (with_reducible first
    | refine Safe.bind ?_ (fun _ => ?_)
    | exact Safe.pure _)

theorem part96 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2315 : IVec S8x256 32) (v2321 : IVec S8x256 32) (v2324 : IVec S8x256 32) (v2330 : IVec S8x256 32) (v2333 : IVec S8x256 32) (v2339 : IVec S8x256 32) (v2458 : IVec S8x256 32) :
    Safe defs 𝒱 E c P (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2315 v2321 v2324 v2330 v2333 v2339 v2458) := by
  unfold k0_part96
  repeat (with_reducible first
    | refine Safe.bind ?_ (fun _ => ?_)
    | exact Safe.load H.a16
    | exact Safe.store H.a16
    | exact Safe.pure _)

theorem part97 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2342 : IVec S8x256 32) (v2348 : IVec S8x256 32) (v2351 : IVec S8x256 32) (v2357 : IVec S8x256 32) (v2360 : IVec S8x256 32) (v2489 : IVec S1x1x8x256 32) :
    Safe defs 𝒱 E c P (k0_part97 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2342 v2348 v2351 v2357 v2360 v2489) := by
  unfold k0_part97
  repeat (with_reducible first
    | refine Safe.bind ?_ (fun _ => ?_)
    | exact Safe.load H.a16
    | exact Safe.store H.a16
    | exact Safe.pure _)

theorem part98 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2366 : IVec S8x256 32) (v2369 : IVec S8x256 32) (v2375 : IVec S8x256 32) (v2378 : IVec S8x256 32) (v2384 : IVec S8x256 32) (v2519 : IVec S1x1x8x256 32) :
    Safe defs 𝒱 E c P (k0_part98 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2366 v2369 v2375 v2378 v2384 v2519) := by
  unfold k0_part98
  repeat (with_reducible first
    | refine Safe.bind ?_ (fun _ => ?_)
    | exact Safe.load H.a16
    | exact Safe.store H.a16
    | exact Safe.pure _)

theorem part99 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2387 : IVec S8x256 32) (v2393 : IVec S8x256 32) (v2396 : IVec S8x256 32) (v2402 : IVec S8x256 32) (v2405 : IVec S8x256 32) (v2549 : IVec S1x1x8x256 32) :
    Safe defs 𝒱 E c P (k0_part99 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2387 v2393 v2396 v2402 v2405 v2549) := by
  unfold k0_part99
  repeat (with_reducible first
    | refine Safe.bind ?_ (fun _ => ?_)
    | exact Safe.load H.a16
    | exact Safe.store H.a16
    | exact Safe.pure _)

theorem part100 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2411 : IVec S8x256 32) (v2414 : IVec S8x256 32) (v2420 : IVec S8x256 32) (v2423 : IVec S8x256 32) (v2429 : IVec S8x256 32) (v2579 : IVec S1x1x8x256 32) :
    Safe defs 𝒱 E c P (k0_part100 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2411 v2414 v2420 v2423 v2429 v2579) := by
  unfold k0_part100
  repeat (with_reducible first
    | refine Safe.bind ?_ (fun _ => ?_)
    | exact Safe.load H.a16
    | exact Safe.store H.a16
    | exact Safe.pure _)

theorem part101 (H : Held c P arg2 arg3 arg4 arg5 arg6 arg7 arg8 arg9 arg10 arg11 arg12 arg13 arg14 arg15 arg16 arg17 arg18 arg19 arg20 arg21 arg22 arg23) (k0_t2 : Fin (k0_t2_loop i).trips) (arg24 : BitVec 32) (v2432 : IVec S8x256 32) (v2438 : IVec S8x256 32) (v2441 : IVec S8x256 32) (v2447 : IVec S8x256 32) (v2450 : IVec S8x256 32) (v2609 : IVec S1x1x8x256 32) :
    Safe defs 𝒱 E c P (k0_part101 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t2 arg24 v2432 v2438 v2441 v2447 v2450 v2609) := by
  unfold k0_part101
  repeat (with_reducible first
    | refine Safe.bind ?_ (fun _ => ?_)
    | exact Safe.load H.a16
    | exact Safe.store H.a16
    | exact Safe.pure _)

theorem part103 (H : Held c P arg2 arg3 arg4 arg5 arg6 arg7 arg8 arg9 arg10 arg11 arg12 arg13 arg14 arg15 arg16 arg17 arg18 arg19 arg20 arg21 arg22 arg23) (v188 : BitVec 32) (v192 : FVec F S8x256 .f32) (k0_h2 : k0_cond2 i = 1#1) :
    Safe defs 𝒱 E c P (k0_part103 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 v192 k0_h2) := by
  unfold k0_part103
  repeat (with_reducible first
    | refine Safe.bind ?_ (fun _ => ?_)
    | exact Safe.load H.a6
    | exact Safe.load H.a10
    | exact Safe.pure _)

theorem part104 (H : Held c P arg2 arg3 arg4 arg5 arg6 arg7 arg8 arg9 arg10 arg11 arg12 arg13 arg14 arg15 arg16 arg17 arg18 arg19 arg20 arg21 arg22 arg23) (v171 : BitVec 32) (v188 : BitVec 32) (v192 : FVec F S8x256 .f32) (k0_h2 : k0_cond2 i = 1#1) (v696 : FVec F S256x2048 .f32) (v732 : FVec F S256x256 .f32) (v738 : FVec F S256x256 .f32) :
    Safe defs 𝒱 E c P (k0_part104 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v171 v188 v192 k0_h2 v696 v732 v738) := by
  unfold k0_part104
  repeat (with_reducible first
    | refine Safe.bind ?_ (fun _ => ?_)
    | exact Safe.load H.a15
    | exact Safe.store H.a15
    | exact Safe.pure _)

theorem part105 (H : Held c P arg2 arg3 arg4 arg5 arg6 arg7 arg8 arg9 arg10 arg11 arg12 arg13 arg14 arg15 arg16 arg17 arg18 arg19 arg20 arg21 arg22 arg23) (v773 : IVec S256x256 32) (v774 : IVec S8x256 32) (v775 : IVec S8x256 32) (v776 : IVec S8x256 32) (v777 : IVec S8x256 32) :
    Safe defs 𝒱 E c P (k0_part105 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v773 v774 v775 v776 v777) := by
  unfold k0_part105
  repeat (with_reducible first
    | refine Safe.bind ?_ (fun _ => ?_)
    | exact Safe.pure _)

theorem part106 (H : Held c P arg2 arg3 arg4 arg5 arg6 arg7 arg8 arg9 arg10 arg11 arg12 arg13 arg14 arg15 arg16 arg17 arg18 arg19 arg20 arg21 arg22 arg23) (v778 : IVec S8x256 32) (v779 : IVec S8x256 32) (v780 : IVec S8x256 32) (v781 : IVec S8x256 32) (v782 : IVec S8x256 32) (v793 : IVec S8x256 32) (v794 : IVec S8x256 32) (v795 : IVec S8x256 32) (v796 : IVec S8x256 32) (v797 : IVec S8x256 32) (v798 : IVec S8x256 32) (v837 : IVec S8x256 32) :
    Safe defs 𝒱 E c P (k0_part106 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v778 v779 v780 v781 v782 v793 v794 v795 v796 v797 v798 v837) := by
  unfold k0_part106
  repeat (with_reducible first
    | refine Safe.bind ?_ (fun _ => ?_)
    | exact Safe.pure _)

theorem part107 (H : Held c P arg2 arg3 arg4 arg5 arg6 arg7 arg8 arg9 arg10 arg11 arg12 arg13 arg14 arg15 arg16 arg17 arg18 arg19 arg20 arg21 arg22 arg23) (v783 : IVec S8x256 32) (v784 : IVec S8x256 32) (v785 : IVec S8x256 32) (v786 : IVec S8x256 32) (v787 : IVec S8x256 32) (v798 : IVec S8x256 32) (v799 : IVec S8x256 32) (v800 : IVec S8x256 32) (v801 : IVec S8x256 32) (v802 : IVec S8x256 32) (v803 : IVec S8x256 32) (v882 : IVec S8x256 32) :
    Safe defs 𝒱 E c P (k0_part107 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v783 v784 v785 v786 v787 v798 v799 v800 v801 v802 v803 v882) := by
  unfold k0_part107
  repeat (with_reducible first
    | refine Safe.bind ?_ (fun _ => ?_)
    | exact Safe.pure _)

theorem part108 (H : Held c P arg2 arg3 arg4 arg5 arg6 arg7 arg8 arg9 arg10 arg11 arg12 arg13 arg14 arg15 arg16 arg17 arg18 arg19 arg20 arg21 arg22 arg23) (v788 : IVec S8x256 32) (v789 : IVec S8x256 32) (v803 : IVec S8x256 32) (v804 : IVec S8x256 32) (v805 : IVec S8x256 32) (v811 : IVec S8x256 32) (v820 : IVec S8x256 32) (v829 : IVec S8x256 32) (v883 : IVec S8x256 32) (v892 : IVec S8x256 32) (v901 : IVec S8x256 32) (v927 : IVec S8x256 32) :
    Safe defs 𝒱 E c P (k0_part108 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v788 v789 v803 v804 v805 v811 v820 v829 v883 v892 v901 v927) := by
  unfold k0_part108
  repeat (with_reducible first
    | refine Safe.bind ?_ (fun _ => ?_)
    | exact Safe.pure _)

theorem part109 (H : Held c P arg2 arg3 arg4 arg5 arg6 arg7 arg8 arg9 arg10 arg11 arg12 arg13 arg14 arg15 arg16 arg17 arg18 arg19 arg20 arg21 arg22 arg23) (v838 : IVec S8x256 32) (v847 : IVec S8x256 32) (v856 : IVec S8x256 32) (v865 : IVec S8x256 32) (v874 : IVec S8x256 32) (v901 : IVec S8x256 32) (v910 : IVec S8x256 32) (v919 : IVec S8x256 32) (v928 : IVec S8x256 32) (v937 : IVec S8x256 32) (v946 : IVec S8x256 32) (v972 : IVec S8x256 32) :
    Safe defs 𝒱 E c P (k0_part109 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v838 v847 v856 v865 v874 v901 v910 v919 v928 v937 v946 v972) := by
  unfold k0_part109
  repeat (with_reducible first
    | refine Safe.bind ?_ (fun _ => ?_)
    | exact Safe.pure _)

theorem part110 (H : Held c P arg2 arg3 arg4 arg5 arg6 arg7 arg8 arg9 arg10 arg11 arg12 arg13 arg14 arg15 arg16 arg17 arg18 arg19 arg20 arg21 arg22 arg23) (v814 : IVec S8x256 32) (v823 : IVec S8x256 32) (v832 : IVec S8x256 32) (v841 : IVec S8x256 32) (v850 : IVec S8x256 32) (v886 : IVec S8x256 32) (v895 : IVec S8x256 32) (v904 : IVec S8x256 32) (v913 : IVec S8x256 32) (v922 : IVec S8x256 32) (v946 : IVec S8x256 32) (v1017 : IVec S8x256 32) :
    Safe defs 𝒱 E c P (k0_part110 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v814 v823 v832 v841 v850 v886 v895 v904 v913 v922 v946 v1017) := by
  unfold k0_part110
  repeat (with_reducible first
    | refine Safe.bind ?_ (fun _ => ?_)
    | exact Safe.pure _)

theorem part111 (H : Held c P arg2 arg3 arg4 arg5 arg6 arg7 arg8 arg9 arg10 arg11 arg12 arg13 arg14 arg15 arg16 arg17 arg18 arg19 arg20 arg21 arg22 arg23) (v859 : IVec S8x256 32) (v868 : IVec S8x256 32) (v877 : IVec S8x256 32) (v922 : IVec S8x256 32) (v931 : IVec S8x256 32) (v940 : IVec S8x256 32) (v949 : IVec S8x256 32) (v955 : IVec S8x256 32) (v964 : IVec S8x256 32) (v991 : IVec S8x256 32) (v1000 : IVec S8x256 32) (v1062 : IVec S8x256 32) :
    Safe defs 𝒱 E c P (k0_part111 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v859 v868 v877 v922 v931 v940 v949 v955 v964 v991 v1000 v1062) := by
  unfold k0_part111
  repeat (with_reducible first
    | refine Safe.bind ?_ (fun _ => ?_)
    | exact Safe.pure _)

end Cert.Proof.Dsa

end
-- ==== Proof.Dsa.Parts4.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part112 (H : Held c P arg2 arg3 arg4 arg5 arg6 arg7 arg8 arg9 arg10 arg11 arg12 arg13 arg14 arg15 arg16 arg17 arg18 arg19 arg20 arg21 arg22 arg23) (v958 : IVec S8x256 32) (v967 : IVec S8x256 32) (v973 : IVec S8x256 32) (v976 : IVec S8x256 32) (v982 : IVec S8x256 32) (v994 : IVec S8x256 32) (v1000 : IVec S8x256 32) (v1003 : IVec S8x256 32) (v1009 : IVec S8x256 32) (v1012 : IVec S8x256 32) (v1018 : IVec S8x256 32) (v1107 : IVec S8x256 32) :
    Safe defs 𝒱 E c P (k0_part112 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v958 v967 v973 v976 v982 v994 v1000 v1003 v1009 v1012 v1018 v1107) := by
  unfold k0_part112
  repeat (with_reducible first
    | refine Safe.bind ?_ (fun _ => ?_)
    | exact Safe.pure _)

theorem part113 (H : Held c P arg2 arg3 arg4 arg5 arg6 arg7 arg8 arg9 arg10 arg11 arg12 arg13 arg14 arg15 arg16 arg17 arg18 arg19 arg20 arg21 arg22 arg23) (v985 : IVec S8x256 32) (v1012 : IVec S8x256 32) (v1021 : IVec S8x256 32) (v1027 : IVec S8x256 32) (v1036 : IVec S8x256 32) (v1045 : IVec S8x256 32) (v1054 : IVec S8x256 32) (v1063 : IVec S8x256 32) (v1072 : IVec S8x256 32) (v1081 : IVec S8x256 32) (v1090 : IVec S8x256 32) (v1152 : IVec S8x256 32) :
    Safe defs 𝒱 E c P (k0_part113 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v985 v1012 v1021 v1027 v1036 v1045 v1054 v1063 v1072 v1081 v1090 v1152) := by
  unfold k0_part113
  repeat (with_reducible first
    | refine Safe.bind ?_ (fun _ => ?_)
    | exact Safe.pure _)

theorem part114 (H : Held c P arg2 arg3 arg4 arg5 arg6 arg7 arg8 arg9 arg10 arg11 arg12 arg13 arg14 arg15 arg16 arg17 arg18 arg19 arg20 arg21 arg22 arg23) (v1030 : IVec S8x256 32) (v1039 : IVec S8x256 32) (v1048 : IVec S8x256 32) (v1057 : IVec S8x256 32) (v1066 : IVec S8x256 32) (v1075 : IVec S8x256 32) (v1084 : IVec S8x256 32) (v1090 : IVec S8x256 32) (v1093 : IVec S8x256 32) (v1099 : IVec S8x256 32) (v1117 : IVec S8x256 32) (v1197 : IVec S8x256 32) :
    Safe defs 𝒱 E c P (k0_part114 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1030 v1039 v1048 v1057 v1066 v1075 v1084 v1090 v1093 v1099 v1117 v1197) := by
  unfold k0_part114
  repeat (with_reducible first
    | refine Safe.bind ?_ (fun _ => ?_)
    | exact Safe.pure _)

theorem part115 (H : Held c P arg2 arg3 arg4 arg5 arg6 arg7 arg8 arg9 arg10 arg11 arg12 arg13 arg14 arg15 arg16 arg17 arg18 arg19 arg20 arg21 arg22 arg23) (v1102 : IVec S8x256 32) (v1108 : IVec S8x256 32) (v1111 : IVec S8x256 32) (v1117 : IVec S8x256 32) (v1120 : IVec S8x256 32) (v1126 : IVec S8x256 32) (v1129 : IVec S8x256 32) (v1135 : IVec S8x256 32) (v1144 : IVec S8x256 32) (v1153 : IVec S8x256 32) (v1162 : IVec S8x256 32) (v1242 : IVec S8x256 32) :
    Safe defs 𝒱 E c P (k0_part115 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1102 v1108 v1111 v1117 v1120 v1126 v1129 v1135 v1144 v1153 v1162 v1242) := by
  unfold k0_part115
  repeat (with_reducible first
    | refine Safe.bind ?_ (fun _ => ?_)
    | exact Safe.pure _)

theorem part116 (H : Held c P arg2 arg3 arg4 arg5 arg6 arg7 arg8 arg9 arg10 arg11 arg12 arg13 arg14 arg15 arg16 arg17 arg18 arg19 arg20 arg21 arg22 arg23) (v1138 : IVec S8x256 32) (v1147 : IVec S8x256 32) (v1156 : IVec S8x256 32) (v1162 : IVec S8x256 32) (v1165 : IVec S8x256 32) (v1171 : IVec S8x256 32) (v1174 : IVec S8x256 32) (v1180 : IVec S8x256 32) (v1189 : IVec S8x256 32) (v1192 : IVec S8x256 32) (v1198 : IVec S8x256 32) (v1287 : IVec S8x256 32) :
    Safe defs 𝒱 E c P (k0_part116 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1138 v1147 v1156 v1162 v1165 v1171 v1174 v1180 v1189 v1192 v1198 v1287) := by
  unfold k0_part116
  repeat (with_reducible first
    | refine Safe.bind ?_ (fun _ => ?_)
    | exact Safe.pure _)

theorem part117 (H : Held c P arg2 arg3 arg4 arg5 arg6 arg7 arg8 arg9 arg10 arg11 arg12 arg13 arg14 arg15 arg16 arg17 arg18 arg19 arg20 arg21 arg22 arg23) (v1183 : IVec S8x256 32) (v1192 : IVec S8x256 32) (v1201 : IVec S8x256 32) (v1207 : IVec S8x256 32) (v1210 : IVec S8x256 32) (v1216 : IVec S8x256 32) (v1219 : IVec S8x256 32) (v1225 : IVec S8x256 32) (v1228 : IVec S8x256 32) (v1234 : IVec S8x256 32) (v1237 : IVec S8x256 32) (v1332 : IVec S8x256 32) :
    Safe defs 𝒱 E c P (k0_part117 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1183 v1192 v1201 v1207 v1210 v1216 v1219 v1225 v1228 v1234 v1237 v1332) := by
  unfold k0_part117
  repeat (with_reducible first
    | refine Safe.bind ?_ (fun _ => ?_)
    | exact Safe.pure _)

theorem part118 (H : Held c P arg2 arg3 arg4 arg5 arg6 arg7 arg8 arg9 arg10 arg11 arg12 arg13 arg14 arg15 arg16 arg17 arg18 arg19 arg20 arg21 arg22 arg23) (v1237 : IVec S8x256 32) (v1243 : IVec S8x256 32) (v1246 : IVec S8x256 32) (v1252 : IVec S8x256 32) (v1255 : IVec S8x256 32) (v1261 : IVec S8x256 32) (v1264 : IVec S8x256 32) (v1270 : IVec S8x256 32) (v1273 : IVec S8x256 32) (v1279 : IVec S8x256 32) (v1288 : IVec S8x256 32) (v1377 : IVec S8x256 32) :
    Safe defs 𝒱 E c P (k0_part118 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1237 v1243 v1246 v1252 v1255 v1261 v1264 v1270 v1273 v1279 v1288 v1377) := by
  unfold k0_part118
  repeat (with_reducible first
    | refine Safe.bind ?_ (fun _ => ?_)
    | exact Safe.pure _)

theorem part119 (H : Held c P arg2 arg3 arg4 arg5 arg6 arg7 arg8 arg9 arg10 arg11 arg12 arg13 arg14 arg15 arg16 arg17 arg18 arg19 arg20 arg21 arg22 arg23) (v1282 : IVec S8x256 32) (v1288 : IVec S8x256 32) (v1291 : IVec S8x256 32) (v1297 : IVec S8x256 32) (v1300 : IVec S8x256 32) (v1306 : IVec S8x256 32) (v1309 : IVec S8x256 32) (v1315 : IVec S8x256 32) (v1318 : IVec S8x256 32) (v1324 : IVec S8x256 32) (v1327 : IVec S8x256 32) (v1422 : IVec S8x256 32) :
    Safe defs 𝒱 E c P (k0_part119 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1282 v1288 v1291 v1297 v1300 v1306 v1309 v1315 v1318 v1324 v1327 v1422) := by
  unfold k0_part119
  repeat (with_reducible first
    | refine Safe.bind ?_ (fun _ => ?_)
    | exact Safe.pure _)

theorem part120 (H : Held c P arg2 arg3 arg4 arg5 arg6 arg7 arg8 arg9 arg10 arg11 arg12 arg13 arg14 arg15 arg16 arg17 arg18 arg19 arg20 arg21 arg22 arg23) (v1327 : IVec S8x256 32) (v1333 : IVec S8x256 32) (v1336 : IVec S8x256 32) (v1342 : IVec S8x256 32) (v1345 : IVec S8x256 32) (v1351 : IVec S8x256 32) (v1354 : IVec S8x256 32) (v1360 : IVec S8x256 32) (v1363 : IVec S8x256 32) (v1369 : IVec S8x256 32) (v1378 : IVec S8x256 32) (v1467 : IVec S8x256 32) :
    Safe defs 𝒱 E c P (k0_part120 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1327 v1333 v1336 v1342 v1345 v1351 v1354 v1360 v1363 v1369 v1378 v1467) := by
  unfold k0_part120
  repeat (with_reducible first
    | refine Safe.bind ?_ (fun _ => ?_)
    | exact Safe.pure _)

theorem part121 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1372 : IVec S8x256 32) (v1378 : IVec S8x256 32) (v1381 : IVec S8x256 32) (v1387 : IVec S8x256 32) (v1390 : IVec S8x256 32) (v1396 : IVec S8x256 32) (v1512 : IVec S8x256 32) :
    Safe defs 𝒱 E c P (k0_part121 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1372 v1378 v1381 v1387 v1390 v1396 v1512) := by
  unfold k0_part121
  repeat (with_reducible first
    | refine Safe.bind ?_ (fun _ => ?_)
    | exact Safe.load H.a16
    | exact Safe.store H.a16
    | exact Safe.pure _)

theorem part122 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1399 : IVec S8x256 32) (v1405 : IVec S8x256 32) (v1408 : IVec S8x256 32) (v1414 : IVec S8x256 32) (v1417 : IVec S8x256 32) :
    Safe defs 𝒱 E c P (k0_part122 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1399 v1405 v1408 v1414 v1417) := by
  unfold k0_part122
  repeat (with_reducible first
    | refine Safe.bind ?_ (fun _ => ?_)
    | exact Safe.load H.a16
    | exact Safe.store H.a16
    | exact Safe.pure _)

theorem part123 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1423 : IVec S8x256 32) (v1426 : IVec S8x256 32) (v1432 : IVec S8x256 32) (v1435 : IVec S8x256 32) (v1441 : IVec S8x256 32) :
    Safe defs 𝒱 E c P (k0_part123 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1423 v1426 v1432 v1435 v1441) := by
  unfold k0_part123
  repeat (with_reducible first
    | refine Safe.bind ?_ (fun _ => ?_)
    | exact Safe.load H.a16
    | exact Safe.store H.a16
    | exact Safe.pure _)

theorem part124 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1444 : IVec S8x256 32) (v1450 : IVec S8x256 32) (v1453 : IVec S8x256 32) (v1459 : IVec S8x256 32) (v1462 : IVec S8x256 32) :
    Safe defs 𝒱 E c P (k0_part124 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1444 v1450 v1453 v1459 v1462) := by
  unfold k0_part124
  repeat (with_reducible first
    | refine Safe.bind ?_ (fun _ => ?_)
    | exact Safe.load H.a16
    | exact Safe.store H.a16
    | exact Safe.pure _)

theorem part125 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1468 : IVec S8x256 32) (v1471 : IVec S8x256 32) (v1477 : IVec S8x256 32) (v1480 : IVec S8x256 32) (v1486 : IVec S8x256 32) :
    Safe defs 𝒱 E c P (k0_part125 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1468 v1471 v1477 v1480 v1486) := by
  unfold k0_part125
  repeat (with_reducible first
    | refine Safe.bind ?_ (fun _ => ?_)
    | exact Safe.load H.a16
    | exact Safe.store H.a16
    | exact Safe.pure _)

theorem part126 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1489 : IVec S8x256 32) (v1495 : IVec S8x256 32) (v1498 : IVec S8x256 32) (v1504 : IVec S8x256 32) (v1507 : IVec S8x256 32) :
    Safe defs 𝒱 E c P (k0_part126 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1489 v1495 v1498 v1504 v1507) := by
  unfold k0_part126
  repeat (with_reducible first
    | refine Safe.bind ?_ (fun _ => ?_)
    | exact Safe.load H.a16
    | exact Safe.store H.a16
    | exact Safe.pure _)

theorem part127 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1513 : IVec S8x256 32) (v1516 : IVec S8x256 32) (v1522 : IVec S8x256 32) (v1525 : IVec S8x256 32) :
    Safe defs 𝒱 E c P (k0_part127 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1513 v1516 v1522 v1525) := by
  unfold k0_part127
  repeat (with_reducible first
    | refine Safe.bind ?_ (fun _ => ?_)
    | exact Safe.load H.a15
    | exact Safe.load H.a16
    | exact Safe.store H.a15
    | exact Safe.store H.a16
    | exact Safe.pure _)

theorem part128 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1723 : IVec S8x256 32) (v1727 : Vec F S1x1x8x256 .i32) :
    Safe defs 𝒱 E c P (k0_part128 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1723 v1727) := by
  unfold k0_part128
  repeat (with_reducible first
    | refine Safe.bind ?_ (fun _ => ?_)
    | exact Safe.load H.a16
    | exact Safe.store H.a16
    | exact Safe.pure _)

theorem part129 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (c0_i32_868 : BitVec 32) :
    Safe defs 𝒱 E c P (k0_part129 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 c0_i32_868) := by
  unfold k0_part129
  repeat (with_reducible first
    | refine Safe.bind ?_ (fun _ => ?_)
    | exact Safe.load H.a16
    | exact Safe.store H.a16
    | exact Safe.pure _)

theorem part130 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1786 : IVec S8x256 32) (v1787 : BitVec 32) (c1_i32_894 : BitVec 32) :
    Safe defs 𝒱 E c P (k0_part130 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1786 v1787 c1_i32_894) := by
  unfold k0_part130
  repeat (with_reducible first
    | refine Safe.bind ?_ (fun _ => ?_)
    | exact Safe.load H.a16
    | exact Safe.store H.a16
    | exact Safe.pure _)

theorem part131 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1814 : IVec S8x256 32) :
    Safe defs 𝒱 E c P (k0_part131 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1814) := by
  unfold k0_part131
  repeat (with_reducible first
    | refine Safe.bind ?_ (fun _ => ?_)
    | exact Safe.load H.a16
    | exact Safe.store H.a16
    | exact Safe.pure _)

theorem part132 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1848 : IVec S1x1x8x256 32) :
    Safe defs 𝒱 E c P (k0_part132 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1848) := by
  unfold k0_part132
  repeat (with_reducible first
    | refine Safe.bind ?_ (fun _ => ?_)
    | exact Safe.load H.a16
    | exact Safe.store H.a16
    | exact Safe.pure _)

theorem part133 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1877 : IVec S8x256 32) (c2_i32_971 : BitVec 32) :
    Safe defs 𝒱 E c P (k0_part133 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1877 c2_i32_971) := by
  unfold k0_part133
  repeat (with_reducible first
    | refine Safe.bind ?_ (fun _ => ?_)
    | exact Safe.load H.a16
    | exact Safe.store H.a16
    | exact Safe.pure _)

theorem part134 (H : Held c P arg2 arg3 arg4 arg5 arg6 arg7 arg8 arg9 arg10 arg11 arg12 arg13 arg14 arg15 arg16 arg17 arg18 arg19 arg20 arg21 arg22 arg23) (v188 : BitVec 32) (k0_h2 : k0_cond2 i = 1#1) (v1905 : IVec S8x256 32) (v1907 : BitVec 32) :
    Safe defs 𝒱 E c P (k0_part134 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h2 v1905 v1907) := by
  unfold k0_part134
  repeat (with_reducible first
    | refine Safe.bind ?_ (fun _ => ?_)
    | exact Safe.load H.a16
    | exact Safe.store H.a16
    | exact Safe.pure _)

theorem part135 (H : Held c P arg2 arg3 arg4 arg5 arg6 arg7 arg8 arg9 arg10 arg11 arg12 arg13 arg14 arg15 arg16 arg17 arg18 arg19 arg20 arg21 arg22 arg23) (v188 : BitVec 32) (v192 : FVec F S8x256 .f32) (k0_h3 : k0_cond3 i = 1#1) :
    Safe defs 𝒱 E c P (k0_part135 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 v192 k0_h3) := by
  unfold k0_part135
  repeat (with_reducible first
    | refine Safe.bind ?_ (fun _ => ?_)
    | exact Safe.load H.a6
    | exact Safe.load H.a10
    | exact Safe.pure _)

theorem part136 (H : Held c P arg2 arg3 arg4 arg5 arg6 arg7 arg8 arg9 arg10 arg11 arg12 arg13 arg14 arg15 arg16 arg17 arg18 arg19 arg20 arg21 arg22 arg23) (v171 : BitVec 32) (v188 : BitVec 32) (v192 : FVec F S8x256 .f32) (k0_h3 : k0_cond3 i = 1#1) (v696 : FVec F S512x2048 .f32) (v732 : FVec F S512x256 .f32) (v738 : FVec F S512x256 .f32) :
    Safe defs 𝒱 E c P (k0_part136 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v171 v188 v192 k0_h3 v696 v732 v738) := by
  unfold k0_part136
  repeat (with_reducible first
    | refine Safe.bind ?_ (fun _ => ?_)
    | exact Safe.load H.a15
    | exact Safe.store H.a15
    | exact Safe.pure _)

theorem part137 (H : Held c P arg2 arg3 arg4 arg5 arg6 arg7 arg8 arg9 arg10 arg11 arg12 arg13 arg14 arg15 arg16 arg17 arg18 arg19 arg20 arg21 arg22 arg23) (v773 : IVec S512x256 32) (v774 : IVec S8x256 32) (v775 : IVec S8x256 32) (v776 : IVec S8x256 32) (v777 : IVec S8x256 32) :
    Safe defs 𝒱 E c P (k0_part137 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v773 v774 v775 v776 v777) := by
  unfold k0_part137
  repeat (with_reducible first
    | refine Safe.bind ?_ (fun _ => ?_)
    | exact Safe.pure _)

theorem part138 (H : Held c P arg2 arg3 arg4 arg5 arg6 arg7 arg8 arg9 arg10 arg11 arg12 arg13 arg14 arg15 arg16 arg17 arg18 arg19 arg20 arg21 arg22 arg23) (v778 : IVec S8x256 32) (v779 : IVec S8x256 32) (v780 : IVec S8x256 32) (v781 : IVec S8x256 32) (v782 : IVec S8x256 32) (v793 : IVec S8x256 32) (v794 : IVec S8x256 32) (v795 : IVec S8x256 32) (v796 : IVec S8x256 32) (v797 : IVec S8x256 32) (v798 : IVec S8x256 32) (v837 : IVec S8x256 32) :
    Safe defs 𝒱 E c P (k0_part138 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v778 v779 v780 v781 v782 v793 v794 v795 v796 v797 v798 v837) := by
  unfold k0_part138
  repeat (with_reducible first
    | refine Safe.bind ?_ (fun _ => ?_)
    | exact Safe.pure _)

theorem part139 (H : Held c P arg2 arg3 arg4 arg5 arg6 arg7 arg8 arg9 arg10 arg11 arg12 arg13 arg14 arg15 arg16 arg17 arg18 arg19 arg20 arg21 arg22 arg23) (v783 : IVec S8x256 32) (v784 : IVec S8x256 32) (v785 : IVec S8x256 32) (v786 : IVec S8x256 32) (v787 : IVec S8x256 32) (v798 : IVec S8x256 32) (v799 : IVec S8x256 32) (v800 : IVec S8x256 32) (v801 : IVec S8x256 32) (v802 : IVec S8x256 32) (v803 : IVec S8x256 32) (v882 : IVec S8x256 32) :
    Safe defs 𝒱 E c P (k0_part139 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v783 v784 v785 v786 v787 v798 v799 v800 v801 v802 v803 v882) := by
  unfold k0_part139
  repeat (with_reducible first
    | refine Safe.bind ?_ (fun _ => ?_)
    | exact Safe.pure _)

theorem part140 (H : Held c P arg2 arg3 arg4 arg5 arg6 arg7 arg8 arg9 arg10 arg11 arg12 arg13 arg14 arg15 arg16 arg17 arg18 arg19 arg20 arg21 arg22 arg23) (v788 : IVec S8x256 32) (v789 : IVec S8x256 32) (v803 : IVec S8x256 32) (v804 : IVec S8x256 32) (v805 : IVec S8x256 32) (v811 : IVec S8x256 32) (v820 : IVec S8x256 32) (v829 : IVec S8x256 32) (v883 : IVec S8x256 32) (v892 : IVec S8x256 32) (v901 : IVec S8x256 32) (v927 : IVec S8x256 32) :
    Safe defs 𝒱 E c P (k0_part140 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v788 v789 v803 v804 v805 v811 v820 v829 v883 v892 v901 v927) := by
  unfold k0_part140
  repeat (with_reducible first
    | refine Safe.bind ?_ (fun _ => ?_)
    | exact Safe.pure _)

theorem part141 (H : Held c P arg2 arg3 arg4 arg5 arg6 arg7 arg8 arg9 arg10 arg11 arg12 arg13 arg14 arg15 arg16 arg17 arg18 arg19 arg20 arg21 arg22 arg23) (v838 : IVec S8x256 32) (v847 : IVec S8x256 32) (v856 : IVec S8x256 32) (v865 : IVec S8x256 32) (v874 : IVec S8x256 32) (v901 : IVec S8x256 32) (v910 : IVec S8x256 32) (v919 : IVec S8x256 32) (v928 : IVec S8x256 32) (v937 : IVec S8x256 32) (v946 : IVec S8x256 32) (v972 : IVec S8x256 32) :
    Safe defs 𝒱 E c P (k0_part141 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v838 v847 v856 v865 v874 v901 v910 v919 v928 v937 v946 v972) := by
  unfold k0_part141
  repeat (with_reducible first
    | refine Safe.bind ?_ (fun _ => ?_)
    | exact Safe.pure _)

theorem part142 (H : Held c P arg2 arg3 arg4 arg5 arg6 arg7 arg8 arg9 arg10 arg11 arg12 arg13 arg14 arg15 arg16 arg17 arg18 arg19 arg20 arg21 arg22 arg23) (v814 : IVec S8x256 32) (v823 : IVec S8x256 32) (v832 : IVec S8x256 32) (v841 : IVec S8x256 32) (v850 : IVec S8x256 32) (v886 : IVec S8x256 32) (v895 : IVec S8x256 32) (v904 : IVec S8x256 32) (v913 : IVec S8x256 32) (v922 : IVec S8x256 32) (v946 : IVec S8x256 32) (v1017 : IVec S8x256 32) :
    Safe defs 𝒱 E c P (k0_part142 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v814 v823 v832 v841 v850 v886 v895 v904 v913 v922 v946 v1017) := by
  unfold k0_part142
  repeat (with_reducible first
    | refine Safe.bind ?_ (fun _ => ?_)
    | exact Safe.pure _)

theorem part143 (H : Held c P arg2 arg3 arg4 arg5 arg6 arg7 arg8 arg9 arg10 arg11 arg12 arg13 arg14 arg15 arg16 arg17 arg18 arg19 arg20 arg21 arg22 arg23) (v859 : IVec S8x256 32) (v868 : IVec S8x256 32) (v877 : IVec S8x256 32) (v922 : IVec S8x256 32) (v931 : IVec S8x256 32) (v940 : IVec S8x256 32) (v949 : IVec S8x256 32) (v955 : IVec S8x256 32) (v964 : IVec S8x256 32) (v991 : IVec S8x256 32) (v1000 : IVec S8x256 32) (v1062 : IVec S8x256 32) :
    Safe defs 𝒱 E c P (k0_part143 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v859 v868 v877 v922 v931 v940 v949 v955 v964 v991 v1000 v1062) := by
  unfold k0_part143
  repeat (with_reducible first
    | refine Safe.bind ?_ (fun _ => ?_)
    | exact Safe.pure _)

theorem part144 (H : Held c P arg2 arg3 arg4 arg5 arg6 arg7 arg8 arg9 arg10 arg11 arg12 arg13 arg14 arg15 arg16 arg17 arg18 arg19 arg20 arg21 arg22 arg23) (v958 : IVec S8x256 32) (v967 : IVec S8x256 32) (v973 : IVec S8x256 32) (v976 : IVec S8x256 32) (v982 : IVec S8x256 32) (v994 : IVec S8x256 32) (v1000 : IVec S8x256 32) (v1003 : IVec S8x256 32) (v1009 : IVec S8x256 32) (v1012 : IVec S8x256 32) (v1018 : IVec S8x256 32) (v1107 : IVec S8x256 32) :
    Safe defs 𝒱 E c P (k0_part144 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v958 v967 v973 v976 v982 v994 v1000 v1003 v1009 v1012 v1018 v1107) := by
  unfold k0_part144
  repeat (with_reducible first
    | refine Safe.bind ?_ (fun _ => ?_)
    | exact Safe.pure _)

theorem part145 (H : Held c P arg2 arg3 arg4 arg5 arg6 arg7 arg8 arg9 arg10 arg11 arg12 arg13 arg14 arg15 arg16 arg17 arg18 arg19 arg20 arg21 arg22 arg23) (v985 : IVec S8x256 32) (v1012 : IVec S8x256 32) (v1021 : IVec S8x256 32) (v1027 : IVec S8x256 32) (v1036 : IVec S8x256 32) (v1045 : IVec S8x256 32) (v1054 : IVec S8x256 32) (v1063 : IVec S8x256 32) (v1072 : IVec S8x256 32) (v1081 : IVec S8x256 32) (v1090 : IVec S8x256 32) (v1152 : IVec S8x256 32) :
    Safe defs 𝒱 E c P (k0_part145 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v985 v1012 v1021 v1027 v1036 v1045 v1054 v1063 v1072 v1081 v1090 v1152) := by
  unfold k0_part145
  repeat (with_reducible first
    | refine Safe.bind ?_ (fun _ => ?_)
    | exact Safe.pure _)

theorem part146 (H : Held c P arg2 arg3 arg4 arg5 arg6 arg7 arg8 arg9 arg10 arg11 arg12 arg13 arg14 arg15 arg16 arg17 arg18 arg19 arg20 arg21 arg22 arg23) (v1030 : IVec S8x256 32) (v1039 : IVec S8x256 32) (v1048 : IVec S8x256 32) (v1057 : IVec S8x256 32) (v1066 : IVec S8x256 32) (v1075 : IVec S8x256 32) (v1084 : IVec S8x256 32) (v1090 : IVec S8x256 32) (v1093 : IVec S8x256 32) (v1099 : IVec S8x256 32) (v1117 : IVec S8x256 32) (v1197 : IVec S8x256 32) :
    Safe defs 𝒱 E c P (k0_part146 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1030 v1039 v1048 v1057 v1066 v1075 v1084 v1090 v1093 v1099 v1117 v1197) := by
  unfold k0_part146
  repeat (with_reducible first
    | refine Safe.bind ?_ (fun _ => ?_)
    | exact Safe.pure _)

theorem part147 (H : Held c P arg2 arg3 arg4 arg5 arg6 arg7 arg8 arg9 arg10 arg11 arg12 arg13 arg14 arg15 arg16 arg17 arg18 arg19 arg20 arg21 arg22 arg23) (v1102 : IVec S8x256 32) (v1108 : IVec S8x256 32) (v1111 : IVec S8x256 32) (v1117 : IVec S8x256 32) (v1120 : IVec S8x256 32) (v1126 : IVec S8x256 32) (v1129 : IVec S8x256 32) (v1135 : IVec S8x256 32) (v1144 : IVec S8x256 32) (v1153 : IVec S8x256 32) (v1162 : IVec S8x256 32) (v1242 : IVec S8x256 32) :
    Safe defs 𝒱 E c P (k0_part147 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1102 v1108 v1111 v1117 v1120 v1126 v1129 v1135 v1144 v1153 v1162 v1242) := by
  unfold k0_part147
  repeat (with_reducible first
    | refine Safe.bind ?_ (fun _ => ?_)
    | exact Safe.pure _)

end Cert.Proof.Dsa

end
-- ==== Proof.Dsa.Parts5.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part148 (H : Held c P arg2 arg3 arg4 arg5 arg6 arg7 arg8 arg9 arg10 arg11 arg12 arg13 arg14 arg15 arg16 arg17 arg18 arg19 arg20 arg21 arg22 arg23) (v1138 : IVec S8x256 32) (v1147 : IVec S8x256 32) (v1156 : IVec S8x256 32) (v1162 : IVec S8x256 32) (v1165 : IVec S8x256 32) (v1171 : IVec S8x256 32) (v1174 : IVec S8x256 32) (v1180 : IVec S8x256 32) (v1189 : IVec S8x256 32) (v1192 : IVec S8x256 32) (v1198 : IVec S8x256 32) (v1287 : IVec S8x256 32) :
    Safe defs 𝒱 E c P (k0_part148 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1138 v1147 v1156 v1162 v1165 v1171 v1174 v1180 v1189 v1192 v1198 v1287) := by
  unfold k0_part148
  repeat (with_reducible first
    | refine Safe.bind ?_ (fun _ => ?_)
    | exact Safe.pure _)

theorem part149 (H : Held c P arg2 arg3 arg4 arg5 arg6 arg7 arg8 arg9 arg10 arg11 arg12 arg13 arg14 arg15 arg16 arg17 arg18 arg19 arg20 arg21 arg22 arg23) (v1183 : IVec S8x256 32) (v1192 : IVec S8x256 32) (v1201 : IVec S8x256 32) (v1207 : IVec S8x256 32) (v1210 : IVec S8x256 32) (v1216 : IVec S8x256 32) (v1219 : IVec S8x256 32) (v1225 : IVec S8x256 32) (v1228 : IVec S8x256 32) (v1234 : IVec S8x256 32) (v1237 : IVec S8x256 32) (v1332 : IVec S8x256 32) :
    Safe defs 𝒱 E c P (k0_part149 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1183 v1192 v1201 v1207 v1210 v1216 v1219 v1225 v1228 v1234 v1237 v1332) := by
  unfold k0_part149
  repeat (with_reducible first
    | refine Safe.bind ?_ (fun _ => ?_)
    | exact Safe.pure _)

theorem part150 (H : Held c P arg2 arg3 arg4 arg5 arg6 arg7 arg8 arg9 arg10 arg11 arg12 arg13 arg14 arg15 arg16 arg17 arg18 arg19 arg20 arg21 arg22 arg23) (v1237 : IVec S8x256 32) (v1243 : IVec S8x256 32) (v1246 : IVec S8x256 32) (v1252 : IVec S8x256 32) (v1255 : IVec S8x256 32) (v1261 : IVec S8x256 32) (v1264 : IVec S8x256 32) (v1270 : IVec S8x256 32) (v1273 : IVec S8x256 32) (v1279 : IVec S8x256 32) (v1288 : IVec S8x256 32) (v1377 : IVec S8x256 32) :
    Safe defs 𝒱 E c P (k0_part150 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1237 v1243 v1246 v1252 v1255 v1261 v1264 v1270 v1273 v1279 v1288 v1377) := by
  unfold k0_part150
  repeat (with_reducible first
    | refine Safe.bind ?_ (fun _ => ?_)
    | exact Safe.pure _)

theorem part151 (H : Held c P arg2 arg3 arg4 arg5 arg6 arg7 arg8 arg9 arg10 arg11 arg12 arg13 arg14 arg15 arg16 arg17 arg18 arg19 arg20 arg21 arg22 arg23) (v1282 : IVec S8x256 32) (v1288 : IVec S8x256 32) (v1291 : IVec S8x256 32) (v1297 : IVec S8x256 32) (v1300 : IVec S8x256 32) (v1306 : IVec S8x256 32) (v1309 : IVec S8x256 32) (v1315 : IVec S8x256 32) (v1318 : IVec S8x256 32) (v1324 : IVec S8x256 32) (v1327 : IVec S8x256 32) (v1422 : IVec S8x256 32) :
    Safe defs 𝒱 E c P (k0_part151 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1282 v1288 v1291 v1297 v1300 v1306 v1309 v1315 v1318 v1324 v1327 v1422) := by
  unfold k0_part151
  repeat (with_reducible first
    | refine Safe.bind ?_ (fun _ => ?_)
    | exact Safe.pure _)

theorem part152 (H : Held c P arg2 arg3 arg4 arg5 arg6 arg7 arg8 arg9 arg10 arg11 arg12 arg13 arg14 arg15 arg16 arg17 arg18 arg19 arg20 arg21 arg22 arg23) (v1327 : IVec S8x256 32) (v1333 : IVec S8x256 32) (v1336 : IVec S8x256 32) (v1342 : IVec S8x256 32) (v1345 : IVec S8x256 32) (v1351 : IVec S8x256 32) (v1354 : IVec S8x256 32) (v1360 : IVec S8x256 32) (v1363 : IVec S8x256 32) (v1369 : IVec S8x256 32) (v1378 : IVec S8x256 32) (v1467 : IVec S8x256 32) :
    Safe defs 𝒱 E c P (k0_part152 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1327 v1333 v1336 v1342 v1345 v1351 v1354 v1360 v1363 v1369 v1378 v1467) := by
  unfold k0_part152
  repeat (with_reducible first
    | refine Safe.bind ?_ (fun _ => ?_)
    | exact Safe.pure _)

theorem part153 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1372 : IVec S8x256 32) (v1378 : IVec S8x256 32) (v1381 : IVec S8x256 32) (v1387 : IVec S8x256 32) (v1390 : IVec S8x256 32) (v1396 : IVec S8x256 32) (v1512 : IVec S8x256 32) :
    Safe defs 𝒱 E c P (k0_part153 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1372 v1378 v1381 v1387 v1390 v1396 v1512) := by
  unfold k0_part153
  repeat (with_reducible first
    | refine Safe.bind ?_ (fun _ => ?_)
    | exact Safe.load H.a16
    | exact Safe.store H.a16
    | exact Safe.pure _)

theorem part154 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1399 : IVec S8x256 32) (v1405 : IVec S8x256 32) (v1408 : IVec S8x256 32) (v1414 : IVec S8x256 32) (v1417 : IVec S8x256 32) :
    Safe defs 𝒱 E c P (k0_part154 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1399 v1405 v1408 v1414 v1417) := by
  unfold k0_part154
  repeat (with_reducible first
    | refine Safe.bind ?_ (fun _ => ?_)
    | exact Safe.load H.a16
    | exact Safe.store H.a16
    | exact Safe.pure _)

theorem part155 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1423 : IVec S8x256 32) (v1426 : IVec S8x256 32) (v1432 : IVec S8x256 32) (v1435 : IVec S8x256 32) (v1441 : IVec S8x256 32) :
    Safe defs 𝒱 E c P (k0_part155 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1423 v1426 v1432 v1435 v1441) := by
  unfold k0_part155
  repeat (with_reducible first
    | refine Safe.bind ?_ (fun _ => ?_)
    | exact Safe.load H.a16
    | exact Safe.store H.a16
    | exact Safe.pure _)

theorem part156 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1444 : IVec S8x256 32) (v1450 : IVec S8x256 32) (v1453 : IVec S8x256 32) (v1459 : IVec S8x256 32) (v1462 : IVec S8x256 32) :
    Safe defs 𝒱 E c P (k0_part156 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1444 v1450 v1453 v1459 v1462) := by
  unfold k0_part156
  repeat (with_reducible first
    | refine Safe.bind ?_ (fun _ => ?_)
    | exact Safe.load H.a16
    | exact Safe.store H.a16
    | exact Safe.pure _)

theorem part157 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1468 : IVec S8x256 32) (v1471 : IVec S8x256 32) (v1477 : IVec S8x256 32) (v1480 : IVec S8x256 32) (v1486 : IVec S8x256 32) :
    Safe defs 𝒱 E c P (k0_part157 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1468 v1471 v1477 v1480 v1486) := by
  unfold k0_part157
  repeat (with_reducible first
    | refine Safe.bind ?_ (fun _ => ?_)
    | exact Safe.load H.a16
    | exact Safe.store H.a16
    | exact Safe.pure _)

theorem part158 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v1489 : IVec S8x256 32) (v1495 : IVec S8x256 32) (v1498 : IVec S8x256 32) (v1504 : IVec S8x256 32) (v1507 : IVec S8x256 32) :
    Safe defs 𝒱 E c P (k0_part158 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v1489 v1495 v1498 v1504 v1507) := by
  unfold k0_part158
  repeat (with_reducible first
    | refine Safe.bind ?_ (fun _ => ?_)
    | exact Safe.load H.a16
    | exact Safe.store H.a16
    | exact Safe.pure _)

theorem part159 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v773 : IVec S512x256 32) (v1513 : IVec S8x256 32) (v1516 : IVec S8x256 32) (v1522 : IVec S8x256 32) (v1525 : IVec S8x256 32) :
    Safe defs 𝒱 E c P (k0_part159 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v773 v1513 v1516 v1522 v1525) := by
  unfold k0_part159
  repeat (with_reducible first
    | refine Safe.bind ?_ (fun _ => ?_)
    | exact Safe.load H.a16
    | exact Safe.store H.a16
    | exact Safe.pure _)

theorem part160 (H : Held c P arg2 arg3 arg4 arg5 arg6 arg7 arg8 arg9 arg10 arg11 arg12 arg13 arg14 arg15 arg16 arg17 arg18 arg19 arg20 arg21 arg22 arg23) (v773 : IVec S512x256 32) (v1718 : IVec S8x256 32) (v1719 : IVec S8x256 32) (v1720 : IVec S8x256 32) (v1721 : IVec S8x256 32) (v1734 : IVec S8x256 32) (v1735 : IVec S8x256 32) (v1736 : IVec S8x256 32) (v1737 : IVec S8x256 32) :
    Safe defs 𝒱 E c P (k0_part160 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v773 v1718 v1719 v1720 v1721 v1734 v1735 v1736 v1737) := by
  unfold k0_part160
  repeat (with_reducible first
    | refine Safe.bind ?_ (fun _ => ?_)
    | exact Safe.pure _)

theorem part161 (H : Held c P arg2 arg3 arg4 arg5 arg6 arg7 arg8 arg9 arg10 arg11 arg12 arg13 arg14 arg15 arg16 arg17 arg18 arg19 arg20 arg21 arg22 arg23) (v1722 : IVec S8x256 32) (v1723 : IVec S8x256 32) (v1724 : IVec S8x256 32) (v1725 : IVec S8x256 32) (v1726 : IVec S8x256 32) (v1738 : IVec S8x256 32) (v1739 : IVec S8x256 32) (v1740 : IVec S8x256 32) (v1741 : IVec S8x256 32) (v1742 : IVec S8x256 32) :
    Safe defs 𝒱 E c P (k0_part161 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1722 v1723 v1724 v1725 v1726 v1738 v1739 v1740 v1741 v1742) := by
  unfold k0_part161
  repeat (with_reducible first
    | refine Safe.bind ?_ (fun _ => ?_)
    | exact Safe.pure _)

theorem part162 (H : Held c P arg2 arg3 arg4 arg5 arg6 arg7 arg8 arg9 arg10 arg11 arg12 arg13 arg14 arg15 arg16 arg17 arg18 arg19 arg20 arg21 arg22 arg23) (v1727 : IVec S8x256 32) (v1728 : IVec S8x256 32) (v1729 : IVec S8x256 32) (v1730 : IVec S8x256 32) (v1731 : IVec S8x256 32) (v1743 : IVec S8x256 32) (v1744 : IVec S8x256 32) (v1745 : IVec S8x256 32) (v1746 : IVec S8x256 32) (v1747 : IVec S8x256 32) :
    Safe defs 𝒱 E c P (k0_part162 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1727 v1728 v1729 v1730 v1731 v1743 v1744 v1745 v1746 v1747) := by
  unfold k0_part162
  repeat (with_reducible first
    | refine Safe.bind ?_ (fun _ => ?_)
    | exact Safe.pure _)

theorem part163 (H : Held c P arg2 arg3 arg4 arg5 arg6 arg7 arg8 arg9 arg10 arg11 arg12 arg13 arg14 arg15 arg16 arg17 arg18 arg19 arg20 arg21 arg22 arg23) (v1732 : IVec S8x256 32) (v1733 : IVec S8x256 32) (v1748 : IVec S8x256 32) (v1749 : IVec S8x256 32) (v1755 : IVec S8x256 32) (v1764 : IVec S8x256 32) (v1773 : IVec S8x256 32) (v1827 : IVec S8x256 32) (v1836 : IVec S8x256 32) (v1845 : IVec S8x256 32) :
    Safe defs 𝒱 E c P (k0_part163 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1732 v1733 v1748 v1749 v1755 v1764 v1773 v1827 v1836 v1845) := by
  unfold k0_part163
  repeat (with_reducible first
    | refine Safe.bind ?_ (fun _ => ?_)
    | exact Safe.pure _)

theorem part164 (H : Held c P arg2 arg3 arg4 arg5 arg6 arg7 arg8 arg9 arg10 arg11 arg12 arg13 arg14 arg15 arg16 arg17 arg18 arg19 arg20 arg21 arg22 arg23) (v1782 : IVec S8x256 32) (v1791 : IVec S8x256 32) (v1800 : IVec S8x256 32) (v1809 : IVec S8x256 32) (v1818 : IVec S8x256 32) (v1854 : IVec S8x256 32) (v1863 : IVec S8x256 32) (v1872 : IVec S8x256 32) (v1881 : IVec S8x256 32) (v1890 : IVec S8x256 32) :
    Safe defs 𝒱 E c P (k0_part164 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1782 v1791 v1800 v1809 v1818 v1854 v1863 v1872 v1881 v1890) := by
  unfold k0_part164
  repeat (with_reducible first
    | refine Safe.bind ?_ (fun _ => ?_)
    | exact Safe.pure _)

theorem part165 (H : Held c P arg2 arg3 arg4 arg5 arg6 arg7 arg8 arg9 arg10 arg11 arg12 arg13 arg14 arg15 arg16 arg17 arg18 arg19 arg20 arg21 arg22 arg23) (v1758 : IVec S8x256 32) (v1767 : IVec S8x256 32) (v1776 : IVec S8x256 32) (v1785 : IVec S8x256 32) (v1794 : IVec S8x256 32) (v1830 : IVec S8x256 32) (v1839 : IVec S8x256 32) (v1848 : IVec S8x256 32) (v1857 : IVec S8x256 32) (v1866 : IVec S8x256 32) :
    Safe defs 𝒱 E c P (k0_part165 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1758 v1767 v1776 v1785 v1794 v1830 v1839 v1848 v1857 v1866) := by
  unfold k0_part165
  repeat (with_reducible first
    | refine Safe.bind ?_ (fun _ => ?_)
    | exact Safe.pure _)

theorem part166 (H : Held c P arg2 arg3 arg4 arg5 arg6 arg7 arg8 arg9 arg10 arg11 arg12 arg13 arg14 arg15 arg16 arg17 arg18 arg19 arg20 arg21 arg22 arg23) (v1803 : IVec S8x256 32) (v1812 : IVec S8x256 32) (v1821 : IVec S8x256 32) (v1875 : IVec S8x256 32) (v1884 : IVec S8x256 32) (v1893 : IVec S8x256 32) (v1899 : IVec S8x256 32) (v1908 : IVec S8x256 32) (v1935 : IVec S8x256 32) (v1944 : IVec S8x256 32) :
    Safe defs 𝒱 E c P (k0_part166 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1803 v1812 v1821 v1875 v1884 v1893 v1899 v1908 v1935 v1944) := by
  unfold k0_part166
  repeat (with_reducible first
    | refine Safe.bind ?_ (fun _ => ?_)
    | exact Safe.pure _)

theorem part167 (H : Held c P arg2 arg3 arg4 arg5 arg6 arg7 arg8 arg9 arg10 arg11 arg12 arg13 arg14 arg15 arg16 arg17 arg18 arg19 arg20 arg21 arg22 arg23) (v1902 : IVec S8x256 32) (v1911 : IVec S8x256 32) (v1917 : IVec S8x256 32) (v1920 : IVec S8x256 32) (v1926 : IVec S8x256 32) (v1938 : IVec S8x256 32) (v1947 : IVec S8x256 32) (v1953 : IVec S8x256 32) (v1956 : IVec S8x256 32) (v1962 : IVec S8x256 32) :
    Safe defs 𝒱 E c P (k0_part167 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1902 v1911 v1917 v1920 v1926 v1938 v1947 v1953 v1956 v1962) := by
  unfold k0_part167
  repeat (with_reducible first
    | refine Safe.bind ?_ (fun _ => ?_)
    | exact Safe.pure _)

theorem part168 (H : Held c P arg2 arg3 arg4 arg5 arg6 arg7 arg8 arg9 arg10 arg11 arg12 arg13 arg14 arg15 arg16 arg17 arg18 arg19 arg20 arg21 arg22 arg23) (v1929 : IVec S8x256 32) (v1965 : IVec S8x256 32) (v1971 : IVec S8x256 32) (v1980 : IVec S8x256 32) (v1989 : IVec S8x256 32) (v1998 : IVec S8x256 32) (v2007 : IVec S8x256 32) (v2016 : IVec S8x256 32) (v2025 : IVec S8x256 32) (v2034 : IVec S8x256 32) :
    Safe defs 𝒱 E c P (k0_part168 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1929 v1965 v1971 v1980 v1989 v1998 v2007 v2016 v2025 v2034) := by
  unfold k0_part168
  repeat (with_reducible first
    | refine Safe.bind ?_ (fun _ => ?_)
    | exact Safe.pure _)

theorem part169 (H : Held c P arg2 arg3 arg4 arg5 arg6 arg7 arg8 arg9 arg10 arg11 arg12 arg13 arg14 arg15 arg16 arg17 arg18 arg19 arg20 arg21 arg22 arg23) (v1974 : IVec S8x256 32) (v1983 : IVec S8x256 32) (v1992 : IVec S8x256 32) (v2001 : IVec S8x256 32) (v2010 : IVec S8x256 32) (v2019 : IVec S8x256 32) (v2028 : IVec S8x256 32) (v2037 : IVec S8x256 32) (v2043 : IVec S8x256 32) (v2061 : IVec S8x256 32) :
    Safe defs 𝒱 E c P (k0_part169 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v1974 v1983 v1992 v2001 v2010 v2019 v2028 v2037 v2043 v2061) := by
  unfold k0_part169
  repeat (with_reducible first
    | refine Safe.bind ?_ (fun _ => ?_)
    | exact Safe.pure _)

theorem part170 (H : Held c P arg2 arg3 arg4 arg5 arg6 arg7 arg8 arg9 arg10 arg11 arg12 arg13 arg14 arg15 arg16 arg17 arg18 arg19 arg20 arg21 arg22 arg23) (v2046 : IVec S8x256 32) (v2052 : IVec S8x256 32) (v2055 : IVec S8x256 32) (v2064 : IVec S8x256 32) (v2070 : IVec S8x256 32) (v2073 : IVec S8x256 32) (v2079 : IVec S8x256 32) (v2088 : IVec S8x256 32) (v2097 : IVec S8x256 32) (v2106 : IVec S8x256 32) :
    Safe defs 𝒱 E c P (k0_part170 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2046 v2052 v2055 v2064 v2070 v2073 v2079 v2088 v2097 v2106) := by
  unfold k0_part170
  repeat (with_reducible first
    | refine Safe.bind ?_ (fun _ => ?_)
    | exact Safe.pure _)

theorem part171 (H : Held c P arg2 arg3 arg4 arg5 arg6 arg7 arg8 arg9 arg10 arg11 arg12 arg13 arg14 arg15 arg16 arg17 arg18 arg19 arg20 arg21 arg22 arg23) (v2082 : IVec S8x256 32) (v2091 : IVec S8x256 32) (v2100 : IVec S8x256 32) (v2109 : IVec S8x256 32) (v2115 : IVec S8x256 32) (v2118 : IVec S8x256 32) (v2124 : IVec S8x256 32) (v2133 : IVec S8x256 32) (v2136 : IVec S8x256 32) (v2142 : IVec S8x256 32) :
    Safe defs 𝒱 E c P (k0_part171 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2082 v2091 v2100 v2109 v2115 v2118 v2124 v2133 v2136 v2142) := by
  unfold k0_part171
  repeat (with_reducible first
    | refine Safe.bind ?_ (fun _ => ?_)
    | exact Safe.pure _)

theorem part172 (H : Held c P arg2 arg3 arg4 arg5 arg6 arg7 arg8 arg9 arg10 arg11 arg12 arg13 arg14 arg15 arg16 arg17 arg18 arg19 arg20 arg21 arg22 arg23) (v2127 : IVec S8x256 32) (v2145 : IVec S8x256 32) (v2151 : IVec S8x256 32) (v2154 : IVec S8x256 32) (v2160 : IVec S8x256 32) (v2163 : IVec S8x256 32) (v2169 : IVec S8x256 32) (v2172 : IVec S8x256 32) (v2178 : IVec S8x256 32) (v2181 : IVec S8x256 32) :
    Safe defs 𝒱 E c P (k0_part172 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2127 v2145 v2151 v2154 v2160 v2163 v2169 v2172 v2178 v2181) := by
  unfold k0_part172
  repeat (with_reducible first
    | refine Safe.bind ?_ (fun _ => ?_)
    | exact Safe.pure _)

theorem part173 (H : Held c P arg2 arg3 arg4 arg5 arg6 arg7 arg8 arg9 arg10 arg11 arg12 arg13 arg14 arg15 arg16 arg17 arg18 arg19 arg20 arg21 arg22 arg23) (v2187 : IVec S8x256 32) (v2190 : IVec S8x256 32) (v2196 : IVec S8x256 32) (v2199 : IVec S8x256 32) (v2205 : IVec S8x256 32) (v2208 : IVec S8x256 32) (v2214 : IVec S8x256 32) (v2217 : IVec S8x256 32) (v2223 : IVec S8x256 32) (v2232 : IVec S8x256 32) :
    Safe defs 𝒱 E c P (k0_part173 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2187 v2190 v2196 v2199 v2205 v2208 v2214 v2217 v2223 v2232) := by
  unfold k0_part173
  repeat (with_reducible first
    | refine Safe.bind ?_ (fun _ => ?_)
    | exact Safe.pure _)

theorem part174 (H : Held c P arg2 arg3 arg4 arg5 arg6 arg7 arg8 arg9 arg10 arg11 arg12 arg13 arg14 arg15 arg16 arg17 arg18 arg19 arg20 arg21 arg22 arg23) (v2226 : IVec S8x256 32) (v2235 : IVec S8x256 32) (v2241 : IVec S8x256 32) (v2244 : IVec S8x256 32) (v2250 : IVec S8x256 32) (v2253 : IVec S8x256 32) (v2259 : IVec S8x256 32) (v2262 : IVec S8x256 32) (v2268 : IVec S8x256 32) (v2271 : IVec S8x256 32) :
    Safe defs 𝒱 E c P (k0_part174 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2226 v2235 v2241 v2244 v2250 v2253 v2259 v2262 v2268 v2271) := by
  unfold k0_part174
  repeat (with_reducible first
    | refine Safe.bind ?_ (fun _ => ?_)
    | exact Safe.pure _)

theorem part175 (H : Held c P arg2 arg3 arg4 arg5 arg6 arg7 arg8 arg9 arg10 arg11 arg12 arg13 arg14 arg15 arg16 arg17 arg18 arg19 arg20 arg21 arg22 arg23) (v2277 : IVec S8x256 32) (v2280 : IVec S8x256 32) (v2286 : IVec S8x256 32) (v2289 : IVec S8x256 32) (v2295 : IVec S8x256 32) (v2298 : IVec S8x256 32) (v2304 : IVec S8x256 32) (v2307 : IVec S8x256 32) (v2313 : IVec S8x256 32) (v2322 : IVec S8x256 32) :
    Safe defs 𝒱 E c P (k0_part175 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v2277 v2280 v2286 v2289 v2295 v2298 v2304 v2307 v2313 v2322) := by
  unfold k0_part175
  repeat (with_reducible first
    | refine Safe.bind ?_ (fun _ => ?_)
    | exact Safe.pure _)

theorem part176 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2316 : IVec S8x256 32) (v2325 : IVec S8x256 32) (v2331 : IVec S8x256 32) (v2334 : IVec S8x256 32) (v2340 : IVec S8x256 32) (v2343 : IVec S8x256 32) :
    Safe defs 𝒱 E c P (k0_part176 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2316 v2325 v2331 v2334 v2340 v2343) := by
  unfold k0_part176
  repeat (with_reducible first
    | refine Safe.bind ?_ (fun _ => ?_)
    | exact Safe.load H.a16
    | exact Safe.store H.a16
    | exact Safe.pure _)

theorem part177 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2349 : IVec S8x256 32) (v2352 : IVec S8x256 32) (v2358 : IVec S8x256 32) (v2361 : IVec S8x256 32) (v2367 : IVec S8x256 32) :
    Safe defs 𝒱 E c P (k0_part177 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2349 v2352 v2358 v2361 v2367) := by
  unfold k0_part177
  repeat (with_reducible first
    | refine Safe.bind ?_ (fun _ => ?_)
    | exact Safe.load H.a16
    | exact Safe.store H.a16
    | exact Safe.pure _)

theorem part178 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2370 : IVec S8x256 32) (v2376 : IVec S8x256 32) (v2379 : IVec S8x256 32) (v2385 : IVec S8x256 32) (v2388 : IVec S8x256 32) :
    Safe defs 𝒱 E c P (k0_part178 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2370 v2376 v2379 v2385 v2388) := by
  unfold k0_part178
  repeat (with_reducible first
    | refine Safe.bind ?_ (fun _ => ?_)
    | exact Safe.load H.a16
    | exact Safe.store H.a16
    | exact Safe.pure _)

theorem part179 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2394 : IVec S8x256 32) (v2397 : IVec S8x256 32) (v2403 : IVec S8x256 32) (v2406 : IVec S8x256 32) (v2412 : IVec S8x256 32) :
    Safe defs 𝒱 E c P (k0_part179 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2394 v2397 v2403 v2406 v2412) := by
  unfold k0_part179
  repeat (with_reducible first
    | refine Safe.bind ?_ (fun _ => ?_)
    | exact Safe.load H.a16
    | exact Safe.store H.a16
    | exact Safe.pure _)

theorem part180 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2415 : IVec S8x256 32) (v2421 : IVec S8x256 32) (v2424 : IVec S8x256 32) (v2430 : IVec S8x256 32) (v2433 : IVec S8x256 32) :
    Safe defs 𝒱 E c P (k0_part180 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2415 v2421 v2424 v2430 v2433) := by
  unfold k0_part180
  repeat (with_reducible first
    | refine Safe.bind ?_ (fun _ => ?_)
    | exact Safe.load H.a16
    | exact Safe.store H.a16
    | exact Safe.pure _)

theorem part181 (H : Held c P arg2 arg3 arg4 arg5 arg6 arg7 arg8 arg9 arg10 arg11 arg12 arg13 arg14 arg15 arg16 arg17 arg18 arg19 arg20 arg21 arg22 arg23) (v188 : BitVec 32) (k0_h3 : k0_cond3 i = 1#1) (v2439 : IVec S8x256 32) (v2442 : IVec S8x256 32) (v2448 : IVec S8x256 32) (v2451 : IVec S8x256 32) (v2457 : IVec S8x256 32) :
    Safe defs 𝒱 E c P (k0_part181 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h3 v2439 v2442 v2448 v2451 v2457) := by
  unfold k0_part181
  repeat (with_reducible first
    | refine Safe.bind ?_ (fun _ => ?_)
    | exact Safe.load H.a16
    | exact Safe.store H.a16
    | exact Safe.pure _)

theorem part183 (H : Held c P arg2 arg3 arg4 arg5 arg6 arg7 arg8 arg9 arg10 arg11 arg12 arg13 arg14 arg15 arg16 arg17 arg18 arg19 arg20 arg21 arg22 arg23) (k0_h4 : k0_cond4 i = 1#1) (c0_i32_420 : BitVec 32) (c1_i32_422 : BitVec 32) (k0_t3 : Fin k0_t3_loop.trips) :
    Safe defs 𝒱 E c P (k0_part183 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 c0_i32_420 c1_i32_422 k0_t3) := by
  unfold k0_part183
  repeat (with_reducible first
    | refine Safe.bind ?_ (fun _ => ?_)
    | exact Safe.load H.a16
    | exact Safe.load H.a17
    | exact Safe.pure _)

theorem part184 (H : Held c P arg2 arg3 arg4 arg5 arg6 arg7 arg8 arg9 arg10 arg11 arg12 arg13 arg14 arg15 arg16 arg17 arg18 arg19 arg20 arg21 arg22 arg23) (k0_h4 : k0_cond4 i = 1#1) (k0_t3 : Fin k0_t3_loop.trips) (arg24 : BitVec 32) (v702 : IVec S8x256 32) (v710 : IVec S8x256 32) (v718 : IVec S8x256 32) (v726 : IVec S8x256 32) (v728 : IVec S8x256 32) :
    Safe defs 𝒱 E c P (k0_part184 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 k0_t3 arg24 v702 v710 v718 v726 v728) := by
  unfold k0_part184
  repeat (with_reducible first
    | refine Safe.bind ?_ (fun _ => ?_)
    | exact Safe.load H.a16
    | exact Safe.load H.a17
    | exact Safe.pure _)

end Cert.Proof.Dsa

end
-- ==== Proof.Dsa.Parts6.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part185 (H : Held c P arg2 arg3 arg4 arg5 arg6 arg7 arg8 arg9 arg10 arg11 arg12 arg13 arg14 arg15 arg16 arg17 arg18 arg19 arg20 arg21 arg22 arg23) (k0_h4 : k0_cond4 i = 1#1) (k0_t3 : Fin k0_t3_loop.trips) (arg25 : IVec S1x256 32) (arg24 : BitVec 32) (v734 : IVec S8x256 32) (v742 : IVec S8x256 32) (v750 : IVec S8x256 32) (v758 : IVec S8x256 32) (v765 : IVec S8x256 32) :
    Safe defs 𝒱 E c P (k0_part185 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 k0_t3 arg25 arg24 v734 v742 v750 v758 v765) := by
  unfold k0_part185
  repeat (with_reducible first
    | refine Safe.bind ?_ (fun _ => ?_)
    | exact Safe.load H.a16
    | exact Safe.load H.a17
    | exact Safe.store H.a17
    | exact Safe.pure _)

theorem part186 (H : Held c P arg2 arg3 arg4 arg5 arg6 arg7 arg8 arg9 arg10 arg11 arg12 arg13 arg14 arg15 arg16 arg17 arg18 arg19 arg20 arg21 arg22 arg23) (k0_h4 : k0_cond4 i = 1#1) (k0_t3 : Fin k0_t3_loop.trips) (arg24 : BitVec 32) (v775 : IVec S1x256 32) (v799 : IVec S8x256 32) :
    Safe defs 𝒱 E c P (k0_part186 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 k0_t3 arg24 v775 v799) := by
  unfold k0_part186
  repeat (with_reducible first
    | refine Safe.bind ?_ (fun _ => ?_)
    | exact Safe.load H.a16
    | exact Safe.load H.a17
    | exact Safe.store H.a17
    | exact Safe.pure _)

theorem part187 (H : Held c P arg2 arg3 arg4 arg5 arg6 arg7 arg8 arg9 arg10 arg11 arg12 arg13 arg14 arg15 arg16 arg17 arg18 arg19 arg20 arg21 arg22 arg23) (k0_h4 : k0_cond4 i = 1#1) (k0_t3 : Fin k0_t3_loop.trips) (arg24 : BitVec 32) (v775 : IVec S1x256 32) :
    Safe defs 𝒱 E c P (k0_part187 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 k0_t3 arg24 v775) := by
  unfold k0_part187
  repeat (with_reducible first
    | refine Safe.bind ?_ (fun _ => ?_)
    | exact Safe.load H.a16
    | exact Safe.load H.a17
    | exact Safe.store H.a17
    | exact Safe.pure _)

theorem part188 (H : Held c P arg2 arg3 arg4 arg5 arg6 arg7 arg8 arg9 arg10 arg11 arg12 arg13 arg14 arg15 arg16 arg17 arg18 arg19 arg20 arg21 arg22 arg23) (k0_h5 : k0_cond5 i = 1#1) (c0_i32_420 : BitVec 32) (c1_i32_422 : BitVec 32) (k0_t4 : Fin k0_t4_loop.trips) :
    Safe defs 𝒱 E c P (k0_part188 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 c0_i32_420 c1_i32_422 k0_t4) := by
  unfold k0_part188
  repeat (with_reducible first
    | refine Safe.bind ?_ (fun _ => ?_)
    | exact Safe.load H.a16
    | exact Safe.load H.a17
    | exact Safe.pure _)

theorem part189 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v702 : IVec S8x256 32) (v710 : IVec S8x256 32) (v718 : IVec S8x256 32) (v726 : IVec S8x256 32) (v728 : IVec S8x256 32) :
    Safe defs 𝒱 E c P (k0_part189 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v702 v710 v718 v726 v728) := by
  unfold k0_part189
  repeat (with_reducible first
    | refine Safe.bind ?_ (fun _ => ?_)
    | exact Safe.load H.a16
    | exact Safe.load H.a17
    | exact Safe.pure _)

theorem part190 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v734 : IVec S8x256 32) (v742 : IVec S8x256 32) (v750 : IVec S8x256 32) (v758 : IVec S8x256 32) (v765 : IVec S8x256 32) :
    Safe defs 𝒱 E c P (k0_part190 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v734 v742 v750 v758 v765) := by
  unfold k0_part190
  repeat (with_reducible first
    | refine Safe.bind ?_ (fun _ => ?_)
    | exact Safe.load H.a16
    | exact Safe.load H.a17
    | exact Safe.pure _)

theorem part191 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg25 : IVec S1x256 32) (arg24 : BitVec 32) (v774 : IVec S8x256 32) (v782 : IVec S8x256 32) (v790 : IVec S8x256 32) (v798 : IVec S8x256 32) :
    Safe defs 𝒱 E c P (k0_part191 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg25 arg24 v774 v782 v790 v798) := by
  unfold k0_part191
  repeat (with_reducible first
    | refine Safe.bind ?_ (fun _ => ?_)
    | exact Safe.load H.a16
    | exact Safe.load H.a17
    | exact Safe.pure _)

theorem part192 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v836 : IVec S1x256 1) :
    Safe defs 𝒱 E c P (k0_part192 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v836) := by
  unfold k0_part192
  repeat (with_reducible first
    | refine Safe.bind ?_ (fun _ => ?_)
    | exact Safe.load H.a16
    | exact Safe.load H.a17
    | exact Safe.store H.a17
    | exact Safe.pure _)

theorem part193 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v839 : IVec S1x256 32) (v863 : IVec S8x256 32) (v868 : IVec S8x256 32) :
    Safe defs 𝒱 E c P (k0_part193 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v839 v863 v868) := by
  unfold k0_part193
  repeat (with_reducible first
    | refine Safe.bind ?_ (fun _ => ?_)
    | exact Safe.load H.a16
    | exact Safe.load H.a17
    | exact Safe.store H.a17
    | exact Safe.pure _)

theorem part194 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v839 : IVec S1x256 32) (v896 : IVec S8x256 32) (v898 : Vec F S1x1x8x256 .i32) :
    Safe defs 𝒱 E c P (k0_part194 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v839 v896 v898) := by
  unfold k0_part194
  repeat (with_reducible first
    | refine Safe.bind ?_ (fun _ => ?_)
    | exact Safe.load H.a16
    | exact Safe.load H.a17
    | exact Safe.store H.a17
    | exact Safe.pure _)

theorem part195 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v839 : IVec S1x256 32) (v929 : IVec S8x256 32) :
    Safe defs 𝒱 E c P (k0_part195 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v839 v929) := by
  unfold k0_part195
  repeat (with_reducible first
    | refine Safe.bind ?_ (fun _ => ?_)
    | exact Safe.load H.a16
    | exact Safe.load H.a17
    | exact Safe.store H.a17
    | exact Safe.pure _)

theorem part196 (H : Held c P arg2 arg3 arg4 arg5 arg6 arg7 arg8 arg9 arg10 arg11 arg12 arg13 arg14 arg15 arg16 arg17 arg18 arg19 arg20 arg21 arg22 arg23) (k0_h5 : k0_cond5 i = 1#1) (k0_t4 : Fin k0_t4_loop.trips) (arg24 : BitVec 32) (v839 : IVec S1x256 32) (v961 : Vec F S1x8x256 .i32) :
    Safe defs 𝒱 E c P (k0_part196 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 k0_t4 arg24 v839 v961) := by
  unfold k0_part196
  repeat (with_reducible first
    | refine Safe.bind ?_ (fun _ => ?_)
    | exact Safe.load H.a16
    | exact Safe.load H.a17
    | exact Safe.store H.a17
    | exact Safe.pure _)

theorem part198 (H : Held c P arg2 arg3 arg4 arg5 arg6 arg7 arg8 arg9 arg10 arg11 arg12 arg13 arg14 arg15 arg16 arg17 arg18 arg19 arg20 arg21 arg22 arg23) (k0_h6 : k0_cond6 i = 1#1) (c0_i32_420 : BitVec 32) (c1_i32_422 : BitVec 32) (k0_t5 : Fin k0_t5_loop.trips) :
    Safe defs 𝒱 E c P (k0_part198 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 c0_i32_420 c1_i32_422 k0_t5) := by
  unfold k0_part198
  repeat (with_reducible first
    | refine Safe.bind ?_ (fun _ => ?_)
    | exact Safe.load H.a16
    | exact Safe.load H.a17
    | exact Safe.pure _)

theorem part199 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v702 : IVec S8x256 32) (v710 : IVec S8x256 32) (v718 : IVec S8x256 32) (v726 : IVec S8x256 32) (v728 : IVec S8x256 32) :
    Safe defs 𝒱 E c P (k0_part199 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v702 v710 v718 v726 v728) := by
  unfold k0_part199
  repeat (with_reducible first
    | refine Safe.bind ?_ (fun _ => ?_)
    | exact Safe.load H.a16
    | exact Safe.load H.a17
    | exact Safe.pure _)

theorem part200 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v734 : IVec S8x256 32) (v742 : IVec S8x256 32) (v750 : IVec S8x256 32) (v758 : IVec S8x256 32) (v765 : IVec S8x256 32) :
    Safe defs 𝒱 E c P (k0_part200 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v734 v742 v750 v758 v765) := by
  unfold k0_part200
  repeat (with_reducible first
    | refine Safe.bind ?_ (fun _ => ?_)
    | exact Safe.load H.a16
    | exact Safe.load H.a17
    | exact Safe.pure _)

theorem part201 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v774 : IVec S8x256 32) (v782 : IVec S8x256 32) (v790 : IVec S8x256 32) (v798 : IVec S8x256 32) :
    Safe defs 𝒱 E c P (k0_part201 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v774 v782 v790 v798) := by
  unfold k0_part201
  repeat (with_reducible first
    | refine Safe.bind ?_ (fun _ => ?_)
    | exact Safe.load H.a16
    | exact Safe.load H.a17
    | exact Safe.pure _)

theorem part202 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v806 : IVec S8x256 32) (v814 : IVec S8x256 32) (v822 : IVec S8x256 32) (v830 : IVec S8x256 32) (v832 : IVec S8x256 32) :
    Safe defs 𝒱 E c P (k0_part202 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v806 v814 v822 v830 v832) := by
  unfold k0_part202
  repeat (with_reducible first
    | refine Safe.bind ?_ (fun _ => ?_)
    | exact Safe.load H.a16
    | exact Safe.load H.a17
    | exact Safe.pure _)

theorem part203 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg25 : IVec S1x256 32) (arg24 : BitVec 32) (v838 : IVec S8x256 32) (v846 : IVec S8x256 32) (v854 : IVec S8x256 32) (v862 : IVec S8x256 32) (v864 : IVec S8x256 32) (v867 : IVec S8x256 32) :
    Safe defs 𝒱 E c P (k0_part203 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg25 arg24 v838 v846 v854 v862 v864 v867) := by
  unfold k0_part203
  repeat (with_reducible first
    | refine Safe.bind ?_ (fun _ => ?_)
    | exact Safe.load H.a16
    | exact Safe.load H.a17
    | exact Safe.pure _)

theorem part204 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) :
    Safe defs 𝒱 E c P (k0_part204 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903) := by
  unfold k0_part204
  repeat (with_reducible first
    | refine Safe.bind ?_ (fun _ => ?_)
    | exact Safe.load H.a16
    | exact Safe.load H.a17
    | exact Safe.store H.a17
    | exact Safe.pure _)

theorem part205 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) :
    Safe defs 𝒱 E c P (k0_part205 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903) := by
  unfold k0_part205
  repeat (with_reducible first
    | refine Safe.bind ?_ (fun _ => ?_)
    | exact Safe.load H.a16
    | exact Safe.load H.a17
    | exact Safe.store H.a17
    | exact Safe.pure _)

theorem part206 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) (v966 : IVec S8x256 32) (v967 : Vec F S1x8x256 .i32) :
    Safe defs 𝒱 E c P (k0_part206 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903 v966 v967) := by
  unfold k0_part206
  repeat (with_reducible first
    | refine Safe.bind ?_ (fun _ => ?_)
    | exact Safe.load H.a16
    | exact Safe.load H.a17
    | exact Safe.store H.a17
    | exact Safe.pure _)

theorem part207 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) (v999 : IVec S8x256 32) :
    Safe defs 𝒱 E c P (k0_part207 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903 v999) := by
  unfold k0_part207
  repeat (with_reducible first
    | refine Safe.bind ?_ (fun _ => ?_)
    | exact Safe.load H.a16
    | exact Safe.load H.a17
    | exact Safe.store H.a17
    | exact Safe.pure _)

theorem part208 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) (v1026 : IVec S8x256 32) (v1029 : IVec S8x256 32) (v1030 : IVec S8x256 32) :
    Safe defs 𝒱 E c P (k0_part208 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903 v1026 v1029 v1030) := by
  unfold k0_part208
  repeat (with_reducible first
    | refine Safe.bind ?_ (fun _ => ?_)
    | exact Safe.load H.a16
    | exact Safe.load H.a17
    | exact Safe.store H.a17
    | exact Safe.pure _)

theorem part209 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) (v1059 : IVec S8x256 32) :
    Safe defs 𝒱 E c P (k0_part209 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903 v1059) := by
  unfold k0_part209
  repeat (with_reducible first
    | refine Safe.bind ?_ (fun _ => ?_)
    | exact Safe.load H.a16
    | exact Safe.load H.a17
    | exact Safe.store H.a17
    | exact Safe.pure _)

theorem part210 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) (v1092 : IVec S8x256 32) :
    Safe defs 𝒱 E c P (k0_part210 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903 v1092) := by
  unfold k0_part210
  repeat (with_reducible first
    | refine Safe.bind ?_ (fun _ => ?_)
    | exact Safe.load H.a16
    | exact Safe.load H.a17
    | exact Safe.store H.a17
    | exact Safe.pure _)

theorem part211 (H : Held c P arg2 arg3 arg4 arg5 arg6 arg7 arg8 arg9 arg10 arg11 arg12 arg13 arg14 arg15 arg16 arg17 arg18 arg19 arg20 arg21 arg22 arg23) (k0_h6 : k0_cond6 i = 1#1) (k0_t5 : Fin k0_t5_loop.trips) (arg24 : BitVec 32) (v903 : IVec S1x256 32) :
    Safe defs 𝒱 E c P (k0_part211 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h6 k0_t5 arg24 v903) := by
  unfold k0_part211
  repeat (with_reducible first
    | refine Safe.bind ?_ (fun _ => ?_)
    | exact Safe.load H.a16
    | exact Safe.load H.a17
    | exact Safe.store H.a17
    | exact Safe.pure _)

theorem part212 (H : Held c P arg2 arg3 arg4 arg5 arg6 arg7 arg8 arg9 arg10 arg11 arg12 arg13 arg14 arg15 arg16 arg17 arg18 arg19 arg20 arg21 arg22 arg23) (k0_h7 : k0_cond7 i = 1#1) (c0_i32_420 : BitVec 32) (c1_i32_422 : BitVec 32) (k0_t6 : Fin k0_t6_loop.trips) :
    Safe defs 𝒱 E c P (k0_part212 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 c0_i32_420 c1_i32_422 k0_t6) := by
  unfold k0_part212
  repeat (with_reducible first
    | refine Safe.bind ?_ (fun _ => ?_)
    | exact Safe.load H.a16
    | exact Safe.load H.a17
    | exact Safe.pure _)

theorem part213 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v702 : IVec S8x256 32) (v710 : IVec S8x256 32) (v718 : IVec S8x256 32) (v726 : IVec S8x256 32) (v728 : IVec S8x256 32) :
    Safe defs 𝒱 E c P (k0_part213 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v702 v710 v718 v726 v728) := by
  unfold k0_part213
  repeat (with_reducible first
    | refine Safe.bind ?_ (fun _ => ?_)
    | exact Safe.load H.a16
    | exact Safe.load H.a17
    | exact Safe.pure _)

theorem part214 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v734 : IVec S8x256 32) (v742 : IVec S8x256 32) (v750 : IVec S8x256 32) (v758 : IVec S8x256 32) (v765 : IVec S8x256 32) :
    Safe defs 𝒱 E c P (k0_part214 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v734 v742 v750 v758 v765) := by
  unfold k0_part214
  repeat (with_reducible first
    | refine Safe.bind ?_ (fun _ => ?_)
    | exact Safe.load H.a16
    | exact Safe.load H.a17
    | exact Safe.pure _)

theorem part215 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v774 : IVec S8x256 32) (v782 : IVec S8x256 32) (v790 : IVec S8x256 32) (v798 : IVec S8x256 32) :
    Safe defs 𝒱 E c P (k0_part215 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v774 v782 v790 v798) := by
  unfold k0_part215
  repeat (with_reducible first
    | refine Safe.bind ?_ (fun _ => ?_)
    | exact Safe.load H.a16
    | exact Safe.load H.a17
    | exact Safe.pure _)

theorem part216 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v806 : IVec S8x256 32) (v814 : IVec S8x256 32) (v822 : IVec S8x256 32) (v830 : IVec S8x256 32) (v832 : IVec S8x256 32) :
    Safe defs 𝒱 E c P (k0_part216 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v806 v814 v822 v830 v832) := by
  unfold k0_part216
  repeat (with_reducible first
    | refine Safe.bind ?_ (fun _ => ?_)
    | exact Safe.load H.a16
    | exact Safe.load H.a17
    | exact Safe.pure _)

theorem part217 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v838 : IVec S8x256 32) (v846 : IVec S8x256 32) (v854 : IVec S8x256 32) (v862 : IVec S8x256 32) (v864 : IVec S8x256 32) (v867 : IVec S8x256 32) :
    Safe defs 𝒱 E c P (k0_part217 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v838 v846 v854 v862 v864 v867) := by
  unfold k0_part217
  repeat (with_reducible first
    | refine Safe.bind ?_ (fun _ => ?_)
    | exact Safe.load H.a16
    | exact Safe.load H.a17
    | exact Safe.pure _)

theorem part218 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v878 : IVec S8x256 32) (v886 : IVec S8x256 32) (v894 : IVec S8x256 32) (v902 : IVec S8x256 32) :
    Safe defs 𝒱 E c P (k0_part218 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v878 v886 v894 v902) := by
  unfold k0_part218
  repeat (with_reducible first
    | refine Safe.bind ?_ (fun _ => ?_)
    | exact Safe.load H.a16
    | exact Safe.load H.a17
    | exact Safe.pure _)

end Cert.Proof.Dsa

end
-- ==== Proof.Dsa.Parts7.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part219 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg25 : IVec S1x256 32) (arg24 : BitVec 32) (v910 : IVec S8x256 32) (v918 : IVec S8x256 32) (v926 : IVec S8x256 32) (v934 : IVec S8x256 32) (v936 : IVec S8x256 32) :
    Safe defs 𝒱 E c P (k0_part219 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg25 arg24 v910 v918 v926 v934 v936) := by
  unfold k0_part219
  repeat (with_reducible first
    | refine Safe.bind ?_ (fun _ => ?_)
    | exact Safe.load H.a16
    | exact Safe.load H.a17
    | exact Safe.pure _)

theorem part220 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v969 : IVec S8x256 32) (v972 : IVec S8x256 32) :
    Safe defs 𝒱 E c P (k0_part220 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v969 v972) := by
  unfold k0_part220
  repeat (with_reducible first
    | refine Safe.bind ?_ (fun _ => ?_)
    | exact Safe.load H.a16
    | exact Safe.load H.a17
    | exact Safe.store H.a17
    | exact Safe.pure _)

theorem part221 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1002 : IVec S8x256 32) :
    Safe defs 𝒱 E c P (k0_part221 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1002) := by
  unfold k0_part221
  repeat (with_reducible first
    | refine Safe.bind ?_ (fun _ => ?_)
    | exact Safe.load H.a16
    | exact Safe.load H.a17
    | exact Safe.store H.a17
    | exact Safe.pure _)

theorem part222 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1035 : IVec S8x256 32) :
    Safe defs 𝒱 E c P (k0_part222 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1035) := by
  unfold k0_part222
  repeat (with_reducible first
    | refine Safe.bind ?_ (fun _ => ?_)
    | exact Safe.load H.a16
    | exact Safe.load H.a17
    | exact Safe.store H.a17
    | exact Safe.pure _)

theorem part223 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) :
    Safe defs 𝒱 E c P (k0_part223 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967) := by
  unfold k0_part223
  repeat (with_reducible first
    | refine Safe.bind ?_ (fun _ => ?_)
    | exact Safe.load H.a16
    | exact Safe.load H.a17
    | exact Safe.store H.a17
    | exact Safe.pure _)

theorem part224 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1099 : IVec S1x8x256 32) :
    Safe defs 𝒱 E c P (k0_part224 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1099) := by
  unfold k0_part224
  repeat (with_reducible first
    | refine Safe.bind ?_ (fun _ => ?_)
    | exact Safe.load H.a16
    | exact Safe.load H.a17
    | exact Safe.store H.a17
    | exact Safe.pure _)

theorem part225 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1129 : IVec S8x256 32) :
    Safe defs 𝒱 E c P (k0_part225 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1129) := by
  unfold k0_part225
  repeat (with_reducible first
    | refine Safe.bind ?_ (fun _ => ?_)
    | exact Safe.load H.a16
    | exact Safe.load H.a17
    | exact Safe.store H.a17
    | exact Safe.pure _)

theorem part226 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1162 : IVec S8x256 32) :
    Safe defs 𝒱 E c P (k0_part226 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1162) := by
  unfold k0_part226
  repeat (with_reducible first
    | refine Safe.bind ?_ (fun _ => ?_)
    | exact Safe.load H.a16
    | exact Safe.load H.a17
    | exact Safe.store H.a17
    | exact Safe.pure _)

theorem part227 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1189 : IVec S8x256 32) (v1192 : IVec S8x256 32) :
    Safe defs 𝒱 E c P (k0_part227 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1189 v1192) := by
  unfold k0_part227
  repeat (with_reducible first
    | refine Safe.bind ?_ (fun _ => ?_)
    | exact Safe.load H.a16
    | exact Safe.load H.a17
    | exact Safe.store H.a17
    | exact Safe.pure _)

theorem part228 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1222 : IVec S8x256 32) :
    Safe defs 𝒱 E c P (k0_part228 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1222) := by
  unfold k0_part228
  repeat (with_reducible first
    | refine Safe.bind ?_ (fun _ => ?_)
    | exact Safe.load H.a16
    | exact Safe.load H.a17
    | exact Safe.store H.a17
    | exact Safe.pure _)

theorem part229 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) (v1255 : IVec S8x256 32) :
    Safe defs 𝒱 E c P (k0_part229 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967 v1255) := by
  unfold k0_part229
  repeat (with_reducible first
    | refine Safe.bind ?_ (fun _ => ?_)
    | exact Safe.load H.a16
    | exact Safe.load H.a17
    | exact Safe.store H.a17
    | exact Safe.pure _)

theorem part230 (H : Held c P arg2 arg3 arg4 arg5 arg6 arg7 arg8 arg9 arg10 arg11 arg12 arg13 arg14 arg15 arg16 arg17 arg18 arg19 arg20 arg21 arg22 arg23) (k0_h7 : k0_cond7 i = 1#1) (k0_t6 : Fin k0_t6_loop.trips) (arg24 : BitVec 32) (v967 : IVec S1x256 32) :
    Safe defs 𝒱 E c P (k0_part230 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h7 k0_t6 arg24 v967) := by
  unfold k0_part230
  repeat (with_reducible first
    | refine Safe.bind ?_ (fun _ => ?_)
    | exact Safe.load H.a16
    | exact Safe.load H.a17
    | exact Safe.store H.a17
    | exact Safe.pure _)

theorem part231 (H : Held c P arg2 arg3 arg4 arg5 arg6 arg7 arg8 arg9 arg10 arg11 arg12 arg13 arg14 arg15 arg16 arg17 arg18 arg19 arg20 arg21 arg22 arg23) (v572 : IVec S1x256 1) :
    Safe defs 𝒱 E c P (k0_part231 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v572) := by
  unfold k0_part231
  repeat (with_reducible first
    | refine Safe.bind ?_ (fun _ => ?_)
    | exact Safe.load H.a17
    | exact Safe.load H.a19
    | exact Safe.store H.a19
    | exact Safe.pure _)

theorem part232 (H : Held c P arg2 arg3 arg4 arg5 arg6 arg7 arg8 arg9 arg10 arg11 arg12 arg13 arg14 arg15 arg16 arg17 arg18 arg19 arg20 arg21 arg22 arg23) (v693 : IVec S1x256 32) (v726 : IVec S1x256 32) (v727 : Vec F S1x256 .i32) :
    Safe defs 𝒱 E c P (k0_part232 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v726 v727) := by
  unfold k0_part232
  repeat (with_reducible first
    | refine Safe.bind ?_ (fun _ => ?_)
    | exact Safe.load H.a17
    | exact Safe.load H.a19
    | exact Safe.store H.a19
    | exact Safe.pure _)

theorem part233 (H : Held c P arg2 arg3 arg4 arg5 arg6 arg7 arg8 arg9 arg10 arg11 arg12 arg13 arg14 arg15 arg16 arg17 arg18 arg19 arg20 arg21 arg22 arg23) (v693 : IVec S1x256 32) (v765 : IVec S1x256 32) :
    Safe defs 𝒱 E c P (k0_part233 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v765) := by
  unfold k0_part233
  repeat (with_reducible first
    | refine Safe.bind ?_ (fun _ => ?_)
    | exact Safe.load H.a17
    | exact Safe.load H.a19
    | exact Safe.store H.a19
    | exact Safe.pure _)

theorem part234 (H : Held c P arg2 arg3 arg4 arg5 arg6 arg7 arg8 arg9 arg10 arg11 arg12 arg13 arg14 arg15 arg16 arg17 arg18 arg19 arg20 arg21 arg22 arg23) (v693 : IVec S1x256 32) (c0_i32_482 : BitVec 32) :
    Safe defs 𝒱 E c P (k0_part234 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 c0_i32_482) := by
  unfold k0_part234
  repeat (with_reducible first
    | refine Safe.bind ?_ (fun _ => ?_)
    | exact Safe.load H.a17
    | exact Safe.load H.a19
    | exact Safe.store H.a19
    | exact Safe.pure _)

theorem part235 (H : Held c P arg2 arg3 arg4 arg5 arg6 arg7 arg8 arg9 arg10 arg11 arg12 arg13 arg14 arg15 arg16 arg17 arg18 arg19 arg20 arg21 arg22 arg23) (v693 : IVec S1x256 32) (v838 : IVec S8x256 32) :
    Safe defs 𝒱 E c P (k0_part235 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v838) := by
  unfold k0_part235
  repeat (with_reducible first
    | refine Safe.bind ?_ (fun _ => ?_)
    | exact Safe.load H.a17
    | exact Safe.load H.a19
    | exact Safe.store H.a19
    | exact Safe.pure _)

theorem part236 (H : Held c P arg2 arg3 arg4 arg5 arg6 arg7 arg8 arg9 arg10 arg11 arg12 arg13 arg14 arg15 arg16 arg17 arg18 arg19 arg20 arg21 arg22 arg23) (v693 : IVec S1x256 32) (v874 : IVec S8x256 32) :
    Safe defs 𝒱 E c P (k0_part236 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v874) := by
  unfold k0_part236
  repeat (with_reducible first
    | refine Safe.bind ?_ (fun _ => ?_)
    | exact Safe.load H.a17
    | exact Safe.load H.a19
    | exact Safe.store H.a19
    | exact Safe.pure _)

theorem part237 (H : Held c P arg2 arg3 arg4 arg5 arg6 arg7 arg8 arg9 arg10 arg11 arg12 arg13 arg14 arg15 arg16 arg17 arg18 arg19 arg20 arg21 arg22 arg23) (v693 : IVec S1x256 32) (v910 : IVec S8x256 32) (v912 : IVec S8x256 32) :
    Safe defs 𝒱 E c P (k0_part237 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v910 v912) := by
  unfold k0_part237
  repeat (with_reducible first
    | refine Safe.bind ?_ (fun _ => ?_)
    | exact Safe.load H.a17
    | exact Safe.load H.a19
    | exact Safe.store H.a19
    | exact Safe.pure _)

theorem part238 (H : Held c P arg2 arg3 arg4 arg5 arg6 arg7 arg8 arg9 arg10 arg11 arg12 arg13 arg14 arg15 arg16 arg17 arg18 arg19 arg20 arg21 arg22 arg23) (v693 : IVec S1x256 32) (v946 : IVec S8x256 32) (v950 : IVec S8x256 32) :
    Safe defs 𝒱 E c P (k0_part238 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v693 v946 v950) := by
  unfold k0_part238
  repeat (with_reducible first
    | refine Safe.bind ?_ (fun _ => ?_)
    | exact Safe.load H.a17
    | exact Safe.load H.a19
    | exact Safe.store H.a19
    | exact Safe.pure _)

theorem part239 (H : Held c P arg2 arg3 arg4 arg5 arg6 arg7 arg8 arg9 arg10 arg11 arg12 arg13 arg14 arg15 arg16 arg17 arg18 arg19 arg20 arg21 arg22 arg23) (v437 : FVec F S1x256 .f32) (c0_i32_354 : BitVec 32) (c1_i32_356 : BitVec 32) (k0_t9 : Fin (k0_t9_loop i).trips) :
    Safe defs 𝒱 E c P (k0_part239 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 c0_i32_354 c1_i32_356 k0_t9) := by
  unfold k0_part239
  repeat (with_reducible first
    | refine Safe.bind ?_ (fun _ => ?_)
    | exact Safe.load H.a11
    | exact Safe.load H.a12
    | exact Safe.load H.a15
    | exact Safe.load H.a23
    | exact Safe.store H.a23
    | exact Safe.pure _)

theorem part240 (H : Held c P arg2 arg3 arg4 arg5 arg6 arg7 arg8 arg9 arg10 arg11 arg12 arg13 arg14 arg15 arg16 arg17 arg18 arg19 arg20 arg21 arg22 arg23) (k0_t9 : Fin (k0_t9_loop i).trips) (arg24 : BitVec 32) (v696 : FVec F S512x2048 .f32) (v704 : FVec F S512x256 .f32) (v729 : FVec F S512x256 .bf16) :
    Safe defs 𝒱 E c P (k0_part240 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t9 arg24 v696 v704 v729) := by
  unfold k0_part240
  repeat (with_reducible first
    | refine Safe.bind ?_ (fun _ => ?_)
    | exact Safe.load H.a14
    | exact Safe.load H.a22
    | exact Safe.load H.a23
    | exact Safe.store H.a23
    | exact Safe.pure _)

theorem part241 (H : Held c P arg2 arg3 arg4 arg5 arg6 arg7 arg8 arg9 arg10 arg11 arg12 arg13 arg14 arg15 arg16 arg17 arg18 arg19 arg20 arg21 arg22 arg23) (v765 : FVec F S80x2048 .f32) (v767 : FVec F S80x256 .f32) (v768 : FVec F S80x256 .f32) :
    Safe defs 𝒱 E c P (k0_part241 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v765 v767 v768) := by
  unfold k0_part241
  repeat (with_reducible first
    | refine Safe.bind ?_ (fun _ => ?_)
    | exact Safe.load H.a22
    | exact Safe.store H.a22
    | exact Safe.pure _)

theorem part242 (H : Held c P arg2 arg3 arg4 arg5 arg6 arg7 arg8 arg9 arg10 arg11 arg12 arg13 arg14 arg15 arg16 arg17 arg18 arg19 arg20 arg21 arg22 arg23) (v437 : FVec F S1x256 .f32) (v591 : BitVec 32) (c1_i32_357 : BitVec 32) (k0_t10 : Fin (k0_t10_loop i).trips) :
    Safe defs 𝒱 E c P (k0_part242 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 v591 c1_i32_357 k0_t10) := by
  unfold k0_part242
  repeat (with_reducible first
    | refine Safe.bind ?_ (fun _ => ?_)
    | exact Safe.load H.a11
    | exact Safe.load H.a12
    | exact Safe.load H.a15
    | exact Safe.load H.a23
    | exact Safe.store H.a23
    | exact Safe.pure _)

theorem part243 (H : Held c P arg2 arg3 arg4 arg5 arg6 arg7 arg8 arg9 arg10 arg11 arg12 arg13 arg14 arg15 arg16 arg17 arg18 arg19 arg20 arg21 arg22 arg23) (k0_t10 : Fin (k0_t10_loop i).trips) (arg24 : BitVec 32) (v696 : FVec F S512x2048 .f32) (v704 : FVec F S512x256 .f32) (v729 : FVec F S512x256 .bf16) :
    Safe defs 𝒱 E c P (k0_part243 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t10 arg24 v696 v704 v729) := by
  unfold k0_part243
  repeat (with_reducible first
    | refine Safe.bind ?_ (fun _ => ?_)
    | exact Safe.load H.a14
    | exact Safe.load H.a22
    | exact Safe.load H.a23
    | exact Safe.store H.a23
    | exact Safe.pure _)

theorem part244 (H : Held c P arg2 arg3 arg4 arg5 arg6 arg7 arg8 arg9 arg10 arg11 arg12 arg13 arg14 arg15 arg16 arg17 arg18 arg19 arg20 arg21 arg22 arg23) (v765 : FVec F S80x2048 .f32) (v767 : FVec F S80x256 .f32) (v768 : FVec F S80x256 .f32) :
    Safe defs 𝒱 E c P (k0_part244 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v765 v767 v768) := by
  unfold k0_part244
  repeat (with_reducible first
    | refine Safe.bind ?_ (fun _ => ?_)
    | exact Safe.load H.a22
    | exact Safe.store H.a22
    | exact Safe.pure _)

theorem part245 (H : Held c P arg2 arg3 arg4 arg5 arg6 arg7 arg8 arg9 arg10 arg11 arg12 arg13 arg14 arg15 arg16 arg17 arg18 arg19 arg20 arg21 arg22 arg23) (v188 : BitVec 32) (v437 : FVec F S1x256 .f32) (k0_h11 : k0_cond11 i = 1#1) :
    Safe defs 𝒱 E c P (k0_part245 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 v437 k0_h11) := by
  unfold k0_part245
  repeat (with_reducible first
    | refine Safe.bind ?_ (fun _ => ?_)
    | exact Safe.load H.a11
    | exact Safe.load H.a12
    | exact Safe.load H.a15
    | exact Safe.load H.a23
    | exact Safe.store H.a23
    | exact Safe.pure _)

theorem part246 (H : Held c P arg2 arg3 arg4 arg5 arg6 arg7 arg8 arg9 arg10 arg11 arg12 arg13 arg14 arg15 arg16 arg17 arg18 arg19 arg20 arg21 arg22 arg23) (v188 : BitVec 32) (k0_h11 : k0_cond11 i = 1#1) (v696 : FVec F S256x2048 .f32) (v704 : FVec F S256x256 .f32) (v729 : FVec F S256x256 .bf16) (v730 : Vec F S256x256 .bf16) :
    Safe defs 𝒱 E c P (k0_part246 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h11 v696 v704 v729 v730) := by
  unfold k0_part246
  repeat (with_reducible first
    | refine Safe.bind ?_ (fun _ => ?_)
    | exact Safe.load H.a14
    | exact Safe.load H.a22
    | exact Safe.load H.a23
    | exact Safe.store H.a23
    | exact Safe.pure _)

theorem part247 (H : Held c P arg2 arg3 arg4 arg5 arg6 arg7 arg8 arg9 arg10 arg11 arg12 arg13 arg14 arg15 arg16 arg17 arg18 arg19 arg20 arg21 arg22 arg23) (v765 : FVec F S80x2048 .f32) (v769 : FVec F S80x256 .f32) :
    Safe defs 𝒱 E c P (k0_part247 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v765 v769) := by
  unfold k0_part247
  repeat (with_reducible first
    | refine Safe.bind ?_ (fun _ => ?_)
    | exact Safe.load H.a22
    | exact Safe.store H.a22
    | exact Safe.pure _)

theorem part248 (H : Held c P arg2 arg3 arg4 arg5 arg6 arg7 arg8 arg9 arg10 arg11 arg12 arg13 arg14 arg15 arg16 arg17 arg18 arg19 arg20 arg21 arg22 arg23) (v188 : BitVec 32) (v437 : FVec F S1x256 .f32) (k0_h12 : k0_cond12 i = 1#1) :
    Safe defs 𝒱 E c P (k0_part248 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 v437 k0_h12) := by
  unfold k0_part248
  repeat (with_reducible first
    | refine Safe.bind ?_ (fun _ => ?_)
    | exact Safe.load H.a11
    | exact Safe.load H.a12
    | exact Safe.load H.a15
    | exact Safe.load H.a23
    | exact Safe.store H.a23
    | exact Safe.pure _)

theorem part249 (H : Held c P arg2 arg3 arg4 arg5 arg6 arg7 arg8 arg9 arg10 arg11 arg12 arg13 arg14 arg15 arg16 arg17 arg18 arg19 arg20 arg21 arg22 arg23) (v188 : BitVec 32) (k0_h12 : k0_cond12 i = 1#1) (v696 : FVec F S512x2048 .f32) (v704 : FVec F S512x256 .f32) (v729 : FVec F S512x256 .bf16) (v730 : Vec F S512x256 .bf16) :
    Safe defs 𝒱 E c P (k0_part249 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 k0_h12 v696 v704 v729 v730) := by
  unfold k0_part249
  repeat (with_reducible first
    | refine Safe.bind ?_ (fun _ => ?_)
    | exact Safe.load H.a14
    | exact Safe.load H.a22
    | exact Safe.load H.a23
    | exact Safe.store H.a23
    | exact Safe.pure _)

end Cert.Proof.Dsa

end
-- ==== Proof.Dsa.Parts8.lean ====
/-
  Windows of the attention call's body that call no other window: each runs, holding the buffers.
-/
module

public import proofs.«01_k».proof.Kernel
public import proofs.«01_k».proof.Proof.Dsa.Safe
public import proofs.«01_k».proof.Proof.Dsa.Held

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part250 (H : Held c P arg2 arg3 arg4 arg5 arg6 arg7 arg8 arg9 arg10 arg11 arg12 arg13 arg14 arg15 arg16 arg17 arg18 arg19 arg20 arg21 arg22 arg23) (v765 : FVec F S80x2048 .f32) (v769 : FVec F S80x256 .f32) :
    Safe defs 𝒱 E c P (k0_part250 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v765 v769) := by
  unfold k0_part250
  repeat (with_reducible first
    | refine Safe.bind ?_ (fun _ => ?_)
    | exact Safe.load H.a22
    | exact Safe.store H.a22
    | exact Safe.pure _)

theorem part251 (H : Held c P arg2 arg3 arg4 arg5 arg6 arg7 arg8 arg9 arg10 arg11 arg12 arg13 arg14 arg15 arg16 arg17 arg18 arg19 arg20 arg21 arg22 arg23) (v437 : FVec F S1x256 .f32) (c0_i32_428 : BitVec 32) (c1_i32_430 : BitVec 32) (k0_t11 : Fin (k0_t11_loop i).trips) :
    Safe defs 𝒱 E c P (k0_part251 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 c0_i32_428 c1_i32_430 k0_t11) := by
  unfold k0_part251
  repeat (with_reducible first
    | refine Safe.bind ?_ (fun _ => ?_)
    | exact Safe.load H.a7
    | exact Safe.load H.a11
    | exact Safe.load H.a15
    | exact Safe.load H.a20
    | exact Safe.load H.a21
    | exact Safe.load H.a23
    | exact Safe.store H.a20
    | exact Safe.store H.a21
    | exact Safe.store H.a23
    | exact Safe.pure _)

theorem part252 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) :
    Safe defs 𝒱 E c P (k0_part252 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717) := by
  unfold k0_part252
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part253 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) (v765 : FVec F S512x256 .f32) (v771 : FVec F S1x256 .f32) :
    Safe defs 𝒱 E c P (k0_part253 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717 v765 v771) := by
  unfold k0_part253
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part254 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) (v811 : FVec F S512x256 .f32) (v814 : Vec F S1x256 .f32) (v817 : FVec F S1x256 .f32) :
    Safe defs 𝒱 E c P (k0_part254 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717 v811 v814 v817) := by
  unfold k0_part254
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part255 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) :
    Safe defs 𝒱 E c P (k0_part255 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717) := by
  unfold k0_part255
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part256 (H : Held c P arg2 arg3 arg4 arg5 arg6 arg7 arg8 arg9 arg10 arg11 arg12 arg13 arg14 arg15 arg16 arg17 arg18 arg19 arg20 arg21 arg22 arg23) (k0_t11 : Fin (k0_t11_loop i).trips) (arg24 : BitVec 32) (v880 : FVec F S512x256 .f32) (v886 : FVec F S1x256 .f32) :
    Safe defs 𝒱 E c P (k0_part256 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t11 arg24 v880 v886) := by
  unfold k0_part256
  repeat (with_reducible first
    | refine Safe.bind ?_ (fun _ => ?_)
    | exact Safe.load H.a14
    | exact Safe.load H.a21
    | exact Safe.load H.a22
    | exact Safe.load H.a23
    | exact Safe.store H.a20
    | exact Safe.store H.a22
    | exact Safe.store H.a23
    | exact Safe.pure _)

theorem part257 (H : Held c P arg2 arg3 arg4 arg5 arg6 arg7 arg8 arg9 arg10 arg11 arg12 arg13 arg14 arg15 arg16 arg17 arg18 arg19 arg20 arg21 arg22 arg23) (v906 : FVec F S80x2048 .f32) :
    Safe defs 𝒱 E c P (k0_part257 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v906) := by
  unfold k0_part257
  repeat (with_reducible first
    | refine Safe.bind ?_ (fun _ => ?_)
    | exact Safe.load H.a21
    | exact Safe.load H.a22
    | exact Safe.store H.a22
    | exact Safe.pure _)

theorem part259 (H : Held c P arg2 arg3 arg4 arg5 arg6 arg7 arg8 arg9 arg10 arg11 arg12 arg13 arg14 arg15 arg16 arg17 arg18 arg19 arg20 arg21 arg22 arg23) (v437 : FVec F S1x256 .f32) (v703 : BitVec 32) (c1_i32_431 : BitVec 32) (k0_t12 : Fin (k0_t12_loop i).trips) :
    Safe defs 𝒱 E c P (k0_part259 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 v703 c1_i32_431 k0_t12) := by
  unfold k0_part259
  repeat (with_reducible first
    | refine Safe.bind ?_ (fun _ => ?_)
    | exact Safe.load H.a7
    | exact Safe.load H.a11
    | exact Safe.load H.a15
    | exact Safe.load H.a20
    | exact Safe.load H.a21
    | exact Safe.load H.a23
    | exact Safe.store H.a20
    | exact Safe.store H.a21
    | exact Safe.store H.a23
    | exact Safe.pure _)

theorem part260 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) :
    Safe defs 𝒱 E c P (k0_part260 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717) := by
  unfold k0_part260
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part261 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) (v765 : FVec F S512x256 .f32) (v771 : FVec F S1x256 .f32) :
    Safe defs 𝒱 E c P (k0_part261 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717 v765 v771) := by
  unfold k0_part261
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part262 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) (v811 : FVec F S512x256 .f32) (v814 : Vec F S1x256 .f32) (v817 : FVec F S1x256 .f32) :
    Safe defs 𝒱 E c P (k0_part262 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717 v811 v814 v817) := by
  unfold k0_part262
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part263 (H : Held c P arg2 arg3 arg4 arg5 arg6 arg7 arg8 arg9 arg10 arg11 arg12 arg13 arg14 arg15 arg16 arg17 arg18 arg19 arg20 arg21 arg22 arg23) (v709 : FVec F S512x2048 .f32) (v717 : FVec F S512x256 .f32) :
    Safe defs 𝒱 E c P (k0_part263 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v709 v717) := by
  unfold k0_part263
  repeat (with_reducible first
    | refine Safe.bind ?_ (fun _ => ?_)
    | exact Safe.load H.a20
    | exact Safe.load H.a21
    | exact Safe.load H.a23
    | exact Safe.store H.a20
    | exact Safe.store H.a21
    | exact Safe.store H.a23
    | exact Safe.pure _)

theorem part264 (H : Held c P arg2 arg3 arg4 arg5 arg6 arg7 arg8 arg9 arg10 arg11 arg12 arg13 arg14 arg15 arg16 arg17 arg18 arg19 arg20 arg21 arg22 arg23) (k0_t12 : Fin (k0_t12_loop i).trips) (arg24 : BitVec 32) (v880 : FVec F S512x256 .f32) (v886 : FVec F S1x256 .f32) :
    Safe defs 𝒱 E c P (k0_part264 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_t12 arg24 v880 v886) := by
  unfold k0_part264
  repeat (with_reducible first
    | refine Safe.bind ?_ (fun _ => ?_)
    | exact Safe.load H.a14
    | exact Safe.load H.a21
    | exact Safe.load H.a22
    | exact Safe.load H.a23
    | exact Safe.store H.a20
    | exact Safe.store H.a22
    | exact Safe.store H.a23
    | exact Safe.pure _)

theorem part265 (H : Held c P arg2 arg3 arg4 arg5 arg6 arg7 arg8 arg9 arg10 arg11 arg12 arg13 arg14 arg15 arg16 arg17 arg18 arg19 arg20 arg21 arg22 arg23) (v906 : FVec F S80x2048 .f32) :
    Safe defs 𝒱 E c P (k0_part265 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v906) := by
  unfold k0_part265
  repeat (with_reducible first
    | refine Safe.bind ?_ (fun _ => ?_)
    | exact Safe.load H.a21
    | exact Safe.load H.a22
    | exact Safe.store H.a22
    | exact Safe.pure _)

theorem part268 (H : Held c P arg2 arg3 arg4 arg5 arg6 arg7 arg8 arg9 arg10 arg11 arg12 arg13 arg14 arg15 arg16 arg17 arg18 arg19 arg20 arg21 arg22 arg23) (v7 : FVec F S512x256 .bf16) (v15 : FVec F S8x256 .f32) (v18 : IVec S16x256 1) (v34 : FVec F S16x256 .bf16) (v35 : Vec F S16x256 .bf16) :
    Safe defs 𝒱 E c P (k0_part268 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v7 v15 v18 v34 v35) := by
  unfold k0_part268
  repeat (with_reducible first
    | refine Safe.bind ?_ (fun _ => ?_)
    | exact Safe.load H.a2
    | exact Safe.load H.a10
    | exact Safe.load H.a11
    | exact Safe.store H.a10
    | exact Safe.store H.a11
    | exact Safe.pure _)

theorem part269 (H : Held c P arg2 arg3 arg4 arg5 arg6 arg7 arg8 arg9 arg10 arg11 arg12 arg13 arg14 arg15 arg16 arg17 arg18 arg19 arg20 arg21 arg22 arg23) (v7 : FVec F S512x256 .bf16) (v15 : FVec F S8x256 .f32) (v18 : IVec S16x256 1) (v71 : FVec F S16x256 .f32) :
    Safe defs 𝒱 E c P (k0_part269 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v7 v15 v18 v71) := by
  unfold k0_part269
  repeat (with_reducible first
    | refine Safe.bind ?_ (fun _ => ?_)
    | exact Safe.load H.a2
    | exact Safe.load H.a10
    | exact Safe.load H.a11
    | exact Safe.store H.a10
    | exact Safe.store H.a11
    | exact Safe.pure _)

theorem part270 (H : Held c P arg2 arg3 arg4 arg5 arg6 arg7 arg8 arg9 arg10 arg11 arg12 arg13 arg14 arg15 arg16 arg17 arg18 arg19 arg20 arg21 arg22 arg23) (v7 : FVec F S512x256 .bf16) (v15 : FVec F S8x256 .f32) (v18 : IVec S16x256 1) (v105 : FVec F S1x256 .f32) (cst_46 : F .f32) :
    Safe defs 𝒱 E c P (k0_part270 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v7 v15 v18 v105 cst_46) := by
  unfold k0_part270
  repeat (with_reducible first
    | refine Safe.bind ?_ (fun _ => ?_)
    | exact Safe.load H.a2
    | exact Safe.load H.a10
    | exact Safe.load H.a11
    | exact Safe.store H.a10
    | exact Safe.store H.a11
    | exact Safe.pure _)

theorem part271 (H : Held c P arg2 arg3 arg4 arg5 arg6 arg7 arg8 arg9 arg10 arg11 arg12 arg13 arg14 arg15 arg16 arg17 arg18 arg19 arg20 arg21 arg22 arg23) (arg1 : BitVec 32) (v7 : FVec F S512x256 .bf16) (v15 : FVec F S8x256 .f32) (v18 : IVec S16x256 1) (v141 : FVec F S1x256 .f32) :
    Safe defs 𝒱 E c P (k0_part271 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg1 v7 v15 v18 v141) := by
  unfold k0_part271
  repeat (with_reducible first
    | refine Safe.bind ?_ (fun _ => ?_)
    | exact Safe.load H.a2
    | exact Safe.load H.a10
    | exact Safe.load H.a11
    | exact Safe.store H.a10
    | exact Safe.store H.a11
    | exact Safe.pure _)

theorem part273 (H : Held c P arg2 arg3 arg4 arg5 arg6 arg7 arg8 arg9 arg10 arg11 arg12 arg13 arg14 arg15 arg16 arg17 arg18 arg19 arg20 arg21 arg22 arg23) (v207 : BitVec 32) (v210 : IVec S8x256 32) :
    Safe defs 𝒱 E c P (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v210) := by
  unfold k0_part273
  repeat (with_reducible first
    | refine Safe.bind ?_ (fun _ => ?_)
    | exact Safe.load H.a17
    | exact Safe.store H.a17
    | exact Safe.pure _)

theorem part274 (H : Held c P arg2 arg3 arg4 arg5 arg6 arg7 arg8 arg9 arg10 arg11 arg12 arg13 arg14 arg15 arg16 arg17 arg18 arg19 arg20 arg21 arg22 arg23) (v207 : BitVec 32) (v238 : BitVec 1) (c_m1_i32_116 : BitVec 32) :
    Safe defs 𝒱 E c P (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v238 c_m1_i32_116) := by
  unfold k0_part274
  repeat (with_reducible first
    | refine Safe.bind ?_ (fun _ => ?_)
    | exact Safe.load H.a17
    | exact Safe.store H.a17
    | exact Safe.pure _)

theorem part275 (H : Held c P arg2 arg3 arg4 arg5 arg6 arg7 arg8 arg9 arg10 arg11 arg12 arg13 arg14 arg15 arg16 arg17 arg18 arg19 arg20 arg21 arg22 arg23) (v207 : BitVec 32) (v264 : IVec S8x256 32) :
    Safe defs 𝒱 E c P (k0_part275 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v264) := by
  unfold k0_part275
  repeat (with_reducible first
    | refine Safe.bind ?_ (fun _ => ?_)
    | exact Safe.load H.a17
    | exact Safe.store H.a17
    | exact Safe.pure _)

theorem part276 (H : Held c P arg2 arg3 arg4 arg5 arg6 arg7 arg8 arg9 arg10 arg11 arg12 arg13 arg14 arg15 arg16 arg17 arg18 arg19 arg20 arg21 arg22 arg23) (v207 : BitVec 32) (v294 : IVec S8x256 32) :
    Safe defs 𝒱 E c P (k0_part276 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v294) := by
  unfold k0_part276
  repeat (with_reducible first
    | refine Safe.bind ?_ (fun _ => ?_)
    | exact Safe.load H.a17
    | exact Safe.store H.a17
    | exact Safe.pure _)

theorem part277 (H : Held c P arg2 arg3 arg4 arg5 arg6 arg7 arg8 arg9 arg10 arg11 arg12 arg13 arg14 arg15 arg16 arg17 arg18 arg19 arg20 arg21 arg22 arg23) (v207 : BitVec 32) (c19_i32 : BitVec 32) :
    Safe defs 𝒱 E c P (k0_part277 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 c19_i32) := by
  unfold k0_part277
  repeat (with_reducible first
    | refine Safe.bind ?_ (fun _ => ?_)
    | exact Safe.load H.a17
    | exact Safe.store H.a17
    | exact Safe.pure _)

theorem part278 (H : Held c P arg2 arg3 arg4 arg5 arg6 arg7 arg8 arg9 arg10 arg11 arg12 arg13 arg14 arg15 arg16 arg17 arg18 arg19 arg20 arg21 arg22 arg23) (v207 : BitVec 32) (v348 : IVec S8x256 32) :
    Safe defs 𝒱 E c P (k0_part278 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v348) := by
  unfold k0_part278
  repeat (with_reducible first
    | refine Safe.bind ?_ (fun _ => ?_)
    | exact Safe.load H.a17
    | exact Safe.store H.a17
    | exact Safe.pure _)

theorem part279 (H : Held c P arg2 arg3 arg4 arg5 arg6 arg7 arg8 arg9 arg10 arg11 arg12 arg13 arg14 arg15 arg16 arg17 arg18 arg19 arg20 arg21 arg22 arg23) (v207 : BitVec 32) (v376 : BitVec 1) (c_m1_i32_208 : BitVec 32) (c0_i32_209 : BitVec 32) :
    Safe defs 𝒱 E c P (k0_part279 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v207 v376 c_m1_i32_208 c0_i32_209) := by
  unfold k0_part279
  repeat (with_reducible first
    | refine Safe.bind ?_ (fun _ => ?_)
    | exact Safe.load H.a17
    | exact Safe.store H.a17
    | exact Safe.pure _)

theorem part281 (H : Held c P arg2 arg3 arg4 arg5 arg6 arg7 arg8 arg9 arg10 arg11 arg12 arg13 arg14 arg15 arg16 arg17 arg18 arg19 arg20 arg21 arg22 arg23) (v438 : IVec S8x256 32) (v440 : IVec S8x256 32) :
    Safe defs 𝒱 E c P (k0_part281 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v438 v440) := by
  unfold k0_part281
  repeat (with_reducible first
    | refine Safe.bind ?_ (fun _ => ?_)
    | exact Safe.load H.a17
    | exact Safe.pure _)

theorem part282 (H : Held c P arg2 arg3 arg4 arg5 arg6 arg7 arg8 arg9 arg10 arg11 arg12 arg13 arg14 arg15 arg16 arg17 arg18 arg19 arg20 arg21 arg22 arg23) (v474 : IVec S8x256 32) :
    Safe defs 𝒱 E c P (k0_part282 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v474) := by
  unfold k0_part282
  repeat (with_reducible first
    | refine Safe.bind ?_ (fun _ => ?_)
    | exact Safe.load H.a17
    | exact Safe.pure _)

theorem part283 (H : Held c P arg2 arg3 arg4 arg5 arg6 arg7 arg8 arg9 arg10 arg11 arg12 arg13 arg14 arg15 arg16 arg17 arg18 arg19 arg20 arg21 arg22 arg23) (v506 : IVec S8x256 32) (v509 : IVec S8x256 32) :
    Safe defs 𝒱 E c P (k0_part283 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v506 v509) := by
  unfold k0_part283
  repeat (with_reducible first
    | refine Safe.bind ?_ (fun _ => ?_)
    | exact Safe.load H.a17
    | exact Safe.pure _)

theorem part284 (H : Held c P arg2 arg3 arg4 arg5 arg6 arg7 arg8 arg9 arg10 arg11 arg12 arg13 arg14 arg15 arg16 arg17 arg18 arg19 arg20 arg21 arg22 arg23) (v422 : Vec F S1x256 .i32) (v433 : IVec S1x256 32) (v542 : IVec S8x256 32) :
    Safe defs 𝒱 E c P (k0_part284 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v422 v433 v542) := by
  unfold k0_part284
  repeat (with_reducible first
    | refine Safe.bind ?_ (fun _ => ?_)
    | exact Safe.load H.a17
    | exact Safe.pure _)

theorem part287 (H : Held c P arg2 arg3 arg4 arg5 arg6 arg7 arg8 arg9 arg10 arg11 arg12 arg13 arg14 arg15 arg16 arg17 arg18 arg19 arg20 arg21 arg22 arg23) (v634 : FVec F S64x256 .f32) (v640 : FVec F S64x256 .f32) (v642 : FVec F S80x256 .f32) (v643 : FVec F S64x256 .f32) :
    Safe defs 𝒱 E c P (k0_part287 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v634 v640 v642 v643) := by
  unfold k0_part287
  repeat (with_reducible first
    | refine Safe.bind ?_ (fun _ => ?_)
    | exact Safe.load H.a5
    | exact Safe.load H.a22
    | exact Safe.pure _)

end Cert.Proof.Dsa

end
-- ==== Proof.Dsa.Parts9.lean ====
/-
  The windows of the attention call's body that call others, each run by theirs.
-/
module

public import proofs.«01_k».proof.Kernel
public import proofs.«01_k».proof.Proof.Dsa.Safe
public import proofs.«01_k».proof.Proof.Dsa.Parts1
public import proofs.«01_k».proof.Proof.Dsa.Parts2
public import proofs.«01_k».proof.Proof.Dsa.Parts3
public import proofs.«01_k».proof.Proof.Dsa.Parts4
public import proofs.«01_k».proof.Proof.Dsa.Parts5
public import proofs.«01_k».proof.Proof.Dsa.Parts6
public import proofs.«01_k».proof.Proof.Dsa.Parts7
public import proofs.«01_k».proof.Proof.Dsa.Parts8

@[expose] public section

set_option maxRecDepth 16384

noncomputable section

namespace Cert.Proof.Dsa

open Idealize.ShloMosaic Idealize.ShloMosaic.TcCoe Idealize.SL Idealize.SL.Sem
open Cert.Kernel Cert.Kernel.Facts₀ Cert.Kernel.Facts

variable {F : FTy → Type} [BitOps F] [Facts]
variable {defs : Defs nD τ sig (Elt F) Λ₀} {𝒱 : Variants} {E : Set ℕ} {c : Dev nD} {P : Own nD τ sig (Elt F)}
variable {i : grid0.Coords}
variable {arg2 : Memref sig .tc .vmem S512x256 .bf16} {harg2 : arg2.IsWhole}
variable {arg3 : Memref sig .tc .vmem S8x256 .f32} {harg3 : arg3.IsWhole}
variable {arg4 : Memref sig .tc .vmem S512x256 .bf16} {harg4 : arg4.IsWhole}
variable {arg5 : Memref sig .tc .vmem S256x512 .f32} {harg5 : arg5.IsWhole}
variable {arg6 : Memref sig .tc .vmem S8192x64 .bf16} {harg6 : arg6.IsWhole}
variable {arg7 : Memref sig .tc .vmem S8192x64 .bf16} {harg7 : arg7.IsWhole}
variable {arg8 : Memref sig .tc .vmem S64x8192 .bf16} {harg8 : arg8.IsWhole}
variable {arg9 : Memref sig .tc .vmem S256x512 .bf16} {harg9 : arg9.IsWhole}
variable {arg10 : Memref sig .tc .vmem S64x2048 .bf16} {harg10 : arg10.IsWhole}
variable {arg11 : Memref sig .tc .vmem S128x2048 .bf16} {harg11 : arg11.IsWhole}
variable {arg12 : Memref sig .tc .vmem S8192x128 .bf16} {harg12 : arg12.IsWhole}
variable {arg13 : Memref sig .tc .vmem S1x1 .f32} {harg13 : arg13.IsWhole}
variable {arg14 : Memref sig .tc .vmem S16x80x512 .bf16} {harg14 : arg14.IsWhole}
variable {arg15 : Memref sig .tc .vmem S16x512x256 .f32} {harg15 : arg15.IsWhole}
variable {arg16 : Memref sig .tc .vmem S32x32x8x256 .i32} {harg16 : arg16.IsWhole}
variable {arg17 : Memref sig .tc .vmem S32x8x256 .i32} {harg17 : arg17.IsWhole}
variable {arg18 : Memref sig .tc .vmem S8x256 .i32} {harg18 : arg18.IsWhole}
variable {arg19 : Memref sig .tc .vmem S16x256 .i32} {harg19 : arg19.IsWhole}
variable {arg20 : Memref sig .tc .vmem S8x256 .f32} {harg20 : arg20.IsWhole}
variable {arg21 : Memref sig .tc .vmem S8x256 .f32} {harg21 : arg21.IsWhole}
variable {arg22 : Memref sig .tc .vmem S8x80x256 .f32} {harg22 : arg22.IsWhole}
variable {arg23 : Memref sig .tc .vmem S512x2048 .bf16} {harg23 : arg23.IsWhole}

theorem part54 (H : Held c P arg2 arg3 arg4 arg5 arg6 arg7 arg8 arg9 arg10 arg11 arg12 arg13 arg14 arg15 arg16 arg17 arg18 arg19 arg20 arg21 arg22 arg23) (v192 : FVec F S8x256 .f32) (c0_i32_83 : BitVec 32) (c1_i32_85 : BitVec 32) (k0_t1 : Fin (k0_t1_loop i).trips) :
    Safe defs 𝒱 E c P (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 c0_i32_83 c1_i32_85 k0_t1) := by
  unfold k0_part54
  repeat (with_reducible first
    | refine Safe.bind ?_ (fun _ => ?_)
    | exact Safe.load H.a16
    | exact Safe.store H.a16
    | exact part7 H _ _ _ _
    | exact part8 H _ _ _ _ _ _ _
    | exact part9 H _ _ _ _ _ _ _ _ _ _ _
    | exact part10 H _ _ _ _ _ _ _ _ _ _ _ _ _
    | exact part11 H _ _ _ _ _ _ _ _ _ _ _ _ _
    | exact part12 H _ _ _ _ _ _ _ _ _ _ _ _ _
    | exact part13 H _ _ _ _ _ _ _ _ _ _ _ _ _
    | exact part14 H _ _ _ _ _ _ _ _ _ _ _ _ _
    | exact part15 H _ _ _ _ _ _ _ _ _ _ _ _ _
    | exact part16 H _ _ _ _ _ _ _ _ _ _ _ _ _
    | exact part17 H _ _ _ _ _ _ _ _ _ _ _ _ _
    | exact part18 H _ _ _ _ _ _ _ _ _ _ _ _ _
    | exact part19 H _ _ _ _ _ _ _ _ _ _ _ _ _
    | exact part20 H _ _ _ _ _ _ _ _ _ _ _ _ _
    | exact part21 H _ _ _ _ _ _ _ _ _ _ _ _ _
    | exact part22 H _ _ _ _ _ _ _ _ _ _ _ _ _
    | exact part23 H _ _ _ _ _ _ _ _ _ _ _ _ _
    | exact part24 H _ _ _ _ _ _ _ _ _ _ _ _ _
    | exact part25 H _ _ _ _ _ _ _ _ _
    | exact part26 H _ _ _ _ _ _ _
    | exact part27 H _ _ _ _ _ _ _
    | exact part28 H _ _ _ _ _ _ _
    | exact part29 H _ _ _ _ _ _ _
    | exact part30 H _ _ _ _ _ _ _
    | exact part31 H _ _ _ _ _ _
    | exact part32 H _ _ _ _ _ _ _ _ _ _ _
    | exact part33 H _ _ _ _ _ _ _ _ _ _ _ _
    | exact part34 H _ _ _ _ _ _ _ _ _ _ _ _
    | exact part35 H _ _ _ _ _ _ _ _ _ _ _ _
    | exact part36 H _ _ _ _ _ _ _ _ _ _ _ _
    | exact part37 H _ _ _ _ _ _ _ _ _ _ _ _
    | exact part38 H _ _ _ _ _ _ _ _ _ _ _ _
    | exact part39 H _ _ _ _ _ _ _ _ _ _ _ _
    | exact part40 H _ _ _ _ _ _ _ _ _ _ _ _
    | exact part41 H _ _ _ _ _ _ _ _ _ _ _ _
    | exact part42 H _ _ _ _ _ _ _ _ _ _ _ _
    | exact part43 H _ _ _ _ _ _ _ _ _ _ _ _
    | exact part44 H _ _ _ _ _ _ _ _ _ _ _ _
    | exact part45 H _ _ _ _ _ _ _ _ _ _ _ _
    | exact part46 H _ _ _ _ _ _ _ _ _ _ _ _
    | exact part47 H _ _ _ _ _ _ _ _ _ _ _ _
    | exact part48 H _ _ _ _ _ _ _ _ _
    | exact part49 H _ _ _ _ _ _ _ _
    | exact part50 H _ _ _ _ _ _ _ _
    | exact part51 H _ _ _ _ _ _ _ _
    | exact part52 H _ _ _ _ _ _ _ _
    | exact part53 H _ _ _ _ _ _ _ _
    | exact Safe.pure _)

theorem part102 (H : Held c P arg2 arg3 arg4 arg5 arg6 arg7 arg8 arg9 arg10 arg11 arg12 arg13 arg14 arg15 arg16 arg17 arg18 arg19 arg20 arg21 arg22 arg23) (v192 : FVec F S8x256 .f32) (v197 : BitVec 32) (c1_i32_86 : BitVec 32) (k0_t2 : Fin (k0_t2_loop i).trips) :
    Safe defs 𝒱 E c P (k0_part102 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v192 v197 c1_i32_86 k0_t2) := by
  unfold k0_part102
  repeat (with_reducible first
    | refine Safe.bind ?_ (fun _ => ?_)
    | exact Safe.load H.a16
    | exact Safe.store H.a16
    | exact part55 H _ _ _ _
    | exact part56 H _ _ _ _ _ _ _
    | exact part57 H _ _ _ _ _ _ _ _ _ _ _
    | exact part58 H _ _ _ _ _ _ _ _ _ _ _ _ _
    | exact part59 H _ _ _ _ _ _ _ _ _ _ _ _ _
    | exact part60 H _ _ _ _ _ _ _ _ _ _ _ _ _
    | exact part61 H _ _ _ _ _ _ _ _ _ _ _ _ _
    | exact part62 H _ _ _ _ _ _ _ _ _ _ _ _ _
    | exact part63 H _ _ _ _ _ _ _ _ _ _ _ _ _
    | exact part64 H _ _ _ _ _ _ _ _ _ _ _ _ _
    | exact part65 H _ _ _ _ _ _ _ _ _ _ _ _ _
    | exact part66 H _ _ _ _ _ _ _ _ _ _ _ _ _
    | exact part67 H _ _ _ _ _ _ _ _ _ _ _ _ _
    | exact part68 H _ _ _ _ _ _ _ _ _ _ _ _ _
    | exact part69 H _ _ _ _ _ _ _ _ _ _ _ _ _
    | exact part70 H _ _ _ _ _ _ _ _ _ _ _ _ _
    | exact part71 H _ _ _ _ _ _ _ _ _ _ _ _ _
    | exact part72 H _ _ _ _ _ _ _ _ _ _ _ _ _
    | exact part73 H _ _ _ _ _ _ _ _ _
    | exact part74 H _ _ _ _ _ _ _
    | exact part75 H _ _ _ _ _ _ _
    | exact part76 H _ _ _ _ _ _ _
    | exact part77 H _ _ _ _ _ _ _
    | exact part78 H _ _ _ _ _ _ _
    | exact part79 H _ _ _ _ _ _
    | exact part80 H _ _ _ _ _ _ _ _ _ _ _
    | exact part81 H _ _ _ _ _ _ _ _ _ _ _ _
    | exact part82 H _ _ _ _ _ _ _ _ _ _ _ _
    | exact part83 H _ _ _ _ _ _ _ _ _ _ _ _
    | exact part84 H _ _ _ _ _ _ _ _ _ _ _ _
    | exact part85 H _ _ _ _ _ _ _ _ _ _ _ _
    | exact part86 H _ _ _ _ _ _ _ _ _ _ _ _
    | exact part87 H _ _ _ _ _ _ _ _ _ _ _ _
    | exact part88 H _ _ _ _ _ _ _ _ _ _ _ _
    | exact part89 H _ _ _ _ _ _ _ _ _ _ _ _
    | exact part90 H _ _ _ _ _ _ _ _ _ _ _ _
    | exact part91 H _ _ _ _ _ _ _ _ _ _ _ _
    | exact part92 H _ _ _ _ _ _ _ _ _ _ _ _
    | exact part93 H _ _ _ _ _ _ _ _ _ _ _ _
    | exact part94 H _ _ _ _ _ _ _ _ _ _ _ _
    | exact part95 H _ _ _ _ _ _ _ _ _ _ _ _
    | exact part96 H _ _ _ _ _ _ _ _ _
    | exact part97 H _ _ _ _ _ _ _ _
    | exact part98 H _ _ _ _ _ _ _ _
    | exact part99 H _ _ _ _ _ _ _ _
    | exact part100 H _ _ _ _ _ _ _ _
    | exact part101 H _ _ _ _ _ _ _ _
    | exact Safe.pure _)

theorem part182 (H : Held c P arg2 arg3 arg4 arg5 arg6 arg7 arg8 arg9 arg10 arg11 arg12 arg13 arg14 arg15 arg16 arg17 arg18 arg19 arg20 arg21 arg22 arg23) (v171 : BitVec 32) (v188 : BitVec 32) (v192 : FVec F S8x256 .f32) (k0_h3 : k0_cond3 i = 1#1) :
    Safe defs 𝒱 E c P (k0_part182 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v171 v188 v192 k0_h3) := by
  unfold k0_part182
  repeat (with_reducible first
    | refine Safe.bind ?_ (fun _ => ?_)
    | exact Safe.load H.a16
    | exact Safe.store H.a16
    | exact part135 H _ _ _
    | exact part136 H _ _ _ _ _ _ _
    | exact part137 H _ _ _ _ _
    | exact part138 H _ _ _ _ _ _ _ _ _ _ _ _
    | exact part139 H _ _ _ _ _ _ _ _ _ _ _ _
    | exact part140 H _ _ _ _ _ _ _ _ _ _ _ _
    | exact part141 H _ _ _ _ _ _ _ _ _ _ _ _
    | exact part142 H _ _ _ _ _ _ _ _ _ _ _ _
    | exact part143 H _ _ _ _ _ _ _ _ _ _ _ _
    | exact part144 H _ _ _ _ _ _ _ _ _ _ _ _
    | exact part145 H _ _ _ _ _ _ _ _ _ _ _ _
    | exact part146 H _ _ _ _ _ _ _ _ _ _ _ _
    | exact part147 H _ _ _ _ _ _ _ _ _ _ _ _
    | exact part148 H _ _ _ _ _ _ _ _ _ _ _ _
    | exact part149 H _ _ _ _ _ _ _ _ _ _ _ _
    | exact part150 H _ _ _ _ _ _ _ _ _ _ _ _
    | exact part151 H _ _ _ _ _ _ _ _ _ _ _ _
    | exact part152 H _ _ _ _ _ _ _ _ _ _ _ _
    | exact part153 H _ _ _ _ _ _ _ _ _
    | exact part154 H _ _ _ _ _ _ _
    | exact part155 H _ _ _ _ _ _ _
    | exact part156 H _ _ _ _ _ _ _
    | exact part157 H _ _ _ _ _ _ _
    | exact part158 H _ _ _ _ _ _ _
    | exact part159 H _ _ _ _ _ _ _
    | exact part160 H _ _ _ _ _ _ _ _ _
    | exact part161 H _ _ _ _ _ _ _ _ _ _
    | exact part162 H _ _ _ _ _ _ _ _ _ _
    | exact part163 H _ _ _ _ _ _ _ _ _ _
    | exact part164 H _ _ _ _ _ _ _ _ _ _
    | exact part165 H _ _ _ _ _ _ _ _ _ _
    | exact part166 H _ _ _ _ _ _ _ _ _ _
    | exact part167 H _ _ _ _ _ _ _ _ _ _
    | exact part168 H _ _ _ _ _ _ _ _ _ _
    | exact part169 H _ _ _ _ _ _ _ _ _ _
    | exact part170 H _ _ _ _ _ _ _ _ _ _
    | exact part171 H _ _ _ _ _ _ _ _ _ _
    | exact part172 H _ _ _ _ _ _ _ _ _ _
    | exact part173 H _ _ _ _ _ _ _ _ _ _
    | exact part174 H _ _ _ _ _ _ _ _ _ _
    | exact part175 H _ _ _ _ _ _ _ _ _ _
    | exact part176 H _ _ _ _ _ _ _ _
    | exact part177 H _ _ _ _ _ _ _
    | exact part178 H _ _ _ _ _ _ _
    | exact part179 H _ _ _ _ _ _ _
    | exact part180 H _ _ _ _ _ _ _
    | exact part181 H _ _ _ _ _ _ _
    | exact Safe.pure _)

theorem part197 (H : Held c P arg2 arg3 arg4 arg5 arg6 arg7 arg8 arg9 arg10 arg11 arg12 arg13 arg14 arg15 arg16 arg17 arg18 arg19 arg20 arg21 arg22 arg23) (k0_h5 : k0_cond5 i = 1#1) (c0_i32_420 : BitVec 32) (c1_i32_422 : BitVec 32) (k0_t4 : Fin k0_t4_loop.trips) (arg25 : IVec S1x256 32) :
    Safe defs 𝒱 E c P (k0_part197 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h5 c0_i32_420 c1_i32_422 k0_t4 arg25) := by
  unfold k0_part197
  repeat (with_reducible first
    | refine Safe.bind ?_ (fun _ => ?_)
    | exact Safe.load H.a16
    | exact Safe.load H.a17
    | exact Safe.store H.a17
    | exact part188 H _ _ _ _
    | exact part189 H _ _ _ _ _ _ _ _
    | exact part190 H _ _ _ _ _ _ _ _
    | exact part191 H _ _ _ _ _ _ _ _
    | exact part192 H _ _ _ _
    | exact part193 H _ _ _ _ _ _
    | exact part194 H _ _ _ _ _ _
    | exact part195 H _ _ _ _ _
    | exact part196 H _ _ _ _ _
    | exact Safe.pure _)

theorem part258 (H : Held c P arg2 arg3 arg4 arg5 arg6 arg7 arg8 arg9 arg10 arg11 arg12 arg13 arg14 arg15 arg16 arg17 arg18 arg19 arg20 arg21 arg22 arg23) (v437 : FVec F S1x256 .f32) (c0_i32_428 : BitVec 32) (c1_i32_430 : BitVec 32) (k0_t11 : Fin (k0_t11_loop i).trips) :
    Safe defs 𝒱 E c P (k0_part258 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 c0_i32_428 c1_i32_430 k0_t11) := by
  unfold k0_part258
  repeat (with_reducible first
    | refine Safe.bind ?_ (fun _ => ?_)
    | exact Safe.load H.a21
    | exact Safe.load H.a22
    | exact Safe.store H.a22
    | exact part251 H _ _ _ _
    | exact part252 H _ _
    | exact part253 H _ _ _ _
    | exact part254 H _ _ _ _ _
    | exact part255 H _ _
    | exact part256 H _ _ _ _
    | exact part257 H _
    | exact Safe.pure _)

theorem part266 (H : Held c P arg2 arg3 arg4 arg5 arg6 arg7 arg8 arg9 arg10 arg11 arg12 arg13 arg14 arg15 arg16 arg17 arg18 arg19 arg20 arg21 arg22 arg23) (v437 : FVec F S1x256 .f32) (v703 : BitVec 32) (c1_i32_431 : BitVec 32) (k0_t12 : Fin (k0_t12_loop i).trips) :
    Safe defs 𝒱 E c P (k0_part266 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v437 v703 c1_i32_431 k0_t12) := by
  unfold k0_part266
  repeat (with_reducible first
    | refine Safe.bind ?_ (fun _ => ?_)
    | exact Safe.load H.a21
    | exact Safe.load H.a22
    | exact Safe.store H.a22
    | exact part259 H _ _ _ _
    | exact part260 H _ _
    | exact part261 H _ _ _ _
    | exact part262 H _ _ _ _ _
    | exact part263 H _ _
    | exact part264 H _ _ _ _
    | exact part265 H _
    | exact Safe.pure _)

theorem part267 (H : Held c P arg2 arg3 arg4 arg5 arg6 arg7 arg8 arg9 arg10 arg11 arg12 arg13 arg14 arg15 arg16 arg17 arg18 arg19 arg20 arg21 arg22 arg23) :
    Safe defs 𝒱 E c P (k0_part267 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  unfold k0_part267
  repeat (with_reducible first
    | refine Safe.bind ?_ (fun _ => ?_)
    | exact Safe.load H.a2
    | exact Safe.load H.a4
    | exact Safe.load H.a10
    | exact Safe.load H.a11
    | exact Safe.load H.a13
    | exact Safe.store H.a10
    | exact Safe.store H.a11
    | exact Safe.store H.a13
    | exact part1 H
    | exact part2 H _
    | exact part3 H _
    | exact part4 H _
    | exact part5 H _
    | exact part6 H _
    | refine Safe.dite (fun _ => ?_) (fun _ => ?_)
    | exact Safe.pure _
    | (beta_reduce; refine Safe.bind ?_ (fun _ => ?_)))

theorem part272 (H : Held c P arg2 arg3 arg4 arg5 arg6 arg7 arg8 arg9 arg10 arg11 arg12 arg13 arg14 arg15 arg16 arg17 arg18 arg19 arg20 arg21 arg22 arg23) (v171 : BitVec 32) (c512_i32 : BitVec 32) (v172 : BitVec 32) (v177 : BitVec 32) (v178 : BitVec 1) :
    Safe defs 𝒱 E c P (k0_part272 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v171 c512_i32 v172 v177 v178) := by
  unfold k0_part272
  repeat (with_reducible first
    | refine Safe.bind ?_ (fun _ => ?_)
    | exact Safe.load H.a3
    | exact Safe.load H.a16
    | exact Safe.store H.a16
    | exact part54 H _ _ _ _
    | exact part102 H _ _ _ _
    | exact part103 H _ _ _
    | exact part104 H _ _ _ _ _ _ _
    | exact part105 H _ _ _ _ _
    | exact part106 H _ _ _ _ _ _ _ _ _ _ _ _
    | exact part107 H _ _ _ _ _ _ _ _ _ _ _ _
    | exact part108 H _ _ _ _ _ _ _ _ _ _ _ _
    | exact part109 H _ _ _ _ _ _ _ _ _ _ _ _
    | exact part110 H _ _ _ _ _ _ _ _ _ _ _ _
    | exact part111 H _ _ _ _ _ _ _ _ _ _ _ _
    | exact part112 H _ _ _ _ _ _ _ _ _ _ _ _
    | exact part113 H _ _ _ _ _ _ _ _ _ _ _ _
    | exact part114 H _ _ _ _ _ _ _ _ _ _ _ _
    | exact part115 H _ _ _ _ _ _ _ _ _ _ _ _
    | exact part116 H _ _ _ _ _ _ _ _ _ _ _ _
    | exact part117 H _ _ _ _ _ _ _ _ _ _ _ _
    | exact part118 H _ _ _ _ _ _ _ _ _ _ _ _
    | exact part119 H _ _ _ _ _ _ _ _ _ _ _ _
    | exact part120 H _ _ _ _ _ _ _ _ _ _ _ _
    | exact part121 H _ _ _ _ _ _ _ _ _
    | exact part122 H _ _ _ _ _ _ _
    | exact part123 H _ _ _ _ _ _ _
    | exact part124 H _ _ _ _ _ _ _
    | exact part125 H _ _ _ _ _ _ _
    | exact part126 H _ _ _ _ _ _ _
    | exact part127 H _ _ _ _ _ _
    | exact part128 H _ _ _ _
    | exact part129 H _ _ _
    | exact part130 H _ _ _ _ _
    | exact part131 H _ _ _
    | exact part132 H _ _ _
    | exact part133 H _ _ _ _
    | exact part134 H _ _ _ _
    | exact part182 H _ _ _ _
    | refine Safe.dite (fun _ => ?_) (fun _ => ?_)
    | refine Safe.for (fun _ _ => ?_)
    | exact Safe.pure _
    | (beta_reduce; refine Safe.bind ?_ (fun _ => ?_)))

theorem part280 (H : Held c P arg2 arg3 arg4 arg5 arg6 arg7 arg8 arg9 arg10 arg11 arg12 arg13 arg14 arg15 arg16 arg17 arg18 arg19 arg20 arg21 arg22 arg23) (v171 : BitVec 32) (v207 : BitVec 32) (v400 : IVec S1x256 32) (v401 : IVec S1x256 32) :
    Safe defs 𝒱 E c P (k0_part280 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v171 v207 v400 v401) := by
  unfold k0_part280
  repeat (with_reducible first
    | refine Safe.bind ?_ (fun _ => ?_)
    | exact Safe.load H.a16
    | exact Safe.load H.a17
    | exact Safe.load H.a18
    | exact Safe.store H.a17
    | exact Safe.store H.a18
    | exact part183 H _ _ _ _
    | exact part184 H _ _ _ _ _ _ _ _
    | exact part185 H _ _ _ _ _ _ _ _ _
    | exact part186 H _ _ _ _ _
    | exact part187 H _ _ _ _
    | exact part197 H _ _ _ _ _
    | exact part198 H _ _ _ _
    | exact part199 H _ _ _ _ _ _ _ _
    | exact part200 H _ _ _ _ _ _ _ _
    | exact part201 H _ _ _ _ _ _ _
    | exact part202 H _ _ _ _ _ _ _ _
    | exact part203 H _ _ _ _ _ _ _ _ _ _
    | exact part204 H _ _ _ _
    | exact part205 H _ _ _ _
    | exact part206 H _ _ _ _ _ _
    | exact part207 H _ _ _ _ _
    | exact part208 H _ _ _ _ _ _ _
    | exact part209 H _ _ _ _ _
    | exact part210 H _ _ _ _ _
    | exact part211 H _ _ _ _
    | exact part212 H _ _ _ _
    | exact part213 H _ _ _ _ _ _ _ _
    | exact part214 H _ _ _ _ _ _ _ _
    | exact part215 H _ _ _ _ _ _ _
    | exact part216 H _ _ _ _ _ _ _ _
    | exact part217 H _ _ _ _ _ _ _ _ _
    | exact part218 H _ _ _ _ _ _ _
    | exact part219 H _ _ _ _ _ _ _ _ _
    | exact part220 H _ _ _ _ _ _
    | exact part221 H _ _ _ _ _
    | exact part222 H _ _ _ _ _
    | exact part223 H _ _ _ _
    | exact part224 H _ _ _ _ _
    | exact part225 H _ _ _ _ _
    | exact part226 H _ _ _ _ _
    | exact part227 H _ _ _ _ _ _
    | exact part228 H _ _ _ _ _
    | exact part229 H _ _ _ _ _
    | exact part230 H _ _ _ _
    | refine Safe.dite (fun _ => ?_) (fun _ => ?_)
    | refine Safe.for (fun _ _ => ?_)
    | exact Safe.pure _
    | (beta_reduce; refine Safe.bind ?_ (fun _ => ?_)))

theorem part285 (H : Held c P arg2 arg3 arg4 arg5 arg6 arg7 arg8 arg9 arg10 arg11 arg12 arg13 arg14 arg15 arg16 arg17 arg18 arg19 arg20 arg21 arg22 arg23) (v188 : BitVec 32) (v189 : BitVec 32) (v200 : BitVec 32) (v422 : Vec F S1x256 .i32) (v437 : FVec F S1x256 .f32) (v572 : IVec S1x256 1) (v581 : BitVec 32) :
    Safe defs 𝒱 E c P (k0_part285 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v188 v189 v200 v422 v437 v572 v581) := by
  unfold k0_part285
  repeat (with_reducible first
    | refine Safe.bind ?_ (fun _ => ?_)
    | exact Safe.load H.a15
    | exact Safe.load H.a19
    | exact Safe.load H.a22
    | exact Safe.store H.a15
    | exact Safe.store H.a22
    | exact part231 H _
    | exact part232 H _ _ _
    | exact part233 H _ _
    | exact part234 H _ _
    | exact part235 H _ _
    | exact part236 H _ _
    | exact part237 H _ _ _
    | exact part238 H _ _ _
    | exact part239 H _ _ _ _
    | exact part240 H _ _ _ _ _
    | exact part241 H _ _ _
    | exact part242 H _ _ _ _
    | exact part243 H _ _ _ _ _
    | exact part244 H _ _ _
    | exact part245 H _ _ _
    | exact part246 H _ _ _ _ _ _
    | exact part247 H _ _
    | exact part248 H _ _ _
    | exact part249 H _ _ _ _ _ _
    | exact part250 H _ _
    | refine Safe.dite (fun _ => ?_) (fun _ => ?_)
    | refine Safe.ite ?_ ?_
    | refine Safe.for (fun _ _ => ?_)
    | exact Safe.pure _
    | (beta_reduce; refine Safe.bind ?_ (fun _ => ?_)))

theorem part286 (H : Held c P arg2 arg3 arg4 arg5 arg6 arg7 arg8 arg9 arg10 arg11 arg12 arg13 arg14 arg15 arg16 arg17 arg18 arg19 arg20 arg21 arg22 arg23) (v189 : BitVec 32) (v437 : FVec F S1x256 .f32) (v608 : FVec F S8x256 .f32) :
    Safe defs 𝒱 E c P (k0_part286 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v189 v437 v608) := by
  unfold k0_part286
  repeat (with_reducible first
    | refine Safe.bind ?_ (fun _ => ?_)
    | exact Safe.load H.a20
    | exact Safe.load H.a22
    | exact Safe.store H.a20
    | exact Safe.store H.a22
    | exact part258 H _ _ _ _
    | exact part266 H _ _ _ _
    | refine Safe.ite ?_ ?_
    | refine Safe.for (fun _ _ => ?_)
    | exact Safe.pure _
    | (beta_reduce; refine Safe.bind ?_ (fun _ => ?_)))

/-- The whole body runs, holding its buffers. -/
theorem root (H : Held c P arg2 arg3 arg4 arg5 arg6 arg7 arg8 arg9 arg10 arg11 arg12 arg13 arg14 arg15 arg16 arg17 arg18 arg19 arg20 arg21 arg22 arg23) :
    Safe defs 𝒱 E c P (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 ) := by
  unfold cc0_dsa
  repeat (with_reducible first
    | refine Safe.bind ?_ (fun _ => ?_)
    | exact Safe.load H.a9
    | exact Safe.store H.a9
    | exact part267 H
    | exact part268 H _ _ _ _ _
    | exact part269 H _ _ _ _
    | exact part270 H _ _ _ _ _
    | exact part271 H _ _ _ _ _
    | exact part272 H _ _ _ _ _
    | exact part273 H _ _
    | exact part274 H _ _ _
    | exact part275 H _ _
    | exact part276 H _ _
    | exact part277 H _ _
    | exact part278 H _ _
    | exact part279 H _ _ _ _
    | exact part280 H _ _ _ _
    | exact part281 H _ _
    | exact part282 H _
    | exact part283 H _ _
    | exact part284 H _ _ _
    | exact part285 H _ _ _ _ _ _ _
    | exact part286 H _ _ _
    | exact part287 H _ _ _ _
    | exact Safe.pure _)

end Cert.Proof.Dsa

end
-- ==== Proof.Dsa.Frame.lean ====
/-
  The attention call's frame: every run of it ends, leaving its argument arrays as they were. Nothing is said of what
  the body leaves in the windows' buffers, so the body has only to run from its buffers back to its buffers (`root`).
-/
module

public import proofs.«01_k».proof.Proof.Gen.Kernel.Frame
public import proofs.«01_k».proof.Proof.Dsa.Parts9

@[expose] public section

set_option maxRecDepth 16384

noncomputable section

namespace Cert.Proof.Dsa

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen

variable {F : FTy → Type} [BitOps F]

/-- A memref's buffer, whole on the memref, at some contents. -/
def Cells (c : Dev nD) {cs : Space} {sh : Shape} {e : EltTy} (m : Memref sig .tc cs sh e) : Own nD τ sig (Elt F) :=
  iprop(∃ f : Buf (Elt F) (m.view.loc (c : Thread nD τ)), m.view.loc (c : Thread nD τ) ↦[m.view.set]{fullShare} f)

section Holding

variable {c : Dev nD} {A B : Own nD τ sig (Elt F)} {sh : Shape} {e : EltTy} {m : Memref sig .tc .vmem sh e}

theorem has_left (h : Has c A m) : Has c iprop(A ∗ B) m := by
  obtain ⟨R, hR⟩ := h
  refine ⟨iprop(R ∗ B), ?_, ?_⟩
  · iintro ⟨HA, HB⟩
    ihave H := hR.1 $$ HA
    icases H with ⟨HR, Hm⟩
    isplitl [HR HB]
    · isplitl [HR]
      · iexact HR
      · iexact HB
    · iexact Hm
  · iintro ⟨⟨HR, HB⟩, Hm⟩
    isplitl [HR Hm]
    · iapply hR.2
      isplitl [HR]
      · iexact HR
      · iexact Hm
    · iexact HB

theorem has_right (h : Has c B m) : Has c iprop(A ∗ B) m := by
  obtain ⟨R, hR⟩ := h
  refine ⟨iprop(A ∗ R), ?_, ?_⟩
  · iintro ⟨HA, HB⟩
    ihave H := hR.1 $$ HB
    icases H with ⟨HR, Hm⟩
    isplitl [HA HR]
    · isplitl [HA]
      · iexact HA
      · iexact HR
    · iexact Hm
  · iintro ⟨⟨HA, HR⟩, Hm⟩
    isplitl [HA]
    · iexact HA
    · iapply hR.2
      isplitl [HR]
      · iexact HR
      · iexact Hm

theorem has_here : Has c (Cells (F := F) c m) m := by
  refine ⟨iprop(emp), ?_, ?_⟩ <;> unfold Cells
  · iintro H
    isplitr
    · iempintro
    · iexact H
  · iintro ⟨-, H⟩
    iexact H

/-- A memref held at contents a reading names is held at some contents. -/
theorem cells_of_owns (X : sh.Idx → Elt F e) : (owns (c : Thread nD τ) m fullShare X : Own nD τ sig (Elt F)) ⊢ Cells c m := by
  unfold owns Cells
  iintro ⟨%f, -, H⟩
  iexists f
  iexact H

/-- And back: at what they read. -/
theorem owns_of_cells : (Cells c m : Own nD τ sig (Elt F)) ⊢ iprop(∃ X, ⌜True⌝ ∗ owns (c : Thread nD τ) m fullShare X) := by
  unfold owns Cells
  iintro ⟨%f, H⟩
  iexists (m.view.read (Elt F) f)
  isplitr
  · ipureintro; trivial
  iexists f
  isplitr
  · ipureintro; rfl
  iexact H

end Holding

/-- A scratch buffer, whole. -/
theorem cells_whole (c : Dev nD) (b : Ref sig .tc) : (Cells (F := F) c (Memref.whole b))
    = (iprop(∃ f : Buf (Elt F) ((c : Thread nD τ).loc b), ((c : Thread nD τ).loc b) ↦{fullShare} f) : Own nD τ sig (Elt F)) := by
  unfold Cells
  rw [show (Memref.whole b).view.set = Finset.univ from View.set_whole b]

/-- The windows' memrefs and the scratch buffers, beside whatever else, are what the body's run asks for. -/
theorem held (c : Dev nD) (R : Own nD τ sig (Elt F)) {arg2 : Memref sig .tc .vmem S512x256 .bf16} {arg3 : Memref sig .tc .vmem S8x256 .f32} {arg4 : Memref sig .tc .vmem S512x256 .bf16} {arg5 : Memref sig .tc .vmem S256x512 .f32} {arg6 : Memref sig .tc .vmem S8192x64 .bf16} {arg7 : Memref sig .tc .vmem S8192x64 .bf16} {arg8 : Memref sig .tc .vmem S64x8192 .bf16} {arg9 : Memref sig .tc .vmem S256x512 .bf16} {arg10 : Memref sig .tc .vmem S64x2048 .bf16} {arg11 : Memref sig .tc .vmem S128x2048 .bf16} {arg12 : Memref sig .tc .vmem S8192x128 .bf16} {arg13 : Memref sig .tc .vmem S1x1 .f32} {arg14 : Memref sig .tc .vmem S16x80x512 .bf16} {arg15 : Memref sig .tc .vmem S16x512x256 .f32} {arg16 : Memref sig .tc .vmem S32x32x8x256 .i32} {arg17 : Memref sig .tc .vmem S32x8x256 .i32} {arg18 : Memref sig .tc .vmem S8x256 .i32} {arg19 : Memref sig .tc .vmem S16x256 .i32} {arg20 : Memref sig .tc .vmem S8x256 .f32} {arg21 : Memref sig .tc .vmem S8x256 .f32} {arg22 : Memref sig .tc .vmem S8x80x256 .f32} {arg23 : Memref sig .tc .vmem S512x2048 .bf16} :
    Held (F := F) c iprop(R ∗ Cells c arg2 ∗ Cells c arg3 ∗ Cells c arg4 ∗ Cells c arg5 ∗ Cells c arg6 ∗ Cells c arg7 ∗ Cells c arg8 ∗ Cells c arg9 ∗ Cells c arg10 ∗ Cells c arg11 ∗ Cells c arg12 ∗ Cells c arg13 ∗ Cells c arg14 ∗ Cells c arg15 ∗ Cells c arg16 ∗ Cells c arg17 ∗ Cells c arg18 ∗ Cells c arg19 ∗ Cells c arg20 ∗ Cells c arg21 ∗ Cells c arg22 ∗ Cells c arg23) arg2 arg3 arg4 arg5 arg6 arg7 arg8 arg9 arg10 arg11 arg12 arg13 arg14 arg15 arg16 arg17 arg18 arg19 arg20 arg21 arg22 arg23 where
  a2 := has_right ((has_left has_here))
  a3 := has_right (has_right ((has_left has_here)))
  a4 := has_right (has_right (has_right ((has_left has_here))))
  a5 := has_right (has_right (has_right (has_right ((has_left has_here)))))
  a6 := has_right (has_right (has_right (has_right (has_right ((has_left has_here))))))
  a7 := has_right (has_right (has_right (has_right (has_right (has_right ((has_left has_here)))))))
  a8 := has_right (has_right (has_right (has_right (has_right (has_right (has_right ((has_left has_here))))))))
  a9 := has_right (has_right (has_right (has_right (has_right (has_right (has_right (has_right ((has_left has_here)))))))))
  a10 := has_right (has_right (has_right (has_right (has_right (has_right (has_right (has_right (has_right ((has_left has_here))))))))))
  a11 := has_right (has_right (has_right (has_right (has_right (has_right (has_right (has_right (has_right (has_right ((has_left has_here)))))))))))
  a12 := has_right (has_right (has_right (has_right (has_right (has_right (has_right (has_right (has_right (has_right (has_right ((has_left has_here))))))))))))
  a13 := has_right (has_right (has_right (has_right (has_right (has_right (has_right (has_right (has_right (has_right (has_right (has_right ((has_left has_here)))))))))))))
  a14 := has_right (has_right (has_right (has_right (has_right (has_right (has_right (has_right (has_right (has_right (has_right (has_right (has_right ((has_left has_here))))))))))))))
  a15 := has_right (has_right (has_right (has_right (has_right (has_right (has_right (has_right (has_right (has_right (has_right (has_right (has_right (has_right ((has_left has_here)))))))))))))))
  a16 := has_right (has_right (has_right (has_right (has_right (has_right (has_right (has_right (has_right (has_right (has_right (has_right (has_right (has_right (has_right ((has_left has_here))))))))))))))))
  a17 := has_right (has_right (has_right (has_right (has_right (has_right (has_right (has_right (has_right (has_right (has_right (has_right (has_right (has_right (has_right (has_right ((has_left has_here)))))))))))))))))
  a18 := has_right (has_right (has_right (has_right (has_right (has_right (has_right (has_right (has_right (has_right (has_right (has_right (has_right (has_right (has_right (has_right (has_right ((has_left has_here))))))))))))))))))
  a19 := has_right (has_right (has_right (has_right (has_right (has_right (has_right (has_right (has_right (has_right (has_right (has_right (has_right (has_right (has_right (has_right (has_right (has_right ((has_left has_here)))))))))))))))))))
  a20 := has_right (has_right (has_right (has_right (has_right (has_right (has_right (has_right (has_right (has_right (has_right (has_right (has_right (has_right (has_right (has_right (has_right (has_right (has_right ((has_left has_here))))))))))))))))))))
  a21 := has_right (has_right (has_right (has_right (has_right (has_right (has_right (has_right (has_right (has_right (has_right (has_right (has_right (has_right (has_right (has_right (has_right (has_right (has_right (has_right ((has_left has_here)))))))))))))))))))))
  a22 := has_right (has_right (has_right (has_right (has_right (has_right (has_right (has_right (has_right (has_right (has_right (has_right (has_right (has_right (has_right (has_right (has_right (has_right (has_right (has_right (has_right ((has_left has_here))))))))))))))))))))))
  a23 := has_right (has_right (has_right (has_right (has_right (has_right (has_right (has_right (has_right (has_right (has_right (has_right (has_right (has_right (has_right (has_right (has_right (has_right (has_right (has_right (has_right (has_right (has_here))))))))))))))))))))))

variable (m : (ℓ : Loc nD τ sig) → Buf (Elt F) ℓ) (ρ : Dev nD → PrngReg)

/-- The proof data: the arrays as launched; nothing asked of what the body leaves in a window's buffer. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The body table's row at a point is the body there. -/
theorem row (t : Fin cfg0.N) : defs₀ (F := F) .tc cfg0.body (cfg0.bodyArgs t (cfg0.slots t)) = bodyAt0 t := by
  unfold defs₀; rw [Defs.onTc_tc]

/-- What the body passes through untouched at a point: what the core owes, and its generator's register. -/
def aside (c : Dev nD) (t : Fin cfg0.N) : Own nD τ sig (Elt F) :=
  iprop((rdat m c).owesAt () t.castSucc ∗ ∃ r, prngReg c r)

theorem enter (c : Dev nD) (t : Fin cfg0.N) (Y : (w : Fin cfg0.W) → (cfg0.win w).block.Idx → Elt F (cfg0.win w).elt) :
    iprop((rdat m c).Φ t.castSucc ∗ (rdat m c).owesAt () t.castSucc
        ∗ bigSep Finset.univ fun w => owns (c : Thread nD τ) ((cfg0.win w).stage (cfg0.slots t w)) fullShare (Y w))
      ⊢ iprop(aside m c t ∗ Cells c (win0_0.stage (cfg0.slots t 0)) ∗ Cells c (win0_1.stage (cfg0.slots t 1)) ∗ Cells c (win0_2.stage (cfg0.slots t 2)) ∗ Cells c (win0_3.stage (cfg0.slots t 3)) ∗ Cells c (win0_4.stage (cfg0.slots t 4)) ∗ Cells c (win0_5.stage (cfg0.slots t 5)) ∗ Cells c (win0_6.stage (cfg0.slots t 6)) ∗ Cells c (win0_7.stage (cfg0.slots t 7)) ∗ Cells c (Memref.whole cc0_scratch0) ∗ Cells c (Memref.whole cc0_scratch1) ∗ Cells c (Memref.whole cc0_scratch2) ∗ Cells c (Memref.whole cc0_scratch3) ∗ Cells c (Memref.whole cc0_scratch4) ∗ Cells c (Memref.whole cc0_scratch5) ∗ Cells c (Memref.whole cc0_scratch6) ∗ Cells c (Memref.whole cc0_scratch7) ∗ Cells c (Memref.whole cc0_scratch8) ∗ Cells c (Memref.whole cc0_scratch9) ∗ Cells c (Memref.whole cc0_scratch10) ∗ Cells c (Memref.whole cc0_scratch11) ∗ Cells c (Memref.whole cc0_scratch12) ∗ Cells c (Memref.whole cc0_scratch13)) := by
  rw [bigSep_W0, show (rdat m c).Φ t.castSucc = iprop(Pipeline.scopedRest spec0 c ∗ ∃ r, prngReg c r) from rfl, scopedRest0_eq]
  simp only [cells_whole]
  unfold aside
  iintro ⟨⟨⟨S0, S1, S2, S3, S4, S5, S6, S7, S8, S9, S10, S11, S12, S13⟩, Hr⟩, Ho, W0, W1, W2, W3, W4, W5, W6, W7⟩
  isplitl [Ho Hr]
  · isplitl [Ho]
    · iexact Ho
    · iexact Hr
  isplitl [W0]
  · iapply (cells_of_owns _); iexact W0
  isplitl [W1]
  · iapply (cells_of_owns _); iexact W1
  isplitl [W2]
  · iapply (cells_of_owns _); iexact W2
  isplitl [W3]
  · iapply (cells_of_owns _); iexact W3
  isplitl [W4]
  · iapply (cells_of_owns _); iexact W4
  isplitl [W5]
  · iapply (cells_of_owns _); iexact W5
  isplitl [W6]
  · iapply (cells_of_owns _); iexact W6
  isplitl [W7]
  · iapply (cells_of_owns _); iexact W7
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [S7]
  · iexact S7
  isplitl [S8]
  · iexact S8
  isplitl [S9]
  · iexact S9
  isplitl [S10]
  · iexact S10
  isplitl [S11]
  · iexact S11
  isplitl [S12]
  · iexact S12
  iexact S13

theorem leave (c : Dev nD) (t : Fin cfg0.N) (Y : (w : Fin cfg0.W) → (cfg0.win w).block.Idx → Elt F (cfg0.win w).elt) :
    iprop(aside m c t ∗ Cells c (win0_0.stage (cfg0.slots t 0)) ∗ Cells c (win0_1.stage (cfg0.slots t 1)) ∗ Cells c (win0_2.stage (cfg0.slots t 2)) ∗ Cells c (win0_3.stage (cfg0.slots t 3)) ∗ Cells c (win0_4.stage (cfg0.slots t 4)) ∗ Cells c (win0_5.stage (cfg0.slots t 5)) ∗ Cells c (win0_6.stage (cfg0.slots t 6)) ∗ Cells c (win0_7.stage (cfg0.slots t 7)) ∗ Cells c (Memref.whole cc0_scratch0) ∗ Cells c (Memref.whole cc0_scratch1) ∗ Cells c (Memref.whole cc0_scratch2) ∗ Cells c (Memref.whole cc0_scratch3) ∗ Cells c (Memref.whole cc0_scratch4) ∗ Cells c (Memref.whole cc0_scratch5) ∗ Cells c (Memref.whole cc0_scratch6) ∗ Cells c (Memref.whole cc0_scratch7) ∗ Cells c (Memref.whole cc0_scratch8) ∗ Cells c (Memref.whole cc0_scratch9) ∗ Cells c (Memref.whole cc0_scratch10) ∗ Cells c (Memref.whole cc0_scratch11) ∗ Cells c (Memref.whole cc0_scratch12) ∗ Cells c (Memref.whole cc0_scratch13))
      ⊢ iprop((rdat m c).Φ t.succ ∗ (rdat m c).owesAt () t.succ
        ∗ bigSep Finset.univ fun w => iprop(∃ X, ⌜(rdat m c).after w t (Y w) X⌝ ∗ owns (c : Thread nD τ) ((cfg0.win w).stage (cfg0.slots t w)) fullShare X)) := by
  rw [bigSep_W0, show (rdat m c).Φ t.succ = iprop(Pipeline.scopedRest spec0 c ∗ ∃ r, prngReg c r) from rfl, scopedRest0_eq,
    show (rdat m c).owesAt () t.succ = (rdat m c).owesAt () t.castSucc from rfl]
  simp only [cells_whole]
  unfold aside
  iintro ⟨⟨Ho, Hr⟩, W0, W1, W2, W3, W4, W5, W6, W7, S0, S1, S2, S3, S4, S5, S6, S7, S8, S9, S10, S11, S12, S13⟩
  isplitl [Hr S0 S1 S2 S3 S4 S5 S6 S7 S8 S9 S10 S11 S12 S13]
  · isplitl [S0 S1 S2 S3 S4 S5 S6 S7 S8 S9 S10 S11 S12 S13]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      isplitl [S9]
      · iexact S9
      isplitl [S10]
      · iexact S10
      isplitl [S11]
      · iexact S11
      isplitl [S12]
      · iexact S12
      iexact S13
    · iexact Hr
  isplitl [Ho]
  · iexact Ho
  isplitl [W0]
  · iapply owns_of_cells; iexact W0
  isplitl [W1]
  · iapply owns_of_cells; iexact W1
  isplitl [W2]
  · iapply owns_of_cells; iexact W2
  isplitl [W3]
  · iapply owns_of_cells; iexact W3
  isplitl [W4]
  · iapply owns_of_cells; iexact W4
  isplitl [W5]
  · iapply owns_of_cells; iexact W5
  isplitl [W6]
  · iapply owns_of_cells; iexact W6
  iapply owns_of_cells; iexact W7

/-- The body obligation: the body runs from its buffers back to its buffers. -/
theorem obligation (c : Dev nD) : (rdat (F := F) m c).BodyObligation (defs₀ (F := F)) Variants.none () Set.univ := fun t Y _ => by
  rw [row]
  refine (enter m c t Y).trans ?_
  have h : Safe (defs₀ (F := F)) Variants.none Set.univ c _ (bodyAt0 t) := root (held c (aside m c t))
  unfold Safe at h
  refine h.trans ?_
  exact wp_mono _ _ _ (fun _ => leave m c t Y)

set_option backward.isDefEq.respectTransparency.types false in
set_option maxHeartbeats 800000 in
/-- The launch: every run ends with the arrays in the stated relation to their launch contents and every counter at zero. -/
theorem run : θ_run defs (onTc (τ := τ) (main (F := F))) (s₀ m ρ)
    (fun r => (Pipeline.RDat.FramePost cfg0 (rdat m) (Gen.V m)) r ∧ r.2.sem = fun _ => 0) :=
  Pipeline.RDat.θ_run_frame (Q' := _) cfgs (0 : Fin 1) launch0 defs₀ Variants.none (rdat m) m ρ main
    (hbody := obligation m) (hshare := fun c => (rdat m c).share_full fun _ => rfl)
    (howed := fun _ _ => rfl) (V := Gen.V m) (hmain := hmain m Variants.none) (hA := fun _ _ => rfl) (hΦ := fun _ _ => rfl)

/-- So every run leaves the argument arrays as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => ⟨h.1.arr_in c 0 rfl, h.1.arr_in c 1 rfl, h.1.arr_in c 2 rfl, h.1.arr_in c 3 rfl,
    h.1.arr_in c 4 rfl, h.1.arr_in c 5 rfl, h.1.arr_in c 6 rfl⟩, h.2⟩) (run m ρ)

end Cert.Proof.Dsa

end
-- ==== Proof.InProj.Frame.lean ====
/-
  The projection call's run. A grid point reads a block of rows `x`, the norm's gains `g` and the fourteen weight
  matrices, and leaves in each of its fourteen outputs one product (`left0` … `left13`); every run ends with the output
  arrays assembled from those blocks, the arguments as they were and every counter at zero (`run`, `frame`).
-/
module

public import proofs.«01_k».proof.Proof.Gen.InProjIdeal.Launch
public import proofs.«01_k».proof.Proof.Gen.InProjIdeal.Skeleton
public import proofs.«01_k».proof.Proof.Gen.InProjIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F]

/-- The assertions of this launch's proof. -/
abbrev Own (F : FTy → Type) [FloatOps F] : Type := sProp (MT nD τ sig Unit (Elt F) ℕ (UR sig nD τ) ℕ)

variable (m : (ℓ : Loc nD τ sig) → Buf (Elt F) ℓ) (ρ : Dev nD → PrngReg)

/-! ## Up to the grid -/

/-- The arrays when the grid is entered: as the host operations leave them. -/
abbrev V (c : Dev nD) (b : Ref sig .tc) : Buf (Elt F) ((c : Thread nD τ).loc b) := StableHlo.after hostOps0 (fun b => m (c, b)) b

theorem fresh : (hostOps0 : List (HloOp τ sig (Elt F))).Forall fun op => op.fresh = ∅ := by
  simp only [List.Forall]; repeat' constructor

set_option maxHeartbeats 4000000 in
/-- The program is the host operations and then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))

/-- Window `w`'s block at point `t`, read off the array the grid finds. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What a point leaves -/

/-- All of a 256x1024 buffer. -/
abbrev all256x1024 : Rect S256x1024 := Rect.unit (s := S256x1024) ![0, 0] S256x1024.size inb_S256x1024_S256x1024_0_0
/-- All of a 1x1024 buffer. -/
abbrev all1x1024 : Rect S1x1024 := Rect.unit (s := S1x1024) ![0, 0] S1x1024.size inb_S1x1024_S1x1024_0_0
/-- All of a 512x1024 buffer. -/
abbrev all512x1024 : Rect S512x1024 := Rect.unit (s := S512x1024) ![0, 0] S512x1024.size inb_S512x1024_S512x1024_0_0
/-- All of a 1024x64 buffer. -/
abbrev all1024x64 : Rect S1024x64 := Rect.unit (s := S1024x64) ![0, 0] S1024x64.size inb_S1024x64_S1024x64_0_0
/-- All of a 64x1024 buffer. -/
abbrev all64x1024 : Rect S64x1024 := Rect.unit (s := S64x1024) ![0, 0] S64x1024.size inb_S64x1024_S64x1024_0_0
/-- All of a 8x1024 buffer. -/
abbrev all8x1024 : Rect S8x1024 := Rect.unit (s := S8x1024) ![0, 0] S8x1024.size inb_S8x1024_S8x1024_0_0
/-- All of a 1024x128 buffer. -/
abbrev all1024x128 : Rect S1024x128 := Rect.unit (s := S1024x128) ![0, 0] S1024x128.size inb_S1024x128_S1024x128_0_0
/-- All of a 1024x512 buffer. -/
abbrev all1024x512 : Rect S1024x512 := Rect.unit (s := S1024x512) ![0, 0] S1024x512.size inb_S1024x512_S1024x512_0_0
/-- All of a 1024x1024 buffer. -/
abbrev all1024x1024 : Rect S1024x1024 := Rect.unit (s := S1024x1024) ![0, 0] S1024x1024.size inb_S1024x1024_S1024x1024_0_0
/-- All of a 512x256 buffer. -/
abbrev all512x256 : Rect S512x256 := Rect.unit (s := S512x256) ![0, 0] S512x256.size inb_S512x256_S512x256_0_0
/-- All of a 256x64 buffer. -/
abbrev all256x64 : Rect S256x64 := Rect.unit (s := S256x64) ![0, 0] S256x64.size inb_S256x64_S256x64_0_0
/-- All of a 64x256 buffer. -/
abbrev all64x256 : Rect S64x256 := Rect.unit (s := S64x256) ![0, 0] S64x256.size inb_S64x256_S64x256_0_0
/-- All of a 8x256 buffer. -/
abbrev all8x256 : Rect S8x256 := Rect.unit (s := S8x256) ![0, 0] S8x256.size inb_S8x256_S8x256_0_0
/-- All of a 256x128 buffer. -/
abbrev all256x128 : Rect S256x128 := Rect.unit (s := S256x128) ![0, 0] S256x128.size inb_S256x128_S256x128_0_0
/-- All of a 256x512 buffer. -/
abbrev all256x512 : Rect S256x512 := Rect.unit (s := S256x512) ![0, 0] S256x512.size inb_S256x512_S256x512_0_0

/-- The block's rows, normalised. -/
def rowsN (x : Vec F S256x1024 .f32) (g : Vec F S1x1024 .f32) : FVec F S256x1024 .bf16 :=
  k0_pay6 (View.ld x all256x1024) (View.ld g all1x1024)

/-- What is left in output 0's buffer. -/
def left0 (x : Vec F S256x1024 .f32) (g : Vec F S1x1024 .f32) (w : Vec F S512x1024 .bf16) : Vec F S512x256 .bf16 :=
  View.canon [⟨all512x256, k0_pay7 (View.ld x all256x1024) (View.ld g all1x1024) (View.ld w all512x1024)⟩]
/-- What is left in output 1's buffer. -/
def left1 (x : Vec F S256x1024 .f32) (g : Vec F S1x1024 .f32) (w : Vec F S1024x64 .bf16) : Vec F S256x64 .bf16 :=
  View.canon [⟨all256x64, k0_pay8 (View.ld x all256x1024) (View.ld g all1x1024) (View.ld w all1024x64)⟩]
/-- What is left in output 2's buffer. -/
def left2 (x : Vec F S256x1024 .f32) (g : Vec F S1x1024 .f32) (w : Vec F S64x1024 .bf16) : Vec F S64x256 .bf16 :=
  View.canon [⟨all64x256, k0_pay9 (View.ld x all256x1024) (View.ld g all1x1024) (View.ld w all64x1024)⟩]
/-- What is left in output 3's buffer. -/
def left3 (x : Vec F S256x1024 .f32) (g : Vec F S1x1024 .f32) (w : Vec F S512x1024 .bf16) : Vec F S512x256 .bf16 :=
  View.canon [⟨all512x256, k0_pay10 (rowsN x g) (View.ld w all512x1024)⟩]
/-- What is left in output 4's buffer. -/
def left4 (x : Vec F S256x1024 .f32) (g : Vec F S1x1024 .f32) (w : Vec F S1024x64 .bf16) : Vec F S256x64 .bf16 :=
  View.canon [⟨all256x64, k0_pay11 (rowsN x g) (View.ld w all1024x64)⟩]
/-- What is left in output 5's buffer. -/
def left5 (x : Vec F S256x1024 .f32) (g : Vec F S1x1024 .f32) (w : Vec F S8x1024 .bf16) : Vec F S8x256 .f32 :=
  View.canon [⟨all8x256, k0_pay12 (rowsN x g) (View.ld w all8x1024)⟩]
/-- What is left in output 6's buffer. -/
def left6 (x : Vec F S256x1024 .f32) (g : Vec F S1x1024 .f32) (w : Vec F S1024x128 .bf16) : Vec F S256x128 .f32 :=
  View.canon [⟨all256x128, k0_pay13 (rowsN x g) (View.ld w all1024x128)⟩]
/-- What is left in output 7's buffer. -/
def left7 (x : Vec F S256x1024 .f32) (g : Vec F S1x1024 .f32) (w : Vec F S1024x512 .bf16) : Vec F S256x512 .f32 :=
  View.canon [⟨all256x512, k0_pay14 (rowsN x g) (View.ld w all1024x512)⟩]
/-- What is left in output 8's buffer. -/
def left8 (x : Vec F S256x1024 .f32) (g : Vec F S1x1024 .f32) (w : Vec F S1024x512 .bf16) : Vec F S256x512 .f32 :=
  View.canon [⟨all256x512, k0_pay15 (rowsN x g) (View.ld w all1024x512)⟩]
/-- What is left in output 9's buffer. -/
def left9 (x : Vec F S256x1024 .f32) (g : Vec F S1x1024 .f32) (w : Vec F S1024x512 .bf16) : Vec F S256x512 .f32 :=
  View.canon [⟨all256x512, k0_pay1 (rowsN x g) (View.ld w all1024x512)⟩]
/-- What is left in output 10's buffer. -/
def left10 (x : Vec F S256x1024 .f32) (g : Vec F S1x1024 .f32) (w : Vec F S1024x1024 .bf16) : Vec F S256x1024 .bf16 :=
  View.canon [⟨all256x1024, k0_pay2 (rowsN x g) (View.ld w all1024x1024)⟩]
/-- What is left in output 11's buffer. -/
def left11 (x : Vec F S256x1024 .f32) (g : Vec F S1x1024 .f32) (w : Vec F S1024x1024 .bf16) : Vec F S256x1024 .f32 :=
  View.canon [⟨all256x1024, k0_pay3 (rowsN x g) (View.ld w all1024x1024)⟩]
/-- What is left in output 12's buffer. -/
def left12 (x : Vec F S256x1024 .f32) (g : Vec F S1x1024 .f32) (w : Vec F S1024x1024 .bf16) : Vec F S256x1024 .f32 :=
  View.canon [⟨all256x1024, k0_pay4 (rowsN x g) (View.ld w all1024x1024)⟩]
/-- What is left in output 13's buffer. -/
def left13 (x : Vec F S256x1024 .f32) (g : Vec F S1x1024 .f32) (w : Vec F S1024x1024 .bf16) : Vec F S256x1024 .f32 :=
  View.canon [⟨all256x1024, k0_pay5 (rowsN x g) (View.ld w all1024x1024)⟩]

theorem covers_512x256_bf16 (p : Vec F S512x256 .bf16) (y : S512x256.Idx) :
    ∃ pc ∈ ([⟨all512x256, p⟩] : List (View.Piece (Elt F) S512x256 .bf16)), y ∈ pc.1.set :=
  View.cover_of_tiled [⟨all512x256, p⟩] S512x256.size (by rfl) y
theorem covers_256x64_bf16 (p : Vec F S256x64 .bf16) (y : S256x64.Idx) :
    ∃ pc ∈ ([⟨all256x64, p⟩] : List (View.Piece (Elt F) S256x64 .bf16)), y ∈ pc.1.set :=
  View.cover_of_tiled [⟨all256x64, p⟩] S256x64.size (by rfl) y
theorem covers_64x256_bf16 (p : Vec F S64x256 .bf16) (y : S64x256.Idx) :
    ∃ pc ∈ ([⟨all64x256, p⟩] : List (View.Piece (Elt F) S64x256 .bf16)), y ∈ pc.1.set :=
  View.cover_of_tiled [⟨all64x256, p⟩] S64x256.size (by rfl) y
theorem covers_8x256_f32 (p : Vec F S8x256 .f32) (y : S8x256.Idx) :
    ∃ pc ∈ ([⟨all8x256, p⟩] : List (View.Piece (Elt F) S8x256 .f32)), y ∈ pc.1.set :=
  View.cover_of_tiled [⟨all8x256, p⟩] S8x256.size (by rfl) y
theorem covers_256x128_f32 (p : Vec F S256x128 .f32) (y : S256x128.Idx) :
    ∃ pc ∈ ([⟨all256x128, p⟩] : List (View.Piece (Elt F) S256x128 .f32)), y ∈ pc.1.set :=
  View.cover_of_tiled [⟨all256x128, p⟩] S256x128.size (by rfl) y
theorem covers_256x512_f32 (p : Vec F S256x512 .f32) (y : S256x512.Idx) :
    ∃ pc ∈ ([⟨all256x512, p⟩] : List (View.Piece (Elt F) S256x512 .f32)), y ∈ pc.1.set :=
  View.cover_of_tiled [⟨all256x512, p⟩] S256x512.size (by rfl) y
theorem covers_256x1024_bf16 (p : Vec F S256x1024 .bf16) (y : S256x1024.Idx) :
    ∃ pc ∈ ([⟨all256x1024, p⟩] : List (View.Piece (Elt F) S256x1024 .bf16)), y ∈ pc.1.set :=
  View.cover_of_tiled [⟨all256x1024, p⟩] S256x1024.size (by rfl) y
theorem covers_256x1024_f32 (p : Vec F S256x1024 .f32) (y : S256x1024.Idx) :
    ∃ pc ∈ ([⟨all256x1024, p⟩] : List (View.Piece (Elt F) S256x1024 .f32)), y ∈ pc.1.set :=
  View.cover_of_tiled [⟨all256x1024, p⟩] S256x1024.size (by rfl) y

/-! ## The body -/

set_option maxHeartbeats 8000000 in
/-- The body on its thirty buffers: the inputs' are left as found, each output's at its product. -/
theorem body_run (c : Dev nD) (i : grid0.Coords) (a0 : Memref sig .tc .vmem S256x1024 .f32) (h0 : a0.IsWhole) (a1 : Memref sig .tc .vmem S1x1024 .f32) (h1 : a1.IsWhole) (a2 : Memref sig .tc .vmem S512x1024 .bf16) (h2 : a2.IsWhole) (a3 : Memref sig .tc .vmem S1024x64 .bf16) (h3 : a3.IsWhole) (a4 : Memref sig .tc .vmem S64x1024 .bf16) (h4 : a4.IsWhole) (a5 : Memref sig .tc .vmem S512x1024 .bf16) (h5 : a5.IsWhole) (a6 : Memref sig .tc .vmem S1024x64 .bf16) (h6 : a6.IsWhole) (a7 : Memref sig .tc .vmem S8x1024 .bf16) (h7 : a7.IsWhole) (a8 : Memref sig .tc .vmem S1024x128 .bf16) (h8 : a8.IsWhole) (a9 : Memref sig .tc .vmem S1024x512 .bf16) (h9 : a9.IsWhole) (a10 : Memref sig .tc .vmem S1024x512 .bf16) (h10 : a10.IsWhole) (a11 : Memref sig .tc .vmem S1024x512 .bf16) (h11 : a11.IsWhole) (a12 : Memref sig .tc .vmem S1024x1024 .bf16) (h12 : a12.IsWhole) (a13 : Memref sig .tc .vmem S1024x1024 .bf16) (h13 : a13.IsWhole) (a14 : Memref sig .tc .vmem S1024x1024 .bf16) (h14 : a14.IsWhole) (a15 : Memref sig .tc .vmem S1024x1024 .bf16) (h15 : a15.IsWhole) (a16 : Memref sig .tc .vmem S512x256 .bf16) (h16 : a16.IsWhole) (a17 : Memref sig .tc .vmem S256x64 .bf16) (h17 : a17.IsWhole) (a18 : Memref sig .tc .vmem S64x256 .bf16) (h18 : a18.IsWhole) (a19 : Memref sig .tc .vmem S512x256 .bf16) (h19 : a19.IsWhole) (a20 : Memref sig .tc .vmem S256x64 .bf16) (h20 : a20.IsWhole) (a21 : Memref sig .tc .vmem S8x256 .f32) (h21 : a21.IsWhole) (a22 : Memref sig .tc .vmem S256x128 .f32) (h22 : a22.IsWhole) (a23 : Memref sig .tc .vmem S256x512 .f32) (h23 : a23.IsWhole) (a24 : Memref sig .tc .vmem S256x512 .f32) (h24 : a24.IsWhole) (a25 : Memref sig .tc .vmem S256x512 .f32) (h25 : a25.IsWhole) (a26 : Memref sig .tc .vmem S256x1024 .bf16) (h26 : a26.IsWhole) (a27 : Memref sig .tc .vmem S256x1024 .f32) (h27 : a27.IsWhole) (a28 : Memref sig .tc .vmem S256x1024 .f32) (h28 : a28.IsWhole) (a29 : Memref sig .tc .vmem S256x1024 .f32) (h29 : a29.IsWhole)
    (x0 : Vec F S256x1024 .f32) (x1 : Vec F S1x1024 .f32) (x2 : Vec F S512x1024 .bf16) (x3 : Vec F S1024x64 .bf16) (x4 : Vec F S64x1024 .bf16) (x5 : Vec F S512x1024 .bf16) (x6 : Vec F S1024x64 .bf16) (x7 : Vec F S8x1024 .bf16) (x8 : Vec F S1024x128 .bf16) (x9 : Vec F S1024x512 .bf16) (x10 : Vec F S1024x512 .bf16) (x11 : Vec F S1024x512 .bf16) (x12 : Vec F S1024x1024 .bf16) (x13 : Vec F S1024x1024 .bf16) (x14 : Vec F S1024x1024 .bf16) (x15 : Vec F S1024x1024 .bf16) (K : PUnit → Own F) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
        ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d) ∗ (∃ d, owns (c : Thread nD τ) a23 fullShare d) ∗ (∃ d, owns (c : Thread nD τ) a24 fullShare d) ∗ (∃ d, owns (c : Thread nD τ) a25 fullShare d) ∗ (∃ d, owns (c : Thread nD τ) a26 fullShare d) ∗ (∃ d, owns (c : Thread nD τ) a27 fullShare d) ∗ (∃ d, owns (c : Thread nD τ) a28 fullShare d) ∗ (∃ d, owns (c : Thread nD τ) a29 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15
          ∗ owns (c : Thread nD τ) a16 fullShare (left0 x0 x1 x2) ∗ owns (c : Thread nD τ) a17 fullShare (left1 x0 x1 x3) ∗ owns (c : Thread nD τ) a18 fullShare (left2 x0 x1 x4) ∗ owns (c : Thread nD τ) a19 fullShare (left3 x0 x1 x5) ∗ owns (c : Thread nD τ) a20 fullShare (left4 x0 x1 x6) ∗ owns (c : Thread nD τ) a21 fullShare (left5 x0 x1 x7) ∗ owns (c : Thread nD τ) a22 fullShare (left6 x0 x1 x8) ∗ owns (c : Thread nD τ) a23 fullShare (left7 x0 x1 x9) ∗ owns (c : Thread nD τ) a24 fullShare (left8 x0 x1 x10) ∗ owns (c : Thread nD τ) a25 fullShare (left9 x0 x1 x11) ∗ owns (c : Thread nD τ) a26 fullShare (left10 x0 x1 x12) ∗ owns (c : Thread nD τ) a27 fullShare (left11 x0 x1 x13) ∗ owns (c : Thread nD τ) a28 fullShare (left12 x0 x1 x14) ∗ owns (c : Thread nD τ) a29 fullShare (left13 x0 x1 x15)) -∗ K ⟨⟩))
      ⊢ wp frame (wpE (defs₀ (F := F)) Variants.none c none) Set.univ (cc0_in_proj i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29) K := by
  simp only [cc0_in_proj_eq_skeleton]; unfold cc0_in_proj_skel
  simp only [k0_part1_eq_skeleton, k0_part2_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst e0 e1 e2 e3 e4 e5 e6 e7 e8 e9 e10 e11 e12 e13 e14 e15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact (View.read_writes_eq_canon _ _ _ (covers_512x256_bf16 _)).trans rfl
  isplitl [H17]
  · iexists _; isplitr
    swap; · iexact H17
    ipureintro
    exact (View.read_writes_eq_canon _ _ _ (covers_256x64_bf16 _)).trans rfl
  isplitl [H18]
  · iexists _; isplitr
    swap; · iexact H18
    ipureintro
    exact (View.read_writes_eq_canon _ _ _ (covers_64x256_bf16 _)).trans rfl
  isplitl [H19]
  · iexists _; isplitr
    swap; · iexact H19
    ipureintro
    exact (View.read_writes_eq_canon _ _ _ (covers_512x256_bf16 _)).trans rfl
  isplitl [H20]
  · iexists _; isplitr
    swap; · iexact H20
    ipureintro
    exact (View.read_writes_eq_canon _ _ _ (covers_256x64_bf16 _)).trans rfl
  isplitl [H21]
  · iexists _; isplitr
    swap; · iexact H21
    ipureintro
    exact (View.read_writes_eq_canon _ _ _ (covers_8x256_f32 _)).trans rfl
  isplitl [H22]
  · iexists _; isplitr
    swap; · iexact H22
    ipureintro
    exact (View.read_writes_eq_canon _ _ _ (covers_256x128_f32 _)).trans rfl
  isplitl [H23]
  · iexists _; isplitr
    swap; · iexact H23
    ipureintro
    exact (View.read_writes_eq_canon _ _ _ (covers_256x512_f32 _)).trans rfl
  isplitl [H24]
  · iexists _; isplitr
    swap; · iexact H24
    ipureintro
    exact (View.read_writes_eq_canon _ _ _ (covers_256x512_f32 _)).trans rfl
  isplitl [H25]
  · iexists _; isplitr
    swap; · iexact H25
    ipureintro
    exact (View.read_writes_eq_canon _ _ _ (covers_256x512_f32 _)).trans rfl
  isplitl [H26]
  · iexists _; isplitr
    swap; · iexact H26
    ipureintro
    exact (View.read_writes_eq_canon _ _ _ (covers_256x1024_bf16 _)).trans rfl
  isplitl [H27]
  · iexists _; isplitr
    swap; · iexact H27
    ipureintro
    exact (View.read_writes_eq_canon _ _ _ (covers_256x1024_f32 _)).trans rfl
  isplitl [H28]
  · iexists _; isplitr
    swap; · iexact H28
    ipureintro
    exact (View.read_writes_eq_canon _ _ _ (covers_256x1024_f32 _)).trans rfl
  iexists _; isplitr
  swap; · iexact H29
  ipureintro
  exact (View.read_writes_eq_canon _ _ _ (covers_256x1024_f32 _)).trans rfl

/-! ## The grid's proof data -/

/-- The arrays as the grid finds them; after the body at a point each input's buffer at its block and each output's at
    its product. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => blk m c 5 t
    | ⟨6, _⟩ => blk m c 6 t
    | ⟨7, _⟩ => blk m c 7 t
    | ⟨8, _⟩ => blk m c 8 t
    | ⟨9, _⟩ => blk m c 9 t
    | ⟨10, _⟩ => blk m c 10 t
    | ⟨11, _⟩ => blk m c 11 t
    | ⟨12, _⟩ => blk m c 12 t
    | ⟨13, _⟩ => blk m c 13 t
    | ⟨14, _⟩ => blk m c 14 t
    | ⟨15, _⟩ => blk m c 15 t
    | ⟨16, _⟩ => left0 (blk m c 0 t) (blk m c 1 t) (blk m c 2 t)
    | ⟨17, _⟩ => left1 (blk m c 0 t) (blk m c 1 t) (blk m c 3 t)
    | ⟨18, _⟩ => left2 (blk m c 0 t) (blk m c 1 t) (blk m c 4 t)
    | ⟨19, _⟩ => left3 (blk m c 0 t) (blk m c 1 t) (blk m c 5 t)
    | ⟨20, _⟩ => left4 (blk m c 0 t) (blk m c 1 t) (blk m c 6 t)
    | ⟨21, _⟩ => left5 (blk m c 0 t) (blk m c 1 t) (blk m c 7 t)
    | ⟨22, _⟩ => left6 (blk m c 0 t) (blk m c 1 t) (blk m c 8 t)
    | ⟨23, _⟩ => left7 (blk m c 0 t) (blk m c 1 t) (blk m c 9 t)
    | ⟨24, _⟩ => left8 (blk m c 0 t) (blk m c 1 t) (blk m c 10 t)
    | ⟨25, _⟩ => left9 (blk m c 0 t) (blk m c 1 t) (blk m c 11 t)
    | ⟨26, _⟩ => left10 (blk m c 0 t) (blk m c 1 t) (blk m c 12 t)
    | ⟨27, _⟩ => left11 (blk m c 0 t) (blk m c 1 t) (blk m c 13 t)
    | ⟨28, _⟩ => left12 (blk m c 0 t) (blk m c 1 t) (blk m c 14 t)
    | ⟨29, _⟩ => left13 (blk m c 0 t) (blk m c 1 t) (blk m c 15 t)
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blk m c 0 t := by dsimp only [dats]
theorem after1 (c : Dev nD) (t : Fin cfg0.N) : (dats m 0 c).after 1 t = blk m c 1 t := by dsimp only [dats]
theorem after2 (c : Dev nD) (t : Fin cfg0.N) : (dats m 0 c).after 2 t = blk m c 2 t := by dsimp only [dats]
theorem after3 (c : Dev nD) (t : Fin cfg0.N) : (dats m 0 c).after 3 t = blk m c 3 t := by dsimp only [dats]
theorem after4 (c : Dev nD) (t : Fin cfg0.N) : (dats m 0 c).after 4 t = blk m c 4 t := by dsimp only [dats]
theorem after5 (c : Dev nD) (t : Fin cfg0.N) : (dats m 0 c).after 5 t = blk m c 5 t := by dsimp only [dats]
theorem after6 (c : Dev nD) (t : Fin cfg0.N) : (dats m 0 c).after 6 t = blk m c 6 t := by dsimp only [dats]
theorem after7 (c : Dev nD) (t : Fin cfg0.N) : (dats m 0 c).after 7 t = blk m c 7 t := by dsimp only [dats]
theorem after8 (c : Dev nD) (t : Fin cfg0.N) : (dats m 0 c).after 8 t = blk m c 8 t := by dsimp only [dats]
theorem after9 (c : Dev nD) (t : Fin cfg0.N) : (dats m 0 c).after 9 t = blk m c 9 t := by dsimp only [dats]
theorem after10 (c : Dev nD) (t : Fin cfg0.N) : (dats m 0 c).after 10 t = blk m c 10 t := by dsimp only [dats]
theorem after11 (c : Dev nD) (t : Fin cfg0.N) : (dats m 0 c).after 11 t = blk m c 11 t := by dsimp only [dats]
theorem after12 (c : Dev nD) (t : Fin cfg0.N) : (dats m 0 c).after 12 t = blk m c 12 t := by dsimp only [dats]
theorem after13 (c : Dev nD) (t : Fin cfg0.N) : (dats m 0 c).after 13 t = blk m c 13 t := by dsimp only [dats]
theorem after14 (c : Dev nD) (t : Fin cfg0.N) : (dats m 0 c).after 14 t = blk m c 14 t := by dsimp only [dats]
theorem after15 (c : Dev nD) (t : Fin cfg0.N) : (dats m 0 c).after 15 t = blk m c 15 t := by dsimp only [dats]
theorem after16 (c : Dev nD) (t : Fin cfg0.N) :
    (dats m 0 c).after 16 t = left0 (blk m c 0 t) (blk m c 1 t) (blk m c 2 t) := by dsimp only [dats]
theorem after17 (c : Dev nD) (t : Fin cfg0.N) :
    (dats m 0 c).after 17 t = left1 (blk m c 0 t) (blk m c 1 t) (blk m c 3 t) := by dsimp only [dats]
theorem after18 (c : Dev nD) (t : Fin cfg0.N) :
    (dats m 0 c).after 18 t = left2 (blk m c 0 t) (blk m c 1 t) (blk m c 4 t) := by dsimp only [dats]
theorem after19 (c : Dev nD) (t : Fin cfg0.N) :
    (dats m 0 c).after 19 t = left3 (blk m c 0 t) (blk m c 1 t) (blk m c 5 t) := by dsimp only [dats]
theorem after20 (c : Dev nD) (t : Fin cfg0.N) :
    (dats m 0 c).after 20 t = left4 (blk m c 0 t) (blk m c 1 t) (blk m c 6 t) := by dsimp only [dats]
theorem after21 (c : Dev nD) (t : Fin cfg0.N) :
    (dats m 0 c).after 21 t = left5 (blk m c 0 t) (blk m c 1 t) (blk m c 7 t) := by dsimp only [dats]
theorem after22 (c : Dev nD) (t : Fin cfg0.N) :
    (dats m 0 c).after 22 t = left6 (blk m c 0 t) (blk m c 1 t) (blk m c 8 t) := by dsimp only [dats]
theorem after23 (c : Dev nD) (t : Fin cfg0.N) :
    (dats m 0 c).after 23 t = left7 (blk m c 0 t) (blk m c 1 t) (blk m c 9 t) := by dsimp only [dats]
theorem after24 (c : Dev nD) (t : Fin cfg0.N) :
    (dats m 0 c).after 24 t = left8 (blk m c 0 t) (blk m c 1 t) (blk m c 10 t) := by dsimp only [dats]
theorem after25 (c : Dev nD) (t : Fin cfg0.N) :
    (dats m 0 c).after 25 t = left9 (blk m c 0 t) (blk m c 1 t) (blk m c 11 t) := by dsimp only [dats]
theorem after26 (c : Dev nD) (t : Fin cfg0.N) :
    (dats m 0 c).after 26 t = left10 (blk m c 0 t) (blk m c 1 t) (blk m c 12 t) := by dsimp only [dats]
theorem after27 (c : Dev nD) (t : Fin cfg0.N) :
    (dats m 0 c).after 27 t = left11 (blk m c 0 t) (blk m c 1 t) (blk m c 13 t) := by dsimp only [dats]
theorem after28 (c : Dev nD) (t : Fin cfg0.N) :
    (dats m 0 c).after 28 t = left12 (blk m c 0 t) (blk m c 1 t) (blk m c 14 t) := by dsimp only [dats]
theorem after29 (c : Dev nD) (t : Fin cfg0.N) :
    (dats m 0 c).after 29 t = left13 (blk m c 0 t) (blk m c 1 t) (blk m c 15 t) := by dsimp only [dats]

/-! An input's buffer holds its block when the body starts. -/

theorem before0 (c : Dev nD) (t : Fin cfg0.N) (d) : (dats m 0 c).before 0 t d = blk m c 0 t :=
  ((dats m 0 c).before_in_eq_fetched 0 rfl (fun _ => rfl) (fun _ _ _ => rfl)
    (fun t => by rw [after0]; unfold Dat.blockOf blk; rw [A_eq]; try rfl) t d).trans
    (by unfold Dat.fetched Dat.blockOf blk; rw [A_eq]; try rfl)
theorem before1 (c : Dev nD) (t : Fin cfg0.N) (d) : (dats m 0 c).before 1 t d = blk m c 1 t :=
  ((dats m 0 c).before_in_eq_fetched 1 rfl (fun _ => rfl) (fun _ _ _ => rfl)
    (fun t => by rw [after1]; unfold Dat.blockOf blk; rw [A_eq]; try rfl) t d).trans
    (by unfold Dat.fetched Dat.blockOf blk; rw [A_eq]; try rfl)
theorem before2 (c : Dev nD) (t : Fin cfg0.N) (d) : (dats m 0 c).before 2 t d = blk m c 2 t :=
  ((dats m 0 c).before_in_eq_fetched 2 rfl (fun _ => rfl) (fun _ _ _ => rfl)
    (fun t => by rw [after2]; unfold Dat.blockOf blk; rw [A_eq]; try rfl) t d).trans
    (by unfold Dat.fetched Dat.blockOf blk; rw [A_eq]; try rfl)
theorem before3 (c : Dev nD) (t : Fin cfg0.N) (d) : (dats m 0 c).before 3 t d = blk m c 3 t :=
  ((dats m 0 c).before_in_eq_fetched 3 rfl (fun _ => rfl) (fun _ _ _ => rfl)
    (fun t => by rw [after3]; unfold Dat.blockOf blk; rw [A_eq]; try rfl) t d).trans
    (by unfold Dat.fetched Dat.blockOf blk; rw [A_eq]; try rfl)
theorem before4 (c : Dev nD) (t : Fin cfg0.N) (d) : (dats m 0 c).before 4 t d = blk m c 4 t :=
  ((dats m 0 c).before_in_eq_fetched 4 rfl (fun _ => rfl) (fun _ _ _ => rfl)
    (fun t => by rw [after4]; unfold Dat.blockOf blk; rw [A_eq]; try rfl) t d).trans
    (by unfold Dat.fetched Dat.blockOf blk; rw [A_eq]; try rfl)
theorem before5 (c : Dev nD) (t : Fin cfg0.N) (d) : (dats m 0 c).before 5 t d = blk m c 5 t :=
  ((dats m 0 c).before_in_eq_fetched 5 rfl (fun _ => rfl) (fun _ _ _ => rfl)
    (fun t => by rw [after5]; unfold Dat.blockOf blk; rw [A_eq]; try rfl) t d).trans
    (by unfold Dat.fetched Dat.blockOf blk; rw [A_eq]; try rfl)
theorem before6 (c : Dev nD) (t : Fin cfg0.N) (d) : (dats m 0 c).before 6 t d = blk m c 6 t :=
  ((dats m 0 c).before_in_eq_fetched 6 rfl (fun _ => rfl) (fun _ _ _ => rfl)
    (fun t => by rw [after6]; unfold Dat.blockOf blk; rw [A_eq]; try rfl) t d).trans
    (by unfold Dat.fetched Dat.blockOf blk; rw [A_eq]; try rfl)
theorem before7 (c : Dev nD) (t : Fin cfg0.N) (d) : (dats m 0 c).before 7 t d = blk m c 7 t :=
  ((dats m 0 c).before_in_eq_fetched 7 rfl (fun _ => rfl) (fun _ _ _ => rfl)
    (fun t => by rw [after7]; unfold Dat.blockOf blk; rw [A_eq]; try rfl) t d).trans
    (by unfold Dat.fetched Dat.blockOf blk; rw [A_eq]; try rfl)
theorem before8 (c : Dev nD) (t : Fin cfg0.N) (d) : (dats m 0 c).before 8 t d = blk m c 8 t :=
  ((dats m 0 c).before_in_eq_fetched 8 rfl (fun _ => rfl) (fun _ _ _ => rfl)
    (fun t => by rw [after8]; unfold Dat.blockOf blk; rw [A_eq]; try rfl) t d).trans
    (by unfold Dat.fetched Dat.blockOf blk; rw [A_eq]; try rfl)
theorem before9 (c : Dev nD) (t : Fin cfg0.N) (d) : (dats m 0 c).before 9 t d = blk m c 9 t :=
  ((dats m 0 c).before_in_eq_fetched 9 rfl (fun _ => rfl) (fun _ _ _ => rfl)
    (fun t => by rw [after9]; unfold Dat.blockOf blk; rw [A_eq]; try rfl) t d).trans
    (by unfold Dat.fetched Dat.blockOf blk; rw [A_eq]; try rfl)
theorem before10 (c : Dev nD) (t : Fin cfg0.N) (d) : (dats m 0 c).before 10 t d = blk m c 10 t :=
  ((dats m 0 c).before_in_eq_fetched 10 rfl (fun _ => rfl) (fun _ _ _ => rfl)
    (fun t => by rw [after10]; unfold Dat.blockOf blk; rw [A_eq]; try rfl) t d).trans
    (by unfold Dat.fetched Dat.blockOf blk; rw [A_eq]; try rfl)
theorem before11 (c : Dev nD) (t : Fin cfg0.N) (d) : (dats m 0 c).before 11 t d = blk m c 11 t :=
  ((dats m 0 c).before_in_eq_fetched 11 rfl (fun _ => rfl) (fun _ _ _ => rfl)
    (fun t => by rw [after11]; unfold Dat.blockOf blk; rw [A_eq]; try rfl) t d).trans
    (by unfold Dat.fetched Dat.blockOf blk; rw [A_eq]; try rfl)
theorem before12 (c : Dev nD) (t : Fin cfg0.N) (d) : (dats m 0 c).before 12 t d = blk m c 12 t :=
  ((dats m 0 c).before_in_eq_fetched 12 rfl (fun _ => rfl) (fun _ _ _ => rfl)
    (fun t => by rw [after12]; unfold Dat.blockOf blk; rw [A_eq]; try rfl) t d).trans
    (by unfold Dat.fetched Dat.blockOf blk; rw [A_eq]; try rfl)
theorem before13 (c : Dev nD) (t : Fin cfg0.N) (d) : (dats m 0 c).before 13 t d = blk m c 13 t :=
  ((dats m 0 c).before_in_eq_fetched 13 rfl (fun _ => rfl) (fun _ _ _ => rfl)
    (fun t => by rw [after13]; unfold Dat.blockOf blk; rw [A_eq]; try rfl) t d).trans
    (by unfold Dat.fetched Dat.blockOf blk; rw [A_eq]; try rfl)
theorem before14 (c : Dev nD) (t : Fin cfg0.N) (d) : (dats m 0 c).before 14 t d = blk m c 14 t :=
  ((dats m 0 c).before_in_eq_fetched 14 rfl (fun _ => rfl) (fun _ _ _ => rfl)
    (fun t => by rw [after14]; unfold Dat.blockOf blk; rw [A_eq]; try rfl) t d).trans
    (by unfold Dat.fetched Dat.blockOf blk; rw [A_eq]; try rfl)
theorem before15 (c : Dev nD) (t : Fin cfg0.N) (d) : (dats m 0 c).before 15 t d = blk m c 15 t :=
  ((dats m 0 c).before_in_eq_fetched 15 rfl (fun _ => rfl) (fun _ _ _ => rfl)
    (fun t => by rw [after15]; unfold Dat.blockOf blk; rw [A_eq]; try rfl) t d).trans
    (by unfold Dat.fetched Dat.blockOf blk; rw [A_eq]; try rfl)

/-! ## The body at a point -/

/-- What the body is called with at point `t`, -/
def found (c : Dev nD) (t : Fin cfg0.N) : Own F :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def given (c : Dev nD) (t : Fin cfg0.N) : Own F :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

set_option maxHeartbeats 8000000 in
theorem at_point (c : Dev nD) (t : Fin cfg0.N) :
    found m c t ⊢ wp frame (wpE (defs₀ (F := F)) Variants.none c none) Set.univ (bodyAt0 t) (fun _ => given m c t) := by
  unfold found given bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (blk m c 0 t) (blk m c 1 t) (blk m c 2 t) (blk m c 3 t) (blk m c 4 t) (blk m c 5 t) (blk m c 6 t) (blk m c 7 t) (blk m c 8 t) (blk m c 9 t) (blk m c 10 t) (blk m c 11 t) (blk m c 12 t) (blk m c 13 t) (blk m c 14 t) (blk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

theorem body_at (t : Fin cfg0.N) : defs₀ (F := F) .tc cfg0.body (cfg0.bodyArgs t (cfg0.slots t)) = bodyAt0 t := by
  unfold defs₀; rw [Defs.onTc_tc]

set_option maxHeartbeats 8000000 in
theorem obligation (c : Dev nD) : BodyObligation (dats (F := F) m 0 c) (defs₀ (F := F)) Variants.none () Set.univ := fun t => by
  rw [bigSep_W0, bigSep_W0, body_at]
  exact triple_restated (at_point m c t) rfl .rfl fun _ => .rfl

/-! ## The run -/

set_option backward.isDefEq.respectTransparency.types false in
set_option maxHeartbeats 8000000 in
theorem launch : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- Every run leaves the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c)⟩, h.2⟩) (launch m ρ)

/-- Every run ends with each output array assembled from the points' blocks, the arguments as launched. -/
theorem run : θ_run defs (onTc (τ := τ) (main (F := F))) ⟨m, fun _ => 0, ρ⟩ (fun r => ∀ c : Dev nD,
      r.2.mem ((c.tc : Thread nD τ).loc main_v36_0) = (dats m 0 c).arrAt 16 cfg0.N
      ∧ r.2.mem ((c.tc : Thread nD τ).loc main_v36_1) = (dats m 0 c).arrAt 17 cfg0.N
      ∧ r.2.mem ((c.tc : Thread nD τ).loc main_v36_2) = (dats m 0 c).arrAt 18 cfg0.N
      ∧ r.2.mem ((c.tc : Thread nD τ).loc main_v36_3) = (dats m 0 c).arrAt 19 cfg0.N
      ∧ r.2.mem ((c.tc : Thread nD τ).loc main_v36_4) = (dats m 0 c).arrAt 20 cfg0.N
      ∧ r.2.mem ((c.tc : Thread nD τ).loc main_v36_5) = (dats m 0 c).arrAt 21 cfg0.N
      ∧ r.2.mem ((c.tc : Thread nD τ).loc main_v36_6) = (dats m 0 c).arrAt 22 cfg0.N
      ∧ r.2.mem ((c.tc : Thread nD τ).loc main_v36_7) = (dats m 0 c).arrAt 23 cfg0.N
      ∧ r.2.mem ((c.tc : Thread nD τ).loc main_v36_8) = (dats m 0 c).arrAt 24 cfg0.N
      ∧ r.2.mem ((c.tc : Thread nD τ).loc main_v36_9) = (dats m 0 c).arrAt 25 cfg0.N
      ∧ r.2.mem ((c.tc : Thread nD τ).loc main_v36_10) = (dats m 0 c).arrAt 26 cfg0.N
      ∧ r.2.mem ((c.tc : Thread nD τ).loc main_v36_11) = (dats m 0 c).arrAt 27 cfg0.N
      ∧ r.2.mem ((c.tc : Thread nD τ).loc main_v36_12) = (dats m 0 c).arrAt 28 cfg0.N
      ∧ r.2.mem ((c.tc : Thread nD τ).loc main_v36_13) = (dats m 0 c).arrAt 29 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, (h.1 c).1 29,
      ((h.1 c).2 main_arg0 (Pipeline.mem_restRefs_of main_arg0 (by decide) (by decide))).trans (V_arg0 m c),
      ((h.1 c).2 main_arg1 (Pipeline.mem_restRefs_of main_arg1 (by decide) (by decide))).trans (V_arg1 m c),
      ((h.1 c).2 main_arg2 (Pipeline.mem_restRefs_of main_arg2 (by decide) (by decide))).trans (V_arg2 m c)⟩) (launch m ρ)

end Cert.Proof.InProj

end
-- ==== Proof.InProj.Bits.lean ====
/- The projection call's run on bit patterns: the program with its own operations and the one renamed for the ideal reading are
   one text, so the run proved for the second at any float values (Frame.lean) is the first one's frame. -/
module

public import proofs.«01_k».proof.Defs
public import proofs.«01_k».proof.Proof.Gen.InProj
public import proofs.«01_k».proof.Proof.InProj.Frame

@[expose] public section

noncomputable section

namespace Cert.Proof.InProj

open Idealize.ShloMosaic Idealize.ShloMosaic.TcCoe Idealize.ShloMosaic.Tactic Idealize.SL.Sem
open Cert.InProjIdeal

/-- The frame at bit patterns, of the renamed program. -/
def FrameBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0)

theorem frameBits : FrameBits := fun m g _ => frame (F := Bits) m g

/-- The two programs' frames are one statement. -/
theorem same : FrameBits = Cert.quiescent_InProj := by sl_kernel_rfl

/-- Every run on bit patterns ends with the arguments as launched and every counter at zero. -/
theorem bits : Cert.quiescent_InProj := same ▸ frameBits

end Cert.Proof.InProj

end
-- ==== Proof.Merge.Rows.lean ====
/- The merge, one row at a time: what a row of the result is, as plain sums over extended reals, and each value that the
   kernel's body computes from a block, read at a row and a column of the block. -/
module

public import proofs.«01_k».proof.Proof.Gen.MergeIdeal.Frame
public import Idealize.ShloMosaic.Lib.Pointwise

@[expose] public section

noncomputable section

namespace Cert.Proof.Merge

open Idealize.ShloMosaic

/-! ## A row of the result -/

/-- The logistic function as both programs spell it. -/
def logi (x : EReal) : EReal := Ideal.div 1 (1 + Ideal.exp (-x))

/-- A row times a matrix, at column `j`. -/
def proj {K : Nat} (a : Fin K → EReal) (w : Fin K → Fin 1024 → EReal) (j : Fin 1024) : EReal := ∑ k, a k * w k j

/-- A row divided by the root of its mean square and scaled, at column `j`. -/
def norm (u g : Fin 1024 → EReal) (j : Fin 1024) : EReal :=
  u j * Ideal.rsqrt (Ideal.div (∑ k, u k * u k) (Ideal.ofBits .f32 0x44800000#32) + Ideal.ofBits .f32 0x358637BD#32) * g j

/-- The two branches' projections under their gates. -/
def mix (ya yb ma mb : Fin 1024 → EReal) (j : Fin 1024) : EReal := logi (ma j) * ya j + logi (mb j) * yb j

/-- The stream after the merge: a row plus the norm of another. -/
def stream (x u g : Fin 1024 → EReal) (j : Fin 1024) : EReal := x j + norm u g j

/-- The embedding's projection under its gate. -/
def gated (e s : Fin 1024 → EReal) (j : Fin 1024) : EReal := e j * logi (s j)

/-- A row of the result, from the row's stream, embedding, branch outputs and gates and from the weights. -/
def row (x : Fin 1024 → EReal) (p : Fin 256 → EReal) (oa : Fin 512 → EReal) (ob ma mb : Fin 1024 → EReal)
    (wa : Fin 512 → Fin 1024 → EReal) (wb wo : Fin 1024 → Fin 1024 → EReal) (gp : Fin 1024 → EReal)
    (we : Fin 256 → Fin 1024 → EReal) (wg : Fin 1024 → Fin 1024 → EReal) (g₁ g₂ : Fin 1024 → EReal) : Fin 1024 → EReal :=
  stream (stream x (proj (mix (proj oa wa) (proj ob wb) ma mb) wo) gp)
    (gated (proj p we) (proj (norm (stream x (proj (mix (proj oa wa) (proj ob wb) ma mb) wo) gp) g₁) wg)) g₂

/-- A subtraction from zero is a negation. -/
theorem zero_sub' (x : EReal) : 0 - x = -x := by rw [sub_eq_add_neg, zero_add]

end Cert.Proof.Merge

/-! ## The kernel's values -/

namespace Cert.Proof.Merge

open Cert.MergeIdeal Cert.MergeIdeal.Gen Idealize.ShloMosaic

variable (r : Fin 256) (j : Fin 1024)

theorem pay1_row (a : Vec Ideal S256x512 .bf16) (w : Vec Ideal S512x1024 .bf16) :
    k0_pay1 a w (ix2 r j) = proj (fun k => a (ix2 r k)) (fun k c => w (ix2 k c)) j := by
  pointwise [k0_pay1, proj]

theorem pay2_row (a : Vec Ideal S256x1024 .bf16) (w : Vec Ideal S1024x1024 .bf16) :
    k0_pay2 a w (ix2 r j) = proj (fun k => a (ix2 r k)) (fun k c => w (ix2 k c)) j := by
  pointwise [k0_pay2, proj]

theorem pay3_row (a : Vec Ideal S256x1024 .bf16) (w : Vec Ideal S1024x1024 .bf16) :
    k0_pay3 a w (ix2 r j) = proj (fun k => a (ix2 r k)) (fun k c => w (ix2 k c)) j := by
  pointwise [k0_pay3, proj]

theorem pay4_row (a : Vec Ideal S256x512 .bf16) (w : Vec Ideal S512x1024 .bf16) (g : Vec Ideal S256x1024 .f32) :
    k0_pay4 a w g (ix2 r j) = logi (g (ix2 r j)) * proj (fun k => a (ix2 r k)) (fun k c => w (ix2 k c)) j := by
  pointwise [k0_pay4, proj, logi, zero_sub']

theorem pay5_row (g : Vec Ideal S256x1024 .f32) : k0_pay5 g (ix2 r j) = Ideal.exp (-(g (ix2 r j))) := by
  pointwise [k0_pay5, zero_sub']

theorem pay6_row : k0_pay6 (F := Ideal) (ix2 r j) = 1 := by
  pointwise [k0_pay6]

theorem pay7_row (yb ya e o : FVec Ideal S256x1024 .f32) (w : Vec Ideal S1024x1024 .bf16) :
    k0_pay7 yb ya e o w (ix2 r j)
      = proj (fun k => ya (ix2 r k) + Ideal.div 1 (o (ix2 r k) + e (ix2 r k)) * yb (ix2 r k)) (fun k c => w (ix2 k c)) j := by
  pointwise [k0_pay7, proj]

theorem pay8_row (ya yb : FVec Ideal S256x1024 .f32) (ma mb : Vec Ideal S256x1024 .f32) (w : Vec Ideal S1024x1024 .bf16) :
    k0_pay8 ya yb ma mb w (ix2 r j)
      = proj (mix (fun k => ya (ix2 r k)) (fun k => yb (ix2 r k)) (fun k => ma (ix2 r k)) (fun k => mb (ix2 r k)))
          (fun k c => w (ix2 k c)) j := by
  pointwise [k0_pay8, proj, mix, logi, zero_sub']

theorem pay9_row (x : Vec Ideal S256x1024 .f32) : k0_pay9 x (ix2 r j) = x (ix2 r j) := by
  pointwise [k0_pay9]

theorem pay10_row (x : Vec Ideal S1x1024 .f32) : k0_pay10 x (ix2 0 j) = x (ix2 0 j) := by
  pointwise [k0_pay10]

theorem pay11_row (yb ya e o : FVec Ideal S256x1024 .f32) (w : Vec Ideal S1024x1024 .bf16) :
    k0_pay11 yb ya e o w (ix1 r) = ∑ k : Fin 1024, k0_pay7 yb ya e o w (ix2 r k) * k0_pay7 yb ya e o w (ix2 r k) := by
  pointwise [k0_pay11]

theorem pay12_row (u x : FVec Ideal S256x1024 .f32) (g : FVec Ideal S1x1024 .f32) (q : FVec Ideal S256 .f32)
    (hq : q (ix1 r) = ∑ k : Fin 1024, u (ix2 r k) * u (ix2 r k)) :
    k0_pay12 u x g q (ix2 r j) = stream (fun k => x (ix2 r k)) (fun k => u (ix2 r k)) (fun k => g (ix2 0 k)) j := by
  pointwise [k0_pay12, stream, norm, hq]

theorem pay13_row (u : FVec Ideal S256x1024 .f32) (x : Vec Ideal S256x1024 .f32) (g : Vec Ideal S1x1024 .f32) :
    k0_pay13 u x g (ix2 r j) = stream (fun k => x (ix2 r k)) (fun k => u (ix2 r k)) (fun k => g (ix2 0 k)) j := by
  pointwise [k0_pay13, stream, norm]

theorem pay14_row (u x : FVec Ideal S256x1024 .f32) (g : FVec Ideal S1x1024 .f32) (q : FVec Ideal S256 .f32)
    (h : Vec Ideal S1x1024 .f32) :
    k0_pay14 u x g q h (ix2 r j) = norm (fun k => k0_pay12 u x g q (ix2 r k)) (fun k => h (ix2 0 k)) j := by
  pointwise [k0_pay14, norm]

theorem pay15_row (u : FVec Ideal S256x1024 .f32) (g : Vec Ideal S1x1024 .f32) (w : Vec Ideal S1024x1024 .bf16) :
    k0_pay15 u g w (ix2 r j) = proj (norm (fun k => u (ix2 r k)) (fun k => g (ix2 0 k))) (fun k c => w (ix2 k c)) j := by
  pointwise [k0_pay15, norm, proj]

theorem pay16_row (u : FVec Ideal S256x1024 .bf16) (w : Vec Ideal S1024x1024 .bf16) (p : Vec Ideal S256x256 .f32)
    (v : Vec Ideal S256x1024 .bf16) :
    k0_pay16 u w p v (ix2 r j) = gated (proj (fun k => p (ix2 r k)) (fun k c => v (ix2 k c)))
      (proj (fun k => u (ix2 r k)) (fun k c => w (ix2 k c))) j := by
  pointwise [k0_pay16, gated, proj, logi, zero_sub']

theorem pay17_row (p : Vec Ideal S256x256 .f32) (k : Fin 256) : k0_pay17 p (ix2 r k) = p (ix2 r k) := by
  pointwise [k0_pay17]

theorem pay18_row (w : Vec Ideal S256x1024 .bf16) : k0_pay18 w (ix2 r j) = w (ix2 r j) := by
  pointwise [k0_pay18]

theorem pay19_row (x e : FVec Ideal S256x1024 .f32) (g : Vec Ideal S1x1024 .f32) :
    k0_pay19 x e g (ix2 r j) = stream (fun k => x (ix2 r k)) (fun k => e (ix2 r k)) (fun k => g (ix2 0 k)) j := by
  pointwise [k0_pay19, stream, norm]

theorem pay20_row (x s : FVec Ideal S256x1024 .f32) (p : FVec Ideal S256x256 .bf16) (v : FVec Ideal S256x1024 .bf16)
    (g : Vec Ideal S1x1024 .f32) :
    k0_pay20 x s p v g (ix2 r j) = stream (fun k => x (ix2 r k))
      (gated (proj (fun k => p (ix2 r k)) (fun k c => v (ix2 k c))) (fun k => s (ix2 r k))) (fun k => g (ix2 0 k)) j := by
  pointwise [k0_pay20, stream, norm, gated, proj, logi, zero_sub']

end Cert.Proof.Merge

end
-- ==== Proof.InProj.Rows.lean ====
/- The projections, one row at a time: a row normalised, times a column; and each block that the kernel's body leaves, read
   at an index, from the rows of its input. -/
module

public import proofs.«01_k».proof.Proof.InProj.Frame
public import proofs.«01_k».proof.Proof.Merge.Rows
public import Idealize.ShloMosaic.Lib.Pointwise
public import Idealize.ShloMosaic.Lib.Pipeline.Value

@[expose] public section

noncomputable section

namespace Cert.Proof.InProj

open Cert.InProjIdeal Cert.InProjIdeal.Gen Idealize.ShloMosaic

/-- A row normalised under its gains, times a column. -/
def cell (x g w : Fin 1024 → EReal) : EReal := ∑ k, Merge.norm x g k * w k

/-! ## Whole blocks -/

/-- The literal zero offsets are the zero offsets. -/
theorem hz : (![0, 0] : Fin 2 → Nat) = fun _ => 0 := funext fun a => by fin_cases a <;> rfl

/-- An index of a whole block is the block's own. -/
theorem emb_all {n k : Nat} (inb : ∀ a, (![0, 0] : Fin 2 → Nat) a + (![n, k] : Fin 2 → Nat) a ≤ (![n, k] : Fin 2 → Nat) a)
    (y : (⟨2, ![n, k]⟩ : Shape).Idx) : (Rect.unit (s := ⟨2, ![n, k]⟩) ![0, 0] ![n, k] inb).emb y = y := by
  funext a; apply Fin.ext
  match a with
  | ⟨0, _⟩ => show 0 + 1 * (y 0).val = (y 0).val; omega
  | ⟨1, _⟩ => show 0 + 1 * (y 1).val = (y 1).val; omega

/-- A load of a whole block is the block. -/
theorem ld_all {n k : Nat} {e : EltTy} (x : Vec Ideal ⟨2, ![n, k]⟩ e)
    (inb : ∀ a, (![0, 0] : Fin 2 → Nat) a + (![n, k] : Fin 2 → Nat) a ≤ (![n, k] : Fin 2 → Nat) a) :
    View.ld x (Rect.unit (s := ⟨2, ![n, k]⟩) ![0, 0] ![n, k] inb) = x :=
  funext fun y => congrArg x (emb_all inb y)

/-- A block stored whole is what was stored. -/
theorem canon_all {n k : Nat} {e : EltTy} (p : Vec Ideal ⟨2, ![n, k]⟩ e)
    (inb : ∀ a, (![0, 0] : Fin 2 → Nat) a + (![n, k] : Fin 2 → Nat) a ≤ (![n, k] : Fin 2 → Nat) a) :
    View.canon (Val := Elt Ideal) [⟨Rect.unit (s := ⟨2, ![n, k]⟩) ![0, 0] ![n, k] inb, p⟩] = p :=
  funext fun y => (congrArg _ (emb_all inb y).symm).trans
    (View.canon_cons_emb (Val := Elt Ideal) (Rect.unit (s := ⟨2, ![n, k]⟩) ![0, 0] ![n, k] inb) p [] y)

/-! ## What a point leaves, at an index -/

theorem rowsN_row (x : Vec Ideal S256x1024 .f32) (g : Vec Ideal S1x1024 .f32) (r : Fin 256) (k : Fin 1024) :
    k0_pay6 x g (ix2 r k) = Merge.norm (fun k => x (ix2 r k)) (fun k => g (ix2 0 k)) k := by
  pointwise [k0_pay6, Merge.norm]

theorem left0_row (x : Vec Ideal S256x1024 .f32) (g : Vec Ideal S1x1024 .f32) (w : Vec Ideal S512x1024 .bf16)
    (r : Fin 256) (j : Fin 512) :
    left0 x g w (ix2 j r) = cell (fun k => x (ix2 r k)) (fun k => g (ix2 0 k)) (fun k => w (ix2 j k)) := by
  have e : left0 x g w = k0_pay7 x g w := by
    unfold left0
    exact (canon_all _ _).trans (by rw [ld_all x, ld_all g, ld_all w])
  rw [e]
  pointwise [k0_pay7, rowsN_row, cell]
  exact Finset.sum_congr rfl fun k _ => mul_comm _ _

theorem left1_row (x : Vec Ideal S256x1024 .f32) (g : Vec Ideal S1x1024 .f32) (w : Vec Ideal S1024x64 .bf16)
    (r : Fin 256) (j : Fin 64) :
    left1 x g w (ix2 r j) = cell (fun k => x (ix2 r k)) (fun k => g (ix2 0 k)) (fun k => w (ix2 k j)) := by
  have e : left1 x g w = k0_pay8 x g w := by
    unfold left1
    exact (canon_all _ _).trans (by rw [ld_all x, ld_all g, ld_all w])
  rw [e]
  pointwise [k0_pay8, rowsN_row, cell]

theorem left2_row (x : Vec Ideal S256x1024 .f32) (g : Vec Ideal S1x1024 .f32) (w : Vec Ideal S64x1024 .bf16)
    (r : Fin 256) (j : Fin 64) :
    left2 x g w (ix2 j r) = cell (fun k => x (ix2 r k)) (fun k => g (ix2 0 k)) (fun k => w (ix2 j k)) := by
  have e : left2 x g w = k0_pay9 x g w := by
    unfold left2
    exact (canon_all _ _).trans (by rw [ld_all x, ld_all g, ld_all w])
  rw [e]
  pointwise [k0_pay9, rowsN_row, cell]
  exact Finset.sum_congr rfl fun k _ => mul_comm _ _

theorem left3_row (x : Vec Ideal S256x1024 .f32) (g : Vec Ideal S1x1024 .f32) (w : Vec Ideal S512x1024 .bf16)
    (r : Fin 256) (j : Fin 512) :
    left3 x g w (ix2 j r) = cell (fun k => x (ix2 r k)) (fun k => g (ix2 0 k)) (fun k => w (ix2 j k)) := by
  have e : left3 x g w = k0_pay10 (k0_pay6 x g) w := by
    unfold left3 rowsN
    exact (canon_all _ _).trans (by rw [ld_all x, ld_all g, ld_all w])
  rw [e]
  pointwise [k0_pay10, rowsN_row, cell]
  exact Finset.sum_congr rfl fun k _ => mul_comm _ _

theorem left4_row (x : Vec Ideal S256x1024 .f32) (g : Vec Ideal S1x1024 .f32) (w : Vec Ideal S1024x64 .bf16)
    (r : Fin 256) (j : Fin 64) :
    left4 x g w (ix2 r j) = cell (fun k => x (ix2 r k)) (fun k => g (ix2 0 k)) (fun k => w (ix2 k j)) := by
  have e : left4 x g w = k0_pay11 (k0_pay6 x g) w := by
    unfold left4 rowsN
    exact (canon_all _ _).trans (by rw [ld_all x, ld_all g, ld_all w])
  rw [e]
  pointwise [k0_pay11, rowsN_row, cell]

theorem left5_row (x : Vec Ideal S256x1024 .f32) (g : Vec Ideal S1x1024 .f32) (w : Vec Ideal S8x1024 .bf16)
    (r : Fin 256) (j : Fin 8) :
    left5 x g w (ix2 j r) = cell (fun k => x (ix2 r k)) (fun k => g (ix2 0 k)) (fun k => w (ix2 j k)) := by
  have e : left5 x g w = k0_pay12 (k0_pay6 x g) w := by
    unfold left5 rowsN
    exact (canon_all _ _).trans (by rw [ld_all x, ld_all g, ld_all w])
  rw [e]
  pointwise [k0_pay12, rowsN_row, cell]
  exact Finset.sum_congr rfl fun k _ => mul_comm _ _

theorem left6_row (x : Vec Ideal S256x1024 .f32) (g : Vec Ideal S1x1024 .f32) (w : Vec Ideal S1024x128 .bf16)
    (r : Fin 256) (j : Fin 128) :
    left6 x g w (ix2 r j) = cell (fun k => x (ix2 r k)) (fun k => g (ix2 0 k)) (fun k => w (ix2 k j)) := by
  have e : left6 x g w = k0_pay13 (k0_pay6 x g) w := by
    unfold left6 rowsN
    exact (canon_all _ _).trans (by rw [ld_all x, ld_all g, ld_all w])
  rw [e]
  pointwise [k0_pay13, rowsN_row, cell]

theorem left7_row (x : Vec Ideal S256x1024 .f32) (g : Vec Ideal S1x1024 .f32) (w : Vec Ideal S1024x512 .bf16)
    (r : Fin 256) (j : Fin 512) :
    left7 x g w (ix2 r j) = cell (fun k => x (ix2 r k)) (fun k => g (ix2 0 k)) (fun k => w (ix2 k j)) := by
  have e : left7 x g w = k0_pay14 (k0_pay6 x g) w := by
    unfold left7 rowsN
    exact (canon_all _ _).trans (by rw [ld_all x, ld_all g, ld_all w])
  rw [e]
  pointwise [k0_pay14, rowsN_row, cell]

theorem left8_row (x : Vec Ideal S256x1024 .f32) (g : Vec Ideal S1x1024 .f32) (w : Vec Ideal S1024x512 .bf16)
    (r : Fin 256) (j : Fin 512) :
    left8 x g w (ix2 r j) = cell (fun k => x (ix2 r k)) (fun k => g (ix2 0 k)) (fun k => w (ix2 k j)) := by
  have e : left8 x g w = k0_pay15 (k0_pay6 x g) w := by
    unfold left8 rowsN
    exact (canon_all _ _).trans (by rw [ld_all x, ld_all g, ld_all w])
  rw [e]
  pointwise [k0_pay15, rowsN_row, cell]

theorem left9_row (x : Vec Ideal S256x1024 .f32) (g : Vec Ideal S1x1024 .f32) (w : Vec Ideal S1024x512 .bf16)
    (r : Fin 256) (j : Fin 512) :
    left9 x g w (ix2 r j) = cell (fun k => x (ix2 r k)) (fun k => g (ix2 0 k)) (fun k => w (ix2 k j)) := by
  have e : left9 x g w = k0_pay1 (k0_pay6 x g) w := by
    unfold left9 rowsN
    exact (canon_all _ _).trans (by rw [ld_all x, ld_all g, ld_all w])
  rw [e]
  pointwise [k0_pay1, rowsN_row, cell]

theorem left10_row (x : Vec Ideal S256x1024 .f32) (g : Vec Ideal S1x1024 .f32) (w : Vec Ideal S1024x1024 .bf16)
    (r : Fin 256) (j : Fin 1024) :
    left10 x g w (ix2 r j) = cell (fun k => x (ix2 r k)) (fun k => g (ix2 0 k)) (fun k => w (ix2 k j)) := by
  have e : left10 x g w = k0_pay2 (k0_pay6 x g) w := by
    unfold left10 rowsN
    exact (canon_all _ _).trans (by rw [ld_all x, ld_all g, ld_all w])
  rw [e]
  pointwise [k0_pay2, rowsN_row, cell]

theorem left11_row (x : Vec Ideal S256x1024 .f32) (g : Vec Ideal S1x1024 .f32) (w : Vec Ideal S1024x1024 .bf16)
    (r : Fin 256) (j : Fin 1024) :
    left11 x g w (ix2 r j) = cell (fun k => x (ix2 r k)) (fun k => g (ix2 0 k)) (fun k => w (ix2 k j)) := by
  have e : left11 x g w = k0_pay3 (k0_pay6 x g) w := by
    unfold left11 rowsN
    exact (canon_all _ _).trans (by rw [ld_all x, ld_all g, ld_all w])
  rw [e]
  pointwise [k0_pay3, rowsN_row, cell]

theorem left12_row (x : Vec Ideal S256x1024 .f32) (g : Vec Ideal S1x1024 .f32) (w : Vec Ideal S1024x1024 .bf16)
    (r : Fin 256) (j : Fin 1024) :
    left12 x g w (ix2 r j) = cell (fun k => x (ix2 r k)) (fun k => g (ix2 0 k)) (fun k => w (ix2 k j)) := by
  have e : left12 x g w = k0_pay4 (k0_pay6 x g) w := by
    unfold left12 rowsN
    exact (canon_all _ _).trans (by rw [ld_all x, ld_all g, ld_all w])
  rw [e]
  pointwise [k0_pay4, rowsN_row, cell]

theorem left13_row (x : Vec Ideal S256x1024 .f32) (g : Vec Ideal S1x1024 .f32) (w : Vec Ideal S1024x1024 .bf16)
    (r : Fin 256) (j : Fin 1024) :
    left13 x g w (ix2 r j) = cell (fun k => x (ix2 r k)) (fun k => g (ix2 0 k)) (fun k => w (ix2 k j)) := by
  have e : left13 x g w = k0_pay5 (k0_pay6 x g) w := by
    unfold left13 rowsN
    exact (canon_all _ _).trans (by rw [ld_all x, ld_all g, ld_all w])
  rw [e]
  pointwise [k0_pay5, rowsN_row, cell]

end Cert.Proof.InProj

end
-- ==== Proof.InProj.Reference.lean ====
/- The projections' reference, one entry at a time: its normalised rows times the whole weight matrix, and each of its results
   read at an index. -/
module

public import proofs.«01_k».proof.Proof.InProj.Rows
public import proofs.«01_k».proof.Proof.Gen.InProjReferenceIdeal.Run
public import Idealize.ShloMosaic.Lib.KernelVsHost

@[expose] public section

noncomputable section

namespace Cert.Proof.InProj.Ref

open Cert.InProjReferenceIdeal Cert.InProjReferenceIdeal.Gen Cert.InProjReferenceIdeal.Value Idealize.ShloMosaic Idealize.ShloMosaic.TcCoe Idealize.SL.Sem
open Cert.Proof.InProj

/-- The norm of an array's rows under a scale. -/
def normT (u : FVec Ideal S65536x1024 .f32) (g : FVec Ideal S1024 .f32) : FVec Ideal S65536x1024 .f32 :=
  mulf (mulf u (broadcastInDim S65536x1024 ![0, 1] bcast_S65536x1_S65536x1024_0_1 (Host.rsqrt (addf (Host.divf
      (broadcastInDim S65536x1 ![0] bcast_S65536_S65536x1_0
        (Host.reduceAdd (mulf u u) (constant S_ .f32 0x00000000#32) reducesTo_S65536x1024_S65536_d1 h_S_))
      (broadcastInDim S65536x1 ![] bcast_S_S65536x1 (constant S_ .f32 0x44800000#32)))
      (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The normalised rows times the weight matrix. -/
def allT (x : FVec Ideal S65536x1024 .f32) (g : FVec Ideal S1024 .f32) (w : FVec Ideal S1024x6872 .f32) : FVec Ideal S65536x6872 .f32 :=
  Host.dotGeneral dot_S65536x1024_S1024x6872_S65536x6872_1_0_0_1_n_n none (normT x g) w

/-- Column `o + j` of the weight matrix. -/
def col (o : Nat) {n : Nat} (h : o + n ≤ 6872) (j : Fin n) : Fin 6872 := ⟨o + j.val, by omega⟩

/-! ## The results -/

def out0 (x : FVec Ideal S65536x1024 .f32) (g : FVec Ideal S1024 .f32) (w : FVec Ideal S1024x6872 .f32) :
    FVec Ideal S512x65536 .bf16 :=
  truncf .bf16 (transpose S512x65536 [1, 0] (extractStridedSlice S65536x512 ![0, 0] (allT x g w) slices_S65536x6872_S65536x512_0_0) transposes_S65536x512_S512x65536_1_0) bitsLt_bf16_f32
def out1 (x : FVec Ideal S65536x1024 .f32) (g : FVec Ideal S1024 .f32) (w : FVec Ideal S1024x6872 .f32) :
    FVec Ideal S65536x64 .bf16 :=
  truncf .bf16 (extractStridedSlice S65536x64 ![0, 512] (allT x g w) slices_S65536x6872_S65536x64_0_512) bitsLt_bf16_f32
def out2 (x : FVec Ideal S65536x1024 .f32) (g : FVec Ideal S1024 .f32) (w : FVec Ideal S1024x6872 .f32) :
    FVec Ideal S64x65536 .bf16 :=
  truncf .bf16 (transpose S64x65536 [1, 0] (extractStridedSlice S65536x64 ![0, 576] (allT x g w) slices_S65536x6872_S65536x64_0_576) transposes_S65536x64_S64x65536_1_0) bitsLt_bf16_f32
def out3 (x : FVec Ideal S65536x1024 .f32) (g : FVec Ideal S1024 .f32) (w : FVec Ideal S1024x6872 .f32) :
    FVec Ideal S512x65536 .bf16 :=
  truncf .bf16 (transpose S512x65536 [1, 0] (extractStridedSlice S65536x512 ![0, 640] (allT x g w) slices_S65536x6872_S65536x512_0_640) transposes_S65536x512_S512x65536_1_0) bitsLt_bf16_f32
def out4 (x : FVec Ideal S65536x1024 .f32) (g : FVec Ideal S1024 .f32) (w : FVec Ideal S1024x6872 .f32) :
    FVec Ideal S65536x64 .bf16 :=
  truncf .bf16 (extractStridedSlice S65536x64 ![0, 1152] (allT x g w) slices_S65536x6872_S65536x64_0_1152) bitsLt_bf16_f32
def out5 (x : FVec Ideal S65536x1024 .f32) (g : FVec Ideal S1024 .f32) (w : FVec Ideal S1024x6872 .f32) :
    FVec Ideal S8x65536 .f32 :=
  transpose S8x65536 [1, 0] (extractStridedSlice S65536x8 ![0, 1216] (allT x g w) slices_S65536x6872_S65536x8_0_1216) transposes_S65536x8_S8x65536_1_0
def out6 (x : FVec Ideal S65536x1024 .f32) (g : FVec Ideal S1024 .f32) (w : FVec Ideal S1024x6872 .f32) :
    FVec Ideal S65536x128 .f32 :=
  pad S65536x128 ![0, 0] ![0, 112] ![0, 0] (extractStridedSlice S65536x16 ![0, 3784] (allT x g w) slices_S65536x6872_S65536x16_0_3784) (sitofp .f32 (constantI S_ 32 0#32)) pads_S65536x16_S65536x128_000_01120 h_S_
def out7 (x : FVec Ideal S65536x1024 .f32) (g : FVec Ideal S1024 .f32) (w : FVec Ideal S1024x6872 .f32) :
    FVec Ideal S65536x512 .f32 :=
  extractStridedSlice S65536x512 ![0, 1224] (allT x g w) slices_S65536x6872_S65536x512_0_1224
def out8 (x : FVec Ideal S65536x1024 .f32) (g : FVec Ideal S1024 .f32) (w : FVec Ideal S1024x6872 .f32) :
    FVec Ideal S65536x512 .f32 :=
  extractStridedSlice S65536x512 ![0, 1736] (allT x g w) slices_S65536x6872_S65536x512_0_1736
def out9 (x : FVec Ideal S65536x1024 .f32) (g : FVec Ideal S1024 .f32) (w : FVec Ideal S1024x6872 .f32) :
    FVec Ideal S65536x512 .f32 :=
  extractStridedSlice S65536x512 ![0, 2248] (allT x g w) slices_S65536x6872_S65536x512_0_2248
def out10 (x : FVec Ideal S65536x1024 .f32) (g : FVec Ideal S1024 .f32) (w : FVec Ideal S1024x6872 .f32) :
    FVec Ideal S65536x1024 .bf16 :=
  truncf .bf16 (extractStridedSlice S65536x1024 ![0, 2760] (allT x g w) slices_S65536x6872_S65536x1024_0_2760) bitsLt_bf16_f32
def out11 (x : FVec Ideal S65536x1024 .f32) (g : FVec Ideal S1024 .f32) (w : FVec Ideal S1024x6872 .f32) :
    FVec Ideal S65536x1024 .f32 :=
  extractStridedSlice S65536x1024 ![0, 3800] (allT x g w) slices_S65536x6872_S65536x1024_0_3800
def out12 (x : FVec Ideal S65536x1024 .f32) (g : FVec Ideal S1024 .f32) (w : FVec Ideal S1024x6872 .f32) :
    FVec Ideal S65536x1024 .f32 :=
  extractStridedSlice S65536x1024 ![0, 4824] (allT x g w) slices_S65536x6872_S65536x1024_0_4824
def out13 (x : FVec Ideal S65536x1024 .f32) (g : FVec Ideal S1024 .f32) (w : FVec Ideal S1024x6872 .f32) :
    FVec Ideal S65536x1024 .f32 :=
  extractStridedSlice S65536x1024 ![0, 5848] (allT x g w) slices_S65536x6872_S65536x1024_0_5848

/-! ## Each at an index -/

variable (x : FVec Ideal S65536x1024 .f32) (g : FVec Ideal S1024 .f32) (w : FVec Ideal S1024x6872 .f32) (r : Fin 65536)

theorem normT_row (k : Fin 1024) : normT x g (ix2 r k) = Merge.norm (fun k => x (ix2 r k)) (fun k => g (ix1 k)) k := by
  pointwise [normT, Merge.norm]

theorem allT_row (i : Fin 6872) : allT x g w (ix2 r i) = cell (fun k => x (ix2 r k)) (fun k => g (ix1 k)) (fun k => w (ix2 k i)) := by
  pointwise [allT, normT_row, cell]

/-- A row's cells from column `o` on. -/
theorem slice_row {n : Nat} (o : Nat) (h : o + n ≤ 6872) (hs : S65536x6872.Slices (![0, o] : Fin 2 → Nat) ⟨2, ![65536, n]⟩) (j : Fin n) :
    extractStridedSlice ⟨2, ![65536, n]⟩ ![0, o] (allT x g w) hs (ix2 r j)
      = cell (fun k => x (ix2 r k)) (fun k => g (ix1 k)) (fun k => w (ix2 k (col o h j))) := by
  refine Eq.trans (congrArg (allT x g w) (funext fun a => Fin.ext ?_)) (allT_row x g w r (col o h j))
  match a with
  | ⟨0, _⟩ => show 0 + r.val = r.val; omega
  | ⟨1, _⟩ => rfl

theorem out0_row (j : Fin 512) : out0 x g w (ix2 j r)
    = cell (fun k => x (ix2 r k)) (fun k => g (ix1 k)) (fun k => w (ix2 k (col 0 (by omega) j))) := by
  refine Eq.trans ?_ (slice_row x g w r 0 (by omega) slices_S65536x6872_S65536x512_0_0 j)
  pointwise [out0]

theorem out1_row (j : Fin 64) : out1 x g w (ix2 r j)
    = cell (fun k => x (ix2 r k)) (fun k => g (ix1 k)) (fun k => w (ix2 k (col 512 (by omega) j))) := by
  refine Eq.trans ?_ (slice_row x g w r 512 (by omega) slices_S65536x6872_S65536x64_0_512 j)
  pointwise [out1]

theorem out2_row (j : Fin 64) : out2 x g w (ix2 j r)
    = cell (fun k => x (ix2 r k)) (fun k => g (ix1 k)) (fun k => w (ix2 k (col 576 (by omega) j))) := by
  refine Eq.trans ?_ (slice_row x g w r 576 (by omega) slices_S65536x6872_S65536x64_0_576 j)
  pointwise [out2]

theorem out3_row (j : Fin 512) : out3 x g w (ix2 j r)
    = cell (fun k => x (ix2 r k)) (fun k => g (ix1 k)) (fun k => w (ix2 k (col 640 (by omega) j))) := by
  refine Eq.trans ?_ (slice_row x g w r 640 (by omega) slices_S65536x6872_S65536x512_0_640 j)
  pointwise [out3]

theorem out4_row (j : Fin 64) : out4 x g w (ix2 r j)
    = cell (fun k => x (ix2 r k)) (fun k => g (ix1 k)) (fun k => w (ix2 k (col 1152 (by omega) j))) := by
  refine Eq.trans ?_ (slice_row x g w r 1152 (by omega) slices_S65536x6872_S65536x64_0_1152 j)
  pointwise [out4]

theorem out5_row (j : Fin 8) : out5 x g w (ix2 j r)
    = cell (fun k => x (ix2 r k)) (fun k => g (ix1 k)) (fun k => w (ix2 k (col 1216 (by omega) j))) := by
  refine Eq.trans ?_ (slice_row x g w r 1216 (by omega) slices_S65536x6872_S65536x8_0_1216 j)
  pointwise [out5]

theorem out7_row (j : Fin 512) : out7 x g w (ix2 r j)
    = cell (fun k => x (ix2 r k)) (fun k => g (ix1 k)) (fun k => w (ix2 k (col 1224 (by omega) j))) := by
  refine Eq.trans ?_ (slice_row x g w r 1224 (by omega) slices_S65536x6872_S65536x512_0_1224 j)
  pointwise [out7]

theorem out8_row (j : Fin 512) : out8 x g w (ix2 r j)
    = cell (fun k => x (ix2 r k)) (fun k => g (ix1 k)) (fun k => w (ix2 k (col 1736 (by omega) j))) := by
  refine Eq.trans ?_ (slice_row x g w r 1736 (by omega) slices_S65536x6872_S65536x512_0_1736 j)
  pointwise [out8]

theorem out9_row (j : Fin 512) : out9 x g w (ix2 r j)
    = cell (fun k => x (ix2 r k)) (fun k => g (ix1 k)) (fun k => w (ix2 k (col 2248 (by omega) j))) := by
  refine Eq.trans ?_ (slice_row x g w r 2248 (by omega) slices_S65536x6872_S65536x512_0_2248 j)
  pointwise [out9]

theorem out10_row (j : Fin 1024) : out10 x g w (ix2 r j)
    = cell (fun k => x (ix2 r k)) (fun k => g (ix1 k)) (fun k => w (ix2 k (col 2760 (by omega) j))) := by
  refine Eq.trans ?_ (slice_row x g w r 2760 (by omega) slices_S65536x6872_S65536x1024_0_2760 j)
  pointwise [out10]

theorem out11_row (j : Fin 1024) : out11 x g w (ix2 r j)
    = cell (fun k => x (ix2 r k)) (fun k => g (ix1 k)) (fun k => w (ix2 k (col 3800 (by omega) j))) := by
  refine Eq.trans ?_ (slice_row x g w r 3800 (by omega) slices_S65536x6872_S65536x1024_0_3800 j)
  pointwise [out11]

theorem out12_row (j : Fin 1024) : out12 x g w (ix2 r j)
    = cell (fun k => x (ix2 r k)) (fun k => g (ix1 k)) (fun k => w (ix2 k (col 4824 (by omega) j))) := by
  refine Eq.trans ?_ (slice_row x g w r 4824 (by omega) slices_S65536x6872_S65536x1024_0_4824 j)
  pointwise [out12]

theorem out13_row (j : Fin 1024) : out13 x g w (ix2 r j)
    = cell (fun k => x (ix2 r k)) (fun k => g (ix1 k)) (fun k => w (ix2 k (col 5848 (by omega) j))) := by
  refine Eq.trans ?_ (slice_row x g w r 5848 (by omega) slices_S65536x6872_S65536x1024_0_5848 j)
  pointwise [out13]

/-- The padded result: sixteen cells of a row, then zeros. -/
theorem out6_row (j : Fin 128) : out6 x g w (ix2 r j) = if h : j.val < 16
    then cell (fun k => x (ix2 r k)) (fun k => g (ix1 k)) (fun k => w (ix2 k (col 3784 (by omega) (⟨j.val, h⟩ : Fin 16)))) else 0 := by
  split
  · rename_i h
    refine Eq.trans ?_ (slice_row x g w r 3784 (by omega) slices_S65536x6872_S65536x16_0_3784 ⟨j.val, h⟩)
    refine pad_apply_of_inside _ _ _ _ _ _ _ (ix2 r j) (ix2 r (⟨j.val, h⟩ : Fin 16)) fun a => ?_
    match a with
    | ⟨0, _⟩ => show r.val = 0 + r.val * (0 + 1); omega
    | ⟨1, _⟩ => show j.val = 0 + j.val * (0 + 1); omega
  · rename_i h
    refine (pad_apply_of_not_inside _ _ _ _ _ _ _ (ix2 r j) 1 fun hin => h ?_).trans ?_
    · have e := hin.2.2
      change (j.val - 0) / (0 + 1) < 16 at e
      omega
    · pointwise
      show (((0#32 : BitVec 32).toInt : ℝ) : EReal) = 0
      simp

end Cert.Proof.InProj.Ref

end
-- ==== Proof.InProj.Value.lean ====
/- The projections' value: every block that the kernel writes back is a block of the reference's result, so each of the
   fourteen result arrays is the reference's. -/
module

public import proofs.«01_k».proof.Proof.InProj.Rows
public import proofs.«01_k».proof.Proof.InProj.Reference

@[expose] public section

noncomputable section

namespace Cert.Proof.InProj

open Cert.InProjIdeal Cert.InProjIdeal.Gen Idealize.ShloMosaic Idealize.ShloMosaic.TcCoe Idealize.SL.Sem
open Idealize.ShloMosaic.StableHlo

variable (m : (ℓ : Loc nD τ sig) → Buf (Elt Ideal) ℓ) (c : Dev nD)

/-- The rows, the gains and the weight matrix of device `c` as launched. -/
abbrev xs : FVec Ideal S65536x1024 .f32 := shapeCast S65536x1024 (m ((c : Thread nD τ).loc main_arg0)) shapeCasts_S8x8192x1024_S65536x1024
abbrev gs : FVec Ideal S1024 .f32 := m ((c : Thread nD τ).loc main_arg1)
abbrev ws : FVec Ideal S1024x6872 .f32 := m ((c : Thread nD τ).loc main_arg2)

/-- The row of the whole array that row `r` of point `t`'s block is. -/
def rowAt (t : Fin cfg0.N) (r : Fin 256) : Fin 65536 := ⟨256 * t.val + r.val, by have := t.isLt; have : cfg0.N = 256 := rfl; omega⟩

/-! ## The windows' arrays when the grid is entered -/

theorem V_x : V m c main_v34 = xs m c := by
  unfold V; after_results_simp <;> rfl

theorem V_g : V m c main_v35 = shapeCast S1x1024 (gs m c) shapeCasts_S1024_S1x1024 := by
  unfold V; after_results_simp <;> rfl

theorem V_w0 : V m c main_v20 = (truncf .bf16 (transpose S512x1024 [1, 0] (extractStridedSlice S1024x512 ![0, 0] (ws m c) slices_S1024x6872_S1024x512_0_0) transposes_S1024x512_S512x1024_1_0 : FVec Ideal S512x1024 .f32) bitsLt_bf16_f32 : FVec Ideal S512x1024 .bf16) := by
  unfold V; after_results_simp <;> rfl

theorem V_w1 : V m c main_v21 = (truncf .bf16 (extractStridedSlice S1024x64 ![0, 512] (ws m c) slices_S1024x6872_S1024x64_0_512 : FVec Ideal S1024x64 .f32) bitsLt_bf16_f32 : FVec Ideal S1024x64 .bf16) := by
  unfold V; after_results_simp <;> rfl

theorem V_w2 : V m c main_v22 = (truncf .bf16 (transpose S64x1024 [1, 0] (extractStridedSlice S1024x64 ![0, 576] (ws m c) slices_S1024x6872_S1024x64_0_576) transposes_S1024x64_S64x1024_1_0 : FVec Ideal S64x1024 .f32) bitsLt_bf16_f32 : FVec Ideal S64x1024 .bf16) := by
  unfold V; after_results_simp <;> rfl

theorem V_w3 : V m c main_v23 = (truncf .bf16 (transpose S512x1024 [1, 0] (extractStridedSlice S1024x512 ![0, 640] (ws m c) slices_S1024x6872_S1024x512_0_640) transposes_S1024x512_S512x1024_1_0 : FVec Ideal S512x1024 .f32) bitsLt_bf16_f32 : FVec Ideal S512x1024 .bf16) := by
  unfold V; after_results_simp <;> rfl

theorem V_w4 : V m c main_v24 = (truncf .bf16 (extractStridedSlice S1024x64 ![0, 1152] (ws m c) slices_S1024x6872_S1024x64_0_1152 : FVec Ideal S1024x64 .f32) bitsLt_bf16_f32 : FVec Ideal S1024x64 .bf16) := by
  unfold V; after_results_simp <;> rfl

theorem V_w5 : V m c main_v25 = (truncf .bf16 (transpose S8x1024 [1, 0] (extractStridedSlice S1024x8 ![0, 1216] (ws m c) slices_S1024x6872_S1024x8_0_1216) transposes_S1024x8_S8x1024_1_0 : FVec Ideal S8x1024 .f32) bitsLt_bf16_f32 : FVec Ideal S8x1024 .bf16) := by
  unfold V; after_results_simp <;> rfl

theorem V_w6 : V m c main_v26 = (truncf .bf16 (concatenate S1024x128 1 [⟨S1024x16, extractStridedSlice S1024x16 ![0, 3784] (ws m c) slices_S1024x6872_S1024x16_0_3784⟩,
      ⟨S1024x112, broadcastInDim S1024x112 ![] bcast_S_S1024x112 (constant S_ .f32 0x00000000#32)⟩] concatenates_S1024x16_S1024x112_S1024x128_d1 : FVec Ideal S1024x128 .f32) bitsLt_bf16_f32 : FVec Ideal S1024x128 .bf16) := by
  unfold V; after_results_simp <;> rfl

theorem V_w7 : V m c main_v27 = (truncf .bf16 (extractStridedSlice S1024x512 ![0, 1224] (ws m c) slices_S1024x6872_S1024x512_0_1224 : FVec Ideal S1024x512 .f32) bitsLt_bf16_f32 : FVec Ideal S1024x512 .bf16) := by
  unfold V; after_results_simp <;> rfl

theorem V_w8 : V m c main_v28 = (truncf .bf16 (extractStridedSlice S1024x512 ![0, 1736] (ws m c) slices_S1024x6872_S1024x512_0_1736 : FVec Ideal S1024x512 .f32) bitsLt_bf16_f32 : FVec Ideal S1024x512 .bf16) := by
  unfold V; after_results_simp <;> rfl

theorem V_w9 : V m c main_v29 = (truncf .bf16 (extractStridedSlice S1024x512 ![0, 2248] (ws m c) slices_S1024x6872_S1024x512_0_2248 : FVec Ideal S1024x512 .f32) bitsLt_bf16_f32 : FVec Ideal S1024x512 .bf16) := by
  unfold V; after_results_simp <;> rfl

theorem V_w10 : V m c main_v30 = (truncf .bf16 (extractStridedSlice S1024x1024 ![0, 2760] (ws m c) slices_S1024x6872_S1024x1024_0_2760 : FVec Ideal S1024x1024 .f32) bitsLt_bf16_f32 : FVec Ideal S1024x1024 .bf16) := by
  unfold V; after_results_simp <;> rfl

theorem V_w11 : V m c main_v31 = (truncf .bf16 (extractStridedSlice S1024x1024 ![0, 3800] (ws m c) slices_S1024x6872_S1024x1024_0_3800 : FVec Ideal S1024x1024 .f32) bitsLt_bf16_f32 : FVec Ideal S1024x1024 .bf16) := by
  unfold V; after_results_simp <;> rfl

theorem V_w12 : V m c main_v32 = (truncf .bf16 (extractStridedSlice S1024x1024 ![0, 4824] (ws m c) slices_S1024x6872_S1024x1024_0_4824 : FVec Ideal S1024x1024 .f32) bitsLt_bf16_f32 : FVec Ideal S1024x1024 .bf16) := by
  unfold V; after_results_simp <;> rfl

theorem V_w13 : V m c main_v33 = (truncf .bf16 (extractStridedSlice S1024x1024 ![0, 5848] (ws m c) slices_S1024x6872_S1024x1024_0_5848 : FVec Ideal S1024x1024 .f32) bitsLt_bf16_f32 : FVec Ideal S1024x1024 .bf16) := by
  unfold V; after_results_simp <;> rfl

/-! ## Where the windows' blocks lie -/

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem idx14 : ∀ t : Fin cfg0.N, win0_14.index t (0 : Fin 2) = 0 ∧ win0_14.index t (1 : Fin 2) = 0 :=
  (by decide +kernel : ∀ t : Fin grid0.N, _)

theorem idx15 : ∀ t : Fin cfg0.N, win0_15.index t (0 : Fin 2) = 0 ∧ win0_15.index t (1 : Fin 2) = 0 :=
  (by decide +kernel : ∀ t : Fin grid0.N, _)

theorem idx16 : ∀ t : Fin cfg0.N, win0_16.index t (0 : Fin 2) = 0 ∧ win0_16.index t (1 : Fin 2) = t.val :=
  (by decide +kernel : ∀ t : Fin grid0.N, _)

theorem idx17 : ∀ t : Fin cfg0.N, win0_17.index t (0 : Fin 2) = t.val ∧ win0_17.index t (1 : Fin 2) = 0 :=
  (by decide +kernel : ∀ t : Fin grid0.N, _)

theorem idx18 : ∀ t : Fin cfg0.N, win0_18.index t (0 : Fin 2) = 0 ∧ win0_18.index t (1 : Fin 2) = t.val :=
  (by decide +kernel : ∀ t : Fin grid0.N, _)

theorem idx19 : ∀ t : Fin cfg0.N, win0_19.index t (0 : Fin 2) = 0 ∧ win0_19.index t (1 : Fin 2) = t.val :=
  (by decide +kernel : ∀ t : Fin grid0.N, _)

theorem idx20 : ∀ t : Fin cfg0.N, win0_20.index t (0 : Fin 2) = t.val ∧ win0_20.index t (1 : Fin 2) = 0 :=
  (by decide +kernel : ∀ t : Fin grid0.N, _)

theorem idx21 : ∀ t : Fin cfg0.N, win0_21.index t (0 : Fin 2) = 0 ∧ win0_21.index t (1 : Fin 2) = t.val :=
  (by decide +kernel : ∀ t : Fin grid0.N, _)

theorem idx22 : ∀ t : Fin cfg0.N, win0_22.index t (0 : Fin 2) = t.val ∧ win0_22.index t (1 : Fin 2) = 0 :=
  (by decide +kernel : ∀ t : Fin grid0.N, _)

theorem idx23 : ∀ t : Fin cfg0.N, win0_23.index t (0 : Fin 2) = t.val ∧ win0_23.index t (1 : Fin 2) = 0 :=
  (by decide +kernel : ∀ t : Fin grid0.N, _)

theorem idx24 : ∀ t : Fin cfg0.N, win0_24.index t (0 : Fin 2) = t.val ∧ win0_24.index t (1 : Fin 2) = 0 :=
  (by decide +kernel : ∀ t : Fin grid0.N, _)

theorem idx25 : ∀ t : Fin cfg0.N, win0_25.index t (0 : Fin 2) = t.val ∧ win0_25.index t (1 : Fin 2) = 0 :=
  (by decide +kernel : ∀ t : Fin grid0.N, _)

theorem idx26 : ∀ t : Fin cfg0.N, win0_26.index t (0 : Fin 2) = t.val ∧ win0_26.index t (1 : Fin 2) = 0 :=
  (by decide +kernel : ∀ t : Fin grid0.N, _)

theorem idx27 : ∀ t : Fin cfg0.N, win0_27.index t (0 : Fin 2) = t.val ∧ win0_27.index t (1 : Fin 2) = 0 :=
  (by decide +kernel : ∀ t : Fin grid0.N, _)

theorem idx28 : ∀ t : Fin cfg0.N, win0_28.index t (0 : Fin 2) = t.val ∧ win0_28.index t (1 : Fin 2) = 0 :=
  (by decide +kernel : ∀ t : Fin grid0.N, _)

theorem idx29 : ∀ t : Fin cfg0.N, win0_29.index t (0 : Fin 2) = t.val ∧ win0_29.index t (1 : Fin 2) = 0 :=
  (by decide +kernel : ∀ t : Fin grid0.N, _)

theorem emb0 (t : Fin cfg0.N) (r : Fin 256) (j : Fin 1024) :
    ((cfg0.win 0).blk t).view.emb (ix2 r j) = (ix2 (rowAt t r) j : S65536x1024.Idx) := by
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 1024 + 1 * j.val = j.val; omega

theorem emb16 (t : Fin cfg0.N) (r : Fin 256) (j : Fin 512) :
    ((cfg0.win 16).blk t).view.emb (ix2 j r) = (ix2 j (rowAt t r) : S512x65536.Idx) := by
  obtain ⟨e0, e1⟩ := idx16 t
  funext a; apply Fin.ext
  match a with
  | ⟨0, _⟩ => show win0_16.index t (0 : Fin 2) * 512 + 1 * j.val = j.val; omega
  | ⟨1, _⟩ => show win0_16.index t (1 : Fin 2) * 256 + 1 * r.val = 256 * t.val + r.val; omega

theorem emb17 (t : Fin cfg0.N) (r : Fin 256) (j : Fin 64) :
    ((cfg0.win 17).blk t).view.emb (ix2 r j) = (ix2 (rowAt t r) j : S65536x64.Idx) := by
  obtain ⟨e0, e1⟩ := idx17 t
  funext a; apply Fin.ext
  match a with
  | ⟨0, _⟩ => show win0_17.index t (0 : Fin 2) * 256 + 1 * r.val = 256 * t.val + r.val; omega
  | ⟨1, _⟩ => show win0_17.index t (1 : Fin 2) * 64 + 1 * j.val = j.val; omega

theorem emb18 (t : Fin cfg0.N) (r : Fin 256) (j : Fin 64) :
    ((cfg0.win 18).blk t).view.emb (ix2 j r) = (ix2 j (rowAt t r) : S64x65536.Idx) := by
  obtain ⟨e0, e1⟩ := idx18 t
  funext a; apply Fin.ext
  match a with
  | ⟨0, _⟩ => show win0_18.index t (0 : Fin 2) * 64 + 1 * j.val = j.val; omega
  | ⟨1, _⟩ => show win0_18.index t (1 : Fin 2) * 256 + 1 * r.val = 256 * t.val + r.val; omega

theorem emb19 (t : Fin cfg0.N) (r : Fin 256) (j : Fin 512) :
    ((cfg0.win 19).blk t).view.emb (ix2 j r) = (ix2 j (rowAt t r) : S512x65536.Idx) := by
  obtain ⟨e0, e1⟩ := idx19 t
  funext a; apply Fin.ext
  match a with
  | ⟨0, _⟩ => show win0_19.index t (0 : Fin 2) * 512 + 1 * j.val = j.val; omega
  | ⟨1, _⟩ => show win0_19.index t (1 : Fin 2) * 256 + 1 * r.val = 256 * t.val + r.val; omega

theorem emb20 (t : Fin cfg0.N) (r : Fin 256) (j : Fin 64) :
    ((cfg0.win 20).blk t).view.emb (ix2 r j) = (ix2 (rowAt t r) j : S65536x64.Idx) := by
  obtain ⟨e0, e1⟩ := idx20 t
  funext a; apply Fin.ext
  match a with
  | ⟨0, _⟩ => show win0_20.index t (0 : Fin 2) * 256 + 1 * r.val = 256 * t.val + r.val; omega
  | ⟨1, _⟩ => show win0_20.index t (1 : Fin 2) * 64 + 1 * j.val = j.val; omega

theorem emb21 (t : Fin cfg0.N) (r : Fin 256) (j : Fin 8) :
    ((cfg0.win 21).blk t).view.emb (ix2 j r) = (ix2 j (rowAt t r) : S8x65536.Idx) := by
  obtain ⟨e0, e1⟩ := idx21 t
  funext a; apply Fin.ext
  match a with
  | ⟨0, _⟩ => show win0_21.index t (0 : Fin 2) * 8 + 1 * j.val = j.val; omega
  | ⟨1, _⟩ => show win0_21.index t (1 : Fin 2) * 256 + 1 * r.val = 256 * t.val + r.val; omega

theorem emb22 (t : Fin cfg0.N) (r : Fin 256) (j : Fin 128) :
    ((cfg0.win 22).blk t).view.emb (ix2 r j) = (ix2 (rowAt t r) j : S65536x128.Idx) := by
  obtain ⟨e0, e1⟩ := idx22 t
  funext a; apply Fin.ext
  match a with
  | ⟨0, _⟩ => show win0_22.index t (0 : Fin 2) * 256 + 1 * r.val = 256 * t.val + r.val; omega
  | ⟨1, _⟩ => show win0_22.index t (1 : Fin 2) * 128 + 1 * j.val = j.val; omega

theorem emb23 (t : Fin cfg0.N) (r : Fin 256) (j : Fin 512) :
    ((cfg0.win 23).blk t).view.emb (ix2 r j) = (ix2 (rowAt t r) j : S65536x512.Idx) := by
  obtain ⟨e0, e1⟩ := idx23 t
  funext a; apply Fin.ext
  match a with
  | ⟨0, _⟩ => show win0_23.index t (0 : Fin 2) * 256 + 1 * r.val = 256 * t.val + r.val; omega
  | ⟨1, _⟩ => show win0_23.index t (1 : Fin 2) * 512 + 1 * j.val = j.val; omega

theorem emb24 (t : Fin cfg0.N) (r : Fin 256) (j : Fin 512) :
    ((cfg0.win 24).blk t).view.emb (ix2 r j) = (ix2 (rowAt t r) j : S65536x512.Idx) := by
  obtain ⟨e0, e1⟩ := idx24 t
  funext a; apply Fin.ext
  match a with
  | ⟨0, _⟩ => show win0_24.index t (0 : Fin 2) * 256 + 1 * r.val = 256 * t.val + r.val; omega
  | ⟨1, _⟩ => show win0_24.index t (1 : Fin 2) * 512 + 1 * j.val = j.val; omega

theorem emb25 (t : Fin cfg0.N) (r : Fin 256) (j : Fin 512) :
    ((cfg0.win 25).blk t).view.emb (ix2 r j) = (ix2 (rowAt t r) j : S65536x512.Idx) := by
  obtain ⟨e0, e1⟩ := idx25 t
  funext a; apply Fin.ext
  match a with
  | ⟨0, _⟩ => show win0_25.index t (0 : Fin 2) * 256 + 1 * r.val = 256 * t.val + r.val; omega
  | ⟨1, _⟩ => show win0_25.index t (1 : Fin 2) * 512 + 1 * j.val = j.val; omega

theorem emb26 (t : Fin cfg0.N) (r : Fin 256) (j : Fin 1024) :
    ((cfg0.win 26).blk t).view.emb (ix2 r j) = (ix2 (rowAt t r) j : S65536x1024.Idx) := by
  obtain ⟨e0, e1⟩ := idx26 t
  funext a; apply Fin.ext
  match a with
  | ⟨0, _⟩ => show win0_26.index t (0 : Fin 2) * 256 + 1 * r.val = 256 * t.val + r.val; omega
  | ⟨1, _⟩ => show win0_26.index t (1 : Fin 2) * 1024 + 1 * j.val = j.val; omega

theorem emb27 (t : Fin cfg0.N) (r : Fin 256) (j : Fin 1024) :
    ((cfg0.win 27).blk t).view.emb (ix2 r j) = (ix2 (rowAt t r) j : S65536x1024.Idx) := by
  obtain ⟨e0, e1⟩ := idx27 t
  funext a; apply Fin.ext
  match a with
  | ⟨0, _⟩ => show win0_27.index t (0 : Fin 2) * 256 + 1 * r.val = 256 * t.val + r.val; omega
  | ⟨1, _⟩ => show win0_27.index t (1 : Fin 2) * 1024 + 1 * j.val = j.val; omega

theorem emb28 (t : Fin cfg0.N) (r : Fin 256) (j : Fin 1024) :
    ((cfg0.win 28).blk t).view.emb (ix2 r j) = (ix2 (rowAt t r) j : S65536x1024.Idx) := by
  obtain ⟨e0, e1⟩ := idx28 t
  funext a; apply Fin.ext
  match a with
  | ⟨0, _⟩ => show win0_28.index t (0 : Fin 2) * 256 + 1 * r.val = 256 * t.val + r.val; omega
  | ⟨1, _⟩ => show win0_28.index t (1 : Fin 2) * 1024 + 1 * j.val = j.val; omega

theorem emb29 (t : Fin cfg0.N) (r : Fin 256) (j : Fin 1024) :
    ((cfg0.win 29).blk t).view.emb (ix2 r j) = (ix2 (rowAt t r) j : S65536x1024.Idx) := by
  obtain ⟨e0, e1⟩ := idx29 t
  funext a; apply Fin.ext
  match a with
  | ⟨0, _⟩ => show win0_29.index t (0 : Fin 2) * 256 + 1 * r.val = 256 * t.val + r.val; omega
  | ⟨1, _⟩ => show win0_29.index t (1 : Fin 2) * 1024 + 1 * j.val = j.val; omega

/-! ## The inputs' blocks -/

theorem blk0_row (t : Fin cfg0.N) (r : Fin 256) (k : Fin 1024) : blk m c 0 t (ix2 r k) = xs m c (ix2 (rowAt t r) k) := by
  refine Eq.trans ?_ (congrFun (V_x m c) (ix2 (rowAt t r) k))
  show V m c main_v34 (((cfg0.win 0).blk t).view.emb (ix2 r k)) = _
  rw [emb0]

theorem blk1_eq (t : Fin cfg0.N) : blk m c 1 t = V m c main_v35 := by
  obtain ⟨e0, e1⟩ := idx1 t
  funext j
  show V m c main_v35 (((cfg0.win 1).blk t).view.emb j) = V m c main_v35 j
  refine congrArg _ (funext fun a => Fin.ext ?_)
  match a with
  | ⟨0, _⟩ => show win0_1.index t (0 : Fin 2) * 1 + 1 * (j 0).val = (j 0).val; omega
  | ⟨1, _⟩ => show win0_1.index t (1 : Fin 2) * 1024 + 1 * (j 1).val = (j 1).val; omega

theorem blk2_eq (t : Fin cfg0.N) : blk m c 2 t = V m c main_v20 := by
  obtain ⟨e0, e1⟩ := idx2 t
  funext j
  show V m c main_v20 (((cfg0.win 2).blk t).view.emb j) = V m c main_v20 j
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 1024 + 1 * (j 1).val = (j 1).val; omega

theorem blk3_eq (t : Fin cfg0.N) : blk m c 3 t = V m c main_v21 := by
  obtain ⟨e0, e1⟩ := idx3 t
  funext j
  show V m c main_v21 (((cfg0.win 3).blk t).view.emb j) = V m c main_v21 j
  refine congrArg _ (funext fun a => Fin.ext ?_)
  match a with
  | ⟨0, _⟩ => show win0_3.index t (0 : Fin 2) * 1024 + 1 * (j 0).val = (j 0).val; omega
  | ⟨1, _⟩ => show win0_3.index t (1 : Fin 2) * 64 + 1 * (j 1).val = (j 1).val; omega

theorem blk4_eq (t : Fin cfg0.N) : blk m c 4 t = V m c main_v22 := by
  obtain ⟨e0, e1⟩ := idx4 t
  funext j
  show V m c main_v22 (((cfg0.win 4).blk t).view.emb j) = V m c main_v22 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 1024 + 1 * (j 1).val = (j 1).val; omega

theorem blk5_eq (t : Fin cfg0.N) : blk m c 5 t = V m c main_v23 := by
  obtain ⟨e0, e1⟩ := idx5 t
  funext j
  show V m c main_v23 (((cfg0.win 5).blk t).view.emb j) = V m c main_v23 j
  refine congrArg _ (funext fun a => Fin.ext ?_)
  match a with
  | ⟨0, _⟩ => show win0_5.index t (0 : Fin 2) * 512 + 1 * (j 0).val = (j 0).val; omega
  | ⟨1, _⟩ => show win0_5.index t (1 : Fin 2) * 1024 + 1 * (j 1).val = (j 1).val; omega

theorem blk6_eq (t : Fin cfg0.N) : blk m c 6 t = V m c main_v24 := by
  obtain ⟨e0, e1⟩ := idx6 t
  funext j
  show V m c main_v24 (((cfg0.win 6).blk t).view.emb j) = V m c main_v24 j
  refine congrArg _ (funext fun a => Fin.ext ?_)
  match a with
  | ⟨0, _⟩ => show win0_6.index t (0 : Fin 2) * 1024 + 1 * (j 0).val = (j 0).val; omega
  | ⟨1, _⟩ => show win0_6.index t (1 : Fin 2) * 64 + 1 * (j 1).val = (j 1).val; omega

theorem blk7_eq (t : Fin cfg0.N) : blk m c 7 t = V m c main_v25 := by
  obtain ⟨e0, e1⟩ := idx7 t
  funext j
  show V m c main_v25 (((cfg0.win 7).blk t).view.emb j) = V m c main_v25 j
  refine congrArg _ (funext fun a => Fin.ext ?_)
  match a with
  | ⟨0, _⟩ => show win0_7.index t (0 : Fin 2) * 8 + 1 * (j 0).val = (j 0).val; omega
  | ⟨1, _⟩ => show win0_7.index t (1 : Fin 2) * 1024 + 1 * (j 1).val = (j 1).val; omega

theorem blk8_eq (t : Fin cfg0.N) : blk m c 8 t = V m c main_v26 := by
  obtain ⟨e0, e1⟩ := idx8 t
  funext j
  show V m c main_v26 (((cfg0.win 8).blk t).view.emb j) = V m c main_v26 j
  refine congrArg _ (funext fun a => Fin.ext ?_)
  match a with
  | ⟨0, _⟩ => show win0_8.index t (0 : Fin 2) * 1024 + 1 * (j 0).val = (j 0).val; omega
  | ⟨1, _⟩ => show win0_8.index t (1 : Fin 2) * 128 + 1 * (j 1).val = (j 1).val; omega

theorem blk9_eq (t : Fin cfg0.N) : blk m c 9 t = V m c main_v27 := by
  obtain ⟨e0, e1⟩ := idx9 t
  funext j
  show V m c main_v27 (((cfg0.win 9).blk t).view.emb j) = V m c main_v27 j
  refine congrArg _ (funext fun a => Fin.ext ?_)
  match a with
  | ⟨0, _⟩ => show win0_9.index t (0 : Fin 2) * 1024 + 1 * (j 0).val = (j 0).val; omega
  | ⟨1, _⟩ => show win0_9.index t (1 : Fin 2) * 512 + 1 * (j 1).val = (j 1).val; omega

theorem blk10_eq (t : Fin cfg0.N) : blk m c 10 t = V m c main_v28 := by
  obtain ⟨e0, e1⟩ := idx10 t
  funext j
  show V m c main_v28 (((cfg0.win 10).blk t).view.emb j) = V m c main_v28 j
  refine congrArg _ (funext fun a => Fin.ext ?_)
  match a with
  | ⟨0, _⟩ => show win0_10.index t (0 : Fin 2) * 1024 + 1 * (j 0).val = (j 0).val; omega
  | ⟨1, _⟩ => show win0_10.index t (1 : Fin 2) * 512 + 1 * (j 1).val = (j 1).val; omega

theorem blk11_eq (t : Fin cfg0.N) : blk m c 11 t = V m c main_v29 := by
  obtain ⟨e0, e1⟩ := idx11 t
  funext j
  show V m c main_v29 (((cfg0.win 11).blk t).view.emb j) = V m c main_v29 j
  refine congrArg _ (funext fun a => Fin.ext ?_)
  match a with
  | ⟨0, _⟩ => show win0_11.index t (0 : Fin 2) * 1024 + 1 * (j 0).val = (j 0).val; omega
  | ⟨1, _⟩ => show win0_11.index t (1 : Fin 2) * 512 + 1 * (j 1).val = (j 1).val; omega

theorem blk12_eq (t : Fin cfg0.N) : blk m c 12 t = V m c main_v30 := by
  obtain ⟨e0, e1⟩ := idx12 t
  funext j
  show V m c main_v30 (((cfg0.win 12).blk t).view.emb j) = V m c main_v30 j
  refine congrArg _ (funext fun a => Fin.ext ?_)
  match a with
  | ⟨0, _⟩ => show win0_12.index t (0 : Fin 2) * 1024 + 1 * (j 0).val = (j 0).val; omega
  | ⟨1, _⟩ => show win0_12.index t (1 : Fin 2) * 1024 + 1 * (j 1).val = (j 1).val; omega

theorem blk13_eq (t : Fin cfg0.N) : blk m c 13 t = V m c main_v31 := by
  obtain ⟨e0, e1⟩ := idx13 t
  funext j
  show V m c main_v31 (((cfg0.win 13).blk t).view.emb j) = V m c main_v31 j
  refine congrArg _ (funext fun a => Fin.ext ?_)
  match a with
  | ⟨0, _⟩ => show win0_13.index t (0 : Fin 2) * 1024 + 1 * (j 0).val = (j 0).val; omega
  | ⟨1, _⟩ => show win0_13.index t (1 : Fin 2) * 1024 + 1 * (j 1).val = (j 1).val; omega

theorem blk14_eq (t : Fin cfg0.N) : blk m c 14 t = V m c main_v32 := by
  obtain ⟨e0, e1⟩ := idx14 t
  funext j
  show V m c main_v32 (((cfg0.win 14).blk t).view.emb j) = V m c main_v32 j
  refine congrArg _ (funext fun a => Fin.ext ?_)
  match a with
  | ⟨0, _⟩ => show win0_14.index t (0 : Fin 2) * 1024 + 1 * (j 0).val = (j 0).val; omega
  | ⟨1, _⟩ => show win0_14.index t (1 : Fin 2) * 1024 + 1 * (j 1).val = (j 1).val; omega

theorem blk15_eq (t : Fin cfg0.N) : blk m c 15 t = V m c main_v33 := by
  obtain ⟨e0, e1⟩ := idx15 t
  funext j
  show V m c main_v33 (((cfg0.win 15).blk t).view.emb j) = V m c main_v33 j
  refine congrArg _ (funext fun a => Fin.ext ?_)
  match a with
  | ⟨0, _⟩ => show win0_15.index t (0 : Fin 2) * 1024 + 1 * (j 0).val = (j 0).val; omega
  | ⟨1, _⟩ => show win0_15.index t (1 : Fin 2) * 1024 + 1 * (j 1).val = (j 1).val; omega

theorem blk1_row (t : Fin cfg0.N) (k : Fin 1024) : blk m c 1 t (ix2 0 k) = gs m c (ix1 k) := by
  refine (congrFun ((blk1_eq m c t).trans (V_g m c)) (ix2 0 k)).trans ?_
  pointwise

/-- A column of a slice of the weight matrix. -/
theorem slice_col {n : Nat} (o : Nat) (h : o + n ≤ 6872) (hs : S1024x6872.Slices (![0, o] : Fin 2 → Nat) ⟨2, ![1024, n]⟩) (k : Fin 1024)
    (j : Fin n) : extractStridedSlice ⟨2, ![1024, n]⟩ ![0, o] (ws m c) hs (ix2 k j) = ws m c (ix2 k (Ref.col o h j)) := by
  refine congrArg (ws m c) (funext fun a => Fin.ext ?_)
  match a with
  | ⟨0, _⟩ => show 0 + k.val = k.val; omega
  | ⟨1, _⟩ => rfl

theorem w0_row (t : Fin cfg0.N) (k : Fin 1024) (j : Fin 512) :
    blk m c 2 t (ix2 j k) = ws m c (ix2 k (Ref.col 0 (by omega) j)) := by
  refine (congrFun ((blk2_eq m c t).trans (V_w0 m c)) (ix2 j k)).trans ?_
  refine Eq.trans ?_ (slice_col m c 0 (by omega) slices_S1024x6872_S1024x512_0_0 k j)
  pointwise

theorem w1_row (t : Fin cfg0.N) (k : Fin 1024) (j : Fin 64) :
    blk m c 3 t (ix2 k j) = ws m c (ix2 k (Ref.col 512 (by omega) j)) := by
  refine (congrFun ((blk3_eq m c t).trans (V_w1 m c)) (ix2 k j)).trans ?_
  refine Eq.trans ?_ (slice_col m c 512 (by omega) slices_S1024x6872_S1024x64_0_512 k j)
  pointwise

theorem w2_row (t : Fin cfg0.N) (k : Fin 1024) (j : Fin 64) :
    blk m c 4 t (ix2 j k) = ws m c (ix2 k (Ref.col 576 (by omega) j)) := by
  refine (congrFun ((blk4_eq m c t).trans (V_w2 m c)) (ix2 j k)).trans ?_
  refine Eq.trans ?_ (slice_col m c 576 (by omega) slices_S1024x6872_S1024x64_0_576 k j)
  pointwise

theorem w3_row (t : Fin cfg0.N) (k : Fin 1024) (j : Fin 512) :
    blk m c 5 t (ix2 j k) = ws m c (ix2 k (Ref.col 640 (by omega) j)) := by
  refine (congrFun ((blk5_eq m c t).trans (V_w3 m c)) (ix2 j k)).trans ?_
  refine Eq.trans ?_ (slice_col m c 640 (by omega) slices_S1024x6872_S1024x512_0_640 k j)
  pointwise

theorem w4_row (t : Fin cfg0.N) (k : Fin 1024) (j : Fin 64) :
    blk m c 6 t (ix2 k j) = ws m c (ix2 k (Ref.col 1152 (by omega) j)) := by
  refine (congrFun ((blk6_eq m c t).trans (V_w4 m c)) (ix2 k j)).trans ?_
  refine Eq.trans ?_ (slice_col m c 1152 (by omega) slices_S1024x6872_S1024x64_0_1152 k j)
  pointwise

theorem w5_row (t : Fin cfg0.N) (k : Fin 1024) (j : Fin 8) :
    blk m c 7 t (ix2 j k) = ws m c (ix2 k (Ref.col 1216 (by omega) j)) := by
  refine (congrFun ((blk7_eq m c t).trans (V_w5 m c)) (ix2 j k)).trans ?_
  refine Eq.trans ?_ (slice_col m c 1216 (by omega) slices_S1024x6872_S1024x8_0_1216 k j)
  pointwise

theorem w7_row (t : Fin cfg0.N) (k : Fin 1024) (j : Fin 512) :
    blk m c 9 t (ix2 k j) = ws m c (ix2 k (Ref.col 1224 (by omega) j)) := by
  refine (congrFun ((blk9_eq m c t).trans (V_w7 m c)) (ix2 k j)).trans ?_
  refine Eq.trans ?_ (slice_col m c 1224 (by omega) slices_S1024x6872_S1024x512_0_1224 k j)
  pointwise

theorem w8_row (t : Fin cfg0.N) (k : Fin 1024) (j : Fin 512) :
    blk m c 10 t (ix2 k j) = ws m c (ix2 k (Ref.col 1736 (by omega) j)) := by
  refine (congrFun ((blk10_eq m c t).trans (V_w8 m c)) (ix2 k j)).trans ?_
  refine Eq.trans ?_ (slice_col m c 1736 (by omega) slices_S1024x6872_S1024x512_0_1736 k j)
  pointwise

theorem w9_row (t : Fin cfg0.N) (k : Fin 1024) (j : Fin 512) :
    blk m c 11 t (ix2 k j) = ws m c (ix2 k (Ref.col 2248 (by omega) j)) := by
  refine (congrFun ((blk11_eq m c t).trans (V_w9 m c)) (ix2 k j)).trans ?_
  refine Eq.trans ?_ (slice_col m c 2248 (by omega) slices_S1024x6872_S1024x512_0_2248 k j)
  pointwise

theorem w10_row (t : Fin cfg0.N) (k : Fin 1024) (j : Fin 1024) :
    blk m c 12 t (ix2 k j) = ws m c (ix2 k (Ref.col 2760 (by omega) j)) := by
  refine (congrFun ((blk12_eq m c t).trans (V_w10 m c)) (ix2 k j)).trans ?_
  refine Eq.trans ?_ (slice_col m c 2760 (by omega) slices_S1024x6872_S1024x1024_0_2760 k j)
  pointwise

theorem w11_row (t : Fin cfg0.N) (k : Fin 1024) (j : Fin 1024) :
    blk m c 13 t (ix2 k j) = ws m c (ix2 k (Ref.col 3800 (by omega) j)) := by
  refine (congrFun ((blk13_eq m c t).trans (V_w11 m c)) (ix2 k j)).trans ?_
  refine Eq.trans ?_ (slice_col m c 3800 (by omega) slices_S1024x6872_S1024x1024_0_3800 k j)
  pointwise

theorem w12_row (t : Fin cfg0.N) (k : Fin 1024) (j : Fin 1024) :
    blk m c 14 t (ix2 k j) = ws m c (ix2 k (Ref.col 4824 (by omega) j)) := by
  refine (congrFun ((blk14_eq m c t).trans (V_w12 m c)) (ix2 k j)).trans ?_
  refine Eq.trans ?_ (slice_col m c 4824 (by omega) slices_S1024x6872_S1024x1024_0_4824 k j)
  pointwise

theorem w13_row (t : Fin cfg0.N) (k : Fin 1024) (j : Fin 1024) :
    blk m c 15 t (ix2 k j) = ws m c (ix2 k (Ref.col 5848 (by omega) j)) := by
  refine (congrFun ((blk15_eq m c t).trans (V_w13 m c)) (ix2 k j)).trans ?_
  refine Eq.trans ?_ (slice_col m c 5848 (by omega) slices_S1024x6872_S1024x1024_0_5848 k j)
  pointwise

theorem w6_row (t : Fin cfg0.N) (k : Fin 1024) (j : Fin 128) : blk m c 8 t (ix2 k j)
    = if h : j.val < 16 then ws m c (ix2 k (Ref.col 3784 (by omega) (⟨j.val, h⟩ : Fin 16))) else 0 := by
  refine (congrFun ((blk8_eq m c t).trans (V_w6 m c)) (ix2 k j)).trans ?_
  split
  · rename_i h
    refine Eq.trans ?_ (slice_col m c 3784 (by omega) slices_S1024x6872_S1024x16_0_3784 k ⟨j.val, h⟩)
    refine concatenate_pair_apply_left (s₁ := S1024x16) (s₂ := S1024x112) (t := S1024x128) 1 _ _
      concatenates_S1024x16_S1024x112_S1024x128_d1 (ix2 k j) rfl (ix2 k (⟨j.val, h⟩ : Fin 16)) fun b => ?_
    match b with
    | ⟨0, _⟩ => rfl
    | ⟨1, _⟩ => rfl
  · rename_i h
    refine Eq.trans (concatenate_pair_apply_right (s₁ := S1024x16) (s₂ := S1024x112) (t := S1024x128) 1 _ _
      concatenates_S1024x16_S1024x112_S1024x128_d1 (ix2 k j) rfl rfl
      (ix2 k (⟨j.val - 16, by omega⟩ : Fin 112)) ?_ ?_) ?_
    · intro b hb
      match b with
      | ⟨0, _⟩ => rfl
      | ⟨1, _⟩ => exact absurd rfl hb
    · show j.val - 16 + 16 = j.val
      omega
    · pointwise

/-- Nothing times a column of zeros. -/
theorem cell_zero (x g : Fin 1024 → EReal) : cell x g (fun _ => 0) = 0 := by
  unfold cell; exact Finset.sum_eq_zero fun k _ => mul_zero _

/-! ## The results -/

theorem flushed0 (t : Fin cfg0.N) : (dats m 0 c).flushed 16 t
    = ((cfg0.win 16).blk t).view.read (Elt Ideal) (Ref.out0 (xs m c) (gs m c) (ws m c)) := by
  show (cfg0.win 16).cut (grid0.coords t) ((dats m 0 c).after 16 t) = _
  rw [after16]
  funext y
  show left0 (blk m c 0 t) (blk m c 1 t) (blk m c 2 t) y
    = (Ref.out0 (xs m c) (gs m c) (ws m c) : Vec Ideal S512x65536 .bf16) (((cfg0.win 16).blk t).view.emb y)
  obtain ⟨r, j, rfl⟩ : ∃ (r : Fin 256) (j : Fin 512), y = ix2 j r := ⟨y 1, y 0, eq_ix2 y⟩
  rw [emb16, left0_row, Ref.out0_row]
  simp only [blk0_row, blk1_row, w0_row]

theorem covered0 (i : S512x65536.Idx) : ∃ t : Fin cfg0.N, (cfg0.win 16).flush t = true ∧ i ∈ ((cfg0.win 16).blk t).view.set := by
  have hi : (i 1).val < 65536 := (i 1).isLt
  have hN : cfg0.N = 256 := rfl
  let t : Fin cfg0.N := ⟨(i 1).val / 256, by omega⟩
  let r : Fin 256 := ⟨(i 1).val % 256, by omega⟩
  have e : ((cfg0.win 16).blk t).view.emb (ix2 (i 0 : Fin 512) r) = i := by
    refine (emb16 t r (i 0)).trans ?_
    funext a; apply Fin.ext
    match a with
    | ⟨0, _⟩ => rfl
    | ⟨1, _⟩ => show 256 * ((i 1).val / 256) + (i 1).val % 256 = (i 1).val; omega
  have h := ((cfg0.win 16).blk t).view.emb_mem_set (ix2 (i 0 : Fin 512) r)
  exact ⟨t, flush0_16 _, e ▸ h⟩

/-- Result 0 after the run. -/
theorem final0 : (dats m 0 c).arrAt 16 cfg0.N = Ref.out0 (xs m c) (gs m c) (ws m c) :=
  (dats m 0 c).arrAt_eq_of_cover 16 (Ref.out0 (xs m c) (gs m c) (ws m c)) (fun t _ => flushed0 m c t) covered0

theorem flushed1 (t : Fin cfg0.N) : (dats m 0 c).flushed 17 t
    = ((cfg0.win 17).blk t).view.read (Elt Ideal) (Ref.out1 (xs m c) (gs m c) (ws m c)) := by
  show (cfg0.win 17).cut (grid0.coords t) ((dats m 0 c).after 17 t) = _
  rw [after17]
  funext y
  show left1 (blk m c 0 t) (blk m c 1 t) (blk m c 3 t) y
    = (Ref.out1 (xs m c) (gs m c) (ws m c) : Vec Ideal S65536x64 .bf16) (((cfg0.win 17).blk t).view.emb y)
  obtain ⟨r, j, rfl⟩ : ∃ (r : Fin 256) (j : Fin 64), y = ix2 r j := ⟨y 0, y 1, eq_ix2 y⟩
  rw [emb17, left1_row, Ref.out1_row]
  simp only [blk0_row, blk1_row, w1_row]

theorem covered1 (i : S65536x64.Idx) : ∃ t : Fin cfg0.N, (cfg0.win 17).flush t = true ∧ i ∈ ((cfg0.win 17).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 17).blk t).view.emb (ix2 r (i 1 : Fin 64)) = i := by
    refine (emb17 t r (i 1)).trans ?_
    funext a; apply Fin.ext
    match a with
    | ⟨0, _⟩ => show 256 * ((i 0).val / 256) + (i 0).val % 256 = (i 0).val; omega
    | ⟨1, _⟩ => rfl
  have h := ((cfg0.win 17).blk t).view.emb_mem_set (ix2 r (i 1 : Fin 64))
  exact ⟨t, flush0_17 _, e ▸ h⟩

/-- Result 1 after the run. -/
theorem final1 : (dats m 0 c).arrAt 17 cfg0.N = Ref.out1 (xs m c) (gs m c) (ws m c) :=
  (dats m 0 c).arrAt_eq_of_cover 17 (Ref.out1 (xs m c) (gs m c) (ws m c)) (fun t _ => flushed1 m c t) covered1

theorem flushed2 (t : Fin cfg0.N) : (dats m 0 c).flushed 18 t
    = ((cfg0.win 18).blk t).view.read (Elt Ideal) (Ref.out2 (xs m c) (gs m c) (ws m c)) := by
  show (cfg0.win 18).cut (grid0.coords t) ((dats m 0 c).after 18 t) = _
  rw [after18]
  funext y
  show left2 (blk m c 0 t) (blk m c 1 t) (blk m c 4 t) y
    = (Ref.out2 (xs m c) (gs m c) (ws m c) : Vec Ideal S64x65536 .bf16) (((cfg0.win 18).blk t).view.emb y)
  obtain ⟨r, j, rfl⟩ : ∃ (r : Fin 256) (j : Fin 64), y = ix2 j r := ⟨y 1, y 0, eq_ix2 y⟩
  rw [emb18, left2_row, Ref.out2_row]
  simp only [blk0_row, blk1_row, w2_row]

theorem covered2 (i : S64x65536.Idx) : ∃ t : Fin cfg0.N, (cfg0.win 18).flush t = true ∧ i ∈ ((cfg0.win 18).blk t).view.set := by
  have hi : (i 1).val < 65536 := (i 1).isLt
  have hN : cfg0.N = 256 := rfl
  let t : Fin cfg0.N := ⟨(i 1).val / 256, by omega⟩
  let r : Fin 256 := ⟨(i 1).val % 256, by omega⟩
  have e : ((cfg0.win 18).blk t).view.emb (ix2 (i 0 : Fin 64) r) = i := by
    refine (emb18 t r (i 0)).trans ?_
    funext a; apply Fin.ext
    match a with
    | ⟨0, _⟩ => rfl
    | ⟨1, _⟩ => show 256 * ((i 1).val / 256) + (i 1).val % 256 = (i 1).val; omega
  have h := ((cfg0.win 18).blk t).view.emb_mem_set (ix2 (i 0 : Fin 64) r)
  exact ⟨t, flush0_18 _, e ▸ h⟩

/-- Result 2 after the run. -/
theorem final2 : (dats m 0 c).arrAt 18 cfg0.N = Ref.out2 (xs m c) (gs m c) (ws m c) :=
  (dats m 0 c).arrAt_eq_of_cover 18 (Ref.out2 (xs m c) (gs m c) (ws m c)) (fun t _ => flushed2 m c t) covered2

theorem flushed3 (t : Fin cfg0.N) : (dats m 0 c).flushed 19 t
    = ((cfg0.win 19).blk t).view.read (Elt Ideal) (Ref.out3 (xs m c) (gs m c) (ws m c)) := by
  show (cfg0.win 19).cut (grid0.coords t) ((dats m 0 c).after 19 t) = _
  rw [after19]
  funext y
  show left3 (blk m c 0 t) (blk m c 1 t) (blk m c 5 t) y
    = (Ref.out3 (xs m c) (gs m c) (ws m c) : Vec Ideal S512x65536 .bf16) (((cfg0.win 19).blk t).view.emb y)
  obtain ⟨r, j, rfl⟩ : ∃ (r : Fin 256) (j : Fin 512), y = ix2 j r := ⟨y 1, y 0, eq_ix2 y⟩
  rw [emb19, left3_row, Ref.out3_row]
  simp only [blk0_row, blk1_row, w3_row]

theorem covered3 (i : S512x65536.Idx) : ∃ t : Fin cfg0.N, (cfg0.win 19).flush t = true ∧ i ∈ ((cfg0.win 19).blk t).view.set := by
  have hi : (i 1).val < 65536 := (i 1).isLt
  have hN : cfg0.N = 256 := rfl
  let t : Fin cfg0.N := ⟨(i 1).val / 256, by omega⟩
  let r : Fin 256 := ⟨(i 1).val % 256, by omega⟩
  have e : ((cfg0.win 19).blk t).view.emb (ix2 (i 0 : Fin 512) r) = i := by
    refine (emb19 t r (i 0)).trans ?_
    funext a; apply Fin.ext
    match a with
    | ⟨0, _⟩ => rfl
    | ⟨1, _⟩ => show 256 * ((i 1).val / 256) + (i 1).val % 256 = (i 1).val; omega
  have h := ((cfg0.win 19).blk t).view.emb_mem_set (ix2 (i 0 : Fin 512) r)
  exact ⟨t, flush0_19 _, e ▸ h⟩

/-- Result 3 after the run. -/
theorem final3 : (dats m 0 c).arrAt 19 cfg0.N = Ref.out3 (xs m c) (gs m c) (ws m c) :=
  (dats m 0 c).arrAt_eq_of_cover 19 (Ref.out3 (xs m c) (gs m c) (ws m c)) (fun t _ => flushed3 m c t) covered3

theorem flushed4 (t : Fin cfg0.N) : (dats m 0 c).flushed 20 t
    = ((cfg0.win 20).blk t).view.read (Elt Ideal) (Ref.out4 (xs m c) (gs m c) (ws m c)) := by
  show (cfg0.win 20).cut (grid0.coords t) ((dats m 0 c).after 20 t) = _
  rw [after20]
  funext y
  show left4 (blk m c 0 t) (blk m c 1 t) (blk m c 6 t) y
    = (Ref.out4 (xs m c) (gs m c) (ws m c) : Vec Ideal S65536x64 .bf16) (((cfg0.win 20).blk t).view.emb y)
  obtain ⟨r, j, rfl⟩ : ∃ (r : Fin 256) (j : Fin 64), y = ix2 r j := ⟨y 0, y 1, eq_ix2 y⟩
  rw [emb20, left4_row, Ref.out4_row]
  simp only [blk0_row, blk1_row, w4_row]

theorem covered4 (i : S65536x64.Idx) : ∃ t : Fin cfg0.N, (cfg0.win 20).flush t = true ∧ i ∈ ((cfg0.win 20).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 20).blk t).view.emb (ix2 r (i 1 : Fin 64)) = i := by
    refine (emb20 t r (i 1)).trans ?_
    funext a; apply Fin.ext
    match a with
    | ⟨0, _⟩ => show 256 * ((i 0).val / 256) + (i 0).val % 256 = (i 0).val; omega
    | ⟨1, _⟩ => rfl
  have h := ((cfg0.win 20).blk t).view.emb_mem_set (ix2 r (i 1 : Fin 64))
  exact ⟨t, flush0_20 _, e ▸ h⟩

/-- Result 4 after the run. -/
theorem final4 : (dats m 0 c).arrAt 20 cfg0.N = Ref.out4 (xs m c) (gs m c) (ws m c) :=
  (dats m 0 c).arrAt_eq_of_cover 20 (Ref.out4 (xs m c) (gs m c) (ws m c)) (fun t _ => flushed4 m c t) covered4

theorem flushed5 (t : Fin cfg0.N) : (dats m 0 c).flushed 21 t
    = ((cfg0.win 21).blk t).view.read (Elt Ideal) (Ref.out5 (xs m c) (gs m c) (ws m c)) := by
  show (cfg0.win 21).cut (grid0.coords t) ((dats m 0 c).after 21 t) = _
  rw [after21]
  funext y
  show left5 (blk m c 0 t) (blk m c 1 t) (blk m c 7 t) y
    = (Ref.out5 (xs m c) (gs m c) (ws m c) : Vec Ideal S8x65536 .f32) (((cfg0.win 21).blk t).view.emb y)
  obtain ⟨r, j, rfl⟩ : ∃ (r : Fin 256) (j : Fin 8), y = ix2 j r := ⟨y 1, y 0, eq_ix2 y⟩
  rw [emb21, left5_row, Ref.out5_row]
  simp only [blk0_row, blk1_row, w5_row]

theorem covered5 (i : S8x65536.Idx) : ∃ t : Fin cfg0.N, (cfg0.win 21).flush t = true ∧ i ∈ ((cfg0.win 21).blk t).view.set := by
  have hi : (i 1).val < 65536 := (i 1).isLt
  have hN : cfg0.N = 256 := rfl
  let t : Fin cfg0.N := ⟨(i 1).val / 256, by omega⟩
  let r : Fin 256 := ⟨(i 1).val % 256, by omega⟩
  have e : ((cfg0.win 21).blk t).view.emb (ix2 (i 0 : Fin 8) r) = i := by
    refine (emb21 t r (i 0)).trans ?_
    funext a; apply Fin.ext
    match a with
    | ⟨0, _⟩ => rfl
    | ⟨1, _⟩ => show 256 * ((i 1).val / 256) + (i 1).val % 256 = (i 1).val; omega
  have h := ((cfg0.win 21).blk t).view.emb_mem_set (ix2 (i 0 : Fin 8) r)
  exact ⟨t, flush0_21 _, e ▸ h⟩

/-- Result 5 after the run. -/
theorem final5 : (dats m 0 c).arrAt 21 cfg0.N = Ref.out5 (xs m c) (gs m c) (ws m c) :=
  (dats m 0 c).arrAt_eq_of_cover 21 (Ref.out5 (xs m c) (gs m c) (ws m c)) (fun t _ => flushed5 m c t) covered5

theorem flushed6 (t : Fin cfg0.N) : (dats m 0 c).flushed 22 t
    = ((cfg0.win 22).blk t).view.read (Elt Ideal) (Ref.out6 (xs m c) (gs m c) (ws m c)) := by
  show (cfg0.win 22).cut (grid0.coords t) ((dats m 0 c).after 22 t) = _
  rw [after22]
  funext y
  show left6 (blk m c 0 t) (blk m c 1 t) (blk m c 8 t) y
    = (Ref.out6 (xs m c) (gs m c) (ws m c) : Vec Ideal S65536x128 .f32) (((cfg0.win 22).blk t).view.emb y)
  obtain ⟨r, j, rfl⟩ : ∃ (r : Fin 256) (j : Fin 128), y = ix2 r j := ⟨y 0, y 1, eq_ix2 y⟩
  rw [emb22, left6_row, Ref.out6_row]
  simp only [blk0_row, blk1_row, w6_row]
  by_cases h : j.val < 16
  · simp only [h, dif_pos]
  · simp only [h, dif_neg, not_false_eq_true]
    exact cell_zero _ _

theorem covered6 (i : S65536x128.Idx) : ∃ t : Fin cfg0.N, (cfg0.win 22).flush t = true ∧ i ∈ ((cfg0.win 22).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 22).blk t).view.emb (ix2 r (i 1 : Fin 128)) = i := by
    refine (emb22 t r (i 1)).trans ?_
    funext a; apply Fin.ext
    match a with
    | ⟨0, _⟩ => show 256 * ((i 0).val / 256) + (i 0).val % 256 = (i 0).val; omega
    | ⟨1, _⟩ => rfl
  have h := ((cfg0.win 22).blk t).view.emb_mem_set (ix2 r (i 1 : Fin 128))
  exact ⟨t, flush0_22 _, e ▸ h⟩

/-- Result 6 after the run. -/
theorem final6 : (dats m 0 c).arrAt 22 cfg0.N = Ref.out6 (xs m c) (gs m c) (ws m c) :=
  (dats m 0 c).arrAt_eq_of_cover 22 (Ref.out6 (xs m c) (gs m c) (ws m c)) (fun t _ => flushed6 m c t) covered6

theorem flushed7 (t : Fin cfg0.N) : (dats m 0 c).flushed 23 t
    = ((cfg0.win 23).blk t).view.read (Elt Ideal) (Ref.out7 (xs m c) (gs m c) (ws m c)) := by
  show (cfg0.win 23).cut (grid0.coords t) ((dats m 0 c).after 23 t) = _
  rw [after23]
  funext y
  show left7 (blk m c 0 t) (blk m c 1 t) (blk m c 9 t) y
    = (Ref.out7 (xs m c) (gs m c) (ws m c) : Vec Ideal S65536x512 .f32) (((cfg0.win 23).blk t).view.emb y)
  obtain ⟨r, j, rfl⟩ : ∃ (r : Fin 256) (j : Fin 512), y = ix2 r j := ⟨y 0, y 1, eq_ix2 y⟩
  rw [emb23, left7_row, Ref.out7_row]
  simp only [blk0_row, blk1_row, w7_row]

theorem covered7 (i : S65536x512.Idx) : ∃ t : Fin cfg0.N, (cfg0.win 23).flush t = true ∧ i ∈ ((cfg0.win 23).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 23).blk t).view.emb (ix2 r (i 1 : Fin 512)) = i := by
    refine (emb23 t r (i 1)).trans ?_
    funext a; apply Fin.ext
    match a with
    | ⟨0, _⟩ => show 256 * ((i 0).val / 256) + (i 0).val % 256 = (i 0).val; omega
    | ⟨1, _⟩ => rfl
  have h := ((cfg0.win 23).blk t).view.emb_mem_set (ix2 r (i 1 : Fin 512))
  exact ⟨t, flush0_23 _, e ▸ h⟩

/-- Result 7 after the run. -/
theorem final7 : (dats m 0 c).arrAt 23 cfg0.N = Ref.out7 (xs m c) (gs m c) (ws m c) :=
  (dats m 0 c).arrAt_eq_of_cover 23 (Ref.out7 (xs m c) (gs m c) (ws m c)) (fun t _ => flushed7 m c t) covered7

theorem flushed8 (t : Fin cfg0.N) : (dats m 0 c).flushed 24 t
    = ((cfg0.win 24).blk t).view.read (Elt Ideal) (Ref.out8 (xs m c) (gs m c) (ws m c)) := by
  show (cfg0.win 24).cut (grid0.coords t) ((dats m 0 c).after 24 t) = _
  rw [after24]
  funext y
  show left8 (blk m c 0 t) (blk m c 1 t) (blk m c 10 t) y
    = (Ref.out8 (xs m c) (gs m c) (ws m c) : Vec Ideal S65536x512 .f32) (((cfg0.win 24).blk t).view.emb y)
  obtain ⟨r, j, rfl⟩ : ∃ (r : Fin 256) (j : Fin 512), y = ix2 r j := ⟨y 0, y 1, eq_ix2 y⟩
  rw [emb24, left8_row, Ref.out8_row]
  simp only [blk0_row, blk1_row, w8_row]

theorem covered8 (i : S65536x512.Idx) : ∃ t : Fin cfg0.N, (cfg0.win 24).flush t = true ∧ i ∈ ((cfg0.win 24).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 24).blk t).view.emb (ix2 r (i 1 : Fin 512)) = i := by
    refine (emb24 t r (i 1)).trans ?_
    funext a; apply Fin.ext
    match a with
    | ⟨0, _⟩ => show 256 * ((i 0).val / 256) + (i 0).val % 256 = (i 0).val; omega
    | ⟨1, _⟩ => rfl
  have h := ((cfg0.win 24).blk t).view.emb_mem_set (ix2 r (i 1 : Fin 512))
  exact ⟨t, flush0_24 _, e ▸ h⟩

/-- Result 8 after the run. -/
theorem final8 : (dats m 0 c).arrAt 24 cfg0.N = Ref.out8 (xs m c) (gs m c) (ws m c) :=
  (dats m 0 c).arrAt_eq_of_cover 24 (Ref.out8 (xs m c) (gs m c) (ws m c)) (fun t _ => flushed8 m c t) covered8

theorem flushed9 (t : Fin cfg0.N) : (dats m 0 c).flushed 25 t
    = ((cfg0.win 25).blk t).view.read (Elt Ideal) (Ref.out9 (xs m c) (gs m c) (ws m c)) := by
  show (cfg0.win 25).cut (grid0.coords t) ((dats m 0 c).after 25 t) = _
  rw [after25]
  funext y
  show left9 (blk m c 0 t) (blk m c 1 t) (blk m c 11 t) y
    = (Ref.out9 (xs m c) (gs m c) (ws m c) : Vec Ideal S65536x512 .f32) (((cfg0.win 25).blk t).view.emb y)
  obtain ⟨r, j, rfl⟩ : ∃ (r : Fin 256) (j : Fin 512), y = ix2 r j := ⟨y 0, y 1, eq_ix2 y⟩
  rw [emb25, left9_row, Ref.out9_row]
  simp only [blk0_row, blk1_row, w9_row]

theorem covered9 (i : S65536x512.Idx) : ∃ t : Fin cfg0.N, (cfg0.win 25).flush t = true ∧ i ∈ ((cfg0.win 25).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 25).blk t).view.emb (ix2 r (i 1 : Fin 512)) = i := by
    refine (emb25 t r (i 1)).trans ?_
    funext a; apply Fin.ext
    match a with
    | ⟨0, _⟩ => show 256 * ((i 0).val / 256) + (i 0).val % 256 = (i 0).val; omega
    | ⟨1, _⟩ => rfl
  have h := ((cfg0.win 25).blk t).view.emb_mem_set (ix2 r (i 1 : Fin 512))
  exact ⟨t, flush0_25 _, e ▸ h⟩

/-- Result 9 after the run. -/
theorem final9 : (dats m 0 c).arrAt 25 cfg0.N = Ref.out9 (xs m c) (gs m c) (ws m c) :=
  (dats m 0 c).arrAt_eq_of_cover 25 (Ref.out9 (xs m c) (gs m c) (ws m c)) (fun t _ => flushed9 m c t) covered9

theorem flushed10 (t : Fin cfg0.N) : (dats m 0 c).flushed 26 t
    = ((cfg0.win 26).blk t).view.read (Elt Ideal) (Ref.out10 (xs m c) (gs m c) (ws m c)) := by
  show (cfg0.win 26).cut (grid0.coords t) ((dats m 0 c).after 26 t) = _
  rw [after26]
  funext y
  show left10 (blk m c 0 t) (blk m c 1 t) (blk m c 12 t) y
    = (Ref.out10 (xs m c) (gs m c) (ws m c) : Vec Ideal S65536x1024 .bf16) (((cfg0.win 26).blk t).view.emb y)
  obtain ⟨r, j, rfl⟩ : ∃ (r : Fin 256) (j : Fin 1024), y = ix2 r j := ⟨y 0, y 1, eq_ix2 y⟩
  rw [emb26, left10_row, Ref.out10_row]
  simp only [blk0_row, blk1_row, w10_row]

theorem covered10 (i : S65536x1024.Idx) : ∃ t : Fin cfg0.N, (cfg0.win 26).flush t = true ∧ i ∈ ((cfg0.win 26).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 26).blk t).view.emb (ix2 r (i 1 : Fin 1024)) = i := by
    refine (emb26 t r (i 1)).trans ?_
    funext a; apply Fin.ext
    match a with
    | ⟨0, _⟩ => show 256 * ((i 0).val / 256) + (i 0).val % 256 = (i 0).val; omega
    | ⟨1, _⟩ => rfl
  have h := ((cfg0.win 26).blk t).view.emb_mem_set (ix2 r (i 1 : Fin 1024))
  exact ⟨t, flush0_26 _, e ▸ h⟩

/-- Result 10 after the run. -/
theorem final10 : (dats m 0 c).arrAt 26 cfg0.N = Ref.out10 (xs m c) (gs m c) (ws m c) :=
  (dats m 0 c).arrAt_eq_of_cover 26 (Ref.out10 (xs m c) (gs m c) (ws m c)) (fun t _ => flushed10 m c t) covered10

theorem flushed11 (t : Fin cfg0.N) : (dats m 0 c).flushed 27 t
    = ((cfg0.win 27).blk t).view.read (Elt Ideal) (Ref.out11 (xs m c) (gs m c) (ws m c)) := by
  show (cfg0.win 27).cut (grid0.coords t) ((dats m 0 c).after 27 t) = _
  rw [after27]
  funext y
  show left11 (blk m c 0 t) (blk m c 1 t) (blk m c 13 t) y
    = (Ref.out11 (xs m c) (gs m c) (ws m c) : Vec Ideal S65536x1024 .f32) (((cfg0.win 27).blk t).view.emb y)
  obtain ⟨r, j, rfl⟩ : ∃ (r : Fin 256) (j : Fin 1024), y = ix2 r j := ⟨y 0, y 1, eq_ix2 y⟩
  rw [emb27, left11_row, Ref.out11_row]
  simp only [blk0_row, blk1_row, w11_row]

theorem covered11 (i : S65536x1024.Idx) : ∃ t : Fin cfg0.N, (cfg0.win 27).flush t = true ∧ i ∈ ((cfg0.win 27).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 27).blk t).view.emb (ix2 r (i 1 : Fin 1024)) = i := by
    refine (emb27 t r (i 1)).trans ?_
    funext a; apply Fin.ext
    match a with
    | ⟨0, _⟩ => show 256 * ((i 0).val / 256) + (i 0).val % 256 = (i 0).val; omega
    | ⟨1, _⟩ => rfl
  have h := ((cfg0.win 27).blk t).view.emb_mem_set (ix2 r (i 1 : Fin 1024))
  exact ⟨t, flush0_27 _, e ▸ h⟩

/-- Result 11 after the run. -/
theorem final11 : (dats m 0 c).arrAt 27 cfg0.N = Ref.out11 (xs m c) (gs m c) (ws m c) :=
  (dats m 0 c).arrAt_eq_of_cover 27 (Ref.out11 (xs m c) (gs m c) (ws m c)) (fun t _ => flushed11 m c t) covered11

theorem flushed12 (t : Fin cfg0.N) : (dats m 0 c).flushed 28 t
    = ((cfg0.win 28).blk t).view.read (Elt Ideal) (Ref.out12 (xs m c) (gs m c) (ws m c)) := by
  show (cfg0.win 28).cut (grid0.coords t) ((dats m 0 c).after 28 t) = _
  rw [after28]
  funext y
  show left12 (blk m c 0 t) (blk m c 1 t) (blk m c 14 t) y
    = (Ref.out12 (xs m c) (gs m c) (ws m c) : Vec Ideal S65536x1024 .f32) (((cfg0.win 28).blk t).view.emb y)
  obtain ⟨r, j, rfl⟩ : ∃ (r : Fin 256) (j : Fin 1024), y = ix2 r j := ⟨y 0, y 1, eq_ix2 y⟩
  rw [emb28, left12_row, Ref.out12_row]
  simp only [blk0_row, blk1_row, w12_row]

theorem covered12 (i : S65536x1024.Idx) : ∃ t : Fin cfg0.N, (cfg0.win 28).flush t = true ∧ i ∈ ((cfg0.win 28).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 28).blk t).view.emb (ix2 r (i 1 : Fin 1024)) = i := by
    refine (emb28 t r (i 1)).trans ?_
    funext a; apply Fin.ext
    match a with
    | ⟨0, _⟩ => show 256 * ((i 0).val / 256) + (i 0).val % 256 = (i 0).val; omega
    | ⟨1, _⟩ => rfl
  have h := ((cfg0.win 28).blk t).view.emb_mem_set (ix2 r (i 1 : Fin 1024))
  exact ⟨t, flush0_28 _, e ▸ h⟩

/-- Result 12 after the run. -/
theorem final12 : (dats m 0 c).arrAt 28 cfg0.N = Ref.out12 (xs m c) (gs m c) (ws m c) :=
  (dats m 0 c).arrAt_eq_of_cover 28 (Ref.out12 (xs m c) (gs m c) (ws m c)) (fun t _ => flushed12 m c t) covered12

theorem flushed13 (t : Fin cfg0.N) : (dats m 0 c).flushed 29 t
    = ((cfg0.win 29).blk t).view.read (Elt Ideal) (Ref.out13 (xs m c) (gs m c) (ws m c)) := by
  show (cfg0.win 29).cut (grid0.coords t) ((dats m 0 c).after 29 t) = _
  rw [after29]
  funext y
  show left13 (blk m c 0 t) (blk m c 1 t) (blk m c 15 t) y
    = (Ref.out13 (xs m c) (gs m c) (ws m c) : Vec Ideal S65536x1024 .f32) (((cfg0.win 29).blk t).view.emb y)
  obtain ⟨r, j, rfl⟩ : ∃ (r : Fin 256) (j : Fin 1024), y = ix2 r j := ⟨y 0, y 1, eq_ix2 y⟩
  rw [emb29, left13_row, Ref.out13_row]
  simp only [blk0_row, blk1_row, w13_row]

theorem covered13 (i : S65536x1024.Idx) : ∃ t : Fin cfg0.N, (cfg0.win 29).flush t = true ∧ i ∈ ((cfg0.win 29).blk t).view.set := by
  have hi : (i 0).val < 65536 := (i 0).isLt
  have hN : cfg0.N = 256 := rfl
  let t : Fin cfg0.N := ⟨(i 0).val / 256, by omega⟩
  let r : Fin 256 := ⟨(i 0).val % 256, by omega⟩
  have e : ((cfg0.win 29).blk t).view.emb (ix2 r (i 1 : Fin 1024)) = i := by
    refine (emb29 t r (i 1)).trans ?_
    funext a; apply Fin.ext
    match a with
    | ⟨0, _⟩ => show 256 * ((i 0).val / 256) + (i 0).val % 256 = (i 0).val; omega
    | ⟨1, _⟩ => rfl
  have h := ((cfg0.win 29).blk t).view.emb_mem_set (ix2 r (i 1 : Fin 1024))
  exact ⟨t, flush0_29 _, e ▸ h⟩

/-- Result 13 after the run. -/
theorem final13 : (dats m 0 c).arrAt 29 cfg0.N = Ref.out13 (xs m c) (gs m c) (ws m c) :=
  (dats m 0 c).arrAt_eq_of_cover 29 (Ref.out13 (xs m c) (gs m c) (ws m c)) (fun t _ => flushed13 m c t) covered13

end Cert.Proof.InProj

end
-- ==== Proof.InProj.Claim.lean ====
/- The projections' value claim: the two programs end with the same fourteen result arrays. -/
module

public import proofs.«01_k».proof.Defs
public import proofs.«01_k».proof.Proof.InProj.Value

@[expose] public section

noncomputable section

namespace Cert.Proof.InProj

open Idealize.ShloMosaic Idealize.ShloMosaic.TcCoe Idealize.SL.Sem

set_option maxRecDepth 8192 in
set_option maxHeartbeats 4000000 in
/-- From equal arguments both programs run, end with the same result arrays and leave their arguments as they were. -/
theorem algebraic : Cert.algebraic_InProjIdeal_InProjReferenceIdeal := by
  intro m g m' g' _ hag
  refine ⟨fun c => Ref.out0 (xs m c) (gs m c) (ws m c), fun c => Ref.out1 (xs m c) (gs m c) (ws m c), fun c => Ref.out2 (xs m c) (gs m c) (ws m c), fun c => Ref.out3 (xs m c) (gs m c) (ws m c), fun c => Ref.out4 (xs m c) (gs m c) (ws m c), fun c => Ref.out5 (xs m c) (gs m c) (ws m c), fun c => Ref.out6 (xs m c) (gs m c) (ws m c), fun c => Ref.out7 (xs m c) (gs m c) (ws m c), fun c => Ref.out8 (xs m c) (gs m c) (ws m c), fun c => Ref.out9 (xs m c) (gs m c) (ws m c), fun c => Ref.out10 (xs m c) (gs m c) (ws m c), fun c => Ref.out11 (xs m c) (gs m c) (ws m c), fun c => Ref.out12 (xs m c) (gs m c) (ws m c), fun c => Ref.out13 (xs m c) (gs m c) (ws m c), ?_, ?_⟩
  · refine (θ_run _ _ _).mono (fun r h c => ?_) (run m g)
    obtain ⟨h0, h1, h2, h3, h4, h5, h6, h7, h8, h9, h10, h11, h12, h13, ha⟩ := h c
    exact ⟨h0.trans (final0 m c), h1.trans (final1 m c), h2.trans (final2 m c), h3.trans (final3 m c), h4.trans (final4 m c), h5.trans (final5 m c), h6.trans (final6 m c), h7.trans (final7 m c), h8.trans (final8 m c), h9.trans (final9 m c), h10.trans (final10 m c), h11.trans (final11 m c), h12.trans (final12 m c), h13.trans (final13 m c), ha⟩
  · refine (θ_run _ _ _).mono (fun r h c => ?_) (Cert.InProjReferenceIdeal.Value.run m' g')
    obtain ⟨h0, h1, h2, h3, h4, h5, h6, h7, h8, h9, h10, h11, h12, h13, ha⟩ := h c
    obtain ⟨e0, e1, e2⟩ := hag c
    rw [e0, e1, e2] at h0 h1 h2 h3 h4 h5 h6 h7 h8 h9 h10 h11 h12 h13
    exact ⟨h0, h1, h2, h3, h4, h5, h6, h7, h8, h9, h10, h11, h12, h13, ha⟩

end Cert.Proof.InProj

end
-- ==== Proof.Merge.Block.lean ====
/- The merge's block: what the kernel's body leaves in its output block, at a row and a column, from that row of the input
   blocks. -/
module

public import proofs.«01_k».proof.Proof.Merge.Rows
public import Idealize.ShloMosaic.Lib.Pipeline.Value

@[expose] public section

noncomputable section

namespace Cert.Proof.Merge

open Cert.MergeIdeal Cert.MergeIdeal.Gen Idealize.ShloMosaic

/-- The literal zero offsets are the zero offsets. -/
theorem hz : (![0, 0] : Fin 2 → Nat) = fun _ => 0 := funext fun a => by fin_cases a <;> rfl

/-- Row `r` of the upper half of a block of 512 rows. -/
def top (r : Fin 256) : Fin 512 := ⟨r.val, by omega⟩
/-- Row `r` of the lower half. -/
def low (r : Fin 256) : Fin 512 := ⟨256 + r.val, by omega⟩

/-! ## Loads of a half -/

theorem ld_top {n : Nat} {e : EltTy} (x : Vec Ideal ⟨2, ![512, n]⟩ e)
    (inb : ∀ a, (![0, 0] : Fin 2 → Nat) a + (![256, n] : Fin 2 → Nat) a ≤ (![512, n] : Fin 2 → Nat) a) (r : Fin 256) (k : Fin n) :
    View.ld x (Rect.unit (s := ⟨2, ![512, n]⟩) ![0, 0] ![256, n] inb) (ix2 r k) = x (ix2 (top r) k) := by
  refine congrArg x (funext fun a => Fin.ext ?_)
  match a with
  | ⟨0, _⟩ => show 0 + 1 * r.val = r.val; omega
  | ⟨1, _⟩ => show 0 + 1 * k.val = k.val; omega

theorem ld_low {n : Nat} {e : EltTy} (x : Vec Ideal ⟨2, ![512, n]⟩ e)
    (inb : ∀ a, (![256, 0] : Fin 2 → Nat) a + (![256, n] : Fin 2 → Nat) a ≤ (![512, n] : Fin 2 → Nat) a) (r : Fin 256) (k : Fin n) :
    View.ld x (Rect.unit (s := ⟨2, ![512, n]⟩) ![256, 0] ![256, n] inb) (ix2 r k) = x (ix2 (low r) k) := by
  refine congrArg x (funext fun a => Fin.ext ?_)
  match a with
  | ⟨0, _⟩ => show 256 + 1 * r.val = 256 + r.val; omega
  | ⟨1, _⟩ => show 0 + 1 * k.val = k.val; omega

/-- The upper half of a block of 512 rows. -/
def upper {n : Nat} {e : EltTy} (x : Vec Ideal ⟨2, ![512, n]⟩ e) : Vec Ideal ⟨2, ![256, n]⟩ e := fun y => x (ix2 (top (y 0)) (y 1))
/-- The lower half. -/
def lower {n : Nat} {e : EltTy} (x : Vec Ideal ⟨2, ![512, n]⟩ e) : Vec Ideal ⟨2, ![256, n]⟩ e := fun y => x (ix2 (low (y 0)) (y 1))

theorem upper_row {n : Nat} {e : EltTy} (x : Vec Ideal ⟨2, ![512, n]⟩ e) (r : Fin 256) (k : Fin n) :
    upper x (ix2 r k) = x (ix2 (top r) k) := rfl
theorem lower_row {n : Nat} {e : EltTy} (x : Vec Ideal ⟨2, ![512, n]⟩ e) (r : Fin 256) (k : Fin n) :
    lower x (ix2 r k) = x (ix2 (low r) k) := rfl

section
variable {e : EltTy}

theorem ld0 (x : Vec Ideal S512x512 e) : View.ld x r0_0 = upper x :=
  funext fun y => (congrArg (View.ld x r0_0) (eq_ix2 y)).trans (ld_top x _ (y 0) (y 1))
theorem ld2 (x : Vec Ideal S512x512 e) : View.ld x r0_2 = lower x :=
  funext fun y => (congrArg (View.ld x r0_2) (eq_ix2 y)).trans (ld_low x _ (y 0) (y 1))
theorem ld3 (x : Vec Ideal S512x1024 e) : View.ld x r0_3 = upper x :=
  funext fun y => (congrArg (View.ld x r0_3) (eq_ix2 y)).trans (ld_top x _ (y 0) (y 1))
theorem ld5 (x : Vec Ideal S512x1024 e) : View.ld x r0_5 = lower x :=
  funext fun y => (congrArg (View.ld x r0_5) (eq_ix2 y)).trans (ld_low x _ (y 0) (y 1))
theorem ld7 (x : Vec Ideal S512x256 e) : View.ld x r0_7 = upper x :=
  funext fun y => (congrArg (View.ld x r0_7) (eq_ix2 y)).trans (ld_top x _ (y 0) (y 1))
theorem ld9 (x : Vec Ideal S512x256 e) : View.ld x r0_9 = lower x :=
  funext fun y => (congrArg (View.ld x r0_9) (eq_ix2 y)).trans (ld_low x _ (y 0) (y 1))

/-! ## Loads of a whole block -/

theorem ld1 (x : Vec Ideal S512x1024 e) : View.ld x r0_1 = x := View.ld_unit_zero hz _ x
theorem ld4 (x : Vec Ideal S1024x1024 e) : View.ld x r0_4 = x := View.ld_unit_zero hz _ x
theorem ld6 (x : Vec Ideal S1x1024 e) : View.ld x r0_6 = x := View.ld_unit_zero hz _ x
theorem ld8 (x : Vec Ideal S256x1024 e) : View.ld x r0_8 = x := View.ld_unit_zero hz _ x
end

/-- The block as one function of its row and column. -/
def blockOf (x0 : Vec Ideal S512x1024 .f32) (x1 : Vec Ideal S512x256 .f32) (x2 : Vec Ideal S512x512 .bf16)
    (x3 : Vec Ideal S512x1024 .bf16) (x4 x5 : Vec Ideal S512x1024 .f32) (x6 : Vec Ideal S512x1024 .bf16)
    (x7 x8 : Vec Ideal S1024x1024 .bf16) (x9 : Vec Ideal S1x1024 .f32) (x10 : Vec Ideal S256x1024 .bf16)
    (x11 : Vec Ideal S1024x1024 .bf16) (x12 x13 : Vec Ideal S1x1024 .f32) (y : S512x1024.Idx) : EReal :=
  row (fun k => x0 (ix2 (y 0) k)) (fun k => x1 (ix2 (y 0) k)) (fun k => x2 (ix2 (y 0) k)) (fun k => x3 (ix2 (y 0) k))
    (fun k => x4 (ix2 (y 0) k)) (fun k => x5 (ix2 (y 0) k)) (fun k c => x6 (ix2 k c)) (fun k c => x7 (ix2 k c))
    (fun k c => x8 (ix2 k c)) (fun k => x9 (ix2 0 k)) (fun k c => x10 (ix2 k c)) (fun k c => x11 (ix2 k c))
    (fun k => x12 (ix2 0 k)) (fun k => x13 (ix2 0 k)) (y 1)

theorem out_eq (x0 : Vec Ideal S512x1024 .f32) (x1 : Vec Ideal S512x256 .f32) (x2 : Vec Ideal S512x512 .bf16)
    (x3 : Vec Ideal S512x1024 .bf16) (x4 x5 : Vec Ideal S512x1024 .f32) (x6 : Vec Ideal S512x1024 .bf16)
    (x7 x8 : Vec Ideal S1024x1024 .bf16) (x9 : Vec Ideal S1x1024 .f32) (x10 : Vec Ideal S256x1024 .bf16)
    (x11 : Vec Ideal S1024x1024 .bf16) (x12 x13 : Vec Ideal S1x1024 .f32) :
    out0_14 x0 x1 x2 x3 x4 x5 x6 x7 x8 x9 x10 x11 x12 x13 = blockOf x0 x1 x2 x3 x4 x5 x6 x7 x8 x9 x10 x11 x12 x13 := by
  funext y
  unfold out0_14
  refine View.canon_apply_of_pieces (Val := Elt Ideal) (blockOf x0 x1 x2 x3 x4 x5 x6 x7 x8 x9 x10 x11 x12 x13) _ ?_ y (cover0_14 _ _ y)
  intro p hp x
  simp only [List.mem_cons, List.not_mem_nil, or_false] at hp
  rcases hp with rfl | rfl
  · obtain ⟨r, j, rfl⟩ : ∃ (r : Fin 256) (j : Fin 1024), x = ix2 r j := ⟨x 0, x 1, eq_ix2 x⟩
    have e0 : (r0_5.emb (ix2 r j) : S512x1024.Idx) 0 = low r := Fin.ext (show 256 + 1 * r.val = 256 + r.val by omega)
    have e1 : (r0_5.emb (ix2 r j) : S512x1024.Idx) 1 = j := Fin.ext (show 0 + 1 * j.val = j.val by omega)
    unfold blockOf
    rw [e0, e1]
    simp only [row, pay20_row, pay15_row, pay17_row, pay18_row, k0_pay29, pay13_row, pay8_row, pay1_row, pay3_row,
      ld1, ld2, ld4, ld5, ld6, ld8, ld9, lower_row]
  · obtain ⟨r, j, rfl⟩ : ∃ (r : Fin 256) (j : Fin 1024), x = ix2 r j := ⟨x 0, x 1, eq_ix2 x⟩
    have e0 : (r0_3.emb (ix2 r j) : S512x1024.Idx) 0 = top r := Fin.ext (show 0 + 1 * r.val = r.val by omega)
    have e1 : (r0_3.emb (ix2 r j) : S512x1024.Idx) 1 = j := Fin.ext (show 0 + 1 * j.val = j.val by omega)
    unfold blockOf
    rw [e0, e1]
    have hq : ∀ r : Fin 256, k0_pay28 x0 x1 x2 x3 x4 x5 x6 x7 x8 x9 x10 x11 x12 x13 (ix1 r)
        = ∑ k : Fin 1024, k0_pay25 x0 x1 x2 x3 x4 x5 x6 x7 x8 x9 x10 x11 x12 x13 (ix2 r k)
            * k0_pay25 x0 x1 x2 x3 x4 x5 x6 x7 x8 x9 x10 x11 x12 x13 (ix2 r k) := fun r => pay11_row r ..
    have hu : ∀ (r : Fin 256) (k : Fin 1024), k0_pay25 x0 x1 x2 x3 x4 x5 x6 x7 x8 x9 x10 x11 x12 x13 (ix2 r k)
        = proj (mix (proj (fun k => x2 (ix2 (top r) k)) (fun k c => x6 (ix2 k c)))
            (proj (fun k => x3 (ix2 (top r) k)) (fun k c => x7 (ix2 k c))) (fun k => x4 (ix2 (top r) k))
            (fun k => x5 (ix2 (top r) k))) (fun k c => x8 (ix2 k c)) k := fun r k => by
      simp only [k0_pay25, k0_pay21, k0_pay22, k0_pay23, k0_pay24, pay7_row, pay2_row, pay4_row, pay5_row, pay6_row,
        ld0, ld1, ld3, ld4, upper_row]
      rfl
    simp only [row, pay19_row, pay16_row, pay14_row, pay12_row _ _ _ _ _ _ (hq _), hu, k0_pay26, k0_pay27, pay9_row, pay10_row,
      ld0, ld1, ld3, ld4, ld6, ld7, ld8, upper_row]

end Cert.Proof.Merge

end
-- ==== Proof.Merge.Reference.lean ====
/- The merge's reference, one row at a time: its result array's term cut into named arrays, and each of those read at a row
   and a column. -/
module

public import proofs.«01_k».proof.Proof.Merge.Rows
public import proofs.«01_k».proof.Proof.Gen.MergeReferenceIdeal.Run

@[expose] public section

noncomputable section

namespace Cert.Proof.Merge.Ref

open Cert.MergeReferenceIdeal Cert.MergeReferenceIdeal.Gen Cert.MergeReferenceIdeal.Value Idealize.ShloMosaic Idealize.ShloMosaic.TcCoe Idealize.SL.Sem
open Cert.Proof.Merge

/-! ## The named arrays -/

/-- The array of ones. -/
def ones : FVec Ideal S65536x1024 .f32 := broadcastInDim S65536x1024 ![] bcast_S_S65536x1024 (constant S_ .f32 0x3F800000#32)

/-- The logistic function of an array. -/
def sigT (x : FVec Ideal S65536x1024 .f32) : FVec Ideal S65536x1024 .f32 := Host.divf ones (addf ones (Host.exp (Host.negf x)))

/-- A square product. -/
def dotT (a : FVec Ideal S65536x1024 .f32) (w : FVec Ideal S1024x1024 .f32) : FVec Ideal S65536x1024 .f32 :=
  Host.dotGeneral dot_S65536x1024_S1024x1024_S65536x1024_1_0_0_1_n_n none a w

/-- The norm of an array's rows under a scale. -/
def normT (u : FVec Ideal S65536x1024 .f32) (g : FVec Ideal S1024 .f32) : FVec Ideal S65536x1024 .f32 :=
  mulf (mulf u (broadcastInDim S65536x1024 ![0, 1] bcast_S65536x1_S65536x1024_0_1 (Host.rsqrt (addf (Host.divf
      (broadcastInDim S65536x1 ![0] bcast_S65536_S65536x1_0
        (Host.reduceAdd (mulf u u) (constant S_ .f32 0x00000000#32) reducesTo_S65536x1024_S65536_d1 h_S_))
      (broadcastInDim S65536x1 ![] bcast_S_S65536x1 (constant S_ .f32 0x44800000#32)))
      (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The gated sum of the branches' projections. -/
def mixT (oa : FVec Ideal S65536x512 .bf16) (ob : FVec Ideal S65536x1024 .bf16) (ma mb : FVec Ideal S65536x1024 .f32)
    (wa : FVec Ideal S512x1024 .f32) (wb : FVec Ideal S1024x1024 .f32) : FVec Ideal S65536x1024 .f32 :=
  addf (mulf (sigT ma) (Host.dotGeneral dot_S65536x512_S512x1024_S65536x1024_1_0_0_1_n_n none (extf .f32 oa bitsLt_bf16_f32) wa))
    (mulf (sigT mb) (dotT (extf .f32 ob bitsLt_bf16_f32) wb))

/-- The stream after the merge. -/
def streamT (x u : FVec Ideal S65536x1024 .f32) (g : FVec Ideal S1024 .f32) : FVec Ideal S65536x1024 .f32 :=
  addf x (normT u g)

/-- The embedding's projection under its gate. -/
def gatedT (p : FVec Ideal S65536x256 .f32) (w : FVec Ideal S256x1024 .f32) (s : FVec Ideal S65536x1024 .f32) :
    FVec Ideal S65536x1024 .f32 :=
  mulf (Host.dotGeneral dot_S65536x256_S256x1024_S65536x1024_1_0_0_1_n_n none p w) (sigT s)

/-- The result array. -/
def outT (x : FVec Ideal S65536x1024 .f32) (p : FVec Ideal S65536x256 .f32) (oa : FVec Ideal S65536x512 .bf16)
    (ob : FVec Ideal S65536x1024 .bf16) (ma mb : FVec Ideal S65536x1024 .f32) (wa : FVec Ideal S512x1024 .f32)
    (wb wo : FVec Ideal S1024x1024 .f32) (gp : FVec Ideal S1024 .f32) (we : FVec Ideal S256x1024 .f32)
    (wg : FVec Ideal S1024x1024 .f32) (g₁ g₂ : FVec Ideal S1024 .f32) : FVec Ideal S65536x1024 .f32 :=
  streamT (streamT x (dotT (mixT oa ob ma mb wa wb) wo) gp)
    (gatedT p we (dotT (normT (streamT x (dotT (mixT oa ob ma mb wa wb) wo) gp) g₁) wg)) g₂

set_option maxRecDepth 8192 in
/-- The reference's result is that array of its arguments. -/
theorem res_eq (m : (ℓ : Loc nD τ sig) → Buf (Elt Ideal) ℓ) (c : Dev nD) :
    res_main_v71 m c = outT (shapeCast _ (m ((c.tc : Thread nD τ).loc main_arg0)) shapeCasts_S8x8192x1024_S65536x1024)
      (shapeCast _ (m ((c.tc : Thread nD τ).loc main_arg1)) shapeCasts_S8x8192x256_S65536x256)
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) (m ((c.tc : Thread nD τ).loc main_arg13)) := by
  unfold res_main_v71 outT streamT gatedT mixT normT dotT sigT ones
  rfl

/-! ## Each at a row and a column -/

variable (r : Fin 65536) (j : Fin 1024)

theorem sigT_row (x : FVec Ideal S65536x1024 .f32) : sigT x (ix2 r j) = logi (x (ix2 r j)) := by
  pointwise [sigT, ones, logi]

theorem dotT_row (a : FVec Ideal S65536x1024 .f32) (w : FVec Ideal S1024x1024 .f32) :
    dotT a w (ix2 r j) = proj (fun k => a (ix2 r k)) (fun k c => w (ix2 k c)) j := by
  pointwise [dotT, proj]

theorem normT_row (u : FVec Ideal S65536x1024 .f32) (g : FVec Ideal S1024 .f32) :
    normT u g (ix2 r j) = norm (fun k => u (ix2 r k)) (fun k => g (ix1 k)) j := by
  pointwise [normT, norm]

theorem mixT_row (oa : FVec Ideal S65536x512 .bf16) (ob : FVec Ideal S65536x1024 .bf16) (ma mb : FVec Ideal S65536x1024 .f32)
    (wa : FVec Ideal S512x1024 .f32) (wb : FVec Ideal S1024x1024 .f32) :
    mixT oa ob ma mb wa wb (ix2 r j) = mix (proj (fun k => oa (ix2 r k)) (fun k c => wa (ix2 k c)))
      (proj (fun k => ob (ix2 r k)) (fun k c => wb (ix2 k c))) (fun k => ma (ix2 r k)) (fun k => mb (ix2 r k)) j := by
  pointwise [mixT, dotT, sigT, ones, mix, proj, logi]

theorem streamT_row (x u : FVec Ideal S65536x1024 .f32) (g : FVec Ideal S1024 .f32) :
    streamT x u g (ix2 r j) = stream (fun k => x (ix2 r k)) (fun k => u (ix2 r k)) (fun k => g (ix1 k)) j :=
  congrArg (x (ix2 r j) + ·) (normT_row r j u g)

theorem gatedT_row (p : FVec Ideal S65536x256 .f32) (w : FVec Ideal S256x1024 .f32) (s : FVec Ideal S65536x1024 .f32) :
    gatedT p w s (ix2 r j) = gated (proj (fun k => p (ix2 r k)) (fun k c => w (ix2 k c))) (fun k => s (ix2 r k)) j := by
  pointwise [gatedT, sigT, ones, gated, proj, logi]

/-- The result array at a row and a column is the row's result at the column. -/
theorem outT_row (x : FVec Ideal S65536x1024 .f32) (p : FVec Ideal S65536x256 .f32) (oa : FVec Ideal S65536x512 .bf16)
    (ob : FVec Ideal S65536x1024 .bf16) (ma mb : FVec Ideal S65536x1024 .f32) (wa : FVec Ideal S512x1024 .f32)
    (wb wo : FVec Ideal S1024x1024 .f32) (gp : FVec Ideal S1024 .f32) (we : FVec Ideal S256x1024 .f32)
    (wg : FVec Ideal S1024x1024 .f32) (g₁ g₂ : FVec Ideal S1024 .f32) :
    outT x p oa ob ma mb wa wb wo gp we wg g₁ g₂ (ix2 r j)
      = row (fun k => x (ix2 r k)) (fun k => p (ix2 r k)) (fun k => oa (ix2 r k)) (fun k => ob (ix2 r k))
          (fun k => ma (ix2 r k)) (fun k => mb (ix2 r k)) (fun k c => wa (ix2 k c)) (fun k c => wb (ix2 k c))
          (fun k c => wo (ix2 k c)) (fun k => gp (ix1 k)) (fun k c => we (ix2 k c)) (fun k c => wg (ix2 k c))
          (fun k => g₁ (ix1 k)) (fun k => g₂ (ix1 k)) j := by
  simp only [outT, row, streamT_row, gatedT_row, dotT_row, normT_row, mixT_row]

end Cert.Proof.Merge.Ref

end
-- ==== Proof.Merge.Value.lean ====
/- The merge's value: every block that the kernel writes back is a block of the reference's result array, so the result
   arrays of the two programs are one. -/
module

public import proofs.«01_k».proof.Proof.Merge.Block
public import proofs.«01_k».proof.Proof.Merge.Reference
public import proofs.«01_k».proof.Proof.Gen.MergeIdeal.Value

@[expose] public section

noncomputable section

namespace Cert.Proof.Merge

open Cert.MergeIdeal Cert.MergeIdeal.Gen Cert.MergeIdeal.Value Idealize.ShloMosaic Idealize.ShloMosaic.TcCoe Idealize.SL.Sem

variable (m : (ℓ : Loc nD τ sig) → Buf (Elt Ideal) ℓ) (ρ : Dev nD → PrngReg) (c : Dev nD)

/-- Argument `b` of device `c` as launched. -/
abbrev arg (b : Ref sig .tc) : Buf (Elt Ideal) ((c : Thread nD τ).loc b) := m ((c : Thread nD τ).loc b)

/-! ## The windows' arrays when the region is entered -/

theorem V_v0 : V m c main_v0 = shapeCast S65536x1024 (arg m c main_arg0) shapeCasts_S8x8192x1024_S65536x1024 := by
  unfold V; after_results_simp <;> rfl

theorem V_v1 : V m c main_v1 = shapeCast S65536x256 (arg m c main_arg1) shapeCasts_S8x8192x256_S65536x256 := by
  unfold V; after_results_simp <;> rfl

theorem V_v2 : V m c main_v2 = (truncf .bf16 (arg m c main_arg6 : FVec Ideal S512x1024 .f32) bitsLt_bf16_f32 : FVec Ideal S512x1024 .bf16) := by
  unfold V; after_results_simp <;> rfl

theorem V_v3 : V m c main_v3 = (truncf .bf16 (arg m c main_arg7 : FVec Ideal S1024x1024 .f32) bitsLt_bf16_f32 : FVec Ideal S1024x1024 .bf16) := by
  unfold V; after_results_simp <;> rfl

theorem V_v4 : V m c main_v4 = (truncf .bf16 (arg m c main_arg8 : FVec Ideal S1024x1024 .f32) bitsLt_bf16_f32 : FVec Ideal S1024x1024 .bf16) := by
  unfold V; after_results_simp <;> rfl

theorem V_v5 : V m c main_v5 = (truncf .bf16 (arg m c main_arg10 : FVec Ideal S256x1024 .f32) bitsLt_bf16_f32 : FVec Ideal S256x1024 .bf16) := by
  unfold V; after_results_simp <;> rfl

theorem V_v6 : V m c main_v6 = (truncf .bf16 (arg m c main_arg11 : FVec Ideal S1024x1024 .f32) bitsLt_bf16_f32 : FVec Ideal S1024x1024 .bf16) := by
  unfold V; after_results_simp <;> rfl

theorem V_v7 : V m c main_v7 = shapeCast S1x1024 (arg m c main_arg9) shapeCasts_S1024_S1x1024 := by
  unfold V; after_results_simp <;> rfl

theorem V_v8 : V m c main_v8 = shapeCast S1x1024 (arg m c main_arg12) shapeCasts_S1024_S1x1024 := by
  unfold V; after_results_simp <;> rfl

theorem V_v9 : V m c main_v9 = shapeCast S1x1024 (arg m c main_arg13) shapeCasts_S1024_S1x1024 := by
  unfold V; after_results_simp <;> rfl

/-! ## The windows' blocks -/

/-- The row of the whole array that row `r` of point `t`'s block is. -/
def rowAt (t : Fin cfg0.N) (r : Fin 512) : Fin 65536 := ⟨512 * t.val + r.val, by have := t.isLt; have : cfg0.N = 128 := rfl; omega⟩

theorem idx0 : ∀ t : Fin cfg0.N, win0_0.index t (0 : Fin 2) = t.val ∧ win0_0.index t (1 : Fin 2) = 0 :=
  (by decide +kernel : ∀ t : Fin grid0.N, _)

theorem idx1 : ∀ t : Fin cfg0.N, win0_1.index t (0 : Fin 2) = t.val ∧ win0_1.index t (1 : Fin 2) = 0 :=
  (by decide +kernel : ∀ t : Fin grid0.N, _)

theorem idx2 : ∀ t : Fin cfg0.N, win0_2.index t (0 : Fin 2) = t.val ∧ win0_2.index t (1 : Fin 2) = 0 :=
  (by decide +kernel : ∀ t : Fin grid0.N, _)

theorem idx3 : ∀ t : Fin cfg0.N, win0_3.index t (0 : Fin 2) = t.val ∧ win0_3.index t (1 : Fin 2) = 0 :=
  (by decide +kernel : ∀ t : Fin grid0.N, _)

theorem idx4 : ∀ t : Fin cfg0.N, win0_4.index t (0 : Fin 2) = t.val ∧ win0_4.index t (1 : Fin 2) = 0 :=
  (by decide +kernel : ∀ t : Fin grid0.N, _)

theorem idx5 : ∀ t : Fin cfg0.N, win0_5.index t (0 : Fin 2) = t.val ∧ win0_5.index t (1 : Fin 2) = 0 :=
  (by decide +kernel : ∀ t : Fin grid0.N, _)

theorem idx14 : ∀ t : Fin cfg0.N, win0_14.index t (0 : Fin 2) = t.val ∧ win0_14.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

theorem idx12 : ∀ t : Fin cfg0.N, win0_12.index t (0 : Fin 2) = 0 ∧ win0_12.index t (1 : Fin 2) = 0 :=
  (by decide +kernel : ∀ t : Fin grid0.N, _)

theorem idx13 : ∀ t : Fin cfg0.N, win0_13.index t (0 : Fin 2) = 0 ∧ win0_13.index t (1 : Fin 2) = 0 :=
  (by decide +kernel : ∀ t : Fin grid0.N, _)

theorem emb0 (t : Fin cfg0.N) (r : Fin 512) (k : Fin 1024) :
    ((cfg0.win 0).blk t).view.emb (ix2 r k) = (ix2 (rowAt t r) k : S65536x1024.Idx) := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk0_row (t : Fin cfg0.N) (r : Fin 512) (k : Fin 1024) :
    iblk m c 0 t (ix2 r k) = (shapeCast S65536x1024 (arg m c main_arg0) shapeCasts_S8x8192x1024_S65536x1024 : Vec Ideal S65536x1024 .f32) (ix2 (rowAt t r) k) := by
  refine Eq.trans ?_ (congrFun (V_v0 m c) (ix2 (rowAt t r) k))
  show V m c main_v0 (((cfg0.win 0).blk t).view.emb (ix2 r k)) = _
  rw [emb0]

theorem emb1 (t : Fin cfg0.N) (r : Fin 512) (k : Fin 256) :
    ((cfg0.win 1).blk t).view.emb (ix2 r k) = (ix2 (rowAt t r) k : S65536x256.Idx) := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 256 + 1 * k.val = k.val; omega

theorem iblk1_row (t : Fin cfg0.N) (r : Fin 512) (k : Fin 256) :
    iblk m c 1 t (ix2 r k) = (shapeCast S65536x256 (arg m c main_arg1) shapeCasts_S8x8192x256_S65536x256 : Vec Ideal S65536x256 .f32) (ix2 (rowAt t r) k) := by
  refine Eq.trans ?_ (congrFun (V_v1 m c) (ix2 (rowAt t r) k))
  show V m c main_v1 (((cfg0.win 1).blk t).view.emb (ix2 r k)) = _
  rw [emb1]

theorem emb2 (t : Fin cfg0.N) (r : Fin 512) (k : Fin 512) :
    ((cfg0.win 2).blk t).view.emb (ix2 r k) = (ix2 (rowAt t r) k : S65536x512.Idx) := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 512 + 1 * k.val = k.val; omega

theorem iblk2_row (t : Fin cfg0.N) (r : Fin 512) (k : Fin 512) :
    iblk m c 2 t (ix2 r k) = (arg m c main_arg2 : Vec Ideal S65536x512 .bf16) (ix2 (rowAt t r) k) := by
  refine Eq.trans ?_ (congrFun (V_main_arg2 m c) (ix2 (rowAt t r) k))
  show V m c main_arg2 (((cfg0.win 2).blk t).view.emb (ix2 r k)) = _
  rw [emb2]

theorem emb3 (t : Fin cfg0.N) (r : Fin 512) (k : Fin 1024) :
    ((cfg0.win 3).blk t).view.emb (ix2 r k) = (ix2 (rowAt t r) k : S65536x1024.Idx) := by
  obtain ⟨e0, e1⟩ := idx3 t
  funext a; apply Fin.ext
  match a with
  | ⟨0, _⟩ => show win0_3.index t (0 : Fin 2) * 512 + 1 * r.val = 512 * t.val + r.val; omega
  | ⟨1, _⟩ => show win0_3.index t (1 : Fin 2) * 1024 + 1 * k.val = k.val; omega

theorem iblk3_row (t : Fin cfg0.N) (r : Fin 512) (k : Fin 1024) :
    iblk m c 3 t (ix2 r k) = (arg m c main_arg3 : Vec Ideal S65536x1024 .bf16) (ix2 (rowAt t r) k) := by
  refine Eq.trans ?_ (congrFun (V_main_arg3 m c) (ix2 (rowAt t r) k))
  show V m c main_arg3 (((cfg0.win 3).blk t).view.emb (ix2 r k)) = _
  rw [emb3]

theorem emb4 (t : Fin cfg0.N) (r : Fin 512) (k : Fin 1024) :
    ((cfg0.win 4).blk t).view.emb (ix2 r k) = (ix2 (rowAt t r) k : S65536x1024.Idx) := by
  obtain ⟨e0, e1⟩ := idx4 t
  funext a; apply Fin.ext
  match a with
  | ⟨0, _⟩ => show win0_4.index t (0 : Fin 2) * 512 + 1 * r.val = 512 * t.val + r.val; omega
  | ⟨1, _⟩ => show win0_4.index t (1 : Fin 2) * 1024 + 1 * k.val = k.val; omega

theorem iblk4_row (t : Fin cfg0.N) (r : Fin 512) (k : Fin 1024) :
    iblk m c 4 t (ix2 r k) = (arg m c main_arg4 : Vec Ideal S65536x1024 .f32) (ix2 (rowAt t r) k) := by
  refine Eq.trans ?_ (congrFun (V_main_arg4 m c) (ix2 (rowAt t r) k))
  show V m c main_arg4 (((cfg0.win 4).blk t).view.emb (ix2 r k)) = _
  rw [emb4]

theorem emb5 (t : Fin cfg0.N) (r : Fin 512) (k : Fin 1024) :
    ((cfg0.win 5).blk t).view.emb (ix2 r k) = (ix2 (rowAt t r) k : S65536x1024.Idx) := by
  obtain ⟨e0, e1⟩ := idx5 t
  funext a; apply Fin.ext
  match a with
  | ⟨0, _⟩ => show win0_5.index t (0 : Fin 2) * 512 + 1 * r.val = 512 * t.val + r.val; omega
  | ⟨1, _⟩ => show win0_5.index t (1 : Fin 2) * 1024 + 1 * k.val = k.val; omega

theorem iblk5_row (t : Fin cfg0.N) (r : Fin 512) (k : Fin 1024) :
    iblk m c 5 t (ix2 r k) = (arg m c main_arg5 : Vec Ideal S65536x1024 .f32) (ix2 (rowAt t r) k) := by
  refine Eq.trans ?_ (congrFun (V_main_arg5 m c) (ix2 (rowAt t r) k))
  show V m c main_arg5 (((cfg0.win 5).blk t).view.emb (ix2 r k)) = _
  rw [emb5]

theorem emb14 (t : Fin cfg0.N) (r : Fin 512) (k : Fin 1024) :
    ((cfg0.win 14).blk t).view.emb (ix2 r k) = (ix2 (rowAt t r) k : S65536x1024.Idx) := by
  obtain ⟨e0, e1⟩ := idx14 t
  funext a; apply Fin.ext
  match a with
  | ⟨0, _⟩ => show win0_14.index t (0 : Fin 2) * 512 + 1 * r.val = 512 * t.val + r.val; omega
  | ⟨1, _⟩ => show win0_14.index t (1 : Fin 2) * 1024 + 1 * k.val = k.val; omega

theorem iblk6_eq (t : Fin cfg0.N) : iblk m c 6 t = (truncf .bf16 (arg m c main_arg6 : FVec Ideal S512x1024 .f32) bitsLt_bf16_f32 : FVec Ideal S512x1024 .bf16) := by
  refine Eq.trans ?_ (V_v2 m c)
  obtain ⟨e0, e1⟩ := idx6 t
  funext j
  show V m c main_v2 (((cfg0.win 6).blk t).view.emb j) = V m c main_v2 j
  refine congrArg _ (funext fun a => Fin.ext ?_)
  match a with
  | ⟨0, _⟩ => show win0_6.index t (0 : Fin 2) * 512 + 1 * (j 0).val = (j 0).val; omega
  | ⟨1, _⟩ => show win0_6.index t (1 : Fin 2) * 1024 + 1 * (j 1).val = (j 1).val; omega

theorem iblk7_eq (t : Fin cfg0.N) : iblk m c 7 t = (truncf .bf16 (arg m c main_arg7 : FVec Ideal S1024x1024 .f32) bitsLt_bf16_f32 : FVec Ideal S1024x1024 .bf16) := by
  refine Eq.trans ?_ (V_v3 m c)
  obtain ⟨e0, e1⟩ := idx7 t
  funext j
  show V m c main_v3 (((cfg0.win 7).blk t).view.emb j) = V m c main_v3 j
  refine congrArg _ (funext fun a => Fin.ext ?_)
  match a with
  | ⟨0, _⟩ => show win0_7.index t (0 : Fin 2) * 1024 + 1 * (j 0).val = (j 0).val; omega
  | ⟨1, _⟩ => show win0_7.index t (1 : Fin 2) * 1024 + 1 * (j 1).val = (j 1).val; omega

theorem iblk8_eq (t : Fin cfg0.N) : iblk m c 8 t = (truncf .bf16 (arg m c main_arg8 : FVec Ideal S1024x1024 .f32) bitsLt_bf16_f32 : FVec Ideal S1024x1024 .bf16) := by
  refine Eq.trans ?_ (V_v4 m c)
  obtain ⟨e0, e1⟩ := idx8 t
  funext j
  show V m c main_v4 (((cfg0.win 8).blk t).view.emb j) = V m c main_v4 j
  refine congrArg _ (funext fun a => Fin.ext ?_)
  match a with
  | ⟨0, _⟩ => show win0_8.index t (0 : Fin 2) * 1024 + 1 * (j 0).val = (j 0).val; omega
  | ⟨1, _⟩ => show win0_8.index t (1 : Fin 2) * 1024 + 1 * (j 1).val = (j 1).val; omega

theorem iblk9_eq (t : Fin cfg0.N) : iblk m c 9 t = shapeCast S1x1024 (arg m c main_arg9) shapeCasts_S1024_S1x1024 := by
  refine Eq.trans ?_ (V_v7 m c)
  obtain ⟨e0, e1⟩ := idx9 t
  funext j
  show V m c main_v7 (((cfg0.win 9).blk t).view.emb j) = V m c main_v7 j
  refine congrArg _ (funext fun a => Fin.ext ?_)
  match a with
  | ⟨0, _⟩ => show win0_9.index t (0 : Fin 2) * 1 + 1 * (j 0).val = (j 0).val; omega
  | ⟨1, _⟩ => show win0_9.index t (1 : Fin 2) * 1024 + 1 * (j 1).val = (j 1).val; omega

theorem iblk10_eq (t : Fin cfg0.N) : iblk m c 10 t = (truncf .bf16 (arg m c main_arg10 : FVec Ideal S256x1024 .f32) bitsLt_bf16_f32 : FVec Ideal S256x1024 .bf16) := by
  refine Eq.trans ?_ (V_v5 m c)
  obtain ⟨e0, e1⟩ := idx10 t
  funext j
  show V m c main_v5 (((cfg0.win 10).blk t).view.emb j) = V m c main_v5 j
  refine congrArg _ (funext fun a => Fin.ext ?_)
  match a with
  | ⟨0, _⟩ => show win0_10.index t (0 : Fin 2) * 256 + 1 * (j 0).val = (j 0).val; omega
  | ⟨1, _⟩ => show win0_10.index t (1 : Fin 2) * 1024 + 1 * (j 1).val = (j 1).val; omega

theorem iblk11_eq (t : Fin cfg0.N) : iblk m c 11 t = (truncf .bf16 (arg m c main_arg11 : FVec Ideal S1024x1024 .f32) bitsLt_bf16_f32 : FVec Ideal S1024x1024 .bf16) := by
  refine Eq.trans ?_ (V_v6 m c)
  obtain ⟨e0, e1⟩ := idx11 t
  funext j
  show V m c main_v6 (((cfg0.win 11).blk t).view.emb j) = V m c main_v6 j
  refine congrArg _ (funext fun a => Fin.ext ?_)
  match a with
  | ⟨0, _⟩ => show win0_11.index t (0 : Fin 2) * 1024 + 1 * (j 0).val = (j 0).val; omega
  | ⟨1, _⟩ => show win0_11.index t (1 : Fin 2) * 1024 + 1 * (j 1).val = (j 1).val; omega

theorem iblk12_eq (t : Fin cfg0.N) : iblk m c 12 t = shapeCast S1x1024 (arg m c main_arg12) shapeCasts_S1024_S1x1024 := by
  refine Eq.trans ?_ (V_v8 m c)
  obtain ⟨e0, e1⟩ := idx12 t
  funext j
  show V m c main_v8 (((cfg0.win 12).blk t).view.emb j) = V m c main_v8 j
  refine congrArg _ (funext fun a => Fin.ext ?_)
  match a with
  | ⟨0, _⟩ => show win0_12.index t (0 : Fin 2) * 1 + 1 * (j 0).val = (j 0).val; omega
  | ⟨1, _⟩ => show win0_12.index t (1 : Fin 2) * 1024 + 1 * (j 1).val = (j 1).val; omega

theorem iblk13_eq (t : Fin cfg0.N) : iblk m c 13 t = shapeCast S1x1024 (arg m c main_arg13) shapeCasts_S1024_S1x1024 := by
  refine Eq.trans ?_ (V_v9 m c)
  obtain ⟨e0, e1⟩ := idx13 t
  funext j
  show V m c main_v9 (((cfg0.win 13).blk t).view.emb j) = V m c main_v9 j
  refine congrArg _ (funext fun a => Fin.ext ?_)
  match a with
  | ⟨0, _⟩ => show win0_13.index t (0 : Fin 2) * 1 + 1 * (j 0).val = (j 0).val; omega
  | ⟨1, _⟩ => show win0_13.index t (1 : Fin 2) * 1024 + 1 * (j 1).val = (j 1).val; omega

/-! ## The result -/

/-- The reference's result array at this program's arguments. -/
def G : Vec Ideal S65536x1024 .f32 :=
  Ref.outT (shapeCast S65536x1024 (arg m c main_arg0) shapeCasts_S8x8192x1024_S65536x1024)
    (shapeCast S65536x256 (arg m c main_arg1) shapeCasts_S8x8192x256_S65536x256)
    (arg m c main_arg2) (arg m c main_arg3) (arg m c main_arg4) (arg m c main_arg5) (arg m c main_arg6) (arg m c main_arg7)
    (arg m c main_arg8) (arg m c main_arg9) (arg m c main_arg10) (arg m c main_arg11) (arg m c main_arg12) (arg m c main_arg13)

/-- A vector laid out as one row, at a column. -/
theorem vec_row (x : Vec Ideal S1024 .f32) (k : Fin 1024) : shapeCast S1x1024 x shapeCasts_S1024_S1x1024 (ix2 0 k) = x (ix1 k) := by
  pointwise

/-- Rows of the result under equal scales are equal. -/
theorem row_congr (x : Fin 1024 → EReal) (p : Fin 256 → EReal) (oa : Fin 512 → EReal) (ob ma mb : Fin 1024 → EReal)
    (wa : Fin 512 → Fin 1024 → EReal) (wb wo : Fin 1024 → Fin 1024 → EReal) (we : Fin 256 → Fin 1024 → EReal)
    (wg : Fin 1024 → Fin 1024 → EReal) {gp gp' g₁ g₁' g₂ g₂' : Fin 1024 → EReal} (h : gp = gp') (h₁ : g₁ = g₁') (h₂ : g₂ = g₂')
    (j : Fin 1024) : row x p oa ob ma mb wa wb wo gp we wg g₁ g₂ j = row x p oa ob ma mb wa wb wo gp' we wg g₁' g₂' j := by
  rw [h, h₁, h₂]

/-- What point `t` writes back is its block of that array. -/
theorem flushed_eq (t : Fin cfg0.N) : (dats m 0 c).flushed 14 t = ((cfg0.win 14).blk t).view.read (Elt Ideal) (G m c) := by
  rw [flushed14, out_eq]
  funext y
  show blockOf _ _ _ _ _ _ _ _ _ _ _ _ _ _ y = G m c (((cfg0.win 14).blk t).view.emb y)
  obtain ⟨r, j, rfl⟩ : ∃ (r : Fin 512) (j : Fin 1024), y = ix2 r j := ⟨y 0, y 1, eq_ix2 y⟩
  rw [emb14]
  unfold G
  rw [Ref.outT_row]
  unfold blockOf
  show row (fun k => iblk m c 0 t (ix2 r k)) (fun k => iblk m c 1 t (ix2 r k)) (fun k => iblk m c 2 t (ix2 r k))
    (fun k => iblk m c 3 t (ix2 r k)) (fun k => iblk m c 4 t (ix2 r k)) (fun k => iblk m c 5 t (ix2 r k)) _ _ _ _ _ _ _ _ j = _
  simp only [iblk0_row, iblk1_row, iblk2_row, iblk3_row, iblk4_row, iblk5_row, iblk6_eq, iblk7_eq, iblk8_eq, iblk9_eq,
    iblk10_eq, iblk11_eq, iblk12_eq, iblk13_eq]
  exact row_congr _ _ _ _ _ _ _ _ _ _ _ (funext (vec_row _)) (funext (vec_row _)) (funext (vec_row _)) j

/-- Every index of the result array is in some point's block. -/
theorem covered (i : S65536x1024.Idx) : ∃ t : Fin cfg0.N, (cfg0.win 14).flush t = true ∧ i ∈ ((cfg0.win 14).blk t).view.set := by
  have hi : (i 0).val < 65536 := (i 0).isLt
  have hN : cfg0.N = 128 := rfl
  let t : Fin cfg0.N := ⟨(i 0).val / 512, by omega⟩
  let r : Fin 512 := ⟨(i 0).val % 512, by omega⟩
  have e : ((cfg0.win 14).blk t).view.emb (ix2 r (i 1 : Fin 1024)) = i := by
    refine (emb14 t r (i 1)).trans ?_
    funext a; apply Fin.ext
    match a with
    | ⟨0, _⟩ => show 512 * ((i 0).val / 512) + (i 0).val % 512 = (i 0).val; omega
    | ⟨1, _⟩ => rfl
  have h := ((cfg0.win 14).blk t).view.emb_mem_set (ix2 r (i 1 : Fin 1024))
  exact ⟨t, flush0_14 _, e ▸ h⟩

/-- The result array after the run. -/
theorem final : (dats m 0 c).arrAt 14 cfg0.N = G m c :=
  (dats m 0 c).arrAt_eq_of_cover 14 (G m c) (fun t _ => flushed_eq m c t) covered

end Cert.Proof.Merge

end
-- ==== Proof.Merge.Claim.lean ====
/- The merge's value claim: the two programs end with one result array. -/
module

public import proofs.«01_k».proof.Defs
public import proofs.«01_k».proof.Proof.Merge.Value

@[expose] public section

noncomputable section

namespace Cert.Proof.Merge

open Idealize.ShloMosaic Idealize.ShloMosaic.TcCoe Idealize.SL.Sem

/-- From equal arguments both programs run, end with one result array and leave their arguments as they were. -/
theorem algebraic : Cert.algebraic_MergeIdeal_MergeReferenceIdeal := by
  intro m g m' g' _ hag
  refine ⟨fun c => G m c, ?_, ?_⟩
  · exact (θ_run _ _ _).mono (fun r h c => ⟨(h c).1.trans (final m c), (h c).2⟩) (Cert.MergeIdeal.Value.run_blocks m g)
  · refine (θ_run _ _ _).mono (fun r h c => ⟨(h c).1.trans ?_, (h c).2⟩) (Cert.MergeReferenceIdeal.Value.run m' g')
    obtain ⟨h0, h1, h2, h3, h4, h5, h6, h7, h8, h9, h10, h11, h12, h13⟩ := hag c
    rw [Ref.res_eq, h0, h1, h2, h3, h4, h5, h6, h7, h8, h9, h10, h11, h12, h13]
    rfl

end Cert.Proof.Merge

end
-- ==== Proof.Gla.Head.lean ====
/- The gated linear attention's head: what the kernel computes of one of its four heads in a chunk of 128 rows, from
   that head's columns of the blocks and the state carried in, written once for the four heads. -/
module

public import proofs.«01_k».proof.Proof.Gen.GlaIdeal.Value

@[expose] public section

noncomputable section

namespace Cert.Proof.Gla

open Cert.GlaIdeal Cert.GlaIdeal.Gen Idealize.ShloMosaic Idealize.ShloMosaic.TcCoe

variable {F : FTy → Type} [FloatOps F] [Named F]

/-- The running sums of the gate's logarithms, in base two. -/
def cumOf (small w : Vec F S128x128 .f32) (b : Vec F S1x128 .f32) : FVec F S128x128 .f32 :=
  k0_pay36 k0_pay3 (k0_pay28 (k0_pay17 small w b))

/-- The row index at each entry. -/
def rowIx : IVec S128x128 32 := iota .tc S128x128 32 [0] iota_S128x128_d0_w32
/-- The column index at each entry. -/
def colIx : IVec S128x128 32 := iota .tc S128x128 32 [1] iota_S128x128_d1_w32

/-- The keys of the rows before `lo`, decayed to the row `last` just before it; transposed. -/
def keysTo (lo last : Nat) (h : S128x128.Slices ![0, last] S128x1) (g k : FVec F S128x128 .f32) : FVec F S128x128 .bf16 :=
  truncf .bf16 (mulf (k0_pay43 k) (exp2 (select (cmpi .slt colIx (broadcast S128x128 (BitVec.ofNat 32 lo)))
    (subf (broadcastTo S128x128 (extractStridedSlice S128x1 ![0, last] (k0_pay43 g) h) broadcasts_S128x1_S128x128) (k0_pay43 g))
    (broadcast S128x128 (Scalar.ofBits .f32 0xFF800000#32))))) bitsLt_bf16_f32

/-- The queries of the sixteen rows from `lo`, decayed from the row `last` just before them. -/
def queriesFrom (lo last : Nat) (h : S128x128.Slices ![lo, 0] S16x128) (h' : S128x128.Slices ![last, 0] S1x128)
    (q g : FVec F S128x128 .f32) : FVec F S16x128 .bf16 :=
  truncf .bf16 (mulf (extractStridedSlice S16x128 ![lo, 0] q h) (exp2 (subf (extractStridedSlice S16x128 ![lo, 0] g h)
    (broadcastTo S16x128 (extractStridedSlice S1x128 ![last, 0] g h') broadcasts_S1x128_S16x128)))) bitsLt_bf16_f32

/-- The weights of the sixteen rows from `lo` for the rows before them. -/
def subRow (lo last : Nat) (h : S128x128.Slices ![0, last] S128x1) (h1 : S128x128.Slices ![lo, 0] S16x128)
    (h2 : S128x128.Slices ![last, 0] S1x128) (q k g : FVec F S128x128 .f32) : FVec F S16x128 .f32 :=
  matmul dot_S16x128_S128x128_S16x128_1_0_0_1_n_n none (queriesFrom lo last h1 h2 q g) (keysTo lo last h g k)
    (constant S16x128 .f32 0x00000000#32)

/-- The weights of every row for the rows before its sub-block of sixteen. -/
def farPart (q k g : FVec F S128x128 .f32) : FVec F S128x128 .f32 :=
  k0_pay102 k0_pay51
    (subRow 16 15 slices_S128x128_o0_15_S128x1 slices_S128x128_o16_0_S16x128 slices_S128x128_o15_0_S1x128 q k g)
    (subRow 32 31 slices_S128x128_o0_31_S128x1 slices_S128x128_o32_0_S16x128 slices_S128x128_o31_0_S1x128 q k g)
    (subRow 48 47 slices_S128x128_o0_47_S128x1 slices_S128x128_o48_0_S16x128 slices_S128x128_o47_0_S1x128 q k g)
    (subRow 64 63 slices_S128x128_o0_63_S128x1 slices_S128x128_o64_0_S16x128 slices_S128x128_o63_0_S1x128 q k g)
    (subRow 80 79 slices_S128x128_o0_79_S128x1 slices_S128x128_o80_0_S16x128 slices_S128x128_o79_0_S1x128 q k g)
    (subRow 96 95 slices_S128x128_o0_95_S128x1 slices_S128x128_o96_0_S16x128 slices_S128x128_o95_0_S1x128 q k g)
    (subRow 112 111 slices_S128x128_o0_111_S128x1 slices_S128x128_o112_0_S16x128 slices_S128x128_o111_0_S1x128 q k g)

/-- The weights with those of a sub-block's second half for its first half added, -/
def midPart (q k g : FVec F S128x128 .f32) : FVec F S128x128 .f32 :=
  k0_pay110 (k0_pay8 colIx k0_pay6 16#32 k0_pay7 0#32) k (farPart q k g) (k0_pay108 rowIx q g) (k0_pay109 rowIx g)
/-- with those of a half's second half for its first half added, -/
def nearPart (q k g : FVec F S128x128 .f32) : FVec F S128x128 .f32 :=
  k0_pay122 (k0_pay10 colIx (k0_pay9 rowIx) 8#32) q k g (midPart q k g) 8#32 (k0_pay119 rowIx) (k0_pay120 rowIx)
/-- with those of a row for itself added, -/
def band0 (q k g : FVec F S128x128 .f32) : FVec F S128x128 .f32 :=
  k0_pay133 rowIx k0_pay4 k0_pay5 q k g (nearPart q k g)
/-- with those for the row before added, -/
def band1 (q k g : FVec F S128x128 .f32) : FVec F S128x128 .f32 :=
  k0_pay141 k0_pay4 k0_pay5 q k g (k0_pay132 rowIx) (band0 q k g)
/-- with those for the second row before added, -/
def band2 (q k g : FVec F S128x128 .f32) : FVec F S128x128 .f32 :=
  k0_pay145 k0_pay4 k0_pay5 q k g (k0_pay132 rowIx) (band1 q k g)
/-- with those for the third row before added: the weights of every row for every row up to it. -/
def weights (q k g : FVec F S128x128 .f32) : FVec F S128x128 .f32 :=
  k0_pay152 k0_pay4 k0_pay5 q k g (k0_pay132 rowIx) (band2 q k g)

/-- The head's output before its normalization. -/
def mixed (q k g : FVec F S128x128 .f32) (v : Vec F S128x256 .bf16) (s : Vec F S1x128x256 .f32) : FVec F S128x256 .f32 :=
  k0_pay158 v (k0_pay47 (k0_pay11 q) g s) (weights (k0_pay11 q) k g)

/-- The head's output. -/
def headOut (q k small w : Vec F S128x128 .f32) (b : Vec F S1x128 .f32) (v : Vec F S128x256 .bf16) (s : Vec F S1x128x256 .f32)
    (gb : Vec F S128x256 .f32) (gh : Vec F S1x256 .f32) : FVec F S128x256 .bf16 :=
  k0_pay161 (mixed q k (cumOf small w b) v s) gb gh

/-- The state the head leaves. -/
def headState (k small w : Vec F S128x128 .f32) (b : Vec F S1x128 .f32) (v : Vec F S128x256 .bf16) (s : Vec F S1x128x256 .f32) :
    FVec F S1x128x256 .f32 :=
  k0_pay160 (k0_pay159 v (k0_pay43 (cumOf small w b)) (k0_pay43 k) s)

/-! ## The heads' columns of the blocks -/

def rq (h : Fin 4) : Rect S128x512 := Rect.unit (s := S128x512) ![0, 128 * h.val] S128x128.size (by decide +revert)
def rv (h : Fin 4) : Rect S128x1024 := Rect.unit (s := S128x1024) ![0, 256 * h.val] S128x256.size (by decide +revert)
def rb (h : Fin 4) : Rect S1x512 := Rect.unit (s := S1x512) ![0, 128 * h.val] S1x128.size (by decide +revert)
def rs (h : Fin 4) : Rect S4x128x256 := Rect.unit (s := S4x128x256) ![h.val, 0, 0] S1x128x256.size (by decide +revert)
def rsm : Rect S128x128 := Rect.unit (s := S128x128) ![0, 0] S128x128.size inb_S128x128_S128x128_0_0
def rgh : Rect S1x256 := Rect.unit (s := S1x256) ![0, 0] S1x256.size inb_S1x256_S1x256_0_0

/-- A way of reading a buffer through a rectangle. -/
abbrev Reads (F : FTy → Type) (s : Shape) (e : EltTy) := (r : Rect s) → r.shape.Idx → Elt F e

/-- The head's store of its output, from the ways the buffers are read. -/
def outPiece (l0 l1 : Reads F S128x512 .f32) (l2 : Reads F S128x1024 .bf16) (l3 : Reads F S128x1024 .f32) (l4 : Reads F S128x128 .f32)
    (l5 : Reads F S128x512 .f32) (l6 : Reads F S1x512 .f32) (l7 : Reads F S1x256 .f32) (s : Vec F S1x128x256 .f32) (h : Fin 4) :
    View.Piece (Elt F) S128x1024 .bf16 :=
  ⟨rv h, headOut (l0 (rq h)) (l1 (rq h)) (l4 rsm) (l5 (rq h)) (l6 (rb h)) (l2 (rv h)) s (l3 (rv h)) (l7 rgh)⟩

/-- The head's store of its state. -/
def statePiece (l1 : Reads F S128x512 .f32) (l2 : Reads F S128x1024 .bf16) (l4 : Reads F S128x128 .f32) (l5 : Reads F S128x512 .f32)
    (l6 : Reads F S1x512 .f32) (s : Vec F S1x128x256 .f32) (h : Fin 4) : View.Piece (Elt F) S4x128x256 .f32 :=
  ⟨rs h, headState (l1 (rq h)) (l4 rsm) (l5 (rq h)) (l6 (rb h)) (l2 (rv h)) s⟩

end Cert.Proof.Gla

end
-- ==== Proof.Gla.Pieces.lean ====
/- The stores of the gated linear attention's body are the four heads' outputs and states. -/
module

public import proofs.«01_k».proof.Proof.Gla.Head
public import Idealize.ShloMosaic.Lib.Pipeline.ReadBack

@[expose] public section

set_option maxRecDepth 65536

noncomputable section

namespace Cert.Proof.Gla

open Cert.GlaIdeal Cert.GlaIdeal.Gen Idealize.ShloMosaic Idealize.ShloMosaic.TcCoe

variable {F : FTy → Type} [FloatOps F] [Named F]

variable (c : Dev nD) (i : grid0.Coords)
  (a2 : Memref sig .tc .vmem S128x512 .f32) (h2 : a2.IsWhole) (a3 : Memref sig .tc .vmem S128x512 .f32) (h3 : a3.IsWhole)
  (a4 : Memref sig .tc .vmem S128x1024 .bf16) (h4 : a4.IsWhole) (a5 : Memref sig .tc .vmem S128x1024 .f32) (h5 : a5.IsWhole)
  (a6 : Memref sig .tc .vmem S128x128 .f32) (h6 : a6.IsWhole) (a7 : Memref sig .tc .vmem S128x512 .f32) (h7 : a7.IsWhole)
  (a8 : Memref sig .tc .vmem S1x512 .f32) (h8 : a8.IsWhole) (a9 : Memref sig .tc .vmem S1x256 .f32) (h9 : a9.IsWhole)
  (a10 : Memref sig .tc .vmem S128x1024 .bf16) (h10 : a10.IsWhole) (a11 : Memref sig .tc .vmem S4x128x256 .f32) (h11 : a11.IsWhole)
  (x0 x1 : Vec F S128x512 .f32) (x2 : Vec F S128x1024 .bf16) (x3 : Vec F S128x1024 .f32) (x4 : Vec F S128x128 .f32)
  (x5 : Vec F S128x512 .f32) (x6 : Vec F S1x512 .f32) (x7 : Vec F S1x256 .f32) (xs : Vec F S4x128x256 .f32)

/-- Reading a whole buffer through a rectangle. -/
abbrev rd {s : Shape} {e : EltTy} {a : Memref sig .tc .vmem s e} (h : a.IsWhole) (x : Vec F s e) : Reads F s e :=
  fun r => View.readAt (Elt F) a.view r.toLoadRect (h.unread x)

theorem rd_eq {s : Shape} {e : EltTy} {a : Memref sig .tc .vmem s e} (h : a.IsWhole) (x : Vec F s e) :
    rd h x = fun r => View.ld x r :=
  funext fun r => by rw [rd, View.readAt_eq_ld, Memref.IsWhole.read_unread]

theorem pieces_B (hc : ¬cond0_0 i) :
    (kernelRun0_B c i a2 h2 a3 h3 a4 h4 a5 h5 a6 h6 a7 h7 a8 h8 a9 h9 a10 h10 a11 h11 hc x0 x1 x2 x3 x4 x5 x6 x7 xs).1
      = [outPiece (rd h2 x0) (rd h3 x1) (rd h4 x2) (rd h5 x3) (rd h6 x4) (rd h7 x5) (rd h8 x6) (rd h9 x7) (rd h11 xs (rs 3)) 3,
         outPiece (rd h2 x0) (rd h3 x1) (rd h4 x2) (rd h5 x3) (rd h6 x4) (rd h7 x5) (rd h8 x6) (rd h9 x7) (rd h11 xs (rs 2)) 2,
         outPiece (rd h2 x0) (rd h3 x1) (rd h4 x2) (rd h5 x3) (rd h6 x4) (rd h7 x5) (rd h8 x6) (rd h9 x7) (rd h11 xs (rs 1)) 1,
         outPiece (rd h2 x0) (rd h3 x1) (rd h4 x2) (rd h5 x3) (rd h6 x4) (rd h7 x5) (rd h8 x6) (rd h9 x7) (rd h11 xs (rs 0)) 0] := rfl

theorem states_B (hc : ¬cond0_0 i) :
    (kernelRun0_B c i a2 h2 a3 h3 a4 h4 a5 h5 a6 h6 a7 h7 a8 h8 a9 h9 a10 h10 a11 h11 hc x0 x1 x2 x3 x4 x5 x6 x7 xs).2.1
      = [statePiece (rd h3 x1) (rd h4 x2) (rd h6 x4) (rd h7 x5) (rd h8 x6) (rd h11 xs (rs 3)) 3,
         statePiece (rd h3 x1) (rd h4 x2) (rd h6 x4) (rd h7 x5) (rd h8 x6) (rd h11 xs (rs 2)) 2,
         statePiece (rd h3 x1) (rd h4 x2) (rd h6 x4) (rd h7 x5) (rd h8 x6) (rd h11 xs (rs 1)) 1,
         statePiece (rd h3 x1) (rd h4 x2) (rd h6 x4) (rd h7 x5) (rd h8 x6) (rd h11 xs (rs 0)) 0] := rfl

/-- The store that clears the state. -/
def zeroPiece : View.Piece (Elt F) S4x128x256 .f32 :=
  ⟨Rect.unit (s := S4x128x256) ![0, 0, 0] S4x128x256.size inb_S4x128x256_S4x128x256_0_0_0, k0_pay2⟩

/-- A piece of the state as it was found after the clearing store and the earlier heads' stores. -/
abbrev st0 : List (View.Piece (Elt F) S4x128x256 .f32) := [zeroPiece]
abbrev st1 : List (View.Piece (Elt F) S4x128x256 .f32) :=
  statePiece (rd h3 x1) (rd h4 x2) (rd h6 x4) (rd h7 x5) (rd h8 x6) (a11.view.readCov st0 (rs 0).toLoadRect) 0 :: st0
abbrev st2 : List (View.Piece (Elt F) S4x128x256 .f32) :=
  statePiece (rd h3 x1) (rd h4 x2) (rd h6 x4) (rd h7 x5) (rd h8 x6)
    (a11.view.readCov (st1 a3 h3 a4 h4 a6 h6 a7 h7 a8 h8 a11 x1 x2 x4 x5 x6) (rs 1).toLoadRect) 1 :: st1 a3 h3 a4 h4 a6 h6 a7 h7 a8 h8 a11 x1 x2 x4 x5 x6
abbrev st3 : List (View.Piece (Elt F) S4x128x256 .f32) :=
  statePiece (rd h3 x1) (rd h4 x2) (rd h6 x4) (rd h7 x5) (rd h8 x6)
    (a11.view.readCov (st2 a3 h3 a4 h4 a6 h6 a7 h7 a8 h8 a11 x1 x2 x4 x5 x6) (rs 2).toLoadRect) 2 :: st2 a3 h3 a4 h4 a6 h6 a7 h7 a8 h8 a11 x1 x2 x4 x5 x6
abbrev st4 : List (View.Piece (Elt F) S4x128x256 .f32) :=
  statePiece (rd h3 x1) (rd h4 x2) (rd h6 x4) (rd h7 x5) (rd h8 x6)
    (a11.view.readCov (st3 a3 h3 a4 h4 a6 h6 a7 h7 a8 h8 a11 x1 x2 x4 x5 x6) (rs 3).toLoadRect) 3 :: st3 a3 h3 a4 h4 a6 h6 a7 h7 a8 h8 a11 x1 x2 x4 x5 x6

theorem pieces_A (hc : cond0_0 i) :
    (kernelRun0_A c i a2 h2 a3 h3 a4 h4 a5 h5 a6 h6 a7 h7 a8 h8 a9 h9 a10 h10 a11 h11 hc x0 x1 x2 x3 x4 x5 x6 x7).1
      = [outPiece (rd h2 x0) (rd h3 x1) (rd h4 x2) (rd h5 x3) (rd h6 x4) (rd h7 x5) (rd h8 x6) (rd h9 x7) (a11.view.readCov st0 (rs 3).toLoadRect) 3,
         outPiece (rd h2 x0) (rd h3 x1) (rd h4 x2) (rd h5 x3) (rd h6 x4) (rd h7 x5) (rd h8 x6) (rd h9 x7) (a11.view.readCov st0 (rs 2).toLoadRect) 2,
         outPiece (rd h2 x0) (rd h3 x1) (rd h4 x2) (rd h5 x3) (rd h6 x4) (rd h7 x5) (rd h8 x6) (rd h9 x7) (a11.view.readCov st0 (rs 1).toLoadRect) 1,
         outPiece (rd h2 x0) (rd h3 x1) (rd h4 x2) (rd h5 x3) (rd h6 x4) (rd h7 x5) (rd h8 x6) (rd h9 x7) (a11.view.readCov st0 (rs 0).toLoadRect) 0] := rfl

theorem states_A (hc : cond0_0 i) :
    (kernelRun0_A c i a2 h2 a3 h3 a4 h4 a5 h5 a6 h6 a7 h7 a8 h8 a9 h9 a10 h10 a11 h11 hc x0 x1 x2 x3 x4 x5 x6 x7).2.1
      = st4 a3 h3 a4 h4 a6 h6 a7 h7 a8 h8 a11 x1 x2 x4 x5 x6 := rfl

end Cert.Proof.Gla

end
-- ==== Proof.Gla.Block.lean ====
/- What the body of the gated linear attention's kernel leaves in its output block and in its state, head by head. -/
module

public import proofs.«01_k».proof.Proof.Gla.Pieces
public import Idealize.ShloMosaic.Lib.Pipeline.Value
public import Idealize.ShloMosaic.Lib.Pointwise

@[expose] public section

set_option maxRecDepth 65536

noncomputable section

namespace Cert.Proof.Gla

open Cert.GlaIdeal Cert.GlaIdeal.Gen Idealize.ShloMosaic Idealize.ShloMosaic.TcCoe

/-- Feature `d` of head `h` among all heads' 512. -/
def kcol (h : Fin 4) (d : Fin 128) : Fin 512 := ⟨128 * h.val + d.val, by omega⟩
/-- Feature `e` of head `h` among all heads' 1024. -/
def vcol (h : Fin 4) (e : Fin 256) : Fin 1024 := ⟨256 * h.val + e.val, by omega⟩

theorem vcol_emb (h : Fin 4) (r : Fin 128) (e : Fin 256) : (rv h).emb (ix2 r e) = (ix2 r (vcol h e) : S128x1024.Idx) := by
  funext a; apply Fin.ext
  match a with
  | ⟨0, _⟩ => show 0 + 1 * r.val = r.val; omega
  | ⟨1, _⟩ => show 256 * h.val + 1 * e.val = 256 * h.val + e.val; omega

theorem slab_emb (h : Fin 4) (d : Fin 128) (e : Fin 256) : (rs h).emb (ix3 0 d e) = (ix3 h d e : S4x128x256.Idx) := by
  funext a; apply Fin.ext
  match a with
  | ⟨0, _⟩ => show h.val + 1 * 0 = h.val; omega
  | ⟨1, _⟩ => show 0 + 1 * d.val = d.val; omega
  | ⟨2, _⟩ => show 0 + 1 * e.val = e.val; omega

section
variable {α : EltTy → Type} [∀ e, Nonempty (α e)]

/-- Four stores of the heads' columns, read at a head's column. -/
theorem canon_heads (p : Fin 4 → S128x256.Idx → α .bf16) (h : Fin 4) (r : Fin 128) (e : Fin 256) :
    View.canon ([⟨rv 3, p 3⟩, ⟨rv 2, p 2⟩, ⟨rv 1, p 1⟩, ⟨rv 0, p 0⟩] : List (View.Piece α S128x1024 .bf16)) (ix2 r (vcol h e)) = p h (ix2 r e) := by
  let G : S128x1024.Idx → α .bf16 := fun y => p ⟨(y 1).val / 256, by have : (y 1).val < 1024 := (y 1).isLt; omega⟩
    (ix2 (y 0) ⟨(y 1).val % 256, Nat.mod_lt _ (by omega)⟩)
  have hG : ∀ h r e, G (ix2 r (vcol h e)) = p h (ix2 r e) := by
    intro h r e
    show p ⟨(256 * h.val + e.val) / 256, _⟩ (ix2 r ⟨(256 * h.val + e.val) % 256, _⟩) = _
    have e0 : (⟨(256 * h.val + e.val) / 256, by omega⟩ : Fin 4) = h := Fin.ext (by simp only; omega)
    have e1 : (⟨(256 * h.val + e.val) % 256, Nat.mod_lt _ (by omega)⟩ : Fin 256) = e := Fin.ext (by simp only; omega)
    rw [e0, e1]
  have one : ∀ (h : Fin 4) (x : (rv h).shape.Idx), p h x = G ((rv h).emb x) := by
    intro h x
    obtain ⟨a, b, rfl⟩ : ∃ (a : Fin 128) (b : Fin 256), x = ix2 a b := ⟨x 0, x 1, eq_ix2 x⟩
    rw [vcol_emb, hG]
  rw [← hG h r e]
  have hp : View.PiecesOf G [⟨rv 3, p 3⟩, ⟨rv 2, p 2⟩, ⟨rv 1, p 1⟩, ⟨rv 0, p 0⟩] := ⟨one 3, one 2, one 1, one 0, trivial⟩
  refine View.canon_apply_of_pieces G _ hp.mem _ ?_
  refine ⟨⟨rv h, p h⟩, by fin_cases h <;> simp, ?_⟩
  rw [← vcol_emb h r e]
  exact (rv h).idx_mem (ix2 r e)

/-- Four stores of the heads' states over earlier stores, read at a head's state. -/
theorem canon_slabs (L : List (View.Piece α S4x128x256 .f32)) (p : Fin 4 → S1x128x256.Idx → α .f32) (h : Fin 4) (d : Fin 128) (e : Fin 256) :
    View.canon ([⟨rs 3, p 3⟩, ⟨rs 2, p 2⟩, ⟨rs 1, p 1⟩, ⟨rs 0, p 0⟩] ++ L : List (View.Piece α S4x128x256 .f32)) (ix3 h d e) = p h (ix3 0 d e) := by
  let G : S4x128x256.Idx → α .f32 := fun y => p (y 0) (ix3 0 (y 1) (y 2))
  have one : ∀ (h : Fin 4) (x : (rs h).shape.Idx), p h x = G ((rs h).emb x) := by
    intro h x
    obtain ⟨a, b, c, rfl⟩ : ∃ (a : Fin 1) (b : Fin 128) (c : Fin 256), x = ix3 a b c := ⟨x 0, x 1, x 2, eq_ix3 x⟩
    obtain rfl : a = 0 := Subsingleton.elim _ _
    rw [slab_emb]; rfl
  show _ = G (ix3 h d e)
  have hp : View.PiecesOf G [⟨rs 3, p 3⟩, ⟨rs 2, p 2⟩, ⟨rs 1, p 1⟩, ⟨rs 0, p 0⟩] := ⟨one 3, one 2, one 1, one 0, trivial⟩
  refine View.canon_append_of_piecesOf G L _ hp _ ?_
  refine ⟨⟨rs h, p h⟩, by fin_cases h <;> simp, ?_⟩
  rw [← slab_emb h d e]
  exact (rs h).idx_mem (ix3 0 d e)

end

variable {F : FTy → Type} [FloatOps F] [Named F]

variable (c : Dev nD) (i : grid0.Coords)
  (a2 : Memref sig .tc .vmem S128x512 .f32) (h2 : a2.IsWhole) (a3 : Memref sig .tc .vmem S128x512 .f32) (h3 : a3.IsWhole)
  (a4 : Memref sig .tc .vmem S128x1024 .bf16) (h4 : a4.IsWhole) (a5 : Memref sig .tc .vmem S128x1024 .f32) (h5 : a5.IsWhole)
  (a6 : Memref sig .tc .vmem S128x128 .f32) (h6 : a6.IsWhole) (a7 : Memref sig .tc .vmem S128x512 .f32) (h7 : a7.IsWhole)
  (a8 : Memref sig .tc .vmem S1x512 .f32) (h8 : a8.IsWhole) (a9 : Memref sig .tc .vmem S1x256 .f32) (h9 : a9.IsWhole)
  (a10 : Memref sig .tc .vmem S128x1024 .bf16) (h10 : a10.IsWhole) (a11 : Memref sig .tc .vmem S4x128x256 .f32) (h11 : a11.IsWhole)
  (x0 x1 : Vec F S128x512 .f32) (x2 : Vec F S128x1024 .bf16) (x3 : Vec F S128x1024 .f32) (x4 : Vec F S128x128 .f32)
  (x5 : Vec F S128x512 .f32) (x6 : Vec F S1x512 .f32) (x7 : Vec F S1x256 .f32) (xs : Vec F S4x128x256 .f32)

/-- The head's output in the block, from the blocks and the state. -/
def blockOut (s : Vec F S4x128x256 .f32) (h : Fin 4) : FVec F S128x256 .bf16 :=
  headOut (View.ld x0 (rq h)) (View.ld x1 (rq h)) (View.ld x4 rsm) (View.ld x5 (rq h)) (View.ld x6 (rb h)) (View.ld x2 (rv h)) (View.ld s (rs h))
    (View.ld x3 (rv h)) (View.ld x7 rgh)

/-- The state the head leaves, from the blocks and the state. -/
def blockState (s : Vec F S4x128x256 .f32) (h : Fin 4) : FVec F S1x128x256 .f32 :=
  headState (View.ld x1 (rq h)) (View.ld x4 rsm) (View.ld x5 (rq h)) (View.ld x6 (rb h)) (View.ld x2 (rv h)) (View.ld s (rs h))

theorem out_B (hc : ¬cond0_0 i) (h : Fin 4) (r : Fin 128) (e : Fin 256) :
    out0_B_8 c i a2 h2 a3 h3 a4 h4 a5 h5 a6 h6 a7 h7 a8 h8 a9 h9 a10 h10 a11 h11 hc x0 x1 x2 x3 x4 x5 x6 x7 xs (ix2 r (vcol h e))
      = blockOut x0 x1 x2 x3 x4 x5 x6 x7 xs h (ix2 r e) := by
  unfold out0_B_8
  rw [View.read_writes_junk_eq_canon, pieces_B, rd_eq h2 x0, rd_eq h3 x1, rd_eq h4 x2, rd_eq h5 x3, rd_eq h6 x4, rd_eq h7 x5, rd_eq h8 x6, rd_eq h9 x7, rd_eq h11 xs]
  exact canon_heads (α := Elt F) (blockOut x0 x1 x2 x3 x4 x5 x6 x7 xs) h r e

theorem state_B (hc : ¬cond0_0 i) (h : Fin 4) (d : Fin 128) (e : Fin 256) :
    sout0_B_0 c i a2 h2 a3 h3 a4 h4 a5 h5 a6 h6 a7 h7 a8 h8 a9 h9 a10 h10 a11 h11 hc x0 x1 x2 x3 x4 x5 x6 x7 xs (ix3 h d e)
      = blockState x1 x2 x4 x5 x6 xs h (ix3 0 d e) := by
  unfold sout0_B_0
  rw [View.read_writes_junk_eq_canon, states_B, rd_eq h3 x1, rd_eq h4 x2, rd_eq h6 x4, rd_eq h7 x5, rd_eq h8 x6, rd_eq h11 xs]
  exact canon_slabs (α := Elt F) [] (blockState x1 x2 x4 x5 x6 xs) h d e

/-- The cleared state, read at a head. -/
theorem st0_read (h : Fin 4) : a11.view.readCov (st0 (F := F)) (rs h).toLoadRect = View.ld k0_pay2 (rs h) :=
  View.readCov_fill a11.view _ _ _ _ (fun a => by fin_cases a <;> rfl)

theorem out_A (hc : cond0_0 i) (h : Fin 4) (r : Fin 128) (e : Fin 256) :
    out0_A_8 c i a2 h2 a3 h3 a4 h4 a5 h5 a6 h6 a7 h7 a8 h8 a9 h9 a10 h10 a11 h11 hc x0 x1 x2 x3 x4 x5 x6 x7 (ix2 r (vcol h e))
      = blockOut x0 x1 x2 x3 x4 x5 x6 x7 k0_pay2 h (ix2 r e) := by
  unfold out0_A_8
  rw [View.read_writes_junk_eq_canon, pieces_A]
  simp only [rd_eq, st0_read]
  exact canon_heads (α := Elt F) (blockOut x0 x1 x2 x3 x4 x5 x6 x7 k0_pay2) h r e

theorem st1_read : a11.view.readCov (st1 a3 h3 a4 h4 a6 h6 a7 h7 a8 h8 a11 x1 x2 x4 x5 x6) (rs 1).toLoadRect = View.ld k0_pay2 (rs 1) :=
  (View.readCov_skip a11.view (rs 0) _ st0 _ (by decide)).trans (st0_read a11 1)
theorem st2_read : a11.view.readCov (st2 a3 h3 a4 h4 a6 h6 a7 h7 a8 h8 a11 x1 x2 x4 x5 x6) (rs 2).toLoadRect = View.ld k0_pay2 (rs 2) :=
  (View.readCov_skip a11.view (rs 1) _ (st1 a3 h3 a4 h4 a6 h6 a7 h7 a8 h8 a11 x1 x2 x4 x5 x6) _ (by decide)).trans
    ((View.readCov_skip a11.view (rs 0) _ st0 _ (by decide)).trans (st0_read a11 2))
theorem st3_read : a11.view.readCov (st3 a3 h3 a4 h4 a6 h6 a7 h7 a8 h8 a11 x1 x2 x4 x5 x6) (rs 3).toLoadRect = View.ld k0_pay2 (rs 3) :=
  (View.readCov_skip a11.view (rs 2) _ (st2 a3 h3 a4 h4 a6 h6 a7 h7 a8 h8 a11 x1 x2 x4 x5 x6) _ (by decide)).trans
    ((View.readCov_skip a11.view (rs 1) _ (st1 a3 h3 a4 h4 a6 h6 a7 h7 a8 h8 a11 x1 x2 x4 x5 x6) _ (by decide)).trans
      ((View.readCov_skip a11.view (rs 0) _ st0 _ (by decide)).trans (st0_read a11 3)))

theorem state_A (hc : cond0_0 i) (h : Fin 4) (d : Fin 128) (e : Fin 256) :
    sout0_A_0 c i a2 h2 a3 h3 a4 h4 a5 h5 a6 h6 a7 h7 a8 h8 a9 h9 a10 h10 a11 h11 hc x0 x1 x2 x3 x4 x5 x6 x7 (ix3 h d e)
      = blockState x1 x2 x4 x5 x6 k0_pay2 h (ix3 0 d e) := by
  unfold sout0_A_0
  rw [View.read_writes_junk_eq_canon, states_A, st4, st3_read, st3, st2_read, st2, st1_read, st1, st0_read]
  simp only [rd_eq]
  exact canon_slabs (α := Elt F) [zeroPiece] (blockState x1 x2 x4 x5 x6 k0_pay2) h d e

end Cert.Proof.Gla

end
-- ==== Proof.Gla.Masks.lean ====
/- The gated linear attention's masks: which row and which column each lets through, over the 128 of a chunk. -/
module

public import proofs.«01_k».proof.Proof.Gla.Head
public import Idealize.ShloMosaic.Lib.Pointwise

@[expose] public section

namespace Cert.Proof.Gla

open Cert.GlaIdeal Cert.GlaIdeal.Gen Idealize.ShloMosaic

theorem block16 (r s : Fin 128) : k0_pay6 (ix2 r s) = BitVec.ofNat 32 (r.val / 16) :=
  (by decide +kernel : ∀ r : Fin 128, k0_pay6 (ix2 r 0) = BitVec.ofNat 32 (r.val / 16)) r

theorem same16 (r s : Fin 128) : k0_pay8 colIx k0_pay6 16#32 k0_pay7 0#32 (ix2 r s) = if r.val / 16 = s.val / 16 then 1#1 else 0#1 := by
  have h : ∀ (a : Fin 8) (s : Fin 128), k0_pay8 colIx (broadcast S128x128 (BitVec.ofNat 32 a.val)) 16#32 k0_pay7 0#32 (ix2 0 s)
      = if a.val = s.val / 16 then 1#1 else 0#1 := by decide +kernel
  have e : k0_pay8 colIx k0_pay6 16#32 k0_pay7 0#32 (ix2 r s)
      = k0_pay8 colIx (broadcast S128x128 (k0_pay6 (ix2 r s))) 16#32 k0_pay7 0#32 (ix2 0 s) := rfl
  rw [e, block16]; exact h ⟨r.val / 16, by omega⟩ s

theorem block8 (r s : Fin 128) : k0_pay9 rowIx (ix2 r s) = BitVec.ofNat 32 (r.val / 8) :=
  (by decide +kernel : ∀ r : Fin 128, k0_pay9 rowIx (ix2 r 0) = BitVec.ofNat 32 (r.val / 8)) r

theorem same8 (r s : Fin 128) : k0_pay10 colIx (k0_pay9 rowIx) 8#32 (ix2 r s) = if r.val / 8 = s.val / 8 then 1#1 else 0#1 := by
  have h : ∀ (a : Fin 16) (s : Fin 128), k0_pay10 colIx (broadcast S128x128 (BitVec.ofNat 32 a.val)) 8#32 (ix2 0 s)
      = if a.val = s.val / 8 then 1#1 else 0#1 := by decide +kernel
  have e : k0_pay10 colIx (k0_pay9 rowIx) 8#32 (ix2 r s)
      = k0_pay10 colIx (broadcast S128x128 (k0_pay9 rowIx (ix2 r s))) 8#32 (ix2 0 s) := rfl
  rw [e, block8]; exact h ⟨r.val / 8, by omega⟩ s

theorem tri_mask (r s : Fin 128) : IntOp.cmpi .sle (BitVec.ofNat 32 s.val) (BitVec.ofNat 32 r.val) = if s ≤ r then 1#1 else 0#1 := by
  have h : ∀ r s : Fin 128, IntOp.cmpi .sle (BitVec.ofNat 32 s.val) (BitVec.ofNat 32 r.val) = if s ≤ r then 1#1 else 0#1 := by
    decide +kernel
  exact h r s

theorem upper8 (r s : Fin 128) : IntOp.cmpi .sge (k0_pay106 rowIx (ix2 r s)) 8#32 = if 8 ≤ r.val % 16 then 1#1 else 0#1 :=
  (by decide +kernel : ∀ r : Fin 128, IntOp.cmpi .sge (k0_pay106 rowIx (ix2 r 0)) 8#32 = if 8 ≤ r.val % 16 then 1#1 else 0#1) r
theorem lower8 (r s : Fin 128) : IntOp.cmpi .slt (k0_pay106 rowIx (ix2 r s)) 8#32 = if r.val % 16 < 8 then 1#1 else 0#1 :=
  (by decide +kernel : ∀ r : Fin 128, IntOp.cmpi .slt (k0_pay106 rowIx (ix2 r 0)) 8#32 = if r.val % 16 < 8 then 1#1 else 0#1) r

theorem upper4 (r s : Fin 128) : IntOp.cmpi .sge (k0_pay121 8#32 (k0_pay119 rowIx) (k0_pay120 rowIx) (ix2 r s)) 4#32
    = if 4 ≤ r.val % 8 then 1#1 else 0#1 :=
  (by decide +kernel : ∀ r : Fin 128, IntOp.cmpi .sge (k0_pay121 8#32 (k0_pay119 rowIx) (k0_pay120 rowIx) (ix2 r 0)) 4#32
    = if 4 ≤ r.val % 8 then 1#1 else 0#1) r
theorem lower4 (r s : Fin 128) : IntOp.cmpi .slt (k0_pay121 8#32 (k0_pay119 rowIx) (k0_pay120 rowIx) (ix2 r s)) 4#32
    = if r.val % 8 < 4 then 1#1 else 0#1 :=
  (by decide +kernel : ∀ r : Fin 128, IntOp.cmpi .slt (k0_pay121 8#32 (k0_pay119 rowIx) (k0_pay120 rowIx) (ix2 r 0)) 4#32
    = if r.val % 8 < 4 then 1#1 else 0#1) r

/-- Whether a row is the `n`th of its four, or a later one. -/
theorem from4 (n : Fin 4) (r s : Fin 128) : IntOp.cmpi .sge (k0_pay132 rowIx (ix2 r s)) (BitVec.ofNat 32 n.val)
    = if n.val ≤ r.val % 4 then 1#1 else 0#1 :=
  (by decide +kernel : ∀ (n : Fin 4) (r : Fin 128), IntOp.cmpi .sge (k0_pay132 rowIx (ix2 r 0)) (BitVec.ofNat 32 n.val)
    = if n.val ≤ r.val % 4 then 1#1 else 0#1) n r

/-- The entries `n` below the diagonal. -/
theorem diag (n : Fin 4) (r s : Fin 128) : IntOp.cmpi .eq (k0_pay4 (ix2 r s)) (0#32 - BitVec.ofNat 32 n.val)
    = if s.val + n.val = r.val then 1#1 else 0#1 := by
  have h : ∀ (n : Fin 4) (r s : Fin 128), IntOp.cmpi .eq (k0_pay4 (ix2 r s)) (0#32 - BitVec.ofNat 32 n.val)
    = if s.val + n.val = r.val then 1#1 else 0#1 := by decide +kernel
  exact h n r s

theorem before (n : Fin 128) (s : Fin 128) : IntOp.cmpi .slt (BitVec.ofNat 32 s.val) (BitVec.ofNat 32 n.val)
    = if s.val < n.val then 1#1 else 0#1 := by
  have h : ∀ n s : Fin 128, IntOp.cmpi .slt (BitVec.ofNat 32 s.val) (BitVec.ofNat 32 n.val)
    = if s.val < n.val then 1#1 else 0#1 := by decide +kernel
  exact h n s

/-- The six sets of rows and columns are apart, and together the entries on and below the diagonal. -/
theorem parts (r s : Fin 128) :
    ((((((if s.val / 16 < r.val / 16 then 1 else 0) + (if r.val / 16 = s.val / 16 ∧ 8 ≤ r.val % 16 ∧ s.val % 16 < 8 then 1 else 0))
        + (if r.val / 8 = s.val / 8 ∧ 4 ≤ r.val % 8 ∧ s.val % 8 < 4 then 1 else 0))
        + (if s.val + 0 = r.val ∧ 0 ≤ r.val % 4 then 1 else 0)) + (if s.val + 1 = r.val ∧ 1 ≤ r.val % 4 then 1 else 0))
        + (if s.val + 2 = r.val ∧ 2 ≤ r.val % 4 then 1 else 0)) + (if s.val + 3 = r.val ∧ 3 ≤ r.val % 4 then 1 else 0)
      = if s ≤ r then (1 : ℕ) else 0 := by
  have h : ∀ r s : Fin 128, ((((((if s.val / 16 < r.val / 16 then 1 else 0) + (if r.val / 16 = s.val / 16 ∧ 8 ≤ r.val % 16 ∧ s.val % 16 < 8 then 1 else 0))
        + (if r.val / 8 = s.val / 8 ∧ 4 ≤ r.val % 8 ∧ s.val % 8 < 4 then 1 else 0))
        + (if s.val + 0 = r.val ∧ 0 ≤ r.val % 4 then 1 else 0)) + (if s.val + 1 = r.val ∧ 1 ≤ r.val % 4 then 1 else 0))
        + (if s.val + 2 = r.val ∧ 2 ≤ r.val % 4 then 1 else 0)) + (if s.val + 3 = r.val ∧ 3 ≤ r.val % 4 then 1 else 0)
      = if s ≤ r then (1 : ℕ) else 0 := by decide +kernel
  exact h r s

end Cert.Proof.Gla
-- ==== Proof.Gla.Reals.lean ====
/- The gated linear attention's weights over finite inputs, as real numbers: every masked product of the chunk's own rows
   together is the plain decayed product of a row with each row up to it. -/
module

public import proofs.«01_k».proof.Proof.Gla.Masks

@[expose] public section

noncomputable section

namespace Cert.Proof.Gla

open Cert.GlaIdeal Cert.GlaIdeal.Gen Idealize.ShloMosaic

/-! ## Sums, powers of two and masks -/

theorem coe_sum {n : ℕ} (f : Fin n → ℝ) : (∑ k, ((f k : ℝ) : EReal)) = ((∑ k, f k : ℝ) : EReal) := by
  classical
  induction (Finset.univ : Finset (Fin n)) using Finset.induction_on with
  | empty => simp
  | insert a t ha ih => rw [Finset.sum_insert ha, Finset.sum_insert ha, ih, EReal.coe_add]

theorem exp2_real (φ : FTy) (x : ℝ) : FloatOps.exp2 (F := Ideal) (φ := φ) ((x : ℝ) : EReal) = (((2 : ℝ) ^ x : ℝ) : EReal) := rfl

theorem negInf : Ideal.ofBits .f32 0xFF800000#32 = ⊥ := by simp [Ideal.ofBits, Ideal.ieee]

theorem select_if {α : Type} (p : Prop) [Decidable p] (a b : α) : Scalar.select (if p then 1#1 else 0#1) a b = if p then a else b := by
  split <;> simp [Scalar.select]

theorem exp2_gate (φ : FTy) (p : Prop) [Decidable p] (x : ℝ) :
    FloatOps.exp2 (F := Ideal) (φ := φ) (if p then ((x : ℝ) : EReal) else ⊥) = ((if p then (2 : ℝ) ^ x else 0 : ℝ) : EReal) := by
  split
  · rfl
  · exact Ideal.exp2_bot

theorem if_coe (p : Prop) [Decidable p] (x : ℝ) : (if p then ((x : ℝ) : EReal) else 0) = ((if p then x else 0 : ℝ) : EReal) := by
  split <;> simp

theorem two_sub (a b : ℝ) : (2 : ℝ) ^ (a - b) = 2 ^ a * 2 ^ (-b) := by rw [sub_eq_add_neg, Real.rpow_add two_pos]

theorem two_meet (a b c : ℝ) : (2 : ℝ) ^ (a - b) * 2 ^ (b - c) = 2 ^ (a - c) := by rw [← Real.rpow_add two_pos]; congr 1; ring

/-! ## The weights -/

/-- The product of row `r`'s query with row `s`'s key, each of the 128 features decayed from `s` to `r`. -/
def dots (q k g : Fin 128 → Fin 128 → ℝ) (r s : Fin 128) : ℝ := ∑ d, q r d * k s d * (2 : ℝ) ^ (g r d - g s d)

/-- The vector holds the real numbers. -/
abbrev Holds {φ : FTy} (x : FVec Ideal S128x128 φ) (f : Fin 128 → Fin 128 → ℝ) : Prop := ∀ r d, x (ix2 r d) = ((f r d : ℝ) : EReal)

section
variable {q k g : FVec Ideal S128x128 .f32} {Q K G : Fin 128 → Fin 128 → ℝ} (hq : Holds q Q) (hk : Holds k K) (hg : Holds g G)
include hq hk hg

theorem subRow_real (lo : Fin 128) (last : Nat) (h : S128x128.Slices ![0, last] S128x1) (h1 : S128x128.Slices ![lo.val, 0] S16x128)
    (h2 : S128x128.Slices ![last, 0] S1x128) (i : Fin 16) (hi : lo.val + 15 < 128) (hl : last < 128) (s : Fin 128) :
    subRow lo.val last h h1 h2 q k g (ix2 i s) = ((if s.val < lo.val then dots Q K G ⟨lo.val + i.val, by omega⟩ s else 0 : ℝ) : EReal) := by
  pointwise [subRow, queriesFrom, keysTo, colIx, k0_pay43]
  simp only [hq _ _, hk _ _, hg _ _, before, select_if, negInf, ← EReal.coe_sub, exp2_real, exp2_gate, ← EReal.coe_mul, coe_sum]
  congr 1
  split
  · refine Finset.sum_congr rfl fun d _ => ?_
    rw [← two_meet (G ⟨lo.val + i.val, by omega⟩ d) (G ⟨last, hl⟩ d) (G s d)]; ring
  · simp

theorem far_real (r s : Fin 128) :
    farPart q k g (ix2 r s) = ((if s.val / 16 < r.val / 16 then dots Q K G r s else 0 : ℝ) : EReal) := by
  have H := fun lo last h h1 h2 i hi hl s => subRow_real hq hk hg lo last h h1 h2 i hi hl s
  have z : k0_pay51 (F := Ideal) = fun _ => (0 : EReal) := by
    funext i; exact Ideal.ofBits_zero_f32
  pointwise [farPart, k0_pay102, z]
  have e : ∀ (lo last : Nat) (hlo : lo < 128) (h : S128x128.Slices ![0, last] S128x1) (h1 : S128x128.Slices ![lo, 0] S16x128)
      (h2 : S128x128.Slices ![last, 0] S1x128) (i : Fin 16) (_ : lo + 15 < 128) (_ : last < 128) (_ : lo % 16 = 0)
      (_ : r.val = lo + i.val),
      subRow lo last h h1 h2 q k g (ix2 i s) = ((if s.val / 16 < r.val / 16 then dots Q K G r s else 0 : ℝ) : EReal) := by
    intro lo last hlo h h1 h2 i hi hl hm hr
    rw [H ⟨lo, hlo⟩ last h h1 h2 i hi hl s]
    have er : (⟨lo + i.val, by omega⟩ : Fin 128) = r := Fin.ext hr.symm
    have ec : (s.val < lo) ↔ s.val / 16 < r.val / 16 := by omega
    simp only [er, ec]
  split
  · rw [if_neg (by omega)]; rfl
  split
  · exact e 16 15 (by omega) _ _ _ _ (by omega) (by omega) (by omega) (by simp only; omega)
  split
  · exact e 32 31 (by omega) _ _ _ _ (by omega) (by omega) (by omega) (by simp only; omega)
  split
  · exact e 48 47 (by omega) _ _ _ _ (by omega) (by omega) (by omega) (by simp only; omega)
  split
  · exact e 64 63 (by omega) _ _ _ _ (by omega) (by omega) (by omega) (by simp only; omega)
  split
  · exact e 80 79 (by omega) _ _ _ _ (by omega) (by omega) (by omega) (by simp only; omega)
  split
  · exact e 96 95 (by omega) _ _ _ _ (by omega) (by omega) (by omega) (by simp only; omega)
  · exact e 112 111 (by omega) _ _ _ _ (by omega) (by omega) (by omega) (by simp only; omega)

/-- Two halves of one block decayed through a common row give the plain decayed product. -/
theorem halves (p u w : Prop) [Decidable p] [Decidable u] [Decidable w] (m : Fin 128 → Fin 128 → ℝ) (r s : Fin 128) (hm : p → m r = m s) :
    (if p then ∑ d, Q r d * (if u then (2 : ℝ) ^ (G r d - m r d) else 0) * (K s d * (if w then (2 : ℝ) ^ (m s d - G s d) else 0)) else 0)
      = if p ∧ u ∧ w then dots Q K G r s else 0 := by
  by_cases hp : p
  · by_cases hu : u
    · by_cases hw : w
      · simp only [hp, hu, hw, if_true, and_self, hm hp]
        refine Finset.sum_congr rfl fun d _ => ?_
        rw [← two_meet (G r d) (m s d) (G s d)]; ring
      · simp [hw]
    · simp [hu]
  · simp [hp]

theorem mid_real (r s : Fin 128) : midPart q k g (ix2 r s)
    = (((if s.val / 16 < r.val / 16 then dots Q K G r s else 0)
        + if r.val / 16 = s.val / 16 ∧ 8 ≤ r.val % 16 ∧ s.val % 16 < 8 then dots Q K G r s else 0 : ℝ) : EReal) := by
  pointwise [midPart, k0_pay110, k0_pay107, k0_pay108, k0_pay109]
  simp only [hq _ _, hk _ _, hg _ _, far_real hq hk hg, same16, upper8, lower8, select_if, negInf, ← EReal.coe_sub, exp2_real, exp2_gate,
    ← EReal.coe_mul, coe_sum, if_coe, ← EReal.coe_add]
  congr 2
  exact halves hq hk hg _ _ _ (fun r d => G ⟨r.val / 16 * 16 + 7, by omega⟩ d) r s (fun h => by funext d; simp only [h])

theorem near_real (r s : Fin 128) : nearPart q k g (ix2 r s)
    = (((if s.val / 16 < r.val / 16 then dots Q K G r s else 0)
        + (if r.val / 16 = s.val / 16 ∧ 8 ≤ r.val % 16 ∧ s.val % 16 < 8 then dots Q K G r s else 0)
        + if r.val / 8 = s.val / 8 ∧ 4 ≤ r.val % 8 ∧ s.val % 8 < 4 then dots Q K G r s else 0 : ℝ) : EReal) := by
  pointwise [nearPart, k0_pay122]
  simp only [hq _ _, hk _ _, hg _ _, mid_real hq hk hg, same8, upper4, lower4, select_if, negInf, ← EReal.coe_sub, exp2_real, exp2_gate,
    ← EReal.coe_mul, coe_sum, if_coe, ← EReal.coe_add]
  congr 2
  exact halves hq hk hg _ _ _ (fun r d => G ⟨r.val / 8 * 8 + 3, by omega⟩ d) r s (fun h => by funext d; simp only [h])

end

theorem ones_row (r s : Fin 128) : k0_pay5 (F := Ideal) (ix2 r s) = 1 := Ideal.ofBits_one_bf16

/-- A band of the weights: the row sums, let through on one line below the diagonal. -/
theorem band (Q K G : Fin 128 → Fin 128 → ℝ) (n : ℕ) (r s t : Fin 128) (ht : s.val + n = r.val → t = s) :
    (if s.val + n = r.val then ∑ d, Q r d * K t d * (if n ≤ r.val % 4 then (2 : ℝ) ^ (G r d - G t d) else 0) else 0)
      = if s.val + n = r.val ∧ n ≤ r.val % 4 then dots Q K G r s else 0 := by
  by_cases h : s.val + n = r.val
  · by_cases h' : n ≤ r.val % 4
    · simp only [h, h', if_true, and_self, ht h]; rfl
    · simp [h']
  · simp [h]

section
variable {q k g : FVec Ideal S128x128 .f32} {Q K G : Fin 128 → Fin 128 → ℝ} (hq : Holds q Q) (hk : Holds k K) (hg : Holds g G)
include hq hk hg

theorem weights_real (r s : Fin 128) : weights q k g (ix2 r s) = ((if s ≤ r then dots Q K G r s else 0 : ℝ) : EReal) := by
  have d0 : ∀ r s, IntOp.cmpi .eq (k0_pay4 (ix2 r s)) 0#32 = if s.val + 0 = r.val then 1#1 else 0#1 := diag 0
  have d1 : ∀ r s, IntOp.cmpi .eq (k0_pay4 (ix2 r s)) 4294967295#32 = if s.val + 1 = r.val then 1#1 else 0#1 := diag 1
  have d2 : ∀ r s, IntOp.cmpi .eq (k0_pay4 (ix2 r s)) 4294967294#32 = if s.val + 2 = r.val then 1#1 else 0#1 := diag 2
  have d3 : ∀ r s, IntOp.cmpi .eq (k0_pay4 (ix2 r s)) 4294967293#32 = if s.val + 3 = r.val then 1#1 else 0#1 := diag 3
  have f0 : ∀ r s, IntOp.cmpi .sge (k0_pay132 rowIx (ix2 r s)) 0#32 = if 0 ≤ r.val % 4 then 1#1 else 0#1 := from4 0
  have f1 : ∀ r s, IntOp.cmpi .sge (k0_pay132 rowIx (ix2 r s)) 1#32 = if 1 ≤ r.val % 4 then 1#1 else 0#1 := from4 1
  have f2 : ∀ r s, IntOp.cmpi .sge (k0_pay132 rowIx (ix2 r s)) 2#32 = if 2 ≤ r.val % 4 then 1#1 else 0#1 := from4 2
  have f3 : ∀ r s, IntOp.cmpi .sge (k0_pay132 rowIx (ix2 r s)) 3#32 = if 3 ≤ r.val % 4 then 1#1 else 0#1 := from4 3
  pointwise [weights, band2, band1, band0, k0_pay133, k0_pay141, k0_pay145, k0_pay152]
  simp only [hq _ _, hk _ _, hg _ _, near_real hq hk hg, d0, d1, d2, d3, f0, f1, f2, f3, ones_row, mul_one, select_if, negInf, ← EReal.coe_sub,
    exp2_real, exp2_gate, ← EReal.coe_mul, coe_sum, if_coe, ← EReal.coe_add]
  congr 1
  have at_row : ∀ n : ℕ, n < 4 → s.val + n = r.val → (⟨(r.val + 128 - n) % 128, Nat.mod_lt _ (by omega)⟩ : Fin 128) = s :=
    fun n hn h => Fin.ext (by simp only; omega)
  refine (congrArg₂ (· + ·) (congrArg₂ (· + ·) (congrArg₂ (· + ·) (congrArg₂ (· + ·) rfl
    (band Q K G 0 r s r (fun h => Fin.ext (by omega)))) (band Q K G 1 r s _ (at_row 1 (by omega))))
    (band Q K G 2 r s _ (at_row 2 (by omega)))) (band Q K G 3 r s _ (at_row 3 (by omega)))).trans ?_
  have one : ∀ (p : Prop) [Decidable p], (if p then dots Q K G r s else 0) = ((if p then 1 else 0 : ℕ) : ℝ) * dots Q K G r s := by
    intro p _; split <;> simp
  simp only [one, ← add_mul, ← Nat.cast_add]
  rw [parts r s]

end

end Cert.Proof.Gla

end
-- ==== Proof.Gla.Chunk.lean ====
/- One chunk of one head over finite inputs, as real numbers: the gate's running sums, the head's mix of the rows and the
   state it leaves; and then the chunks of a sequence one after another, whose states gather every row before them. -/
module

public import proofs.«01_k».proof.Proof.Gla.Reals

@[expose] public section

noncomputable section

namespace Cert.Proof.Gla

open Cert.GlaIdeal Cert.GlaIdeal.Gen Idealize.ShloMosaic

/-! ## The gate -/

/-- The gate's logit. -/
def logit (S : Fin 128 → Fin 16 → ℝ) (W : Fin 16 → Fin 128 → ℝ) (B : Fin 128 → ℝ) (r d : Fin 128) : ℝ := (∑ k, S r k * W k d) + B d

/-- A sixteenth of the logarithm of the logistic function, to base two. -/
def decayLog (x : ℝ) : ℝ := (min x 0 - Real.log (1 + Real.exp (0 - |x|))) * (16 * Real.log 2)⁻¹

/-- A sum over 128 whose terms past the sixteenth vanish. -/
theorem sum_first (f : Fin 128 → EReal) (g : Fin 16 → ℝ) (h : ∀ k : Fin 16, f ⟨k.val, by omega⟩ = ((g k : ℝ) : EReal))
    (h' : ∀ k : Fin 128, 16 ≤ k.val → f k = 0) : ∑ k, f k = ((∑ k, g k : ℝ) : EReal) := by
  rw [show (∑ k, f k) = ∑ k : Fin (16 + 112), f k from rfl, Fin.sum_univ_add]
  rw [show (∑ i : Fin 112, f (Fin.natAdd 16 i)) = 0 from Finset.sum_eq_zero fun i _ => h' _ (by simp [Fin.natAdd]), add_zero,
    ← coe_sum]
  exact Finset.sum_congr rfl fun k _ => h k

section
variable {small w : Vec Ideal S128x128 .f32} {b : Vec Ideal S1x128 .f32}
  {S : Fin 128 → Fin 16 → ℝ} {W : Fin 16 → Fin 128 → ℝ} {B : Fin 128 → ℝ}
  (hs : ∀ r (k : Fin 16), small (ix2 r ⟨k.val, by omega⟩) = ((S r k : ℝ) : EReal))
  (hw : ∀ (k : Fin 16) d, w (ix2 ⟨k.val, by omega⟩ d) = ((W k d : ℝ) : EReal))
  (hw0 : ∀ (k : Fin 128) d, 16 ≤ k.val → w (ix2 k d) = 0)
  (hb : ∀ d, b (ix2 0 d) = ((B d : ℝ) : EReal))
include hs hw hw0 hb

theorem gate_real (r d : Fin 128) : k0_pay17 small w b (ix2 r d) = ((logit S W B r d : ℝ) : EReal) := by
  pointwise [k0_pay17, k0_pay15, k0_pay16]
  rw [sum_first _ (fun k => S r k * W k d) (fun k => by rw [hs, hw]; rfl) (fun k hk => by rw [hw0 k d hk, mul_zero]),
    sum_first _ (fun k => S r k * (W k d - W k d)) (fun k => by rw [hs, hw]; rfl) (fun k hk => by rw [hw0 k d hk]; simp),
    sum_first _ (fun k => (S r k - S r k) * W k d) (fun k => by rw [hs, hw]; rfl) (fun k hk => by rw [hw0 k d hk, mul_zero]), hb]
  simp only [← EReal.coe_add]
  congr 1
  simp [logit]

theorem log_real (r d : Fin 128) : k0_pay28 (k0_pay17 small w b) (ix2 r d) = ((decayLog (logit S W B r d) : ℝ) : EReal) := by
  pointwise [k0_pay28]
  rw [gate_real hs hw hw0 hb]
  have hn : Named.named (F := Ideal) κ "log2e_over_tau" (φ := .f32) 0x3DB8AA3B#32 = (((16 * (Real.log 2))⁻¹ : ℝ) : EReal) :=
    (IdealRules.named_const.statement κ "log2e_over_tau" .f32 0x3DB8AA3B#32 (((16 * (Real.log 2))⁻¹ : ℝ) : EReal) rfl).2.2
  generalize logit S W B r d = x
  have ha : FloatOps.absf (F := Ideal) (φ := .f32) ((x : ℝ) : EReal) = ((|x| : ℝ) : EReal) := by
    show max ((x : ℝ) : EReal) (-((x : ℝ) : EReal)) = _
    rw [← EReal.coe_neg]; exact (EReal.coe_strictMono.monotone.map_max (a := x) (b := -x)).symm
  have hm : min ((x : ℝ) : EReal) 0 = ((min x 0 : ℝ) : EReal) := (EReal.coe_strictMono.monotone.map_min (a := x) (b := 0)).symm
  rw [hn, ha, hm, show (0 : EReal) - ((|x| : ℝ) : EReal) = ((0 - |x| : ℝ) : EReal) from rfl, Ideal.exp_coe,
    show (1 : EReal) + ((Real.exp (0 - |x|) : ℝ) : EReal) = ((1 + Real.exp (0 - |x|) : ℝ) : EReal) from rfl, Ideal.log_coe,
    if_neg (by have := Real.exp_pos (0 - |x|); linarith)]
  rfl

theorem cum_real : Holds (cumOf small w b) (fun r d => ∑ x, if x ≤ r then decayLog (logit S W B x d) else 0) := by
  intro r d
  pointwise [cumOf, k0_pay36, k0_pay3]
  simp only [log_real hs hw hw0 hb, tri_mask, select_if, ← EReal.coe_sub, sub_self, if_coe, coe_sum, ← EReal.coe_add]
  congr 1
  simp

end

/-! ## The mix and the state -/

/-- The queries' scale, near the inverse square root of 128. -/
def scale : ℝ := (Ideal.ofBits .f32 0x3DB504F3#32).toReal

theorem scale_coe : Ideal.ofBits .f32 0x3DB504F3#32 = ((scale : ℝ) : EReal) := by
  have h : ∃ x : ℝ, Ideal.ofBits .f32 0x3DB504F3#32 = ((x : ℝ) : EReal) := by
    simp only [Ideal.ofBits, Ideal.ieee]; exact ⟨_, rfl⟩
  obtain ⟨x, hx⟩ := h
  rw [scale, hx, EReal.toReal_coe]

section
variable {q k g : FVec Ideal S128x128 .f32} {v : Vec Ideal S128x256 .bf16} {s : Vec Ideal S1x128x256 .f32}
  {Q K G : Fin 128 → Fin 128 → ℝ} {V St : Fin 128 → Fin 256 → ℝ}
  (hq : Holds q Q) (hk : Holds k K) (hg : Holds g G) (hv : ∀ r e, v (ix2 r e) = ((V r e : ℝ) : EReal))
  (hst : ∀ d e, s (ix3 0 d e) = ((St d e : ℝ) : EReal))
include hk hg hv hst

include hq in
theorem mixed_real (r : Fin 128) (e : Fin 256) : mixed q k g v s (ix2 r e)
    = (((∑ d, Q r d * scale * (2 : ℝ) ^ (G r d) * St d e)
        + ∑ x, (if x ≤ r then dots (fun r d => Q r d * scale) K G r x else 0) * V x e : ℝ) : EReal) := by
  have hq' : Holds (k0_pay11 q) (fun r d => Q r d * scale) := by
    intro r d
    pointwise [k0_pay11]
    rw [hq, scale_coe]; rfl
  pointwise [mixed, k0_pay158, k0_pay47]
  simp only [hq' _ _, hg _ _, hv, hst, weights_real hq' hk hg, exp2_real, ← EReal.coe_mul, coe_sum, ← EReal.coe_add]

theorem state_real (d : Fin 128) (e : Fin 256) : k0_pay160 (k0_pay159 v (k0_pay43 g) (k0_pay43 k) s) (ix3 0 d e)
    = (((2 : ℝ) ^ (G 127 d) * St d e + ∑ x, K x d * (2 : ℝ) ^ (G 127 d - G x d) * V x e : ℝ) : EReal) := by
  pointwise [k0_pay160, k0_pay159, k0_pay43]
  simp only [hk _ _, hg _ _, hv, hst, exp2_real, ← EReal.coe_sub, ← EReal.coe_mul, coe_sum, ← EReal.coe_add]

end

/-! ## The chunks of a sequence -/

/-- The running sum before row `n`. -/
def runSum (L : ℕ → Fin 128 → ℝ) (n : ℕ) (d : Fin 128) : ℝ := ∑ m ∈ Finset.range n, L m d

/-- The state before row `n`: every earlier key and value, decayed up to there. -/
def stateAt (K L : ℕ → Fin 128 → ℝ) (V : ℕ → Fin 256 → ℝ) (n : ℕ) (d : Fin 128) (e : Fin 256) : ℝ :=
  ∑ m ∈ Finset.range n, K m d * (2 : ℝ) ^ (runSum L n d - runSum L (m + 1) d) * V m e

/-- Row `n`'s mix of the values of the rows up to it. -/
def mixAt (Q K L : ℕ → Fin 128 → ℝ) (V : ℕ → Fin 256 → ℝ) (n : ℕ) (e : Fin 256) : ℝ :=
  ∑ m ∈ Finset.range (n + 1), (∑ d, Q n d * scale * K m d * (2 : ℝ) ^ (runSum L (n + 1) d - runSum L (m + 1) d)) * V m e

variable (Q K L : ℕ → Fin 128 → ℝ) (V : ℕ → Fin 256 → ℝ) (n : ℕ)

/-- A sum over 128 of the terms up to `r` is one over a range. -/
theorem sum_upto (f : ℕ → ℝ) (r : Fin 128) : (∑ x : Fin 128, if x ≤ r then f x.val else 0) = ∑ m ∈ Finset.range (r.val + 1), f m := by
  have h : (∑ x : Fin 128, if x ≤ r then f x.val else 0) = ∑ m ∈ Finset.range 128, if m ≤ r.val then f m else 0 :=
    Fin.sum_univ_eq_sum_range (fun m => if m ≤ r.val then f m else 0) 128
  rw [h, ← Finset.sum_filter]
  congr 1
  ext m; simp only [Finset.mem_filter, Finset.mem_range]; omega

theorem runSum_add (m : ℕ) (d : Fin 128) : runSum L (n + m) d = runSum L n d + ∑ x ∈ Finset.range m, L (n + x) d := by
  unfold runSum; rw [Finset.sum_range_add]

theorem cum_upto (r d : Fin 128) : (∑ x : Fin 128, if x ≤ r then L (n + x.val) d else 0) = runSum L (n + r.val + 1) d - runSum L n d := by
  rw [sum_upto (fun x => L (n + x) d), add_assoc, runSum_add]; ring

/-- The state after a chunk is the state before it, decayed, and the chunk's own rows. -/
theorem state_step (d : Fin 128) (e : Fin 256) :
    (2 : ℝ) ^ (runSum L (n + 128) d - runSum L n d) * stateAt K L V n d e
      + ∑ x : Fin 128, K (n + x.val) d * (2 : ℝ) ^ ((runSum L (n + 128) d - runSum L n d) - (runSum L (n + x.val + 1) d - runSum L n d)) * V (n + x.val) e
    = stateAt K L V (n + 128) d e := by
  unfold stateAt
  rw [Finset.sum_range_add, Finset.mul_sum]
  congr 1
  · refine Finset.sum_congr rfl fun m _ => ?_
    rw [← two_meet (runSum L (n + 128) d) (runSum L n d) (runSum L (m + 1) d)]; ring
  · rw [Fin.sum_univ_eq_sum_range (fun x => K (n + x) d * (2 : ℝ) ^ ((runSum L (n + 128) d - runSum L n d)
      - (runSum L (n + x + 1) d - runSum L n d)) * V (n + x) e) 128]
    refine Finset.sum_congr rfl fun m _ => ?_
    rw [sub_sub_sub_cancel_right]

/-- A chunk's row mixes, through the state, every row before the chunk, and on its own the chunk's rows up to it. -/
theorem mix_chunk (r : Fin 128) (e : Fin 256) :
    (∑ d, Q (n + r.val) d * scale * (2 : ℝ) ^ (runSum L (n + r.val + 1) d - runSum L n d) * stateAt K L V n d e)
      + ∑ x : Fin 128, (if x ≤ r then dots (fun r d => Q (n + r.val) d * scale) (fun r d => K (n + r.val) d)
          (fun r d => runSum L (n + r.val + 1) d - runSum L n d) r x else 0) * V (n + x.val) e
    = mixAt Q K L V (n + r.val) e := by
  unfold mixAt
  rw [add_assoc n r.val 1, Finset.sum_range_add]
  congr 1
  · unfold stateAt
    simp only [Finset.mul_sum, Finset.sum_mul]
    rw [Finset.sum_comm]
    refine Finset.sum_congr rfl fun m _ => Finset.sum_congr rfl fun d _ => ?_
    rw [← two_meet (runSum L (n + (r.val + 1)) d) (runSum L n d) (runSum L (m + 1) d)]; ring
  · rw [← sum_upto]
    refine Finset.sum_congr rfl fun x _ => ?_
    rw [ite_mul, zero_mul]
    congr 1
    unfold dots
    congr 1
    refine Finset.sum_congr rfl fun d _ => ?_
    rw [sub_sub_sub_cancel_right, add_assoc n r.val 1]

end Cert.Proof.Gla

end
-- ==== Proof.Gla.Step.lean ====
/- One chunk's step for one head, from blocks that hold finite inputs: the state gathers the chunk's rows, and each row's
   output is its mix of every row up to it, normalized and gated. -/
module

public import proofs.«01_k».proof.Proof.Gla.Block
public import proofs.«01_k».proof.Proof.Gla.Chunk

@[expose] public section

noncomputable section

namespace Cert.Proof.Gla

open Cert.GlaIdeal Cert.GlaIdeal.Gen Idealize.ShloMosaic

/-! ## A head's columns, loaded -/

theorem ld_q {e : EltTy} (x : Vec Ideal S128x512 e) (h : Fin 4) (r d : Fin 128) : View.ld x (rq h) (ix2 r d) = x (ix2 r (kcol h d)) := by
  refine congrArg x (funext fun a => Fin.ext ?_)
  match a with
  | ⟨0, _⟩ => show 0 + 1 * r.val = r.val; omega
  | ⟨1, _⟩ => show 128 * h.val + 1 * d.val = 128 * h.val + d.val; omega

theorem ld_v {e : EltTy} (x : Vec Ideal S128x1024 e) (h : Fin 4) (r : Fin 128) (k : Fin 256) : View.ld x (rv h) (ix2 r k) = x (ix2 r (vcol h k)) := by
  refine congrArg x (funext fun a => Fin.ext ?_)
  match a with
  | ⟨0, _⟩ => show 0 + 1 * r.val = r.val; omega
  | ⟨1, _⟩ => show 256 * h.val + 1 * k.val = 256 * h.val + k.val; omega

theorem ld_b (x : Vec Ideal S1x512 .f32) (h : Fin 4) (d : Fin 128) : View.ld x (rb h) (ix2 0 d) = x (ix2 0 (kcol h d)) := by
  refine congrArg x (funext fun a => Fin.ext ?_)
  match a with
  | ⟨0, _⟩ => rfl
  | ⟨1, _⟩ => show 128 * h.val + 1 * d.val = 128 * h.val + d.val; omega

theorem ld_s (x : Vec Ideal S4x128x256 .f32) (h : Fin 4) (d : Fin 128) (e : Fin 256) : View.ld x (rs h) (ix3 0 d e) = x (ix3 h d e) := by
  refine congrArg x (funext fun a => Fin.ext ?_)
  match a with
  | ⟨0, _⟩ => show h.val + 1 * 0 = h.val; omega
  | ⟨1, _⟩ => show 0 + 1 * d.val = d.val; omega
  | ⟨2, _⟩ => show 0 + 1 * e.val = e.val; omega

theorem ld_sm (x : Vec Ideal S128x128 .f32) (r d : Fin 128) : View.ld x rsm (ix2 r d) = x (ix2 r d) := by
  refine congrArg x (funext fun a => Fin.ext ?_)
  match a with
  | ⟨0, _⟩ => show 0 + 1 * r.val = r.val; omega
  | ⟨1, _⟩ => show 0 + 1 * d.val = d.val; omega

theorem ld_gh (x : Vec Ideal S1x256 .f32) (e : Fin 256) : View.ld x rgh (ix2 0 e) = x (ix2 0 e) := by
  refine congrArg x (funext fun a => Fin.ext ?_)
  match a with
  | ⟨0, _⟩ => rfl
  | ⟨1, _⟩ => show 0 + 1 * e.val = e.val; omega

/-- One of the first sixteen features. -/
def low (k : Fin 16) : Fin 128 := ⟨k.val, by omega⟩

/-! ## The normalized and gated output -/

/-- A row `o` of the mix, divided by its root mean square, scaled by `gh` and gated by `gb`, at feature `e`. -/
def finish (o : Fin 256 → EReal) (gh gb : EReal) (e : Fin 256) : EReal :=
  o e * Ideal.rsqrt (Ideal.div (∑ x, o x * o x) (Ideal.ofBits .f32 0x43800000#32) + Ideal.ofBits .f32 0x358637BD#32) * gh
    * (gb * Ideal.div 1 (1 + Ideal.exp (0 - gb)))

theorem finish_row (o : FVec Ideal S128x256 .f32) (gb : Vec Ideal S128x256 .f32) (gh : Vec Ideal S1x256 .f32) (r : Fin 128) (e : Fin 256) :
    k0_pay161 o gb gh (ix2 r e) = finish (fun e => o (ix2 r e)) (gh (ix2 0 e)) (gb (ix2 r e)) e := by
  pointwise [k0_pay161, finish]

/-! ## The step -/

section
variable {x0 x1 : Vec Ideal S128x512 .f32} {x2 : Vec Ideal S128x1024 .bf16} {x3 : Vec Ideal S128x1024 .f32} {x4 : Vec Ideal S128x128 .f32}
  {x5 : Vec Ideal S128x512 .f32} {x6 : Vec Ideal S1x512 .f32} {x7 : Vec Ideal S1x256 .f32} {xs : Vec Ideal S4x128x256 .f32} {h : Fin 4}
  {Q K L : ℕ → Fin 128 → ℝ} {V : ℕ → Fin 256 → ℝ} {n : ℕ}
  {S : Fin 128 → Fin 16 → ℝ} {W : Fin 16 → Fin 128 → ℝ} {B : Fin 128 → ℝ}
  (hq : ∀ r d, x0 (ix2 r (kcol h d)) = ((Q (n + r.val) d : ℝ) : EReal))
  (hk : ∀ r d, x1 (ix2 r (kcol h d)) = ((K (n + r.val) d : ℝ) : EReal))
  (hv : ∀ r e, x2 (ix2 r (vcol h e)) = ((V (n + r.val) e : ℝ) : EReal))
  (hs : ∀ r (k : Fin 16), x4 (ix2 r (low k)) = ((S r k : ℝ) : EReal))
  (hw : ∀ (k : Fin 16) d, x5 (ix2 (low k) (kcol h d)) = ((W k d : ℝ) : EReal))
  (hw0 : ∀ (k : Fin 128) d, 16 ≤ k.val → x5 (ix2 k (kcol h d)) = 0)
  (hb : ∀ d, x6 (ix2 0 (kcol h d)) = ((B d : ℝ) : EReal))
  (hL : ∀ r d, L (n + r.val) d = decayLog (logit S W B r d))
  (hst : ∀ d e, xs (ix3 h d e) = ((stateAt K L V n d e : ℝ) : EReal))

include hs hw hw0 hb hL in
theorem cum_step : Holds (cumOf (View.ld x4 rsm) (View.ld x5 (rq h)) (View.ld x6 (rb h))) (fun r d => runSum L (n + r.val + 1) d - runSum L n d) := by
  intro r d
  have e := cum_real (small := View.ld x4 rsm) (w := View.ld x5 (rq h)) (b := View.ld x6 (rb h)) (S := S) (W := W) (B := B)
    (fun r k => (ld_sm x4 _ _).trans (hs r k)) (fun k d => (ld_q x5 h _ _).trans (hw k d)) (fun k d hk => (ld_q x5 h _ _).trans (hw0 k d hk))
    (fun d => (ld_b x6 h d).trans (hb d)) r d
  refine e.trans (congrArg _ ?_)
  refine Eq.trans ?_ (cum_upto L n r d)
  exact Finset.sum_congr rfl fun x _ => by rw [hL]

include hk hv hs hw hw0 hb hL hst

theorem state_next (d : Fin 128) (e : Fin 256) :
    blockState x1 x2 x4 x5 x6 xs h (ix3 0 d e) = ((stateAt K L V (n + 128) d e : ℝ) : EReal) := by
  have H := state_real (k := View.ld x1 (rq h)) (v := View.ld x2 (rv h)) (s := View.ld xs (rs h)) (K := fun r d => K (n + r.val) d)
    (V := fun r e => V (n + r.val) e) (St := stateAt K L V n)
    (fun r d => (ld_q x1 h r d).trans (hk r d)) (cum_step hs hw hw0 hb hL) (fun r e => (ld_v x2 h r e).trans (hv r e))
    (fun d e => (ld_s xs h d e).trans (hst d e)) d e
  refine H.trans ?_
  rw [← state_step]
  rfl

include hq in
theorem out_next (r : Fin 128) (e : Fin 256) :
    blockOut x0 x1 x2 x3 x4 x5 x6 x7 xs h (ix2 r e)
      = finish (fun e => ((mixAt Q K L V (n + r.val) e : ℝ) : EReal)) (x7 (ix2 0 e)) (x3 (ix2 r (vcol h e))) e := by
  have H := fun e => mixed_real (q := View.ld x0 (rq h)) (k := View.ld x1 (rq h)) (v := View.ld x2 (rv h)) (s := View.ld xs (rs h))
    (Q := fun r d => Q (n + r.val) d) (K := fun r d => K (n + r.val) d) (V := fun r e => V (n + r.val) e) (St := stateAt K L V n)
    (fun r d => (ld_q x0 h r d).trans (hq r d))
    (fun r d => (ld_q x1 h r d).trans (hk r d)) (cum_step hs hw hw0 hb hL) (fun r e => (ld_v x2 h r e).trans (hv r e))
    (fun d e => (ld_s xs h d e).trans (hst d e)) r e
  refine (finish_row _ _ _ r e).trans ?_
  rw [ld_gh, ld_v]
  refine congrArg (fun o => finish o _ _ e) (funext fun e => (H e).trans ?_)
  rw [← mix_chunk]

end

end Cert.Proof.Gla

end
-- ==== Proof.Gla.Spec.lean ====
/- The result array of the gated linear attention in real numbers: per sequence and head, every row's mix of the rows up to it. -/
module

public import proofs.«01_k».proof.Proof.Gla.Step

@[expose] public section

noncomputable section

namespace Cert.Proof.Gla

open Cert.GlaIdeal Idealize.ShloMosaic

/-- Row `n` of sequence `b` among all sequences' rows. -/
def seqRow (b : Fin 8) (n : ℕ) : Fin 65536 := ⟨(8192 * b.val + n) % 65536, Nat.mod_lt _ (by omega)⟩

theorem seqRow_val (b : Fin 8) {n : ℕ} (hn : n < 8192) : (seqRow b n).val = 8192 * b.val + n :=
  Nat.mod_eq_of_lt (by omega)

section
variable (x0 x1 : Vec Ideal S65536x512 .f32) (x2 : Vec Ideal S65536x1024 .bf16) (x3 : Vec Ideal S65536x1024 .f32)
  (x4 : Vec Ideal S65536x128 .f32) (x5 : Vec Ideal S16x512 .f32) (x6 : Vec Ideal S512 .f32) (x7 : Vec Ideal S256 .f32)

/-- A head's queries or keys, by row and feature. -/
def keys (b : Fin 8) (h : Fin 4) (n : ℕ) (d : Fin 128) : ℝ := (x0 (ix2 (seqRow b n) (kcol h d))).toReal
/-- A head's values, by row and feature. -/
def vals (b : Fin 8) (h : Fin 4) (n : ℕ) (e : Fin 256) : ℝ := (x2 (ix2 (seqRow b n) (vcol h e))).toReal
/-- A head's gate before its sigmoid. -/
def gate (b : Fin 8) (h : Fin 4) (n : ℕ) (d : Fin 128) : ℝ :=
  (∑ k : Fin 16, (x4 (ix2 (seqRow b n) (low k))).toReal * (x5 (ix2 k (kcol h d))).toReal) + (x6 (ix1 (kcol h d))).toReal
/-- A head's log-decays to the base two. -/
def decays (b : Fin 8) (h : Fin 4) (n : ℕ) (d : Fin 128) : ℝ := decayLog (gate x4 x5 x6 b h n d)

/-- A head's mix at row `n`. -/
def mixRow (b : Fin 8) (h : Fin 4) (n : ℕ) (e : Fin 256) : ℝ :=
  mixAt (keys x0 b h) (keys x1 b h) (decays x4 x5 x6 b h) (vals x2 b h) n e

/-- The result at row `r` and column `j`: its head's mix, normalized and gated. -/
def resultAt (r : Fin 65536) (j : Fin 1024) : EReal :=
  finish (fun e => ((mixRow x0 x1 x2 x4 x5 x6 ⟨r.val / 8192, by omega⟩ ⟨j.val / 256, by omega⟩ (r.val % 8192) e : ℝ) : EReal))
    (x7 (ix1 ⟨j.val % 256, Nat.mod_lt _ (by omega)⟩)) (x3 (ix2 r j)) ⟨j.val % 256, Nat.mod_lt _ (by omega)⟩

/-- The result array. -/
def result : Vec Ideal S65536x1024 .bf16 := fun i => resultAt x0 x1 x2 x3 x4 x5 x6 x7 (i 0) (i 1)

theorem resultAt_row (r : Fin 65536) (j : Fin 1024) (b : Fin 8) (h : Fin 4) (n : ℕ) (e : Fin 256) (hb : r.val / 8192 = b.val) (hh : j.val / 256 = h.val)
    (hn : r.val % 8192 = n) (he : j.val % 256 = e.val) :
    resultAt x0 x1 x2 x3 x4 x5 x6 x7 r j
      = finish (fun e => ((mixRow x0 x1 x2 x4 x5 x6 b h n e : ℝ) : EReal)) (x7 (ix1 e)) (x3 (ix2 r j)) e := by
  have e0 : ∀ p, (⟨r.val / 8192, p⟩ : Fin 8) = b := fun _ => Fin.ext hb
  have e1 : ∀ p, (⟨j.val / 256, p⟩ : Fin 4) = h := fun _ => Fin.ext hh
  have e2 : ∀ p, (⟨j.val % 256, p⟩ : Fin 256) = e := fun _ => Fin.ext he
  unfold resultAt
  simp only [e0, e1, e2, hn]

theorem result_at (b : Fin 8) (h : Fin 4) {n : ℕ} (hn : n < 8192) (e : Fin 256) :
    result x0 x1 x2 x3 x4 x5 x6 x7 (ix2 (seqRow b n) (vcol h e))
      = finish (fun e => ((mixRow x0 x1 x2 x4 x5 x6 b h n e : ℝ) : EReal)) (x7 (ix1 e)) (x3 (ix2 (seqRow b n) (vcol h e))) e := by
  have hr := seqRow_val b hn
  have hv : (vcol h e).val = 256 * h.val + e.val := rfl
  exact resultAt_row x0 x1 x2 x3 x4 x5 x6 x7 (seqRow b n) (vcol h e) b h n e (by omega) (by omega) (by omega) (by omega)

/-- Every place of the result is some row of a sequence and some feature of a head. -/
theorem place (i : S65536x1024.Idx) : ∃ (b : Fin 8) (n : Fin 8192) (h : Fin 4) (e : Fin 256), i = ix2 (seqRow b n.val) (vcol h e) := by
  have h0 : (i 0).val < 65536 := (i 0).isLt
  have h1 : (i 1).val < 1024 := (i 1).isLt
  refine ⟨⟨(i 0).val / 8192, by omega⟩, ⟨(i 0).val % 8192, by omega⟩, ⟨(i 1).val / 256, by omega⟩, ⟨(i 1).val % 256, by omega⟩, ?_⟩
  funext a; apply Fin.ext
  match a with
  | ⟨0, _⟩ => show (i 0).val = (8192 * ((i 0).val / 8192) + (i 0).val % 8192) % 65536; omega
  | ⟨1, _⟩ => show (i 1).val = 256 * ((i 1).val / 256) + (i 1).val % 256; omega

/-- The queries, keys, values, gate inputs, gate weights and gate bias are finite. -/
structure AllReal : Prop where
  q : ∀ i, x0 i = ((x0 i).toReal : EReal)
  k : ∀ i, x1 i = ((x1 i).toReal : EReal)
  v : ∀ i, (x2 i : EReal) = ((x2 i).toReal : EReal)
  s : ∀ n (k : Fin 16), x4 (ix2 n (low k)) = ((x4 (ix2 n (low k))).toReal : EReal)
  w : ∀ i, x5 i = ((x5 i).toReal : EReal)
  b : ∀ i, x6 i = ((x6 i).toReal : EReal)

end

end Cert.Proof.Gla

end
-- ==== Proof.Gla.Pad.lean ====
/- The gated linear attention's gate weights, padded with zero rows to a square: the sixteen rows on top, zeros below. -/
module

public import proofs.«01_k».proof.Proof.Gen.GlaIdeal.Value
public import Idealize.ShloMosaic.Lib.Pointwise
public import Idealize.ShloMosaic.Lib.Routing.OpsOne

@[expose] public section

noncomputable section

namespace Cert.Proof.Gla

open Cert.GlaIdeal Cert.GlaIdeal.Gen Idealize.ShloMosaic

/-- The rows of an update written from row 0 land where they lie. -/
theorem lands_top (idx : IVec S1 32) (hidx : ∀ i, idx i = 0#32) (j : S16x512.Idx) (r : Fin 128) (k : Fin 512) :
    scatter_S128x512_S1_S16x512_01_n_0_0.resultIdx? j idx = some (ix2 r k) ↔ (j 0).val = r.val ∧ (j 1).val = k.val := by
  have w0 : scatter_S128x512_S1_S16x512_01_n_0_0.window j 0 = (j 0).val := rfl
  have w1 : scatter_S128x512_S1_S16x512_01_n_0_0.window j 1 = (j 1).val := rfl
  have s0 : scatter_S128x512_S1_S16x512_01_n_0_0.start j idx 0 = 0 := by
    unfold ScatterDims.start
    rw [dif_pos (by decide), hidx]; rfl
  have s1 : scatter_S128x512_S1_S16x512_01_n_0_0.start j idx 1 = 0 := by
    unfold ScatterDims.start
    rw [dif_neg (by decide)]
  refine (Routing.resultIdx?_ix2 _ j idx r k).trans ?_
  rw [w0, w1, s0, s1]
  omega

theorem pad_top {α : Type} (x : S128x512.Idx → α) (idx : IVec S1 32) (hidx : ∀ i, idx i = 0#32) (u : S16x512.Idx → α) (r : Fin 16) (k : Fin 512) :
    Host.scatter scatter_S128x512_S1_S16x512_01_n_0_0 (fun _ b => b) x idx u (ix2 ⟨r.val, by omega⟩ k) = u (ix2 r k) := by
  refine Routing.scatter_set_hit _ x idx u _ _ (fun j hj => ?_) (ix2 r k) ((lands_top idx hidx _ _ _).2 ⟨rfl, rfl⟩)
  obtain ⟨h0, h1⟩ := (lands_top idx hidx j _ _).1 hj
  refine congrArg u (funext fun a => Fin.ext ?_)
  match a with
  | ⟨0, _⟩ => exact h0
  | ⟨1, _⟩ => exact h1

theorem pad_low {α : Type} (x : S128x512.Idx → α) (idx : IVec S1 32) (hidx : ∀ i, idx i = 0#32) (u : S16x512.Idx → α) (r : Fin 128) (hr : 16 ≤ r.val)
    (k : Fin 512) : Host.scatter scatter_S128x512_S1_S16x512_01_n_0_0 (fun _ b => b) x idx u (ix2 r k) = x (ix2 r k) := by
  refine Routing.scatter_set_miss _ x idx u _ fun j hj => ?_
  have h0 := ((lands_top idx hidx j _ _).1 hj).1
  have : (j 0).val < 16 := (j 0).isLt
  omega

end Cert.Proof.Gla

end
-- ==== Proof.Gla.Value.lean ====
/- The gated linear attention's result array after the run, from finite inputs. -/
module

public import proofs.«01_k».proof.Proof.Gen.GlaIdeal.Value
public import proofs.«01_k».proof.Proof.Gla.Spec
public import proofs.«01_k».proof.Proof.Gla.Pad

@[expose] public section

set_option maxRecDepth 65536

noncomputable section

namespace Cert.Proof.Gla

open Cert.GlaIdeal Cert.GlaIdeal.Gen Cert.GlaIdeal.Value Idealize.ShloMosaic Idealize.ShloMosaic.TcCoe Idealize.SL.Sem

variable (m : (ℓ : Loc nD τ sig) → Buf (Elt Ideal) ℓ) (c : Dev nD)

/-- What a buffer holds before the run. -/
abbrev arg (b : Ref sig .tc) : Buf (Elt Ideal) ((c : Thread nD τ).loc b) := m ((c : Thread nD τ).loc b)

/-! ## The prepared arrays -/

theorem V_v2 : V m c main_v2 = Host.scatter scatter_S128x512_S1_S16x512_01_n_0_0 (fun _ b => b)
    (broadcastInDim S128x512 ![] bcast_S_S128x512 (constant (F := Ideal) S_ .f32 0x00000000#32))
    (broadcastInDim S1 ![] bcast_S_S1 (constantI S_ 32 0#32)) (arg m c main_arg5) := by
  unfold V; after_results_simp <;> rfl

theorem V_v3 : V m c main_v3 = shapeCast S1x512 (arg m c main_arg6) shapeCasts_S512_S1x512 := by unfold V; after_results_simp <;> rfl
theorem V_v4 : V m c main_v4 = shapeCast S1x256 (arg m c main_arg7) shapeCasts_S256_S1x256 := by unfold V; after_results_simp <;> rfl

/-! ## The blocks -/

/-- The sequence a grid point belongs to. -/
def seqOf (t : Fin cfg0.N) : Fin 8 := ⟨t.val / 64, by have := t.isLt; have : cfg0.N = 512 := rfl; omega⟩
/-- The first row of the sequence a grid point reads. -/
def posOf (t : Fin cfg0.N) : ℕ := 128 * (t.val % 64)

theorem posOf_lt (t : Fin cfg0.N) (r : Fin 128) : posOf t + r.val < 8192 := by unfold posOf; omega
theorem rowOf (t : Fin cfg0.N) (r : Fin 128) : (seqRow (seqOf t) (posOf t + r.val)).val = 128 * t.val + r.val := by
  rw [seqRow_val _ (posOf_lt t r)]; show 8192 * (t.val / 64) + (128 * (t.val % 64) + r.val) = _; omega

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)

theorem emb0 (t : Fin cfg0.N) (r : Fin 128) (k : Fin 512) : ((cfg0.win 0).blk t).view.emb (ix2 r k) = (ix2 (seqRow (seqOf t) (posOf t + r.val)) k : S65536x512.Idx) := by
  obtain ⟨e0, e1⟩ := idx0 t
  have er := rowOf t r
  funext a; apply Fin.ext
  match a with
  | ⟨0, _⟩ => show win0_0.index t (0 : Fin 2) * 128 + 1 * r.val = (seqRow (seqOf t) (posOf t + r.val)).val; omega
  | ⟨1, _⟩ => show win0_0.index t (1 : Fin 2) * 512 + 1 * k.val = k.val; omega
theorem emb1 (t : Fin cfg0.N) (r : Fin 128) (k : Fin 512) : ((cfg0.win 1).blk t).view.emb (ix2 r k) = (ix2 (seqRow (seqOf t) (posOf t + r.val)) k : S65536x512.Idx) := by
  obtain ⟨e0, e1⟩ := idx1 t
  have er := rowOf t r
  funext a; apply Fin.ext
  match a with
  | ⟨0, _⟩ => show win0_1.index t (0 : Fin 2) * 128 + 1 * r.val = (seqRow (seqOf t) (posOf t + r.val)).val; omega
  | ⟨1, _⟩ => show win0_1.index t (1 : Fin 2) * 512 + 1 * k.val = k.val; omega
theorem emb2 (t : Fin cfg0.N) (r : Fin 128) (k : Fin 1024) : ((cfg0.win 2).blk t).view.emb (ix2 r k) = (ix2 (seqRow (seqOf t) (posOf t + r.val)) k : S65536x1024.Idx) := by
  obtain ⟨e0, e1⟩ := idx2 t
  have er := rowOf t r
  funext a; apply Fin.ext
  match a with
  | ⟨0, _⟩ => show win0_2.index t (0 : Fin 2) * 128 + 1 * r.val = (seqRow (seqOf t) (posOf t + r.val)).val; omega
  | ⟨1, _⟩ => show win0_2.index t (1 : Fin 2) * 1024 + 1 * k.val = k.val; omega
theorem emb3 (t : Fin cfg0.N) (r : Fin 128) (k : Fin 1024) : ((cfg0.win 3).blk t).view.emb (ix2 r k) = (ix2 (seqRow (seqOf t) (posOf t + r.val)) k : S65536x1024.Idx) := by
  obtain ⟨e0, e1⟩ := idx3 t
  have er := rowOf t r
  funext a; apply Fin.ext
  match a with
  | ⟨0, _⟩ => show win0_3.index t (0 : Fin 2) * 128 + 1 * r.val = (seqRow (seqOf t) (posOf t + r.val)).val; omega
  | ⟨1, _⟩ => show win0_3.index t (1 : Fin 2) * 1024 + 1 * k.val = k.val; omega
theorem emb4 (t : Fin cfg0.N) (r : Fin 128) (k : Fin 128) : ((cfg0.win 4).blk t).view.emb (ix2 r k) = (ix2 (seqRow (seqOf t) (posOf t + r.val)) k : S65536x128.Idx) := by
  obtain ⟨e0, e1⟩ := idx4 t
  have er := rowOf t r
  funext a; apply Fin.ext
  match a with
  | ⟨0, _⟩ => show win0_4.index t (0 : Fin 2) * 128 + 1 * r.val = (seqRow (seqOf t) (posOf t + r.val)).val; omega
  | ⟨1, _⟩ => show win0_4.index t (1 : Fin 2) * 128 + 1 * k.val = k.val; omega
theorem emb8 (t : Fin cfg0.N) (r : Fin 128) (k : Fin 1024) : ((cfg0.win 8).blk t).view.emb (ix2 r k) = (ix2 (seqRow (seqOf t) (posOf t + r.val)) k : S65536x1024.Idx) := by
  obtain ⟨e0, e1⟩ := idx8 t
  have er := rowOf t r
  funext a; apply Fin.ext
  match a with
  | ⟨0, _⟩ => show win0_8.index t (0 : Fin 2) * 128 + 1 * r.val = (seqRow (seqOf t) (posOf t + r.val)).val; omega
  | ⟨1, _⟩ => show win0_8.index t (1 : Fin 2) * 1024 + 1 * k.val = k.val; omega

theorem iblk0_row (t : Fin cfg0.N) (r : Fin 128) (k : Fin 512) :
    iblk m c 0 t (ix2 r k) = (arg m c main_arg0 : Vec Ideal S65536x512 .f32) (ix2 (seqRow (seqOf t) (posOf t + r.val)) k) := by
  refine Eq.trans ?_ (congrFun (V_main_arg0 m c) (ix2 (seqRow (seqOf t) (posOf t + r.val)) k))
  show V m c main_arg0 (((cfg0.win 0).blk t).view.emb (ix2 r k)) = _
  rw [emb0]

theorem iblk1_row (t : Fin cfg0.N) (r : Fin 128) (k : Fin 512) :
    iblk m c 1 t (ix2 r k) = (arg m c main_arg1 : Vec Ideal S65536x512 .f32) (ix2 (seqRow (seqOf t) (posOf t + r.val)) k) := by
  refine Eq.trans ?_ (congrFun (V_main_arg1 m c) (ix2 (seqRow (seqOf t) (posOf t + r.val)) k))
  show V m c main_arg1 (((cfg0.win 1).blk t).view.emb (ix2 r k)) = _
  rw [emb1]

theorem iblk2_row (t : Fin cfg0.N) (r : Fin 128) (k : Fin 1024) :
    iblk m c 2 t (ix2 r k) = (arg m c main_arg2 : Vec Ideal S65536x1024 .bf16) (ix2 (seqRow (seqOf t) (posOf t + r.val)) k) := by
  refine Eq.trans ?_ (congrFun (V_main_arg2 m c) (ix2 (seqRow (seqOf t) (posOf t + r.val)) k))
  show V m c main_arg2 (((cfg0.win 2).blk t).view.emb (ix2 r k)) = _
  rw [emb2]

theorem iblk3_row (t : Fin cfg0.N) (r : Fin 128) (k : Fin 1024) :
    iblk m c 3 t (ix2 r k) = (arg m c main_arg3 : Vec Ideal S65536x1024 .f32) (ix2 (seqRow (seqOf t) (posOf t + r.val)) k) := by
  refine Eq.trans ?_ (congrFun (V_main_arg3 m c) (ix2 (seqRow (seqOf t) (posOf t + r.val)) k))
  show V m c main_arg3 (((cfg0.win 3).blk t).view.emb (ix2 r k)) = _
  rw [emb3]

theorem iblk4_row (t : Fin cfg0.N) (r : Fin 128) (k : Fin 128) :
    iblk m c 4 t (ix2 r k) = (arg m c main_arg4 : Vec Ideal S65536x128 .f32) (ix2 (seqRow (seqOf t) (posOf t + r.val)) k) := by
  refine Eq.trans ?_ (congrFun (V_main_arg4 m c) (ix2 (seqRow (seqOf t) (posOf t + r.val)) k))
  show V m c main_arg4 (((cfg0.win 4).blk t).view.emb (ix2 r k)) = _
  rw [emb4]

theorem iblk5_eq (t : Fin cfg0.N) : iblk m c 5 t = V m c main_v2 := by
  obtain ⟨e0, e1⟩ := idx5 t
  funext j
  show V m c main_v2 (((cfg0.win 5).blk t).view.emb j) = V m c main_v2 j
  refine congrArg _ (funext fun a => Fin.ext ?_)
  match a with
  | ⟨0, _⟩ => show win0_5.index t (0 : Fin 2) * 128 + 1 * (j 0).val = (j 0).val; omega
  | ⟨1, _⟩ => show win0_5.index t (1 : Fin 2) * 512 + 1 * (j 1).val = (j 1).val; omega

theorem iblk6_eq (t : Fin cfg0.N) : iblk m c 6 t = shapeCast S1x512 (arg m c main_arg6) shapeCasts_S512_S1x512 := by
  refine Eq.trans ?_ (V_v3 m c)
  obtain ⟨e0, e1⟩ := idx6 t
  funext j
  show V m c main_v3 (((cfg0.win 6).blk t).view.emb j) = V m c main_v3 j
  refine congrArg _ (funext fun a => Fin.ext ?_)
  match a with
  | ⟨0, _⟩ => show win0_6.index t (0 : Fin 2) * 1 + 1 * (j 0).val = (j 0).val; omega
  | ⟨1, _⟩ => show win0_6.index t (1 : Fin 2) * 512 + 1 * (j 1).val = (j 1).val; omega

theorem iblk7_eq (t : Fin cfg0.N) : iblk m c 7 t = shapeCast S1x256 (arg m c main_arg7) shapeCasts_S256_S1x256 := by
  refine Eq.trans ?_ (V_v4 m c)
  obtain ⟨e0, e1⟩ := idx7 t
  funext j
  show V m c main_v4 (((cfg0.win 7).blk t).view.emb j) = V m c main_v4 j
  refine congrArg _ (funext fun a => Fin.ext ?_)
  match a with
  | ⟨0, _⟩ => show win0_7.index t (0 : Fin 2) * 1 + 1 * (j 0).val = (j 0).val; omega
  | ⟨1, _⟩ => show win0_7.index t (1 : Fin 2) * 256 + 1 * (j 1).val = (j 1).val; omega

theorem bias_row (x : Vec Ideal S512 .f32) (k : Fin 512) : shapeCast S1x512 x shapeCasts_S512_S1x512 (ix2 0 k) = x (ix1 k) := by pointwise
theorem head_row (x : Vec Ideal S256 .f32) (k : Fin 256) : shapeCast S1x256 x shapeCasts_S256_S1x256 (ix2 0 k) = x (ix1 k) := by pointwise

theorem iblk5_top (t : Fin cfg0.N) (k : Fin 16) (j : Fin 512) :
    iblk m c 5 t (ix2 (low k) j) = (arg m c main_arg5 : Vec Ideal S16x512 .f32) (ix2 k j) := by
  rw [iblk5_eq, V_v2]
  exact pad_top _ _ (fun _ => rfl) _ k j

theorem iblk5_low (t : Fin cfg0.N) (k : Fin 128) (hk : 16 ≤ k.val) (j : Fin 512) : iblk m c 5 t (ix2 k j) = (0 : EReal) := by
  rw [iblk5_eq, V_v2]
  refine (pad_low _ _ (fun _ => rfl) _ k hk j).trans ?_
  pointwise

/-! ## The rows of a sequence, chunk by chunk -/

/-- The inputs the claim takes finite. -/
abbrev Inputs : Prop := AllReal (arg m c main_arg0) (arg m c main_arg1) (arg m c main_arg2) (arg m c main_arg4) (arg m c main_arg5) (arg m c main_arg6)

abbrev Qs (t : Fin cfg0.N) (h : Fin 4) := keys (arg m c main_arg0) (seqOf t) h
abbrev Ks (t : Fin cfg0.N) (h : Fin 4) := keys (arg m c main_arg1) (seqOf t) h
abbrev Ls (t : Fin cfg0.N) (h : Fin 4) := decays (arg m c main_arg4) (arg m c main_arg5) (arg m c main_arg6) (seqOf t) h
abbrev Vs (t : Fin cfg0.N) (h : Fin 4) := vals (arg m c main_arg2) (seqOf t) h

section
variable (H : Inputs m c) (t : Fin cfg0.N) (xs : Vec Ideal S4x128x256 .f32)
  (hst : ∀ h d e, xs (ix3 h d e) = ((stateAt (Ks m c t h) (Ls m c t h) (Vs m c t h) (posOf t) d e : ℝ) : EReal))
include H hst

theorem point_state (h : Fin 4) (d : Fin 128) (e : Fin 256) :
    blockState (iblk m c 1 t) (iblk m c 2 t) (iblk m c 4 t) (iblk m c 5 t) (iblk m c 6 t) xs h (ix3 0 d e)
      = ((stateAt (Ks m c t h) (Ls m c t h) (Vs m c t h) (posOf t + 128) d e : ℝ) : EReal) :=
  state_next (K := Ks m c t h) (L := Ls m c t h) (V := Vs m c t h) (n := posOf t)
    (S := fun r k => ((arg m c main_arg4 : Vec Ideal S65536x128 .f32) (ix2 (seqRow (seqOf t) (posOf t + r.val)) (low k))).toReal)
    (W := fun k d => ((arg m c main_arg5 : Vec Ideal S16x512 .f32) (ix2 k (kcol h d))).toReal)
    (B := fun d => ((arg m c main_arg6 : Vec Ideal S512 .f32) (ix1 (kcol h d))).toReal)
    (fun r d => (iblk1_row m c t r _).trans (H.k _))
    (fun r e => (iblk2_row m c t r _).trans (H.v _))
    (fun r k => (iblk4_row m c t r _).trans (H.s _ k))
    (fun k d => (iblk5_top m c t k _).trans (H.w _))
    (fun k d hk => iblk5_low m c t k hk _)
    (fun d => (congrFun (iblk6_eq m c t) _).trans ((bias_row _ _).trans (H.b _)))
    (fun r d => rfl)
    (fun d e => hst h d e) d e

theorem point_out (h : Fin 4) (r : Fin 128) (e : Fin 256) :
    blockOut (iblk m c 0 t) (iblk m c 1 t) (iblk m c 2 t) (iblk m c 3 t) (iblk m c 4 t) (iblk m c 5 t) (iblk m c 6 t) (iblk m c 7 t) xs h (ix2 r e)
      = result (arg m c main_arg0) (arg m c main_arg1) (arg m c main_arg2) (arg m c main_arg3) (arg m c main_arg4) (arg m c main_arg5)
          (arg m c main_arg6) (arg m c main_arg7) (ix2 (seqRow (seqOf t) (posOf t + r.val)) (vcol h e)) := by
  rw [result_at _ _ _ _ _ _ _ _ _ _ (posOf_lt t r)]
  refine (out_next (Q := Qs m c t h) (K := Ks m c t h) (L := Ls m c t h) (V := Vs m c t h) (n := posOf t)
    (S := fun r k => ((arg m c main_arg4 : Vec Ideal S65536x128 .f32) (ix2 (seqRow (seqOf t) (posOf t + r.val)) (low k))).toReal)
    (W := fun k d => ((arg m c main_arg5 : Vec Ideal S16x512 .f32) (ix2 k (kcol h d))).toReal)
    (B := fun d => ((arg m c main_arg6 : Vec Ideal S512 .f32) (ix1 (kcol h d))).toReal)
    (fun r d => (iblk0_row m c t r _).trans (H.q _))
    (fun r d => (iblk1_row m c t r _).trans (H.k _))
    (fun r e => (iblk2_row m c t r _).trans (H.v _))
    (fun r k => (iblk4_row m c t r _).trans (H.s _ k))
    (fun k d => (iblk5_top m c t k _).trans (H.w _))
    (fun k d hk => iblk5_low m c t k hk _)
    (fun d => (congrFun (iblk6_eq m c t) _).trans ((bias_row _ _).trans (H.b _)))
    (fun r d => rfl)
    (fun d e => hst h d e) r e).trans ?_
  rw [iblk3_row, iblk7_eq, head_row]
  rfl

end

/-- The cleared state is the state before a sequence's first row. -/
theorem cleared (K L : ℕ → Fin 128 → ℝ) (W : ℕ → Fin 256 → ℝ) (h : Fin 4) (d : Fin 128) (e : Fin 256) :
    (k0_pay2 (F := Ideal)) (ix3 h d e) = ((stateAt K L W 0 d e : ℝ) : EReal) := by
  have e0 : stateAt K L W 0 d e = 0 := by unfold stateAt; simp
  rw [e0]
  pointwise [k0_pay2]
  simp

/-! ## What a point leaves, from what the point before left -/

theorem snd_of {α β : Type} {x : α × β} {a : α} {b : β} (h : x = (a, b)) : x.2 = b := by rw [h]

theorem left_state_A (t : Fin cfg0.N) (h0 : t.val % 64 = 0) (h : Fin 4) (d : Fin 128) (e : Fin 256) :
    (outsAt0 m c t.val t.isLt).2 (ix3 h d e) = blockState (iblk m c 1 t) (iblk m c 2 t) (iblk m c 4 t) (iblk m c 5 t) (iblk m c 6 t) (k0_pay2 (F := Ideal)) h (ix3 0 d e) := by
  have e1 : (outsAt0 m c t.val t.isLt).2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) :=
    snd_of (outsAt0_A m c t h0)
  rw [e1]
  exact state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) h d e

theorem left_out_A (t : Fin cfg0.N) (h0 : t.val % 64 = 0) (h : Fin 4) (r : Fin 128) (e : Fin 256) :
    (outsAt0 m c t.val t.isLt).1 (ix2 r (vcol h e)) = blockOut (iblk m c 0 t) (iblk m c 1 t) (iblk m c 2 t) (iblk m c 3 t) (iblk m c 4 t) (iblk m c 5 t) (iblk m c 6 t) (iblk m c 7 t) (k0_pay2 (F := Ideal)) h (ix2 r e) := by
  exact (congrArg (fun p => p.1 (ix2 r (vcol h e))) (outsAt0_A m c t h0)).trans <| out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) h r e

theorem left_state_B (t : Fin cfg0.N) (h0 : ¬t.val % 64 = 0) (h : Fin 4) (d : Fin 128) (e : Fin 256) :
    (outsAt0 m c t.val t.isLt).2 (ix3 h d e) = blockState (iblk m c 1 t) (iblk m c 2 t) (iblk m c 4 t) (iblk m c 5 t) (iblk m c 6 t) (outsAt0 m c (t.val - 1) (Nat.lt_of_le_of_lt (Nat.sub_le _ _) t.isLt)).2 h (ix3 0 d e) := by
  have e1 : (outsAt0 m c t.val t.isLt).2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 :=
    snd_of (outsAt0_B m c t h0)
  rw [e1]
  exact state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 (fun h => h0 ((hcond0_0 t).mp h)) h d e

theorem left_out_B (t : Fin cfg0.N) (h0 : ¬t.val % 64 = 0) (h : Fin 4) (r : Fin 128) (e : Fin 256) :
    (outsAt0 m c t.val t.isLt).1 (ix2 r (vcol h e)) = blockOut (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 h (ix2 r e) := by
  exact (congrArg (fun p => p.1 (ix2 r (vcol h e))) (outsAt0_B m c t h0)).trans <| out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2 (fun h => h0 ((hcond0_0 t).mp h)) h r e

theorem state_all (H : Inputs m c) : ∀ (n : ℕ) (hn : n < cfg0.N) (h : Fin 4) (d : Fin 128) (e : Fin 256),
    (outsAt0 m c n hn).2 (ix3 h d e)
      = ((stateAt (Ks m c ⟨n, hn⟩ h) (Ls m c ⟨n, hn⟩ h) (Vs m c ⟨n, hn⟩ h) (posOf ⟨n, hn⟩ + 128) d e : ℝ) : EReal) := by
  intro n
  induction n with
  | zero =>
    intro hn h d e
    exact (left_state_A m c ⟨0, hn⟩ rfl h d e).trans (point_state m c H ⟨0, hn⟩ (k0_pay2 (F := Ideal)) (fun h d e => cleared _ _ _ h d e) h d e)
  | succ n ih =>
    intro hn h d e
    by_cases h0 : (n + 1) % 64 = 0
    · refine (left_state_A m c ⟨n + 1, hn⟩ h0 h d e).trans (point_state m c H ⟨n + 1, hn⟩ (k0_pay2 (F := Ideal)) (fun h d e => ?_) h d e)
      have : posOf ⟨n + 1, hn⟩ = 0 := by show 128 * ((n + 1) % 64) = 0; omega
      rw [this]
      exact cleared _ _ _ h d e
    · refine (left_state_B m c ⟨n + 1, hn⟩ h0 h d e).trans (point_state m c H ⟨n + 1, hn⟩ _ (fun h d e => ?_) h d e)
      have e1 : posOf ⟨n + 1, hn⟩ = posOf ⟨n, by omega⟩ + 128 := by show 128 * ((n + 1) % 64) = 128 * (n % 64) + 128; omega
      have e2 : seqOf ⟨n + 1, hn⟩ = seqOf ⟨n, by omega⟩ := Fin.ext (by show (n + 1) / 64 = n / 64; omega)
      rw [e1]
      unfold Ks Ls Vs
      rw [e2]
      exact ih (by omega) h d e

theorem out_all (H : Inputs m c) (t : Fin cfg0.N) (h : Fin 4) (r : Fin 128) (e : Fin 256) :
    (outsAt0 m c t.val t.isLt).1 (ix2 r (vcol h e))
      = result (arg m c main_arg0) (arg m c main_arg1) (arg m c main_arg2) (arg m c main_arg3) (arg m c main_arg4) (arg m c main_arg5)
          (arg m c main_arg6) (arg m c main_arg7) (ix2 (seqRow (seqOf t) (posOf t + r.val)) (vcol h e)) := by
  by_cases h0 : t.val % 64 = 0
  · refine (left_out_A m c t h0 h r e).trans (point_out m c H t (k0_pay2 (F := Ideal)) (fun h d e => ?_) h r e)
    have : posOf t = 0 := by show 128 * (t.val % 64) = 0; omega
    rw [this]
    exact cleared _ _ _ h d e
  · have hp : t.val - 1 < cfg0.N := Nat.lt_of_le_of_lt (Nat.sub_le _ _) t.isLt
    refine (left_out_B m c t h0 h r e).trans (point_out m c H t (outsAt0 m c (t.val - 1) hp).2 (fun h d e => ?_) h r e)
    have e1 : posOf t = posOf ⟨t.val - 1, hp⟩ + 128 := by show 128 * (t.val % 64) = 128 * ((t.val - 1) % 64) + 128; omega
    have e2 : seqOf t = seqOf ⟨t.val - 1, hp⟩ := Fin.ext (by show t.val / 64 = (t.val - 1) / 64; omega)
    rw [e1]
    unfold Ks Ls Vs
    rw [e2]
    exact state_all m c H (t.val - 1) hp h d e

/-! ## The result -/

/-- The result array at this program's arguments. -/
def G : Vec Ideal S65536x1024 .bf16 :=
  result (arg m c main_arg0) (arg m c main_arg1) (arg m c main_arg2) (arg m c main_arg3) (arg m c main_arg4) (arg m c main_arg5)
    (arg m c main_arg6) (arg m c main_arg7)

theorem flushed_eq (H : Inputs m c) (t : Fin cfg0.N) : (dats m 0 c).flushed 8 t = ((cfg0.win 8).blk t).view.read (Elt Ideal) (G m c) := by
  rw [flushed8]
  funext y
  obtain ⟨r, j, rfl⟩ : ∃ (r : Fin 128) (j : Fin 1024), y = ix2 r j := ⟨y 0, y 1, eq_ix2 y⟩
  obtain ⟨h, e, rfl⟩ : ∃ (h : Fin 4) (e : Fin 256), j = vcol h e :=
    ⟨⟨j.val / 256, by omega⟩, ⟨j.val % 256, by omega⟩, Fin.ext (by show j.val = 256 * (j.val / 256) + j.val % 256; omega)⟩
  show (outsAt0 m c t.val t.isLt).1 (ix2 r (vcol h e)) = G m c (((cfg0.win 8).blk t).view.emb (ix2 r (vcol h e)))
  rw [emb8]
  exact out_all m c H t h r e

/-- The result array after the run. -/
theorem final (H : Inputs m c) : (dats m 0 c).arrAt 8 cfg0.N = G m c :=
  (dats m 0 c).arrAt_eq_of_cover 8 _ (fun t _ => flushed_eq m c H t) (fun i => (covered_iff8 i).2 (by
    have h0 : (i 0).val < 65536 := (i 0).isLt; have h1 : (i 1).val < 1024 := (i 1).isLt; omega))

end Cert.Proof.Gla

end
-- ==== Proof.Gla.Named.lean ====
/- The reference's result, cut into named arrays. -/
module

public import proofs.«01_k».proof.Proof.Gen.GlaReferenceIdeal.Run
public import Idealize.ShloMosaic.Lib.Pointwise

@[expose] public section

noncomputable section

namespace Cert.Proof.Gla.Ref

open Cert.GlaReferenceIdeal Cert.GlaReferenceIdeal.Gen Cert.GlaReferenceIdeal.Value Idealize.ShloMosaic Idealize.ShloMosaic.TcCoe

/-- The gate before its sigmoid. -/
def gateT (x4 : FVec Ideal S65536x128 .f32) (x5 : FVec Ideal S16x512 .f32) (x6 : FVec Ideal S512 .f32) : FVec Ideal S65536x512 .f32 :=
  addf (Host.dotGeneral dot_S65536x16_S16x512_S65536x512_1_0_0_1_n_n none (extractStridedSlice S65536x16 ![0, 0] x4 slices_S65536x128_S65536x16_0_0) x5)
    (broadcastInDim S65536x512 ![0, 1] bcast_S1x512_S65536x512_0_1 (broadcastInDim S1x512 ![1] bcast_S512_S1x512_1 x6))

/-- The zeros of the gate's shape. -/
def zeroT : FVec Ideal S65536x512 .f32 := broadcastInDim S65536x512 ![] bcast_S_S65536x512 (constant S_ .f32 0x00000000#32)

/-- The logarithm of one plus the exponential. -/
def softT (y : FVec Ideal S65536x512 .f32) : FVec Ideal S65536x512 .f32 :=
  select (cmpf .une (subf y zeroT) (subf y zeroT)) (addf y zeroT) (addf (maximumf y zeroT) (Host.log1p (Host.exp (Host.negf (Host.absf (subf y zeroT))))))

/-- The log-decays. -/
def logT (g : FVec Ideal S65536x512 .f32) : FVec Ideal S65536x512 .f32 :=
  Host.divf (Host.negf (softT (Host.negf g))) (broadcastInDim S65536x512 ![] bcast_S_S65536x512 (constant S_ .f32 0x41800000#32))

/-- Columns laid out by sequence, head, row and feature. -/
def headsT (x : FVec Ideal S65536x512 .f32) : FVec Ideal S8x4x8192x128 .f32 :=
  transpose S8x4x8192x128 [0, 2, 1, 3] (shapeCast _ x shapeCasts_S65536x512_S8x8192x4x128) transposes_S8x8192x4x128_S8x4x8192x128_0_2_1_3

/-- The values laid out by sequence, head, row and feature. -/
def valsT (x2 : FVec Ideal S65536x1024 .bf16) : FVec Ideal S8x4x8192x256 .f32 :=
  transpose S8x4x8192x256 [0, 2, 1, 3] (shapeCast _ (extf .f32 x2 bitsLt_bf16_f32) shapeCasts_S65536x1024_S8x8192x4x256) transposes_S8x8192x4x256_S8x4x8192x256_0_2_1_3

/-- The queries, scaled. -/
def scaledT (x0 : FVec Ideal S65536x512 .f32) : FVec Ideal S65536x512 .f32 :=
  mulf x0 (broadcastInDim S65536x512 ![] bcast_S_S65536x512 (constant S_ .f32 0x3DB504F3#32))

/-- The running sums of the log-decays. -/
def cumT (l : FVec Ideal S8x4x8192x128 .f32) : FVec Ideal S8x4x8192x128 .f32 :=
  Host.reduceWindowAdd ![1, 1, 8192, 1] ![1, 1, 1, 1] ![0, 0, 8191, 0] ![0, 0, 0, 0] l (broadcastInDim S_ ![] bcast_S_S_ (constant S_ .f32 0x00000000#32))
    reduceWindows_S8x4x8192x128_S8x4x8192x128_w1s1p0_0_w1s1p0_0_w8192s1p8191_0_w1s1p0_0 h_S_

/-- The rows up to a row. -/
def maskT : IVec S8192x8192 1 :=
  select (cmpi .sge (addi (iotaInDim S8192x8192 32 0) (broadcastInDim S8192x8192 ![] bcast_S_S8192x8192 (constantI S_ 32 0#32))) (iotaInDim S8192x8192 32 1))
    (broadcastInDim S8192x8192 ![] bcast_S_S8192x8192 (constantI S_ 1 1#1)) (broadcastInDim S8192x8192 ![] bcast_S_S8192x8192 (constantI S_ 1 0#1))

/-- The decay from every row to every row not before it. -/
def decayT (g : FVec Ideal S8x4x8192x128 .f32) : FVec Ideal S8x4x8192x8192x128 .f32 :=
  Host.exp (select (broadcastInDim S8x4x8192x8192x128 ![0, 1, 2, 3, 4] bcast_S1x1x8192x8192x1_S8x4x8192x8192x128_0_1_2_3_4
      (broadcastInDim S1x1x8192x8192x1 ![2, 3] bcast_S8192x8192_S1x1x8192x8192x1_2_3 maskT))
    (subf (broadcastInDim S8x4x8192x8192x128 ![0, 1, 2, 3, 4] bcast_S8x4x8192x1x128_S8x4x8192x8192x128_0_1_2_3_4
        (broadcastInDim S8x4x8192x1x128 ![0, 1, 2, 4] bcast_S8x4x8192x128_S8x4x8192x1x128_0_1_2_4 g))
      (broadcastInDim S8x4x8192x8192x128 ![0, 1, 2, 3, 4] bcast_S8x4x1x8192x128_S8x4x8192x8192x128_0_1_2_3_4
        (broadcastInDim S8x4x1x8192x128 ![0, 1, 3, 4] bcast_S8x4x8192x128_S8x4x1x8192x128_0_1_3_4 g)))
    (broadcastInDim S8x4x8192x8192x128 ![] bcast_S_S8x4x8192x8192x128 (id (constant S_ .f32 0xFF800000#32))))

/-- The weights of every row in every row. -/
def scoreT (q k : FVec Ideal S8x4x8192x128 .f32) (w : FVec Ideal S8x4x8192x8192x128 .f32) : FVec Ideal S8x4x8192x8192 .f32 :=
  Host.reduceAdd (mulf (mulf
      (broadcastInDim S8x4x8192x8192x128 ![0, 1, 2, 3, 4] bcast_S8x4x8192x1x128_S8x4x8192x8192x128_0_1_2_3_4
        (broadcastInDim S8x4x8192x1x128 ![0, 1, 2, 4] bcast_S8x4x8192x128_S8x4x8192x1x128_0_1_2_4 q))
      (broadcastInDim S8x4x8192x8192x128 ![0, 1, 2, 3, 4] bcast_S8x4x1x8192x128_S8x4x8192x8192x128_0_1_2_3_4
        (broadcastInDim S8x4x1x8192x128 ![0, 1, 3, 4] bcast_S8x4x8192x128_S8x4x1x8192x128_0_1_3_4 k))) w)
    (constant S_ .f32 0x00000000#32) reducesTo_S8x4x8192x8192x128_S8x4x8192x8192_d4 h_S_

/-- Every row's mix. -/
def mixT (a : FVec Ideal S8x4x8192x8192 .f32) (v : FVec Ideal S8x4x8192x256 .f32) : FVec Ideal S8x8192x4x256 .f32 :=
  transpose S8x8192x4x256 [0, 2, 1, 3] (Host.dotGeneral dot_S8x4x8192x8192_S8x4x8192x256_S8x4x8192x256_3_2_2_3_01_01 none a v)
    transposes_S8x4x8192x256_S8x8192x4x256_0_2_1_3

/-- A mix divided by its root mean square and scaled. -/
def normT (o : FVec Ideal S8x8192x4x256 .f32) (x7 : FVec Ideal S256 .f32) : FVec Ideal S8x8192x4x256 .f32 :=
  mulf (mulf o (broadcastInDim S8x8192x4x256 ![0, 1, 2, 3] bcast_S8x8192x4x1_S8x8192x4x256_0_1_2_3
      (Host.rsqrt (addf (Host.divf (broadcastInDim S8x8192x4x1 ![0, 1, 2] bcast_S8x8192x4_S8x8192x4x1_0_1_2
            (Host.reduceAdd (mulf o o) (constant S_ .f32 0x00000000#32) reducesTo_S8x8192x4x256_S8x8192x4_d3 h_S_))
          (broadcastInDim S8x8192x4x1 ![] bcast_S_S8x8192x4x1 (constant S_ .f32 0x43800000#32)))
        (broadcastInDim S8x8192x4x1 ![] bcast_S_S8x8192x4x1 (constant S_ .f32 0x358637BD#32))))))
    (broadcastInDim S8x8192x4x256 ![0, 1, 2, 3] bcast_S1x1x1x256_S8x8192x4x256_0_1_2_3 (broadcastInDim S1x1x1x256 ![3] bcast_S256_S1x1x1x256_3 x7))

/-- The gating factor. -/
def siluT (x3 : FVec Ideal S65536x1024 .f32) : FVec Ideal S65536x1024 .f32 :=
  mulf x3 (Host.divf (broadcastInDim S65536x1024 ![] bcast_S_S65536x1024 (constant S_ .f32 0x3F800000#32))
    (addf (broadcastInDim S65536x1024 ![] bcast_S_S65536x1024 (constant S_ .f32 0x3F800000#32)) (Host.exp (Host.negf x3))))

/-- The result from the mix. -/
def gatedT (o : FVec Ideal S8x8192x4x256 .f32) (x3 : FVec Ideal S65536x1024 .f32) (x7 : FVec Ideal S256 .f32) : FVec Ideal S65536x1024 .bf16 :=
  truncf .bf16 (mulf (shapeCast _ (normT o x7) shapeCasts_S8x8192x4x256_S65536x1024) (siluT x3)) bitsLt_bf16_f32

/-- The result from the arguments. -/
def outT (x0 x1 : FVec Ideal S65536x512 .f32) (x2 : FVec Ideal S65536x1024 .bf16) (x3 : FVec Ideal S65536x1024 .f32)
    (x4 : FVec Ideal S65536x128 .f32) (x5 : FVec Ideal S16x512 .f32) (x6 : FVec Ideal S512 .f32) (x7 : FVec Ideal S256 .f32) : FVec Ideal S65536x1024 .bf16 :=
  gatedT (mixT (scoreT (headsT (scaledT x0)) (headsT x1) (decayT (cumT (headsT (logT (gateT x4 x5 x6)))))) (valsT x2)) x3 x7

variable (m : (ℓ : Loc nD τ sig) → Buf (Elt Ideal) ℓ) (c : Dev nD)

set_option maxRecDepth 8192 in
theorem res_eq : res_main_v55 m c = outT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  unfold res_main_v55
  rfl

end Cert.Proof.Gla.Ref

end
-- ==== Proof.Gla.Read.lean ====
/- The reference's named arrays, read at an index. -/
module

public import proofs.«01_k».proof.Proof.Gla.Named
public import proofs.«01_k».proof.Proof.Gla.Spec

@[expose] public section

noncomputable section

namespace Cert.Proof.Gla.Ref

open Cert.GlaReferenceIdeal Cert.GlaReferenceIdeal.Gen Idealize.ShloMosaic

theorem gate_at (x4 : FVec Ideal S65536x128 .f32) (x5 : FVec Ideal S16x512 .f32) (x6 : FVec Ideal S512 .f32) (r : Fin 65536) (j : Fin 512) :
    gateT x4 x5 x6 (ix2 r j) = (∑ k : Fin 16, x4 (ix2 r (low k)) * x5 (ix2 k j)) + x6 (ix1 j) := by
  pointwise [gateT]
  rfl

theorem nat_log (x : ℝ) : Ideal.div (-(max (-((x : ℝ) : EReal)) 0 + Ideal.log1p (Ideal.exp (-FloatOps.absf (F := Ideal) (φ := .f32) (-((x : ℝ) : EReal))))))
    (Ideal.ofBits .f32 0x41800000#32) = ((decayLog x * Real.log 2 : ℝ) : EReal) := by
  have e16 : Ideal.ofBits .f32 0x41800000#32 = ((16 : ℝ) : EReal) := by
    simp [Ideal.ofBits, Ideal.ieee]; rw [← EReal.coe_mul]; norm_num
  have ea : FloatOps.absf (F := Ideal) (φ := .f32) (-((x : ℝ) : EReal)) = ((|x| : ℝ) : EReal) := by
    rw [← EReal.coe_neg]
    show max ((-x : ℝ) : EReal) (-((-x : ℝ) : EReal)) = _
    rw [← EReal.coe_neg, ← EReal.coe_strictMono.monotone.map_max, neg_neg, max_comm]
    rfl
  have hp : (0 : ℝ) < 1 + Real.exp (-|x|) := by positivity
  rw [ea, e16, ← EReal.coe_neg, ← EReal.coe_neg, Ideal.exp_coe]
  show Ideal.div (-(max ((-x : ℝ) : EReal) ((0 : ℝ) : EReal) + Ideal.log (((1 : ℝ) : EReal) + ((Real.exp (-|x|) : ℝ) : EReal)))) _ = _
  rw [← EReal.coe_add, Ideal.log_coe, if_neg (not_le.mpr hp), ← EReal.coe_strictMono.monotone.map_max, ← EReal.coe_add, ← EReal.coe_neg]
  rw [Ideal.div_coe (by norm_num), ← EReal.coe_mul]
  congr 1
  have hl : Real.log 2 ≠ 0 := (Real.log_pos one_lt_two).ne'
  unfold decayLog
  rw [show min x 0 = -max (-x) 0 by rw [max_comm, ← neg_zero, max_neg_neg, neg_neg, neg_zero, min_comm], zero_sub]
  field_simp
  ring

theorem log_at (g : FVec Ideal S65536x512 .f32) (r : Fin 65536) (j : Fin 512) (x : ℝ) (hx : g (ix2 r j) = ((x : ℝ) : EReal)) :
    logT g (ix2 r j) = ((decayLog x * Real.log 2 : ℝ) : EReal) := by
  pointwise [logT, softT, zeroT]
  rw [if_neg (fun h => h rfl), hx]
  exact nat_log x

theorem heads_at (x : FVec Ideal S65536x512 .f32) (b : Fin 8) (h : Fin 4) (n : Fin 8192) (d : Fin 128) :
    headsT x (ix4 b h n d) = x (ix2 (seqRow b n.val) (kcol h d)) := by
  pointwise [headsT]
  refine congrArg x (congrArg₂ ix2 (Fin.ext ?_) (Fin.ext ?_))
  · rw [seqRow_val b n.isLt]; show b.val * 8192 + n.val = _; omega
  · show h.val * 128 + d.val = 128 * h.val + d.val; omega

theorem vals_at (x : FVec Ideal S65536x1024 .bf16) (b : Fin 8) (h : Fin 4) (n : Fin 8192) (e : Fin 256) :
    valsT x (ix4 b h n e) = x (ix2 (seqRow b n.val) (vcol h e)) := by
  pointwise [valsT]
  refine congrArg x (congrArg₂ ix2 (Fin.ext ?_) (Fin.ext ?_))
  · rw [seqRow_val b n.isLt]; show b.val * 8192 + n.val = _; omega
  · show h.val * 256 + e.val = 256 * h.val + e.val; omega

theorem upto_mask (n p : Fin 8192) : Scalar.select (IntOp.cmpi .sge (IntOp.addi (BitVec.ofNat 32 n.val) 0#32) (BitVec.ofNat 32 p.val)) 1#1 0#1
    = if p.val ≤ n.val then 1#1 else 0#1 := by
  have hs : ∀ r : Fin 8192, (BitVec.ofNat 32 r.val).toInt = (r.val : ℤ) := by
    intro r
    rw [BitVec.toInt_eq_toNat_cond, BitVec.toNat_ofNat, Nat.mod_eq_of_lt (by omega), if_pos (by omega)]
  have h0 : IntOp.addi (BitVec.ofNat 32 n.val) 0#32 = BitVec.ofNat 32 n.val := BitVec.add_zero _
  rw [h0]
  have hc : IntOp.cmpi .sge (BitVec.ofNat 32 n.val) (BitVec.ofNat 32 p.val) = if p.val ≤ n.val then 1#1 else 0#1 := by
    simp only [IntOp.cmpi]
    rw [BitVec.sle_eq_decide, hs, hs]
    by_cases h : p.val ≤ n.val
    · simp [h]
    · simp [h]
  rw [hc, select_if]

theorem exp_log_two (x : ℝ) : Real.exp (x * Real.log 2) = (2 : ℝ) ^ x := by
  rw [Real.rpow_def_of_pos two_pos, mul_comm]

theorem decay_at (g : FVec Ideal S8x4x8192x128 .f32) (L : ℕ → ℝ) (b : Fin 8) (h : Fin 4) (d : Fin 128)
    (hg : ∀ i : Fin 8192, g (ix4 b h i d) = ((L i.val * Real.log 2 : ℝ) : EReal)) (n p : Fin 8192) :
    decayT g (ix5 b h n p d) = ((if p.val ≤ n.val then (2 : ℝ) ^ (L n.val - L p.val) else 0 : ℝ) : EReal) := by
  pointwise [decayT, maskT]
  rw [upto_mask, select_if, hg, hg, ← EReal.coe_sub, ← sub_mul]
  split
  · rw [Ideal.exp_coe, exp_log_two]
  · refine (congrArg Ideal.exp negInf).trans ?_
    rfl

theorem score_at (q k : FVec Ideal S8x4x8192x128 .f32) (w : FVec Ideal S8x4x8192x8192x128 .f32) (b : Fin 8) (h : Fin 4) (n p : Fin 8192) :
    scoreT q k w (ix4 b h n p) = ∑ d : Fin 128, q (ix4 b h n d) * k (ix4 b h p d) * w (ix5 b h n p d) := by
  pointwise [scoreT]

theorem mix_at (a : FVec Ideal S8x4x8192x8192 .f32) (v : FVec Ideal S8x4x8192x256 .f32) (b : Fin 8) (h : Fin 4) (n : Fin 8192) (e : Fin 256) :
    mixT a v (ix4 b n h e) = ∑ p : Fin 8192, a (ix4 b h n p) * v (ix4 b h p e) := by
  pointwise [mixT]

theorem gated_at (o : FVec Ideal S8x8192x4x256 .f32) (x3 : FVec Ideal S65536x1024 .f32) (x7 : FVec Ideal S256 .f32) (b : Fin 8) (n : Fin 8192)
    (h : Fin 4) (e : Fin 256) :
    gatedT o x3 x7 (ix2 (seqRow b n.val) (vcol h e))
      = finish (fun e => o (ix4 b n h e)) (x7 (ix1 e)) (x3 (ix2 (seqRow b n.val) (vcol h e))) e := by
  have hn := n.isLt
  have hb := b.isLt
  have he := e.isLt
  have e0 : ∀ p, (⟨(seqRow b n.val).val / 8192, p⟩ : Fin 8) = b := fun _ => Fin.ext (by show (seqRow b n.val).val / 8192 = b.val; rw [seqRow_val b hn]; omega)
  have e1 : ∀ p, (⟨(seqRow b n.val).val % 8192, p⟩ : Fin 8192) = n := fun _ => Fin.ext (by show (seqRow b n.val).val % 8192 = n.val; rw [seqRow_val b hn]; omega)
  have e2 : ∀ p, (⟨(vcol h e).val / 256, p⟩ : Fin 4) = h := fun _ => Fin.ext (by show (256 * h.val + e.val) / 256 = h.val; omega)
  have e3 : ∀ p, (⟨(vcol h e).val % 256, p⟩ : Fin 256) = e := fun _ => Fin.ext (by show (256 * h.val + e.val) % 256 = e.val; omega)
  pointwise [gatedT, normT, siluT]
  simp only [e0, e1, e2, e3]
  unfold finish
  rw [zero_sub]

end Cert.Proof.Gla.Ref

end
-- ==== Proof.Gla.Cum.lean ====
/- The reference's running sums, read at an index. -/
module

public import proofs.«01_k».proof.Proof.Gla.Named
public import proofs.«01_k».proof.Proof.Gla.Spec

@[expose] public section

noncomputable section

namespace Cert.Proof.Gla.Ref

open Cert.GlaReferenceIdeal Cert.GlaReferenceIdeal.Gen Idealize.ShloMosaic

/-- The window of the running sum. -/
abbrev Win : Shape := ⟨4, ![1, 1, 8192, 1]⟩

theorem fold_list {α : Type} (L : List α) (F : α → EReal) (v : EReal) : L.foldl (fun r n => r + F n) v = v + (L.map F).sum := by
  induction L generalizing v with
  | nil => simp
  | cons a t ih => simp only [List.foldl_cons, List.map_cons, List.sum_cons, ih, add_assoc]

theorem fold_fin {N : ℕ} (F : Fin N → EReal) (v : EReal) : (List.finRange N).foldl (fun r n => r + F n) v = v + ∑ n, F n := by
  rw [fold_list, Fin.sum_univ_def]

/-- A sum over windows, as a sum over the places of the window. -/
theorem window_sum {s t : Shape} (window strides lo hi : Fin s.rank → ℕ) (h : s.ReduceWindows window strides lo hi t) (x : s.Idx → EReal) (v : EReal) (j : t.Idx) :
    Ideal.hostReduceWindowAdd window strides lo hi h x v j = v + ∑ w : (⟨s.rank, window⟩ : Shape).Idx,
      if hin : ∀ a, lo a ≤ (j (a.cast h.1.symm)).val * strides a + (w a).val
          ∧ (j (a.cast h.1.symm)).val * strides a + (w a).val - lo a < s.size a
      then x (fun a => ⟨(j (a.cast h.1.symm)).val * strides a + (w a).val - lo a, (hin a).2⟩) else v := by
  unfold Ideal.hostReduceWindowAdd Host.reduceWindow
  refine (fold_fin _ _).trans (congrArg (v + ·) ?_)
  refine (Finset.sum_congr rfl fun n _ => ?_).trans (Equiv.sum_comp (⟨s.rank, window⟩ : Shape).rowMajor.symm (fun w : (⟨s.rank, window⟩ : Shape).Idx =>
      if hin : ∀ a, lo a ≤ (j (a.cast h.1.symm)).val * strides a + (w a).val
          ∧ (j (a.cast h.1.symm)).val * strides a + (w a).val - lo a < s.size a
      then x (fun a => ⟨(j (a.cast h.1.symm)).val * strides a + (w a).val - lo a, (hin a).2⟩) else v))
  dsimp only
  congr

/-- What one place of the window adds. -/
def term (l : FVec Ideal S8x4x8192x128 .f32) (v : EReal) (j : S8x4x8192x128.Idx) (w : Win.Idx) : EReal :=
  if hin : ∀ a : Fin 4, (![0, 0, 8191, 0] : Fin 4 → ℕ) a ≤ (j a).val * (![1, 1, 1, 1] : Fin 4 → ℕ) a + (w a).val
      ∧ (j a).val * (![1, 1, 1, 1] : Fin 4 → ℕ) a + (w a).val - (![0, 0, 8191, 0] : Fin 4 → ℕ) a < S8x4x8192x128.size a
  then l (fun a => ⟨(j a).val * (![1, 1, 1, 1] : Fin 4 → ℕ) a + (w a).val - (![0, 0, 8191, 0] : Fin 4 → ℕ) a, (hin a).2⟩) else v

set_option maxRecDepth 20000 in
theorem term_at (l : FVec Ideal S8x4x8192x128 .f32) (v : EReal) (b : Fin 8) (h : Fin 4) (n : Fin 8192) (d : Fin 128) (c : Fin 8192) :
    term l v (ix4 b h n d) (ix4 0 0 c 0) = if hc : 8191 ≤ n.val + c.val then l (ix4 b h ⟨n.val + c.val - 8191, by omega⟩ d) else v := by
  unfold term
  have hb := b.isLt; have hh := h.isLt; have hn := n.isLt; have hd := d.isLt; have hcc := c.isLt
  by_cases hc : 8191 ≤ n.val + c.val
  · rw [dif_pos hc, dif_pos]
    · refine congrArg l (funext fun a => Fin.ext ?_)
      match a with
      | 0 => show b.val * 1 + 0 - 0 = b.val; omega
      | 1 => show h.val * 1 + 0 - 0 = h.val; omega
      | 2 => show n.val * 1 + c.val - 8191 = n.val + c.val - 8191; omega
      | 3 => show d.val * 1 + 0 - 0 = d.val; omega
    · intro a
      match a with
      | 0 => show 0 ≤ b.val * 1 + 0 ∧ b.val * 1 + 0 - 0 < 8; omega
      | 1 => show 0 ≤ h.val * 1 + 0 ∧ h.val * 1 + 0 - 0 < 4; omega
      | 2 => show 8191 ≤ n.val * 1 + c.val ∧ n.val * 1 + c.val - 8191 < 8192; omega
      | 3 => show 0 ≤ d.val * 1 + 0 ∧ d.val * 1 + 0 - 0 < 128; omega
  · rw [dif_neg hc, dif_neg]
    intro hin
    have h2 : 8191 ≤ n.val * 1 + c.val := (hin 2).1
    omega

set_option maxRecDepth 20000 in
theorem cum_at (l : FVec Ideal S8x4x8192x128 .f32) (f : ℕ → EReal) (b : Fin 8) (h : Fin 4) (d : Fin 128)
    (hl : ∀ i : Fin 8192, l (ix4 b h i d) = f i.val) (n : Fin 8192) :
    cumT l (ix4 b h n d) = ∑ m ∈ Finset.range (n.val + 1), f m := by
  unfold cumT Host.reduceWindowAdd
  rw [Ideal.hostReduceWindowAdd_def]
  rw [window_sum]
  refine (show _ = Ideal.ofBits .f32 0x00000000#32 + ∑ w : Win.Idx, term l (Ideal.ofBits .f32 0x00000000#32) (ix4 b h n d) w from rfl).trans ?_
  rw [Ideal.ofBits_zero_f32, zero_add]
  refine (sum_idx4 (n0 := 1) (n1 := 1) (n2 := 8192) (n3 := 1) (term l 0 (ix4 b h n d))).trans ?_
  simp only [Fin.sum_univ_one]
  have e : ∀ c : Fin 8192, term l 0 (ix4 b h n d) (ix4 0 0 c 0) = (fun x : ℕ => if 8191 ≤ n.val + x then f (n.val + x - 8191) else 0) c.val := by
    intro c
    rw [term_at]
    show _ = if 8191 ≤ n.val + c.val then f (n.val + c.val - 8191) else 0
    split
    · exact hl _
    · rfl
  refine (Finset.sum_congr rfl fun c _ => e c).trans ?_
  rw [Fin.sum_univ_eq_sum_range (fun x : ℕ => if 8191 ≤ n.val + x then f (n.val + x - 8191) else 0) 8192]
  have key : ∀ k N : ℕ, k < N → (∑ x ∈ Finset.range N, if N - 1 ≤ k + x then f (k + x - (N - 1)) else 0) = ∑ m ∈ Finset.range (k + 1), f m := by
    intro k N hk
    obtain ⟨r, rfl⟩ : ∃ r, N = r + (k + 1) := ⟨N - (k + 1), by omega⟩
    rw [Finset.sum_range_add, Finset.sum_eq_zero, zero_add]
    · refine Finset.sum_congr rfl fun m _ => ?_
      rw [if_pos (by omega)]
      congr 1
      omega
    · intro x hx
      rw [Finset.mem_range] at hx
      rw [if_neg (by omega)]
  exact key n.val 8192 n.isLt

end Cert.Proof.Gla.Ref

end
-- ==== Proof.Gla.Reference.lean ====
/- The reference's result over finite inputs is the plain decayed mix, normed and gated. -/
module

public import proofs.«01_k».proof.Proof.Gla.Read
public import proofs.«01_k».proof.Proof.Gla.Cum

@[expose] public section

noncomputable section

namespace Cert.Proof.Gla.Ref

open Cert.GlaReferenceIdeal Cert.GlaReferenceIdeal.Gen Idealize.ShloMosaic

theorem coe_sum_range (N : ℕ) (f : ℕ → ℝ) : (∑ m ∈ Finset.range N, ((f m : ℝ) : EReal)) = ((∑ m ∈ Finset.range N, f m : ℝ) : EReal) := by
  rw [Finset.sum_range, coe_sum, Finset.sum_range]

/-- A sum over all rows that stops at a row is a sum over the rows up to it. -/
theorem sum_rows (f : ℕ → ℝ) (n : Fin 8192) : (∑ p : Fin 8192, if p.val ≤ n.val then f p.val else 0) = ∑ m ∈ Finset.range (n.val + 1), f m := by
  have key : ∀ k N : ℕ, k < N → (∑ x ∈ Finset.range N, if x ≤ k then f x else 0) = ∑ m ∈ Finset.range (k + 1), f m := by
    intro k N hk
    obtain ⟨r, rfl⟩ : ∃ r, N = (k + 1) + r := ⟨N - (k + 1), by omega⟩
    rw [Finset.sum_range_add, Finset.sum_eq_zero (s := Finset.range r) (fun x _ => if_neg (by omega)), add_zero]
    refine Finset.sum_congr rfl fun m hm => ?_
    rw [Finset.mem_range] at hm
    rw [if_pos (by omega)]
  rw [Fin.sum_univ_eq_sum_range (fun x : ℕ => if x ≤ n.val then f x else 0) 8192]
  exact key n.val 8192 n.isLt

theorem scaled_at (x0 : FVec Ideal S65536x512 .f32) (r : Fin 65536) (j : Fin 512) : scaledT x0 (ix2 r j) = x0 (ix2 r j) * Ideal.ofBits .f32 0x3DB504F3#32 := by
  pointwise [scaledT]

section
variable {x0 x1 : FVec Ideal S65536x512 .f32} {x2 : FVec Ideal S65536x1024 .bf16} {x4 : FVec Ideal S65536x128 .f32} {x5 : FVec Ideal S16x512 .f32}
  {x6 : FVec Ideal S512 .f32} (H : AllReal x0 x1 x2 x4 x5 x6)
include H

theorem gate_row (b : Fin 8) (h : Fin 4) (n : Fin 8192) (d : Fin 128) :
    gateT x4 x5 x6 (ix2 (seqRow b n.val) (kcol h d)) = ((gate x4 x5 x6 b h n.val d : ℝ) : EReal) := by
  rw [gate_at, H.b]
  have e : ∀ k : Fin 16, x4 (ix2 (seqRow b n.val) (low k)) * x5 (ix2 k (kcol h d))
      = (((x4 (ix2 (seqRow b n.val) (low k))).toReal * (x5 (ix2 k (kcol h d))).toReal : ℝ) : EReal) := by
    intro k
    rw [EReal.coe_mul, ← H.s, ← H.w]
  simp only [e]
  rw [coe_sum, ← EReal.coe_add]
  rfl

theorem log_row (b : Fin 8) (h : Fin 4) (n : Fin 8192) (d : Fin 128) :
    headsT (logT (gateT x4 x5 x6)) (ix4 b h n d) = ((decays x4 x5 x6 b h n.val d * Real.log 2 : ℝ) : EReal) := by
  rw [heads_at]
  exact log_at _ _ _ _ (gate_row H b h n d)

theorem cum_row (b : Fin 8) (h : Fin 4) (n : Fin 8192) (d : Fin 128) :
    cumT (headsT (logT (gateT x4 x5 x6))) (ix4 b h n d) = ((runSum (decays x4 x5 x6 b h) (n.val + 1) d * Real.log 2 : ℝ) : EReal) := by
  rw [cum_at _ (fun m => ((decays x4 x5 x6 b h m d * Real.log 2 : ℝ) : EReal)) b h d (fun i => log_row H b h i d), coe_sum_range, ← Finset.sum_mul]
  rfl

theorem decay_row (b : Fin 8) (h : Fin 4) (n p : Fin 8192) (d : Fin 128) :
    decayT (cumT (headsT (logT (gateT x4 x5 x6)))) (ix5 b h n p d)
      = ((if p.val ≤ n.val then (2 : ℝ) ^ (runSum (decays x4 x5 x6 b h) (n.val + 1) d - runSum (decays x4 x5 x6 b h) (p.val + 1) d) else 0 : ℝ) : EReal) :=
  decay_at _ (fun m => runSum (decays x4 x5 x6 b h) (m + 1) d) b h d (fun i => cum_row H b h i d) n p

theorem score_row (b : Fin 8) (h : Fin 4) (n p : Fin 8192) :
    scoreT (headsT (scaledT x0)) (headsT x1) (decayT (cumT (headsT (logT (gateT x4 x5 x6))))) (ix4 b h n p)
      = ((∑ d : Fin 128, keys x0 b h n.val d * scale * keys x1 b h p.val d
          * (if p.val ≤ n.val then (2 : ℝ) ^ (runSum (decays x4 x5 x6 b h) (n.val + 1) d - runSum (decays x4 x5 x6 b h) (p.val + 1) d) else 0) : ℝ) : EReal) := by
  rw [score_at, ← coe_sum]
  refine Finset.sum_congr rfl fun d _ => ?_
  rw [decay_row H, heads_at, heads_at, scaled_at, H.q, H.k, scale_coe, ← EReal.coe_mul, ← EReal.coe_mul, ← EReal.coe_mul]
  rfl

theorem mix_row (b : Fin 8) (h : Fin 4) (n : Fin 8192) (e : Fin 256) :
    mixT (scoreT (headsT (scaledT x0)) (headsT x1) (decayT (cumT (headsT (logT (gateT x4 x5 x6)))))) (valsT x2) (ix4 b n h e)
      = ((mixRow x0 x1 x2 x4 x5 x6 b h n.val e : ℝ) : EReal) := by
  rw [mix_at]
  obtain ⟨f, hf⟩ : ∃ f : ℕ → ℝ, f = fun m => (∑ d, keys x0 b h n.val d * scale * keys x1 b h m d
          * (2 : ℝ) ^ (runSum (decays x4 x5 x6 b h) (n.val + 1) d - runSum (decays x4 x5 x6 b h) (m + 1) d)) * vals x2 b h m e := ⟨_, rfl⟩
  have t : ∀ p : Fin 8192, scoreT (headsT (scaledT x0)) (headsT x1) (decayT (cumT (headsT (logT (gateT x4 x5 x6))))) (ix4 b h n p) * valsT x2 (ix4 b h p e)
      = ((if p.val ≤ n.val then f p.val else 0 : ℝ) : EReal) := by
    intro p
    rw [score_row H, vals_at, H.v, ← EReal.coe_mul, hf]
    congr 1
    split
    · rfl
    · simp
  refine (Finset.sum_congr rfl fun p _ => t p).trans ((coe_sum _).trans ?_)
  rw [sum_rows, hf]
  rfl

theorem out_eq (x3 : FVec Ideal S65536x1024 .f32) (x7 : FVec Ideal S256 .f32) : outT x0 x1 x2 x3 x4 x5 x6 x7 = result x0 x1 x2 x3 x4 x5 x6 x7 := by
  funext i
  obtain ⟨b, n, h, e, rfl⟩ := place i
  rw [result_at x0 x1 x2 x3 x4 x5 x6 x7 b h n.isLt e]
  unfold outT
  rw [gated_at]
  exact congrArg (fun o : Fin 256 → EReal => finish o (x7 (ix1 e)) (x3 (ix2 (seqRow b n.val) (vcol h e))) e) (funext fun e => mix_row H b h n e)

end

end Cert.Proof.Gla.Ref

end
-- ==== Proof.Gla.Claim.lean ====
/- The gated linear attention's value claim: from finite inputs the two programs end with one result array. -/
module

public import proofs.«01_k».proof.Defs
public import proofs.«01_k».proof.Proof.Gla.Value
public import proofs.«01_k».proof.Proof.Gla.Reference

@[expose] public section

noncomputable section

namespace Cert.Proof.Gla

open Idealize.ShloMosaic Idealize.ShloMosaic.TcCoe Idealize.SL.Sem

/-- A number whose absolute value is below infinity is real. -/
theorem real_of_abs {φ : FTy} (x : EReal) (h : FloatOps.cmpf (F := Ideal) (φ := φ) .olt (FloatOps.absf (F := Ideal) (φ := φ) x) (⊤ : EReal) = 1#1) :
    x = ((x.toReal : ℝ) : EReal) := by
  have hx : max x (-x) < ⊤ := by
    by_contra hn
    have h' : BitVec.ofBool (decide (max x (-x) < ⊤)) = 1#1 := h
    rw [decide_eq_false hn] at h'
    exact absurd h' (by decide)
  refine (EReal.coe_toReal ?_ ?_).symm
  · rintro rfl; simp at hx
  · rintro rfl; simp at hx

theorem inf32 : Ideal.ofBits .f32 0x7F800000#32 = ⊤ := by simp [Ideal.ofBits, Ideal.ieee]
theorem inf16 : Ideal.ofBits .bf16 0x7F80#16 = ⊤ := by simp [Ideal.ofBits, Ideal.ieee]

section
variable [Cert.Pre_finite.Facts]

theorem real_of_pre (x0 x1 : FVec Ideal Cert.GlaIdeal.S65536x512 .f32) (x2 : FVec Ideal Cert.GlaIdeal.S65536x1024 .bf16) (x3 : FVec Ideal Cert.GlaIdeal.S65536x1024 .f32)
    (x4 : FVec Ideal Cert.GlaIdeal.S65536x128 .f32) (x5 : FVec Ideal Cert.GlaIdeal.S16x512 .f32) (x6 : FVec Ideal Cert.GlaIdeal.S512 .f32) (x7 : FVec Ideal Cert.GlaIdeal.S256 .f32)
    (h : (Cert.Pre_finite.fn (F := Ideal) x0 x1 x2 x3 x4 x5 x6 x7).1 = (fun _ => 1#1) ∧ (Cert.Pre_finite.fn (F := Ideal) x0 x1 x2 x3 x4 x5 x6 x7).2.1 = (fun _ => 1#1)
      ∧ (Cert.Pre_finite.fn (F := Ideal) x0 x1 x2 x3 x4 x5 x6 x7).2.2.1 = (fun _ => 1#1) ∧ (Cert.Pre_finite.fn (F := Ideal) x0 x1 x2 x3 x4 x5 x6 x7).2.2.2.1 = (fun _ => 1#1)
      ∧ (Cert.Pre_finite.fn (F := Ideal) x0 x1 x2 x3 x4 x5 x6 x7).2.2.2.2.1 = (fun _ => 1#1) ∧ (Cert.Pre_finite.fn (F := Ideal) x0 x1 x2 x3 x4 x5 x6 x7).2.2.2.2.2 = (fun _ => 1#1)) :
    AllReal x0 x1 x2 x4 x5 x6 := by
  obtain ⟨h0, h1, h2, h4, h5, h6⟩ := h
  have e : ∀ {s : Shape} {φ : FTy} (x : FVec Ideal s φ) (v : Ideal φ) (i : s.Idx), v = (⊤ : EReal) →
      FloatOps.cmpf (F := Ideal) (φ := φ) .olt (FloatOps.absf (F := Ideal) (φ := φ) (x i)) v = 1#1 → (x i : EReal) = (((x i : EReal).toReal : ℝ) : EReal) := by
    intro s φ x v i hv h
    subst hv
    exact real_of_abs (φ := φ) (x i) h
  refine ⟨fun i => ?_, fun i => ?_, fun i => ?_, fun n k => ?_, fun i => ?_, fun i => ?_⟩
  · exact e x0 _ i inf32 (congrFun h0 i)
  · exact e x1 _ i inf32 (congrFun h1 i)
  · exact e x2 _ i inf16 (congrFun h2 i)
  · have h := congrFun h4 (ix2 n k)
    have hl : extractStridedSlice Cert.Pre_finite.S65536x16 ![0, 0] x4 Cert.Pre_finite.Facts.slices_S65536x128_S65536x16_0_0 (ix2 n k) = x4 (ix2 n (low k)) := by
      refine congrArg x4 ?_
      funext a; apply Fin.ext
      match a with
      | ⟨0, _⟩ => show 0 + n.val = n.val; omega
      | ⟨1, _⟩ => show 0 + k.val = k.val; omega
    rw [← hl]
    exact e _ _ _ inf32 h
  · exact e x5 _ i inf32 (congrFun h5 i)
  · exact e x6 _ i inf32 (congrFun h6 i)

end

/-- From equal, finite arguments both programs run, end with one result array and leave their arguments as they were. -/
theorem algebraic [Cert.Pre_finite.Facts] : Cert.algebraic_GlaIdeal_GlaReferenceIdeal_pre_finite := by
  intro m g m' g' hpre hag
  have H : ∀ c, Inputs m c := fun c => real_of_pre _ _ _ _ _ _ _ _ (hpre c)
  refine ⟨fun c => G m c, ?_, ?_⟩
  · exact (θ_run _ _ _).mono (fun r h c => ⟨(h c).1.trans (final m c (H c)), (h c).2⟩) (Cert.GlaIdeal.Value.run_blocks m g)
  · refine (θ_run _ _ _).mono (fun r h c => ⟨(h c).1.trans ?_, (h c).2⟩) (Cert.GlaReferenceIdeal.Value.run m' g')
    obtain ⟨h0, h1, h2, h3, h4, h5, h6, h7⟩ := hag c
    rw [Ref.res_eq, h0, h1, h2, h3, h4, h5, h6, h7]
    exact Ref.out_eq (H c) _ _

end Cert.Proof.Gla

end
-- ==== Proof.lean ====
module

public import proofs.«01_k».proof.Defs
public import proofs.«01_k».proof.Proof.Gen.Kernel
public import proofs.«01_k».proof.Proof.Dsa.Frame
public import proofs.«01_k».proof.Proof.Gen.InProj
public import proofs.«01_k».proof.Proof.Gen.InProjIdeal
public import proofs.«01_k».proof.Proof.Gen.InProjReferenceIdeal
public import proofs.«01_k».proof.Proof.Gen.InProjReferenceIdeal.Run
public import proofs.«01_k».proof.Proof.InProj.Bits
public import proofs.«01_k».proof.Proof.InProj.Claim
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeReferenceIdeal
public import proofs.«01_k».proof.Proof.Gen.MergeReferenceIdeal.Run
public import proofs.«01_k».proof.Proof.Merge.Claim
public import proofs.«01_k».proof.Proof.Gen.Gla
public import proofs.«01_k».proof.Proof.Gen.Gla.Frame
public import proofs.«01_k».proof.Proof.Gen.GlaIdeal
public import proofs.«01_k».proof.Proof.Gen.GlaIdeal.Frame
public import proofs.«01_k».proof.Proof.Gen.GlaReferenceIdeal
public import proofs.«01_k».proof.Proof.Gen.GlaReferenceIdeal.Run
public import proofs.«01_k».proof.Proof.Gen.Pre_finite
public import proofs.«01_k».proof.Proof.Gla.Claim

@[expose] public section

noncomputable section

namespace Cert.Proof

open Idealize.ShloMosaic Idealize.SL.Sem

theorem claim : Cert.Claim :=
  ⟨Cert.Kernel.Gen.facts,
    Cert.InProj.Gen.facts, Cert.InProjIdeal.Gen.facts, Cert.InProjReferenceIdeal.Gen.facts,
    Cert.Merge.Gen.facts, Cert.MergeIdeal.Gen.facts, Cert.MergeReferenceIdeal.Gen.facts,
    Cert.Gla.Gen.facts, Cert.GlaIdeal.Gen.facts, Cert.GlaReferenceIdeal.Gen.facts, Cert.Pre_finite.Gen.facts,
    fun m g _ => Cert.Proof.Dsa.frame m g,
    Cert.Proof.InProj.bits,
    fun m g _ => Cert.Proof.InProj.frame m g,
    fun m g _ => (θ_run Cert.InProjReferenceIdeal.defs _ _).mono (fun r h => ⟨fun c => (h c).2.2.2.2.2.2.2.2.2.2.2.2.2.2,
        Idealize.ShloMosaic.sem_eq_zero_of_no_sems (by decide) r.2⟩) (Cert.InProjReferenceIdeal.Value.run m g),
    fun m g _ => Cert.Merge.Gen.frame m g,
    fun m g _ => Cert.MergeIdeal.Gen.frame m g,
    fun m g _ => (θ_run Cert.MergeReferenceIdeal.defs _ _).mono (fun r h => ⟨fun c => (h c).2,
        Idealize.ShloMosaic.sem_eq_zero_of_no_sems (by decide) r.2⟩) (Cert.MergeReferenceIdeal.Value.run m g),
    fun m g _ => Cert.Gla.Gen.frame m g,
    fun m g _ => Cert.GlaIdeal.Gen.frame m g,
    fun m g _ => Cert.GlaIdeal.Gen.frame m g,
    fun m g _ => (θ_run Cert.GlaReferenceIdeal.defs _ _).mono (fun r h => ⟨fun c => (h c).2,
        Idealize.ShloMosaic.sem_eq_zero_of_no_sems (by decide) r.2⟩) (Cert.GlaReferenceIdeal.Value.run m g),
    fun m g _ => (θ_run Cert.GlaReferenceIdeal.defs _ _).mono (fun r h => ⟨fun c => (h c).2,
        Idealize.ShloMosaic.sem_eq_zero_of_no_sems (by decide) r.2⟩) (Cert.GlaReferenceIdeal.Value.run m g),
    trivial, Cert.Proof.InProj.algebraic,
    trivial, Cert.Proof.Merge.algebraic,
    IdealRules.named_const.statement Cert.GlaIdeal.κ "log2e_over_tau" .f32 0x3DB8AA3B#32 (((16 * (Real.log 2))⁻¹ : ℝ) : EReal) rfl,
    Cert.Proof.Gla.algebraic⟩

end Cert.Proof

end
